-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩
abbrev S2x128x4x64 : Shape := ⟨4, ![2, 128, 4, 64]⟩
abbrev S8x2x128x512 : Shape := ⟨4, ![8, 2, 128, 512]⟩
abbrev S4x2x128x512 : Shape := ⟨4, ![4, 2, 128, 512]⟩
abbrev S3x2x128x512 : Shape := ⟨4, ![3, 2, 128, 512]⟩
abbrev S8 : Shape := ⟨1, ![8]⟩
abbrev S7 : Shape := ⟨1, ![7]⟩
abbrev S6 : Shape := ⟨1, ![6]⟩
abbrev S1x2x128x512 : Shape := ⟨4, ![1, 2, 128, 512]⟩
abbrev S128x128 : Shape := ⟨2, ![128, 128]⟩
abbrev S256x128 : Shape := ⟨2, ![256, 128]⟩
abbrev S1 : Shape := ⟨1, ![1]⟩
abbrev S1x1x128x512 : Shape := ⟨4, ![1, 1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S64x128 : Shape := ⟨2, ![64, 128]⟩
abbrev S128 : Shape := ⟨1, ![128]⟩
abbrev S128x1 : Shape := ⟨2, ![128, 1]⟩
abbrev S256x256 : Shape := ⟨2, ![256, 256]⟩
abbrev S256x64 : Shape := ⟨2, ![256, 64]⟩
abbrev S256 : Shape := ⟨1, ![256]⟩
abbrev S256x1 : Shape := ⟨2, ![256, 1]⟩

abbrev nBuf : Space → Nat
  | .hbm => 34
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x64x64, .f32⟩
  | .hbm, ⟨3, _⟩ => ⟨S2x128x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S8x2x128x512, .bf16⟩
  | .local _ .vmem, ⟨7, _⟩ => ⟨S8x2x128x512, .f32⟩
  | .local _ .vmem, ⟨8, _⟩ => ⟨S4x2x128x512, .bf16⟩
  | .local _ .vmem, ⟨9, _⟩ => ⟨S3x2x128x512, .bf16⟩
  | .local _ .vmem, ⟨10, _⟩ => ⟨S2x128x512, .bf16⟩
  | .local _ .vmem, ⟨11, _⟩ => ⟨S2x128x512, .bf16⟩
  | .local _ .vmem, ⟨12, _⟩ => ⟨S2x128x512, .bf16⟩
  | .local _ .vmem, ⟨13, _⟩ => ⟨S2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi v2 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_19 : BitVec 32 := 0#32
  let v36 : BitVec 1 := Scalar.cmpi .eq v35 c0_i32_19
  let v42 : BitVec 32 := Scalar.extui v36
  let c0_i32_27 : BitVec 32 := 0#32
  let v43 : BitVec 1 := Scalar.cmpi .ne v42 c0_i32_27
  v43

def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1220 : BitVec 32 := 0#32
  let v1944 : BitVec 1 := Scalar.cmpi .sgt v2 c0_i32_1220
  let v1945 : BitVec 32 := Scalar.extui v1944
  let c0_i32_1221 : BitVec 32 := 0#32
  let v1946 : BitVec 1 := Scalar.cmpi .slt v2 c0_i32_1221
  let v1947 : BitVec 32 := Scalar.extui v1946
  let v1948 : BitVec 32 := Scalar.subi v1945 v1947
  let c2_i32_1219 : BitVec 32 := 2#32
  let c0_i32_1222 : BitVec 32 := 0#32
  let v1949 : BitVec 1 := Scalar.cmpi .sgt c2_i32_1219 c0_i32_1222
  let v1950 : BitVec 32 := Scalar.extui v1949
  let c0_i32_1223 : BitVec 32 := 0#32
  let v1951 : BitVec 1 := Scalar.cmpi .slt c2_i32_1219 c0_i32_1223
  let v1952 : BitVec 32 := Scalar.extui v1951
  let v1953 : BitVec 32 := Scalar.subi v1950 v1952
  let v1954 : BitVec 1 := Scalar.cmpi .ne v1948 v1953
  let v1955 : BitVec 32 := Scalar.remsi v2 c2_i32_1219
  let c0_i32_1224 : BitVec 32 := 0#32
  let v1956 : BitVec 1 := Scalar.cmpi .ne v1955 c0_i32_1224
  let v1957 : BitVec 1 := Scalar.andi v1954 v1956
  let v1943 : BitVec 32 := Scalar.divsi v2 c2_i32_1219
  let c1_i32_1225 : BitVec 32 := 1#32
  let v1958 : BitVec 32 := Scalar.subi v1943 c1_i32_1225
  let v1959 : BitVec 32 := Scalar.select v1957 v1958 v1943
  let v1960 : Index := Scalar.indexCast v1959
  let c0_1226 : Index := 0#32
  let c0_1227 : Index := 0#32
  let c0_1228 : Index := 0#32
  ![v1960.toNat, 0, 0, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c2_i32_95 : BitVec 32 := 2#32
  let c0_i32_96 : BitVec 32 := 0#32
  let v178 : BitVec 1 := Scalar.cmpi .eq c2_i32_95 c0_i32_96
  let c1_i32_97 : BitVec 32 := 1#32
  let v179 : BitVec 32 := Scalar.select v178 c1_i32_97 c2_i32_95
  let v180 : BitVec 32 := Scalar.remsi v141 v179
  let c0_i32_99 : BitVec 32 := 0#32
  let v182 : BitVec 1 := Scalar.cmpi .slt v180 c0_i32_99
  let c0_i32_100 : BitVec 32 := 0#32
  let v183 : BitVec 1 := Scalar.cmpi .slt v179 c0_i32_100
  let v184 : BitVec 1 := Scalar.xori v182 v183
  let c0_i32_98 : BitVec 32 := 0#32
  let v181 : BitVec 1 := Scalar.cmpi .ne v180 c0_i32_98
  let v185 : BitVec 1 := Scalar.andi v184 v181
  let v186 : BitVec 32 := Scalar.addi v180 v179
  let v187 : BitVec 32 := Scalar.select v185 v186 v180
  let c0_i32_101 : BitVec 32 := 0#32
  let v188 : BitVec 1 := Scalar.cmpi .eq v187 c0_i32_101
  let v325 : BitVec 32 := Scalar.extui v188
  let c0_i32_162 : BitVec 32 := 0#32
  let v326 : BitVec 1 := Scalar.cmpi .ne v325 c0_i32_162
  v326

def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c0_i32_110 : BitVec 32 := 0#32
  let v207 : BitVec 1 := Scalar.cmpi .sgt v141 c0_i32_110
  let v208 : BitVec 32 := Scalar.extui v207
  let c0_i32_111 : BitVec 32 := 0#32
  let v209 : BitVec 1 := Scalar.cmpi .slt v141 c0_i32_111
  let v210 : BitVec 32 := Scalar.extui v209
  let v211 : BitVec 32 := Scalar.subi v208 v210
  let c2_i32_109 : BitVec 32 := 2#32
  let c0_i32_112 : BitVec 32 := 0#32
  let v212 : BitVec 1 := Scalar.cmpi .sgt c2_i32_109 c0_i32_112
  let v213 : BitVec 32 := Scalar.extui v212
  let c0_i32_113 : BitVec 32 := 0#32
  let v214 : BitVec 1 := Scalar.cmpi .slt c2_i32_109 c0_i32_113
  let v215 : BitVec 32 := Scalar.extui v214
  let v216 : BitVec 32 := Scalar.subi v213 v215
  let v217 : BitVec 1 := Scalar.cmpi .ne v211 v216
  let v218 : BitVec 32 := Scalar.remsi v141 c2_i32_109
  let c0_i32_114 : BitVec 32 := 0#32
  let v219 : BitVec 1 := Scalar.cmpi .ne v218 c0_i32_114
  let v220 : BitVec 1 := Scalar.andi v217 v219
  let v206 : BitVec 32 := Scalar.divsi v141 c2_i32_109
  let c1_i32_115 : BitVec 32 := 1#32
  let v221 : BitVec 32 := Scalar.subi v206 c1_i32_115
  let v222 : BitVec 32 := Scalar.select v220 v221 v206
  let c0_i32_1218 : BitVec 32 := 0#32
  let c0_i32_1219 : BitVec 32 := 0#32
  let c0_i32_1220 : BitVec 32 := 0#32
  ![v222.toNat, 0, 0, 0]
def k0_dev3 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_80 : BitVec 32 := 0#32
  let v155 : BitVec 32 := Scalar.addi v2 c0_i32_80
  let c16_i32_81 : BitVec 32 := 16#32
  let c0_i32_82 : BitVec 32 := 0#32
  let v156 : BitVec 1 := Scalar.cmpi .eq c16_i32_81 c0_i32_82
  let c1_i32_83 : BitVec 32 := 1#32
  let v157 : BitVec 32 := Scalar.select v156 c1_i32_83 c16_i32_81
  let v158 : BitVec 32 := Scalar.remsi v155 v157
  let c0_i32_85 : BitVec 32 := 0#32
  let v160 : BitVec 1 := Scalar.cmpi .slt v158 c0_i32_85
  let c0_i32_86 : BitVec 32 := 0#32
  let v161 : BitVec 1 := Scalar.cmpi .slt v157 c0_i32_86
  let v162 : BitVec 1 := Scalar.xori v160 v161
  let c0_i32_84 : BitVec 32 := 0#32
  let v159 : BitVec 1 := Scalar.cmpi .ne v158 c0_i32_84
  let v163 : BitVec 1 := Scalar.andi v162 v159
  let v164 : BitVec 32 := Scalar.addi v158 v157
  let v165 : BitVec 32 := Scalar.select v163 v164 v158
  let c0_i32_138 : BitVec 32 := 0#32
  let v275 : BitVec 1 := Scalar.cmpi .sgt v165 c0_i32_138
  let v276 : BitVec 32 := Scalar.extui v275
  let c0_i32_139 : BitVec 32 := 0#32
  let v277 : BitVec 1 := Scalar.cmpi .slt v165 c0_i32_139
  let v278 : BitVec 32 := Scalar.extui v277
  let v279 : BitVec 32 := Scalar.subi v276 v278
  let c2_i32_137 : BitVec 32 := 2#32
  let c0_i32_140 : BitVec 32 := 0#32
  let v280 : BitVec 1 := Scalar.cmpi .sgt c2_i32_137 c0_i32_140
  let v281 : BitVec 32 := Scalar.extui v280
  let c0_i32_141 : BitVec 32 := 0#32
  let v282 : BitVec 1 := Scalar.cmpi .slt c2_i32_137 c0_i32_141
  let v283 : BitVec 32 := Scalar.extui v282
  let v284 : BitVec 32 := Scalar.subi v281 v283
  let v285 : BitVec 1 := Scalar.cmpi .ne v279 v284
  let v286 : BitVec 32 := Scalar.remsi v165 c2_i32_137
  let c0_i32_142 : BitVec 32 := 0#32
  let v287 : BitVec 1 := Scalar.cmpi .ne v286 c0_i32_142
  let v288 : BitVec 1 := Scalar.andi v285 v287
  let v274 : BitVec 32 := Scalar.divsi v165 c2_i32_137
  let c1_i32_143 : BitVec 32 := 1#32
  let v289 : BitVec 32 := Scalar.subi v274 c1_i32_143
  let v290 : BitVec 32 := Scalar.select v288 v289 v274
  let c0_i32_1226 : BitVec 32 := 0#32
  let c0_i32_1227 : BitVec 32 := 0#32
  let c0_i32_1228 : BitVec 32 := 0#32
  ![v290.toNat, 0, 0, 0]
def k0_dev4 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c2_i32_95 : BitVec 32 := 2#32
  let c0_i32_96 : BitVec 32 := 0#32
  let v178 : BitVec 1 := Scalar.cmpi .eq c2_i32_95 c0_i32_96
  let c1_i32_97 : BitVec 32 := 1#32
  let v179 : BitVec 32 := Scalar.select v178 c1_i32_97 c2_i32_95
  let v180 : BitVec 32 := Scalar.remsi v141 v179
  let c0_i32_99 : BitVec 32 := 0#32
  let v182 : BitVec 1 := Scalar.cmpi .slt v180 c0_i32_99
  let c0_i32_100 : BitVec 32 := 0#32
  let v183 : BitVec 1 := Scalar.cmpi .slt v179 c0_i32_100
  let v184 : BitVec 1 := Scalar.xori v182 v183
  let c0_i32_98 : BitVec 32 := 0#32
  let v181 : BitVec 1 := Scalar.cmpi .ne v180 c0_i32_98
  let v185 : BitVec 1 := Scalar.andi v184 v181
  let v186 : BitVec 32 := Scalar.addi v180 v179
  let v187 : BitVec 32 := Scalar.select v185 v186 v180
  let c0_i32_101 : BitVec 32 := 0#32
  let v188 : BitVec 1 := Scalar.cmpi .eq v187 c0_i32_101
  let v327 : BitVec 32 := Scalar.extui v188
  let c0_i32_163 : BitVec 32 := 0#32
  let v328 : BitVec 1 := Scalar.cmpi .ne v327 c0_i32_163
  v328

def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c0_i32_1217 : BitVec 32 := 0#32
  let v1941 : BitVec 1 := Scalar.cmpi .sgt v141 c0_i32_1217
  let v1942 : BitVec 32 := Scalar.extui v1941
  let c0_i32_1218 : BitVec 32 := 0#32
  let v1943 : BitVec 1 := Scalar.cmpi .slt v141 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v141 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v141 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c0_i32_1217 : BitVec 32 := 0#32
  let v1941 : BitVec 1 := Scalar.cmpi .sgt v141 c0_i32_1217
  let v1942 : BitVec 32 := Scalar.extui v1941
  let c0_i32_1218 : BitVec 32 := 0#32
  let v1943 : BitVec 1 := Scalar.cmpi .slt v141 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v141 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v141 c2_i32_1216
  let c1_i32_1222 : BitVec 32 := 1#32
  let v1955 : BitVec 32 := Scalar.subi v1940 c1_i32_1222
  let v1956 : BitVec 32 := Scalar.select v1954 v1955 v1940
  let v2057 : Index := Scalar.indexCast v1956
  let c1 : Index := 1#32
  let c0_1254 : Index := 0#32
  let c0_1255 : Index := 0#32
  ![v2057.toNat, 1, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c2_i32_95 : BitVec 32 := 2#32
  let c0_i32_96 : BitVec 32 := 0#32
  let v178 : BitVec 1 := Scalar.cmpi .eq c2_i32_95 c0_i32_96
  let c1_i32_97 : BitVec 32 := 1#32
  let v179 : BitVec 32 := Scalar.select v178 c1_i32_97 c2_i32_95
  let v180 : BitVec 32 := Scalar.remsi v141 v179
  let c0_i32_99 : BitVec 32 := 0#32
  let v182 : BitVec 1 := Scalar.cmpi .slt v180 c0_i32_99
  let c0_i32_100 : BitVec 32 := 0#32
  let v183 : BitVec 1 := Scalar.cmpi .slt v179 c0_i32_100
  let v184 : BitVec 1 := Scalar.xori v182 v183
  let c0_i32_98 : BitVec 32 := 0#32
  let v181 : BitVec 1 := Scalar.cmpi .ne v180 c0_i32_98
  let v185 : BitVec 1 := Scalar.andi v184 v181
  let v186 : BitVec 32 := Scalar.addi v180 v179
  let v187 : BitVec 32 := Scalar.select v185 v186 v180
  let c0_i32_101 : BitVec 32 := 0#32
  let v188 : BitVec 1 := Scalar.cmpi .eq v187 c0_i32_101
  let true_164 : BitVec 1 := 1#1
  let v329 : BitVec 1 := Scalar.xori v188 true_164
  let v330 : BitVec 32 := Scalar.extui v329
  let c0_i32_169 : BitVec 32 := 0#32
  let v331 : BitVec 1 := Scalar.cmpi .ne v330 c0_i32_169
  v331

def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v142 : BitVec 32 := Scalar.subi v2 c1_i32_71
  let c0_i32_72 : BitVec 32 := 0#32
  let v143 : BitVec 32 := Scalar.subi v142 c0_i32_72
  let c32_i32_73 : BitVec 32 := 32#32
  let v144 : BitVec 32 := Scalar.addi v143 c32_i32_73
  let c16_i32_74 : BitVec 32 := 16#32
  let c0_i32_75 : BitVec 32 := 0#32
  let v145 : BitVec 1 := Scalar.cmpi .eq c16_i32_74 c0_i32_75
  let c1_i32_76 : BitVec 32 := 1#32
  let v146 : BitVec 32 := Scalar.select v145 c1_i32_76 c16_i32_74
  let v147 : BitVec 32 := Scalar.remsi v144 v146
  let c0_i32_78 : BitVec 32 := 0#32
  let v149 : BitVec 1 := Scalar.cmpi .slt v147 c0_i32_78
  let c0_i32_79 : BitVec 32 := 0#32
  let v150 : BitVec 1 := Scalar.cmpi .slt v146 c0_i32_79
  let v151 : BitVec 1 := Scalar.xori v149 v150
  let c0_i32_77 : BitVec 32 := 0#32
  let v148 : BitVec 1 := Scalar.cmpi .ne v147 c0_i32_77
  let v152 : BitVec 1 := Scalar.andi v151 v148
  let v153 : BitVec 32 := Scalar.addi v147 v146
  let v154 : BitVec 32 := Scalar.select v152 v153 v147
  let c0_i32_124 : BitVec 32 := 0#32
  let v241 : BitVec 1 := Scalar.cmpi .sgt v154 c0_i32_124
  let v242 : BitVec 32 := Scalar.extui v241
  let c0_i32_125 : BitVec 32 := 0#32
  let v243 : BitVec 1 := Scalar.cmpi .slt v154 c0_i32_125
  let v244 : BitVec 32 := Scalar.extui v243
  let v245 : BitVec 32 := Scalar.subi v242 v244
  let c2_i32_123 : BitVec 32 := 2#32
  let c0_i32_126 : BitVec 32 := 0#32
  let v246 : BitVec 1 := Scalar.cmpi .sgt c2_i32_123 c0_i32_126
  let v247 : BitVec 32 := Scalar.extui v246
  let c0_i32_127 : BitVec 32 := 0#32
  let v248 : BitVec 1 := Scalar.cmpi .slt c2_i32_123 c0_i32_127
  let v249 : BitVec 32 := Scalar.extui v248
  let v250 : BitVec 32 := Scalar.subi v247 v249
  let v251 : BitVec 1 := Scalar.cmpi .ne v245 v250
  let v252 : BitVec 32 := Scalar.remsi v154 c2_i32_123
  let c0_i32_128 : BitVec 32 := 0#32
  let v253 : BitVec 1 := Scalar.cmpi .ne v252 c0_i32_128
  let v254 : BitVec 1 := Scalar.andi v251 v253
  let v240 : BitVec 32 := Scalar.divsi v154 c2_i32_123
  let c1_i32_129 : BitVec 32 := 1#32
  let v255 : BitVec 32 := Scalar.subi v240 c1_i32_129
  let v256 : BitVec 32 := Scalar.select v254 v255 v240
  let c0_i32_1218 : BitVec 32 := 0#32
  let c0_i32_1219 : BitVec 32 := 0#32
  let c0_i32_1220 : BitVec 32 := 0#32
  ![v256.toNat, 0, 0, 0]
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v166 : BitVec 32 := Scalar.addi v2 c1_i32_87
  let c0_i32_88 : BitVec 32 := 0#32
  let v167 : BitVec 32 := Scalar.addi v166 c0_i32_88
  let c16_i32_89 : BitVec 32 := 16#32
  let c0_i32_90 : BitVec 32 := 0#32
  let v168 : BitVec 1 := Scalar.cmpi .eq c16_i32_89 c0_i32_90
  let c1_i32_91 : BitVec 32 := 1#32
  let v169 : BitVec 32 := Scalar.select v168 c1_i32_91 c16_i32_89
  let v170 : BitVec 32 := Scalar.remsi v167 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_152 : BitVec 32 := 0#32
  let v309 : BitVec 1 := Scalar.cmpi .sgt v177 c0_i32_152
  let v310 : BitVec 32 := Scalar.extui v309
  let c0_i32_153 : BitVec 32 := 0#32
  let v311 : BitVec 1 := Scalar.cmpi .slt v177 c0_i32_153
  let v312 : BitVec 32 := Scalar.extui v311
  let v313 : BitVec 32 := Scalar.subi v310 v312
  let c2_i32_151 : BitVec 32 := 2#32
  let c0_i32_154 : BitVec 32 := 0#32
  let v314 : BitVec 1 := Scalar.cmpi .sgt c2_i32_151 c0_i32_154
  let v315 : BitVec 32 := Scalar.extui v314
  let c0_i32_155 : BitVec 32 := 0#32
  let v316 : BitVec 1 := Scalar.cmpi .slt c2_i32_151 c0_i32_155
  let v317 : BitVec 32 := Scalar.extui v316
  let v318 : BitVec 32 := Scalar.subi v315 v317
  let v319 : BitVec 1 := Scalar.cmpi .ne v313 v318
  let v320 : BitVec 32 := Scalar.remsi v177 c2_i32_151
  let c0_i32_156 : BitVec 32 := 0#32
  let v321 : BitVec 1 := Scalar.cmpi .ne v320 c0_i32_156
  let v322 : BitVec 1 := Scalar.andi v319 v321
  let v308 : BitVec 32 := Scalar.divsi v177 c2_i32_151
  let c1_i32_157 : BitVec 32 := 1#32
  let v323 : BitVec 32 := Scalar.subi v308 c1_i32_157
  let v324 : BitVec 32 := Scalar.select v322 v323 v308
  let c0_i32_1226 : BitVec 32 := 0#32
  let c0_i32_1227 : BitVec 32 := 0#32
  let c0_i32_1228 : BitVec 32 := 0#32
  ![v324.toNat, 0, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c2_i32_95 : BitVec 32 := 2#32
  let c0_i32_96 : BitVec 32 := 0#32
  let v178 : BitVec 1 := Scalar.cmpi .eq c2_i32_95 c0_i32_96
  let c1_i32_97 : BitVec 32 := 1#32
  let v179 : BitVec 32 := Scalar.select v178 c1_i32_97 c2_i32_95
  let v180 : BitVec 32 := Scalar.remsi v141 v179
  let c0_i32_99 : BitVec 32 := 0#32
  let v182 : BitVec 1 := Scalar.cmpi .slt v180 c0_i32_99
  let c0_i32_100 : BitVec 32 := 0#32
  let v183 : BitVec 1 := Scalar.cmpi .slt v179 c0_i32_100
  let v184 : BitVec 1 := Scalar.xori v182 v183
  let c0_i32_98 : BitVec 32 := 0#32
  let v181 : BitVec 1 := Scalar.cmpi .ne v180 c0_i32_98
  let v185 : BitVec 1 := Scalar.andi v184 v181
  let v186 : BitVec 32 := Scalar.addi v180 v179
  let v187 : BitVec 32 := Scalar.select v185 v186 v180
  let c0_i32_101 : BitVec 32 := 0#32
  let v188 : BitVec 1 := Scalar.cmpi .eq v187 c0_i32_101
  let v332 : BitVec 32 := Scalar.extui v188
  let c0_i32_174 : BitVec 32 := 0#32
  let v333 : BitVec 1 := Scalar.cmpi .ne v332 c0_i32_174
  v333

def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_64 : BitVec 32 := 0#32
  let v130 : BitVec 32 := Scalar.subi v2 c0_i32_64
  let c32_i32 : BitVec 32 := 32#32
  let v131 : BitVec 32 := Scalar.addi v130 c32_i32
  let c16_i32_65 : BitVec 32 := 16#32
  let c0_i32_66 : BitVec 32 := 0#32
  let v132 : BitVec 1 := Scalar.cmpi .eq c16_i32_65 c0_i32_66
  let c1_i32_67 : BitVec 32 := 1#32
  let v133 : BitVec 32 := Scalar.select v132 c1_i32_67 c16_i32_65
  let v134 : BitVec 32 := Scalar.remsi v131 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c0_i32_103 : BitVec 32 := 0#32
  let v190 : BitVec 1 := Scalar.cmpi .sgt v141 c0_i32_103
  let v191 : BitVec 32 := Scalar.extui v190
  let c0_i32_104 : BitVec 32 := 0#32
  let v192 : BitVec 1 := Scalar.cmpi .slt v141 c0_i32_104
  let v193 : BitVec 32 := Scalar.extui v192
  let v194 : BitVec 32 := Scalar.subi v191 v193
  let c2_i32_102 : BitVec 32 := 2#32
  let c0_i32_105 : BitVec 32 := 0#32
  let v195 : BitVec 1 := Scalar.cmpi .sgt c2_i32_102 c0_i32_105
  let v196 : BitVec 32 := Scalar.extui v195
  let c0_i32_106 : BitVec 32 := 0#32
  let v197 : BitVec 1 := Scalar.cmpi .slt c2_i32_102 c0_i32_106
  let v198 : BitVec 32 := Scalar.extui v197
  let v199 : BitVec 32 := Scalar.subi v196 v198
  let v200 : BitVec 1 := Scalar.cmpi .ne v194 v199
  let v201 : BitVec 32 := Scalar.remsi v141 c2_i32_102
  let c0_i32_107 : BitVec 32 := 0#32
  let v202 : BitVec 1 := Scalar.cmpi .ne v201 c0_i32_107
  let v203 : BitVec 1 := Scalar.andi v200 v202
  let v189 : BitVec 32 := Scalar.divsi v141 c2_i32_102
  let c1_i32_108 : BitVec 32 := 1#32
  let v204 : BitVec 32 := Scalar.subi v189 c1_i32_108
  let v205 : BitVec 32 := Scalar.select v203 v204 v189
  let c0_i32_1217 : BitVec 32 := 0#32
  let c0_i32_1218 : BitVec 32 := 0#32
  let c0_i32_1219 : BitVec 32 := 0#32
  ![v205.toNat, 0, 0, 0]
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_80 : BitVec 32 := 0#32
  let v155 : BitVec 32 := Scalar.addi v2 c0_i32_80
  let c16_i32_81 : BitVec 32 := 16#32
  let c0_i32_82 : BitVec 32 := 0#32
  let v156 : BitVec 1 := Scalar.cmpi .eq c16_i32_81 c0_i32_82
  let c1_i32_83 : BitVec 32 := 1#32
  let v157 : BitVec 32 := Scalar.select v156 c1_i32_83 c16_i32_81
  let v158 : BitVec 32 := Scalar.remsi v155 v157
  let c0_i32_85 : BitVec 32 := 0#32
  let v160 : BitVec 1 := Scalar.cmpi .slt v158 c0_i32_85
  let c0_i32_86 : BitVec 32 := 0#32
  let v161 : BitVec 1 := Scalar.cmpi .slt v157 c0_i32_86
  let v162 : BitVec 1 := Scalar.xori v160 v161
  let c0_i32_84 : BitVec 32 := 0#32
  let v159 : BitVec 1 := Scalar.cmpi .ne v158 c0_i32_84
  let v163 : BitVec 1 := Scalar.andi v162 v159
  let v164 : BitVec 32 := Scalar.addi v158 v157
  let v165 : BitVec 32 := Scalar.select v163 v164 v158
  let c0_i32_131 : BitVec 32 := 0#32
  let v258 : BitVec 1 := Scalar.cmpi .sgt v165 c0_i32_131
  let v259 : BitVec 32 := Scalar.extui v258
  let c0_i32_132 : BitVec 32 := 0#32
  let v260 : BitVec 1 := Scalar.cmpi .slt v165 c0_i32_132
  let v261 : BitVec 32 := Scalar.extui v260
  let v262 : BitVec 32 := Scalar.subi v259 v261
  let c2_i32_130 : BitVec 32 := 2#32
  let c0_i32_133 : BitVec 32 := 0#32
  let v263 : BitVec 1 := Scalar.cmpi .sgt c2_i32_130 c0_i32_133
  let v264 : BitVec 32 := Scalar.extui v263
  let c0_i32_134 : BitVec 32 := 0#32
  let v265 : BitVec 1 := Scalar.cmpi .slt c2_i32_130 c0_i32_134
  let v266 : BitVec 32 := Scalar.extui v265
  let v267 : BitVec 32 := Scalar.subi v264 v266
  let v268 : BitVec 1 := Scalar.cmpi .ne v262 v267
  let v269 : BitVec 32 := Scalar.remsi v165 c2_i32_130
  let c0_i32_135 : BitVec 32 := 0#32
  let v270 : BitVec 1 := Scalar.cmpi .ne v269 c0_i32_135
  let v271 : BitVec 1 := Scalar.andi v268 v270
  let v257 : BitVec 32 := Scalar.divsi v165 c2_i32_130
  let c1_i32_136 : BitVec 32 := 1#32
  let v272 : BitVec 32 := Scalar.subi v257 c1_i32_136
  let v273 : BitVec 32 := Scalar.select v271 v272 v257
  let c0_i32_1224 : BitVec 32 := 0#32
  let c0_i32_1225 : BitVec 32 := 0#32
  let c0_i32_1226 : BitVec 32 := 0#32
  ![v273.toNat, 0, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c2_i32_207 : BitVec 32 := 2#32
  let c0_i32_208 : BitVec 32 := 0#32
  let v382 : BitVec 1 := Scalar.cmpi .eq c2_i32_207 c0_i32_208
  let c1_i32_209 : BitVec 32 := 1#32
  let v383 : BitVec 32 := Scalar.select v382 c1_i32_209 c2_i32_207
  let v384 : BitVec 32 := Scalar.remsi v345 v383
  let c0_i32_211 : BitVec 32 := 0#32
  let v386 : BitVec 1 := Scalar.cmpi .slt v384 c0_i32_211
  let c0_i32_212 : BitVec 32 := 0#32
  let v387 : BitVec 1 := Scalar.cmpi .slt v383 c0_i32_212
  let v388 : BitVec 1 := Scalar.xori v386 v387
  let c0_i32_210 : BitVec 32 := 0#32
  let v385 : BitVec 1 := Scalar.cmpi .ne v384 c0_i32_210
  let v389 : BitVec 1 := Scalar.andi v388 v385
  let v390 : BitVec 32 := Scalar.addi v384 v383
  let v391 : BitVec 32 := Scalar.select v389 v390 v384
  let c0_i32_213 : BitVec 32 := 0#32
  let v392 : BitVec 1 := Scalar.cmpi .eq v391 c0_i32_213
  let v529 : BitVec 32 := Scalar.extui v392
  let c0_i32_274 : BitVec 32 := 0#32
  let v530 : BitVec 1 := Scalar.cmpi .ne v529 c0_i32_274
  v530

def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c0_i32_222 : BitVec 32 := 0#32
  let v411 : BitVec 1 := Scalar.cmpi .sgt v345 c0_i32_222
  let v412 : BitVec 32 := Scalar.extui v411
  let c0_i32_223 : BitVec 32 := 0#32
  let v413 : BitVec 1 := Scalar.cmpi .slt v345 c0_i32_223
  let v414 : BitVec 32 := Scalar.extui v413
  let v415 : BitVec 32 := Scalar.subi v412 v414
  let c2_i32_221 : BitVec 32 := 2#32
  let c0_i32_224 : BitVec 32 := 0#32
  let v416 : BitVec 1 := Scalar.cmpi .sgt c2_i32_221 c0_i32_224
  let v417 : BitVec 32 := Scalar.extui v416
  let c0_i32_225 : BitVec 32 := 0#32
  let v418 : BitVec 1 := Scalar.cmpi .slt c2_i32_221 c0_i32_225
  let v419 : BitVec 32 := Scalar.extui v418
  let v420 : BitVec 32 := Scalar.subi v417 v419
  let v421 : BitVec 1 := Scalar.cmpi .ne v415 v420
  let v422 : BitVec 32 := Scalar.remsi v345 c2_i32_221
  let c0_i32_226 : BitVec 32 := 0#32
  let v423 : BitVec 1 := Scalar.cmpi .ne v422 c0_i32_226
  let v424 : BitVec 1 := Scalar.andi v421 v423
  let v410 : BitVec 32 := Scalar.divsi v345 c2_i32_221
  let c1_i32_227 : BitVec 32 := 1#32
  let v425 : BitVec 32 := Scalar.subi v410 c1_i32_227
  let v426 : BitVec 32 := Scalar.select v424 v425 v410
  let c0_i32_1218 : BitVec 32 := 0#32
  let c0_i32_1219 : BitVec 32 := 0#32
  let c0_i32_1220 : BitVec 32 := 0#32
  ![v426.toNat, 0, 0, 0]
def k0_dev5 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off11 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_192 : BitVec 32 := 1#32
  let v359 : BitVec 32 := Scalar.addi v2 c1_i32_192
  let c16_i32_193 : BitVec 32 := 16#32
  let c0_i32_194 : BitVec 32 := 0#32
  let v360 : BitVec 1 := Scalar.cmpi .eq c16_i32_193 c0_i32_194
  let c1_i32_195 : BitVec 32 := 1#32
  let v361 : BitVec 32 := Scalar.select v360 c1_i32_195 c16_i32_193
  let v362 : BitVec 32 := Scalar.remsi v359 v361
  let c0_i32_197 : BitVec 32 := 0#32
  let v364 : BitVec 1 := Scalar.cmpi .slt v362 c0_i32_197
  let c0_i32_198 : BitVec 32 := 0#32
  let v365 : BitVec 1 := Scalar.cmpi .slt v361 c0_i32_198
  let v366 : BitVec 1 := Scalar.xori v364 v365
  let c0_i32_196 : BitVec 32 := 0#32
  let v363 : BitVec 1 := Scalar.cmpi .ne v362 c0_i32_196
  let v367 : BitVec 1 := Scalar.andi v366 v363
  let v368 : BitVec 32 := Scalar.addi v362 v361
  let v369 : BitVec 32 := Scalar.select v367 v368 v362
  let c0_i32_250 : BitVec 32 := 0#32
  let v479 : BitVec 1 := Scalar.cmpi .sgt v369 c0_i32_250
  let v480 : BitVec 32 := Scalar.extui v479
  let c0_i32_251 : BitVec 32 := 0#32
  let v481 : BitVec 1 := Scalar.cmpi .slt v369 c0_i32_251
  let v482 : BitVec 32 := Scalar.extui v481
  let v483 : BitVec 32 := Scalar.subi v480 v482
  let c2_i32_249 : BitVec 32 := 2#32
  let c0_i32_252 : BitVec 32 := 0#32
  let v484 : BitVec 1 := Scalar.cmpi .sgt c2_i32_249 c0_i32_252
  let v485 : BitVec 32 := Scalar.extui v484
  let c0_i32_253 : BitVec 32 := 0#32
  let v486 : BitVec 1 := Scalar.cmpi .slt c2_i32_249 c0_i32_253
  let v487 : BitVec 32 := Scalar.extui v486
  let v488 : BitVec 32 := Scalar.subi v485 v487
  let v489 : BitVec 1 := Scalar.cmpi .ne v483 v488
  let v490 : BitVec 32 := Scalar.remsi v369 c2_i32_249
  let c0_i32_254 : BitVec 32 := 0#32
  let v491 : BitVec 1 := Scalar.cmpi .ne v490 c0_i32_254
  let v492 : BitVec 1 := Scalar.andi v489 v491
  let v478 : BitVec 32 := Scalar.divsi v369 c2_i32_249
  let c1_i32_255 : BitVec 32 := 1#32
  let v493 : BitVec 32 := Scalar.subi v478 c1_i32_255
  let v494 : BitVec 32 := Scalar.select v492 v493 v478
  let c0_i32_1226 : BitVec 32 := 0#32
  let c0_i32_1227 : BitVec 32 := 0#32
  let c0_i32_1228 : BitVec 32 := 0#32
  ![v494.toNat, 0, 0, 0]
def k0_dev6 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c2_i32_207 : BitVec 32 := 2#32
  let c0_i32_208 : BitVec 32 := 0#32
  let v382 : BitVec 1 := Scalar.cmpi .eq c2_i32_207 c0_i32_208
  let c1_i32_209 : BitVec 32 := 1#32
  let v383 : BitVec 32 := Scalar.select v382 c1_i32_209 c2_i32_207
  let v384 : BitVec 32 := Scalar.remsi v345 v383
  let c0_i32_211 : BitVec 32 := 0#32
  let v386 : BitVec 1 := Scalar.cmpi .slt v384 c0_i32_211
  let c0_i32_212 : BitVec 32 := 0#32
  let v387 : BitVec 1 := Scalar.cmpi .slt v383 c0_i32_212
  let v388 : BitVec 1 := Scalar.xori v386 v387
  let c0_i32_210 : BitVec 32 := 0#32
  let v385 : BitVec 1 := Scalar.cmpi .ne v384 c0_i32_210
  let v389 : BitVec 1 := Scalar.andi v388 v385
  let v390 : BitVec 32 := Scalar.addi v384 v383
  let v391 : BitVec 32 := Scalar.select v389 v390 v384
  let c0_i32_213 : BitVec 32 := 0#32
  let v392 : BitVec 1 := Scalar.cmpi .eq v391 c0_i32_213
  let v531 : BitVec 32 := Scalar.extui v392
  let c0_i32_275 : BitVec 32 := 0#32
  let v532 : BitVec 1 := Scalar.cmpi .ne v531 c0_i32_275
  v532

def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c0_i32_1217 : BitVec 32 := 0#32
  let v1941 : BitVec 1 := Scalar.cmpi .sgt v345 c0_i32_1217
  let v1942 : BitVec 32 := Scalar.extui v1941
  let c0_i32_1218 : BitVec 32 := 0#32
  let v1943 : BitVec 1 := Scalar.cmpi .slt v345 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v345 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v345 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off13 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_192 : BitVec 32 := 1#32
  let v359 : BitVec 32 := Scalar.addi v2 c1_i32_192
  let c16_i32_193 : BitVec 32 := 16#32
  let c0_i32_194 : BitVec 32 := 0#32
  let v360 : BitVec 1 := Scalar.cmpi .eq c16_i32_193 c0_i32_194
  let c1_i32_195 : BitVec 32 := 1#32
  let v361 : BitVec 32 := Scalar.select v360 c1_i32_195 c16_i32_193
  let v362 : BitVec 32 := Scalar.remsi v359 v361
  let c0_i32_197 : BitVec 32 := 0#32
  let v364 : BitVec 1 := Scalar.cmpi .slt v362 c0_i32_197
  let c0_i32_198 : BitVec 32 := 0#32
  let v365 : BitVec 1 := Scalar.cmpi .slt v361 c0_i32_198
  let v366 : BitVec 1 := Scalar.xori v364 v365
  let c0_i32_196 : BitVec 32 := 0#32
  let v363 : BitVec 1 := Scalar.cmpi .ne v362 c0_i32_196
  let v367 : BitVec 1 := Scalar.andi v366 v363
  let v368 : BitVec 32 := Scalar.addi v362 v361
  let v369 : BitVec 32 := Scalar.select v367 v368 v362
  let c0_i32_1224 : BitVec 32 := 0#32
  let v1958 : BitVec 1 := Scalar.cmpi .sgt v369 c0_i32_1224
  let v1959 : BitVec 32 := Scalar.extui v1958
  let c0_i32_1225 : BitVec 32 := 0#32
  let v1960 : BitVec 1 := Scalar.cmpi .slt v369 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v369 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v369 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c0_i32_1217 : BitVec 32 := 0#32
  let v1941 : BitVec 1 := Scalar.cmpi .sgt v345 c0_i32_1217
  let v1942 : BitVec 32 := Scalar.extui v1941
  let c0_i32_1218 : BitVec 32 := 0#32
  let v1943 : BitVec 1 := Scalar.cmpi .slt v345 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v345 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v345 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off15 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_192 : BitVec 32 := 1#32
  let v359 : BitVec 32 := Scalar.addi v2 c1_i32_192
  let c16_i32_193 : BitVec 32 := 16#32
  let c0_i32_194 : BitVec 32 := 0#32
  let v360 : BitVec 1 := Scalar.cmpi .eq c16_i32_193 c0_i32_194
  let c1_i32_195 : BitVec 32 := 1#32
  let v361 : BitVec 32 := Scalar.select v360 c1_i32_195 c16_i32_193
  let v362 : BitVec 32 := Scalar.remsi v359 v361
  let c0_i32_197 : BitVec 32 := 0#32
  let v364 : BitVec 1 := Scalar.cmpi .slt v362 c0_i32_197
  let c0_i32_198 : BitVec 32 := 0#32
  let v365 : BitVec 1 := Scalar.cmpi .slt v361 c0_i32_198
  let v366 : BitVec 1 := Scalar.xori v364 v365
  let c0_i32_196 : BitVec 32 := 0#32
  let v363 : BitVec 1 := Scalar.cmpi .ne v362 c0_i32_196
  let v367 : BitVec 1 := Scalar.andi v366 v363
  let v368 : BitVec 32 := Scalar.addi v362 v361
  let v369 : BitVec 32 := Scalar.select v367 v368 v362
  let c0_i32_1224 : BitVec 32 := 0#32
  let v1958 : BitVec 1 := Scalar.cmpi .sgt v369 c0_i32_1224
  let v1959 : BitVec 32 := Scalar.extui v1958
  let c0_i32_1225 : BitVec 32 := 0#32
  let v1960 : BitVec 1 := Scalar.cmpi .slt v369 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v369 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v369 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c2_i32_207 : BitVec 32 := 2#32
  let c0_i32_208 : BitVec 32 := 0#32
  let v382 : BitVec 1 := Scalar.cmpi .eq c2_i32_207 c0_i32_208
  let c1_i32_209 : BitVec 32 := 1#32
  let v383 : BitVec 32 := Scalar.select v382 c1_i32_209 c2_i32_207
  let v384 : BitVec 32 := Scalar.remsi v345 v383
  let c0_i32_211 : BitVec 32 := 0#32
  let v386 : BitVec 1 := Scalar.cmpi .slt v384 c0_i32_211
  let c0_i32_212 : BitVec 32 := 0#32
  let v387 : BitVec 1 := Scalar.cmpi .slt v383 c0_i32_212
  let v388 : BitVec 1 := Scalar.xori v386 v387
  let c0_i32_210 : BitVec 32 := 0#32
  let v385 : BitVec 1 := Scalar.cmpi .ne v384 c0_i32_210
  let v389 : BitVec 1 := Scalar.andi v388 v385
  let v390 : BitVec 32 := Scalar.addi v384 v383
  let v391 : BitVec 32 := Scalar.select v389 v390 v384
  let c0_i32_213 : BitVec 32 := 0#32
  let v392 : BitVec 1 := Scalar.cmpi .eq v391 c0_i32_213
  let true_276 : BitVec 1 := 1#1
  let v533 : BitVec 1 := Scalar.xori v392 true_276
  let v534 : BitVec 32 := Scalar.extui v533
  let c0_i32_281 : BitVec 32 := 0#32
  let v535 : BitVec 1 := Scalar.cmpi .ne v534 c0_i32_281
  v535

def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_183 : BitVec 32 := 1#32
  let v346 : BitVec 32 := Scalar.subi v2 c1_i32_183
  let c1_i32_184 : BitVec 32 := 1#32
  let v347 : BitVec 32 := Scalar.subi v346 c1_i32_184
  let c32_i32_185 : BitVec 32 := 32#32
  let v348 : BitVec 32 := Scalar.addi v347 c32_i32_185
  let c16_i32_186 : BitVec 32 := 16#32
  let c0_i32_187 : BitVec 32 := 0#32
  let v349 : BitVec 1 := Scalar.cmpi .eq c16_i32_186 c0_i32_187
  let c1_i32_188 : BitVec 32 := 1#32
  let v350 : BitVec 32 := Scalar.select v349 c1_i32_188 c16_i32_186
  let v351 : BitVec 32 := Scalar.remsi v348 v350
  let c0_i32_190 : BitVec 32 := 0#32
  let v353 : BitVec 1 := Scalar.cmpi .slt v351 c0_i32_190
  let c0_i32_191 : BitVec 32 := 0#32
  let v354 : BitVec 1 := Scalar.cmpi .slt v350 c0_i32_191
  let v355 : BitVec 1 := Scalar.xori v353 v354
  let c0_i32_189 : BitVec 32 := 0#32
  let v352 : BitVec 1 := Scalar.cmpi .ne v351 c0_i32_189
  let v356 : BitVec 1 := Scalar.andi v355 v352
  let v357 : BitVec 32 := Scalar.addi v351 v350
  let v358 : BitVec 32 := Scalar.select v356 v357 v351
  let c0_i32_236 : BitVec 32 := 0#32
  let v445 : BitVec 1 := Scalar.cmpi .sgt v358 c0_i32_236
  let v446 : BitVec 32 := Scalar.extui v445
  let c0_i32_237 : BitVec 32 := 0#32
  let v447 : BitVec 1 := Scalar.cmpi .slt v358 c0_i32_237
  let v448 : BitVec 32 := Scalar.extui v447
  let v449 : BitVec 32 := Scalar.subi v446 v448
  let c2_i32_235 : BitVec 32 := 2#32
  let c0_i32_238 : BitVec 32 := 0#32
  let v450 : BitVec 1 := Scalar.cmpi .sgt c2_i32_235 c0_i32_238
  let v451 : BitVec 32 := Scalar.extui v450
  let c0_i32_239 : BitVec 32 := 0#32
  let v452 : BitVec 1 := Scalar.cmpi .slt c2_i32_235 c0_i32_239
  let v453 : BitVec 32 := Scalar.extui v452
  let v454 : BitVec 32 := Scalar.subi v451 v453
  let v455 : BitVec 1 := Scalar.cmpi .ne v449 v454
  let v456 : BitVec 32 := Scalar.remsi v358 c2_i32_235
  let c0_i32_240 : BitVec 32 := 0#32
  let v457 : BitVec 1 := Scalar.cmpi .ne v456 c0_i32_240
  let v458 : BitVec 1 := Scalar.andi v455 v457
  let v444 : BitVec 32 := Scalar.divsi v358 c2_i32_235
  let c1_i32_241 : BitVec 32 := 1#32
  let v459 : BitVec 32 := Scalar.subi v444 c1_i32_241
  let v460 : BitVec 32 := Scalar.select v458 v459 v444
  let c0_i32_1218 : BitVec 32 := 0#32
  let c0_i32_1219 : BitVec 32 := 0#32
  let c0_i32_1220 : BitVec 32 := 0#32
  ![v460.toNat, 0, 0, 0]
def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_199 : BitVec 32 := 1#32
  let v370 : BitVec 32 := Scalar.addi v2 c1_i32_199
  let c1_i32_200 : BitVec 32 := 1#32
  let v371 : BitVec 32 := Scalar.addi v370 c1_i32_200
  let c16_i32_201 : BitVec 32 := 16#32
  let c0_i32_202 : BitVec 32 := 0#32
  let v372 : BitVec 1 := Scalar.cmpi .eq c16_i32_201 c0_i32_202
  let c1_i32_203 : BitVec 32 := 1#32
  let v373 : BitVec 32 := Scalar.select v372 c1_i32_203 c16_i32_201
  let v374 : BitVec 32 := Scalar.remsi v371 v373
  let c0_i32_205 : BitVec 32 := 0#32
  let v376 : BitVec 1 := Scalar.cmpi .slt v374 c0_i32_205
  let c0_i32_206 : BitVec 32 := 0#32
  let v377 : BitVec 1 := Scalar.cmpi .slt v373 c0_i32_206
  let v378 : BitVec 1 := Scalar.xori v376 v377
  let c0_i32_204 : BitVec 32 := 0#32
  let v375 : BitVec 1 := Scalar.cmpi .ne v374 c0_i32_204
  let v379 : BitVec 1 := Scalar.andi v378 v375
  let v380 : BitVec 32 := Scalar.addi v374 v373
  let v381 : BitVec 32 := Scalar.select v379 v380 v374
  let c0_i32_264 : BitVec 32 := 0#32
  let v513 : BitVec 1 := Scalar.cmpi .sgt v381 c0_i32_264
  let v514 : BitVec 32 := Scalar.extui v513
  let c0_i32_265 : BitVec 32 := 0#32
  let v515 : BitVec 1 := Scalar.cmpi .slt v381 c0_i32_265
  let v516 : BitVec 32 := Scalar.extui v515
  let v517 : BitVec 32 := Scalar.subi v514 v516
  let c2_i32_263 : BitVec 32 := 2#32
  let c0_i32_266 : BitVec 32 := 0#32
  let v518 : BitVec 1 := Scalar.cmpi .sgt c2_i32_263 c0_i32_266
  let v519 : BitVec 32 := Scalar.extui v518
  let c0_i32_267 : BitVec 32 := 0#32
  let v520 : BitVec 1 := Scalar.cmpi .slt c2_i32_263 c0_i32_267
  let v521 : BitVec 32 := Scalar.extui v520
  let v522 : BitVec 32 := Scalar.subi v519 v521
  let v523 : BitVec 1 := Scalar.cmpi .ne v517 v522
  let v524 : BitVec 32 := Scalar.remsi v381 c2_i32_263
  let c0_i32_268 : BitVec 32 := 0#32
  let v525 : BitVec 1 := Scalar.cmpi .ne v524 c0_i32_268
  let v526 : BitVec 1 := Scalar.andi v523 v525
  let v512 : BitVec 32 := Scalar.divsi v381 c2_i32_263
  let c1_i32_269 : BitVec 32 := 1#32
  let v527 : BitVec 32 := Scalar.subi v512 c1_i32_269
  let v528 : BitVec 32 := Scalar.select v526 v527 v512
  let c0_i32_1226 : BitVec 32 := 0#32
  let c0_i32_1227 : BitVec 32 := 0#32
  let c0_i32_1228 : BitVec 32 := 0#32
  ![v528.toNat, 0, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c2_i32_207 : BitVec 32 := 2#32
  let c0_i32_208 : BitVec 32 := 0#32
  let v382 : BitVec 1 := Scalar.cmpi .eq c2_i32_207 c0_i32_208
  let c1_i32_209 : BitVec 32 := 1#32
  let v383 : BitVec 32 := Scalar.select v382 c1_i32_209 c2_i32_207
  let v384 : BitVec 32 := Scalar.remsi v345 v383
  let c0_i32_211 : BitVec 32 := 0#32
  let v386 : BitVec 1 := Scalar.cmpi .slt v384 c0_i32_211
  let c0_i32_212 : BitVec 32 := 0#32
  let v387 : BitVec 1 := Scalar.cmpi .slt v383 c0_i32_212
  let v388 : BitVec 1 := Scalar.xori v386 v387
  let c0_i32_210 : BitVec 32 := 0#32
  let v385 : BitVec 1 := Scalar.cmpi .ne v384 c0_i32_210
  let v389 : BitVec 1 := Scalar.andi v388 v385
  let v390 : BitVec 32 := Scalar.addi v384 v383
  let v391 : BitVec 32 := Scalar.select v389 v390 v384
  let c0_i32_213 : BitVec 32 := 0#32
  let v392 : BitVec 1 := Scalar.cmpi .eq v391 c0_i32_213
  let v536 : BitVec 32 := Scalar.extui v392
  let c0_i32_286 : BitVec 32 := 0#32
  let v537 : BitVec 1 := Scalar.cmpi .ne v536 c0_i32_286
  v537

def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_175 : BitVec 32 := 1#32
  let v334 : BitVec 32 := Scalar.subi v2 c1_i32_175
  let c32_i32_176 : BitVec 32 := 32#32
  let v335 : BitVec 32 := Scalar.addi v334 c32_i32_176
  let c16_i32_177 : BitVec 32 := 16#32
  let c0_i32_178 : BitVec 32 := 0#32
  let v336 : BitVec 1 := Scalar.cmpi .eq c16_i32_177 c0_i32_178
  let c1_i32_179 : BitVec 32 := 1#32
  let v337 : BitVec 32 := Scalar.select v336 c1_i32_179 c16_i32_177
  let v338 : BitVec 32 := Scalar.remsi v335 v337
  let c0_i32_181 : BitVec 32 := 0#32
  let v340 : BitVec 1 := Scalar.cmpi .slt v338 c0_i32_181
  let c0_i32_182 : BitVec 32 := 0#32
  let v341 : BitVec 1 := Scalar.cmpi .slt v337 c0_i32_182
  let v342 : BitVec 1 := Scalar.xori v340 v341
  let c0_i32_180 : BitVec 32 := 0#32
  let v339 : BitVec 1 := Scalar.cmpi .ne v338 c0_i32_180
  let v343 : BitVec 1 := Scalar.andi v342 v339
  let v344 : BitVec 32 := Scalar.addi v338 v337
  let v345 : BitVec 32 := Scalar.select v343 v344 v338
  let c0_i32_215 : BitVec 32 := 0#32
  let v394 : BitVec 1 := Scalar.cmpi .sgt v345 c0_i32_215
  let v395 : BitVec 32 := Scalar.extui v394
  let c0_i32_216 : BitVec 32 := 0#32
  let v396 : BitVec 1 := Scalar.cmpi .slt v345 c0_i32_216
  let v397 : BitVec 32 := Scalar.extui v396
  let v398 : BitVec 32 := Scalar.subi v395 v397
  let c2_i32_214 : BitVec 32 := 2#32
  let c0_i32_217 : BitVec 32 := 0#32
  let v399 : BitVec 1 := Scalar.cmpi .sgt c2_i32_214 c0_i32_217
  let v400 : BitVec 32 := Scalar.extui v399
  let c0_i32_218 : BitVec 32 := 0#32
  let v401 : BitVec 1 := Scalar.cmpi .slt c2_i32_214 c0_i32_218
  let v402 : BitVec 32 := Scalar.extui v401
  let v403 : BitVec 32 := Scalar.subi v400 v402
  let v404 : BitVec 1 := Scalar.cmpi .ne v398 v403
  let v405 : BitVec 32 := Scalar.remsi v345 c2_i32_214
  let c0_i32_219 : BitVec 32 := 0#32
  let v406 : BitVec 1 := Scalar.cmpi .ne v405 c0_i32_219
  let v407 : BitVec 1 := Scalar.andi v404 v406
  let v393 : BitVec 32 := Scalar.divsi v345 c2_i32_214
  let c1_i32_220 : BitVec 32 := 1#32
  let v408 : BitVec 32 := Scalar.subi v393 c1_i32_220
  let v409 : BitVec 32 := Scalar.select v407 v408 v393
  let c0_i32_1217 : BitVec 32 := 0#32
  let c0_i32_1218 : BitVec 32 := 0#32
  let c0_i32_1219 : BitVec 32 := 0#32
  ![v409.toNat, 0, 0, 0]
def k0_off19 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_192 : BitVec 32 := 1#32
  let v359 : BitVec 32 := Scalar.addi v2 c1_i32_192
  let c16_i32_193 : BitVec 32 := 16#32
  let c0_i32_194 : BitVec 32 := 0#32
  let v360 : BitVec 1 := Scalar.cmpi .eq c16_i32_193 c0_i32_194
  let c1_i32_195 : BitVec 32 := 1#32
  let v361 : BitVec 32 := Scalar.select v360 c1_i32_195 c16_i32_193
  let v362 : BitVec 32 := Scalar.remsi v359 v361
  let c0_i32_197 : BitVec 32 := 0#32
  let v364 : BitVec 1 := Scalar.cmpi .slt v362 c0_i32_197
  let c0_i32_198 : BitVec 32 := 0#32
  let v365 : BitVec 1 := Scalar.cmpi .slt v361 c0_i32_198
  let v366 : BitVec 1 := Scalar.xori v364 v365
  let c0_i32_196 : BitVec 32 := 0#32
  let v363 : BitVec 1 := Scalar.cmpi .ne v362 c0_i32_196
  let v367 : BitVec 1 := Scalar.andi v366 v363
  let v368 : BitVec 32 := Scalar.addi v362 v361
  let v369 : BitVec 32 := Scalar.select v367 v368 v362
  let c0_i32_243 : BitVec 32 := 0#32
  let v462 : BitVec 1 := Scalar.cmpi .sgt v369 c0_i32_243
  let v463 : BitVec 32 := Scalar.extui v462
  let c0_i32_244 : BitVec 32 := 0#32
  let v464 : BitVec 1 := Scalar.cmpi .slt v369 c0_i32_244
  let v465 : BitVec 32 := Scalar.extui v464
  let v466 : BitVec 32 := Scalar.subi v463 v465
  let c2_i32_242 : BitVec 32 := 2#32
  let c0_i32_245 : BitVec 32 := 0#32
  let v467 : BitVec 1 := Scalar.cmpi .sgt c2_i32_242 c0_i32_245
  let v468 : BitVec 32 := Scalar.extui v467
  let c0_i32_246 : BitVec 32 := 0#32
  let v469 : BitVec 1 := Scalar.cmpi .slt c2_i32_242 c0_i32_246
  let v470 : BitVec 32 := Scalar.extui v469
  let v471 : BitVec 32 := Scalar.subi v468 v470
  let v472 : BitVec 1 := Scalar.cmpi .ne v466 v471
  let v473 : BitVec 32 := Scalar.remsi v369 c2_i32_242
  let c0_i32_247 : BitVec 32 := 0#32
  let v474 : BitVec 1 := Scalar.cmpi .ne v473 c0_i32_247
  let v475 : BitVec 1 := Scalar.andi v472 v474
  let v461 : BitVec 32 := Scalar.divsi v369 c2_i32_242
  let c1_i32_248 : BitVec 32 := 1#32
  let v476 : BitVec 32 := Scalar.subi v461 c1_i32_248
  let v477 : BitVec 32 := Scalar.select v475 v476 v461
  let c0_i32_1224 : BitVec 32 := 0#32
  let c0_i32_1225 : BitVec 32 := 0#32
  let c0_i32_1226 : BitVec 32 := 0#32
  ![v477.toNat, 0, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let v759 : BitVec 32 := Scalar.extui v622
  let c0_i32_404 : BitVec 32 := 0#32
  let v760 : BitVec 1 := Scalar.cmpi .ne v759 c0_i32_404
  v760

def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c0_i32_352 : BitVec 32 := 0#32
  let v641 : BitVec 1 := Scalar.cmpi .sgt v549 c0_i32_352
  let v642 : BitVec 32 := Scalar.extui v641
  let c0_i32_353 : BitVec 32 := 0#32
  let v643 : BitVec 1 := Scalar.cmpi .slt v549 c0_i32_353
  let v644 : BitVec 32 := Scalar.extui v643
  let v645 : BitVec 32 := Scalar.subi v642 v644
  let c2_i32_351 : BitVec 32 := 2#32
  let c0_i32_354 : BitVec 32 := 0#32
  let v646 : BitVec 1 := Scalar.cmpi .sgt c2_i32_351 c0_i32_354
  let v647 : BitVec 32 := Scalar.extui v646
  let c0_i32_355 : BitVec 32 := 0#32
  let v648 : BitVec 1 := Scalar.cmpi .slt c2_i32_351 c0_i32_355
  let v649 : BitVec 32 := Scalar.extui v648
  let v650 : BitVec 32 := Scalar.subi v647 v649
  let v651 : BitVec 1 := Scalar.cmpi .ne v645 v650
  let v652 : BitVec 32 := Scalar.remsi v549 c2_i32_351
  let c0_i32_356 : BitVec 32 := 0#32
  let v653 : BitVec 1 := Scalar.cmpi .ne v652 c0_i32_356
  let v654 : BitVec 1 := Scalar.andi v651 v653
  let v640 : BitVec 32 := Scalar.divsi v549 c2_i32_351
  let c1_i32_357 : BitVec 32 := 1#32
  let v655 : BitVec 32 := Scalar.subi v640 c1_i32_357
  let v656 : BitVec 32 := Scalar.select v654 v655 v640
  let c0_i32_1218 : BitVec 32 := 0#32
  let c0_i32_1219 : BitVec 32 := 0#32
  let c0_i32_1220 : BitVec 32 := 0#32
  ![v656.toNat, 0, 0, 0]
def k0_dev7 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off21 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v576 : BitVec 32 := Scalar.addi v2 c2_i32_313
  let c16_i32_314 : BitVec 32 := 16#32
  let c0_i32_315 : BitVec 32 := 0#32
  let v577 : BitVec 1 := Scalar.cmpi .eq c16_i32_314 c0_i32_315
  let c1_i32_316 : BitVec 32 := 1#32
  let v578 : BitVec 32 := Scalar.select v577 c1_i32_316 c16_i32_314
  let v579 : BitVec 32 := Scalar.remsi v576 v578
  let c0_i32_318 : BitVec 32 := 0#32
  let v581 : BitVec 1 := Scalar.cmpi .slt v579 c0_i32_318
  let c0_i32_319 : BitVec 32 := 0#32
  let v582 : BitVec 1 := Scalar.cmpi .slt v578 c0_i32_319
  let v583 : BitVec 1 := Scalar.xori v581 v582
  let c0_i32_317 : BitVec 32 := 0#32
  let v580 : BitVec 1 := Scalar.cmpi .ne v579 c0_i32_317
  let v584 : BitVec 1 := Scalar.andi v583 v580
  let v585 : BitVec 32 := Scalar.addi v579 v578
  let v586 : BitVec 32 := Scalar.select v584 v585 v579
  let c0_i32_380 : BitVec 32 := 0#32
  let v709 : BitVec 1 := Scalar.cmpi .sgt v586 c0_i32_380
  let v710 : BitVec 32 := Scalar.extui v709
  let c0_i32_381 : BitVec 32 := 0#32
  let v711 : BitVec 1 := Scalar.cmpi .slt v586 c0_i32_381
  let v712 : BitVec 32 := Scalar.extui v711
  let v713 : BitVec 32 := Scalar.subi v710 v712
  let c2_i32_379 : BitVec 32 := 2#32
  let c0_i32_382 : BitVec 32 := 0#32
  let v714 : BitVec 1 := Scalar.cmpi .sgt c2_i32_379 c0_i32_382
  let v715 : BitVec 32 := Scalar.extui v714
  let c0_i32_383 : BitVec 32 := 0#32
  let v716 : BitVec 1 := Scalar.cmpi .slt c2_i32_379 c0_i32_383
  let v717 : BitVec 32 := Scalar.extui v716
  let v718 : BitVec 32 := Scalar.subi v715 v717
  let v719 : BitVec 1 := Scalar.cmpi .ne v713 v718
  let v720 : BitVec 32 := Scalar.remsi v586 c2_i32_379
  let c0_i32_384 : BitVec 32 := 0#32
  let v721 : BitVec 1 := Scalar.cmpi .ne v720 c0_i32_384
  let v722 : BitVec 1 := Scalar.andi v719 v721
  let v708 : BitVec 32 := Scalar.divsi v586 c2_i32_379
  let c1_i32_385 : BitVec 32 := 1#32
  let v723 : BitVec 32 := Scalar.subi v708 c1_i32_385
  let v724 : BitVec 32 := Scalar.select v722 v723 v708
  let c0_i32_1226 : BitVec 32 := 0#32
  let c0_i32_1227 : BitVec 32 := 0#32
  let c0_i32_1228 : BitVec 32 := 0#32
  ![v724.toNat, 0, 0, 0]
def k0_dev8 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let true_405 : BitVec 1 := 1#1
  let v761 : BitVec 1 := Scalar.xori v622 true_405
  let v762 : BitVec 32 := Scalar.extui v761
  let c0_i32_412 : BitVec 32 := 0#32
  let v763 : BitVec 1 := Scalar.cmpi .ne v762 c0_i32_412
  v763

def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_304 : BitVec 32 := 1#32
  let v563 : BitVec 32 := Scalar.addi v2 c1_i32_304
  let c2_i32_305 : BitVec 32 := 2#32
  let v564 : BitVec 32 := Scalar.subi v563 c2_i32_305
  let c32_i32_306 : BitVec 32 := 32#32
  let v565 : BitVec 32 := Scalar.addi v564 c32_i32_306
  let c16_i32_307 : BitVec 32 := 16#32
  let c0_i32_308 : BitVec 32 := 0#32
  let v566 : BitVec 1 := Scalar.cmpi .eq c16_i32_307 c0_i32_308
  let c1_i32_309 : BitVec 32 := 1#32
  let v567 : BitVec 32 := Scalar.select v566 c1_i32_309 c16_i32_307
  let v568 : BitVec 32 := Scalar.remsi v565 v567
  let c0_i32_311 : BitVec 32 := 0#32
  let v570 : BitVec 1 := Scalar.cmpi .slt v568 c0_i32_311
  let c0_i32_312 : BitVec 32 := 0#32
  let v571 : BitVec 1 := Scalar.cmpi .slt v567 c0_i32_312
  let v572 : BitVec 1 := Scalar.xori v570 v571
  let c0_i32_310 : BitVec 32 := 0#32
  let v569 : BitVec 1 := Scalar.cmpi .ne v568 c0_i32_310
  let v573 : BitVec 1 := Scalar.andi v572 v569
  let v574 : BitVec 32 := Scalar.addi v568 v567
  let v575 : BitVec 32 := Scalar.select v573 v574 v568
  let c0_i32_1217 : BitVec 32 := 0#32
  let v1941 : BitVec 1 := Scalar.cmpi .sgt v575 c0_i32_1217
  let v1942 : BitVec 32 := Scalar.extui v1941
  let c0_i32_1218 : BitVec 32 := 0#32
  let v1943 : BitVec 1 := Scalar.cmpi .slt v575 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v575 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v575 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev9 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_328 : BitVec 32 := 1#32
  let v599 : BitVec 32 := Scalar.subi v2 c1_i32_328
  let c2_i32_329 : BitVec 32 := 2#32
  let v600 : BitVec 32 := Scalar.addi v599 c2_i32_329
  let c16_i32_330 : BitVec 32 := 16#32
  let v601 : BitVec 32 := Scalar.addi v600 c16_i32_330
  let c16_i32_331 : BitVec 32 := 16#32
  let c0_i32_332 : BitVec 32 := 0#32
  let v602 : BitVec 1 := Scalar.cmpi .eq c16_i32_331 c0_i32_332
  let c1_i32_333 : BitVec 32 := 1#32
  let v603 : BitVec 32 := Scalar.select v602 c1_i32_333 c16_i32_331
  let v604 : BitVec 32 := Scalar.remsi v601 v603
  let c0_i32_335 : BitVec 32 := 0#32
  let v606 : BitVec 1 := Scalar.cmpi .slt v604 c0_i32_335
  let c0_i32_336 : BitVec 32 := 0#32
  let v607 : BitVec 1 := Scalar.cmpi .slt v603 c0_i32_336
  let v608 : BitVec 1 := Scalar.xori v606 v607
  let c0_i32_334 : BitVec 32 := 0#32
  let v605 : BitVec 1 := Scalar.cmpi .ne v604 c0_i32_334
  let v609 : BitVec 1 := Scalar.andi v608 v605
  let v610 : BitVec 32 := Scalar.addi v604 v603
  let v611 : BitVec 32 := Scalar.select v609 v610 v604
  let c0_i32_1235 : BitVec 32 := 0#32
  let v1973 : BitVec 1 := Scalar.cmpi .sgt v611 c0_i32_1235
  let v1974 : BitVec 32 := Scalar.extui v1973
  let c0_i32_1236 : BitVec 32 := 0#32
  let v1975 : BitVec 1 := Scalar.cmpi .slt v611 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v611 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v611 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev10 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let v764 : BitVec 32 := Scalar.extui v622
  let c0_i32_413 : BitVec 32 := 0#32
  let v765 : BitVec 1 := Scalar.cmpi .ne v764 c0_i32_413
  v765

def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c0_i32_1217 : BitVec 32 := 0#32
  let v1941 : BitVec 1 := Scalar.cmpi .sgt v549 c0_i32_1217
  let v1942 : BitVec 32 := Scalar.extui v1941
  let c0_i32_1218 : BitVec 32 := 0#32
  let v1943 : BitVec 1 := Scalar.cmpi .slt v549 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v549 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v549 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off25 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v576 : BitVec 32 := Scalar.addi v2 c2_i32_313
  let c16_i32_314 : BitVec 32 := 16#32
  let c0_i32_315 : BitVec 32 := 0#32
  let v577 : BitVec 1 := Scalar.cmpi .eq c16_i32_314 c0_i32_315
  let c1_i32_316 : BitVec 32 := 1#32
  let v578 : BitVec 32 := Scalar.select v577 c1_i32_316 c16_i32_314
  let v579 : BitVec 32 := Scalar.remsi v576 v578
  let c0_i32_318 : BitVec 32 := 0#32
  let v581 : BitVec 1 := Scalar.cmpi .slt v579 c0_i32_318
  let c0_i32_319 : BitVec 32 := 0#32
  let v582 : BitVec 1 := Scalar.cmpi .slt v578 c0_i32_319
  let v583 : BitVec 1 := Scalar.xori v581 v582
  let c0_i32_317 : BitVec 32 := 0#32
  let v580 : BitVec 1 := Scalar.cmpi .ne v579 c0_i32_317
  let v584 : BitVec 1 := Scalar.andi v583 v580
  let v585 : BitVec 32 := Scalar.addi v579 v578
  let v586 : BitVec 32 := Scalar.select v584 v585 v579
  let c0_i32_1224 : BitVec 32 := 0#32
  let v1958 : BitVec 1 := Scalar.cmpi .sgt v586 c0_i32_1224
  let v1959 : BitVec 32 := Scalar.extui v1958
  let c0_i32_1225 : BitVec 32 := 0#32
  let v1960 : BitVec 1 := Scalar.cmpi .slt v586 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v586 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v586 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c0_i32_1217 : BitVec 32 := 0#32
  let v1941 : BitVec 1 := Scalar.cmpi .sgt v549 c0_i32_1217
  let v1942 : BitVec 32 := Scalar.extui v1941
  let c0_i32_1218 : BitVec 32 := 0#32
  let v1943 : BitVec 1 := Scalar.cmpi .slt v549 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v549 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v549 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off27 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v576 : BitVec 32 := Scalar.addi v2 c2_i32_313
  let c16_i32_314 : BitVec 32 := 16#32
  let c0_i32_315 : BitVec 32 := 0#32
  let v577 : BitVec 1 := Scalar.cmpi .eq c16_i32_314 c0_i32_315
  let c1_i32_316 : BitVec 32 := 1#32
  let v578 : BitVec 32 := Scalar.select v577 c1_i32_316 c16_i32_314
  let v579 : BitVec 32 := Scalar.remsi v576 v578
  let c0_i32_318 : BitVec 32 := 0#32
  let v581 : BitVec 1 := Scalar.cmpi .slt v579 c0_i32_318
  let c0_i32_319 : BitVec 32 := 0#32
  let v582 : BitVec 1 := Scalar.cmpi .slt v578 c0_i32_319
  let v583 : BitVec 1 := Scalar.xori v581 v582
  let c0_i32_317 : BitVec 32 := 0#32
  let v580 : BitVec 1 := Scalar.cmpi .ne v579 c0_i32_317
  let v584 : BitVec 1 := Scalar.andi v583 v580
  let v585 : BitVec 32 := Scalar.addi v579 v578
  let v586 : BitVec 32 := Scalar.select v584 v585 v579
  let c0_i32_1224 : BitVec 32 := 0#32
  let v1958 : BitVec 1 := Scalar.cmpi .sgt v586 c0_i32_1224
  let v1959 : BitVec 32 := Scalar.extui v1958
  let c0_i32_1225 : BitVec 32 := 0#32
  let v1960 : BitVec 1 := Scalar.cmpi .slt v586 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v586 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v586 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let true_414 : BitVec 1 := 1#1
  let v766 : BitVec 1 := Scalar.xori v622 true_414
  let v767 : BitVec 32 := Scalar.extui v766
  let c0_i32_419 : BitVec 32 := 0#32
  let v768 : BitVec 1 := Scalar.cmpi .ne v767 c0_i32_419
  v768

def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_295 : BitVec 32 := 1#32
  let v550 : BitVec 32 := Scalar.subi v2 c1_i32_295
  let c2_i32_296 : BitVec 32 := 2#32
  let v551 : BitVec 32 := Scalar.subi v550 c2_i32_296
  let c32_i32_297 : BitVec 32 := 32#32
  let v552 : BitVec 32 := Scalar.addi v551 c32_i32_297
  let c16_i32_298 : BitVec 32 := 16#32
  let c0_i32_299 : BitVec 32 := 0#32
  let v553 : BitVec 1 := Scalar.cmpi .eq c16_i32_298 c0_i32_299
  let c1_i32_300 : BitVec 32 := 1#32
  let v554 : BitVec 32 := Scalar.select v553 c1_i32_300 c16_i32_298
  let v555 : BitVec 32 := Scalar.remsi v552 v554
  let c0_i32_302 : BitVec 32 := 0#32
  let v557 : BitVec 1 := Scalar.cmpi .slt v555 c0_i32_302
  let c0_i32_303 : BitVec 32 := 0#32
  let v558 : BitVec 1 := Scalar.cmpi .slt v554 c0_i32_303
  let v559 : BitVec 1 := Scalar.xori v557 v558
  let c0_i32_301 : BitVec 32 := 0#32
  let v556 : BitVec 1 := Scalar.cmpi .ne v555 c0_i32_301
  let v560 : BitVec 1 := Scalar.andi v559 v556
  let v561 : BitVec 32 := Scalar.addi v555 v554
  let v562 : BitVec 32 := Scalar.select v560 v561 v555
  let c0_i32_366 : BitVec 32 := 0#32
  let v675 : BitVec 1 := Scalar.cmpi .sgt v562 c0_i32_366
  let v676 : BitVec 32 := Scalar.extui v675
  let c0_i32_367 : BitVec 32 := 0#32
  let v677 : BitVec 1 := Scalar.cmpi .slt v562 c0_i32_367
  let v678 : BitVec 32 := Scalar.extui v677
  let v679 : BitVec 32 := Scalar.subi v676 v678
  let c2_i32_365 : BitVec 32 := 2#32
  let c0_i32_368 : BitVec 32 := 0#32
  let v680 : BitVec 1 := Scalar.cmpi .sgt c2_i32_365 c0_i32_368
  let v681 : BitVec 32 := Scalar.extui v680
  let c0_i32_369 : BitVec 32 := 0#32
  let v682 : BitVec 1 := Scalar.cmpi .slt c2_i32_365 c0_i32_369
  let v683 : BitVec 32 := Scalar.extui v682
  let v684 : BitVec 32 := Scalar.subi v681 v683
  let v685 : BitVec 1 := Scalar.cmpi .ne v679 v684
  let v686 : BitVec 32 := Scalar.remsi v562 c2_i32_365
  let c0_i32_370 : BitVec 32 := 0#32
  let v687 : BitVec 1 := Scalar.cmpi .ne v686 c0_i32_370
  let v688 : BitVec 1 := Scalar.andi v685 v687
  let v674 : BitVec 32 := Scalar.divsi v562 c2_i32_365
  let c1_i32_371 : BitVec 32 := 1#32
  let v689 : BitVec 32 := Scalar.subi v674 c1_i32_371
  let v690 : BitVec 32 := Scalar.select v688 v689 v674
  let c0_i32_1218 : BitVec 32 := 0#32
  let c0_i32_1219 : BitVec 32 := 0#32
  let c0_i32_1220 : BitVec 32 := 0#32
  ![v690.toNat, 0, 0, 0]
def k0_off29 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_320 : BitVec 32 := 1#32
  let v587 : BitVec 32 := Scalar.addi v2 c1_i32_320
  let c2_i32_321 : BitVec 32 := 2#32
  let v588 : BitVec 32 := Scalar.addi v587 c2_i32_321
  let c16_i32_322 : BitVec 32 := 16#32
  let c0_i32_323 : BitVec 32 := 0#32
  let v589 : BitVec 1 := Scalar.cmpi .eq c16_i32_322 c0_i32_323
  let c1_i32_324 : BitVec 32 := 1#32
  let v590 : BitVec 32 := Scalar.select v589 c1_i32_324 c16_i32_322
  let v591 : BitVec 32 := Scalar.remsi v588 v590
  let c0_i32_326 : BitVec 32 := 0#32
  let v593 : BitVec 1 := Scalar.cmpi .slt v591 c0_i32_326
  let c0_i32_327 : BitVec 32 := 0#32
  let v594 : BitVec 1 := Scalar.cmpi .slt v590 c0_i32_327
  let v595 : BitVec 1 := Scalar.xori v593 v594
  let c0_i32_325 : BitVec 32 := 0#32
  let v592 : BitVec 1 := Scalar.cmpi .ne v591 c0_i32_325
  let v596 : BitVec 1 := Scalar.andi v595 v592
  let v597 : BitVec 32 := Scalar.addi v591 v590
  let v598 : BitVec 32 := Scalar.select v596 v597 v591
  let c0_i32_394 : BitVec 32 := 0#32
  let v743 : BitVec 1 := Scalar.cmpi .sgt v598 c0_i32_394
  let v744 : BitVec 32 := Scalar.extui v743
  let c0_i32_395 : BitVec 32 := 0#32
  let v745 : BitVec 1 := Scalar.cmpi .slt v598 c0_i32_395
  let v746 : BitVec 32 := Scalar.extui v745
  let v747 : BitVec 32 := Scalar.subi v744 v746
  let c2_i32_393 : BitVec 32 := 2#32
  let c0_i32_396 : BitVec 32 := 0#32
  let v748 : BitVec 1 := Scalar.cmpi .sgt c2_i32_393 c0_i32_396
  let v749 : BitVec 32 := Scalar.extui v748
  let c0_i32_397 : BitVec 32 := 0#32
  let v750 : BitVec 1 := Scalar.cmpi .slt c2_i32_393 c0_i32_397
  let v751 : BitVec 32 := Scalar.extui v750
  let v752 : BitVec 32 := Scalar.subi v749 v751
  let v753 : BitVec 1 := Scalar.cmpi .ne v747 v752
  let v754 : BitVec 32 := Scalar.remsi v598 c2_i32_393
  let c0_i32_398 : BitVec 32 := 0#32
  let v755 : BitVec 1 := Scalar.cmpi .ne v754 c0_i32_398
  let v756 : BitVec 1 := Scalar.andi v753 v755
  let v742 : BitVec 32 := Scalar.divsi v598 c2_i32_393
  let c1_i32_399 : BitVec 32 := 1#32
  let v757 : BitVec 32 := Scalar.subi v742 c1_i32_399
  let v758 : BitVec 32 := Scalar.select v756 v757 v742
  let c0_i32_1226 : BitVec 32 := 0#32
  let c0_i32_1227 : BitVec 32 := 0#32
  let c0_i32_1228 : BitVec 32 := 0#32
  ![v758.toNat, 0, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let v769 : BitVec 32 := Scalar.extui v622
  let c0_i32_428 : BitVec 32 := 0#32
  let v770 : BitVec 1 := Scalar.cmpi .ne v769 c0_i32_428
  v770

def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c0_i32_1225 : BitVec 32 := 0#32
  let v1949 : BitVec 1 := Scalar.cmpi .sgt v549 c0_i32_1225
  let v1950 : BitVec 32 := Scalar.extui v1949
  let c0_i32_1226 : BitVec 32 := 0#32
  let v1951 : BitVec 1 := Scalar.cmpi .slt v549 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v549 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v549 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off31 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v576 : BitVec 32 := Scalar.addi v2 c2_i32_313
  let c16_i32_314 : BitVec 32 := 16#32
  let c0_i32_315 : BitVec 32 := 0#32
  let v577 : BitVec 1 := Scalar.cmpi .eq c16_i32_314 c0_i32_315
  let c1_i32_316 : BitVec 32 := 1#32
  let v578 : BitVec 32 := Scalar.select v577 c1_i32_316 c16_i32_314
  let v579 : BitVec 32 := Scalar.remsi v576 v578
  let c0_i32_318 : BitVec 32 := 0#32
  let v581 : BitVec 1 := Scalar.cmpi .slt v579 c0_i32_318
  let c0_i32_319 : BitVec 32 := 0#32
  let v582 : BitVec 1 := Scalar.cmpi .slt v578 c0_i32_319
  let v583 : BitVec 1 := Scalar.xori v581 v582
  let c0_i32_317 : BitVec 32 := 0#32
  let v580 : BitVec 1 := Scalar.cmpi .ne v579 c0_i32_317
  let v584 : BitVec 1 := Scalar.andi v583 v580
  let v585 : BitVec 32 := Scalar.addi v579 v578
  let v586 : BitVec 32 := Scalar.select v584 v585 v579
  let c0_i32_1257 : BitVec 32 := 0#32
  let v2002 : BitVec 1 := Scalar.cmpi .sgt v586 c0_i32_1257
  let v2003 : BitVec 32 := Scalar.extui v2002
  let c0_i32_1258 : BitVec 32 := 0#32
  let v2004 : BitVec 1 := Scalar.cmpi .slt v586 c0_i32_1258
  let v2005 : BitVec 32 := Scalar.extui v2004
  let v2006 : BitVec 32 := Scalar.subi v2003 v2005
  let c2_i32_1256 : BitVec 32 := 2#32
  let c0_i32_1259 : BitVec 32 := 0#32
  let v2007 : BitVec 1 := Scalar.cmpi .sgt c2_i32_1256 c0_i32_1259
  let v2008 : BitVec 32 := Scalar.extui v2007
  let c0_i32_1260 : BitVec 32 := 0#32
  let v2009 : BitVec 1 := Scalar.cmpi .slt c2_i32_1256 c0_i32_1260
  let v2010 : BitVec 32 := Scalar.extui v2009
  let v2011 : BitVec 32 := Scalar.subi v2008 v2010
  let v2012 : BitVec 1 := Scalar.cmpi .ne v2006 v2011
  let v2013 : BitVec 32 := Scalar.remsi v586 c2_i32_1256
  let c0_i32_1261 : BitVec 32 := 0#32
  let v2014 : BitVec 1 := Scalar.cmpi .ne v2013 c0_i32_1261
  let v2015 : BitVec 1 := Scalar.andi v2012 v2014
  let v2001 : BitVec 32 := Scalar.divsi v586 c2_i32_1256
  let c1_i32_1262 : BitVec 32 := 1#32
  let v2016 : BitVec 32 := Scalar.subi v2001 c1_i32_1262
  let v2017 : BitVec 32 := Scalar.select v2015 v2016 v2001
  let v2018 : Index := Scalar.indexCast v2017
  let c0_1263 : Index := 0#32
  let c0_1264 : Index := 0#32
  let c0_1265 : Index := 0#32
  ![v2018.toNat, 0, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c2_i32_337 : BitVec 32 := 2#32
  let c0_i32_338 : BitVec 32 := 0#32
  let v612 : BitVec 1 := Scalar.cmpi .eq c2_i32_337 c0_i32_338
  let c1_i32_339 : BitVec 32 := 1#32
  let v613 : BitVec 32 := Scalar.select v612 c1_i32_339 c2_i32_337
  let v614 : BitVec 32 := Scalar.remsi v549 v613
  let c0_i32_341 : BitVec 32 := 0#32
  let v616 : BitVec 1 := Scalar.cmpi .slt v614 c0_i32_341
  let c0_i32_342 : BitVec 32 := 0#32
  let v617 : BitVec 1 := Scalar.cmpi .slt v613 c0_i32_342
  let v618 : BitVec 1 := Scalar.xori v616 v617
  let c0_i32_340 : BitVec 32 := 0#32
  let v615 : BitVec 1 := Scalar.cmpi .ne v614 c0_i32_340
  let v619 : BitVec 1 := Scalar.andi v618 v615
  let v620 : BitVec 32 := Scalar.addi v614 v613
  let v621 : BitVec 32 := Scalar.select v619 v620 v614
  let c0_i32_343 : BitVec 32 := 0#32
  let v622 : BitVec 1 := Scalar.cmpi .eq v621 c0_i32_343
  let v771 : BitVec 32 := Scalar.extui v622
  let c0_i32_433 : BitVec 32 := 0#32
  let v772 : BitVec 1 := Scalar.cmpi .ne v771 c0_i32_433
  v772

def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_287 : BitVec 32 := 2#32
  let v538 : BitVec 32 := Scalar.subi v2 c2_i32_287
  let c32_i32_288 : BitVec 32 := 32#32
  let v539 : BitVec 32 := Scalar.addi v538 c32_i32_288
  let c16_i32_289 : BitVec 32 := 16#32
  let c0_i32_290 : BitVec 32 := 0#32
  let v540 : BitVec 1 := Scalar.cmpi .eq c16_i32_289 c0_i32_290
  let c1_i32_291 : BitVec 32 := 1#32
  let v541 : BitVec 32 := Scalar.select v540 c1_i32_291 c16_i32_289
  let v542 : BitVec 32 := Scalar.remsi v539 v541
  let c0_i32_293 : BitVec 32 := 0#32
  let v544 : BitVec 1 := Scalar.cmpi .slt v542 c0_i32_293
  let c0_i32_294 : BitVec 32 := 0#32
  let v545 : BitVec 1 := Scalar.cmpi .slt v541 c0_i32_294
  let v546 : BitVec 1 := Scalar.xori v544 v545
  let c0_i32_292 : BitVec 32 := 0#32
  let v543 : BitVec 1 := Scalar.cmpi .ne v542 c0_i32_292
  let v547 : BitVec 1 := Scalar.andi v546 v543
  let v548 : BitVec 32 := Scalar.addi v542 v541
  let v549 : BitVec 32 := Scalar.select v547 v548 v542
  let c0_i32_345 : BitVec 32 := 0#32
  let v624 : BitVec 1 := Scalar.cmpi .sgt v549 c0_i32_345
  let v625 : BitVec 32 := Scalar.extui v624
  let c0_i32_346 : BitVec 32 := 0#32
  let v626 : BitVec 1 := Scalar.cmpi .slt v549 c0_i32_346
  let v627 : BitVec 32 := Scalar.extui v626
  let v628 : BitVec 32 := Scalar.subi v625 v627
  let c2_i32_344 : BitVec 32 := 2#32
  let c0_i32_347 : BitVec 32 := 0#32
  let v629 : BitVec 1 := Scalar.cmpi .sgt c2_i32_344 c0_i32_347
  let v630 : BitVec 32 := Scalar.extui v629
  let c0_i32_348 : BitVec 32 := 0#32
  let v631 : BitVec 1 := Scalar.cmpi .slt c2_i32_344 c0_i32_348
  let v632 : BitVec 32 := Scalar.extui v631
  let v633 : BitVec 32 := Scalar.subi v630 v632
  let v634 : BitVec 1 := Scalar.cmpi .ne v628 v633
  let v635 : BitVec 32 := Scalar.remsi v549 c2_i32_344
  let c0_i32_349 : BitVec 32 := 0#32
  let v636 : BitVec 1 := Scalar.cmpi .ne v635 c0_i32_349
  let v637 : BitVec 1 := Scalar.andi v634 v636
  let v623 : BitVec 32 := Scalar.divsi v549 c2_i32_344
  let c1_i32_350 : BitVec 32 := 1#32
  let v638 : BitVec 32 := Scalar.subi v623 c1_i32_350
  let v639 : BitVec 32 := Scalar.select v637 v638 v623
  let c0_i32_1217 : BitVec 32 := 0#32
  let c0_i32_1218 : BitVec 32 := 0#32
  let c0_i32_1219 : BitVec 32 := 0#32
  ![v639.toNat, 0, 0, 0]
def k0_off33 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_313 : BitVec 32 := 2#32
  let v576 : BitVec 32 := Scalar.addi v2 c2_i32_313
  let c16_i32_314 : BitVec 32 := 16#32
  let c0_i32_315 : BitVec 32 := 0#32
  let v577 : BitVec 1 := Scalar.cmpi .eq c16_i32_314 c0_i32_315
  let c1_i32_316 : BitVec 32 := 1#32
  let v578 : BitVec 32 := Scalar.select v577 c1_i32_316 c16_i32_314
  let v579 : BitVec 32 := Scalar.remsi v576 v578
  let c0_i32_318 : BitVec 32 := 0#32
  let v581 : BitVec 1 := Scalar.cmpi .slt v579 c0_i32_318
  let c0_i32_319 : BitVec 32 := 0#32
  let v582 : BitVec 1 := Scalar.cmpi .slt v578 c0_i32_319
  let v583 : BitVec 1 := Scalar.xori v581 v582
  let c0_i32_317 : BitVec 32 := 0#32
  let v580 : BitVec 1 := Scalar.cmpi .ne v579 c0_i32_317
  let v584 : BitVec 1 := Scalar.andi v583 v580
  let v585 : BitVec 32 := Scalar.addi v579 v578
  let v586 : BitVec 32 := Scalar.select v584 v585 v579
  let c0_i32_373 : BitVec 32 := 0#32
  let v692 : BitVec 1 := Scalar.cmpi .sgt v586 c0_i32_373
  let v693 : BitVec 32 := Scalar.extui v692
  let c0_i32_374 : BitVec 32 := 0#32
  let v694 : BitVec 1 := Scalar.cmpi .slt v586 c0_i32_374
  let v695 : BitVec 32 := Scalar.extui v694
  let v696 : BitVec 32 := Scalar.subi v693 v695
  let c2_i32_372 : BitVec 32 := 2#32
  let c0_i32_375 : BitVec 32 := 0#32
  let v697 : BitVec 1 := Scalar.cmpi .sgt c2_i32_372 c0_i32_375
  let v698 : BitVec 32 := Scalar.extui v697
  let c0_i32_376 : BitVec 32 := 0#32
  let v699 : BitVec 1 := Scalar.cmpi .slt c2_i32_372 c0_i32_376
  let v700 : BitVec 32 := Scalar.extui v699
  let v701 : BitVec 32 := Scalar.subi v698 v700
  let v702 : BitVec 1 := Scalar.cmpi .ne v696 v701
  let v703 : BitVec 32 := Scalar.remsi v586 c2_i32_372
  let c0_i32_377 : BitVec 32 := 0#32
  let v704 : BitVec 1 := Scalar.cmpi .ne v703 c0_i32_377
  let v705 : BitVec 1 := Scalar.andi v702 v704
  let v691 : BitVec 32 := Scalar.divsi v586 c2_i32_372
  let c1_i32_378 : BitVec 32 := 1#32
  let v706 : BitVec 32 := Scalar.subi v691 c1_i32_378
  let v707 : BitVec 32 := Scalar.select v705 v706 v691
  let c0_i32_1224 : BitVec 32 := 0#32
  let c0_i32_1225 : BitVec 32 := 0#32
  let c0_i32_1226 : BitVec 32 := 0#32
  ![v707.toNat, 0, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let v997 : BitVec 32 := Scalar.extui v860
  let c0_i32_558 : BitVec 32 := 0#32
  let v998 : BitVec 1 := Scalar.cmpi .ne v997 c0_i32_558
  v998

def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c0_i32_506 : BitVec 32 := 0#32
  let v879 : BitVec 1 := Scalar.cmpi .sgt v787 c0_i32_506
  let v880 : BitVec 32 := Scalar.extui v879
  let c0_i32_507 : BitVec 32 := 0#32
  let v881 : BitVec 1 := Scalar.cmpi .slt v787 c0_i32_507
  let v882 : BitVec 32 := Scalar.extui v881
  let v883 : BitVec 32 := Scalar.subi v880 v882
  let c2_i32_505 : BitVec 32 := 2#32
  let c0_i32_508 : BitVec 32 := 0#32
  let v884 : BitVec 1 := Scalar.cmpi .sgt c2_i32_505 c0_i32_508
  let v885 : BitVec 32 := Scalar.extui v884
  let c0_i32_509 : BitVec 32 := 0#32
  let v886 : BitVec 1 := Scalar.cmpi .slt c2_i32_505 c0_i32_509
  let v887 : BitVec 32 := Scalar.extui v886
  let v888 : BitVec 32 := Scalar.subi v885 v887
  let v889 : BitVec 1 := Scalar.cmpi .ne v883 v888
  let v890 : BitVec 32 := Scalar.remsi v787 c2_i32_505
  let c0_i32_510 : BitVec 32 := 0#32
  let v891 : BitVec 1 := Scalar.cmpi .ne v890 c0_i32_510
  let v892 : BitVec 1 := Scalar.andi v889 v891
  let v878 : BitVec 32 := Scalar.divsi v787 c2_i32_505
  let c1_i32_511 : BitVec 32 := 1#32
  let v893 : BitVec 32 := Scalar.subi v878 c1_i32_511
  let v894 : BitVec 32 := Scalar.select v892 v893 v878
  let c0_i32_1218 : BitVec 32 := 0#32
  let c0_i32_1219 : BitVec 32 := 0#32
  let c0_i32_1220 : BitVec 32 := 0#32
  ![v894.toNat, 0, 0, 0]
def k0_dev11 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v814 : BitVec 32 := Scalar.addi v2 c3_i32_467
  let c16_i32_468 : BitVec 32 := 16#32
  let c0_i32_469 : BitVec 32 := 0#32
  let v815 : BitVec 1 := Scalar.cmpi .eq c16_i32_468 c0_i32_469
  let c1_i32_470 : BitVec 32 := 1#32
  let v816 : BitVec 32 := Scalar.select v815 c1_i32_470 c16_i32_468
  let v817 : BitVec 32 := Scalar.remsi v814 v816
  let c0_i32_472 : BitVec 32 := 0#32
  let v819 : BitVec 1 := Scalar.cmpi .slt v817 c0_i32_472
  let c0_i32_473 : BitVec 32 := 0#32
  let v820 : BitVec 1 := Scalar.cmpi .slt v816 c0_i32_473
  let v821 : BitVec 1 := Scalar.xori v819 v820
  let c0_i32_471 : BitVec 32 := 0#32
  let v818 : BitVec 1 := Scalar.cmpi .ne v817 c0_i32_471
  let v822 : BitVec 1 := Scalar.andi v821 v818
  let v823 : BitVec 32 := Scalar.addi v817 v816
  let v824 : BitVec 32 := Scalar.select v822 v823 v817
  let c0_i32_534 : BitVec 32 := 0#32
  let v947 : BitVec 1 := Scalar.cmpi .sgt v824 c0_i32_534
  let v948 : BitVec 32 := Scalar.extui v947
  let c0_i32_535 : BitVec 32 := 0#32
  let v949 : BitVec 1 := Scalar.cmpi .slt v824 c0_i32_535
  let v950 : BitVec 32 := Scalar.extui v949
  let v951 : BitVec 32 := Scalar.subi v948 v950
  let c2_i32_533 : BitVec 32 := 2#32
  let c0_i32_536 : BitVec 32 := 0#32
  let v952 : BitVec 1 := Scalar.cmpi .sgt c2_i32_533 c0_i32_536
  let v953 : BitVec 32 := Scalar.extui v952
  let c0_i32_537 : BitVec 32 := 0#32
  let v954 : BitVec 1 := Scalar.cmpi .slt c2_i32_533 c0_i32_537
  let v955 : BitVec 32 := Scalar.extui v954
  let v956 : BitVec 32 := Scalar.subi v953 v955
  let v957 : BitVec 1 := Scalar.cmpi .ne v951 v956
  let v958 : BitVec 32 := Scalar.remsi v824 c2_i32_533
  let c0_i32_538 : BitVec 32 := 0#32
  let v959 : BitVec 1 := Scalar.cmpi .ne v958 c0_i32_538
  let v960 : BitVec 1 := Scalar.andi v957 v959
  let v946 : BitVec 32 := Scalar.divsi v824 c2_i32_533
  let c1_i32_539 : BitVec 32 := 1#32
  let v961 : BitVec 32 := Scalar.subi v946 c1_i32_539
  let v962 : BitVec 32 := Scalar.select v960 v961 v946
  let c0_i32_1226 : BitVec 32 := 0#32
  let c0_i32_1227 : BitVec 32 := 0#32
  let c0_i32_1228 : BitVec 32 := 0#32
  ![v962.toNat, 0, 0, 0]
def k0_dev12 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let true_559 : BitVec 1 := 1#1
  let v999 : BitVec 1 := Scalar.xori v860 true_559
  let v1000 : BitVec 32 := Scalar.extui v999
  let c0_i32_566 : BitVec 32 := 0#32
  let v1001 : BitVec 1 := Scalar.cmpi .ne v1000 c0_i32_566
  v1001

def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_458 : BitVec 32 := 1#32
  let v801 : BitVec 32 := Scalar.addi v2 c1_i32_458
  let c3_i32_459 : BitVec 32 := 3#32
  let v802 : BitVec 32 := Scalar.subi v801 c3_i32_459
  let c32_i32_460 : BitVec 32 := 32#32
  let v803 : BitVec 32 := Scalar.addi v802 c32_i32_460
  let c16_i32_461 : BitVec 32 := 16#32
  let c0_i32_462 : BitVec 32 := 0#32
  let v804 : BitVec 1 := Scalar.cmpi .eq c16_i32_461 c0_i32_462
  let c1_i32_463 : BitVec 32 := 1#32
  let v805 : BitVec 32 := Scalar.select v804 c1_i32_463 c16_i32_461
  let v806 : BitVec 32 := Scalar.remsi v803 v805
  let c0_i32_465 : BitVec 32 := 0#32
  let v808 : BitVec 1 := Scalar.cmpi .slt v806 c0_i32_465
  let c0_i32_466 : BitVec 32 := 0#32
  let v809 : BitVec 1 := Scalar.cmpi .slt v805 c0_i32_466
  let v810 : BitVec 1 := Scalar.xori v808 v809
  let c0_i32_464 : BitVec 32 := 0#32
  let v807 : BitVec 1 := Scalar.cmpi .ne v806 c0_i32_464
  let v811 : BitVec 1 := Scalar.andi v810 v807
  let v812 : BitVec 32 := Scalar.addi v806 v805
  let v813 : BitVec 32 := Scalar.select v811 v812 v806
  let c0_i32_1217 : BitVec 32 := 0#32
  let v1941 : BitVec 1 := Scalar.cmpi .sgt v813 c0_i32_1217
  let v1942 : BitVec 32 := Scalar.extui v1941
  let c0_i32_1218 : BitVec 32 := 0#32
  let v1943 : BitVec 1 := Scalar.cmpi .slt v813 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v813 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v813 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev13 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off37 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_482 : BitVec 32 := 1#32
  let v837 : BitVec 32 := Scalar.subi v2 c1_i32_482
  let c3_i32_483 : BitVec 32 := 3#32
  let v838 : BitVec 32 := Scalar.addi v837 c3_i32_483
  let c16_i32_484 : BitVec 32 := 16#32
  let v839 : BitVec 32 := Scalar.addi v838 c16_i32_484
  let c16_i32_485 : BitVec 32 := 16#32
  let c0_i32_486 : BitVec 32 := 0#32
  let v840 : BitVec 1 := Scalar.cmpi .eq c16_i32_485 c0_i32_486
  let c1_i32_487 : BitVec 32 := 1#32
  let v841 : BitVec 32 := Scalar.select v840 c1_i32_487 c16_i32_485
  let v842 : BitVec 32 := Scalar.remsi v839 v841
  let c0_i32_489 : BitVec 32 := 0#32
  let v844 : BitVec 1 := Scalar.cmpi .slt v842 c0_i32_489
  let c0_i32_490 : BitVec 32 := 0#32
  let v845 : BitVec 1 := Scalar.cmpi .slt v841 c0_i32_490
  let v846 : BitVec 1 := Scalar.xori v844 v845
  let c0_i32_488 : BitVec 32 := 0#32
  let v843 : BitVec 1 := Scalar.cmpi .ne v842 c0_i32_488
  let v847 : BitVec 1 := Scalar.andi v846 v843
  let v848 : BitVec 32 := Scalar.addi v842 v841
  let v849 : BitVec 32 := Scalar.select v847 v848 v842
  let c0_i32_1235 : BitVec 32 := 0#32
  let v1973 : BitVec 1 := Scalar.cmpi .sgt v849 c0_i32_1235
  let v1974 : BitVec 32 := Scalar.extui v1973
  let c0_i32_1236 : BitVec 32 := 0#32
  let v1975 : BitVec 1 := Scalar.cmpi .slt v849 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v849 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v849 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev14 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let v1002 : BitVec 32 := Scalar.extui v860
  let c0_i32_567 : BitVec 32 := 0#32
  let v1003 : BitVec 1 := Scalar.cmpi .ne v1002 c0_i32_567
  v1003

def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c0_i32_1217 : BitVec 32 := 0#32
  let v1941 : BitVec 1 := Scalar.cmpi .sgt v787 c0_i32_1217
  let v1942 : BitVec 32 := Scalar.extui v1941
  let c0_i32_1218 : BitVec 32 := 0#32
  let v1943 : BitVec 1 := Scalar.cmpi .slt v787 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v787 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v787 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v814 : BitVec 32 := Scalar.addi v2 c3_i32_467
  let c16_i32_468 : BitVec 32 := 16#32
  let c0_i32_469 : BitVec 32 := 0#32
  let v815 : BitVec 1 := Scalar.cmpi .eq c16_i32_468 c0_i32_469
  let c1_i32_470 : BitVec 32 := 1#32
  let v816 : BitVec 32 := Scalar.select v815 c1_i32_470 c16_i32_468
  let v817 : BitVec 32 := Scalar.remsi v814 v816
  let c0_i32_472 : BitVec 32 := 0#32
  let v819 : BitVec 1 := Scalar.cmpi .slt v817 c0_i32_472
  let c0_i32_473 : BitVec 32 := 0#32
  let v820 : BitVec 1 := Scalar.cmpi .slt v816 c0_i32_473
  let v821 : BitVec 1 := Scalar.xori v819 v820
  let c0_i32_471 : BitVec 32 := 0#32
  let v818 : BitVec 1 := Scalar.cmpi .ne v817 c0_i32_471
  let v822 : BitVec 1 := Scalar.andi v821 v818
  let v823 : BitVec 32 := Scalar.addi v817 v816
  let v824 : BitVec 32 := Scalar.select v822 v823 v817
  let c0_i32_1224 : BitVec 32 := 0#32
  let v1958 : BitVec 1 := Scalar.cmpi .sgt v824 c0_i32_1224
  let v1959 : BitVec 32 := Scalar.extui v1958
  let c0_i32_1225 : BitVec 32 := 0#32
  let v1960 : BitVec 1 := Scalar.cmpi .slt v824 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v824 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v824 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c0_i32_1217 : BitVec 32 := 0#32
  let v1941 : BitVec 1 := Scalar.cmpi .sgt v787 c0_i32_1217
  let v1942 : BitVec 32 := Scalar.extui v1941
  let c0_i32_1218 : BitVec 32 := 0#32
  let v1943 : BitVec 1 := Scalar.cmpi .slt v787 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v787 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v787 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off41 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v814 : BitVec 32 := Scalar.addi v2 c3_i32_467
  let c16_i32_468 : BitVec 32 := 16#32
  let c0_i32_469 : BitVec 32 := 0#32
  let v815 : BitVec 1 := Scalar.cmpi .eq c16_i32_468 c0_i32_469
  let c1_i32_470 : BitVec 32 := 1#32
  let v816 : BitVec 32 := Scalar.select v815 c1_i32_470 c16_i32_468
  let v817 : BitVec 32 := Scalar.remsi v814 v816
  let c0_i32_472 : BitVec 32 := 0#32
  let v819 : BitVec 1 := Scalar.cmpi .slt v817 c0_i32_472
  let c0_i32_473 : BitVec 32 := 0#32
  let v820 : BitVec 1 := Scalar.cmpi .slt v816 c0_i32_473
  let v821 : BitVec 1 := Scalar.xori v819 v820
  let c0_i32_471 : BitVec 32 := 0#32
  let v818 : BitVec 1 := Scalar.cmpi .ne v817 c0_i32_471
  let v822 : BitVec 1 := Scalar.andi v821 v818
  let v823 : BitVec 32 := Scalar.addi v817 v816
  let v824 : BitVec 32 := Scalar.select v822 v823 v817
  let c0_i32_1224 : BitVec 32 := 0#32
  let v1958 : BitVec 1 := Scalar.cmpi .sgt v824 c0_i32_1224
  let v1959 : BitVec 32 := Scalar.extui v1958
  let c0_i32_1225 : BitVec 32 := 0#32
  let v1960 : BitVec 1 := Scalar.cmpi .slt v824 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v824 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v824 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let true_568 : BitVec 1 := 1#1
  let v1004 : BitVec 1 := Scalar.xori v860 true_568
  let v1005 : BitVec 32 := Scalar.extui v1004
  let c0_i32_573 : BitVec 32 := 0#32
  let v1006 : BitVec 1 := Scalar.cmpi .ne v1005 c0_i32_573
  v1006

def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let v788 : BitVec 32 := Scalar.subi v2 c1_i32_449
  let c3_i32_450 : BitVec 32 := 3#32
  let v789 : BitVec 32 := Scalar.subi v788 c3_i32_450
  let c32_i32_451 : BitVec 32 := 32#32
  let v790 : BitVec 32 := Scalar.addi v789 c32_i32_451
  let c16_i32_452 : BitVec 32 := 16#32
  let c0_i32_453 : BitVec 32 := 0#32
  let v791 : BitVec 1 := Scalar.cmpi .eq c16_i32_452 c0_i32_453
  let c1_i32_454 : BitVec 32 := 1#32
  let v792 : BitVec 32 := Scalar.select v791 c1_i32_454 c16_i32_452
  let v793 : BitVec 32 := Scalar.remsi v790 v792
  let c0_i32_456 : BitVec 32 := 0#32
  let v795 : BitVec 1 := Scalar.cmpi .slt v793 c0_i32_456
  let c0_i32_457 : BitVec 32 := 0#32
  let v796 : BitVec 1 := Scalar.cmpi .slt v792 c0_i32_457
  let v797 : BitVec 1 := Scalar.xori v795 v796
  let c0_i32_455 : BitVec 32 := 0#32
  let v794 : BitVec 1 := Scalar.cmpi .ne v793 c0_i32_455
  let v798 : BitVec 1 := Scalar.andi v797 v794
  let v799 : BitVec 32 := Scalar.addi v793 v792
  let v800 : BitVec 32 := Scalar.select v798 v799 v793
  let c0_i32_520 : BitVec 32 := 0#32
  let v913 : BitVec 1 := Scalar.cmpi .sgt v800 c0_i32_520
  let v914 : BitVec 32 := Scalar.extui v913
  let c0_i32_521 : BitVec 32 := 0#32
  let v915 : BitVec 1 := Scalar.cmpi .slt v800 c0_i32_521
  let v916 : BitVec 32 := Scalar.extui v915
  let v917 : BitVec 32 := Scalar.subi v914 v916
  let c2_i32_519 : BitVec 32 := 2#32
  let c0_i32_522 : BitVec 32 := 0#32
  let v918 : BitVec 1 := Scalar.cmpi .sgt c2_i32_519 c0_i32_522
  let v919 : BitVec 32 := Scalar.extui v918
  let c0_i32_523 : BitVec 32 := 0#32
  let v920 : BitVec 1 := Scalar.cmpi .slt c2_i32_519 c0_i32_523
  let v921 : BitVec 32 := Scalar.extui v920
  let v922 : BitVec 32 := Scalar.subi v919 v921
  let v923 : BitVec 1 := Scalar.cmpi .ne v917 v922
  let v924 : BitVec 32 := Scalar.remsi v800 c2_i32_519
  let c0_i32_524 : BitVec 32 := 0#32
  let v925 : BitVec 1 := Scalar.cmpi .ne v924 c0_i32_524
  let v926 : BitVec 1 := Scalar.andi v923 v925
  let v912 : BitVec 32 := Scalar.divsi v800 c2_i32_519
  let c1_i32_525 : BitVec 32 := 1#32
  let v927 : BitVec 32 := Scalar.subi v912 c1_i32_525
  let v928 : BitVec 32 := Scalar.select v926 v927 v912
  let c0_i32_1218 : BitVec 32 := 0#32
  let c0_i32_1219 : BitVec 32 := 0#32
  let c0_i32_1220 : BitVec 32 := 0#32
  ![v928.toNat, 0, 0, 0]
def k0_off43 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_474 : BitVec 32 := 1#32
  let v825 : BitVec 32 := Scalar.addi v2 c1_i32_474
  let c3_i32_475 : BitVec 32 := 3#32
  let v826 : BitVec 32 := Scalar.addi v825 c3_i32_475
  let c16_i32_476 : BitVec 32 := 16#32
  let c0_i32_477 : BitVec 32 := 0#32
  let v827 : BitVec 1 := Scalar.cmpi .eq c16_i32_476 c0_i32_477
  let c1_i32_478 : BitVec 32 := 1#32
  let v828 : BitVec 32 := Scalar.select v827 c1_i32_478 c16_i32_476
  let v829 : BitVec 32 := Scalar.remsi v826 v828
  let c0_i32_480 : BitVec 32 := 0#32
  let v831 : BitVec 1 := Scalar.cmpi .slt v829 c0_i32_480
  let c0_i32_481 : BitVec 32 := 0#32
  let v832 : BitVec 1 := Scalar.cmpi .slt v828 c0_i32_481
  let v833 : BitVec 1 := Scalar.xori v831 v832
  let c0_i32_479 : BitVec 32 := 0#32
  let v830 : BitVec 1 := Scalar.cmpi .ne v829 c0_i32_479
  let v834 : BitVec 1 := Scalar.andi v833 v830
  let v835 : BitVec 32 := Scalar.addi v829 v828
  let v836 : BitVec 32 := Scalar.select v834 v835 v829
  let c0_i32_548 : BitVec 32 := 0#32
  let v981 : BitVec 1 := Scalar.cmpi .sgt v836 c0_i32_548
  let v982 : BitVec 32 := Scalar.extui v981
  let c0_i32_549 : BitVec 32 := 0#32
  let v983 : BitVec 1 := Scalar.cmpi .slt v836 c0_i32_549
  let v984 : BitVec 32 := Scalar.extui v983
  let v985 : BitVec 32 := Scalar.subi v982 v984
  let c2_i32_547 : BitVec 32 := 2#32
  let c0_i32_550 : BitVec 32 := 0#32
  let v986 : BitVec 1 := Scalar.cmpi .sgt c2_i32_547 c0_i32_550
  let v987 : BitVec 32 := Scalar.extui v986
  let c0_i32_551 : BitVec 32 := 0#32
  let v988 : BitVec 1 := Scalar.cmpi .slt c2_i32_547 c0_i32_551
  let v989 : BitVec 32 := Scalar.extui v988
  let v990 : BitVec 32 := Scalar.subi v987 v989
  let v991 : BitVec 1 := Scalar.cmpi .ne v985 v990
  let v992 : BitVec 32 := Scalar.remsi v836 c2_i32_547
  let c0_i32_552 : BitVec 32 := 0#32
  let v993 : BitVec 1 := Scalar.cmpi .ne v992 c0_i32_552
  let v994 : BitVec 1 := Scalar.andi v991 v993
  let v980 : BitVec 32 := Scalar.divsi v836 c2_i32_547
  let c1_i32_553 : BitVec 32 := 1#32
  let v995 : BitVec 32 := Scalar.subi v980 c1_i32_553
  let v996 : BitVec 32 := Scalar.select v994 v995 v980
  let c0_i32_1226 : BitVec 32 := 0#32
  let c0_i32_1227 : BitVec 32 := 0#32
  let c0_i32_1228 : BitVec 32 := 0#32
  ![v996.toNat, 0, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let v1007 : BitVec 32 := Scalar.extui v860
  let c0_i32_582 : BitVec 32 := 0#32
  let v1008 : BitVec 1 := Scalar.cmpi .ne v1007 c0_i32_582
  v1008

def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c0_i32_1225 : BitVec 32 := 0#32
  let v1949 : BitVec 1 := Scalar.cmpi .sgt v787 c0_i32_1225
  let v1950 : BitVec 32 := Scalar.extui v1949
  let c0_i32_1226 : BitVec 32 := 0#32
  let v1951 : BitVec 1 := Scalar.cmpi .slt v787 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v787 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v787 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off45 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v814 : BitVec 32 := Scalar.addi v2 c3_i32_467
  let c16_i32_468 : BitVec 32 := 16#32
  let c0_i32_469 : BitVec 32 := 0#32
  let v815 : BitVec 1 := Scalar.cmpi .eq c16_i32_468 c0_i32_469
  let c1_i32_470 : BitVec 32 := 1#32
  let v816 : BitVec 32 := Scalar.select v815 c1_i32_470 c16_i32_468
  let v817 : BitVec 32 := Scalar.remsi v814 v816
  let c0_i32_472 : BitVec 32 := 0#32
  let v819 : BitVec 1 := Scalar.cmpi .slt v817 c0_i32_472
  let c0_i32_473 : BitVec 32 := 0#32
  let v820 : BitVec 1 := Scalar.cmpi .slt v816 c0_i32_473
  let v821 : BitVec 1 := Scalar.xori v819 v820
  let c0_i32_471 : BitVec 32 := 0#32
  let v818 : BitVec 1 := Scalar.cmpi .ne v817 c0_i32_471
  let v822 : BitVec 1 := Scalar.andi v821 v818
  let v823 : BitVec 32 := Scalar.addi v817 v816
  let v824 : BitVec 32 := Scalar.select v822 v823 v817
  let c0_i32_1257 : BitVec 32 := 0#32
  let v2002 : BitVec 1 := Scalar.cmpi .sgt v824 c0_i32_1257
  let v2003 : BitVec 32 := Scalar.extui v2002
  let c0_i32_1258 : BitVec 32 := 0#32
  let v2004 : BitVec 1 := Scalar.cmpi .slt v824 c0_i32_1258
  let v2005 : BitVec 32 := Scalar.extui v2004
  let v2006 : BitVec 32 := Scalar.subi v2003 v2005
  let c2_i32_1256 : BitVec 32 := 2#32
  let c0_i32_1259 : BitVec 32 := 0#32
  let v2007 : BitVec 1 := Scalar.cmpi .sgt c2_i32_1256 c0_i32_1259
  let v2008 : BitVec 32 := Scalar.extui v2007
  let c0_i32_1260 : BitVec 32 := 0#32
  let v2009 : BitVec 1 := Scalar.cmpi .slt c2_i32_1256 c0_i32_1260
  let v2010 : BitVec 32 := Scalar.extui v2009
  let v2011 : BitVec 32 := Scalar.subi v2008 v2010
  let v2012 : BitVec 1 := Scalar.cmpi .ne v2006 v2011
  let v2013 : BitVec 32 := Scalar.remsi v824 c2_i32_1256
  let c0_i32_1261 : BitVec 32 := 0#32
  let v2014 : BitVec 1 := Scalar.cmpi .ne v2013 c0_i32_1261
  let v2015 : BitVec 1 := Scalar.andi v2012 v2014
  let v2001 : BitVec 32 := Scalar.divsi v824 c2_i32_1256
  let c1_i32_1262 : BitVec 32 := 1#32
  let v2016 : BitVec 32 := Scalar.subi v2001 c1_i32_1262
  let v2017 : BitVec 32 := Scalar.select v2015 v2016 v2001
  let v2018 : Index := Scalar.indexCast v2017
  let c0_1263 : Index := 0#32
  let c0_1264 : Index := 0#32
  let c0_1265 : Index := 0#32
  ![v2018.toNat, 0, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c2_i32_491 : BitVec 32 := 2#32
  let c0_i32_492 : BitVec 32 := 0#32
  let v850 : BitVec 1 := Scalar.cmpi .eq c2_i32_491 c0_i32_492
  let c1_i32_493 : BitVec 32 := 1#32
  let v851 : BitVec 32 := Scalar.select v850 c1_i32_493 c2_i32_491
  let v852 : BitVec 32 := Scalar.remsi v787 v851
  let c0_i32_495 : BitVec 32 := 0#32
  let v854 : BitVec 1 := Scalar.cmpi .slt v852 c0_i32_495
  let c0_i32_496 : BitVec 32 := 0#32
  let v855 : BitVec 1 := Scalar.cmpi .slt v851 c0_i32_496
  let v856 : BitVec 1 := Scalar.xori v854 v855
  let c0_i32_494 : BitVec 32 := 0#32
  let v853 : BitVec 1 := Scalar.cmpi .ne v852 c0_i32_494
  let v857 : BitVec 1 := Scalar.andi v856 v853
  let v858 : BitVec 32 := Scalar.addi v852 v851
  let v859 : BitVec 32 := Scalar.select v857 v858 v852
  let c0_i32_497 : BitVec 32 := 0#32
  let v860 : BitVec 1 := Scalar.cmpi .eq v859 c0_i32_497
  let v1009 : BitVec 32 := Scalar.extui v860
  let c0_i32_587 : BitVec 32 := 0#32
  let v1010 : BitVec 1 := Scalar.cmpi .ne v1009 c0_i32_587
  v1010

def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v776 : BitVec 32 := Scalar.subi v2 c3_i32
  let c32_i32_442 : BitVec 32 := 32#32
  let v777 : BitVec 32 := Scalar.addi v776 c32_i32_442
  let c16_i32_443 : BitVec 32 := 16#32
  let c0_i32_444 : BitVec 32 := 0#32
  let v778 : BitVec 1 := Scalar.cmpi .eq c16_i32_443 c0_i32_444
  let c1_i32_445 : BitVec 32 := 1#32
  let v779 : BitVec 32 := Scalar.select v778 c1_i32_445 c16_i32_443
  let v780 : BitVec 32 := Scalar.remsi v777 v779
  let c0_i32_447 : BitVec 32 := 0#32
  let v782 : BitVec 1 := Scalar.cmpi .slt v780 c0_i32_447
  let c0_i32_448 : BitVec 32 := 0#32
  let v783 : BitVec 1 := Scalar.cmpi .slt v779 c0_i32_448
  let v784 : BitVec 1 := Scalar.xori v782 v783
  let c0_i32_446 : BitVec 32 := 0#32
  let v781 : BitVec 1 := Scalar.cmpi .ne v780 c0_i32_446
  let v785 : BitVec 1 := Scalar.andi v784 v781
  let v786 : BitVec 32 := Scalar.addi v780 v779
  let v787 : BitVec 32 := Scalar.select v785 v786 v780
  let c0_i32_499 : BitVec 32 := 0#32
  let v862 : BitVec 1 := Scalar.cmpi .sgt v787 c0_i32_499
  let v863 : BitVec 32 := Scalar.extui v862
  let c0_i32_500 : BitVec 32 := 0#32
  let v864 : BitVec 1 := Scalar.cmpi .slt v787 c0_i32_500
  let v865 : BitVec 32 := Scalar.extui v864
  let v866 : BitVec 32 := Scalar.subi v863 v865
  let c2_i32_498 : BitVec 32 := 2#32
  let c0_i32_501 : BitVec 32 := 0#32
  let v867 : BitVec 1 := Scalar.cmpi .sgt c2_i32_498 c0_i32_501
  let v868 : BitVec 32 := Scalar.extui v867
  let c0_i32_502 : BitVec 32 := 0#32
  let v869 : BitVec 1 := Scalar.cmpi .slt c2_i32_498 c0_i32_502
  let v870 : BitVec 32 := Scalar.extui v869
  let v871 : BitVec 32 := Scalar.subi v868 v870
  let v872 : BitVec 1 := Scalar.cmpi .ne v866 v871
  let v873 : BitVec 32 := Scalar.remsi v787 c2_i32_498
  let c0_i32_503 : BitVec 32 := 0#32
  let v874 : BitVec 1 := Scalar.cmpi .ne v873 c0_i32_503
  let v875 : BitVec 1 := Scalar.andi v872 v874
  let v861 : BitVec 32 := Scalar.divsi v787 c2_i32_498
  let c1_i32_504 : BitVec 32 := 1#32
  let v876 : BitVec 32 := Scalar.subi v861 c1_i32_504
  let v877 : BitVec 32 := Scalar.select v875 v876 v861
  let c0_i32_1217 : BitVec 32 := 0#32
  let c0_i32_1218 : BitVec 32 := 0#32
  let c0_i32_1219 : BitVec 32 := 0#32
  ![v877.toNat, 0, 0, 0]
def k0_off47 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_467 : BitVec 32 := 3#32
  let v814 : BitVec 32 := Scalar.addi v2 c3_i32_467
  let c16_i32_468 : BitVec 32 := 16#32
  let c0_i32_469 : BitVec 32 := 0#32
  let v815 : BitVec 1 := Scalar.cmpi .eq c16_i32_468 c0_i32_469
  let c1_i32_470 : BitVec 32 := 1#32
  let v816 : BitVec 32 := Scalar.select v815 c1_i32_470 c16_i32_468
  let v817 : BitVec 32 := Scalar.remsi v814 v816
  let c0_i32_472 : BitVec 32 := 0#32
  let v819 : BitVec 1 := Scalar.cmpi .slt v817 c0_i32_472
  let c0_i32_473 : BitVec 32 := 0#32
  let v820 : BitVec 1 := Scalar.cmpi .slt v816 c0_i32_473
  let v821 : BitVec 1 := Scalar.xori v819 v820
  let c0_i32_471 : BitVec 32 := 0#32
  let v818 : BitVec 1 := Scalar.cmpi .ne v817 c0_i32_471
  let v822 : BitVec 1 := Scalar.andi v821 v818
  let v823 : BitVec 32 := Scalar.addi v817 v816
  let v824 : BitVec 32 := Scalar.select v822 v823 v817
  let c0_i32_527 : BitVec 32 := 0#32
  let v930 : BitVec 1 := Scalar.cmpi .sgt v824 c0_i32_527
  let v931 : BitVec 32 := Scalar.extui v930
  let c0_i32_528 : BitVec 32 := 0#32
  let v932 : BitVec 1 := Scalar.cmpi .slt v824 c0_i32_528
  let v933 : BitVec 32 := Scalar.extui v932
  let v934 : BitVec 32 := Scalar.subi v931 v933
  let c2_i32_526 : BitVec 32 := 2#32
  let c0_i32_529 : BitVec 32 := 0#32
  let v935 : BitVec 1 := Scalar.cmpi .sgt c2_i32_526 c0_i32_529
  let v936 : BitVec 32 := Scalar.extui v935
  let c0_i32_530 : BitVec 32 := 0#32
  let v937 : BitVec 1 := Scalar.cmpi .slt c2_i32_526 c0_i32_530
  let v938 : BitVec 32 := Scalar.extui v937
  let v939 : BitVec 32 := Scalar.subi v936 v938
  let v940 : BitVec 1 := Scalar.cmpi .ne v934 v939
  let v941 : BitVec 32 := Scalar.remsi v824 c2_i32_526
  let c0_i32_531 : BitVec 32 := 0#32
  let v942 : BitVec 1 := Scalar.cmpi .ne v941 c0_i32_531
  let v943 : BitVec 1 := Scalar.andi v940 v942
  let v929 : BitVec 32 := Scalar.divsi v824 c2_i32_526
  let c1_i32_532 : BitVec 32 := 1#32
  let v944 : BitVec 32 := Scalar.subi v929 c1_i32_532
  let v945 : BitVec 32 := Scalar.select v943 v944 v929
  let c0_i32_1224 : BitVec 32 := 0#32
  let c0_i32_1225 : BitVec 32 := 0#32
  let c0_i32_1226 : BitVec 32 := 0#32
  ![v945.toNat, 0, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let v1235 : BitVec 32 := Scalar.extui v1098
  let c0_i32_712 : BitVec 32 := 0#32
  let v1236 : BitVec 1 := Scalar.cmpi .ne v1235 c0_i32_712
  v1236

def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c0_i32_660 : BitVec 32 := 0#32
  let v1117 : BitVec 1 := Scalar.cmpi .sgt v1025 c0_i32_660
  let v1118 : BitVec 32 := Scalar.extui v1117
  let c0_i32_661 : BitVec 32 := 0#32
  let v1119 : BitVec 1 := Scalar.cmpi .slt v1025 c0_i32_661
  let v1120 : BitVec 32 := Scalar.extui v1119
  let v1121 : BitVec 32 := Scalar.subi v1118 v1120
  let c2_i32_659 : BitVec 32 := 2#32
  let c0_i32_662 : BitVec 32 := 0#32
  let v1122 : BitVec 1 := Scalar.cmpi .sgt c2_i32_659 c0_i32_662
  let v1123 : BitVec 32 := Scalar.extui v1122
  let c0_i32_663 : BitVec 32 := 0#32
  let v1124 : BitVec 1 := Scalar.cmpi .slt c2_i32_659 c0_i32_663
  let v1125 : BitVec 32 := Scalar.extui v1124
  let v1126 : BitVec 32 := Scalar.subi v1123 v1125
  let v1127 : BitVec 1 := Scalar.cmpi .ne v1121 v1126
  let v1128 : BitVec 32 := Scalar.remsi v1025 c2_i32_659
  let c0_i32_664 : BitVec 32 := 0#32
  let v1129 : BitVec 1 := Scalar.cmpi .ne v1128 c0_i32_664
  let v1130 : BitVec 1 := Scalar.andi v1127 v1129
  let v1116 : BitVec 32 := Scalar.divsi v1025 c2_i32_659
  let c1_i32_665 : BitVec 32 := 1#32
  let v1131 : BitVec 32 := Scalar.subi v1116 c1_i32_665
  let v1132 : BitVec 32 := Scalar.select v1130 v1131 v1116
  let c0_i32_1218 : BitVec 32 := 0#32
  let c0_i32_1219 : BitVec 32 := 0#32
  let c0_i32_1220 : BitVec 32 := 0#32
  ![v1132.toNat, 0, 0, 0]
def k0_dev15 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off49 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_621 : BitVec 32 := 4#32
  let v1052 : BitVec 32 := Scalar.addi v2 c4_i32_621
  let c16_i32_622 : BitVec 32 := 16#32
  let c0_i32_623 : BitVec 32 := 0#32
  let v1053 : BitVec 1 := Scalar.cmpi .eq c16_i32_622 c0_i32_623
  let c1_i32_624 : BitVec 32 := 1#32
  let v1054 : BitVec 32 := Scalar.select v1053 c1_i32_624 c16_i32_622
  let v1055 : BitVec 32 := Scalar.remsi v1052 v1054
  let c0_i32_626 : BitVec 32 := 0#32
  let v1057 : BitVec 1 := Scalar.cmpi .slt v1055 c0_i32_626
  let c0_i32_627 : BitVec 32 := 0#32
  let v1058 : BitVec 1 := Scalar.cmpi .slt v1054 c0_i32_627
  let v1059 : BitVec 1 := Scalar.xori v1057 v1058
  let c0_i32_625 : BitVec 32 := 0#32
  let v1056 : BitVec 1 := Scalar.cmpi .ne v1055 c0_i32_625
  let v1060 : BitVec 1 := Scalar.andi v1059 v1056
  let v1061 : BitVec 32 := Scalar.addi v1055 v1054
  let v1062 : BitVec 32 := Scalar.select v1060 v1061 v1055
  let c0_i32_688 : BitVec 32 := 0#32
  let v1185 : BitVec 1 := Scalar.cmpi .sgt v1062 c0_i32_688
  let v1186 : BitVec 32 := Scalar.extui v1185
  let c0_i32_689 : BitVec 32 := 0#32
  let v1187 : BitVec 1 := Scalar.cmpi .slt v1062 c0_i32_689
  let v1188 : BitVec 32 := Scalar.extui v1187
  let v1189 : BitVec 32 := Scalar.subi v1186 v1188
  let c2_i32_687 : BitVec 32 := 2#32
  let c0_i32_690 : BitVec 32 := 0#32
  let v1190 : BitVec 1 := Scalar.cmpi .sgt c2_i32_687 c0_i32_690
  let v1191 : BitVec 32 := Scalar.extui v1190
  let c0_i32_691 : BitVec 32 := 0#32
  let v1192 : BitVec 1 := Scalar.cmpi .slt c2_i32_687 c0_i32_691
  let v1193 : BitVec 32 := Scalar.extui v1192
  let v1194 : BitVec 32 := Scalar.subi v1191 v1193
  let v1195 : BitVec 1 := Scalar.cmpi .ne v1189 v1194
  let v1196 : BitVec 32 := Scalar.remsi v1062 c2_i32_687
  let c0_i32_692 : BitVec 32 := 0#32
  let v1197 : BitVec 1 := Scalar.cmpi .ne v1196 c0_i32_692
  let v1198 : BitVec 1 := Scalar.andi v1195 v1197
  let v1184 : BitVec 32 := Scalar.divsi v1062 c2_i32_687
  let c1_i32_693 : BitVec 32 := 1#32
  let v1199 : BitVec 32 := Scalar.subi v1184 c1_i32_693
  let v1200 : BitVec 32 := Scalar.select v1198 v1199 v1184
  let c0_i32_1226 : BitVec 32 := 0#32
  let c0_i32_1227 : BitVec 32 := 0#32
  let c0_i32_1228 : BitVec 32 := 0#32
  ![v1200.toNat, 0, 0, 0]
def k0_dev16 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let true_713 : BitVec 1 := 1#1
  let v1237 : BitVec 1 := Scalar.xori v1098 true_713
  let v1238 : BitVec 32 := Scalar.extui v1237
  let c0_i32_720 : BitVec 32 := 0#32
  let v1239 : BitVec 1 := Scalar.cmpi .ne v1238 c0_i32_720
  v1239

def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_612 : BitVec 32 := 1#32
  let v1039 : BitVec 32 := Scalar.addi v2 c1_i32_612
  let c4_i32_613 : BitVec 32 := 4#32
  let v1040 : BitVec 32 := Scalar.subi v1039 c4_i32_613
  let c32_i32_614 : BitVec 32 := 32#32
  let v1041 : BitVec 32 := Scalar.addi v1040 c32_i32_614
  let c16_i32_615 : BitVec 32 := 16#32
  let c0_i32_616 : BitVec 32 := 0#32
  let v1042 : BitVec 1 := Scalar.cmpi .eq c16_i32_615 c0_i32_616
  let c1_i32_617 : BitVec 32 := 1#32
  let v1043 : BitVec 32 := Scalar.select v1042 c1_i32_617 c16_i32_615
  let v1044 : BitVec 32 := Scalar.remsi v1041 v1043
  let c0_i32_619 : BitVec 32 := 0#32
  let v1046 : BitVec 1 := Scalar.cmpi .slt v1044 c0_i32_619
  let c0_i32_620 : BitVec 32 := 0#32
  let v1047 : BitVec 1 := Scalar.cmpi .slt v1043 c0_i32_620
  let v1048 : BitVec 1 := Scalar.xori v1046 v1047
  let c0_i32_618 : BitVec 32 := 0#32
  let v1045 : BitVec 1 := Scalar.cmpi .ne v1044 c0_i32_618
  let v1049 : BitVec 1 := Scalar.andi v1048 v1045
  let v1050 : BitVec 32 := Scalar.addi v1044 v1043
  let v1051 : BitVec 32 := Scalar.select v1049 v1050 v1044
  let c0_i32_1217 : BitVec 32 := 0#32
  let v1941 : BitVec 1 := Scalar.cmpi .sgt v1051 c0_i32_1217
  let v1942 : BitVec 32 := Scalar.extui v1941
  let c0_i32_1218 : BitVec 32 := 0#32
  let v1943 : BitVec 1 := Scalar.cmpi .slt v1051 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1051 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1051 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev17 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off51 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_636 : BitVec 32 := 1#32
  let v1075 : BitVec 32 := Scalar.subi v2 c1_i32_636
  let c4_i32_637 : BitVec 32 := 4#32
  let v1076 : BitVec 32 := Scalar.addi v1075 c4_i32_637
  let c16_i32_638 : BitVec 32 := 16#32
  let v1077 : BitVec 32 := Scalar.addi v1076 c16_i32_638
  let c16_i32_639 : BitVec 32 := 16#32
  let c0_i32_640 : BitVec 32 := 0#32
  let v1078 : BitVec 1 := Scalar.cmpi .eq c16_i32_639 c0_i32_640
  let c1_i32_641 : BitVec 32 := 1#32
  let v1079 : BitVec 32 := Scalar.select v1078 c1_i32_641 c16_i32_639
  let v1080 : BitVec 32 := Scalar.remsi v1077 v1079
  let c0_i32_643 : BitVec 32 := 0#32
  let v1082 : BitVec 1 := Scalar.cmpi .slt v1080 c0_i32_643
  let c0_i32_644 : BitVec 32 := 0#32
  let v1083 : BitVec 1 := Scalar.cmpi .slt v1079 c0_i32_644
  let v1084 : BitVec 1 := Scalar.xori v1082 v1083
  let c0_i32_642 : BitVec 32 := 0#32
  let v1081 : BitVec 1 := Scalar.cmpi .ne v1080 c0_i32_642
  let v1085 : BitVec 1 := Scalar.andi v1084 v1081
  let v1086 : BitVec 32 := Scalar.addi v1080 v1079
  let v1087 : BitVec 32 := Scalar.select v1085 v1086 v1080
  let c0_i32_1235 : BitVec 32 := 0#32
  let v1973 : BitVec 1 := Scalar.cmpi .sgt v1087 c0_i32_1235
  let v1974 : BitVec 32 := Scalar.extui v1973
  let c0_i32_1236 : BitVec 32 := 0#32
  let v1975 : BitVec 1 := Scalar.cmpi .slt v1087 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v1087 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v1087 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev18 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let v1240 : BitVec 32 := Scalar.extui v1098
  let c0_i32_721 : BitVec 32 := 0#32
  let v1241 : BitVec 1 := Scalar.cmpi .ne v1240 c0_i32_721
  v1241

def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c0_i32_1217 : BitVec 32 := 0#32
  let v1941 : BitVec 1 := Scalar.cmpi .sgt v1025 c0_i32_1217
  let v1942 : BitVec 32 := Scalar.extui v1941
  let c0_i32_1218 : BitVec 32 := 0#32
  let v1943 : BitVec 1 := Scalar.cmpi .slt v1025 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1025 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1025 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off53 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_621 : BitVec 32 := 4#32
  let v1052 : BitVec 32 := Scalar.addi v2 c4_i32_621
  let c16_i32_622 : BitVec 32 := 16#32
  let c0_i32_623 : BitVec 32 := 0#32
  let v1053 : BitVec 1 := Scalar.cmpi .eq c16_i32_622 c0_i32_623
  let c1_i32_624 : BitVec 32 := 1#32
  let v1054 : BitVec 32 := Scalar.select v1053 c1_i32_624 c16_i32_622
  let v1055 : BitVec 32 := Scalar.remsi v1052 v1054
  let c0_i32_626 : BitVec 32 := 0#32
  let v1057 : BitVec 1 := Scalar.cmpi .slt v1055 c0_i32_626
  let c0_i32_627 : BitVec 32 := 0#32
  let v1058 : BitVec 1 := Scalar.cmpi .slt v1054 c0_i32_627
  let v1059 : BitVec 1 := Scalar.xori v1057 v1058
  let c0_i32_625 : BitVec 32 := 0#32
  let v1056 : BitVec 1 := Scalar.cmpi .ne v1055 c0_i32_625
  let v1060 : BitVec 1 := Scalar.andi v1059 v1056
  let v1061 : BitVec 32 := Scalar.addi v1055 v1054
  let v1062 : BitVec 32 := Scalar.select v1060 v1061 v1055
  let c0_i32_1224 : BitVec 32 := 0#32
  let v1958 : BitVec 1 := Scalar.cmpi .sgt v1062 c0_i32_1224
  let v1959 : BitVec 32 := Scalar.extui v1958
  let c0_i32_1225 : BitVec 32 := 0#32
  let v1960 : BitVec 1 := Scalar.cmpi .slt v1062 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1062 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1062 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c0_i32_1217 : BitVec 32 := 0#32
  let v1941 : BitVec 1 := Scalar.cmpi .sgt v1025 c0_i32_1217
  let v1942 : BitVec 32 := Scalar.extui v1941
  let c0_i32_1218 : BitVec 32 := 0#32
  let v1943 : BitVec 1 := Scalar.cmpi .slt v1025 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1025 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1025 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off55 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_621 : BitVec 32 := 4#32
  let v1052 : BitVec 32 := Scalar.addi v2 c4_i32_621
  let c16_i32_622 : BitVec 32 := 16#32
  let c0_i32_623 : BitVec 32 := 0#32
  let v1053 : BitVec 1 := Scalar.cmpi .eq c16_i32_622 c0_i32_623
  let c1_i32_624 : BitVec 32 := 1#32
  let v1054 : BitVec 32 := Scalar.select v1053 c1_i32_624 c16_i32_622
  let v1055 : BitVec 32 := Scalar.remsi v1052 v1054
  let c0_i32_626 : BitVec 32 := 0#32
  let v1057 : BitVec 1 := Scalar.cmpi .slt v1055 c0_i32_626
  let c0_i32_627 : BitVec 32 := 0#32
  let v1058 : BitVec 1 := Scalar.cmpi .slt v1054 c0_i32_627
  let v1059 : BitVec 1 := Scalar.xori v1057 v1058
  let c0_i32_625 : BitVec 32 := 0#32
  let v1056 : BitVec 1 := Scalar.cmpi .ne v1055 c0_i32_625
  let v1060 : BitVec 1 := Scalar.andi v1059 v1056
  let v1061 : BitVec 32 := Scalar.addi v1055 v1054
  let v1062 : BitVec 32 := Scalar.select v1060 v1061 v1055
  let c0_i32_1224 : BitVec 32 := 0#32
  let v1958 : BitVec 1 := Scalar.cmpi .sgt v1062 c0_i32_1224
  let v1959 : BitVec 32 := Scalar.extui v1958
  let c0_i32_1225 : BitVec 32 := 0#32
  let v1960 : BitVec 1 := Scalar.cmpi .slt v1062 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1062 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1062 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let true_722 : BitVec 1 := 1#1
  let v1242 : BitVec 1 := Scalar.xori v1098 true_722
  let v1243 : BitVec 32 := Scalar.extui v1242
  let c0_i32_727 : BitVec 32 := 0#32
  let v1244 : BitVec 1 := Scalar.cmpi .ne v1243 c0_i32_727
  v1244

def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_603 : BitVec 32 := 1#32
  let v1026 : BitVec 32 := Scalar.subi v2 c1_i32_603
  let c4_i32_604 : BitVec 32 := 4#32
  let v1027 : BitVec 32 := Scalar.subi v1026 c4_i32_604
  let c32_i32_605 : BitVec 32 := 32#32
  let v1028 : BitVec 32 := Scalar.addi v1027 c32_i32_605
  let c16_i32_606 : BitVec 32 := 16#32
  let c0_i32_607 : BitVec 32 := 0#32
  let v1029 : BitVec 1 := Scalar.cmpi .eq c16_i32_606 c0_i32_607
  let c1_i32_608 : BitVec 32 := 1#32
  let v1030 : BitVec 32 := Scalar.select v1029 c1_i32_608 c16_i32_606
  let v1031 : BitVec 32 := Scalar.remsi v1028 v1030
  let c0_i32_610 : BitVec 32 := 0#32
  let v1033 : BitVec 1 := Scalar.cmpi .slt v1031 c0_i32_610
  let c0_i32_611 : BitVec 32 := 0#32
  let v1034 : BitVec 1 := Scalar.cmpi .slt v1030 c0_i32_611
  let v1035 : BitVec 1 := Scalar.xori v1033 v1034
  let c0_i32_609 : BitVec 32 := 0#32
  let v1032 : BitVec 1 := Scalar.cmpi .ne v1031 c0_i32_609
  let v1036 : BitVec 1 := Scalar.andi v1035 v1032
  let v1037 : BitVec 32 := Scalar.addi v1031 v1030
  let v1038 : BitVec 32 := Scalar.select v1036 v1037 v1031
  let c0_i32_674 : BitVec 32 := 0#32
  let v1151 : BitVec 1 := Scalar.cmpi .sgt v1038 c0_i32_674
  let v1152 : BitVec 32 := Scalar.extui v1151
  let c0_i32_675 : BitVec 32 := 0#32
  let v1153 : BitVec 1 := Scalar.cmpi .slt v1038 c0_i32_675
  let v1154 : BitVec 32 := Scalar.extui v1153
  let v1155 : BitVec 32 := Scalar.subi v1152 v1154
  let c2_i32_673 : BitVec 32 := 2#32
  let c0_i32_676 : BitVec 32 := 0#32
  let v1156 : BitVec 1 := Scalar.cmpi .sgt c2_i32_673 c0_i32_676
  let v1157 : BitVec 32 := Scalar.extui v1156
  let c0_i32_677 : BitVec 32 := 0#32
  let v1158 : BitVec 1 := Scalar.cmpi .slt c2_i32_673 c0_i32_677
  let v1159 : BitVec 32 := Scalar.extui v1158
  let v1160 : BitVec 32 := Scalar.subi v1157 v1159
  let v1161 : BitVec 1 := Scalar.cmpi .ne v1155 v1160
  let v1162 : BitVec 32 := Scalar.remsi v1038 c2_i32_673
  let c0_i32_678 : BitVec 32 := 0#32
  let v1163 : BitVec 1 := Scalar.cmpi .ne v1162 c0_i32_678
  let v1164 : BitVec 1 := Scalar.andi v1161 v1163
  let v1150 : BitVec 32 := Scalar.divsi v1038 c2_i32_673
  let c1_i32_679 : BitVec 32 := 1#32
  let v1165 : BitVec 32 := Scalar.subi v1150 c1_i32_679
  let v1166 : BitVec 32 := Scalar.select v1164 v1165 v1150
  let c0_i32_1218 : BitVec 32 := 0#32
  let c0_i32_1219 : BitVec 32 := 0#32
  let c0_i32_1220 : BitVec 32 := 0#32
  ![v1166.toNat, 0, 0, 0]
def k0_off57 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_628 : BitVec 32 := 1#32
  let v1063 : BitVec 32 := Scalar.addi v2 c1_i32_628
  let c4_i32_629 : BitVec 32 := 4#32
  let v1064 : BitVec 32 := Scalar.addi v1063 c4_i32_629
  let c16_i32_630 : BitVec 32 := 16#32
  let c0_i32_631 : BitVec 32 := 0#32
  let v1065 : BitVec 1 := Scalar.cmpi .eq c16_i32_630 c0_i32_631
  let c1_i32_632 : BitVec 32 := 1#32
  let v1066 : BitVec 32 := Scalar.select v1065 c1_i32_632 c16_i32_630
  let v1067 : BitVec 32 := Scalar.remsi v1064 v1066
  let c0_i32_634 : BitVec 32 := 0#32
  let v1069 : BitVec 1 := Scalar.cmpi .slt v1067 c0_i32_634
  let c0_i32_635 : BitVec 32 := 0#32
  let v1070 : BitVec 1 := Scalar.cmpi .slt v1066 c0_i32_635
  let v1071 : BitVec 1 := Scalar.xori v1069 v1070
  let c0_i32_633 : BitVec 32 := 0#32
  let v1068 : BitVec 1 := Scalar.cmpi .ne v1067 c0_i32_633
  let v1072 : BitVec 1 := Scalar.andi v1071 v1068
  let v1073 : BitVec 32 := Scalar.addi v1067 v1066
  let v1074 : BitVec 32 := Scalar.select v1072 v1073 v1067
  let c0_i32_702 : BitVec 32 := 0#32
  let v1219 : BitVec 1 := Scalar.cmpi .sgt v1074 c0_i32_702
  let v1220 : BitVec 32 := Scalar.extui v1219
  let c0_i32_703 : BitVec 32 := 0#32
  let v1221 : BitVec 1 := Scalar.cmpi .slt v1074 c0_i32_703
  let v1222 : BitVec 32 := Scalar.extui v1221
  let v1223 : BitVec 32 := Scalar.subi v1220 v1222
  let c2_i32_701 : BitVec 32 := 2#32
  let c0_i32_704 : BitVec 32 := 0#32
  let v1224 : BitVec 1 := Scalar.cmpi .sgt c2_i32_701 c0_i32_704
  let v1225 : BitVec 32 := Scalar.extui v1224
  let c0_i32_705 : BitVec 32 := 0#32
  let v1226 : BitVec 1 := Scalar.cmpi .slt c2_i32_701 c0_i32_705
  let v1227 : BitVec 32 := Scalar.extui v1226
  let v1228 : BitVec 32 := Scalar.subi v1225 v1227
  let v1229 : BitVec 1 := Scalar.cmpi .ne v1223 v1228
  let v1230 : BitVec 32 := Scalar.remsi v1074 c2_i32_701
  let c0_i32_706 : BitVec 32 := 0#32
  let v1231 : BitVec 1 := Scalar.cmpi .ne v1230 c0_i32_706
  let v1232 : BitVec 1 := Scalar.andi v1229 v1231
  let v1218 : BitVec 32 := Scalar.divsi v1074 c2_i32_701
  let c1_i32_707 : BitVec 32 := 1#32
  let v1233 : BitVec 32 := Scalar.subi v1218 c1_i32_707
  let v1234 : BitVec 32 := Scalar.select v1232 v1233 v1218
  let c0_i32_1226 : BitVec 32 := 0#32
  let c0_i32_1227 : BitVec 32 := 0#32
  let c0_i32_1228 : BitVec 32 := 0#32
  ![v1234.toNat, 0, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let v1245 : BitVec 32 := Scalar.extui v1098
  let c0_i32_736 : BitVec 32 := 0#32
  let v1246 : BitVec 1 := Scalar.cmpi .ne v1245 c0_i32_736
  v1246

def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c0_i32_1225 : BitVec 32 := 0#32
  let v1949 : BitVec 1 := Scalar.cmpi .sgt v1025 c0_i32_1225
  let v1950 : BitVec 32 := Scalar.extui v1949
  let c0_i32_1226 : BitVec 32 := 0#32
  let v1951 : BitVec 1 := Scalar.cmpi .slt v1025 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v1025 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v1025 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off59 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_621 : BitVec 32 := 4#32
  let v1052 : BitVec 32 := Scalar.addi v2 c4_i32_621
  let c16_i32_622 : BitVec 32 := 16#32
  let c0_i32_623 : BitVec 32 := 0#32
  let v1053 : BitVec 1 := Scalar.cmpi .eq c16_i32_622 c0_i32_623
  let c1_i32_624 : BitVec 32 := 1#32
  let v1054 : BitVec 32 := Scalar.select v1053 c1_i32_624 c16_i32_622
  let v1055 : BitVec 32 := Scalar.remsi v1052 v1054
  let c0_i32_626 : BitVec 32 := 0#32
  let v1057 : BitVec 1 := Scalar.cmpi .slt v1055 c0_i32_626
  let c0_i32_627 : BitVec 32 := 0#32
  let v1058 : BitVec 1 := Scalar.cmpi .slt v1054 c0_i32_627
  let v1059 : BitVec 1 := Scalar.xori v1057 v1058
  let c0_i32_625 : BitVec 32 := 0#32
  let v1056 : BitVec 1 := Scalar.cmpi .ne v1055 c0_i32_625
  let v1060 : BitVec 1 := Scalar.andi v1059 v1056
  let v1061 : BitVec 32 := Scalar.addi v1055 v1054
  let v1062 : BitVec 32 := Scalar.select v1060 v1061 v1055
  let c0_i32_1256 : BitVec 32 := 0#32
  let v2002 : BitVec 1 := Scalar.cmpi .sgt v1062 c0_i32_1256
  let v2003 : BitVec 32 := Scalar.extui v2002
  let c0_i32_1257 : BitVec 32 := 0#32
  let v2004 : BitVec 1 := Scalar.cmpi .slt v1062 c0_i32_1257
  let v2005 : BitVec 32 := Scalar.extui v2004
  let v2006 : BitVec 32 := Scalar.subi v2003 v2005
  let c2_i32_1255 : BitVec 32 := 2#32
  let c0_i32_1258 : BitVec 32 := 0#32
  let v2007 : BitVec 1 := Scalar.cmpi .sgt c2_i32_1255 c0_i32_1258
  let v2008 : BitVec 32 := Scalar.extui v2007
  let c0_i32_1259 : BitVec 32 := 0#32
  let v2009 : BitVec 1 := Scalar.cmpi .slt c2_i32_1255 c0_i32_1259
  let v2010 : BitVec 32 := Scalar.extui v2009
  let v2011 : BitVec 32 := Scalar.subi v2008 v2010
  let v2012 : BitVec 1 := Scalar.cmpi .ne v2006 v2011
  let v2013 : BitVec 32 := Scalar.remsi v1062 c2_i32_1255
  let c0_i32_1260 : BitVec 32 := 0#32
  let v2014 : BitVec 1 := Scalar.cmpi .ne v2013 c0_i32_1260
  let v2015 : BitVec 1 := Scalar.andi v2012 v2014
  let v2001 : BitVec 32 := Scalar.divsi v1062 c2_i32_1255
  let c1_i32_1261 : BitVec 32 := 1#32
  let v2016 : BitVec 32 := Scalar.subi v2001 c1_i32_1261
  let v2017 : BitVec 32 := Scalar.select v2015 v2016 v2001
  let v2018 : Index := Scalar.indexCast v2017
  let c0_1262 : Index := 0#32
  let c0_1263 : Index := 0#32
  let c0_1264 : Index := 0#32
  ![v2018.toNat, 0, 0, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c2_i32_645 : BitVec 32 := 2#32
  let c0_i32_646 : BitVec 32 := 0#32
  let v1088 : BitVec 1 := Scalar.cmpi .eq c2_i32_645 c0_i32_646
  let c1_i32_647 : BitVec 32 := 1#32
  let v1089 : BitVec 32 := Scalar.select v1088 c1_i32_647 c2_i32_645
  let v1090 : BitVec 32 := Scalar.remsi v1025 v1089
  let c0_i32_649 : BitVec 32 := 0#32
  let v1092 : BitVec 1 := Scalar.cmpi .slt v1090 c0_i32_649
  let c0_i32_650 : BitVec 32 := 0#32
  let v1093 : BitVec 1 := Scalar.cmpi .slt v1089 c0_i32_650
  let v1094 : BitVec 1 := Scalar.xori v1092 v1093
  let c0_i32_648 : BitVec 32 := 0#32
  let v1091 : BitVec 1 := Scalar.cmpi .ne v1090 c0_i32_648
  let v1095 : BitVec 1 := Scalar.andi v1094 v1091
  let v1096 : BitVec 32 := Scalar.addi v1090 v1089
  let v1097 : BitVec 32 := Scalar.select v1095 v1096 v1090
  let c0_i32_651 : BitVec 32 := 0#32
  let v1098 : BitVec 1 := Scalar.cmpi .eq v1097 c0_i32_651
  let v1247 : BitVec 32 := Scalar.extui v1098
  let c0_i32_741 : BitVec 32 := 0#32
  let v1248 : BitVec 1 := Scalar.cmpi .ne v1247 c0_i32_741
  v1248

def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v1014 : BitVec 32 := Scalar.subi v2 c4_i32
  let c32_i32_596 : BitVec 32 := 32#32
  let v1015 : BitVec 32 := Scalar.addi v1014 c32_i32_596
  let c16_i32_597 : BitVec 32 := 16#32
  let c0_i32_598 : BitVec 32 := 0#32
  let v1016 : BitVec 1 := Scalar.cmpi .eq c16_i32_597 c0_i32_598
  let c1_i32_599 : BitVec 32 := 1#32
  let v1017 : BitVec 32 := Scalar.select v1016 c1_i32_599 c16_i32_597
  let v1018 : BitVec 32 := Scalar.remsi v1015 v1017
  let c0_i32_601 : BitVec 32 := 0#32
  let v1020 : BitVec 1 := Scalar.cmpi .slt v1018 c0_i32_601
  let c0_i32_602 : BitVec 32 := 0#32
  let v1021 : BitVec 1 := Scalar.cmpi .slt v1017 c0_i32_602
  let v1022 : BitVec 1 := Scalar.xori v1020 v1021
  let c0_i32_600 : BitVec 32 := 0#32
  let v1019 : BitVec 1 := Scalar.cmpi .ne v1018 c0_i32_600
  let v1023 : BitVec 1 := Scalar.andi v1022 v1019
  let v1024 : BitVec 32 := Scalar.addi v1018 v1017
  let v1025 : BitVec 32 := Scalar.select v1023 v1024 v1018
  let c0_i32_653 : BitVec 32 := 0#32
  let v1100 : BitVec 1 := Scalar.cmpi .sgt v1025 c0_i32_653
  let v1101 : BitVec 32 := Scalar.extui v1100
  let c0_i32_654 : BitVec 32 := 0#32
  let v1102 : BitVec 1 := Scalar.cmpi .slt v1025 c0_i32_654
  let v1103 : BitVec 32 := Scalar.extui v1102
  let v1104 : BitVec 32 := Scalar.subi v1101 v1103
  let c2_i32_652 : BitVec 32 := 2#32
  let c0_i32_655 : BitVec 32 := 0#32
  let v1105 : BitVec 1 := Scalar.cmpi .sgt c2_i32_652 c0_i32_655
  let v1106 : BitVec 32 := Scalar.extui v1105
  let c0_i32_656 : BitVec 32 := 0#32
  let v1107 : BitVec 1 := Scalar.cmpi .slt c2_i32_652 c0_i32_656
  let v1108 : BitVec 32 := Scalar.extui v1107
  let v1109 : BitVec 32 := Scalar.subi v1106 v1108
  let v1110 : BitVec 1 := Scalar.cmpi .ne v1104 v1109
  let v1111 : BitVec 32 := Scalar.remsi v1025 c2_i32_652
  let c0_i32_657 : BitVec 32 := 0#32
  let v1112 : BitVec 1 := Scalar.cmpi .ne v1111 c0_i32_657
  let v1113 : BitVec 1 := Scalar.andi v1110 v1112
  let v1099 : BitVec 32 := Scalar.divsi v1025 c2_i32_652
  let c1_i32_658 : BitVec 32 := 1#32
  let v1114 : BitVec 32 := Scalar.subi v1099 c1_i32_658
  let v1115 : BitVec 32 := Scalar.select v1113 v1114 v1099
  let c0_i32_1217 : BitVec 32 := 0#32
  let c0_i32_1218 : BitVec 32 := 0#32
  let c0_i32_1219 : BitVec 32 := 0#32
  ![v1115.toNat, 0, 0, 0]
def k0_off61 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_621 : BitVec 32 := 4#32
  let v1052 : BitVec 32 := Scalar.addi v2 c4_i32_621
  let c16_i32_622 : BitVec 32 := 16#32
  let c0_i32_623 : BitVec 32 := 0#32
  let v1053 : BitVec 1 := Scalar.cmpi .eq c16_i32_622 c0_i32_623
  let c1_i32_624 : BitVec 32 := 1#32
  let v1054 : BitVec 32 := Scalar.select v1053 c1_i32_624 c16_i32_622
  let v1055 : BitVec 32 := Scalar.remsi v1052 v1054
  let c0_i32_626 : BitVec 32 := 0#32
  let v1057 : BitVec 1 := Scalar.cmpi .slt v1055 c0_i32_626
  let c0_i32_627 : BitVec 32 := 0#32
  let v1058 : BitVec 1 := Scalar.cmpi .slt v1054 c0_i32_627
  let v1059 : BitVec 1 := Scalar.xori v1057 v1058
  let c0_i32_625 : BitVec 32 := 0#32
  let v1056 : BitVec 1 := Scalar.cmpi .ne v1055 c0_i32_625
  let v1060 : BitVec 1 := Scalar.andi v1059 v1056
  let v1061 : BitVec 32 := Scalar.addi v1055 v1054
  let v1062 : BitVec 32 := Scalar.select v1060 v1061 v1055
  let c0_i32_681 : BitVec 32 := 0#32
  let v1168 : BitVec 1 := Scalar.cmpi .sgt v1062 c0_i32_681
  let v1169 : BitVec 32 := Scalar.extui v1168
  let c0_i32_682 : BitVec 32 := 0#32
  let v1170 : BitVec 1 := Scalar.cmpi .slt v1062 c0_i32_682
  let v1171 : BitVec 32 := Scalar.extui v1170
  let v1172 : BitVec 32 := Scalar.subi v1169 v1171
  let c2_i32_680 : BitVec 32 := 2#32
  let c0_i32_683 : BitVec 32 := 0#32
  let v1173 : BitVec 1 := Scalar.cmpi .sgt c2_i32_680 c0_i32_683
  let v1174 : BitVec 32 := Scalar.extui v1173
  let c0_i32_684 : BitVec 32 := 0#32
  let v1175 : BitVec 1 := Scalar.cmpi .slt c2_i32_680 c0_i32_684
  let v1176 : BitVec 32 := Scalar.extui v1175
  let v1177 : BitVec 32 := Scalar.subi v1174 v1176
  let v1178 : BitVec 1 := Scalar.cmpi .ne v1172 v1177
  let v1179 : BitVec 32 := Scalar.remsi v1062 c2_i32_680
  let c0_i32_685 : BitVec 32 := 0#32
  let v1180 : BitVec 1 := Scalar.cmpi .ne v1179 c0_i32_685
  let v1181 : BitVec 1 := Scalar.andi v1178 v1180
  let v1167 : BitVec 32 := Scalar.divsi v1062 c2_i32_680
  let c1_i32_686 : BitVec 32 := 1#32
  let v1182 : BitVec 32 := Scalar.subi v1167 c1_i32_686
  let v1183 : BitVec 32 := Scalar.select v1181 v1182 v1167
  let c0_i32_1224 : BitVec 32 := 0#32
  let c0_i32_1225 : BitVec 32 := 0#32
  let c0_i32_1226 : BitVec 32 := 0#32
  ![v1183.toNat, 0, 0, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let v1473 : BitVec 32 := Scalar.extui v1336
  let c0_i32_866 : BitVec 32 := 0#32
  let v1474 : BitVec 1 := Scalar.cmpi .ne v1473 c0_i32_866
  v1474

def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c0_i32_814 : BitVec 32 := 0#32
  let v1355 : BitVec 1 := Scalar.cmpi .sgt v1263 c0_i32_814
  let v1356 : BitVec 32 := Scalar.extui v1355
  let c0_i32_815 : BitVec 32 := 0#32
  let v1357 : BitVec 1 := Scalar.cmpi .slt v1263 c0_i32_815
  let v1358 : BitVec 32 := Scalar.extui v1357
  let v1359 : BitVec 32 := Scalar.subi v1356 v1358
  let c2_i32_813 : BitVec 32 := 2#32
  let c0_i32_816 : BitVec 32 := 0#32
  let v1360 : BitVec 1 := Scalar.cmpi .sgt c2_i32_813 c0_i32_816
  let v1361 : BitVec 32 := Scalar.extui v1360
  let c0_i32_817 : BitVec 32 := 0#32
  let v1362 : BitVec 1 := Scalar.cmpi .slt c2_i32_813 c0_i32_817
  let v1363 : BitVec 32 := Scalar.extui v1362
  let v1364 : BitVec 32 := Scalar.subi v1361 v1363
  let v1365 : BitVec 1 := Scalar.cmpi .ne v1359 v1364
  let v1366 : BitVec 32 := Scalar.remsi v1263 c2_i32_813
  let c0_i32_818 : BitVec 32 := 0#32
  let v1367 : BitVec 1 := Scalar.cmpi .ne v1366 c0_i32_818
  let v1368 : BitVec 1 := Scalar.andi v1365 v1367
  let v1354 : BitVec 32 := Scalar.divsi v1263 c2_i32_813
  let c1_i32_819 : BitVec 32 := 1#32
  let v1369 : BitVec 32 := Scalar.subi v1354 c1_i32_819
  let v1370 : BitVec 32 := Scalar.select v1368 v1369 v1354
  let c0_i32_1218 : BitVec 32 := 0#32
  let c0_i32_1219 : BitVec 32 := 0#32
  let c0_i32_1220 : BitVec 32 := 0#32
  ![v1370.toNat, 0, 0, 0]
def k0_dev19 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off63 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_775 : BitVec 32 := 5#32
  let v1290 : BitVec 32 := Scalar.addi v2 c5_i32_775
  let c16_i32_776 : BitVec 32 := 16#32
  let c0_i32_777 : BitVec 32 := 0#32
  let v1291 : BitVec 1 := Scalar.cmpi .eq c16_i32_776 c0_i32_777
  let c1_i32_778 : BitVec 32 := 1#32
  let v1292 : BitVec 32 := Scalar.select v1291 c1_i32_778 c16_i32_776
  let v1293 : BitVec 32 := Scalar.remsi v1290 v1292
  let c0_i32_780 : BitVec 32 := 0#32
  let v1295 : BitVec 1 := Scalar.cmpi .slt v1293 c0_i32_780
  let c0_i32_781 : BitVec 32 := 0#32
  let v1296 : BitVec 1 := Scalar.cmpi .slt v1292 c0_i32_781
  let v1297 : BitVec 1 := Scalar.xori v1295 v1296
  let c0_i32_779 : BitVec 32 := 0#32
  let v1294 : BitVec 1 := Scalar.cmpi .ne v1293 c0_i32_779
  let v1298 : BitVec 1 := Scalar.andi v1297 v1294
  let v1299 : BitVec 32 := Scalar.addi v1293 v1292
  let v1300 : BitVec 32 := Scalar.select v1298 v1299 v1293
  let c0_i32_842 : BitVec 32 := 0#32
  let v1423 : BitVec 1 := Scalar.cmpi .sgt v1300 c0_i32_842
  let v1424 : BitVec 32 := Scalar.extui v1423
  let c0_i32_843 : BitVec 32 := 0#32
  let v1425 : BitVec 1 := Scalar.cmpi .slt v1300 c0_i32_843
  let v1426 : BitVec 32 := Scalar.extui v1425
  let v1427 : BitVec 32 := Scalar.subi v1424 v1426
  let c2_i32_841 : BitVec 32 := 2#32
  let c0_i32_844 : BitVec 32 := 0#32
  let v1428 : BitVec 1 := Scalar.cmpi .sgt c2_i32_841 c0_i32_844
  let v1429 : BitVec 32 := Scalar.extui v1428
  let c0_i32_845 : BitVec 32 := 0#32
  let v1430 : BitVec 1 := Scalar.cmpi .slt c2_i32_841 c0_i32_845
  let v1431 : BitVec 32 := Scalar.extui v1430
  let v1432 : BitVec 32 := Scalar.subi v1429 v1431
  let v1433 : BitVec 1 := Scalar.cmpi .ne v1427 v1432
  let v1434 : BitVec 32 := Scalar.remsi v1300 c2_i32_841
  let c0_i32_846 : BitVec 32 := 0#32
  let v1435 : BitVec 1 := Scalar.cmpi .ne v1434 c0_i32_846
  let v1436 : BitVec 1 := Scalar.andi v1433 v1435
  let v1422 : BitVec 32 := Scalar.divsi v1300 c2_i32_841
  let c1_i32_847 : BitVec 32 := 1#32
  let v1437 : BitVec 32 := Scalar.subi v1422 c1_i32_847
  let v1438 : BitVec 32 := Scalar.select v1436 v1437 v1422
  let c0_i32_1226 : BitVec 32 := 0#32
  let c0_i32_1227 : BitVec 32 := 0#32
  let c0_i32_1228 : BitVec 32 := 0#32
  ![v1438.toNat, 0, 0, 0]
def k0_dev20 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let true_867 : BitVec 1 := 1#1
  let v1475 : BitVec 1 := Scalar.xori v1336 true_867
  let v1476 : BitVec 32 := Scalar.extui v1475
  let c0_i32_874 : BitVec 32 := 0#32
  let v1477 : BitVec 1 := Scalar.cmpi .ne v1476 c0_i32_874
  v1477

def k0_off64 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_766 : BitVec 32 := 1#32
  let v1277 : BitVec 32 := Scalar.addi v2 c1_i32_766
  let c5_i32_767 : BitVec 32 := 5#32
  let v1278 : BitVec 32 := Scalar.subi v1277 c5_i32_767
  let c32_i32_768 : BitVec 32 := 32#32
  let v1279 : BitVec 32 := Scalar.addi v1278 c32_i32_768
  let c16_i32_769 : BitVec 32 := 16#32
  let c0_i32_770 : BitVec 32 := 0#32
  let v1280 : BitVec 1 := Scalar.cmpi .eq c16_i32_769 c0_i32_770
  let c1_i32_771 : BitVec 32 := 1#32
  let v1281 : BitVec 32 := Scalar.select v1280 c1_i32_771 c16_i32_769
  let v1282 : BitVec 32 := Scalar.remsi v1279 v1281
  let c0_i32_773 : BitVec 32 := 0#32
  let v1284 : BitVec 1 := Scalar.cmpi .slt v1282 c0_i32_773
  let c0_i32_774 : BitVec 32 := 0#32
  let v1285 : BitVec 1 := Scalar.cmpi .slt v1281 c0_i32_774
  let v1286 : BitVec 1 := Scalar.xori v1284 v1285
  let c0_i32_772 : BitVec 32 := 0#32
  let v1283 : BitVec 1 := Scalar.cmpi .ne v1282 c0_i32_772
  let v1287 : BitVec 1 := Scalar.andi v1286 v1283
  let v1288 : BitVec 32 := Scalar.addi v1282 v1281
  let v1289 : BitVec 32 := Scalar.select v1287 v1288 v1282
  let c0_i32_1217 : BitVec 32 := 0#32
  let v1941 : BitVec 1 := Scalar.cmpi .sgt v1289 c0_i32_1217
  let v1942 : BitVec 32 := Scalar.extui v1941
  let c0_i32_1218 : BitVec 32 := 0#32
  let v1943 : BitVec 1 := Scalar.cmpi .slt v1289 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1289 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1289 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev21 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off65 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_790 : BitVec 32 := 1#32
  let v1313 : BitVec 32 := Scalar.subi v2 c1_i32_790
  let c5_i32_791 : BitVec 32 := 5#32
  let v1314 : BitVec 32 := Scalar.addi v1313 c5_i32_791
  let c16_i32_792 : BitVec 32 := 16#32
  let v1315 : BitVec 32 := Scalar.addi v1314 c16_i32_792
  let c16_i32_793 : BitVec 32 := 16#32
  let c0_i32_794 : BitVec 32 := 0#32
  let v1316 : BitVec 1 := Scalar.cmpi .eq c16_i32_793 c0_i32_794
  let c1_i32_795 : BitVec 32 := 1#32
  let v1317 : BitVec 32 := Scalar.select v1316 c1_i32_795 c16_i32_793
  let v1318 : BitVec 32 := Scalar.remsi v1315 v1317
  let c0_i32_797 : BitVec 32 := 0#32
  let v1320 : BitVec 1 := Scalar.cmpi .slt v1318 c0_i32_797
  let c0_i32_798 : BitVec 32 := 0#32
  let v1321 : BitVec 1 := Scalar.cmpi .slt v1317 c0_i32_798
  let v1322 : BitVec 1 := Scalar.xori v1320 v1321
  let c0_i32_796 : BitVec 32 := 0#32
  let v1319 : BitVec 1 := Scalar.cmpi .ne v1318 c0_i32_796
  let v1323 : BitVec 1 := Scalar.andi v1322 v1319
  let v1324 : BitVec 32 := Scalar.addi v1318 v1317
  let v1325 : BitVec 32 := Scalar.select v1323 v1324 v1318
  let c0_i32_1235 : BitVec 32 := 0#32
  let v1973 : BitVec 1 := Scalar.cmpi .sgt v1325 c0_i32_1235
  let v1974 : BitVec 32 := Scalar.extui v1973
  let c0_i32_1236 : BitVec 32 := 0#32
  let v1975 : BitVec 1 := Scalar.cmpi .slt v1325 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v1325 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v1325 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev22 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let v1478 : BitVec 32 := Scalar.extui v1336
  let c0_i32_875 : BitVec 32 := 0#32
  let v1479 : BitVec 1 := Scalar.cmpi .ne v1478 c0_i32_875
  v1479

def k0_off66 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c0_i32_1217 : BitVec 32 := 0#32
  let v1941 : BitVec 1 := Scalar.cmpi .sgt v1263 c0_i32_1217
  let v1942 : BitVec 32 := Scalar.extui v1941
  let c0_i32_1218 : BitVec 32 := 0#32
  let v1943 : BitVec 1 := Scalar.cmpi .slt v1263 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1263 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1263 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off67 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_775 : BitVec 32 := 5#32
  let v1290 : BitVec 32 := Scalar.addi v2 c5_i32_775
  let c16_i32_776 : BitVec 32 := 16#32
  let c0_i32_777 : BitVec 32 := 0#32
  let v1291 : BitVec 1 := Scalar.cmpi .eq c16_i32_776 c0_i32_777
  let c1_i32_778 : BitVec 32 := 1#32
  let v1292 : BitVec 32 := Scalar.select v1291 c1_i32_778 c16_i32_776
  let v1293 : BitVec 32 := Scalar.remsi v1290 v1292
  let c0_i32_780 : BitVec 32 := 0#32
  let v1295 : BitVec 1 := Scalar.cmpi .slt v1293 c0_i32_780
  let c0_i32_781 : BitVec 32 := 0#32
  let v1296 : BitVec 1 := Scalar.cmpi .slt v1292 c0_i32_781
  let v1297 : BitVec 1 := Scalar.xori v1295 v1296
  let c0_i32_779 : BitVec 32 := 0#32
  let v1294 : BitVec 1 := Scalar.cmpi .ne v1293 c0_i32_779
  let v1298 : BitVec 1 := Scalar.andi v1297 v1294
  let v1299 : BitVec 32 := Scalar.addi v1293 v1292
  let v1300 : BitVec 32 := Scalar.select v1298 v1299 v1293
  let c0_i32_1224 : BitVec 32 := 0#32
  let v1958 : BitVec 1 := Scalar.cmpi .sgt v1300 c0_i32_1224
  let v1959 : BitVec 32 := Scalar.extui v1958
  let c0_i32_1225 : BitVec 32 := 0#32
  let v1960 : BitVec 1 := Scalar.cmpi .slt v1300 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1300 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1300 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off68 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c0_i32_1217 : BitVec 32 := 0#32
  let v1941 : BitVec 1 := Scalar.cmpi .sgt v1263 c0_i32_1217
  let v1942 : BitVec 32 := Scalar.extui v1941
  let c0_i32_1218 : BitVec 32 := 0#32
  let v1943 : BitVec 1 := Scalar.cmpi .slt v1263 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1263 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1263 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off69 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_775 : BitVec 32 := 5#32
  let v1290 : BitVec 32 := Scalar.addi v2 c5_i32_775
  let c16_i32_776 : BitVec 32 := 16#32
  let c0_i32_777 : BitVec 32 := 0#32
  let v1291 : BitVec 1 := Scalar.cmpi .eq c16_i32_776 c0_i32_777
  let c1_i32_778 : BitVec 32 := 1#32
  let v1292 : BitVec 32 := Scalar.select v1291 c1_i32_778 c16_i32_776
  let v1293 : BitVec 32 := Scalar.remsi v1290 v1292
  let c0_i32_780 : BitVec 32 := 0#32
  let v1295 : BitVec 1 := Scalar.cmpi .slt v1293 c0_i32_780
  let c0_i32_781 : BitVec 32 := 0#32
  let v1296 : BitVec 1 := Scalar.cmpi .slt v1292 c0_i32_781
  let v1297 : BitVec 1 := Scalar.xori v1295 v1296
  let c0_i32_779 : BitVec 32 := 0#32
  let v1294 : BitVec 1 := Scalar.cmpi .ne v1293 c0_i32_779
  let v1298 : BitVec 1 := Scalar.andi v1297 v1294
  let v1299 : BitVec 32 := Scalar.addi v1293 v1292
  let v1300 : BitVec 32 := Scalar.select v1298 v1299 v1293
  let c0_i32_1224 : BitVec 32 := 0#32
  let v1958 : BitVec 1 := Scalar.cmpi .sgt v1300 c0_i32_1224
  let v1959 : BitVec 32 := Scalar.extui v1958
  let c0_i32_1225 : BitVec 32 := 0#32
  let v1960 : BitVec 1 := Scalar.cmpi .slt v1300 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1300 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1300 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let true_876 : BitVec 1 := 1#1
  let v1480 : BitVec 1 := Scalar.xori v1336 true_876
  let v1481 : BitVec 32 := Scalar.extui v1480
  let c0_i32_881 : BitVec 32 := 0#32
  let v1482 : BitVec 1 := Scalar.cmpi .ne v1481 c0_i32_881
  v1482

def k0_off70 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_757 : BitVec 32 := 1#32
  let v1264 : BitVec 32 := Scalar.subi v2 c1_i32_757
  let c5_i32_758 : BitVec 32 := 5#32
  let v1265 : BitVec 32 := Scalar.subi v1264 c5_i32_758
  let c32_i32_759 : BitVec 32 := 32#32
  let v1266 : BitVec 32 := Scalar.addi v1265 c32_i32_759
  let c16_i32_760 : BitVec 32 := 16#32
  let c0_i32_761 : BitVec 32 := 0#32
  let v1267 : BitVec 1 := Scalar.cmpi .eq c16_i32_760 c0_i32_761
  let c1_i32_762 : BitVec 32 := 1#32
  let v1268 : BitVec 32 := Scalar.select v1267 c1_i32_762 c16_i32_760
  let v1269 : BitVec 32 := Scalar.remsi v1266 v1268
  let c0_i32_764 : BitVec 32 := 0#32
  let v1271 : BitVec 1 := Scalar.cmpi .slt v1269 c0_i32_764
  let c0_i32_765 : BitVec 32 := 0#32
  let v1272 : BitVec 1 := Scalar.cmpi .slt v1268 c0_i32_765
  let v1273 : BitVec 1 := Scalar.xori v1271 v1272
  let c0_i32_763 : BitVec 32 := 0#32
  let v1270 : BitVec 1 := Scalar.cmpi .ne v1269 c0_i32_763
  let v1274 : BitVec 1 := Scalar.andi v1273 v1270
  let v1275 : BitVec 32 := Scalar.addi v1269 v1268
  let v1276 : BitVec 32 := Scalar.select v1274 v1275 v1269
  let c0_i32_828 : BitVec 32 := 0#32
  let v1389 : BitVec 1 := Scalar.cmpi .sgt v1276 c0_i32_828
  let v1390 : BitVec 32 := Scalar.extui v1389
  let c0_i32_829 : BitVec 32 := 0#32
  let v1391 : BitVec 1 := Scalar.cmpi .slt v1276 c0_i32_829
  let v1392 : BitVec 32 := Scalar.extui v1391
  let v1393 : BitVec 32 := Scalar.subi v1390 v1392
  let c2_i32_827 : BitVec 32 := 2#32
  let c0_i32_830 : BitVec 32 := 0#32
  let v1394 : BitVec 1 := Scalar.cmpi .sgt c2_i32_827 c0_i32_830
  let v1395 : BitVec 32 := Scalar.extui v1394
  let c0_i32_831 : BitVec 32 := 0#32
  let v1396 : BitVec 1 := Scalar.cmpi .slt c2_i32_827 c0_i32_831
  let v1397 : BitVec 32 := Scalar.extui v1396
  let v1398 : BitVec 32 := Scalar.subi v1395 v1397
  let v1399 : BitVec 1 := Scalar.cmpi .ne v1393 v1398
  let v1400 : BitVec 32 := Scalar.remsi v1276 c2_i32_827
  let c0_i32_832 : BitVec 32 := 0#32
  let v1401 : BitVec 1 := Scalar.cmpi .ne v1400 c0_i32_832
  let v1402 : BitVec 1 := Scalar.andi v1399 v1401
  let v1388 : BitVec 32 := Scalar.divsi v1276 c2_i32_827
  let c1_i32_833 : BitVec 32 := 1#32
  let v1403 : BitVec 32 := Scalar.subi v1388 c1_i32_833
  let v1404 : BitVec 32 := Scalar.select v1402 v1403 v1388
  let c0_i32_1218 : BitVec 32 := 0#32
  let c0_i32_1219 : BitVec 32 := 0#32
  let c0_i32_1220 : BitVec 32 := 0#32
  ![v1404.toNat, 0, 0, 0]
def k0_off71 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_782 : BitVec 32 := 1#32
  let v1301 : BitVec 32 := Scalar.addi v2 c1_i32_782
  let c5_i32_783 : BitVec 32 := 5#32
  let v1302 : BitVec 32 := Scalar.addi v1301 c5_i32_783
  let c16_i32_784 : BitVec 32 := 16#32
  let c0_i32_785 : BitVec 32 := 0#32
  let v1303 : BitVec 1 := Scalar.cmpi .eq c16_i32_784 c0_i32_785
  let c1_i32_786 : BitVec 32 := 1#32
  let v1304 : BitVec 32 := Scalar.select v1303 c1_i32_786 c16_i32_784
  let v1305 : BitVec 32 := Scalar.remsi v1302 v1304
  let c0_i32_788 : BitVec 32 := 0#32
  let v1307 : BitVec 1 := Scalar.cmpi .slt v1305 c0_i32_788
  let c0_i32_789 : BitVec 32 := 0#32
  let v1308 : BitVec 1 := Scalar.cmpi .slt v1304 c0_i32_789
  let v1309 : BitVec 1 := Scalar.xori v1307 v1308
  let c0_i32_787 : BitVec 32 := 0#32
  let v1306 : BitVec 1 := Scalar.cmpi .ne v1305 c0_i32_787
  let v1310 : BitVec 1 := Scalar.andi v1309 v1306
  let v1311 : BitVec 32 := Scalar.addi v1305 v1304
  let v1312 : BitVec 32 := Scalar.select v1310 v1311 v1305
  let c0_i32_856 : BitVec 32 := 0#32
  let v1457 : BitVec 1 := Scalar.cmpi .sgt v1312 c0_i32_856
  let v1458 : BitVec 32 := Scalar.extui v1457
  let c0_i32_857 : BitVec 32 := 0#32
  let v1459 : BitVec 1 := Scalar.cmpi .slt v1312 c0_i32_857
  let v1460 : BitVec 32 := Scalar.extui v1459
  let v1461 : BitVec 32 := Scalar.subi v1458 v1460
  let c2_i32_855 : BitVec 32 := 2#32
  let c0_i32_858 : BitVec 32 := 0#32
  let v1462 : BitVec 1 := Scalar.cmpi .sgt c2_i32_855 c0_i32_858
  let v1463 : BitVec 32 := Scalar.extui v1462
  let c0_i32_859 : BitVec 32 := 0#32
  let v1464 : BitVec 1 := Scalar.cmpi .slt c2_i32_855 c0_i32_859
  let v1465 : BitVec 32 := Scalar.extui v1464
  let v1466 : BitVec 32 := Scalar.subi v1463 v1465
  let v1467 : BitVec 1 := Scalar.cmpi .ne v1461 v1466
  let v1468 : BitVec 32 := Scalar.remsi v1312 c2_i32_855
  let c0_i32_860 : BitVec 32 := 0#32
  let v1469 : BitVec 1 := Scalar.cmpi .ne v1468 c0_i32_860
  let v1470 : BitVec 1 := Scalar.andi v1467 v1469
  let v1456 : BitVec 32 := Scalar.divsi v1312 c2_i32_855
  let c1_i32_861 : BitVec 32 := 1#32
  let v1471 : BitVec 32 := Scalar.subi v1456 c1_i32_861
  let v1472 : BitVec 32 := Scalar.select v1470 v1471 v1456
  let c0_i32_1226 : BitVec 32 := 0#32
  let c0_i32_1227 : BitVec 32 := 0#32
  let c0_i32_1228 : BitVec 32 := 0#32
  ![v1472.toNat, 0, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let v1483 : BitVec 32 := Scalar.extui v1336
  let c0_i32_890 : BitVec 32 := 0#32
  let v1484 : BitVec 1 := Scalar.cmpi .ne v1483 c0_i32_890
  v1484

def k0_off72 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c0_i32_1225 : BitVec 32 := 0#32
  let v1949 : BitVec 1 := Scalar.cmpi .sgt v1263 c0_i32_1225
  let v1950 : BitVec 32 := Scalar.extui v1949
  let c0_i32_1226 : BitVec 32 := 0#32
  let v1951 : BitVec 1 := Scalar.cmpi .slt v1263 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v1263 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v1263 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off73 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_775 : BitVec 32 := 5#32
  let v1290 : BitVec 32 := Scalar.addi v2 c5_i32_775
  let c16_i32_776 : BitVec 32 := 16#32
  let c0_i32_777 : BitVec 32 := 0#32
  let v1291 : BitVec 1 := Scalar.cmpi .eq c16_i32_776 c0_i32_777
  let c1_i32_778 : BitVec 32 := 1#32
  let v1292 : BitVec 32 := Scalar.select v1291 c1_i32_778 c16_i32_776
  let v1293 : BitVec 32 := Scalar.remsi v1290 v1292
  let c0_i32_780 : BitVec 32 := 0#32
  let v1295 : BitVec 1 := Scalar.cmpi .slt v1293 c0_i32_780
  let c0_i32_781 : BitVec 32 := 0#32
  let v1296 : BitVec 1 := Scalar.cmpi .slt v1292 c0_i32_781
  let v1297 : BitVec 1 := Scalar.xori v1295 v1296
  let c0_i32_779 : BitVec 32 := 0#32
  let v1294 : BitVec 1 := Scalar.cmpi .ne v1293 c0_i32_779
  let v1298 : BitVec 1 := Scalar.andi v1297 v1294
  let v1299 : BitVec 32 := Scalar.addi v1293 v1292
  let v1300 : BitVec 32 := Scalar.select v1298 v1299 v1293
  let c0_i32_1256 : BitVec 32 := 0#32
  let v2002 : BitVec 1 := Scalar.cmpi .sgt v1300 c0_i32_1256
  let v2003 : BitVec 32 := Scalar.extui v2002
  let c0_i32_1257 : BitVec 32 := 0#32
  let v2004 : BitVec 1 := Scalar.cmpi .slt v1300 c0_i32_1257
  let v2005 : BitVec 32 := Scalar.extui v2004
  let v2006 : BitVec 32 := Scalar.subi v2003 v2005
  let c2_i32_1255 : BitVec 32 := 2#32
  let c0_i32_1258 : BitVec 32 := 0#32
  let v2007 : BitVec 1 := Scalar.cmpi .sgt c2_i32_1255 c0_i32_1258
  let v2008 : BitVec 32 := Scalar.extui v2007
  let c0_i32_1259 : BitVec 32 := 0#32
  let v2009 : BitVec 1 := Scalar.cmpi .slt c2_i32_1255 c0_i32_1259
  let v2010 : BitVec 32 := Scalar.extui v2009
  let v2011 : BitVec 32 := Scalar.subi v2008 v2010
  let v2012 : BitVec 1 := Scalar.cmpi .ne v2006 v2011
  let v2013 : BitVec 32 := Scalar.remsi v1300 c2_i32_1255
  let c0_i32_1260 : BitVec 32 := 0#32
  let v2014 : BitVec 1 := Scalar.cmpi .ne v2013 c0_i32_1260
  let v2015 : BitVec 1 := Scalar.andi v2012 v2014
  let v2001 : BitVec 32 := Scalar.divsi v1300 c2_i32_1255
  let c1_i32_1261 : BitVec 32 := 1#32
  let v2016 : BitVec 32 := Scalar.subi v2001 c1_i32_1261
  let v2017 : BitVec 32 := Scalar.select v2015 v2016 v2001
  let v2018 : Index := Scalar.indexCast v2017
  let c0_1262 : Index := 0#32
  let c0_1263 : Index := 0#32
  let c0_1264 : Index := 0#32
  ![v2018.toNat, 0, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c2_i32_799 : BitVec 32 := 2#32
  let c0_i32_800 : BitVec 32 := 0#32
  let v1326 : BitVec 1 := Scalar.cmpi .eq c2_i32_799 c0_i32_800
  let c1_i32_801 : BitVec 32 := 1#32
  let v1327 : BitVec 32 := Scalar.select v1326 c1_i32_801 c2_i32_799
  let v1328 : BitVec 32 := Scalar.remsi v1263 v1327
  let c0_i32_803 : BitVec 32 := 0#32
  let v1330 : BitVec 1 := Scalar.cmpi .slt v1328 c0_i32_803
  let c0_i32_804 : BitVec 32 := 0#32
  let v1331 : BitVec 1 := Scalar.cmpi .slt v1327 c0_i32_804
  let v1332 : BitVec 1 := Scalar.xori v1330 v1331
  let c0_i32_802 : BitVec 32 := 0#32
  let v1329 : BitVec 1 := Scalar.cmpi .ne v1328 c0_i32_802
  let v1333 : BitVec 1 := Scalar.andi v1332 v1329
  let v1334 : BitVec 32 := Scalar.addi v1328 v1327
  let v1335 : BitVec 32 := Scalar.select v1333 v1334 v1328
  let c0_i32_805 : BitVec 32 := 0#32
  let v1336 : BitVec 1 := Scalar.cmpi .eq v1335 c0_i32_805
  let v1485 : BitVec 32 := Scalar.extui v1336
  let c0_i32_895 : BitVec 32 := 0#32
  let v1486 : BitVec 1 := Scalar.cmpi .ne v1485 c0_i32_895
  v1486

def k0_off74 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v1252 : BitVec 32 := Scalar.subi v2 c5_i32
  let c32_i32_750 : BitVec 32 := 32#32
  let v1253 : BitVec 32 := Scalar.addi v1252 c32_i32_750
  let c16_i32_751 : BitVec 32 := 16#32
  let c0_i32_752 : BitVec 32 := 0#32
  let v1254 : BitVec 1 := Scalar.cmpi .eq c16_i32_751 c0_i32_752
  let c1_i32_753 : BitVec 32 := 1#32
  let v1255 : BitVec 32 := Scalar.select v1254 c1_i32_753 c16_i32_751
  let v1256 : BitVec 32 := Scalar.remsi v1253 v1255
  let c0_i32_755 : BitVec 32 := 0#32
  let v1258 : BitVec 1 := Scalar.cmpi .slt v1256 c0_i32_755
  let c0_i32_756 : BitVec 32 := 0#32
  let v1259 : BitVec 1 := Scalar.cmpi .slt v1255 c0_i32_756
  let v1260 : BitVec 1 := Scalar.xori v1258 v1259
  let c0_i32_754 : BitVec 32 := 0#32
  let v1257 : BitVec 1 := Scalar.cmpi .ne v1256 c0_i32_754
  let v1261 : BitVec 1 := Scalar.andi v1260 v1257
  let v1262 : BitVec 32 := Scalar.addi v1256 v1255
  let v1263 : BitVec 32 := Scalar.select v1261 v1262 v1256
  let c0_i32_807 : BitVec 32 := 0#32
  let v1338 : BitVec 1 := Scalar.cmpi .sgt v1263 c0_i32_807
  let v1339 : BitVec 32 := Scalar.extui v1338
  let c0_i32_808 : BitVec 32 := 0#32
  let v1340 : BitVec 1 := Scalar.cmpi .slt v1263 c0_i32_808
  let v1341 : BitVec 32 := Scalar.extui v1340
  let v1342 : BitVec 32 := Scalar.subi v1339 v1341
  let c2_i32_806 : BitVec 32 := 2#32
  let c0_i32_809 : BitVec 32 := 0#32
  let v1343 : BitVec 1 := Scalar.cmpi .sgt c2_i32_806 c0_i32_809
  let v1344 : BitVec 32 := Scalar.extui v1343
  let c0_i32_810 : BitVec 32 := 0#32
  let v1345 : BitVec 1 := Scalar.cmpi .slt c2_i32_806 c0_i32_810
  let v1346 : BitVec 32 := Scalar.extui v1345
  let v1347 : BitVec 32 := Scalar.subi v1344 v1346
  let v1348 : BitVec 1 := Scalar.cmpi .ne v1342 v1347
  let v1349 : BitVec 32 := Scalar.remsi v1263 c2_i32_806
  let c0_i32_811 : BitVec 32 := 0#32
  let v1350 : BitVec 1 := Scalar.cmpi .ne v1349 c0_i32_811
  let v1351 : BitVec 1 := Scalar.andi v1348 v1350
  let v1337 : BitVec 32 := Scalar.divsi v1263 c2_i32_806
  let c1_i32_812 : BitVec 32 := 1#32
  let v1352 : BitVec 32 := Scalar.subi v1337 c1_i32_812
  let v1353 : BitVec 32 := Scalar.select v1351 v1352 v1337
  let c0_i32_1217 : BitVec 32 := 0#32
  let c0_i32_1218 : BitVec 32 := 0#32
  let c0_i32_1219 : BitVec 32 := 0#32
  ![v1353.toNat, 0, 0, 0]
def k0_off75 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_775 : BitVec 32 := 5#32
  let v1290 : BitVec 32 := Scalar.addi v2 c5_i32_775
  let c16_i32_776 : BitVec 32 := 16#32
  let c0_i32_777 : BitVec 32 := 0#32
  let v1291 : BitVec 1 := Scalar.cmpi .eq c16_i32_776 c0_i32_777
  let c1_i32_778 : BitVec 32 := 1#32
  let v1292 : BitVec 32 := Scalar.select v1291 c1_i32_778 c16_i32_776
  let v1293 : BitVec 32 := Scalar.remsi v1290 v1292
  let c0_i32_780 : BitVec 32 := 0#32
  let v1295 : BitVec 1 := Scalar.cmpi .slt v1293 c0_i32_780
  let c0_i32_781 : BitVec 32 := 0#32
  let v1296 : BitVec 1 := Scalar.cmpi .slt v1292 c0_i32_781
  let v1297 : BitVec 1 := Scalar.xori v1295 v1296
  let c0_i32_779 : BitVec 32 := 0#32
  let v1294 : BitVec 1 := Scalar.cmpi .ne v1293 c0_i32_779
  let v1298 : BitVec 1 := Scalar.andi v1297 v1294
  let v1299 : BitVec 32 := Scalar.addi v1293 v1292
  let v1300 : BitVec 32 := Scalar.select v1298 v1299 v1293
  let c0_i32_835 : BitVec 32 := 0#32
  let v1406 : BitVec 1 := Scalar.cmpi .sgt v1300 c0_i32_835
  let v1407 : BitVec 32 := Scalar.extui v1406
  let c0_i32_836 : BitVec 32 := 0#32
  let v1408 : BitVec 1 := Scalar.cmpi .slt v1300 c0_i32_836
  let v1409 : BitVec 32 := Scalar.extui v1408
  let v1410 : BitVec 32 := Scalar.subi v1407 v1409
  let c2_i32_834 : BitVec 32 := 2#32
  let c0_i32_837 : BitVec 32 := 0#32
  let v1411 : BitVec 1 := Scalar.cmpi .sgt c2_i32_834 c0_i32_837
  let v1412 : BitVec 32 := Scalar.extui v1411
  let c0_i32_838 : BitVec 32 := 0#32
  let v1413 : BitVec 1 := Scalar.cmpi .slt c2_i32_834 c0_i32_838
  let v1414 : BitVec 32 := Scalar.extui v1413
  let v1415 : BitVec 32 := Scalar.subi v1412 v1414
  let v1416 : BitVec 1 := Scalar.cmpi .ne v1410 v1415
  let v1417 : BitVec 32 := Scalar.remsi v1300 c2_i32_834
  let c0_i32_839 : BitVec 32 := 0#32
  let v1418 : BitVec 1 := Scalar.cmpi .ne v1417 c0_i32_839
  let v1419 : BitVec 1 := Scalar.andi v1416 v1418
  let v1405 : BitVec 32 := Scalar.divsi v1300 c2_i32_834
  let c1_i32_840 : BitVec 32 := 1#32
  let v1420 : BitVec 32 := Scalar.subi v1405 c1_i32_840
  let v1421 : BitVec 32 := Scalar.select v1419 v1420 v1405
  let c0_i32_1224 : BitVec 32 := 0#32
  let c0_i32_1225 : BitVec 32 := 0#32
  let c0_i32_1226 : BitVec 32 := 0#32
  ![v1421.toNat, 0, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let v1711 : BitVec 32 := Scalar.extui v1574
  let c0_i32_1020 : BitVec 32 := 0#32
  let v1712 : BitVec 1 := Scalar.cmpi .ne v1711 c0_i32_1020
  v1712

def k0_off76 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c0_i32_968 : BitVec 32 := 0#32
  let v1593 : BitVec 1 := Scalar.cmpi .sgt v1501 c0_i32_968
  let v1594 : BitVec 32 := Scalar.extui v1593
  let c0_i32_969 : BitVec 32 := 0#32
  let v1595 : BitVec 1 := Scalar.cmpi .slt v1501 c0_i32_969
  let v1596 : BitVec 32 := Scalar.extui v1595
  let v1597 : BitVec 32 := Scalar.subi v1594 v1596
  let c2_i32_967 : BitVec 32 := 2#32
  let c0_i32_970 : BitVec 32 := 0#32
  let v1598 : BitVec 1 := Scalar.cmpi .sgt c2_i32_967 c0_i32_970
  let v1599 : BitVec 32 := Scalar.extui v1598
  let c0_i32_971 : BitVec 32 := 0#32
  let v1600 : BitVec 1 := Scalar.cmpi .slt c2_i32_967 c0_i32_971
  let v1601 : BitVec 32 := Scalar.extui v1600
  let v1602 : BitVec 32 := Scalar.subi v1599 v1601
  let v1603 : BitVec 1 := Scalar.cmpi .ne v1597 v1602
  let v1604 : BitVec 32 := Scalar.remsi v1501 c2_i32_967
  let c0_i32_972 : BitVec 32 := 0#32
  let v1605 : BitVec 1 := Scalar.cmpi .ne v1604 c0_i32_972
  let v1606 : BitVec 1 := Scalar.andi v1603 v1605
  let v1592 : BitVec 32 := Scalar.divsi v1501 c2_i32_967
  let c1_i32_973 : BitVec 32 := 1#32
  let v1607 : BitVec 32 := Scalar.subi v1592 c1_i32_973
  let v1608 : BitVec 32 := Scalar.select v1606 v1607 v1592
  let c0_i32_1218 : BitVec 32 := 0#32
  let c0_i32_1219 : BitVec 32 := 0#32
  let c0_i32_1220 : BitVec 32 := 0#32
  ![v1608.toNat, 0, 0, 0]
def k0_dev23 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_off77 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_929 : BitVec 32 := 6#32
  let v1528 : BitVec 32 := Scalar.addi v2 c6_i32_929
  let c16_i32_930 : BitVec 32 := 16#32
  let c0_i32_931 : BitVec 32 := 0#32
  let v1529 : BitVec 1 := Scalar.cmpi .eq c16_i32_930 c0_i32_931
  let c1_i32_932 : BitVec 32 := 1#32
  let v1530 : BitVec 32 := Scalar.select v1529 c1_i32_932 c16_i32_930
  let v1531 : BitVec 32 := Scalar.remsi v1528 v1530
  let c0_i32_934 : BitVec 32 := 0#32
  let v1533 : BitVec 1 := Scalar.cmpi .slt v1531 c0_i32_934
  let c0_i32_935 : BitVec 32 := 0#32
  let v1534 : BitVec 1 := Scalar.cmpi .slt v1530 c0_i32_935
  let v1535 : BitVec 1 := Scalar.xori v1533 v1534
  let c0_i32_933 : BitVec 32 := 0#32
  let v1532 : BitVec 1 := Scalar.cmpi .ne v1531 c0_i32_933
  let v1536 : BitVec 1 := Scalar.andi v1535 v1532
  let v1537 : BitVec 32 := Scalar.addi v1531 v1530
  let v1538 : BitVec 32 := Scalar.select v1536 v1537 v1531
  let c0_i32_996 : BitVec 32 := 0#32
  let v1661 : BitVec 1 := Scalar.cmpi .sgt v1538 c0_i32_996
  let v1662 : BitVec 32 := Scalar.extui v1661
  let c0_i32_997 : BitVec 32 := 0#32
  let v1663 : BitVec 1 := Scalar.cmpi .slt v1538 c0_i32_997
  let v1664 : BitVec 32 := Scalar.extui v1663
  let v1665 : BitVec 32 := Scalar.subi v1662 v1664
  let c2_i32_995 : BitVec 32 := 2#32
  let c0_i32_998 : BitVec 32 := 0#32
  let v1666 : BitVec 1 := Scalar.cmpi .sgt c2_i32_995 c0_i32_998
  let v1667 : BitVec 32 := Scalar.extui v1666
  let c0_i32_999 : BitVec 32 := 0#32
  let v1668 : BitVec 1 := Scalar.cmpi .slt c2_i32_995 c0_i32_999
  let v1669 : BitVec 32 := Scalar.extui v1668
  let v1670 : BitVec 32 := Scalar.subi v1667 v1669
  let v1671 : BitVec 1 := Scalar.cmpi .ne v1665 v1670
  let v1672 : BitVec 32 := Scalar.remsi v1538 c2_i32_995
  let c0_i32_1000 : BitVec 32 := 0#32
  let v1673 : BitVec 1 := Scalar.cmpi .ne v1672 c0_i32_1000
  let v1674 : BitVec 1 := Scalar.andi v1671 v1673
  let v1660 : BitVec 32 := Scalar.divsi v1538 c2_i32_995
  let c1_i32_1001 : BitVec 32 := 1#32
  let v1675 : BitVec 32 := Scalar.subi v1660 c1_i32_1001
  let v1676 : BitVec 32 := Scalar.select v1674 v1675 v1660
  let c0_i32_1226 : BitVec 32 := 0#32
  let c0_i32_1227 : BitVec 32 := 0#32
  let c0_i32_1228 : BitVec 32 := 0#32
  ![v1676.toNat, 0, 0, 0]
def k0_dev24 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1224 : BitVec 32 := 1#32
  let v1950 : BitVec 32 := Scalar.muli v14 c1_i32_1224
  let v1951 : BitVec 32 := Scalar.addi c0_i32_1225 v1950
  v1951.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let true_1021 : BitVec 1 := 1#1
  let v1713 : BitVec 1 := Scalar.xori v1574 true_1021
  let v1714 : BitVec 32 := Scalar.extui v1713
  let c0_i32_1028 : BitVec 32 := 0#32
  let v1715 : BitVec 1 := Scalar.cmpi .ne v1714 c0_i32_1028
  v1715

def k0_off78 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_920 : BitVec 32 := 1#32
  let v1515 : BitVec 32 := Scalar.addi v2 c1_i32_920
  let c6_i32_921 : BitVec 32 := 6#32
  let v1516 : BitVec 32 := Scalar.subi v1515 c6_i32_921
  let c32_i32_922 : BitVec 32 := 32#32
  let v1517 : BitVec 32 := Scalar.addi v1516 c32_i32_922
  let c16_i32_923 : BitVec 32 := 16#32
  let c0_i32_924 : BitVec 32 := 0#32
  let v1518 : BitVec 1 := Scalar.cmpi .eq c16_i32_923 c0_i32_924
  let c1_i32_925 : BitVec 32 := 1#32
  let v1519 : BitVec 32 := Scalar.select v1518 c1_i32_925 c16_i32_923
  let v1520 : BitVec 32 := Scalar.remsi v1517 v1519
  let c0_i32_927 : BitVec 32 := 0#32
  let v1522 : BitVec 1 := Scalar.cmpi .slt v1520 c0_i32_927
  let c0_i32_928 : BitVec 32 := 0#32
  let v1523 : BitVec 1 := Scalar.cmpi .slt v1519 c0_i32_928
  let v1524 : BitVec 1 := Scalar.xori v1522 v1523
  let c0_i32_926 : BitVec 32 := 0#32
  let v1521 : BitVec 1 := Scalar.cmpi .ne v1520 c0_i32_926
  let v1525 : BitVec 1 := Scalar.andi v1524 v1521
  let v1526 : BitVec 32 := Scalar.addi v1520 v1519
  let v1527 : BitVec 32 := Scalar.select v1525 v1526 v1520
  let c0_i32_1217 : BitVec 32 := 0#32
  let v1941 : BitVec 1 := Scalar.cmpi .sgt v1527 c0_i32_1217
  let v1942 : BitVec 32 := Scalar.extui v1941
  let c0_i32_1218 : BitVec 32 := 0#32
  let v1943 : BitVec 1 := Scalar.cmpi .slt v1527 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1527 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1527 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev25 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off79 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_944 : BitVec 32 := 1#32
  let v1551 : BitVec 32 := Scalar.subi v2 c1_i32_944
  let c6_i32_945 : BitVec 32 := 6#32
  let v1552 : BitVec 32 := Scalar.addi v1551 c6_i32_945
  let c16_i32_946 : BitVec 32 := 16#32
  let v1553 : BitVec 32 := Scalar.addi v1552 c16_i32_946
  let c16_i32_947 : BitVec 32 := 16#32
  let c0_i32_948 : BitVec 32 := 0#32
  let v1554 : BitVec 1 := Scalar.cmpi .eq c16_i32_947 c0_i32_948
  let c1_i32_949 : BitVec 32 := 1#32
  let v1555 : BitVec 32 := Scalar.select v1554 c1_i32_949 c16_i32_947
  let v1556 : BitVec 32 := Scalar.remsi v1553 v1555
  let c0_i32_951 : BitVec 32 := 0#32
  let v1558 : BitVec 1 := Scalar.cmpi .slt v1556 c0_i32_951
  let c0_i32_952 : BitVec 32 := 0#32
  let v1559 : BitVec 1 := Scalar.cmpi .slt v1555 c0_i32_952
  let v1560 : BitVec 1 := Scalar.xori v1558 v1559
  let c0_i32_950 : BitVec 32 := 0#32
  let v1557 : BitVec 1 := Scalar.cmpi .ne v1556 c0_i32_950
  let v1561 : BitVec 1 := Scalar.andi v1560 v1557
  let v1562 : BitVec 32 := Scalar.addi v1556 v1555
  let v1563 : BitVec 32 := Scalar.select v1561 v1562 v1556
  let c0_i32_1235 : BitVec 32 := 0#32
  let v1973 : BitVec 1 := Scalar.cmpi .sgt v1563 c0_i32_1235
  let v1974 : BitVec 32 := Scalar.extui v1973
  let c0_i32_1236 : BitVec 32 := 0#32
  let v1975 : BitVec 1 := Scalar.cmpi .slt v1563 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v1563 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v1563 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev26 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let v1716 : BitVec 32 := Scalar.extui v1574
  let c0_i32_1029 : BitVec 32 := 0#32
  let v1717 : BitVec 1 := Scalar.cmpi .ne v1716 c0_i32_1029
  v1717

def k0_off80 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c0_i32_1217 : BitVec 32 := 0#32
  let v1941 : BitVec 1 := Scalar.cmpi .sgt v1501 c0_i32_1217
  let v1942 : BitVec 32 := Scalar.extui v1941
  let c0_i32_1218 : BitVec 32 := 0#32
  let v1943 : BitVec 1 := Scalar.cmpi .slt v1501 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1501 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1501 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off81 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_929 : BitVec 32 := 6#32
  let v1528 : BitVec 32 := Scalar.addi v2 c6_i32_929
  let c16_i32_930 : BitVec 32 := 16#32
  let c0_i32_931 : BitVec 32 := 0#32
  let v1529 : BitVec 1 := Scalar.cmpi .eq c16_i32_930 c0_i32_931
  let c1_i32_932 : BitVec 32 := 1#32
  let v1530 : BitVec 32 := Scalar.select v1529 c1_i32_932 c16_i32_930
  let v1531 : BitVec 32 := Scalar.remsi v1528 v1530
  let c0_i32_934 : BitVec 32 := 0#32
  let v1533 : BitVec 1 := Scalar.cmpi .slt v1531 c0_i32_934
  let c0_i32_935 : BitVec 32 := 0#32
  let v1534 : BitVec 1 := Scalar.cmpi .slt v1530 c0_i32_935
  let v1535 : BitVec 1 := Scalar.xori v1533 v1534
  let c0_i32_933 : BitVec 32 := 0#32
  let v1532 : BitVec 1 := Scalar.cmpi .ne v1531 c0_i32_933
  let v1536 : BitVec 1 := Scalar.andi v1535 v1532
  let v1537 : BitVec 32 := Scalar.addi v1531 v1530
  let v1538 : BitVec 32 := Scalar.select v1536 v1537 v1531
  let c0_i32_1224 : BitVec 32 := 0#32
  let v1958 : BitVec 1 := Scalar.cmpi .sgt v1538 c0_i32_1224
  let v1959 : BitVec 32 := Scalar.extui v1958
  let c0_i32_1225 : BitVec 32 := 0#32
  let v1960 : BitVec 1 := Scalar.cmpi .slt v1538 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1538 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1538 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off82 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c0_i32_1217 : BitVec 32 := 0#32
  let v1941 : BitVec 1 := Scalar.cmpi .sgt v1501 c0_i32_1217
  let v1942 : BitVec 32 := Scalar.extui v1941
  let c0_i32_1218 : BitVec 32 := 0#32
  let v1943 : BitVec 1 := Scalar.cmpi .slt v1501 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1501 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1501 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off83 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_929 : BitVec 32 := 6#32
  let v1528 : BitVec 32 := Scalar.addi v2 c6_i32_929
  let c16_i32_930 : BitVec 32 := 16#32
  let c0_i32_931 : BitVec 32 := 0#32
  let v1529 : BitVec 1 := Scalar.cmpi .eq c16_i32_930 c0_i32_931
  let c1_i32_932 : BitVec 32 := 1#32
  let v1530 : BitVec 32 := Scalar.select v1529 c1_i32_932 c16_i32_930
  let v1531 : BitVec 32 := Scalar.remsi v1528 v1530
  let c0_i32_934 : BitVec 32 := 0#32
  let v1533 : BitVec 1 := Scalar.cmpi .slt v1531 c0_i32_934
  let c0_i32_935 : BitVec 32 := 0#32
  let v1534 : BitVec 1 := Scalar.cmpi .slt v1530 c0_i32_935
  let v1535 : BitVec 1 := Scalar.xori v1533 v1534
  let c0_i32_933 : BitVec 32 := 0#32
  let v1532 : BitVec 1 := Scalar.cmpi .ne v1531 c0_i32_933
  let v1536 : BitVec 1 := Scalar.andi v1535 v1532
  let v1537 : BitVec 32 := Scalar.addi v1531 v1530
  let v1538 : BitVec 32 := Scalar.select v1536 v1537 v1531
  let c0_i32_1224 : BitVec 32 := 0#32
  let v1958 : BitVec 1 := Scalar.cmpi .sgt v1538 c0_i32_1224
  let v1959 : BitVec 32 := Scalar.extui v1958
  let c0_i32_1225 : BitVec 32 := 0#32
  let v1960 : BitVec 1 := Scalar.cmpi .slt v1538 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1538 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1538 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let true_1030 : BitVec 1 := 1#1
  let v1718 : BitVec 1 := Scalar.xori v1574 true_1030
  let v1719 : BitVec 32 := Scalar.extui v1718
  let c0_i32_1035 : BitVec 32 := 0#32
  let v1720 : BitVec 1 := Scalar.cmpi .ne v1719 c0_i32_1035
  v1720

def k0_off84 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_911 : BitVec 32 := 1#32
  let v1502 : BitVec 32 := Scalar.subi v2 c1_i32_911
  let c6_i32_912 : BitVec 32 := 6#32
  let v1503 : BitVec 32 := Scalar.subi v1502 c6_i32_912
  let c32_i32_913 : BitVec 32 := 32#32
  let v1504 : BitVec 32 := Scalar.addi v1503 c32_i32_913
  let c16_i32_914 : BitVec 32 := 16#32
  let c0_i32_915 : BitVec 32 := 0#32
  let v1505 : BitVec 1 := Scalar.cmpi .eq c16_i32_914 c0_i32_915
  let c1_i32_916 : BitVec 32 := 1#32
  let v1506 : BitVec 32 := Scalar.select v1505 c1_i32_916 c16_i32_914
  let v1507 : BitVec 32 := Scalar.remsi v1504 v1506
  let c0_i32_918 : BitVec 32 := 0#32
  let v1509 : BitVec 1 := Scalar.cmpi .slt v1507 c0_i32_918
  let c0_i32_919 : BitVec 32 := 0#32
  let v1510 : BitVec 1 := Scalar.cmpi .slt v1506 c0_i32_919
  let v1511 : BitVec 1 := Scalar.xori v1509 v1510
  let c0_i32_917 : BitVec 32 := 0#32
  let v1508 : BitVec 1 := Scalar.cmpi .ne v1507 c0_i32_917
  let v1512 : BitVec 1 := Scalar.andi v1511 v1508
  let v1513 : BitVec 32 := Scalar.addi v1507 v1506
  let v1514 : BitVec 32 := Scalar.select v1512 v1513 v1507
  let c0_i32_982 : BitVec 32 := 0#32
  let v1627 : BitVec 1 := Scalar.cmpi .sgt v1514 c0_i32_982
  let v1628 : BitVec 32 := Scalar.extui v1627
  let c0_i32_983 : BitVec 32 := 0#32
  let v1629 : BitVec 1 := Scalar.cmpi .slt v1514 c0_i32_983
  let v1630 : BitVec 32 := Scalar.extui v1629
  let v1631 : BitVec 32 := Scalar.subi v1628 v1630
  let c2_i32_981 : BitVec 32 := 2#32
  let c0_i32_984 : BitVec 32 := 0#32
  let v1632 : BitVec 1 := Scalar.cmpi .sgt c2_i32_981 c0_i32_984
  let v1633 : BitVec 32 := Scalar.extui v1632
  let c0_i32_985 : BitVec 32 := 0#32
  let v1634 : BitVec 1 := Scalar.cmpi .slt c2_i32_981 c0_i32_985
  let v1635 : BitVec 32 := Scalar.extui v1634
  let v1636 : BitVec 32 := Scalar.subi v1633 v1635
  let v1637 : BitVec 1 := Scalar.cmpi .ne v1631 v1636
  let v1638 : BitVec 32 := Scalar.remsi v1514 c2_i32_981
  let c0_i32_986 : BitVec 32 := 0#32
  let v1639 : BitVec 1 := Scalar.cmpi .ne v1638 c0_i32_986
  let v1640 : BitVec 1 := Scalar.andi v1637 v1639
  let v1626 : BitVec 32 := Scalar.divsi v1514 c2_i32_981
  let c1_i32_987 : BitVec 32 := 1#32
  let v1641 : BitVec 32 := Scalar.subi v1626 c1_i32_987
  let v1642 : BitVec 32 := Scalar.select v1640 v1641 v1626
  let c0_i32_1218 : BitVec 32 := 0#32
  let c0_i32_1219 : BitVec 32 := 0#32
  let c0_i32_1220 : BitVec 32 := 0#32
  ![v1642.toNat, 0, 0, 0]
def k0_off85 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_936 : BitVec 32 := 1#32
  let v1539 : BitVec 32 := Scalar.addi v2 c1_i32_936
  let c6_i32_937 : BitVec 32 := 6#32
  let v1540 : BitVec 32 := Scalar.addi v1539 c6_i32_937
  let c16_i32_938 : BitVec 32 := 16#32
  let c0_i32_939 : BitVec 32 := 0#32
  let v1541 : BitVec 1 := Scalar.cmpi .eq c16_i32_938 c0_i32_939
  let c1_i32_940 : BitVec 32 := 1#32
  let v1542 : BitVec 32 := Scalar.select v1541 c1_i32_940 c16_i32_938
  let v1543 : BitVec 32 := Scalar.remsi v1540 v1542
  let c0_i32_942 : BitVec 32 := 0#32
  let v1545 : BitVec 1 := Scalar.cmpi .slt v1543 c0_i32_942
  let c0_i32_943 : BitVec 32 := 0#32
  let v1546 : BitVec 1 := Scalar.cmpi .slt v1542 c0_i32_943
  let v1547 : BitVec 1 := Scalar.xori v1545 v1546
  let c0_i32_941 : BitVec 32 := 0#32
  let v1544 : BitVec 1 := Scalar.cmpi .ne v1543 c0_i32_941
  let v1548 : BitVec 1 := Scalar.andi v1547 v1544
  let v1549 : BitVec 32 := Scalar.addi v1543 v1542
  let v1550 : BitVec 32 := Scalar.select v1548 v1549 v1543
  let c0_i32_1010 : BitVec 32 := 0#32
  let v1695 : BitVec 1 := Scalar.cmpi .sgt v1550 c0_i32_1010
  let v1696 : BitVec 32 := Scalar.extui v1695
  let c0_i32_1011 : BitVec 32 := 0#32
  let v1697 : BitVec 1 := Scalar.cmpi .slt v1550 c0_i32_1011
  let v1698 : BitVec 32 := Scalar.extui v1697
  let v1699 : BitVec 32 := Scalar.subi v1696 v1698
  let c2_i32_1009 : BitVec 32 := 2#32
  let c0_i32_1012 : BitVec 32 := 0#32
  let v1700 : BitVec 1 := Scalar.cmpi .sgt c2_i32_1009 c0_i32_1012
  let v1701 : BitVec 32 := Scalar.extui v1700
  let c0_i32_1013 : BitVec 32 := 0#32
  let v1702 : BitVec 1 := Scalar.cmpi .slt c2_i32_1009 c0_i32_1013
  let v1703 : BitVec 32 := Scalar.extui v1702
  let v1704 : BitVec 32 := Scalar.subi v1701 v1703
  let v1705 : BitVec 1 := Scalar.cmpi .ne v1699 v1704
  let v1706 : BitVec 32 := Scalar.remsi v1550 c2_i32_1009
  let c0_i32_1014 : BitVec 32 := 0#32
  let v1707 : BitVec 1 := Scalar.cmpi .ne v1706 c0_i32_1014
  let v1708 : BitVec 1 := Scalar.andi v1705 v1707
  let v1694 : BitVec 32 := Scalar.divsi v1550 c2_i32_1009
  let c1_i32_1015 : BitVec 32 := 1#32
  let v1709 : BitVec 32 := Scalar.subi v1694 c1_i32_1015
  let v1710 : BitVec 32 := Scalar.select v1708 v1709 v1694
  let c0_i32_1226 : BitVec 32 := 0#32
  let c0_i32_1227 : BitVec 32 := 0#32
  let c0_i32_1228 : BitVec 32 := 0#32
  ![v1710.toNat, 0, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let v1721 : BitVec 32 := Scalar.extui v1574
  let c0_i32_1044 : BitVec 32 := 0#32
  let v1722 : BitVec 1 := Scalar.cmpi .ne v1721 c0_i32_1044
  v1722

def k0_off86 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c0_i32_1225 : BitVec 32 := 0#32
  let v1949 : BitVec 1 := Scalar.cmpi .sgt v1501 c0_i32_1225
  let v1950 : BitVec 32 := Scalar.extui v1949
  let c0_i32_1226 : BitVec 32 := 0#32
  let v1951 : BitVec 1 := Scalar.cmpi .slt v1501 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v1501 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v1501 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off87 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_929 : BitVec 32 := 6#32
  let v1528 : BitVec 32 := Scalar.addi v2 c6_i32_929
  let c16_i32_930 : BitVec 32 := 16#32
  let c0_i32_931 : BitVec 32 := 0#32
  let v1529 : BitVec 1 := Scalar.cmpi .eq c16_i32_930 c0_i32_931
  let c1_i32_932 : BitVec 32 := 1#32
  let v1530 : BitVec 32 := Scalar.select v1529 c1_i32_932 c16_i32_930
  let v1531 : BitVec 32 := Scalar.remsi v1528 v1530
  let c0_i32_934 : BitVec 32 := 0#32
  let v1533 : BitVec 1 := Scalar.cmpi .slt v1531 c0_i32_934
  let c0_i32_935 : BitVec 32 := 0#32
  let v1534 : BitVec 1 := Scalar.cmpi .slt v1530 c0_i32_935
  let v1535 : BitVec 1 := Scalar.xori v1533 v1534
  let c0_i32_933 : BitVec 32 := 0#32
  let v1532 : BitVec 1 := Scalar.cmpi .ne v1531 c0_i32_933
  let v1536 : BitVec 1 := Scalar.andi v1535 v1532
  let v1537 : BitVec 32 := Scalar.addi v1531 v1530
  let v1538 : BitVec 32 := Scalar.select v1536 v1537 v1531
  let c0_i32_1256 : BitVec 32 := 0#32
  let v2002 : BitVec 1 := Scalar.cmpi .sgt v1538 c0_i32_1256
  let v2003 : BitVec 32 := Scalar.extui v2002
  let c0_i32_1257 : BitVec 32 := 0#32
  let v2004 : BitVec 1 := Scalar.cmpi .slt v1538 c0_i32_1257
  let v2005 : BitVec 32 := Scalar.extui v2004
  let v2006 : BitVec 32 := Scalar.subi v2003 v2005
  let c2_i32_1255 : BitVec 32 := 2#32
  let c0_i32_1258 : BitVec 32 := 0#32
  let v2007 : BitVec 1 := Scalar.cmpi .sgt c2_i32_1255 c0_i32_1258
  let v2008 : BitVec 32 := Scalar.extui v2007
  let c0_i32_1259 : BitVec 32 := 0#32
  let v2009 : BitVec 1 := Scalar.cmpi .slt c2_i32_1255 c0_i32_1259
  let v2010 : BitVec 32 := Scalar.extui v2009
  let v2011 : BitVec 32 := Scalar.subi v2008 v2010
  let v2012 : BitVec 1 := Scalar.cmpi .ne v2006 v2011
  let v2013 : BitVec 32 := Scalar.remsi v1538 c2_i32_1255
  let c0_i32_1260 : BitVec 32 := 0#32
  let v2014 : BitVec 1 := Scalar.cmpi .ne v2013 c0_i32_1260
  let v2015 : BitVec 1 := Scalar.andi v2012 v2014
  let v2001 : BitVec 32 := Scalar.divsi v1538 c2_i32_1255
  let c1_i32_1261 : BitVec 32 := 1#32
  let v2016 : BitVec 32 := Scalar.subi v2001 c1_i32_1261
  let v2017 : BitVec 32 := Scalar.select v2015 v2016 v2001
  let v2018 : Index := Scalar.indexCast v2017
  let c0_1262 : Index := 0#32
  let c0_1263 : Index := 0#32
  let c0_1264 : Index := 0#32
  ![v2018.toNat, 0, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c2_i32_953 : BitVec 32 := 2#32
  let c0_i32_954 : BitVec 32 := 0#32
  let v1564 : BitVec 1 := Scalar.cmpi .eq c2_i32_953 c0_i32_954
  let c1_i32_955 : BitVec 32 := 1#32
  let v1565 : BitVec 32 := Scalar.select v1564 c1_i32_955 c2_i32_953
  let v1566 : BitVec 32 := Scalar.remsi v1501 v1565
  let c0_i32_957 : BitVec 32 := 0#32
  let v1568 : BitVec 1 := Scalar.cmpi .slt v1566 c0_i32_957
  let c0_i32_958 : BitVec 32 := 0#32
  let v1569 : BitVec 1 := Scalar.cmpi .slt v1565 c0_i32_958
  let v1570 : BitVec 1 := Scalar.xori v1568 v1569
  let c0_i32_956 : BitVec 32 := 0#32
  let v1567 : BitVec 1 := Scalar.cmpi .ne v1566 c0_i32_956
  let v1571 : BitVec 1 := Scalar.andi v1570 v1567
  let v1572 : BitVec 32 := Scalar.addi v1566 v1565
  let v1573 : BitVec 32 := Scalar.select v1571 v1572 v1566
  let c0_i32_959 : BitVec 32 := 0#32
  let v1574 : BitVec 1 := Scalar.cmpi .eq v1573 c0_i32_959
  let v1723 : BitVec 32 := Scalar.extui v1574
  let c0_i32_1049 : BitVec 32 := 0#32
  let v1724 : BitVec 1 := Scalar.cmpi .ne v1723 c0_i32_1049
  v1724

def k0_off88 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v1490 : BitVec 32 := Scalar.subi v2 c6_i32
  let c32_i32_904 : BitVec 32 := 32#32
  let v1491 : BitVec 32 := Scalar.addi v1490 c32_i32_904
  let c16_i32_905 : BitVec 32 := 16#32
  let c0_i32_906 : BitVec 32 := 0#32
  let v1492 : BitVec 1 := Scalar.cmpi .eq c16_i32_905 c0_i32_906
  let c1_i32_907 : BitVec 32 := 1#32
  let v1493 : BitVec 32 := Scalar.select v1492 c1_i32_907 c16_i32_905
  let v1494 : BitVec 32 := Scalar.remsi v1491 v1493
  let c0_i32_909 : BitVec 32 := 0#32
  let v1496 : BitVec 1 := Scalar.cmpi .slt v1494 c0_i32_909
  let c0_i32_910 : BitVec 32 := 0#32
  let v1497 : BitVec 1 := Scalar.cmpi .slt v1493 c0_i32_910
  let v1498 : BitVec 1 := Scalar.xori v1496 v1497
  let c0_i32_908 : BitVec 32 := 0#32
  let v1495 : BitVec 1 := Scalar.cmpi .ne v1494 c0_i32_908
  let v1499 : BitVec 1 := Scalar.andi v1498 v1495
  let v1500 : BitVec 32 := Scalar.addi v1494 v1493
  let v1501 : BitVec 32 := Scalar.select v1499 v1500 v1494
  let c0_i32_961 : BitVec 32 := 0#32
  let v1576 : BitVec 1 := Scalar.cmpi .sgt v1501 c0_i32_961
  let v1577 : BitVec 32 := Scalar.extui v1576
  let c0_i32_962 : BitVec 32 := 0#32
  let v1578 : BitVec 1 := Scalar.cmpi .slt v1501 c0_i32_962
  let v1579 : BitVec 32 := Scalar.extui v1578
  let v1580 : BitVec 32 := Scalar.subi v1577 v1579
  let c2_i32_960 : BitVec 32 := 2#32
  let c0_i32_963 : BitVec 32 := 0#32
  let v1581 : BitVec 1 := Scalar.cmpi .sgt c2_i32_960 c0_i32_963
  let v1582 : BitVec 32 := Scalar.extui v1581
  let c0_i32_964 : BitVec 32 := 0#32
  let v1583 : BitVec 1 := Scalar.cmpi .slt c2_i32_960 c0_i32_964
  let v1584 : BitVec 32 := Scalar.extui v1583
  let v1585 : BitVec 32 := Scalar.subi v1582 v1584
  let v1586 : BitVec 1 := Scalar.cmpi .ne v1580 v1585
  let v1587 : BitVec 32 := Scalar.remsi v1501 c2_i32_960
  let c0_i32_965 : BitVec 32 := 0#32
  let v1588 : BitVec 1 := Scalar.cmpi .ne v1587 c0_i32_965
  let v1589 : BitVec 1 := Scalar.andi v1586 v1588
  let v1575 : BitVec 32 := Scalar.divsi v1501 c2_i32_960
  let c1_i32_966 : BitVec 32 := 1#32
  let v1590 : BitVec 32 := Scalar.subi v1575 c1_i32_966
  let v1591 : BitVec 32 := Scalar.select v1589 v1590 v1575
  let c0_i32_1217 : BitVec 32 := 0#32
  let c0_i32_1218 : BitVec 32 := 0#32
  let c0_i32_1219 : BitVec 32 := 0#32
  ![v1591.toNat, 0, 0, 0]
def k0_off89 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_929 : BitVec 32 := 6#32
  let v1528 : BitVec 32 := Scalar.addi v2 c6_i32_929
  let c16_i32_930 : BitVec 32 := 16#32
  let c0_i32_931 : BitVec 32 := 0#32
  let v1529 : BitVec 1 := Scalar.cmpi .eq c16_i32_930 c0_i32_931
  let c1_i32_932 : BitVec 32 := 1#32
  let v1530 : BitVec 32 := Scalar.select v1529 c1_i32_932 c16_i32_930
  let v1531 : BitVec 32 := Scalar.remsi v1528 v1530
  let c0_i32_934 : BitVec 32 := 0#32
  let v1533 : BitVec 1 := Scalar.cmpi .slt v1531 c0_i32_934
  let c0_i32_935 : BitVec 32 := 0#32
  let v1534 : BitVec 1 := Scalar.cmpi .slt v1530 c0_i32_935
  let v1535 : BitVec 1 := Scalar.xori v1533 v1534
  let c0_i32_933 : BitVec 32 := 0#32
  let v1532 : BitVec 1 := Scalar.cmpi .ne v1531 c0_i32_933
  let v1536 : BitVec 1 := Scalar.andi v1535 v1532
  let v1537 : BitVec 32 := Scalar.addi v1531 v1530
  let v1538 : BitVec 32 := Scalar.select v1536 v1537 v1531
  let c0_i32_989 : BitVec 32 := 0#32
  let v1644 : BitVec 1 := Scalar.cmpi .sgt v1538 c0_i32_989
  let v1645 : BitVec 32 := Scalar.extui v1644
  let c0_i32_990 : BitVec 32 := 0#32
  let v1646 : BitVec 1 := Scalar.cmpi .slt v1538 c0_i32_990
  let v1647 : BitVec 32 := Scalar.extui v1646
  let v1648 : BitVec 32 := Scalar.subi v1645 v1647
  let c2_i32_988 : BitVec 32 := 2#32
  let c0_i32_991 : BitVec 32 := 0#32
  let v1649 : BitVec 1 := Scalar.cmpi .sgt c2_i32_988 c0_i32_991
  let v1650 : BitVec 32 := Scalar.extui v1649
  let c0_i32_992 : BitVec 32 := 0#32
  let v1651 : BitVec 1 := Scalar.cmpi .slt c2_i32_988 c0_i32_992
  let v1652 : BitVec 32 := Scalar.extui v1651
  let v1653 : BitVec 32 := Scalar.subi v1650 v1652
  let v1654 : BitVec 1 := Scalar.cmpi .ne v1648 v1653
  let v1655 : BitVec 32 := Scalar.remsi v1538 c2_i32_988
  let c0_i32_993 : BitVec 32 := 0#32
  let v1656 : BitVec 1 := Scalar.cmpi .ne v1655 c0_i32_993
  let v1657 : BitVec 1 := Scalar.andi v1654 v1656
  let v1643 : BitVec 32 := Scalar.divsi v1538 c2_i32_988
  let c1_i32_994 : BitVec 32 := 1#32
  let v1658 : BitVec 32 := Scalar.subi v1643 c1_i32_994
  let v1659 : BitVec 32 := Scalar.select v1657 v1658 v1643
  let c0_i32_1224 : BitVec 32 := 0#32
  let c0_i32_1225 : BitVec 32 := 0#32
  let c0_i32_1226 : BitVec 32 := 0#32
  ![v1659.toNat, 0, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let v1869 : BitVec 32 := Scalar.extui v1800
  let c0_i32_1137 : BitVec 32 := 0#32
  let v1870 : BitVec 1 := Scalar.cmpi .ne v1869 c0_i32_1137
  v1870

def k0_off90 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c0_i32_1115 : BitVec 32 := 0#32
  let v1819 : BitVec 1 := Scalar.cmpi .sgt v1739 c0_i32_1115
  let v1820 : BitVec 32 := Scalar.extui v1819
  let c0_i32_1116 : BitVec 32 := 0#32
  let v1821 : BitVec 1 := Scalar.cmpi .slt v1739 c0_i32_1116
  let v1822 : BitVec 32 := Scalar.extui v1821
  let v1823 : BitVec 32 := Scalar.subi v1820 v1822
  let c2_i32_1114 : BitVec 32 := 2#32
  let c0_i32_1117 : BitVec 32 := 0#32
  let v1824 : BitVec 1 := Scalar.cmpi .sgt c2_i32_1114 c0_i32_1117
  let v1825 : BitVec 32 := Scalar.extui v1824
  let c0_i32_1118 : BitVec 32 := 0#32
  let v1826 : BitVec 1 := Scalar.cmpi .slt c2_i32_1114 c0_i32_1118
  let v1827 : BitVec 32 := Scalar.extui v1826
  let v1828 : BitVec 32 := Scalar.subi v1825 v1827
  let v1829 : BitVec 1 := Scalar.cmpi .ne v1823 v1828
  let v1830 : BitVec 32 := Scalar.remsi v1739 c2_i32_1114
  let c0_i32_1119 : BitVec 32 := 0#32
  let v1831 : BitVec 1 := Scalar.cmpi .ne v1830 c0_i32_1119
  let v1832 : BitVec 1 := Scalar.andi v1829 v1831
  let v1818 : BitVec 32 := Scalar.divsi v1739 c2_i32_1114
  let c1_i32_1120 : BitVec 32 := 1#32
  let v1833 : BitVec 32 := Scalar.subi v1818 c1_i32_1120
  let v1834 : BitVec 32 := Scalar.select v1832 v1833 v1818
  let c0_i32_1218 : BitVec 32 := 0#32
  let c0_i32_1219 : BitVec 32 := 0#32
  let c0_i32_1220 : BitVec 32 := 0#32
  ![v1834.toNat, 0, 0, 0]
def k0_dev27 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1216 : BitVec 32 := 1#32
  let v1940 : BitVec 32 := Scalar.muli v25 c1_i32_1216
  let v1941 : BitVec 32 := Scalar.addi c0_i32_1217 v1940
  v1941.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let true_1138 : BitVec 1 := 1#1
  let v1871 : BitVec 1 := Scalar.xori v1800 true_1138
  let v1872 : BitVec 32 := Scalar.extui v1871
  let c0_i32_1145 : BitVec 32 := 0#32
  let v1873 : BitVec 1 := Scalar.cmpi .ne v1872 c0_i32_1145
  v1873

def k0_off91 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1075 : BitVec 32 := 1#32
  let v1753 : BitVec 32 := Scalar.addi v2 c1_i32_1075
  let c7_i32_1076 : BitVec 32 := 7#32
  let v1754 : BitVec 32 := Scalar.subi v1753 c7_i32_1076
  let c32_i32_1077 : BitVec 32 := 32#32
  let v1755 : BitVec 32 := Scalar.addi v1754 c32_i32_1077
  let c16_i32_1078 : BitVec 32 := 16#32
  let c0_i32_1079 : BitVec 32 := 0#32
  let v1756 : BitVec 1 := Scalar.cmpi .eq c16_i32_1078 c0_i32_1079
  let c1_i32_1080 : BitVec 32 := 1#32
  let v1757 : BitVec 32 := Scalar.select v1756 c1_i32_1080 c16_i32_1078
  let v1758 : BitVec 32 := Scalar.remsi v1755 v1757
  let c0_i32_1082 : BitVec 32 := 0#32
  let v1760 : BitVec 1 := Scalar.cmpi .slt v1758 c0_i32_1082
  let c0_i32_1083 : BitVec 32 := 0#32
  let v1761 : BitVec 1 := Scalar.cmpi .slt v1757 c0_i32_1083
  let v1762 : BitVec 1 := Scalar.xori v1760 v1761
  let c0_i32_1081 : BitVec 32 := 0#32
  let v1759 : BitVec 1 := Scalar.cmpi .ne v1758 c0_i32_1081
  let v1763 : BitVec 1 := Scalar.andi v1762 v1759
  let v1764 : BitVec 32 := Scalar.addi v1758 v1757
  let v1765 : BitVec 32 := Scalar.select v1763 v1764 v1758
  let c0_i32_1217 : BitVec 32 := 0#32
  let v1941 : BitVec 1 := Scalar.cmpi .sgt v1765 c0_i32_1217
  let v1942 : BitVec 32 := Scalar.extui v1941
  let c0_i32_1218 : BitVec 32 := 0#32
  let v1943 : BitVec 1 := Scalar.cmpi .slt v1765 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1765 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1765 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev28 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_off92 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1091 : BitVec 32 := 1#32
  let v1777 : BitVec 32 := Scalar.subi v2 c1_i32_1091
  let c7_i32_1092 : BitVec 32 := 7#32
  let v1778 : BitVec 32 := Scalar.addi v1777 c7_i32_1092
  let c16_i32_1093 : BitVec 32 := 16#32
  let v1779 : BitVec 32 := Scalar.addi v1778 c16_i32_1093
  let c16_i32_1094 : BitVec 32 := 16#32
  let c0_i32_1095 : BitVec 32 := 0#32
  let v1780 : BitVec 1 := Scalar.cmpi .eq c16_i32_1094 c0_i32_1095
  let c1_i32_1096 : BitVec 32 := 1#32
  let v1781 : BitVec 32 := Scalar.select v1780 c1_i32_1096 c16_i32_1094
  let v1782 : BitVec 32 := Scalar.remsi v1779 v1781
  let c0_i32_1098 : BitVec 32 := 0#32
  let v1784 : BitVec 1 := Scalar.cmpi .slt v1782 c0_i32_1098
  let c0_i32_1099 : BitVec 32 := 0#32
  let v1785 : BitVec 1 := Scalar.cmpi .slt v1781 c0_i32_1099
  let v1786 : BitVec 1 := Scalar.xori v1784 v1785
  let c0_i32_1097 : BitVec 32 := 0#32
  let v1783 : BitVec 1 := Scalar.cmpi .ne v1782 c0_i32_1097
  let v1787 : BitVec 1 := Scalar.andi v1786 v1783
  let v1788 : BitVec 32 := Scalar.addi v1782 v1781
  let v1789 : BitVec 32 := Scalar.select v1787 v1788 v1782
  let c0_i32_1235 : BitVec 32 := 0#32
  let v1973 : BitVec 1 := Scalar.cmpi .sgt v1789 c0_i32_1235
  let v1974 : BitVec 32 := Scalar.extui v1973
  let c0_i32_1236 : BitVec 32 := 0#32
  let v1975 : BitVec 1 := Scalar.cmpi .slt v1789 c0_i32_1236
  let v1976 : BitVec 32 := Scalar.extui v1975
  let v1977 : BitVec 32 := Scalar.subi v1974 v1976
  let c2_i32_1234 : BitVec 32 := 2#32
  let c0_i32_1237 : BitVec 32 := 0#32
  let v1978 : BitVec 1 := Scalar.cmpi .sgt c2_i32_1234 c0_i32_1237
  let v1979 : BitVec 32 := Scalar.extui v1978
  let c0_i32_1238 : BitVec 32 := 0#32
  let v1980 : BitVec 1 := Scalar.cmpi .slt c2_i32_1234 c0_i32_1238
  let v1981 : BitVec 32 := Scalar.extui v1980
  let v1982 : BitVec 32 := Scalar.subi v1979 v1981
  let v1983 : BitVec 1 := Scalar.cmpi .ne v1977 v1982
  let v1984 : BitVec 32 := Scalar.remsi v1789 c2_i32_1234
  let c0_i32_1239 : BitVec 32 := 0#32
  let v1985 : BitVec 1 := Scalar.cmpi .ne v1984 c0_i32_1239
  let v1986 : BitVec 1 := Scalar.andi v1983 v1985
  let v1972 : BitVec 32 := Scalar.divsi v1789 c2_i32_1234
  let c1_i32_1240 : BitVec 32 := 1#32
  let v1987 : BitVec 32 := Scalar.subi v1972 c1_i32_1240
  let v1988 : BitVec 32 := Scalar.select v1986 v1987 v1972
  let v1989 : Index := Scalar.indexCast v1988
  let c0_1241 : Index := 0#32
  let c0_1242 : Index := 0#32
  let c0_1243 : Index := 0#32
  ![v1989.toNat, 0, 0, 0]
def k0_dev29 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1247 : BitVec 32 := 1#32
  let v1996 : BitVec 32 := Scalar.muli v14 c1_i32_1247
  let v1997 : BitVec 32 := Scalar.addi c0_i32_1248 v1996
  v1997.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let v1874 : BitVec 32 := Scalar.extui v1800
  let c0_i32_1146 : BitVec 32 := 0#32
  let v1875 : BitVec 1 := Scalar.cmpi .ne v1874 c0_i32_1146
  v1875

def k0_off93 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c0_i32_1217 : BitVec 32 := 0#32
  let v1941 : BitVec 1 := Scalar.cmpi .sgt v1739 c0_i32_1217
  let v1942 : BitVec 32 := Scalar.extui v1941
  let c0_i32_1218 : BitVec 32 := 0#32
  let v1943 : BitVec 1 := Scalar.cmpi .slt v1739 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1739 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1739 c2_i32_1216
  let c1_i32_1222 : BitVec 32 := 1#32
  let v1955 : BitVec 32 := Scalar.subi v1940 c1_i32_1222
  let v1956 : BitVec 32 := Scalar.select v1954 v1955 v1940
  let v1974 : Index := Scalar.indexCast v1956
  let c0_1230 : Index := 0#32
  let c0_1231 : Index := 0#32
  let c0_1232 : Index := 0#32
  ![v1974.toNat, 0, 0, 0]
def k0_off94 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1084 : BitVec 32 := 7#32
  let v1766 : BitVec 32 := Scalar.addi v2 c7_i32_1084
  let c16_i32_1085 : BitVec 32 := 16#32
  let c0_i32_1086 : BitVec 32 := 0#32
  let v1767 : BitVec 1 := Scalar.cmpi .eq c16_i32_1085 c0_i32_1086
  let c1_i32_1087 : BitVec 32 := 1#32
  let v1768 : BitVec 32 := Scalar.select v1767 c1_i32_1087 c16_i32_1085
  let v1769 : BitVec 32 := Scalar.remsi v1766 v1768
  let c0_i32_1089 : BitVec 32 := 0#32
  let v1771 : BitVec 1 := Scalar.cmpi .slt v1769 c0_i32_1089
  let c0_i32_1090 : BitVec 32 := 0#32
  let v1772 : BitVec 1 := Scalar.cmpi .slt v1768 c0_i32_1090
  let v1773 : BitVec 1 := Scalar.xori v1771 v1772
  let c0_i32_1088 : BitVec 32 := 0#32
  let v1770 : BitVec 1 := Scalar.cmpi .ne v1769 c0_i32_1088
  let v1774 : BitVec 1 := Scalar.andi v1773 v1770
  let v1775 : BitVec 32 := Scalar.addi v1769 v1768
  let v1776 : BitVec 32 := Scalar.select v1774 v1775 v1769
  let c0_i32_1224 : BitVec 32 := 0#32
  let v1958 : BitVec 1 := Scalar.cmpi .sgt v1776 c0_i32_1224
  let v1959 : BitVec 32 := Scalar.extui v1958
  let c0_i32_1225 : BitVec 32 := 0#32
  let v1960 : BitVec 1 := Scalar.cmpi .slt v1776 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1776 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1776 c2_i32_1223
  let c1_i32_1229 : BitVec 32 := 1#32
  let v1972 : BitVec 32 := Scalar.subi v1957 c1_i32_1229
  let v1973 : BitVec 32 := Scalar.select v1971 v1972 v1957
  let v1977 : Index := Scalar.indexCast v1973
  let c0_1233 : Index := 0#32
  let c0_1234 : Index := 0#32
  let c0_1235 : Index := 0#32
  ![v1977.toNat, 0, 0, 0]
def k0_off95 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c0_i32_1217 : BitVec 32 := 0#32
  let v1941 : BitVec 1 := Scalar.cmpi .sgt v1739 c0_i32_1217
  let v1942 : BitVec 32 := Scalar.extui v1941
  let c0_i32_1218 : BitVec 32 := 0#32
  let v1943 : BitVec 1 := Scalar.cmpi .slt v1739 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1739 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1739 c2_i32_1216
  let c1_i32_1222 : BitVec 32 := 1#32
  let v1955 : BitVec 32 := Scalar.subi v1940 c1_i32_1222
  let v1956 : BitVec 32 := Scalar.select v1954 v1955 v1940
  let v2084 : Index := Scalar.indexCast v1956
  let c1 : Index := 1#32
  let c0_1267 : Index := 0#32
  let c0_1268 : Index := 0#32
  ![v2084.toNat, 1, 0, 0]
def k0_off96 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1084 : BitVec 32 := 7#32
  let v1766 : BitVec 32 := Scalar.addi v2 c7_i32_1084
  let c16_i32_1085 : BitVec 32 := 16#32
  let c0_i32_1086 : BitVec 32 := 0#32
  let v1767 : BitVec 1 := Scalar.cmpi .eq c16_i32_1085 c0_i32_1086
  let c1_i32_1087 : BitVec 32 := 1#32
  let v1768 : BitVec 32 := Scalar.select v1767 c1_i32_1087 c16_i32_1085
  let v1769 : BitVec 32 := Scalar.remsi v1766 v1768
  let c0_i32_1089 : BitVec 32 := 0#32
  let v1771 : BitVec 1 := Scalar.cmpi .slt v1769 c0_i32_1089
  let c0_i32_1090 : BitVec 32 := 0#32
  let v1772 : BitVec 1 := Scalar.cmpi .slt v1768 c0_i32_1090
  let v1773 : BitVec 1 := Scalar.xori v1771 v1772
  let c0_i32_1088 : BitVec 32 := 0#32
  let v1770 : BitVec 1 := Scalar.cmpi .ne v1769 c0_i32_1088
  let v1774 : BitVec 1 := Scalar.andi v1773 v1770
  let v1775 : BitVec 32 := Scalar.addi v1769 v1768
  let v1776 : BitVec 32 := Scalar.select v1774 v1775 v1769
  let c0_i32_1224 : BitVec 32 := 0#32
  let v1958 : BitVec 1 := Scalar.cmpi .sgt v1776 c0_i32_1224
  let v1959 : BitVec 32 := Scalar.extui v1958
  let c0_i32_1225 : BitVec 32 := 0#32
  let v1960 : BitVec 1 := Scalar.cmpi .slt v1776 c0_i32_1225
  let v1961 : BitVec 32 := Scalar.extui v1960
  let v1962 : BitVec 32 := Scalar.subi v1959 v1961
  let c2_i32_1223 : BitVec 32 := 2#32
  let c0_i32_1226 : BitVec 32 := 0#32
  let v1963 : BitVec 1 := Scalar.cmpi .sgt c2_i32_1223 c0_i32_1226
  let v1964 : BitVec 32 := Scalar.extui v1963
  let c0_i32_1227 : BitVec 32 := 0#32
  let v1965 : BitVec 1 := Scalar.cmpi .slt c2_i32_1223 c0_i32_1227
  let v1966 : BitVec 32 := Scalar.extui v1965
  let v1967 : BitVec 32 := Scalar.subi v1964 v1966
  let v1968 : BitVec 1 := Scalar.cmpi .ne v1962 v1967
  let v1969 : BitVec 32 := Scalar.remsi v1776 c2_i32_1223
  let c0_i32_1228 : BitVec 32 := 0#32
  let v1970 : BitVec 1 := Scalar.cmpi .ne v1969 c0_i32_1228
  let v1971 : BitVec 1 := Scalar.andi v1968 v1970
  let v1957 : BitVec 32 := Scalar.divsi v1776 c2_i32_1223
  let c1_i32_1229 : BitVec 32 := 1#32
  let v1972 : BitVec 32 := Scalar.subi v1957 c1_i32_1229
  let v1973 : BitVec 32 := Scalar.select v1971 v1972 v1957
  let v2087 : Index := Scalar.indexCast v1973
  let c1_1269 : Index := 1#32
  let c0_1270 : Index := 0#32
  let c0_1271 : Index := 0#32
  ![v2087.toNat, 1, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let true_1147 : BitVec 1 := 1#1
  let v1876 : BitVec 1 := Scalar.xori v1800 true_1147
  let v1877 : BitVec 32 := Scalar.extui v1876
  let c0_i32_1150 : BitVec 32 := 0#32
  let v1878 : BitVec 1 := Scalar.cmpi .ne v1877 c0_i32_1150
  v1878

def k0_off97 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1066 : BitVec 32 := 1#32
  let v1740 : BitVec 32 := Scalar.subi v2 c1_i32_1066
  let c7_i32_1067 : BitVec 32 := 7#32
  let v1741 : BitVec 32 := Scalar.subi v1740 c7_i32_1067
  let c32_i32_1068 : BitVec 32 := 32#32
  let v1742 : BitVec 32 := Scalar.addi v1741 c32_i32_1068
  let c16_i32_1069 : BitVec 32 := 16#32
  let c0_i32_1070 : BitVec 32 := 0#32
  let v1743 : BitVec 1 := Scalar.cmpi .eq c16_i32_1069 c0_i32_1070
  let c1_i32_1071 : BitVec 32 := 1#32
  let v1744 : BitVec 32 := Scalar.select v1743 c1_i32_1071 c16_i32_1069
  let v1745 : BitVec 32 := Scalar.remsi v1742 v1744
  let c0_i32_1073 : BitVec 32 := 0#32
  let v1747 : BitVec 1 := Scalar.cmpi .slt v1745 c0_i32_1073
  let c0_i32_1074 : BitVec 32 := 0#32
  let v1748 : BitVec 1 := Scalar.cmpi .slt v1744 c0_i32_1074
  let v1749 : BitVec 1 := Scalar.xori v1747 v1748
  let c0_i32_1072 : BitVec 32 := 0#32
  let v1746 : BitVec 1 := Scalar.cmpi .ne v1745 c0_i32_1072
  let v1750 : BitVec 1 := Scalar.andi v1749 v1746
  let v1751 : BitVec 32 := Scalar.addi v1745 v1744
  let v1752 : BitVec 32 := Scalar.select v1750 v1751 v1745
  let c0_i32_1129 : BitVec 32 := 0#32
  let v1853 : BitVec 1 := Scalar.cmpi .sgt v1752 c0_i32_1129
  let v1854 : BitVec 32 := Scalar.extui v1853
  let c0_i32_1130 : BitVec 32 := 0#32
  let v1855 : BitVec 1 := Scalar.cmpi .slt v1752 c0_i32_1130
  let v1856 : BitVec 32 := Scalar.extui v1855
  let v1857 : BitVec 32 := Scalar.subi v1854 v1856
  let c2_i32_1128 : BitVec 32 := 2#32
  let c0_i32_1131 : BitVec 32 := 0#32
  let v1858 : BitVec 1 := Scalar.cmpi .sgt c2_i32_1128 c0_i32_1131
  let v1859 : BitVec 32 := Scalar.extui v1858
  let c0_i32_1132 : BitVec 32 := 0#32
  let v1860 : BitVec 1 := Scalar.cmpi .slt c2_i32_1128 c0_i32_1132
  let v1861 : BitVec 32 := Scalar.extui v1860
  let v1862 : BitVec 32 := Scalar.subi v1859 v1861
  let v1863 : BitVec 1 := Scalar.cmpi .ne v1857 v1862
  let v1864 : BitVec 32 := Scalar.remsi v1752 c2_i32_1128
  let c0_i32_1133 : BitVec 32 := 0#32
  let v1865 : BitVec 1 := Scalar.cmpi .ne v1864 c0_i32_1133
  let v1866 : BitVec 1 := Scalar.andi v1863 v1865
  let v1852 : BitVec 32 := Scalar.divsi v1752 c2_i32_1128
  let c1_i32_1134 : BitVec 32 := 1#32
  let v1867 : BitVec 32 := Scalar.subi v1852 c1_i32_1134
  let v1868 : BitVec 32 := Scalar.select v1866 v1867 v1852
  let c0_i32_1218 : BitVec 32 := 0#32
  let c0_i32_1219 : BitVec 32 := 0#32
  let c0_i32_1220 : BitVec 32 := 0#32
  ![v1868.toNat, 0, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let v1879 : BitVec 32 := Scalar.extui v1800
  let c0_i32_1159 : BitVec 32 := 0#32
  let v1880 : BitVec 1 := Scalar.cmpi .ne v1879 c0_i32_1159
  v1880

def k0_off98 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c0_i32_1225 : BitVec 32 := 0#32
  let v1949 : BitVec 1 := Scalar.cmpi .sgt v1739 c0_i32_1225
  let v1950 : BitVec 32 := Scalar.extui v1949
  let c0_i32_1226 : BitVec 32 := 0#32
  let v1951 : BitVec 1 := Scalar.cmpi .slt v1739 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v1739 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v1739 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_off99 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1084 : BitVec 32 := 7#32
  let v1766 : BitVec 32 := Scalar.addi v2 c7_i32_1084
  let c16_i32_1085 : BitVec 32 := 16#32
  let c0_i32_1086 : BitVec 32 := 0#32
  let v1767 : BitVec 1 := Scalar.cmpi .eq c16_i32_1085 c0_i32_1086
  let c1_i32_1087 : BitVec 32 := 1#32
  let v1768 : BitVec 32 := Scalar.select v1767 c1_i32_1087 c16_i32_1085
  let v1769 : BitVec 32 := Scalar.remsi v1766 v1768
  let c0_i32_1089 : BitVec 32 := 0#32
  let v1771 : BitVec 1 := Scalar.cmpi .slt v1769 c0_i32_1089
  let c0_i32_1090 : BitVec 32 := 0#32
  let v1772 : BitVec 1 := Scalar.cmpi .slt v1768 c0_i32_1090
  let v1773 : BitVec 1 := Scalar.xori v1771 v1772
  let c0_i32_1088 : BitVec 32 := 0#32
  let v1770 : BitVec 1 := Scalar.cmpi .ne v1769 c0_i32_1088
  let v1774 : BitVec 1 := Scalar.andi v1773 v1770
  let v1775 : BitVec 32 := Scalar.addi v1769 v1768
  let v1776 : BitVec 32 := Scalar.select v1774 v1775 v1769
  let c0_i32_1256 : BitVec 32 := 0#32
  let v2002 : BitVec 1 := Scalar.cmpi .sgt v1776 c0_i32_1256
  let v2003 : BitVec 32 := Scalar.extui v2002
  let c0_i32_1257 : BitVec 32 := 0#32
  let v2004 : BitVec 1 := Scalar.cmpi .slt v1776 c0_i32_1257
  let v2005 : BitVec 32 := Scalar.extui v2004
  let v2006 : BitVec 32 := Scalar.subi v2003 v2005
  let c2_i32_1255 : BitVec 32 := 2#32
  let c0_i32_1258 : BitVec 32 := 0#32
  let v2007 : BitVec 1 := Scalar.cmpi .sgt c2_i32_1255 c0_i32_1258
  let v2008 : BitVec 32 := Scalar.extui v2007
  let c0_i32_1259 : BitVec 32 := 0#32
  let v2009 : BitVec 1 := Scalar.cmpi .slt c2_i32_1255 c0_i32_1259
  let v2010 : BitVec 32 := Scalar.extui v2009
  let v2011 : BitVec 32 := Scalar.subi v2008 v2010
  let v2012 : BitVec 1 := Scalar.cmpi .ne v2006 v2011
  let v2013 : BitVec 32 := Scalar.remsi v1776 c2_i32_1255
  let c0_i32_1260 : BitVec 32 := 0#32
  let v2014 : BitVec 1 := Scalar.cmpi .ne v2013 c0_i32_1260
  let v2015 : BitVec 1 := Scalar.andi v2012 v2014
  let v2001 : BitVec 32 := Scalar.divsi v1776 c2_i32_1255
  let c1_i32_1261 : BitVec 32 := 1#32
  let v2016 : BitVec 32 := Scalar.subi v2001 c1_i32_1261
  let v2017 : BitVec 32 := Scalar.select v2015 v2016 v2001
  let v2018 : Index := Scalar.indexCast v2017
  let c0_1262 : Index := 0#32
  let c0_1263 : Index := 0#32
  let c0_1264 : Index := 0#32
  ![v2018.toNat, 0, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c2_i32_1100 : BitVec 32 := 2#32
  let c0_i32_1101 : BitVec 32 := 0#32
  let v1790 : BitVec 1 := Scalar.cmpi .eq c2_i32_1100 c0_i32_1101
  let c1_i32_1102 : BitVec 32 := 1#32
  let v1791 : BitVec 32 := Scalar.select v1790 c1_i32_1102 c2_i32_1100
  let v1792 : BitVec 32 := Scalar.remsi v1739 v1791
  let c0_i32_1104 : BitVec 32 := 0#32
  let v1794 : BitVec 1 := Scalar.cmpi .slt v1792 c0_i32_1104
  let c0_i32_1105 : BitVec 32 := 0#32
  let v1795 : BitVec 1 := Scalar.cmpi .slt v1791 c0_i32_1105
  let v1796 : BitVec 1 := Scalar.xori v1794 v1795
  let c0_i32_1103 : BitVec 32 := 0#32
  let v1793 : BitVec 1 := Scalar.cmpi .ne v1792 c0_i32_1103
  let v1797 : BitVec 1 := Scalar.andi v1796 v1793
  let v1798 : BitVec 32 := Scalar.addi v1792 v1791
  let v1799 : BitVec 32 := Scalar.select v1797 v1798 v1792
  let c0_i32_1106 : BitVec 32 := 0#32
  let v1800 : BitVec 1 := Scalar.cmpi .eq v1799 c0_i32_1106
  let v1881 : BitVec 32 := Scalar.extui v1800
  let c0_i32_1162 : BitVec 32 := 0#32
  let v1882 : BitVec 1 := Scalar.cmpi .ne v1881 c0_i32_1162
  v1882

def k0_off100 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1058 : BitVec 32 := 7#32
  let v1728 : BitVec 32 := Scalar.subi v2 c7_i32_1058
  let c32_i32_1059 : BitVec 32 := 32#32
  let v1729 : BitVec 32 := Scalar.addi v1728 c32_i32_1059
  let c16_i32_1060 : BitVec 32 := 16#32
  let c0_i32_1061 : BitVec 32 := 0#32
  let v1730 : BitVec 1 := Scalar.cmpi .eq c16_i32_1060 c0_i32_1061
  let c1_i32_1062 : BitVec 32 := 1#32
  let v1731 : BitVec 32 := Scalar.select v1730 c1_i32_1062 c16_i32_1060
  let v1732 : BitVec 32 := Scalar.remsi v1729 v1731
  let c0_i32_1064 : BitVec 32 := 0#32
  let v1734 : BitVec 1 := Scalar.cmpi .slt v1732 c0_i32_1064
  let c0_i32_1065 : BitVec 32 := 0#32
  let v1735 : BitVec 1 := Scalar.cmpi .slt v1731 c0_i32_1065
  let v1736 : BitVec 1 := Scalar.xori v1734 v1735
  let c0_i32_1063 : BitVec 32 := 0#32
  let v1733 : BitVec 1 := Scalar.cmpi .ne v1732 c0_i32_1063
  let v1737 : BitVec 1 := Scalar.andi v1736 v1733
  let v1738 : BitVec 32 := Scalar.addi v1732 v1731
  let v1739 : BitVec 32 := Scalar.select v1737 v1738 v1732
  let c0_i32_1108 : BitVec 32 := 0#32
  let v1802 : BitVec 1 := Scalar.cmpi .sgt v1739 c0_i32_1108
  let v1803 : BitVec 32 := Scalar.extui v1802
  let c0_i32_1109 : BitVec 32 := 0#32
  let v1804 : BitVec 1 := Scalar.cmpi .slt v1739 c0_i32_1109
  let v1805 : BitVec 32 := Scalar.extui v1804
  let v1806 : BitVec 32 := Scalar.subi v1803 v1805
  let c2_i32_1107 : BitVec 32 := 2#32
  let c0_i32_1110 : BitVec 32 := 0#32
  let v1807 : BitVec 1 := Scalar.cmpi .sgt c2_i32_1107 c0_i32_1110
  let v1808 : BitVec 32 := Scalar.extui v1807
  let c0_i32_1111 : BitVec 32 := 0#32
  let v1809 : BitVec 1 := Scalar.cmpi .slt c2_i32_1107 c0_i32_1111
  let v1810 : BitVec 32 := Scalar.extui v1809
  let v1811 : BitVec 32 := Scalar.subi v1808 v1810
  let v1812 : BitVec 1 := Scalar.cmpi .ne v1806 v1811
  let v1813 : BitVec 32 := Scalar.remsi v1739 c2_i32_1107
  let c0_i32_1112 : BitVec 32 := 0#32
  let v1814 : BitVec 1 := Scalar.cmpi .ne v1813 c0_i32_1112
  let v1815 : BitVec 1 := Scalar.andi v1812 v1814
  let v1801 : BitVec 32 := Scalar.divsi v1739 c2_i32_1107
  let c1_i32_1113 : BitVec 32 := 1#32
  let v1816 : BitVec 32 := Scalar.subi v1801 c1_i32_1113
  let v1817 : BitVec 32 := Scalar.select v1815 v1816 v1801
  let c0_i32_1217 : BitVec 32 := 0#32
  let c0_i32_1218 : BitVec 32 := 0#32
  let c0_i32_1219 : BitVec 32 := 0#32
  ![v1817.toNat, 0, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c2_i32_1188 : BitVec 32 := 2#32
  let c0_i32_1189 : BitVec 32 := 0#32
  let v1911 : BitVec 1 := Scalar.cmpi .eq c2_i32_1188 c0_i32_1189
  let c1_i32_1190 : BitVec 32 := 1#32
  let v1912 : BitVec 32 := Scalar.select v1911 c1_i32_1190 c2_i32_1188
  let v1913 : BitVec 32 := Scalar.remsi v1897 v1912
  let c0_i32_1192 : BitVec 32 := 0#32
  let v1915 : BitVec 1 := Scalar.cmpi .slt v1913 c0_i32_1192
  let c0_i32_1193 : BitVec 32 := 0#32
  let v1916 : BitVec 1 := Scalar.cmpi .slt v1912 c0_i32_1193
  let v1917 : BitVec 1 := Scalar.xori v1915 v1916
  let c0_i32_1191 : BitVec 32 := 0#32
  let v1914 : BitVec 1 := Scalar.cmpi .ne v1913 c0_i32_1191
  let v1918 : BitVec 1 := Scalar.andi v1917 v1914
  let v1919 : BitVec 32 := Scalar.addi v1913 v1912
  let v1920 : BitVec 32 := Scalar.select v1918 v1919 v1913
  let c0_i32_1194 : BitVec 32 := 0#32
  let v1921 : BitVec 1 := Scalar.cmpi .eq v1920 c0_i32_1194
  let true_1195 : BitVec 1 := 1#1
  let v1922 : BitVec 1 := Scalar.xori v1921 true_1195
  let v1923 : BitVec 32 := Scalar.extui v1922
  let c0_i32_1199 : BitVec 32 := 0#32
  let v1924 : BitVec 1 := Scalar.cmpi .ne v1923 c0_i32_1199
  v1924

def k0_off101 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1179 : BitVec 32 := 1#32
  let v1898 : BitVec 32 := Scalar.addi v2 c1_i32_1179
  let c8_i32_1180 : BitVec 32 := 8#32
  let v1899 : BitVec 32 := Scalar.subi v1898 c8_i32_1180
  let c32_i32_1181 : BitVec 32 := 32#32
  let v1900 : BitVec 32 := Scalar.addi v1899 c32_i32_1181
  let c16_i32_1182 : BitVec 32 := 16#32
  let c0_i32_1183 : BitVec 32 := 0#32
  let v1901 : BitVec 1 := Scalar.cmpi .eq c16_i32_1182 c0_i32_1183
  let c1_i32_1184 : BitVec 32 := 1#32
  let v1902 : BitVec 32 := Scalar.select v1901 c1_i32_1184 c16_i32_1182
  let v1903 : BitVec 32 := Scalar.remsi v1900 v1902
  let c0_i32_1186 : BitVec 32 := 0#32
  let v1905 : BitVec 1 := Scalar.cmpi .slt v1903 c0_i32_1186
  let c0_i32_1187 : BitVec 32 := 0#32
  let v1906 : BitVec 1 := Scalar.cmpi .slt v1902 c0_i32_1187
  let v1907 : BitVec 1 := Scalar.xori v1905 v1906
  let c0_i32_1185 : BitVec 32 := 0#32
  let v1904 : BitVec 1 := Scalar.cmpi .ne v1903 c0_i32_1185
  let v1908 : BitVec 1 := Scalar.andi v1907 v1904
  let v1909 : BitVec 32 := Scalar.addi v1903 v1902
  let v1910 : BitVec 32 := Scalar.select v1908 v1909 v1903
  let c0_i32_1217 : BitVec 32 := 0#32
  let v1941 : BitVec 1 := Scalar.cmpi .sgt v1910 c0_i32_1217
  let v1942 : BitVec 32 := Scalar.extui v1941
  let c0_i32_1218 : BitVec 32 := 0#32
  let v1943 : BitVec 1 := Scalar.cmpi .slt v1910 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1910 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1910 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_dev30 (d0 : Dev nD) : Nat :=
  let c0_i32_1230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1229 : BitVec 32 := 1#32
  let v1964 : BitVec 32 := Scalar.muli v25 c1_i32_1229
  let v1965 : BitVec 32 := Scalar.addi c0_i32_1230 v1964
  v1965.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c2_i32_1188 : BitVec 32 := 2#32
  let c0_i32_1189 : BitVec 32 := 0#32
  let v1911 : BitVec 1 := Scalar.cmpi .eq c2_i32_1188 c0_i32_1189
  let c1_i32_1190 : BitVec 32 := 1#32
  let v1912 : BitVec 32 := Scalar.select v1911 c1_i32_1190 c2_i32_1188
  let v1913 : BitVec 32 := Scalar.remsi v1897 v1912
  let c0_i32_1192 : BitVec 32 := 0#32
  let v1915 : BitVec 1 := Scalar.cmpi .slt v1913 c0_i32_1192
  let c0_i32_1193 : BitVec 32 := 0#32
  let v1916 : BitVec 1 := Scalar.cmpi .slt v1912 c0_i32_1193
  let v1917 : BitVec 1 := Scalar.xori v1915 v1916
  let c0_i32_1191 : BitVec 32 := 0#32
  let v1914 : BitVec 1 := Scalar.cmpi .ne v1913 c0_i32_1191
  let v1918 : BitVec 1 := Scalar.andi v1917 v1914
  let v1919 : BitVec 32 := Scalar.addi v1913 v1912
  let v1920 : BitVec 32 := Scalar.select v1918 v1919 v1913
  let c0_i32_1194 : BitVec 32 := 0#32
  let v1921 : BitVec 1 := Scalar.cmpi .eq v1920 c0_i32_1194
  let true_1200 : BitVec 1 := 1#1
  let v1925 : BitVec 1 := Scalar.xori v1921 true_1200
  let v1926 : BitVec 32 := Scalar.extui v1925
  let c0_i32_1201 : BitVec 32 := 0#32
  let v1927 : BitVec 1 := Scalar.cmpi .ne v1926 c0_i32_1201
  v1927

def k0_off102 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1216 : BitVec 32 := 7#32
  let v1940 : BitVec 32 := Scalar.addi v2 c7_i32_1216
  let c16_i32_1217 : BitVec 32 := 16#32
  let c0_i32_1218 : BitVec 32 := 0#32
  let v1941 : BitVec 1 := Scalar.cmpi .eq c16_i32_1217 c0_i32_1218
  let c1_i32_1219 : BitVec 32 := 1#32
  let v1942 : BitVec 32 := Scalar.select v1941 c1_i32_1219 c16_i32_1217
  let v1943 : BitVec 32 := Scalar.remsi v1940 v1942
  let c0_i32_1221 : BitVec 32 := 0#32
  let v1945 : BitVec 1 := Scalar.cmpi .slt v1943 c0_i32_1221
  let c0_i32_1222 : BitVec 32 := 0#32
  let v1946 : BitVec 1 := Scalar.cmpi .slt v1942 c0_i32_1222
  let v1947 : BitVec 1 := Scalar.xori v1945 v1946
  let c0_i32_1220 : BitVec 32 := 0#32
  let v1944 : BitVec 1 := Scalar.cmpi .ne v1943 c0_i32_1220
  let v1948 : BitVec 1 := Scalar.andi v1947 v1944
  let v1949 : BitVec 32 := Scalar.addi v1943 v1942
  let v1950 : BitVec 32 := Scalar.select v1948 v1949 v1943
  let c0_i32_1224 : BitVec 32 := 0#32
  let v1952 : BitVec 1 := Scalar.cmpi .sgt v1950 c0_i32_1224
  let v1953 : BitVec 32 := Scalar.extui v1952
  let c0_i32_1225 : BitVec 32 := 0#32
  let v1954 : BitVec 1 := Scalar.cmpi .slt v1950 c0_i32_1225
  let v1955 : BitVec 32 := Scalar.extui v1954
  let v1956 : BitVec 32 := Scalar.subi v1953 v1955
  let c2_i32_1223 : BitVec 32 := 2#32
  let c0_i32_1226 : BitVec 32 := 0#32
  let v1957 : BitVec 1 := Scalar.cmpi .sgt c2_i32_1223 c0_i32_1226
  let v1958 : BitVec 32 := Scalar.extui v1957
  let c0_i32_1227 : BitVec 32 := 0#32
  let v1959 : BitVec 1 := Scalar.cmpi .slt c2_i32_1223 c0_i32_1227
  let v1960 : BitVec 32 := Scalar.extui v1959
  let v1961 : BitVec 32 := Scalar.subi v1958 v1960
  let v1962 : BitVec 1 := Scalar.cmpi .ne v1956 v1961
  let v1963 : BitVec 32 := Scalar.remsi v1950 c2_i32_1223
  let c0_i32_1228 : BitVec 32 := 0#32
  let v1964 : BitVec 1 := Scalar.cmpi .ne v1963 c0_i32_1228
  let v1965 : BitVec 1 := Scalar.andi v1962 v1964
  let v1951 : BitVec 32 := Scalar.divsi v1950 c2_i32_1223
  let c1_i32_1229 : BitVec 32 := 1#32
  let v1966 : BitVec 32 := Scalar.subi v1951 c1_i32_1229
  let v1967 : BitVec 32 := Scalar.select v1965 v1966 v1951
  let v1968 : Index := Scalar.indexCast v1967
  let c0_1230 : Index := 0#32
  let c0_1231 : Index := 0#32
  let c0_1232 : Index := 0#32
  ![v1968.toNat, 0, 0, 0]
def k0_dev31 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v108 : BitVec 32 := Scalar.addi v2 c7_i32
  let c16_i32_52 : BitVec 32 := 16#32
  let c0_i32_53 : BitVec 32 := 0#32
  let v109 : BitVec 1 := Scalar.cmpi .eq c16_i32_52 c0_i32_53
  let c1_i32_54 : BitVec 32 := 1#32
  let v110 : BitVec 32 := Scalar.select v109 c1_i32_54 c16_i32_52
  let v111 : BitVec 32 := Scalar.remsi v108 v110
  let c0_i32_56 : BitVec 32 := 0#32
  let v113 : BitVec 1 := Scalar.cmpi .slt v111 c0_i32_56
  let c0_i32_57 : BitVec 32 := 0#32
  let v114 : BitVec 1 := Scalar.cmpi .slt v110 c0_i32_57
  let v115 : BitVec 1 := Scalar.xori v113 v114
  let c0_i32_55 : BitVec 32 := 0#32
  let v112 : BitVec 1 := Scalar.cmpi .ne v111 c0_i32_55
  let v116 : BitVec 1 := Scalar.andi v115 v112
  let v117 : BitVec 32 := Scalar.addi v111 v110
  let v118 : BitVec 32 := Scalar.select v116 v117 v111
  let c1_i32_1236 : BitVec 32 := 1#32
  let v1975 : BitVec 32 := Scalar.muli v118 c1_i32_1236
  let v1976 : BitVec 32 := Scalar.addi c0_i32_1237 v1975
  v1976.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c2_i32_1188 : BitVec 32 := 2#32
  let c0_i32_1189 : BitVec 32 := 0#32
  let v1911 : BitVec 1 := Scalar.cmpi .eq c2_i32_1188 c0_i32_1189
  let c1_i32_1190 : BitVec 32 := 1#32
  let v1912 : BitVec 32 := Scalar.select v1911 c1_i32_1190 c2_i32_1188
  let v1913 : BitVec 32 := Scalar.remsi v1897 v1912
  let c0_i32_1192 : BitVec 32 := 0#32
  let v1915 : BitVec 1 := Scalar.cmpi .slt v1913 c0_i32_1192
  let c0_i32_1193 : BitVec 32 := 0#32
  let v1916 : BitVec 1 := Scalar.cmpi .slt v1912 c0_i32_1193
  let v1917 : BitVec 1 := Scalar.xori v1915 v1916
  let c0_i32_1191 : BitVec 32 := 0#32
  let v1914 : BitVec 1 := Scalar.cmpi .ne v1913 c0_i32_1191
  let v1918 : BitVec 1 := Scalar.andi v1917 v1914
  let v1919 : BitVec 32 := Scalar.addi v1913 v1912
  let v1920 : BitVec 32 := Scalar.select v1918 v1919 v1913
  let c0_i32_1194 : BitVec 32 := 0#32
  let v1921 : BitVec 1 := Scalar.cmpi .eq v1920 c0_i32_1194
  let v1928 : BitVec 32 := Scalar.extui v1921
  let c0_i32_1202 : BitVec 32 := 0#32
  let v1929 : BitVec 1 := Scalar.cmpi .ne v1928 c0_i32_1202
  v1929

def k0_off103 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c0_i32_1217 : BitVec 32 := 0#32
  let v1941 : BitVec 1 := Scalar.cmpi .sgt v1897 c0_i32_1217
  let v1942 : BitVec 32 := Scalar.extui v1941
  let c0_i32_1218 : BitVec 32 := 0#32
  let v1943 : BitVec 1 := Scalar.cmpi .slt v1897 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1897 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1897 c2_i32_1216
  let c1_i32_1222 : BitVec 32 := 1#32
  let v1955 : BitVec 32 := Scalar.subi v1940 c1_i32_1222
  let v1956 : BitVec 32 := Scalar.select v1954 v1955 v1940
  let v1957 : Index := Scalar.indexCast v1956
  let c0_1223 : Index := 0#32
  let c0_1224 : Index := 0#32
  let c0_1225 : Index := 0#32
  ![v1957.toNat, 0, 0, 0]
def k0_off104 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c0_i32_1217 : BitVec 32 := 0#32
  let v1941 : BitVec 1 := Scalar.cmpi .sgt v1897 c0_i32_1217
  let v1942 : BitVec 32 := Scalar.extui v1941
  let c0_i32_1218 : BitVec 32 := 0#32
  let v1943 : BitVec 1 := Scalar.cmpi .slt v1897 c0_i32_1218
  let v1944 : BitVec 32 := Scalar.extui v1943
  let v1945 : BitVec 32 := Scalar.subi v1942 v1944
  let c2_i32_1216 : BitVec 32 := 2#32
  let c0_i32_1219 : BitVec 32 := 0#32
  let v1946 : BitVec 1 := Scalar.cmpi .sgt c2_i32_1216 c0_i32_1219
  let v1947 : BitVec 32 := Scalar.extui v1946
  let c0_i32_1220 : BitVec 32 := 0#32
  let v1948 : BitVec 1 := Scalar.cmpi .slt c2_i32_1216 c0_i32_1220
  let v1949 : BitVec 32 := Scalar.extui v1948
  let v1950 : BitVec 32 := Scalar.subi v1947 v1949
  let v1951 : BitVec 1 := Scalar.cmpi .ne v1945 v1950
  let v1952 : BitVec 32 := Scalar.remsi v1897 c2_i32_1216
  let c0_i32_1221 : BitVec 32 := 0#32
  let v1953 : BitVec 1 := Scalar.cmpi .ne v1952 c0_i32_1221
  let v1954 : BitVec 1 := Scalar.andi v1951 v1953
  let v1940 : BitVec 32 := Scalar.divsi v1897 c2_i32_1216
  let c1_i32_1222 : BitVec 32 := 1#32
  let v1955 : BitVec 32 := Scalar.subi v1940 c1_i32_1222
  let v1956 : BitVec 32 := Scalar.select v1954 v1955 v1940
  let v2057 : Index := Scalar.indexCast v1956
  let c1 : Index := 1#32
  let c0_1254 : Index := 0#32
  let c0_1255 : Index := 0#32
  ![v2057.toNat, 1, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c2_i32_1188 : BitVec 32 := 2#32
  let c0_i32_1189 : BitVec 32 := 0#32
  let v1911 : BitVec 1 := Scalar.cmpi .eq c2_i32_1188 c0_i32_1189
  let c1_i32_1190 : BitVec 32 := 1#32
  let v1912 : BitVec 32 := Scalar.select v1911 c1_i32_1190 c2_i32_1188
  let v1913 : BitVec 32 := Scalar.remsi v1897 v1912
  let c0_i32_1192 : BitVec 32 := 0#32
  let v1915 : BitVec 1 := Scalar.cmpi .slt v1913 c0_i32_1192
  let c0_i32_1193 : BitVec 32 := 0#32
  let v1916 : BitVec 1 := Scalar.cmpi .slt v1912 c0_i32_1193
  let v1917 : BitVec 1 := Scalar.xori v1915 v1916
  let c0_i32_1191 : BitVec 32 := 0#32
  let v1914 : BitVec 1 := Scalar.cmpi .ne v1913 c0_i32_1191
  let v1918 : BitVec 1 := Scalar.andi v1917 v1914
  let v1919 : BitVec 32 := Scalar.addi v1913 v1912
  let v1920 : BitVec 32 := Scalar.select v1918 v1919 v1913
  let c0_i32_1194 : BitVec 32 := 0#32
  let v1921 : BitVec 1 := Scalar.cmpi .eq v1920 c0_i32_1194
  let v1930 : BitVec 32 := Scalar.extui v1921
  let c0_i32_1207 : BitVec 32 := 0#32
  let v1931 : BitVec 1 := Scalar.cmpi .ne v1930 c0_i32_1207
  v1931

def k0_off105 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1171 : BitVec 32 := 8#32
  let v1886 : BitVec 32 := Scalar.subi v2 c8_i32_1171
  let c32_i32_1172 : BitVec 32 := 32#32
  let v1887 : BitVec 32 := Scalar.addi v1886 c32_i32_1172
  let c16_i32_1173 : BitVec 32 := 16#32
  let c0_i32_1174 : BitVec 32 := 0#32
  let v1888 : BitVec 1 := Scalar.cmpi .eq c16_i32_1173 c0_i32_1174
  let c1_i32_1175 : BitVec 32 := 1#32
  let v1889 : BitVec 32 := Scalar.select v1888 c1_i32_1175 c16_i32_1173
  let v1890 : BitVec 32 := Scalar.remsi v1887 v1889
  let c0_i32_1177 : BitVec 32 := 0#32
  let v1892 : BitVec 1 := Scalar.cmpi .slt v1890 c0_i32_1177
  let c0_i32_1178 : BitVec 32 := 0#32
  let v1893 : BitVec 1 := Scalar.cmpi .slt v1889 c0_i32_1178
  let v1894 : BitVec 1 := Scalar.xori v1892 v1893
  let c0_i32_1176 : BitVec 32 := 0#32
  let v1891 : BitVec 1 := Scalar.cmpi .ne v1890 c0_i32_1176
  let v1895 : BitVec 1 := Scalar.andi v1894 v1891
  let v1896 : BitVec 32 := Scalar.addi v1890 v1889
  let v1897 : BitVec 32 := Scalar.select v1895 v1896 v1890
  let c0_i32_1225 : BitVec 32 := 0#32
  let v1949 : BitVec 1 := Scalar.cmpi .sgt v1897 c0_i32_1225
  let v1950 : BitVec 32 := Scalar.extui v1949
  let c0_i32_1226 : BitVec 32 := 0#32
  let v1951 : BitVec 1 := Scalar.cmpi .slt v1897 c0_i32_1226
  let v1952 : BitVec 32 := Scalar.extui v1951
  let v1953 : BitVec 32 := Scalar.subi v1950 v1952
  let c2_i32_1224 : BitVec 32 := 2#32
  let c0_i32_1227 : BitVec 32 := 0#32
  let v1954 : BitVec 1 := Scalar.cmpi .sgt c2_i32_1224 c0_i32_1227
  let v1955 : BitVec 32 := Scalar.extui v1954
  let c0_i32_1228 : BitVec 32 := 0#32
  let v1956 : BitVec 1 := Scalar.cmpi .slt c2_i32_1224 c0_i32_1228
  let v1957 : BitVec 32 := Scalar.extui v1956
  let v1958 : BitVec 32 := Scalar.subi v1955 v1957
  let v1959 : BitVec 1 := Scalar.cmpi .ne v1953 v1958
  let v1960 : BitVec 32 := Scalar.remsi v1897 c2_i32_1224
  let c0_i32_1229 : BitVec 32 := 0#32
  let v1961 : BitVec 1 := Scalar.cmpi .ne v1960 c0_i32_1229
  let v1962 : BitVec 1 := Scalar.andi v1959 v1961
  let v1948 : BitVec 32 := Scalar.divsi v1897 c2_i32_1224
  let c1_i32_1230 : BitVec 32 := 1#32
  let v1963 : BitVec 32 := Scalar.subi v1948 c1_i32_1230
  let v1964 : BitVec 32 := Scalar.select v1962 v1963 v1948
  let v1965 : Index := Scalar.indexCast v1964
  let c0_1231 : Index := 0#32
  let c0_1232 : Index := 0#32
  let c0_1233 : Index := 0#32
  ![v1965.toNat, 0, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32_14 : BitVec 32 := 0#32
  let v26 : BitVec 1 := Scalar.cmpi .eq c2_i32 c0_i32_14
  let c1_i32_15 : BitVec 32 := 1#32
  let v27 : BitVec 32 := Scalar.select v26 c1_i32_15 c2_i32
  let v28 : BitVec 32 := Scalar.remsi v2 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_19 : BitVec 32 := 0#32
  let v36 : BitVec 1 := Scalar.cmpi .eq v35 c0_i32_19
  let v1938 : BitVec 32 := Scalar.extui v36
  let c0_i32_1215 : BitVec 32 := 0#32
  let v1939 : BitVec 1 := Scalar.cmpi .ne v1938 c0_i32_1215
  v1939

def k0_off106 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1216 : BitVec 32 := 8#32
  let v1940 : BitVec 32 := Scalar.subi v2 c8_i32_1216
  let c16_i32_1217 : BitVec 32 := 16#32
  let v1941 : BitVec 32 := Scalar.addi v1940 c16_i32_1217
  let c16_i32_1218 : BitVec 32 := 16#32
  let c0_i32_1219 : BitVec 32 := 0#32
  let v1942 : BitVec 1 := Scalar.cmpi .eq c16_i32_1218 c0_i32_1219
  let c1_i32_1220 : BitVec 32 := 1#32
  let v1943 : BitVec 32 := Scalar.select v1942 c1_i32_1220 c16_i32_1218
  let v1944 : BitVec 32 := Scalar.remsi v1941 v1943
  let c0_i32_1222 : BitVec 32 := 0#32
  let v1946 : BitVec 1 := Scalar.cmpi .slt v1944 c0_i32_1222
  let c0_i32_1223 : BitVec 32 := 0#32
  let v1947 : BitVec 1 := Scalar.cmpi .slt v1943 c0_i32_1223
  let v1948 : BitVec 1 := Scalar.xori v1946 v1947
  let c0_i32_1221 : BitVec 32 := 0#32
  let v1945 : BitVec 1 := Scalar.cmpi .ne v1944 c0_i32_1221
  let v1949 : BitVec 1 := Scalar.andi v1948 v1945
  let v1950 : BitVec 32 := Scalar.addi v1944 v1943
  let v1951 : BitVec 32 := Scalar.select v1949 v1950 v1944
  let c0_i32_1225 : BitVec 32 := 0#32
  let v1953 : BitVec 1 := Scalar.cmpi .sgt v1951 c0_i32_1225
  let v1954 : BitVec 32 := Scalar.extui v1953
  let c0_i32_1226 : BitVec 32 := 0#32
  let v1955 : BitVec 1 := Scalar.cmpi .slt v1951 c0_i32_1226
  let v1956 : BitVec 32 := Scalar.extui v1955
  let v1957 : BitVec 32 := Scalar.subi v1954 v1956
  let c2_i32_1224 : BitVec 32 := 2#32
  let c0_i32_1227 : BitVec 32 := 0#32
  let v1958 : BitVec 1 := Scalar.cmpi .sgt c2_i32_1224 c0_i32_1227
  let v1959 : BitVec 32 := Scalar.extui v1958
  let c0_i32_1228 : BitVec 32 := 0#32
  let v1960 : BitVec 1 := Scalar.cmpi .slt c2_i32_1224 c0_i32_1228
  let v1961 : BitVec 32 := Scalar.extui v1960
  let v1962 : BitVec 32 := Scalar.subi v1959 v1961
  let v1963 : BitVec 1 := Scalar.cmpi .ne v1957 v1962
  let v1964 : BitVec 32 := Scalar.remsi v1951 c2_i32_1224
  let c0_i32_1229 : BitVec 32 := 0#32
  let v1965 : BitVec 1 := Scalar.cmpi .ne v1964 c0_i32_1229
  let v1966 : BitVec 1 := Scalar.andi v1963 v1965
  let v1952 : BitVec 32 := Scalar.divsi v1951 c2_i32_1224
  let c1_i32_1230 : BitVec 32 := 1#32
  let v1967 : BitVec 32 := Scalar.subi v1952 c1_i32_1230
  let v1968 : BitVec 32 := Scalar.select v1966 v1967 v1952
  let v1969 : Index := Scalar.indexCast v1968
  let c0_1231 : Index := 0#32
  let c0_1232 : Index := 0#32
  let c0_1233 : Index := 0#32
  ![v1969.toNat, 0, 0, 0]
def k0_dev32 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v119 : BitVec 32 := Scalar.addi v2 c8_i32
  let c16_i32_58 : BitVec 32 := 16#32
  let c0_i32_59 : BitVec 32 := 0#32
  let v120 : BitVec 1 := Scalar.cmpi .eq c16_i32_58 c0_i32_59
  let c1_i32_60 : BitVec 32 := 1#32
  let v121 : BitVec 32 := Scalar.select v120 c1_i32_60 c16_i32_58
  let v122 : BitVec 32 := Scalar.remsi v119 v121
  let c0_i32_62 : BitVec 32 := 0#32
  let v124 : BitVec 1 := Scalar.cmpi .slt v122 c0_i32_62
  let c0_i32_63 : BitVec 32 := 0#32
  let v125 : BitVec 1 := Scalar.cmpi .slt v121 c0_i32_63
  let v126 : BitVec 1 := Scalar.xori v124 v125
  let c0_i32_61 : BitVec 32 := 0#32
  let v123 : BitVec 1 := Scalar.cmpi .ne v122 c0_i32_61
  let v127 : BitVec 1 := Scalar.andi v126 v123
  let v128 : BitVec 32 := Scalar.addi v122 v121
  let v129 : BitVec 32 := Scalar.select v127 v128 v122
  let c1_i32_1237 : BitVec 32 := 1#32
  let v1976 : BitVec 32 := Scalar.muli v129 c1_i32_1237
  let v1977 : BitVec 32 := Scalar.addi c0_i32_1238 v1976
  v1977.toNat
def k0_off107 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1244 : BitVec 32 := 0#32
  let v1983 : BitVec 1 := Scalar.cmpi .sgt v2 c0_i32_1244
  let v1984 : BitVec 32 := Scalar.extui v1983
  let c0_i32_1245 : BitVec 32 := 0#32
  let v1985 : BitVec 1 := Scalar.cmpi .slt v2 c0_i32_1245
  let v1986 : BitVec 32 := Scalar.extui v1985
  let v1987 : BitVec 32 := Scalar.subi v1984 v1986
  let c2_i32_1243 : BitVec 32 := 2#32
  let c0_i32_1246 : BitVec 32 := 0#32
  let v1988 : BitVec 1 := Scalar.cmpi .sgt c2_i32_1243 c0_i32_1246
  let v1989 : BitVec 32 := Scalar.extui v1988
  let c0_i32_1247 : BitVec 32 := 0#32
  let v1990 : BitVec 1 := Scalar.cmpi .slt c2_i32_1243 c0_i32_1247
  let v1991 : BitVec 32 := Scalar.extui v1990
  let v1992 : BitVec 32 := Scalar.subi v1989 v1991
  let v1993 : BitVec 1 := Scalar.cmpi .ne v1987 v1992
  let v1994 : BitVec 32 := Scalar.remsi v2 c2_i32_1243
  let c0_i32_1248 : BitVec 32 := 0#32
  let v1995 : BitVec 1 := Scalar.cmpi .ne v1994 c0_i32_1248
  let v1996 : BitVec 1 := Scalar.andi v1993 v1995
  let v1982 : BitVec 32 := Scalar.divsi v2 c2_i32_1243
  let c1_i32_1249 : BitVec 32 := 1#32
  let v1997 : BitVec 32 := Scalar.subi v1982 c1_i32_1249
  let v1998 : BitVec 32 := Scalar.select v1996 v1997 v1982
  let v1999 : Index := Scalar.indexCast v1998
  let c0_1250 : Index := 0#32
  let c0_1251 : Index := 0#32
  let c0_1252 : Index := 0#32
  ![v1999.toNat, 0, 0, 0]
def k0_dev33 (d0 : Dev nD) : Nat :=
  let c0_i32_1218_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1217_r0 : BitVec 32 := 1#32
  let v1941_r0 : BitVec 32 := Scalar.muli v14 c1_i32_1217_r0
  let v1942_r0 : BitVec 32 := Scalar.addi c0_i32_1218_r0 v1941_r0
  v1942_r0.toNat
def k0_dev34 (d0 : Dev nD) : Nat :=
  let c0_i32_1221_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1220_r0 : BitVec 32 := 1#32
  let v1943_r0 : BitVec 32 := Scalar.muli v25 c1_i32_1220_r0
  let v1944_r0 : BitVec 32 := Scalar.addi c0_i32_1221_r0 v1943_r0
  v1944_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x4096 : Shape := ⟨2, ![512, 4096]⟩
abbrev S2x128x64x64 : Shape := ⟨4, ![2, 128, 64, 64]⟩
abbrev S4096x512 : Shape := ⟨2, ![4096, 512]⟩
abbrev S2x2048x4096 : Shape := ⟨3, ![2, 2048, 4096]⟩
abbrev S2x2048x64x64 : Shape := ⟨4, ![2, 2048, 64, 64]⟩
abbrev S2048 : Shape := ⟨1, ![2048]⟩
abbrev S_ : Shape := ⟨0, ![]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S2x64x2048x128 : Shape := ⟨4, ![2, 64, 2048, 128]⟩
abbrev S1x1x2048x128 : Shape := ⟨4, ![1, 1, 2048, 128]⟩
abbrev S2x64x2048 : Shape := ⟨3, ![2, 64, 2048]⟩
abbrev S2x64x2048x1 : Shape := ⟨4, ![2, 64, 2048, 1]⟩
abbrev S1x1x2048x1 : Shape := ⟨4, ![1, 1, 2048, 1]⟩
abbrev S2x64x64x2048 : Shape := ⟨4, ![2, 64, 64, 2048]⟩

abbrev nBuf : Space → Nat
  | .hbm => 137
  | .vmem => 0
  | .smem => 0
  | _ => 0

abbrev hbmTy0_0 (i : Nat) : BufTy := match i % 128 with
  | 0 => ⟨S2x2048x512, .f32⟩
  | 1 => ⟨S512x4096, .f32⟩
  | 2 => ⟨S2x128x64x64, .f32⟩
  | 3 => ⟨S2x128x64x64, .f32⟩
  | 4 => ⟨S4096x512, .f32⟩
  | 5 => ⟨S2x2048x4096, .f32⟩
  | 6 => ⟨S2x2048x64x64, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S2048x128, .i32⟩
  | 48 => ⟨S2048x128, .i32⟩
  | 49 => ⟨S2048x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x128, .i32⟩
  | 95 => ⟨S2048x128, .i32⟩
  | 96 => ⟨S2048x128, .i1⟩
  | 97 => ⟨S2048x128, .i1⟩
  | 98 => ⟨S2x64x2048x128, .f32⟩
  | 99 => ⟨S_, .f32⟩
  | 100 => ⟨S2x64x2048x128, .f32⟩
  | 101 => ⟨S2x64x2048x128, .f32⟩
  | 102 => ⟨S1x1x2048x128, .i1⟩
  | 103 => ⟨S_, .f32⟩
  | 104 => ⟨S_, .f32⟩
  | 105 => ⟨S2x64x2048x128, .i1⟩
  | 106 => ⟨S2x64x2048x128, .f32⟩
  | 107 => ⟨S2x64x2048x128, .f32⟩
  | 108 => ⟨S_, .f32⟩
  | 109 => ⟨S2x64x2048, .f32⟩
  | 110 => ⟨S2x64x2048x1, .f32⟩
  | 111 => ⟨S2x64x2048x128, .f32⟩
  | 112 => ⟨S2x64x2048x128, .f32⟩
  | 113 => ⟨S2x64x2048x128, .f32⟩
  | 114 => ⟨S_, .i1⟩
  | 115 => ⟨S2048, .i1⟩
  | 116 => ⟨S1x1x2048x1, .i1⟩
  | 117 => ⟨S_, .f32⟩
  | 118 => ⟨S2x64x2048, .f32⟩
  | 119 => ⟨S2x64x2048x1, .f32⟩
  | 120 => ⟨S_, .f32⟩
  | 121 => ⟨S_, .f32⟩
  | 122 => ⟨S2x64x2048x1, .i1⟩
  | 123 => ⟨S2x64x2048x1, .f32⟩
  | 124 => ⟨S2x64x2048x1, .f32⟩
  | 125 => ⟨S2x64x2048x128, .f32⟩
  | 126 => ⟨S2x64x2048x128, .f32⟩
  | 127 => ⟨S1x1x2048x1, .i1⟩
  | _ => ⟨S2x2048x512, .f32⟩

abbrev hbmTy0_1 (i : Nat) : BufTy := match i % 128 with
  | 0 => ⟨S_, .f32⟩
  | 1 => ⟨S_, .f32⟩
  | 2 => ⟨S2x64x2048x128, .i1⟩
  | 3 => ⟨S2x64x2048x128, .f32⟩
  | 4 => ⟨S2x64x2048x128, .f32⟩
  | 5 => ⟨S2x64x64x2048, .f32⟩
  | 6 => ⟨S2x2048x64x64, .f32⟩
  | 7 => ⟨S2x2048x4096, .f32⟩
  | 8 => ⟨S2x2048x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Dev.lean ====
module

public import proofs.«01_k».proof.Proof.Gen.KernelIdeal.Skeleton

@[expose] public section

/-! The ring of sixteen devices: neighbours, the slot a device works on at a tick, and what each of
the program's conditions, offsets and device numbers says at a device of even and of odd number. -/

noncomputable section

namespace Cert.RingAttn

open Idealize.ShloMosaic
open Cert.KernelIdeal Cert.KernelIdeal.Gen

/-- The device to the right. -/
def rt (c : Dev nD) : Dev nD := ⟨(c.val + 1) % 16, Nat.mod_lt _ (by decide)⟩
/-- The device to the left. -/
def lf (c : Dev nD) : Dev nD := ⟨(c.val + 15) % 16, Nat.mod_lt _ (by decide)⟩
/-- The device across the ring. -/
def opp (c : Dev nD) : Dev nD := ⟨(c.val + 8) % 16, Nat.mod_lt _ (by decide)⟩
/-- The device seven to the right. -/
def op7 (c : Dev nD) : Dev nD := ⟨(c.val + 7) % 16, Nat.mod_lt _ (by decide)⟩
/-- The slot of the device `g` to the left: half its number. -/
def slotR (c : Dev nD) (g : ℕ) : Fin 8 := ⟨(c.val + 16 - g) % 16 / 2, by omega⟩
/-- The slot of the device `g` to the right. -/
def slotL (c : Dev nD) (g : ℕ) : Fin 8 := ⟨(c.val + g) % 16 / 2, by omega⟩
/-- Where a slot's half `b` starts in its buffer. -/
def at4 (j : Fin 8) (b : ℕ) : Fin 4 → ℕ := ![j.val, b, 0, 0]

/-- Which conditions hold at a device of even number. -/
theorem conds_even : ∀ c : Dev nD, c.val % 2 = 0 →
    k0_cond1 c = 1#1 ∧
      k0_cond2 c = 1#1 ∧
      k0_cond3 c = 1#1 ∧
      ¬ k0_cond4 c = 1#1 ∧
      k0_cond5 c = 1#1 ∧
      ¬ k0_cond6 c = 1#1 ∧
      ¬ k0_cond7 c = 1#1 ∧
      k0_cond8 c = 1#1 ∧
      ¬ k0_cond9 c = 1#1 ∧
      k0_cond10 c = 1#1 ∧
      ¬ k0_cond11 c = 1#1 ∧
      k0_cond12 c = 1#1 ∧
      ¬ k0_cond13 c = 1#1 ∧
      k0_cond14 c = 1#1 ∧
      k0_cond15 c = 1#1 ∧
      ¬ k0_cond17 c = 1#1 ∧
      k0_cond18 c = 1#1 ∧
      ¬ k0_cond19 c = 1#1 ∧
      k0_cond20 c = 1#1 ∧
      ¬ k0_cond21 c = 1#1 ∧
      ¬ k0_cond22 c = 1#1 ∧
      k0_cond24 c = 1#1 ∧
      ¬ k0_cond25 c = 1#1 ∧
      k0_cond26 c = 1#1 ∧
      ¬ k0_cond27 c = 1#1 ∧
      k0_cond28 c = 1#1 ∧
      k0_cond29 c = 1#1 ∧
      ¬ k0_cond31 c = 1#1 ∧
      k0_cond32 c = 1#1 ∧
      ¬ k0_cond33 c = 1#1 ∧
      k0_cond34 c = 1#1 ∧
      ¬ k0_cond35 c = 1#1 ∧
      ¬ k0_cond36 c = 1#1 ∧
      k0_cond38 c = 1#1 ∧
      ¬ k0_cond39 c = 1#1 ∧
      k0_cond40 c = 1#1 ∧
      ¬ k0_cond41 c = 1#1 ∧
      k0_cond42 c = 1#1 ∧
      k0_cond43 c = 1#1 ∧
      ¬ k0_cond45 c = 1#1 ∧
      k0_cond46 c = 1#1 ∧
      ¬ k0_cond47 c = 1#1 ∧
      k0_cond48 c = 1#1 ∧
      ¬ k0_cond49 c = 1#1 ∧
      ¬ k0_cond50 c = 1#1 ∧
      ¬ k0_cond52 c = 1#1 ∧
      ¬ k0_cond53 c = 1#1 ∧
      k0_cond54 c = 1#1 ∧
      k0_cond55 c = 1#1 ∧
      k0_cond58 c = 1#1 := by
  intro c hc
  and_intros <;> (revert c; decide +kernel)

/-- Where the program reads and writes at a device of even number. -/
theorem offs_even : ∀ c : Dev nD, c.val % 2 = 0 →
    k0_off1 c = at4 (slotR c 0) 0 ∧
      k0_off2 c = at4 (slotR c 0) 0 ∧
      k0_off3 c = at4 (slotL c 0) 0 ∧
      k0_off4 c = at4 (slotR c 0) 0 ∧
      k0_off5 c = at4 (slotR c 0) 1 ∧
      k0_off20 c = at4 (slotR c 2) 0 ∧
      k0_off21 c = at4 (slotL c 2) 0 ∧
      k0_off24 c = at4 (slotR c 2) 0 ∧
      k0_off25 c = at4 (slotL c 2) 0 ∧
      k0_off26 c = at4 (slotR c 2) 1 ∧
      k0_off27 c = at4 (slotL c 2) 1 ∧
      k0_off30 c = at4 (slotR c 2) 0 ∧
      k0_off31 c = at4 (slotL c 2) 0 ∧
      k0_off36 c = at4 (slotR c 2) 0 ∧
      k0_off37 c = at4 (slotL c 2) 0 ∧
      k0_off48 c = at4 (slotR c 4) 0 ∧
      k0_off49 c = at4 (slotL c 4) 0 ∧
      k0_off52 c = at4 (slotR c 4) 0 ∧
      k0_off53 c = at4 (slotL c 4) 0 ∧
      k0_off54 c = at4 (slotR c 4) 1 ∧
      k0_off55 c = at4 (slotL c 4) 1 ∧
      k0_off58 c = at4 (slotR c 4) 0 ∧
      k0_off59 c = at4 (slotL c 4) 0 ∧
      k0_off64 c = at4 (slotR c 4) 0 ∧
      k0_off65 c = at4 (slotL c 4) 0 ∧
      k0_off76 c = at4 (slotR c 6) 0 ∧
      k0_off77 c = at4 (slotL c 6) 0 ∧
      k0_off80 c = at4 (slotR c 6) 0 ∧
      k0_off81 c = at4 (slotL c 6) 0 ∧
      k0_off82 c = at4 (slotR c 6) 1 ∧
      k0_off83 c = at4 (slotL c 6) 1 ∧
      k0_off86 c = at4 (slotR c 6) 0 ∧
      k0_off87 c = at4 (slotL c 6) 0 ∧
      k0_off91 c = at4 (slotR c 6) 0 ∧
      k0_off92 c = at4 (slotL c 6) 0 ∧
      k0_off103 c = at4 (slotR c 8) 0 ∧
      k0_off104 c = at4 (slotR c 8) 1 ∧
      k0_off105 c = at4 (slotR c 8) 0 ∧
      k0_off106 c = at4 (slotR c 8) 0 ∧
      k0_off107 c = at4 (slotR c 0) 0 := by
  intro c hc
  and_intros <;> (revert c; decide +kernel)

/-- Whom the program names at a device of even number. -/
theorem devs_even : ∀ c : Dev nD, c.val % 2 = 0 →
    k0_dev1 c = (lf c).val ∧
      k0_dev2 c = (rt c).val ∧
      k0_dev3 c = (rt c).val ∧
      k0_dev4 c = (lf c).val ∧
      k0_dev7 c = (rt c).val ∧
      k0_dev8 c = (lf c).val ∧
      k0_dev13 c = (rt c).val ∧
      k0_dev14 c = (lf c).val ∧
      k0_dev15 c = (rt c).val ∧
      k0_dev16 c = (lf c).val ∧
      k0_dev21 c = (rt c).val ∧
      k0_dev22 c = (lf c).val ∧
      k0_dev23 c = (rt c).val ∧
      k0_dev24 c = (lf c).val ∧
      k0_dev28 c = (rt c).val ∧
      k0_dev29 c = (lf c).val ∧
      k0_dev32 c = (opp c).val ∧
      k0_dev33 c = (lf c).val ∧
      k0_dev34 c = (rt c).val := by
  intro c hc
  and_intros <;> (revert c; decide +kernel)

/-- Which conditions hold at a device of odd number. -/
theorem conds_odd : ∀ c : Dev nD, c.val % 2 = 1 →
    ¬ k0_cond1 c = 1#1 ∧
      ¬ k0_cond2 c = 1#1 ∧
      ¬ k0_cond3 c = 1#1 ∧
      k0_cond4 c = 1#1 ∧
      ¬ k0_cond5 c = 1#1 ∧
      k0_cond6 c = 1#1 ∧
      k0_cond7 c = 1#1 ∧
      ¬ k0_cond8 c = 1#1 ∧
      k0_cond9 c = 1#1 ∧
      ¬ k0_cond10 c = 1#1 ∧
      k0_cond11 c = 1#1 ∧
      ¬ k0_cond12 c = 1#1 ∧
      k0_cond13 c = 1#1 ∧
      ¬ k0_cond14 c = 1#1 ∧
      ¬ k0_cond15 c = 1#1 ∧
      k0_cond17 c = 1#1 ∧
      ¬ k0_cond18 c = 1#1 ∧
      k0_cond19 c = 1#1 ∧
      ¬ k0_cond20 c = 1#1 ∧
      k0_cond21 c = 1#1 ∧
      k0_cond22 c = 1#1 ∧
      ¬ k0_cond24 c = 1#1 ∧
      k0_cond25 c = 1#1 ∧
      ¬ k0_cond26 c = 1#1 ∧
      k0_cond27 c = 1#1 ∧
      ¬ k0_cond28 c = 1#1 ∧
      ¬ k0_cond29 c = 1#1 ∧
      k0_cond31 c = 1#1 ∧
      ¬ k0_cond32 c = 1#1 ∧
      k0_cond33 c = 1#1 ∧
      ¬ k0_cond34 c = 1#1 ∧
      k0_cond35 c = 1#1 ∧
      k0_cond36 c = 1#1 ∧
      ¬ k0_cond38 c = 1#1 ∧
      k0_cond39 c = 1#1 ∧
      ¬ k0_cond40 c = 1#1 ∧
      k0_cond41 c = 1#1 ∧
      ¬ k0_cond42 c = 1#1 ∧
      ¬ k0_cond43 c = 1#1 ∧
      k0_cond45 c = 1#1 ∧
      ¬ k0_cond46 c = 1#1 ∧
      k0_cond47 c = 1#1 ∧
      ¬ k0_cond48 c = 1#1 ∧
      k0_cond49 c = 1#1 ∧
      k0_cond50 c = 1#1 ∧
      k0_cond52 c = 1#1 ∧
      k0_cond53 c = 1#1 ∧
      ¬ k0_cond54 c = 1#1 ∧
      ¬ k0_cond55 c = 1#1 ∧
      ¬ k0_cond58 c = 1#1 := by
  intro c hc
  and_intros <;> (revert c; decide +kernel)

/-- Where the program reads and writes at a device of odd number. -/
theorem offs_odd : ∀ c : Dev nD, c.val % 2 = 1 →
    k0_off10 c = at4 (slotR c 1) 0 ∧
      k0_off11 c = at4 (slotL c 1) 0 ∧
      k0_off12 c = at4 (slotR c 1) 0 ∧
      k0_off13 c = at4 (slotL c 1) 0 ∧
      k0_off14 c = at4 (slotR c 1) 1 ∧
      k0_off15 c = at4 (slotL c 1) 1 ∧
      k0_off22 c = at4 (slotR c 1) 0 ∧
      k0_off23 c = at4 (slotL c 1) 0 ∧
      k0_off34 c = at4 (slotR c 3) 0 ∧
      k0_off35 c = at4 (slotL c 3) 0 ∧
      k0_off38 c = at4 (slotR c 3) 0 ∧
      k0_off39 c = at4 (slotL c 3) 0 ∧
      k0_off40 c = at4 (slotR c 3) 1 ∧
      k0_off41 c = at4 (slotL c 3) 1 ∧
      k0_off44 c = at4 (slotR c 3) 0 ∧
      k0_off45 c = at4 (slotL c 3) 0 ∧
      k0_off50 c = at4 (slotR c 3) 0 ∧
      k0_off51 c = at4 (slotL c 3) 0 ∧
      k0_off62 c = at4 (slotR c 5) 0 ∧
      k0_off63 c = at4 (slotL c 5) 0 ∧
      k0_off66 c = at4 (slotR c 5) 0 ∧
      k0_off67 c = at4 (slotL c 5) 0 ∧
      k0_off68 c = at4 (slotR c 5) 1 ∧
      k0_off69 c = at4 (slotL c 5) 1 ∧
      k0_off72 c = at4 (slotR c 5) 0 ∧
      k0_off73 c = at4 (slotL c 5) 0 ∧
      k0_off78 c = at4 (slotR c 5) 0 ∧
      k0_off79 c = at4 (slotL c 5) 0 ∧
      k0_off90 c = at4 (slotR c 7) 0 ∧
      k0_off93 c = at4 (slotR c 7) 0 ∧
      k0_off94 c = at4 (slotL c 7) 0 ∧
      k0_off95 c = at4 (slotR c 7) 1 ∧
      k0_off96 c = at4 (slotL c 7) 1 ∧
      k0_off98 c = at4 (slotR c 7) 0 ∧
      k0_off99 c = at4 (slotL c 7) 0 ∧
      k0_off101 c = at4 (slotR c 7) 0 ∧
      k0_off102 c = at4 (slotL c 7) 0 := by
  intro c hc
  and_intros <;> (revert c; decide +kernel)

/-- Whom the program names at a device of odd number. -/
theorem devs_odd : ∀ c : Dev nD, c.val % 2 = 1 →
    k0_dev1 c = (lf c).val ∧
      k0_dev2 c = (rt c).val ∧
      k0_dev5 c = (rt c).val ∧
      k0_dev6 c = (lf c).val ∧
      k0_dev9 c = (rt c).val ∧
      k0_dev10 c = (lf c).val ∧
      k0_dev11 c = (rt c).val ∧
      k0_dev12 c = (lf c).val ∧
      k0_dev17 c = (rt c).val ∧
      k0_dev18 c = (lf c).val ∧
      k0_dev19 c = (rt c).val ∧
      k0_dev20 c = (lf c).val ∧
      k0_dev25 c = (rt c).val ∧
      k0_dev26 c = (lf c).val ∧
      k0_dev27 c = (rt c).val ∧
      k0_dev30 c = (rt c).val ∧
      k0_dev31 c = (op7 c).val ∧
      k0_dev33 c = (lf c).val ∧
      k0_dev34 c = (rt c).val := by
  intro c hc
  and_intros <;> (revert c; decide +kernel)

end Cert.RingAttn

end
-- ==== Proof.Slot.lean ====
module

public import proofs.«01_k».proof.Proof.Dev
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

/-! A buffer of slots: each slot is owned by itself, with what is read through it. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A buffer of `n` slots. -/
abbrev Sn (n : ℕ) : Shape := ⟨4, ![n, 2, 128, 512]⟩

theorem slotRect_inb {n : ℕ} (j : Fin n) :
    ∀ a, (![j.val, 0, 0, 0] : Fin 4 → ℕ) a + S1x2x128x512.size a ≤ (Sn n).size a := by
  intro a; have := j.isLt
  fin_cases a <;> simp <;> omega

/-- Slot `j`. -/
def slotRect {n : ℕ} (j : Fin n) : Rect (Sn n) :=
  Rect.unit ![j.val, 0, 0, 0] S1x2x128x512.size (slotRect_inb j)

theorem halfRect_inb (b : Fin 2) :
    ∀ a, (![0, b.val, 0, 0] : Fin 4 → ℕ) a + S1x1x128x512.size a ≤ S1x2x128x512.size a := by
  intro a; have := b.isLt
  fin_cases a <;> simp; omega

/-- Half `b` of a slot. -/
def halfRect (b : Fin 2) : Rect S1x2x128x512 :=
  Rect.unit ![0, b.val, 0, 0] S1x1x128x512.size (halfRect_inb b)

/-- The contents of half `b`. -/
def half {e : EltTy} (b : Fin 2) (X : Vec F S1x2x128x512 e) : Vec F S1x1x128x512 e :=
  fun i => X ((halfRect b).emb i)

/-- An element's place within its half. -/
def inHalf (i : S1x2x128x512.Idx) : S1x1x128x512.Idx := fun a =>
  ⟨(![0, 0, (i 2).val, (i 3).val] : Fin 4 → ℕ) a, by
    have e2 := (i 2).isLt
    have e3 := (i 3).isLt
    change (i 2).val < 128 at e2
    change (i 3).val < 512 at e3
    fin_cases a <;> simp <;> assumption⟩

/-- The two halves put together. -/
def joinH {e : EltTy} (w0 w1 : Vec F S1x1x128x512 e) : Vec F S1x2x128x512 e :=
  fun i => if (i 1).val = 0 then w0 (inHalf i)
    else w1 (inHalf i)

theorem halfRect_emb_val (b : Fin 2) (i : S1x1x128x512.Idx) (a : Fin 4) :
    ((halfRect b).emb i a).val = (![0, b.val, 0, 0] : Fin 4 → ℕ) a + 1 * (i a).val := rfl

theorem emb_inHalf (b : Fin 2) (i : S1x2x128x512.Idx) (hb : (i 1).val = b.val) : (halfRect b).emb (inHalf i) = i := by
  have e0 := (i 0).isLt
  change (i 0).val < 1 at e0
  funext a; apply Fin.ext; rw [halfRect_emb_val]
  fin_cases a <;> simp [inHalf] <;> omega

theorem inHalf_emb (b : Fin 2) (i : S1x1x128x512.Idx) : inHalf ((halfRect b).emb i) = i := by
  have e0 := (i 0).isLt
  have e1 := (i 1).isLt
  change (i 0).val < 1 at e0
  change (i 1).val < 1 at e1
  have h2 := halfRect_emb_val b i 2
  have h3 := halfRect_emb_val b i 3
  simp at h2 h3
  funext a; apply Fin.ext
  fin_cases a <;> simp [inHalf] <;> first | omega | assumption

theorem emb_slot_half {n : ℕ} (j : Fin n) (b : Fin 2) (inb) (i : S1x1x128x512.Idx) :
    (Rect.unit (s := Sn n) ![j.val, b.val, 0, 0] S1x1x128x512.size inb).emb i
      = (slotRect j).emb ((halfRect b).emb i) := by
  funext a
  apply Fin.ext
  have h : (![j.val, b.val, 0, 0] : Fin 4 → ℕ) a + 1 * (i a).val
      = (![j.val, 0, 0, 0] : Fin 4 → ℕ) a + 1 * ((![0, b.val, 0, 0] : Fin 4 → ℕ) a + 1 * (i a).val) := by
    fin_cases a <;> simp
  exact h

variable (c : Dev nD)

/-- Device `c` owns slot `j` of the buffer at share `q`, and `X` is what the slot holds. -/
def own {n : ℕ} {e : EltTy} (m : Memref sig .tc .vmem (Sn n) e) (j : Fin n) (q : PosShare TreeShare)
    (X : Vec F S1x2x128x512 e) : sProp 𝕄 :=
  iprop(∃ f : Buf (Elt F) ((m.access (slotRect j)).loc (c : Thread nD τ)), ⌜(m.access (slotRect j)).read (Elt F) f = X⌝
    ∗ ((m.access (slotRect j)).loc (c : Thread nD τ) ↦[(m.access (slotRect j)).set]{q} f))

/-- The slot, whatever it holds. -/
def ownAny {n : ℕ} {e : EltTy} (m : Memref sig .tc .vmem (Sn n) e) (j : Fin n) : sProp 𝕄 :=
  iprop(∃ X : Vec F S1x2x128x512 e, own c m j fullShare X)

instance own_storable {n : ℕ} {e : EltTy} (m : Memref sig .tc .vmem (Sn n) e) (j : Fin n) (q : PosShare TreeShare)
    (X : Vec F S1x2x128x512 e) : BI.Storable (upEmb : UEmb _ 𝕄) (own c m j q X) := by
  unfold own; infer_instance

instance ownAny_storable {n : ℕ} {e : EltTy} (m : Memref sig .tc .vmem (Sn n) e) (j : Fin n) :
    BI.Storable (upEmb : UEmb _ 𝕄) (ownAny (F := F) c m j) := by
  unfold ownAny; infer_instance

theorem own_any {n : ℕ} {e : EltTy} {m : Memref sig .tc .vmem (Sn n) e} {j : Fin n} {X : Vec F S1x2x128x512 e} :
    own c m j fullShare X ⊢ (ownAny c m j : sProp 𝕄) := by
  unfold ownAny; iintro H; iexists X; iexact H

theorem own_share {n : ℕ} {e : EltTy} {m : Memref sig .tc .vmem (Sn n) e} {j : Fin n} {X : Vec F S1x2x128x512 e}
    {q q₁ q₂ : PosShare TreeShare} (h : q ∈ q₁ ·? q₂) :
    (own c m j q X : sProp 𝕄) ⊢ iprop(own c m j q₁ X ∗ own c m j q₂ X) := by
  unfold own
  iintro ⟨%f, %hf, H⟩
  ihave H2 := (pointsTo_share h).1 $$ H
  icases H2 with ⟨H1, H2⟩
  isplitl [H1]
  · iexists f; isplitr; · ipureintro; exact hf
    iexact H1
  · iexists f; isplitr; · ipureintro; exact hf
    iexact H2

section Steps

variable {α : Type}
variable {n : ℕ} {e : EltTy} {m : Memref sig .tc .vmem (Sn n) e} {j : Fin n} {q : PosShare TreeShare}
  {X : Vec F S1x2x128x512 e}

/-- A load of the whole slot. -/
theorem ld_slot {off : Fin 4 → ℕ} (hoff : off = ![j.val, 0, 0, 0]) {inb}
    {hl : m.view.LoadsAt (Rect.unit (s := Sn n) off S1x2x128x512.size inb).toLoadRect}
    {k : Vec F S1x2x128x512 e → Prog (TpuEff nD τ sig (Elt F) Λ₀ .tc) α} {Q : α → sProp 𝕄} :
    (own c m j q X : sProp 𝕄) ⊢ iprop((own c m j q X -∗ wp frame (wpE (defs₀ (F := F)) 𝒱₀ (c : Thread nD τ) none) Set.univ (k X) Q)
      -∗ wp frame (wpE (defs₀ (F := F)) 𝒱₀ (c : Thread nD τ) none) Set.univ (.op (.load m _ hl) k) Q) := by
  subst hoff
  unfold own
  iintro ⟨%f, %hf, H⟩ K
  iapply wp_load_rect 𝒱₀ (c : Thread nD τ) none Set.univ (m := m) (r := slotRect j) (hl := hl) (subset_rfl) $$ H
  iintro H
  rw [hf]
  iapply K
  iexists f; isplitr; · ipureintro; exact hf
  iexact H

/-- A load of one half of the slot. -/
theorem ld_half (b : Fin 2) {off : Fin 4 → ℕ} (hoff : off = ![j.val, b.val, 0, 0]) {inb}
    {hl : m.view.LoadsAt (Rect.unit (s := Sn n) off S1x1x128x512.size inb).toLoadRect}
    {k : Vec F S1x1x128x512 e → Prog (TpuEff nD τ sig (Elt F) Λ₀ .tc) α} {Q : α → sProp 𝕄} :
    (own c m j q X : sProp 𝕄) ⊢ iprop((own c m j q X -∗ wp frame (wpE (defs₀ (F := F)) 𝒱₀ (c : Thread nD τ) none) Set.univ (k (half b X)) Q)
      -∗ wp frame (wpE (defs₀ (F := F)) 𝒱₀ (c : Thread nD τ) none) Set.univ (.op (.load m _ hl) k) Q) := by
  subst hoff
  unfold own
  iintro ⟨%f, %hf, H⟩ K
  have hr : (m.access (Rect.unit (s := Sn n) ![j.val, b.val, 0, 0] S1x1x128x512.size inb)).read (Elt F) f = half b X := by
    subst hf; funext i
    exact congrArg (fun z => _root_.cast _ (f (m.view.emb z))) (emb_slot_half j b inb i)
  have hs : (m.access (Rect.unit (s := Sn n) ![j.val, b.val, 0, 0] S1x1x128x512.size inb)).set ⊆ (m.access (slotRect j)).set := by
    intro z hz
    obtain ⟨i, -, rfl⟩ := Finset.mem_map.1 hz
    refine Finset.mem_map.2 ⟨(halfRect b).emb i, Finset.mem_univ _, ?_⟩
    exact congrArg m.view.emb (emb_slot_half j b inb i).symm
  iapply wp_load_rect 𝒱₀ (c : Thread nD τ) none Set.univ (m := m)
    (r := Rect.unit (s := Sn n) ![j.val, b.val, 0, 0] S1x1x128x512.size inb) (hl := hl) hs $$ H
  iintro H
  rw [hr]
  iapply K
  iexists f; isplitr; · ipureintro; exact hf
  iexact H

/-- A store of the whole slot. -/
theorem st_slot {off : Fin 4 → ℕ} (hoff : off = ![j.val, 0, 0, 0]) {inb}
    {w : Vec F S1x2x128x512 e}
    {hx : (m.access (Rect.unit (s := Sn n) off S1x2x128x512.size inb)).Stores Finset.univ} {hm}
    {k : PUnit → Prog (TpuEff nD τ sig (Elt F) Λ₀ .tc) α} {Q : α → sProp 𝕄} :
    (own c m j fullShare X : sProp 𝕄) ⊢ iprop((own c m j fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store m _ w Finset.univ hx hm) k) Q) := by
  subst hoff
  unfold own
  iintro ⟨%f, %hf, H⟩ K
  iapply wp_store 𝒱₀ (c : Thread nD τ) none Set.univ (m := m) (r := slotRect j) (w := w) (Mk := Finset.univ) (hx := hx) (hm := hm)
    (S := (m.access (slotRect j)).set) (View.setOn_univ _).subset $$ H
  iintro H
  iapply K
  iexists _
  isplitr [H]
  rotate_left
  · iexact H
  · ipureintro; exact View.read_write_univ _ _

/-- A store into one half of the slot: the half reads what was stored, the other half what it did. -/
theorem st_half (b : Fin 2) {off : Fin 4 → ℕ} (hoff : off = ![j.val, b.val, 0, 0]) {inb}
    {w : Vec F S1x1x128x512 e}
    {hx : (m.access (Rect.unit (s := Sn n) off S1x1x128x512.size inb)).Stores Finset.univ} {hm}
    {k : PUnit → Prog (TpuEff nD τ sig (Elt F) Λ₀ .tc) α} {Q : α → sProp 𝕄} :
    (own c m j fullShare X : sProp 𝕄) ⊢ iprop((own c m j fullShare (joinH (if b = 0 then w else half 0 X) (if b = 0 then half 1 X else w))
        -∗ wp frame (wpE (defs₀ (F := F)) 𝒱₀ (c : Thread nD τ) none) Set.univ (k ⟨⟩) Q)
      -∗ wp frame (wpE (defs₀ (F := F)) 𝒱₀ (c : Thread nD τ) none) Set.univ (.op (.store m _ w Finset.univ hx hm) k) Q) := by
  subst hoff
  unfold own
  iintro ⟨%f, %hf, H⟩ K
  have he : (fun i => (Rect.unit (s := Sn n) ![j.val, b.val, 0, 0] S1x1x128x512.size inb).emb i)
      = fun i => (slotRect j).emb ((halfRect b).emb i) := funext (emb_slot_half j b inb)
  have hs : (m.access (Rect.unit (s := Sn n) ![j.val, b.val, 0, 0] S1x1x128x512.size inb)).setOn Finset.univ ⊆ (m.access (slotRect j)).set := by
    intro z hz
    obtain ⟨i, -, rfl⟩ := Finset.mem_map.1 hz
    refine Finset.mem_map.2 ⟨(halfRect b).emb i, Finset.mem_univ _, ?_⟩
    exact congrArg m.view.emb (emb_slot_half j b inb i).symm
  have hr : (m.access (slotRect j)).read (Elt F)
      ((m.access (Rect.unit (s := Sn n) ![j.val, b.val, 0, 0] S1x1x128x512.size inb)).write (Elt F) f w Finset.univ)
      = joinH (if b = 0 then w else half 0 X) (if b = 0 then half 1 X else w) := by
    funext i
    have key : ∀ (b' : Fin 2) (i' : S1x1x128x512.Idx), (halfRect b').emb i' = i →
        (m.access (slotRect j)).read (Elt F)
          ((m.access (Rect.unit (s := Sn n) ![j.val, b.val, 0, 0] S1x1x128x512.size inb)).write (Elt F) f w Finset.univ) i
        = if b' = b then w i' else half b' X i' := by
      intro b' i' hi
      by_cases hb : b' = b
      · subst hb
        rw [if_pos rfl, View.read_apply, ← hi]
        have h2 : (m.access (slotRect j)).emb ((halfRect b').emb i')
            = (m.access (Rect.unit (s := Sn n) ![j.val, b'.val, 0, 0] S1x1x128x512.size inb)).emb i' :=
          congrArg m.view.emb (emb_slot_half j b' inb i').symm
        rw [h2, View.write_emb_of_mem _ _ (Finset.mem_univ _), cast_cast, cast_eq]
      · rw [if_neg hb, View.read_apply, View.write_of_not_mem]
        · subst hf; subst hi; rfl
        · intro hz
          obtain ⟨i2, -, h2⟩ := Finset.mem_map.1 hz
          have h3 : (Rect.unit (s := Sn n) ![j.val, b.val, 0, 0] S1x1x128x512.size inb).emb i2 = (slotRect j).emb i :=
            m.view.emb.injective h2
          rw [emb_slot_half, ← hi] at h3
          have h4 := (slotRect j).emb.injective h3
          have h5 := congrArg (fun z : S1x2x128x512.Idx => (z 1).val) h4
          have h6 : (![0, b.val, 0, 0] : Fin 4 → ℕ) 1 + 1 * (i2 1).val = (![0, b'.val, 0, 0] : Fin 4 → ℕ) 1 + 1 * (i' 1).val := h5
          simp at h6
          have e1 := (i2 1).isLt
          have e2 := (i' 1).isLt
          change (i2 1).val < 1 at e1
          change (i' 1).val < 1 at e2
          apply hb; apply Fin.ext; omega
    have hi0 := (i 0).isLt
    have hi1 := (i 1).isLt
    change (i 0).val < 1 at hi0
    change (i 1).val < 2 at hi1
    by_cases h0 : (i 1).val = 0
    · rw [key 0 (inHalf i)]
      · unfold joinH; rw [if_pos h0]
        by_cases hb : b = 0
        · subst hb; simp
        · rw [if_neg (Ne.symm hb), if_neg hb]
      · exact emb_inHalf 0 i h0
    · rw [key 1 (inHalf i)]
      · unfold joinH; rw [if_neg h0]
        by_cases hb : b = 0
        · subst hb; simp
        · have : b = 1 := by omega
          subst this; simp
      · exact emb_inHalf 1 i (by simp; omega)
  iapply wp_store 𝒱₀ (c : Thread nD τ) none Set.univ (m := m)
    (r := Rect.unit (s := Sn n) ![j.val, b.val, 0, 0] S1x1x128x512.size inb) (w := w) (Mk := Finset.univ) (hx := hx) (hm := hm) hs $$ H
  iintro H
  iapply K
  iexists _
  isplitr [H]
  rotate_left
  · iexact H
  · ipureintro; exact hr

end Steps

theorem half_joinH0 {e : EltTy} (w0 w1 : Vec F S1x1x128x512 e) : half 0 (joinH w0 w1) = w0 := by
  funext i
  unfold half joinH
  have e1 := (i 1).isLt
  change (i 1).val < 1 at e1
  have h : ((halfRect 0).emb i 1).val = 0 := by rw [halfRect_emb_val]; simp; omega
  rw [if_pos h, inHalf_emb]

theorem half_joinH1 {e : EltTy} (w0 w1 : Vec F S1x1x128x512 e) : half 1 (joinH w0 w1) = w1 := by
  funext i
  unfold half joinH
  have h : ¬ ((halfRect 1).emb i 1).val = 0 := by rw [halfRect_emb_val]; simp
  rw [if_neg h, inHalf_emb]

/-! Slots as sources and targets of transfers, which go through them with the leading axis dropped. -/

/-- A slot's contents without the leading axis. -/
def sq {e : EltTy} (X : Vec F S1x2x128x512 e) : Vec F S2x128x512 e := shapeCast S2x128x512 X
/-- Contents with a leading axis put on. -/
def unsq {e : EltTy} (w : Vec F S2x128x512 e) : Vec F S1x2x128x512 e := shapeCast S1x2x128x512 w

theorem unsq_sq {e : EltTy} (X : Vec F S1x2x128x512 e) : unsq (sq X) = X := shapeCast_shapeCast _ _ _

section Squeeze

variable {n : ℕ} {e : EltTy} (m : Memref sig .tc .vmem (Sn n) e) (j : Fin n)

/-- Slot `j` with the leading axis dropped. -/
abbrev sqM (off : Fin 4 → ℕ) (inb : ∀ a, off a + S1x2x128x512.size a ≤ (Sn n).size a) : Memref sig .tc .vmem S2x128x512 e :=
  (m.slice (Rect.unit (s := Sn n) off S1x2x128x512.size inb) (fun _ => rfl)).squeeze S2x128x512 squeezes_S1x2x128x512_S2x128x512

variable {m j}

theorem sqM_set {off : Fin 4 → ℕ} (hoff : off = ![j.val, 0, 0, 0]) {inb} :
    (sqM m off inb).view.set = (m.access (slotRect j)).set := by
  subst hoff; exact View.set_reshape _ _

theorem sqM_read {off : Fin 4 → ℕ} (hoff : off = ![j.val, 0, 0, 0]) {inb} {f : m.view.ty.Contents (Elt F)}
    {X : Vec F S1x2x128x512 e} (h : (m.access (slotRect j)).read (Elt F) f = X) :
    (sqM m off inb).view.read (Elt F) f = sq X := by
  subst hoff; subst h; rfl

theorem sqM_write {off : Fin 4 → ℕ} (hoff : off = ![j.val, 0, 0, 0]) {inb} {f : m.view.ty.Contents (Elt F)}
    {w : Vec F S2x128x512 e} :
    (m.access (slotRect j)).read (Elt F) ((sqM m off inb).view.write (Elt F) f w Finset.univ) = unsq w := by
  subst hoff
  have h := View.read_write_univ (v := (sqM m ![j.val, 0, 0, 0] inb).view) (Val := Elt F) f w
  have h2 := sqM_read (m := m) (j := j) rfl (inb := inb)
    (f := (sqM m ![j.val, 0, 0, 0] inb).view.write (Elt F) f w Finset.univ) rfl
  rw [h] at h2
  have h3 := congrArg unsq h2
  exact (unsq_sq _).symm.trans h3.symm

/-- A slot as the source or target of a transfer. -/
theorem own_sq {off : Fin 4 → ℕ} (hoff : off = ![j.val, 0, 0, 0]) {inb} {q : PosShare TreeShare} {X : Vec F S1x2x128x512 e} :
    (own c m j q X : sProp 𝕄) ⊢ iprop(∃ f : Buf (Elt F) ((sqM m off inb).view.loc (c : Thread nD τ)),
      ⌜(sqM m off inb).view.read (Elt F) f = sq X⌝ ∗ ((sqM m off inb).view.loc (c : Thread nD τ) ↦[(sqM m off inb).view.set]{q} f)) := by
  unfold own
  iintro ⟨%f, %hf, H⟩
  iexists f
  isplitr
  · ipureintro; exact sqM_read hoff hf
  · rw [sqM_set hoff]; iexact H

theorem sq_own {off : Fin 4 → ℕ} (hoff : off = ![j.val, 0, 0, 0]) {inb} {q : PosShare TreeShare} {w : Vec F S2x128x512 e}
    {f : Buf (Elt F) ((sqM m off inb).view.loc (c : Thread nD τ))} (hf : (sqM m off inb).view.read (Elt F) f = w) :
    ((sqM m off inb).view.loc (c : Thread nD τ) ↦[(sqM m off inb).view.set]{q} f : sProp 𝕄) ⊢ own c m j q (unsq w) := by
  unfold own
  rw [sqM_set hoff]
  iintro H
  iexists f
  isplitr
  · ipureintro; subst hf; rw [sqM_read hoff rfl]; exact (unsq_sq _).symm
  · iexact H

end Squeeze

end Cert.RingAttn
-- ==== Proof.Common.lean ====
module

public import proofs.«01_k».proof.Proof.Slot

@[expose] public section

/-! The kernel's buffers, semaphores and values; the schedule of its semaphore cells; what a device owes. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers -/

abbrev xgM : Memref sig .tc .vmem S8x2x128x512 .bf16 := Memref.whole cc0_scratch0
abbrev yaM : Memref sig .tc .vmem S8x2x128x512 .f32 := Memref.whole cc0_scratch1
abbrev rrM : Memref sig .tc .vmem S4x2x128x512 .bf16 := Memref.whole cc0_scratch2
abbrev rlM : Memref sig .tc .vmem S3x2x128x512 .bf16 := Memref.whole cc0_scratch3
abbrev ysrM : Memref sig .tc .vmem S2x128x512 .bf16 := Memref.whole cc0_scratch4
abbrev yslM : Memref sig .tc .vmem S2x128x512 .bf16 := Memref.whole cc0_scratch5
abbrev yfrM : Memref sig .tc .vmem S2x128x512 .bf16 := Memref.whole cc0_scratch6
abbrev yflM : Memref sig .tc .vmem S2x128x512 .bf16 := Memref.whole cc0_scratch7

/-- A buffer taken whole, whatever it holds. -/
def wAny (c : Dev nD) {s : Shape} {e : EltTy} (m : Memref sig .tc .vmem s e) : sProp 𝕄 :=
  iprop(∃ X : Vec F s e, owns (c : Thread nD τ) m fullShare X)

instance wAny_storable (c : Dev nD) {s : Shape} {e : EltTy} (m : Memref sig .tc .vmem s e) :
    BI.Storable (upEmb : UEmb _ 𝕄) (wAny (F := F) c m) := by unfold wAny; infer_instance

/-! ## Devices around the ring -/

/-- The device `g` to the left. -/
def dm (c : Dev nD) (g : ℕ) : Dev nD := ⟨(c.val + 16 - g) % 16, Nat.mod_lt _ (by decide)⟩
/-- The device `g` to the right. -/
def dp (c : Dev nD) (g : ℕ) : Dev nD := ⟨(c.val + g) % 16, Nat.mod_lt _ (by decide)⟩

theorem c_lt (c : Dev nD) : c.val < 16 := c.isLt

theorem lf_rt (c : Dev nD) : lf (rt c) = c := by revert c; decide
theorem rt_lf (c : Dev nD) : rt (lf c) = c := by revert c; decide
theorem opp_opp (c : Dev nD) : opp (opp c) = c := by revert c; decide
theorem dp9_op7 (c : Dev nD) : dp (op7 c) 9 = c := by revert c; decide
theorem dm_zero (c : Dev nD) : dm c 0 = c := by revert c; decide
theorem dp_zero (c : Dev nD) : dp c 0 = c := by revert c; decide
theorem dm_eight (c : Dev nD) : dm c 8 = opp c := by revert c; decide
theorem dp_seven (c : Dev nD) : dp c 7 = op7 c := by revert c; decide

theorem dm_rt (c : Dev nD) {g : ℕ} (hg : g < 16) : dm (rt c) (g + 1) = dm c g := by
  have := c_lt c
  apply Fin.ext; simp only [dm, rt]; omega
theorem dp_lf (c : Dev nD) {g : ℕ} (hg : g < 16) : dp (lf c) (g + 1) = dp c g := by
  have := c_lt c
  apply Fin.ext; simp only [dp, lf]; omega
theorem slotR_rt (c : Dev nD) {g : ℕ} (hg : g < 16) : slotR (rt c) (g + 1) = slotR c g := by
  have := c_lt c
  apply Fin.ext; simp only [slotR, rt]; omega
theorem slotL_lf (c : Dev nD) {g : ℕ} (hg : g < 16) : slotL (lf c) (g + 1) = slotL c g := by
  have := c_lt c
  apply Fin.ext; simp only [slotL, lf]; omega
theorem slotL_zero (c : Dev nD) : slotL c 0 = slotR c 0 := by
  have := c_lt c
  apply Fin.ext; simp only [slotL, slotR]; omega

/-! ## Semaphores -/

/-- What a semaphore cell is for: the barrier, the exit, and for blocks (`b`), chunks (`c`) and the final
chunks (`f`), going right or left, the sender's and the receiver's. -/
inductive Fam where
  | bar | exit | bsr | brr | csr | crr | bsl | brl | csl | crl | fsr | frr | fsl | frl | none
deriving DecidableEq

/-- The semaphore's purpose and its number in its family. -/
def dec : SemLoc sig → Fam × ℕ
  | .reg s => if s.val = 0 then (.bar, 0) else (.exit, 0)
  | .dma s =>
    if s.val < 6 then (.none, s.val)
    else if s.val < 14 then (.bsr, s.val - 6)
    else if s.val < 22 then (.brr, s.val - 14)
    else if s.val < 29 then (.csr, s.val - 22)
    else if s.val < 36 then (.crr, s.val - 29)
    else if s.val < 43 then (.bsl, s.val - 36)
    else if s.val < 50 then (.brl, s.val - 43)
    else if s.val < 56 then (.csl, s.val - 50)
    else if s.val < 62 then (.crl, s.val - 56)
    else if s.val = 62 then (.fsr, 0)
    else if s.val = 63 then (.frr, 0)
    else if s.val = 64 then (.fsl, 0)
    else (.frl, 0)

/-- The DMA semaphore of a number. -/
def dS (n : ℕ) (h : n < 66 := by omega) : DmaSem sig := ⟨n, h⟩

abbrev barS : SemLoc sig := .reg ⟨0, by decide⟩
abbrev exitS : SemLoc sig := .reg ⟨1, by decide⟩

/-- Whether device `d` uses the cell: the parity of the tick it is for. -/
def usedF (d : Dev nD) : Fam × ℕ → Bool
  | (.bar, _) | (.exit, _) => true
  | (.bsr, g) | (.bsl, g) => (d.val + g) % 2 = 0
  | (.brr, g) | (.brl, g) => (d.val + g) % 2 = 1
  | (.csr, g) | (.csl, g) => (d.val + g) % 2 = 1
  | (.crr, g) | (.crl, g) => (d.val + g) % 2 = 0
  | (.fsr, _) | (.frr, _) | (.frl, _) => d.val % 2 = 0
  | (.fsl, _) => d.val % 2 = 1
  | (.none, _) => false

def used (d : Dev nD) (s : SemLoc sig) : Bool := usedF d (dec s)

/-- A cell of device `d`. -/
abbrev cellAt (d : Dev nD) (s : SemLoc sig) : GSem nD τ sig := ((d : Thread nD τ), s)

/-- What a transfer of one slot adds to its semaphores. -/
abbrev N : ℕ := (ysrM : Memref sig .tc .vmem S2x128x512 .bf16).view.dmaCredit
theorem N_pos : 0 < N := View.dmaCredit_pos _ (by decide)

/-! ## Values -/

/-- The blocks the devices hold. -/
structure Ins (F : FTy → Type) where
  x : Dev nD → Vec F S2x128x512 .f32
  wq : Dev nD → Vec F S512x256 .f32
  ks : Dev nD → Vec F S2x128x4x64 .f32
  vs : Dev nD → Vec F S2x128x4x64 .f32
  wo : Dev nD → Vec F S256x512 .f32

/-- The weights as a device works with them, and the two masks. -/
structure Wts (F : FTy → Type) where
  k : FVec F S2x128x4x64 .bf16
  v : FVec F S2x128x4x64 .bf16
  q : FVec F S512x256 .bf16
  o : FVec F S256x512 .bf16
  m1 : IVec S128x128 1
  m2 : IVec S256x128 1

/-- One slot's partial output, computed alone. -/
def one (w : Wts F) (X : Vec F S1x2x128x512 .bf16) : Vec F S1x2x128x512 .f32 :=
  let a1 := k0_pay1 w.q (half 0 X)
  let b1 := k0_pay10 w.q (half 1 X)
  joinH
    (k0_pay9 w.v w.o w.m1 (k0_pay4 (k0_pay2 w.k w.q w.m1 (half 0 X)) (k0_pay3 w.v) (constant S128x64 .f32 0x00000000#32))
      (k0_pay5 w.k w.v w.m1 a1) (k0_pay6 w.k w.v w.m1 a1) (k0_pay7 a1) (k0_pay8 w.k))
    (k0_pay174 w.k w.v w.o w.m1 b1 (k0_pay13 w.v (k0_pay11 w.k w.q w.m1 (half 1 X)) (k0_pay12 w.k w.q w.m1 (half 1 X)))
      (k0_pay14 w.k w.v w.m1 b1) (k0_pay15 w.k w.m1 b1))

/-- The first batch of two slots computed together. -/
def twoA (w : Wts F) (X Y : Vec F S1x2x128x512 .bf16) : FVec F S256x512 .f32 :=
  let a := k0_pay16 (half 0 X)
  let b := k0_pay17 (half 0 Y)
  k0_pay21 w.k w.v w.o w.m2 (k0_pay18 w.q a b) (k0_pay19 w.k w.v w.q w.m2 a b) (k0_pay20 w.k w.v w.q w.m2 a b)

/-- What the second batch of two slots stores, of the store's last step `f`. -/
def twoB (w : Wts F) (X Y : Vec F S1x2x128x512 .bf16)
    (f : FVec F S2x128x4x64 .bf16 → FVec F S256x512 .bf16 → IVec S256x128 1 → FVec F S256x64 .f32 → FVec F S256x64 .f32
      → FVec F S256x64 .f32 → FVec F S256x64 .bf16 → FVec F S1x128x1x64 .bf16 → FVec F S1x1x128x512 .f32) :
    FVec F S1x1x128x512 .f32 :=
  let b := k0_pay24 w.q (half 1 X) (half 1 Y)
  f w.v w.o w.m2 (k0_pay27 (k0_pay25 w.k w.q w.m2 (half 1 X) (half 1 Y)) (k0_pay26 w.v)) (k0_pay28 w.k w.v w.m2 b)
    (k0_pay29 w.k w.v w.m2 b) (k0_pay30 b) (k0_pay31 w.k)

/-- The partial outputs of two slots computed together: of the first, -/
def twoX (w : Wts F) (X Y : Vec F S1x2x128x512 .bf16) : Vec F S1x2x128x512 .f32 :=
  joinH (k0_pay22 (twoA w X Y)) (twoB w X Y k0_pay176)
/-- and of the second. -/
def twoY (w : Wts F) (X Y : Vec F S1x2x128x512 .bf16) : Vec F S1x2x128x512 .f32 :=
  joinH (k0_pay23 (twoA w X Y)) (twoB w X Y k0_pay177)

/-- A partial output as it is sent on. -/
def msg (X : Vec F S1x2x128x512 .f32) : Vec F S2x128x512 .bf16 := k0_pay178 X
/-- A device's own partial output added to the one that came. -/
def acc (X : Vec F S1x2x128x512 .f32) (M : Vec F S2x128x512 .bf16) : Vec F S1x2x128x512 .f32 := k0_pay182 X (unsq M)

section Vals

variable (I : Ins F)

/-- The block of device `d` as it goes round. -/
def xb (d : Dev nD) : Vec F S1x2x128x512 .bf16 := k0_pay165 (I.x d)

/-- The weights of device `c`. -/
def wt (c : Dev nD) : Wts F where
  k := k0_pay166 (I.ks c)
  v := k0_pay167 (I.vs c)
  q := k0_pay168 (I.wq c)
  o := k0_pay169 (I.wo c)
  m1 := k0_pay172 (iota .tc S128x128 32 [0] iota_S128x128_d0_w32) 64#32 k0_pay170 k0_pay171 0#32
  m2 := k0_pay173 (iota .tc S128x128 32 [0] iota_S128x128_d0_w32) 64#32 k0_pay170 k0_pay171 0#32

/-- Device `c`'s own partial output of the block that came from the left at tick `g`. -/
def pR (c : Dev nD) (g : ℕ) : Vec F S1x2x128x512 .f32 :=
  if 1 ≤ g ∧ g < 8 then twoX (wt I c) (xb I (dm c g)) (xb I (dp c g)) else one (wt I c) (xb I (dm c g))
/-- The same of the block that came from the right. -/
def pL (c : Dev nD) (g : ℕ) : Vec F S1x2x128x512 .f32 := twoY (wt I c) (xb I (dm c g)) (xb I (dp c g))

/-- The output of the block `g` to the left as device `c` has it once it has added what came from the left. -/
def accR : ℕ → Dev nD → Vec F S1x2x128x512 .f32
  | 0, c => pR I c 0
  | g + 1, c => if g = 0 then pR I c 1 else acc (pR I c (g + 1)) (msg (accR g (lf c)))

/-- The same of the block `g` to the right. -/
def accL : ℕ → Dev nD → Vec F S1x2x128x512 .f32
  | 0, c => pL I c 0
  | g + 1, c => if g = 0 then pL I c 1 else acc (pL I c (g + 1)) (msg (accL g (rt c)))

/-- What a device ends with: of an even one its own partial output and the two that came; of an odd one zeros. -/
def outV (c : Dev nD) : Vec F S2x128x512 .f32 :=
  if c.val % 2 = 0 then k0_pay164 (pR I c 0) (msg (accL I 7 (dp c 9))) (msg (accR I 8 (opp c))) else k0_pay211

end Vals

/-! ## The schedule -/

section Sched

variable (I : Ins F)

/-- The shares in which a slot's block is lent to the two transfers that read it. -/
abbrev qR : PosShare TreeShare := fullShare.right.left
abbrev qL : PosShare TreeShare := fullShare.right.right

/-- The buffer in which device `e` gets its block's output from across the ring, given away with the block. -/
def riderR (e : Dev nD) : sProp 𝕄 :=
  iprop(wAny e yfrM ∗ reached ER (cellAt e (.dma (dS 63))) 0)
def riderL (e : Dev nD) : sProp 𝕄 :=
  iprop(wAny e yflM ∗ reached ER (cellAt e (.dma (dS 65))) 0)

/-- That device `s` has opened its cells. -/
def rch (s : Dev nD) : sProp 𝕄 :=
  bigSep (Finset.univ : Finset (SemLoc sig)) fun t => if used s t = true then reached ER (cellAt s t) 0 else iprop(emp)

/-- What device `s` lends its left neighbour: the slots the neighbour's transfers go to. -/
def giveL (s : Dev nD) : sProp 𝕄 :=
  iprop((bigSep (Finset.univ : Finset (Fin 8)) fun g => if (s.val + g.val) % 2 = 1 then ownAny s xgM (slotR s (g.val + 1)) else iprop(emp))
    ∗ (bigSep (Finset.univ : Finset (Fin 7)) fun k => if (s.val + k.val) % 2 = 0 then ownAny s rrM ⟨k.val / 2, by omega⟩ else iprop(emp))
    ∗ rch s)
/-- What it lends its right neighbour. -/
def giveR (s : Dev nD) : sProp 𝕄 :=
  iprop((bigSep (Finset.univ : Finset (Fin 7)) fun g => if (s.val + g.val) % 2 = 1 then ownAny s xgM (slotL s (g.val + 1)) else iprop(emp))
    ∗ (bigSep (Finset.univ : Finset (Fin 6)) fun k => if (s.val + k.val) % 2 = 0 then ownAny s rlM ⟨k.val / 2, by omega⟩ else iprop(emp))
    ∗ rch s)

/-- A slot of four by its tick's number. -/
def r4 (k : ℕ) : Fin 4 := ⟨k / 2 % 4, by omega⟩
/-- A slot of three. -/
def r3 (k : ℕ) : Fin 3 := ⟨k / 2 % 3, by omega⟩

/-- What a duty hands the cell's owner. -/
def pay (d : Dev nD) (b : Bool) : Fam × ℕ → sProp 𝕄
  | (.bar, _) => if b then giveL (rt d) else giveR (lf d)
  | (.bsr, g) => own d xgM (slotR d g) qR (xb I (dm d g))
  | (.bsl, g) => own d xgM (slotL d g) qL (xb I (dp d g))
  | (.brr, g) => iprop(own d xgM (slotR d (g + 1)) fullShare (xb I (dm d (g + 1))) ∗ riderR (dm d (g + 1)))
  | (.brl, g) => iprop(own d xgM (slotL d (g + 1)) fullShare (xb I (dp d (g + 1))) ∗ riderL (dp d (g + 1)))
  | (.csr, _) | (.fsr, _) => wAny d ysrM
  | (.csl, _) | (.fsl, _) => wAny d yslM
  | (.crr, k) => own d rrM (r4 k) fullShare (unsq (msg (accR I (k + 1) (lf d))))
  | (.crl, k) => own d rlM (r3 k) fullShare (unsq (msg (accL I (k + 1) (rt d))))
  | (.frr, _) => owns (d : Thread nD τ) yfrM fullShare (msg (accR I 8 (opp d)))
  | (.frl, _) => owns (d : Thread nD τ) yflM fullShare (msg (accL I 7 (dp d 9)))
  | (.exit, _) | (.none, _) => iprop(emp)

/-- A regular cell has two duties, one for each neighbour; a DMA cell that is used has one. -/
def sdut (d : Dev nD) : SemLoc sig → Finset Bool
  | .reg _ => Finset.univ
  | .dma s => if used d (.dma s) = true then {false} else ∅

def samt : SemLoc sig → ℕ
  | .reg _ => 1
  | .dma _ => N

def rd : Rounds.Schedule (GSem nD τ sig) Bool 𝕄 where
  duties g r := if r = 0 ∧ g.1.2 = .tc then sdut g.1.1 g.2 else ∅
  unitless _ := False
  amount g _ _ := samt g.2
  payload g _ b := pay I g.1.1 b (dec g.2)
  amount_pos g _ _ _ := by
    unfold samt; split
    · exact Nat.one_pos
    · exact N_pos

instance rch_persistent (s : Dev nD) : BI.Persistent (rch (F := F) s) := by
  unfold rch
  have : ∀ t, BI.Persistent (if used s t = true then reached ER (cellAt s t) 0 else iprop(emp) : sProp 𝕄) := by
    intro t; split <;> infer_instance
  infer_instance

theorem bigSep_storable {ι : Type} [Fintype ι] [DecidableEq ι] (S : Finset ι) (Φ : ι → sProp 𝕄)
    (h : ∀ i, BI.Storable (upEmb : UEmb _ 𝕄) (Φ i)) : BI.Storable (upEmb : UEmb _ 𝕄) (bigSep S Φ) := by
  infer_instance

instance rch_storable (s : Dev nD) : BI.Storable (upEmb : UEmb _ 𝕄) (rch (F := F) s) := by
  unfold rch; refine bigSep_storable _ _ fun t => ?_
  split <;> infer_instance

instance pay_storable (d : Dev nD) (b : Bool) (f : Fam × ℕ) : BI.Storable (upEmb : UEmb _ 𝕄) (pay I d b f) := by
  have h1 : ∀ s, BI.Storable (upEmb : UEmb _ 𝕄) (giveL (F := F) s) := fun s => by
    unfold giveL
    have h := bigSep_storable (F := F) (Finset.univ : Finset (Fin 8)) (fun g => if (s.val + g.val) % 2 = 1 then ownAny s xgM (slotR s (g.val + 1)) else iprop(emp))
      (fun g => by split <;> infer_instance)
    have h' := bigSep_storable (F := F) (Finset.univ : Finset (Fin 7)) (fun k => if (s.val + k.val) % 2 = 0 then ownAny s rrM ⟨k.val / 2, by omega⟩ else iprop(emp))
      (fun g => by split <;> infer_instance)
    infer_instance
  have h2 : ∀ s, BI.Storable (upEmb : UEmb _ 𝕄) (giveR (F := F) s) := fun s => by
    unfold giveR
    have h := bigSep_storable (F := F) (Finset.univ : Finset (Fin 7)) (fun g => if (s.val + g.val) % 2 = 1 then ownAny s xgM (slotL s (g.val + 1)) else iprop(emp))
      (fun g => by split <;> infer_instance)
    have h' := bigSep_storable (F := F) (Finset.univ : Finset (Fin 6)) (fun k => if (s.val + k.val) % 2 = 0 then ownAny s rlM ⟨k.val / 2, by omega⟩ else iprop(emp))
      (fun g => by split <;> infer_instance)
    infer_instance
  obtain ⟨f, g⟩ := f
  have h3 := h1 (rt d)
  have h4 := h2 (lf d)
  cases f <;> unfold pay <;> try unfold riderR
  all_goals try unfold riderL
  all_goals first | infer_instance | (cases b <;> simp <;> infer_instance)

instance rd_storable (g : GSem nD τ sig) (r : ℕ) (b : Bool) :
    BI.Storable (upEmb : UEmb _ 𝕄) ((rd I).payload g r b) := by
  show BI.Storable _ (pay I g.1.1 b (dec g.2)); infer_instance

theorem duties_dma (d : Dev nD) (s : DmaSem sig) (h : used d (.dma s) = true) :
    (rd I).duties (cellAt d (.dma s)) 0 = {false} :=
  (if_pos (⟨rfl, rfl⟩ : (0:ℕ) = 0 ∧ (cellAt d (.dma s)).1.2 = .tc) :
    (if (0:ℕ) = 0 ∧ (cellAt d (.dma s)).1.2 = .tc then sdut d (.dma s) else ∅) = sdut d (.dma s)).trans (if_pos h)
theorem duties_reg (d : Dev nD) (s : Sem sig) : (rd I).duties (cellAt d (.reg s)) 0 = Finset.univ :=
  (if_pos (⟨rfl, rfl⟩ : (0:ℕ) = 0 ∧ (cellAt d (.reg s)).1.2 = .tc) :
    (if (0:ℕ) = 0 ∧ (cellAt d (.reg s)).1.2 = .tc then sdut d (.reg s) else ∅) = sdut d (.reg s))
theorem duties_later (g : GSem nD τ sig) : ∀ r, 1 ≤ r → (rd I).duties g r = ∅ :=
  fun r hr => if_neg fun h => by omega

theorem expect_dma (d : Dev nD) (s : DmaSem sig) (h : used d (.dma s) = true) : (rd I).expect (cellAt d (.dma s)) 0 = N := by
  unfold Schedule.expect Schedule.amountOf; rw [duties_dma I d s h, Finset.sum_singleton]; rfl
theorem expect_reg (d : Dev nD) (s : Sem sig) : (rd I).expect (cellAt d (.reg s)) 0 = 2 := by
  unfold Schedule.expect Schedule.amountOf
  rw [duties_reg]
  show ∑ _b : Bool, 1 = 2
  rfl

theorem rest_dma (d : Dev nD) (s : DmaSem sig) (h : used d (.dma s) = true) :
    bigSep ((rd I).duties (cellAt d (.dma s)) 0 \ ∅) (fun b => (rd I).payload (cellAt d (.dma s)) 0 b)
      = pay I d false (dec (.dma s)) := by
  rw [Finset.sdiff_empty, duties_dma I d s h, bigSep_singleton]; rfl
theorem rest_reg (d : Dev nD) (s : Sem sig) :
    bigSep ((rd I).duties (cellAt d (.reg s)) 0 \ ∅) (fun b => (rd I).payload (cellAt d (.reg s)) 0 b)
      = iprop(pay I d false (dec (.reg s)) ∗ pay I d true (dec (.reg s))) := by
  rw [Finset.sdiff_empty, duties_reg, bigSep_univ_eq_bigSepL [false, true] (by decide) (by decide), bigSepL_cons_cons, bigSepL_singleton]
  rfl

end Sched

/-! ## What a device owes -/

/-- The cell of device `c`'s `k`-th payment. -/
def tgt (c : Dev nD) (k : ℕ) : Option (Dev nD × SemLoc sig) :=
  if k = 0 then some (lf c, barS)
  else if k = 1 then some (rt c, barS)
  else if k = 20 then (if c.val % 2 = 0 then some (opp c, .dma (dS 63)) else none)
  else if k = 21 then some (lf c, exitS)
  else if k = 22 then some (rt c, exitS)
  else
    let g := (k - 2) / 2
    if k % 2 = 0 then
      (if (c.val + g) % 2 = 0 then (if g < 8 then some (rt c, .dma ⟨(14 + g) % 66, Nat.mod_lt _ (by decide)⟩) else none)
        else if 2 ≤ g then some (rt c, .dma ⟨(27 + g) % 66, Nat.mod_lt _ (by decide)⟩) else none)
    else
      (if (c.val + g) % 2 = 0 then (if g < 7 then some (lf c, .dma ⟨(43 + g) % 66, Nat.mod_lt _ (by decide)⟩) else none)
        else if g = 8 then some (op7 c, .dma (dS 65))
        else if 2 ≤ g then some (lf c, .dma ⟨(54 + g) % 66, Nat.mod_lt _ (by decide)⟩) else none)

/-- The payment. -/
def T (c : Dev nD) (k : ℕ) : CellTallies nD τ sig Unit :=
  match tgt c k with
  | none => 0
  | some (d, s) => tallyAt (cellAt d s) () (samt s)

/-- What device `c` owes once its first `n` payments are made. -/
def O (c : Dev nD) (n : ℕ) : CellTallies nD τ sig Unit := ∑ k ∈ Finset.Ico n 23, T c k

theorem O_step (c : Dev nD) {n : ℕ} (hn : n < 23) : O c n = O c (n + 1) + T c n := by
  unfold O
  have h : Finset.Ico n 23 = insert n (Finset.Ico (n + 1) 23) := by
    ext k; rw [Finset.mem_insert, Finset.mem_Ico, Finset.mem_Ico]; omega
  rw [h, Finset.sum_insert (by rw [Finset.mem_Ico]; omega), add_comm]
theorem O_skip (c : Dev nD) {n : ℕ} (hn : n < 23) (h : tgt c n = none) : O c n = O c (n + 1) := by
  rw [O_step c hn]; unfold T; rw [h, add_zero]
theorem O_pay (c : Dev nD) {n : ℕ} (hn : n < 23) {d : Dev nD} {s : SemLoc sig} (h : tgt c n = some (d, s)) :
    O c n = O c (n + 1) + tallyAt (cellAt d s) () (samt s) := by
  rw [O_step c hn]; unfold T; rw [h]
theorem O_end (c : Dev nD) : O c 23 = 0 := by unfold O; simp

/-- A cell's level. -/
def lvF : Fam × ℕ → ℕ
  | (.bar, _) => 1
  | (.brr, g) | (.brl, g) => g + 2
  | (.crr, k) | (.crl, k) => k + 4
  | (.frl, _) => 10
  | (.frr, _) => 11
  | (.exit, _) => 12
  | _ => 0

def lvRank (k : ℕ) : ℕ := if k < 2 then 1 else if k < 20 then (k - 2) / 2 + 2 else if k = 20 then 11 else 12

def L (g : GSem nD τ sig) : Finset Unit := if g.1.2 = .tc then {()} else ∅
def lv (g : GSem nD τ sig) (_ : Unit) : ℕ := lvF (dec g.2)

theorem L_of_ne (g : GSem nD τ sig) (h : g.1.2 ≠ .tc) : L g = ∅ := if_neg h
theorem L_tc (c : Dev nD) (sm : SemLoc sig) : L (cellAt c sm) = {()} := if_pos rfl

/-- The level a payment goes to. -/
def tgtLv (c : Dev nD) (k : ℕ) : ℕ := match tgt c k with | none => lvRank k | some (_, s) => lvF (dec s)

theorem tgtLv_eq : ∀ (c : Dev nD) (k : Fin 23), tgtLv c k.val = lvRank k.val := by decide +kernel

theorem lvRank_mono : ∀ (n k : Fin 23), n ≤ k → lvRank n.val ≤ lvRank k.val := by decide +kernel

theorem O_pos {c : Dev nD} {n : ℕ} {g : GSem nD τ sig} {u : Unit} (h : 0 < O c n g u) :
    ∃ k, n ≤ k ∧ k < 23 ∧ ∃ d s, tgt c k = some (d, s) ∧ g = cellAt d s := by
  unfold O at h
  rw [Finset.sum_apply, Finsupp.finset_sum_apply] at h
  obtain ⟨k, hk, hp⟩ := Finset.exists_ne_zero_of_sum_ne_zero h.ne'
  rw [Finset.mem_Ico] at hk
  refine ⟨k, hk.1, hk.2, ?_⟩
  unfold T at hp
  cases ht : tgt c k with
  | none => rw [ht] at hp; exact absurd rfl hp
  | some ds =>
    obtain ⟨d, s⟩ := ds
    rw [ht] at hp
    refine ⟨d, s, rfl, ?_⟩
    by_contra hne
    apply hp
    show tallyAt (cellAt d s) () (samt s) g u = 0
    rw [tallyAt_apply, if_neg (fun h' => hne h'.1)]

/-- A device may wait on a cell below what it still owes. -/
theorem mayWait (c : Dev nD) (s : SemLoc sig) {n : ℕ} (hn : n < 23) (h : lvF (dec s) < lvRank n) :
    (levAts L lv : sProp 𝕄) ⊢ MayWait (c : Thread nD τ) s () (O c n) :=
  MayOwe.of_cut (L := L) (lev := lv) (lvF (dec s))
    (fun p hp => by rw [Finset.mem_singleton.mp hp, L_tc]; exact Finset.mem_singleton_self _)
    (fun g u hg => by
      obtain ⟨k, -, -, d, t, -, rfl⟩ := O_pos hg
      rw [L_tc]; exact Finset.mem_singleton_self _)
    (fun p hp => by rw [Finset.mem_singleton.mp hp]; exact le_rfl)
    (fun g u hg => by
      obtain ⟨k, h1, h2, d, t, ht, rfl⟩ := O_pos hg
      have h3 := tgtLv_eq c ⟨k, h2⟩
      simp only [tgtLv, ht] at h3
      show lvF (dec s) < lvF (dec t)
      rw [h3]
      exact lt_of_lt_of_le h (lvRank_mono ⟨n, hn⟩ ⟨k, h2⟩ h1))

/-! ## Invariants -/

/-- The cells' invariants. -/
def invs (I : Ins F) (K : GSem nD τ sig → ℕ) : sProp 𝕄 :=
  bigSep (Finset.univ : Finset (Dev nD × SemLoc sig)) fun ds =>
    if used ds.1 ds.2 = true then cellInv ER (rd I) (K (cellAt ds.1 ds.2)) (cellAt ds.1 ds.2) else iprop(emp)

instance invs_persistent (I : Ins F) (K : GSem nD τ sig → ℕ) : BI.Persistent (invs I K) := by
  unfold invs
  have : ∀ ds : Dev nD × SemLoc sig, BI.Persistent
      (if used ds.1 ds.2 = true then cellInv ER (rd I) (K (cellAt ds.1 ds.2)) (cellAt ds.1 ds.2) else iprop(emp) : sProp 𝕄) := by
    intro t; split <;> infer_instance
  infer_instance

theorem invs_elim (I : Ins F) (K : GSem nD τ sig → ℕ) (d : Dev nD) (s : SemLoc sig) (h : used d s = true) :
    invs I K ⊢ cellInv ER (rd I) (K (cellAt d s)) (cellAt d s) := by
  unfold invs
  refine (BI.bigSep_elim (Finset.mem_univ (d, s))).trans ?_
  simp only [h, if_true]; exact BI.Entails.refl _

theorem rch_elim (s : Dev nD) (t : SemLoc sig) (h : used s t = true) :
    (rch s : sProp 𝕄) ⊢ reached ER (cellAt s t) 0 := by
  unfold rch
  refine (BI.bigSep_elim (Finset.mem_univ t)).trans ?_
  simp only [h, if_true]; exact BI.Entails.refl _

end Cert.RingAttn
-- ==== Proof.Steps.lean ====
module

public import proofs.«01_k».proof.Proof.Common

@[expose] public section

/-! The kernel's communication, one rule for each kind of step: a transfer, a wait on one, a signal, the waits on
regular semaphores; loads and stores of whole buffers. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {n : ℕ} {e : EltTy} {m : Memref sig .tc .vmem (Sn n) e} {j : Fin n} {X Y : Vec F S1x2x128x512 e}

/-- Two shares of one slot are one. -/
theorem own_join {c : Dev nD} {q q₁ q₂ : PosShare TreeShare} (h : q ∈ q₁ ·? q₂) :
    iprop(own c m j q₁ X ∗ own c m j q₂ Y) ⊢ (own c m j q X : sProp 𝕄) := by
  unfold own
  iintro ⟨⟨%f, %hf, H⟩, ⟨%g, %hg, H'⟩⟩
  ihave #Ha := (pointsTo_agree (q₁ := q₁) (q₂ := q₂)) $$ [H H']
  · isplitl [H] <;> iassumption
  icases Ha with %ha
  ihave H2 := (Entails.of_eq (pointsTo_congr (q := q₂) (f := g) (g := f) fun i hi => ((ha i (Finset.mem_inter.mpr ⟨hi, hi⟩)).1).symm)) $$ H'
  iexists f
  isplitr; · ipureintro; exact hf
  iapply (pointsTo_share h).2
  isplitl [H] <;> iassumption

theorem qs : fullShare ∈ (fullShare.left : PosShare TreeShare) ·? fullShare.right := PosShare.mem_left_op_right fullShare
theorem qs' : (fullShare.right : PosShare TreeShare) ∈ (qR : PosShare TreeShare) ·? qL := PosShare.mem_left_op_right _

theorem own_split {c : Dev nD} : (own c m j fullShare X : sProp 𝕄) ⊢ iprop(own c m j fullShare.left X ∗ own c m j qR X ∗ own c m j qL X) :=
  (own_share c qs).trans (sep_mono_right (own_share c qs'))
theorem own_rejoin {c : Dev nD} : iprop(own c m j fullShare.left X ∗ own c m j qR Y ∗ own c m j qL Y) ⊢ (own c m j fullShare X : sProp 𝕄) :=
  (sep_mono_right (own_join qs')).trans (own_join qs)

theorem own_owns {c : Dev nD} {q : PosShare TreeShare} {off : Fin 4 → ℕ} (hoff : off = ![j.val, 0, 0, 0]) {inb} :
    (own c m j q X : sProp 𝕄) ⊢ owns (c : Thread nD τ) (sqM m off inb) q (sq X) := by
  unfold owns own
  iintro ⟨%f, %hf, H⟩
  iexists f
  isplitr
  · ipureintro; exact sqM_read hoff hf
  · rw [sqM_set hoff]; iexact H

theorem owns_own {c : Dev nD} {q : PosShare TreeShare} {off : Fin 4 → ℕ} (hoff : off = ![j.val, 0, 0, 0]) {inb} {w : Vec F S2x128x512 e} :
    (owns (c : Thread nD τ) (sqM m off inb) q w : sProp 𝕄) ⊢ own c m j q (unsq w) := by
  iintro H
  unfold owns
  icases H with ⟨%f, %hf, H⟩
  iapply (sq_own c hoff hf); iexact H

end

/-- What device `c` owes once its first `n` payments are made. -/
def ow (c : Dev nD) (n : ℕ) : sProp 𝕄 := iprop(∃ W, owes (c : Thread nD τ) (O c n) W)

theorem ow_skip (c : Dev nD) {n : ℕ} (hn : n < 23) (h : tgt c n = none) : (ow c n : sProp 𝕄) = ow c (n + 1) := by
  unfold ow; rw [O_skip c hn h]

/-- What a transfer from `c` to `c'` is made with. -/
def sndRes (c c' : Dev nD) (sS sR : DmaSem sig) : sProp 𝕄 :=
  iprop(dutyTok ER (cellAt c (.dma sS)) 0 false ∗ atPos ER (cellAt c (.dma sS)) 0 ∅ 0 ∗ dutyTok ER (cellAt c' (.dma sR)) 0 false)

/-- What a wait on a transfer is made with. -/
def pend (c : Dev nD) (s : DmaSem sig) : sProp 𝕄 :=
  iprop(atPos ER (cellAt c (.dma s)) 0 ∅ 0 ∗ cred (tallyAt (cellAt c (.dma s)) () N))

section

variable (I : Ins F) (K : GSem nD τ sig → ℕ) {α : Type}

local notation "WP" => fun (c : Dev nD) => wp frame (wpE (defs₀ (F := F)) 𝒱₀ (c : Thread nD τ) none) Set.univ

theorem payload_eq (d : Dev nD) (s : SemLoc sig) (b : Bool) : (rd I).payload (cellAt d s) 0 b = pay I d b (dec s) := rfl

/-- A transfer of `src` to `dst` on `c'`. -/
theorem send {c c' : Dev nD} {src : Memref sig .tc .vmem S2x128x512 .bf16} {dst : Memref sig .tc .vmem S2x128x512 .bf16} {sS sR : DmaSem sig}
    {hsc : dst.view.ref.isScScratch = false}
    {hsrc : src.view.WordExact} {hdst : dst.view.WordExact} {hsem : DmaTarget.Typed .vmem (.dma sR) (.remote (Dev.tc c' : Thread nD τ) dst (.dma sS) hsc)}
    {k : PUnit → Prog (TpuEff nD τ sig (Elt F) Λ₀ .tc) α} {Q : α → sProp 𝕄} {q : PosShare TreeShare} {w w' : Vec F S2x128x512 .bf16} {R : sProp 𝕄} {n : ℕ}
    (hn : n < 23) (ht : tgt c n = some (c', .dma sR)) (hS : used c (.dma sS) = true) (hR : used c' (.dma sR) = true) (hN : dst.view.dmaCredit = N)
    (h1 : owns (c : Thread nD τ) src q w ⊢ pay I c false (dec (.dma sS)))
    (h2 : iprop(owns (c' : Thread nD τ) dst fullShare w ∗ R) ⊢ pay I c' false (dec (.dma sR))) :
    iprop(invs I K ∗ rch c ∗ reached ER (cellAt c' (.dma sR)) 0 ∗ ow c n ∗ owns (c : Thread nD τ) src q w ∗ owns (c' : Thread nD τ) dst fullShare w' ∗ R
        ∗ sndRes c c' sS sR)
      ⊢ iprop(((pend c sS ∗ ow c (n + 1)) -∗ WP c (k ⟨⟩) Q)
          -∗ WP c (.op (.enqueueDma src (.remote (Dev.tc c' : Thread nD τ) dst (.dma sS) hsc) (.dma sR) hsrc hdst hsem) k) Q) := by
  unfold ow
  iintro ⟨#HI, #Hr, #Hr', ⟨%W, HO⟩, Hs, Hd, HR, Ht⟩ Hk
  unfold owns
  icases Hs with ⟨%fs, %hfs, Hs⟩
  icases Hd with ⟨%fd, -, Hd⟩
  unfold sndRes
  icases Ht with ⟨Ht, Hat, Ht'⟩
  iapply (Rounds.wp_send_pointsTo_with 𝒱₀ ER (rd I) (c : Thread nD τ) none (κ₁ := K (cellAt c (.dma sS))) (κ₂ := K (cellAt c' (.dma sR)))
    (r₁ := 0) (r₂ := 0) (d₁ := false) (d₂ := false) (fs := fs) (fd := fd) (F := R) (q := q)
    (by rw [duties_dma I c sS hS]; exact Finset.mem_singleton_self _) (by rw [duties_dma I c' sR hR]; exact Finset.mem_singleton_self _)
    () () N (show dst.view.amount (.dma sR) = N from hN) rfl rfl (O c (n + 1)) (O_pay c hn ht) (W := W)
    (by
      refine .trans ?_ h1
      unfold owns; iintro H; iexists fs; isplitr; · ipureintro; exact hfs
      iexact H)
    (by
      refine .trans ?_ h2
      iintro ⟨H, HR⟩; isplitl [H]
      · unfold owns; iexists _; isplitr [H]
        rotate_left; · iexact H
        ipureintro; exact (View.read_write_univ _ _).trans hfs
      · iexact HR)) $$ [HO Hs Hd HR Ht Ht']
  · isplitr; · iapply (invs_elim I K c _ hS); iexact HI
    isplitr; · iapply (invs_elim I K c' _ hR); iexact HI
    isplitl [Hs]; · iexact Hs
    isplitl [Hd HR]
    · isplitl [Hd] <;> iassumption
    isplitl [HO]; · iexact HO
    isplitl [Ht]; · iexact Ht
    isplitr; · iapply (rch_elim c _ hS); iexact Hr
    isplitl [Ht']; · iexact Ht'
    iexact Hr'
  iintro ⟨Hc, HO⟩
  iapply Hk
  unfold pend
  isplitl [Hat Hc]
  · isplitl [Hat] <;> iassumption
  iexists W; iexact HO

/-- A wait on a transfer: what it brings, and the cell closed. -/
theorem wait_dma {c : Dev nD} {s : DmaSem sig} {src dst : Memref sig .tc .vmem S2x128x512 .bf16} {hsrc : src.view.WordExact} {hdst : dst.view.WordExact}
    {k : PUnit → Prog (TpuEff nD τ sig (Elt F) Λ₀ .tc) α} {Q : α → sProp 𝕄} {n : ℕ}
    (hn : n < 23) (hs : used c (.dma s) = true) (hl : lvF (dec (.dma s)) < lvRank n) (hN : dst.view.dmaCredit = N) :
    iprop(invs I K ∗ levAts L lv ∗ ow c n ∗ pend c s)
      ⊢ iprop(((ow c n ∗ semVal (cellAt c (.dma s)) 0 ∗ pay I c false (dec (.dma s))) -∗ WP c (k ⟨⟩) Q)
          -∗ WP c (.op (.waitDma2 s src dst hsrc hdst) k) Q) := by
  unfold ow
  iintro ⟨#HI, #Hlev, ⟨%W, HO⟩, Hp⟩ Hk
  unfold pend
  icases Hp with ⟨Hat, Hc⟩
  ihave #HIc := (invs_elim I K c _ hs) $$ HI
  iapply (Rounds.wp_wait_rest_token 𝒱₀ ER (rd I) (c : Thread nD τ) none (κ := K (cellAt c (.dma s)))
      (wpE_waitDma2_eq 𝒱₀ (c : Thread nD τ) none Set.univ) (Set.mem_univ _) () (O := O c n) (W := W) (R := 0) (m := 0) (T := ∅)
      (by rw [Nat.zero_add, hN, expect_dma I c s hs])) $$ [Hc HO Hat]
  · isplitr; · iexact HIc
    isplitl [Hc]; · rw [hN]; iexact Hc
    isplitl [HO]; · iexact HO
    isplitr; · iapply (mayWait c (.dma s) hn hl); iexact Hlev
    iexact Hat
  iintro ⟨HO, Hat, -, Hpay⟩
  imod (Rounds.cell_close ER (rd I) (Set.mem_univ (K (cellAt c (.dma s)))) (fun h => h) (R := 0 + 1) (duties_later I (cellAt c (.dma s)))) $$ [Hat] with Hz
  · isplitr; · iexact HIc
    iexact Hat
  iapply Hk
  isplitl [HO]; · iexists _; iexact HO
  isplitl [Hz]; · iexact Hz
  iapply (Entails.of_eq (rest_dma I c s hs)); iexact Hpay

/-- A signal to a neighbour's regular semaphore. -/
theorem signal {c c' : Dev nD} {s : Sem sig} (b : Bool) {kk : ℕ} (hkk : 1 = kk) {k : PUnit → Prog (TpuEff nD τ sig (Elt F) Λ₀ .tc) α} {Q : α → sProp 𝕄} {n : ℕ}
    (hn : n < 23) (ht : tgt c n = some (c', .reg s)) (hR : used c' (.reg s) = true) :
    iprop(invs I K ∗ reached ER (cellAt c' (.reg s)) 0 ∗ ow c n ∗ dutyTok ER (cellAt c' (.reg s)) 0 b ∗ pay I c' b (dec (.reg s)))
      ⊢ iprop((ow c (n + 1) -∗ WP c (k ⟨⟩) Q)
          -∗ WP c (.op (.semSignal (Dev.tc c' : Thread nD τ) s kk) k) Q) := by
  subst hkk
  unfold ow
  iintro ⟨#HI, #Hr, ⟨%W, HO⟩, Ht, Hp⟩ Hk
  ihave #HIc := (invs_elim I K c' _ hR) $$ HI
  iapply (Rounds.wp_signal 𝒱₀ ER (rd I) (c : Thread nD τ) none (dst := (c' : Thread nD τ)) (κ := K (cellAt c' (.reg s)))
      (d := b) (by rw [duties_reg]; exact Finset.mem_univ _) rfl () (O c (n + 1)) (O_pay c hn ht))
    $$ [HO Ht Hp]
  · isplitr; · iexact HIc
    isplitl [HO]; · iexact HO
    isplitl [Ht]; · iexact Ht
    isplitl [Hp]; · iapply (Entails.of_eq (payload_eq I c' (.reg s) b).symm); iexact Hp
    iexact Hr
  iintro HO
  iapply Hk
  iexists W; iexact HO

/-- A wait for both neighbours on a regular semaphore. -/
theorem wait_reg {c : Dev nD} {s : Sem sig} {kk : ℕ} (hkk : 2 = kk) {k : PUnit → Prog (TpuEff nD τ sig (Elt F) Λ₀ .tc) α} {Q : α → sProp 𝕄} {n : ℕ}
    (hl : n = 23 ∨ (n < 23 ∧ lvF (dec (.reg s)) < lvRank n)) (hs : used c (.reg s) = true) :
    iprop(invs I K ∗ levAts L lv ∗ ow c n ∗ atPos ER (cellAt c (.reg s)) 0 ∅ 0 ∗ cred (tallyAt (cellAt c (.reg s)) () 2))
      ⊢ iprop(((ow c n ∗ semVal (cellAt c (.reg s)) 0 ∗ pay I c false (dec (.reg s)) ∗ pay I c true (dec (.reg s))) -∗ WP c (k ⟨⟩) Q)
          -∗ WP c (.op (.semWait s kk) k) Q) := by
  subst hkk
  unfold ow
  iintro ⟨#HI, #Hlev, ⟨%W, HO⟩, Hat, Hc⟩ Hk
  ihave #HIc := (invs_elim I K c _ hs) $$ HI
  iapply (Rounds.wp_wait_rest_token 𝒱₀ ER (rd I) (c : Thread nD τ) none (κ := K (cellAt c (.reg s)))
      (wpE_semWait_eq 𝒱₀ (c : Thread nD τ) none Set.univ) (Set.mem_univ _) () (O := O c n) (W := W) (R := 0) (m := 0) (T := ∅)
      (by rw [expect_reg])) $$ [Hc HO Hat]
  · isplitr; · iexact HIc
    isplitl [Hc]; · iexact Hc
    isplitl [HO]; · iexact HO
    isplitr
    · rcases hl with rfl | ⟨hn, hl⟩
      · rw [O_end, MayWait_zero]; iempintro
      · iapply (mayWait c (.reg s) hn hl); iexact Hlev
    iexact Hat
  iintro ⟨HO, Hat, -, Hpay⟩
  imod (Rounds.cell_close ER (rd I) (Set.mem_univ (K (cellAt c (.reg s)))) (fun h => h) (R := 0 + 1) (duties_later I (cellAt c (.reg s)))) $$ [Hat] with Hz
  · isplitr; · iexact HIc
    iexact Hat
  iapply Hk
  isplitl [HO]; · iexists _; iexact HO
  isplitl [Hz]; · iexact Hz
  iapply (Entails.of_eq (rest_reg I c s)); iexact Hpay

end

/-! ## Whole buffers -/

section Whole

variable {c : Dev nD} {α : Type} {i : Fin (sig.nNear .tc .vmem)} {hκ : sig.names .tc .vmem i = true}
  {f : (sig.tyNear .tc .vmem i).Contents (Elt F)}

/-- A load of a whole buffer. -/
theorem ld_w {off : Fin (sig.tyNear .tc .vmem i).shape.rank → ℕ} (hz : off = fun _ => 0) {inb} {q : PosShare TreeShare}
    {hl : (Memref.whole ⟨.vmem, i, hκ⟩ : Memref sig .tc .vmem _ _).view.LoadsAt (Rect.unit (s := (sig.tyNear .tc .vmem i).shape) off (sig.tyNear .tc .vmem i).shape.size inb).toLoadRect}
    {k : (sig.tyNear .tc .vmem i).Contents (Elt F) → Prog (TpuEff nD τ sig (Elt F) Λ₀ .tc) α} {Q : α → sProp 𝕄} :
    (owns (c : Thread nD τ) (Memref.whole ⟨.vmem, i, hκ⟩ : Memref sig .tc .vmem _ _) q f : sProp 𝕄)
      ⊢ iprop((owns (c : Thread nD τ) (Memref.whole ⟨.vmem, i, hκ⟩ : Memref sig .tc .vmem _ _) q f -∗ wp frame (wpE (defs₀ (F := F)) 𝒱₀ (c : Thread nD τ) none) Set.univ (k f) Q)
      -∗ wp frame (wpE (defs₀ (F := F)) 𝒱₀ (c : Thread nD τ) none) Set.univ
        (.op (.load (Memref.whole ⟨.vmem, i, hκ⟩ : Memref sig .tc .vmem _ _) (Rect.unit (s := (sig.tyNear .tc .vmem i).shape) off (sig.tyNear .tc .vmem i).shape.size inb).toLoadRect hl) k) Q) := by
  rw [owns_whole]
  iintro H K
  iapply (wp_load 𝒱₀ (c : Thread nD τ) none Set.univ (m := (Memref.whole ⟨.vmem, i, hκ⟩ : Memref sig .tc .vmem _ _)) (hl := hl)
    (S := Finset.univ) (Finset.subset_univ _)) $$ H
  rw [Memref.readAt_unit_zero (Elt F) ⟨.vmem, i, hκ⟩ hz]
  iexact K

/-- A store of one. -/
theorem st_w {off : Fin (sig.tyNear .tc .vmem i).shape.rank → ℕ} (hz : off = fun _ => 0) {inb} {w : (sig.tyNear .tc .vmem i).Contents (Elt F)}
    {hx : ((Memref.whole ⟨.vmem, i, hκ⟩ : Memref sig .tc .vmem _ _).access (Rect.unit (s := (sig.tyNear .tc .vmem i).shape) off (sig.tyNear .tc .vmem i).shape.size inb)).Stores Finset.univ} {hm}
    {k : PUnit → Prog (TpuEff nD τ sig (Elt F) Λ₀ .tc) α} {Q : α → sProp 𝕄} :
    (owns (c : Thread nD τ) (Memref.whole ⟨.vmem, i, hκ⟩ : Memref sig .tc .vmem _ _) fullShare f : sProp 𝕄)
      ⊢ iprop((owns (c : Thread nD τ) (Memref.whole ⟨.vmem, i, hκ⟩ : Memref sig .tc .vmem _ _) fullShare w -∗ wp frame (wpE (defs₀ (F := F)) 𝒱₀ (c : Thread nD τ) none) Set.univ (k ⟨⟩) Q)
      -∗ wp frame (wpE (defs₀ (F := F)) 𝒱₀ (c : Thread nD τ) none) Set.univ
        (.op (.store (Memref.whole ⟨.vmem, i, hκ⟩ : Memref sig .tc .vmem _ _) (Rect.unit (s := (sig.tyNear .tc .vmem i).shape) off (sig.tyNear .tc .vmem i).shape.size inb) w Finset.univ hx hm) k) Q) := by
  rw [owns_whole, owns_whole]
  iintro H K
  iapply (wp_store 𝒱₀ (c : Thread nD τ) none Set.univ (m := (Memref.whole ⟨.vmem, i, hκ⟩ : Memref sig .tc .vmem _ _))
    (r := Rect.unit (s := (sig.tyNear .tc .vmem i).shape) off (sig.tyNear .tc .vmem i).shape.size inb) (w := w) (Mk := Finset.univ)
    (hx := hx) (hm := hm) (S := Finset.univ) (Finset.subset_univ _)) $$ H
  rw [Memref.write_access_unit_zero_univ (Elt F) ⟨.vmem, i, hκ⟩ hz]
  iexact K

end Whole

theorem z3 : (![0, 0, 0] : Fin 3 → ℕ) = fun _ => 0 := funext fun a => by fin_cases a <;> rfl
theorem z4 : (![0, 0, 0, 0] : Fin 4 → ℕ) = fun _ => 0 := funext fun a => by fin_cases a <;> rfl
theorem z2 : (![0, 0] : Fin 2 → ℕ) = fun _ => 0 := funext fun a => by fin_cases a <;> rfl

end Cert.RingAttn
-- ==== Proof.Phase.lean ====
module

public import proofs.«01_k».proof.Proof.Steps

@[expose] public section

/-! The parts a tick is made of: blocks and chunks sent, waited for, and the outputs computed and added up. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores by their tick -/

def bsrS (g : ℕ) : DmaSem sig := ⟨(6 + g) % 66, Nat.mod_lt _ (by decide)⟩
def brrS (g : ℕ) : DmaSem sig := ⟨(14 + g) % 66, Nat.mod_lt _ (by decide)⟩
def csrS (k : ℕ) : DmaSem sig := ⟨(22 + k) % 66, Nat.mod_lt _ (by decide)⟩
def crrS (k : ℕ) : DmaSem sig := ⟨(29 + k) % 66, Nat.mod_lt _ (by decide)⟩
def bslS (g : ℕ) : DmaSem sig := ⟨(36 + g) % 66, Nat.mod_lt _ (by decide)⟩
def brlS (g : ℕ) : DmaSem sig := ⟨(43 + g) % 66, Nat.mod_lt _ (by decide)⟩
def cslS (k : ℕ) : DmaSem sig := ⟨(50 + k) % 66, Nat.mod_lt _ (by decide)⟩
def crlS (k : ℕ) : DmaSem sig := ⟨(56 + k) % 66, Nat.mod_lt _ (by decide)⟩
abbrev fsrS : DmaSem sig := dS 62
abbrev frrS : DmaSem sig := dS 63
abbrev fslS : DmaSem sig := dS 64
abbrev frlS : DmaSem sig := dS 65

theorem dec_bsr {g : ℕ} (h : g < 8) : dec (.dma (bsrS g)) = (.bsr, g) :=
  (by decide : ∀ g : Fin 8, dec (.dma (bsrS g.val)) = (.bsr, g.val)) ⟨g, h⟩
theorem dec_brr {g : ℕ} (h : g < 8) : dec (.dma (brrS g)) = (.brr, g) :=
  (by decide : ∀ g : Fin 8, dec (.dma (brrS g.val)) = (.brr, g.val)) ⟨g, h⟩
theorem dec_csr {g : ℕ} (h : g < 7) : dec (.dma (csrS g)) = (.csr, g) :=
  (by decide : ∀ g : Fin 7, dec (.dma (csrS g.val)) = (.csr, g.val)) ⟨g, h⟩
theorem dec_crr {g : ℕ} (h : g < 7) : dec (.dma (crrS g)) = (.crr, g) :=
  (by decide : ∀ g : Fin 7, dec (.dma (crrS g.val)) = (.crr, g.val)) ⟨g, h⟩
theorem dec_bsl {g : ℕ} (h : g < 7) : dec (.dma (bslS g)) = (.bsl, g) :=
  (by decide : ∀ g : Fin 7, dec (.dma (bslS g.val)) = (.bsl, g.val)) ⟨g, h⟩
theorem dec_brl {g : ℕ} (h : g < 7) : dec (.dma (brlS g)) = (.brl, g) :=
  (by decide : ∀ g : Fin 7, dec (.dma (brlS g.val)) = (.brl, g.val)) ⟨g, h⟩
theorem dec_csl {g : ℕ} (h : g < 6) : dec (.dma (cslS g)) = (.csl, g) :=
  (by decide : ∀ g : Fin 6, dec (.dma (cslS g.val)) = (.csl, g.val)) ⟨g, h⟩
theorem dec_crl {g : ℕ} (h : g < 6) : dec (.dma (crlS g)) = (.crl, g) :=
  (by decide : ∀ g : Fin 6, dec (.dma (crlS g.val)) = (.crl, g.val)) ⟨g, h⟩

theorem tgt_brr {c : Dev nD} {g : ℕ} (h : g < 8) (hp : (c.val + g) % 2 = 0) : tgt c (2 + 2 * g) = some (rt c, .dma (brrS g)) :=
  (by decide +kernel : ∀ (c : Dev nD) (g : Fin 8), (c.val + g.val) % 2 = 0 → tgt c (2 + 2 * g.val) = some (rt c, .dma (brrS g.val))) c ⟨g, h⟩ hp
theorem tgt_brl {c : Dev nD} {g : ℕ} (h : g < 7) (hp : (c.val + g) % 2 = 0) : tgt c (3 + 2 * g) = some (lf c, .dma (brlS g)) :=
  (by decide +kernel : ∀ (c : Dev nD) (g : Fin 7), (c.val + g.val) % 2 = 0 → tgt c (3 + 2 * g.val) = some (lf c, .dma (brlS g.val))) c ⟨g, h⟩ hp
theorem tgt_crr {c : Dev nD} {k : ℕ} (h : k < 7) (hp : (c.val + k) % 2 = 1) : tgt c (6 + 2 * k) = some (rt c, .dma (crrS k)) :=
  (by decide +kernel : ∀ (c : Dev nD) (k : Fin 7), (c.val + k.val) % 2 = 1 → tgt c (6 + 2 * k.val) = some (rt c, .dma (crrS k.val))) c ⟨k, h⟩ hp
theorem tgt_crl {c : Dev nD} {k : ℕ} (h : k < 6) (hp : (c.val + k) % 2 = 1) : tgt c (7 + 2 * k) = some (lf c, .dma (crlS k)) :=
  (by decide +kernel : ∀ (c : Dev nD) (k : Fin 6), (c.val + k.val) % 2 = 1 → tgt c (7 + 2 * k.val) = some (lf c, .dma (crlS k.val))) c ⟨k, h⟩ hp

theorem par_rt (c : Dev nD) : (rt c).val % 2 = (c.val + 1) % 2 := by
  have := c_lt c; simp only [rt]; omega
theorem par_lf (c : Dev nD) : (lf c).val % 2 = (c.val + 1) % 2 := by
  have := c_lt c; simp only [lf]; omega

section

variable (I : Ins F) (K : GSem nD τ sig → ℕ) {α : Type}

local notation "WP" => fun (c : Dev nD) => wp frame (wpE (defs₀ (F := F)) 𝒱₀ (c : Thread nD τ) none) Set.univ

/-- What a device knows throughout: the invariants, the levels, and that it and its neighbours have opened their cells. -/
def env (c : Dev nD) : sProp 𝕄 :=
  iprop(invs I K ∗ levAts L lv ∗ rch c ∗ rch (rt c) ∗ rch (lf c))

instance env_persistent (c : Dev nD) : BI.Persistent (env I K c) := by unfold env; infer_instance

/-- A slot sent to the same place of another device's buffer. -/
theorem send_sq {c c' d : Dev nD} (hd : d = c') {n : ℕ} {m : Memref sig .tc .vmem (Sn n) .bf16} {j : Fin n} {sS sR : DmaSem sig}
    {off : Fin 4 → ℕ} (hoff : off = ![j.val, 0, 0, 0]) {inb}
    {hsc : (sqM m off inb).view.ref.isScScratch = false} {hsrc : (sqM m off inb).view.WordExact} {hdst : (sqM m off inb).view.WordExact}
    {hsem : DmaTarget.Typed .vmem (.dma sR) (.remote (Dev.tc d : Thread nD τ) (sqM m off inb) (.dma sS) hsc)}
    {k : PUnit → Prog (TpuEff nD τ sig (Elt F) Λ₀ .tc) α} {Q : α → sProp 𝕄} {q : PosShare TreeShare} {X : Vec F S1x2x128x512 .bf16} {R : sProp 𝕄} {p : ℕ}
    (hp : p < 23) (ht : tgt c p = some (c', .dma sR)) (hS : used c (.dma sS) = true) (hR : used c' (.dma sR) = true)
    (hN : (sqM m off inb).view.dmaCredit = N)
    (h1 : own c m j q X ⊢ pay I c false (dec (.dma sS)))
    (h2 : iprop(own c' m j fullShare X ∗ R) ⊢ pay I c' false (dec (.dma sR))) :
    iprop(invs I K ∗ rch c ∗ rch c' ∗ ow c p ∗ own c m j q X ∗ ownAny c' m j ∗ R ∗ sndRes c c' sS sR)
      ⊢ iprop(((pend c sS ∗ ow c (p + 1)) -∗ WP c (k ⟨⟩) Q)
          -∗ WP c (.op (.enqueueDma (sqM m off inb) (.remote (Dev.tc d : Thread nD τ) (sqM m off inb) (.dma sS) hsc) (.dma sR) hsrc hdst hsem) k) Q) := by
  subst hd
  unfold ownAny
  iintro ⟨#HI, #Hr, #Hr', HO, Hs, ⟨%Y, Hd⟩, HR, Ht⟩ Hk
  ihave Hs := (own_owns hoff (inb := inb)) $$ Hs
  ihave Hd := (own_owns hoff (inb := inb)) $$ Hd
  iapply (send I K hp ht hS hR hN (q := q) (w := sq X) (w' := sq Y) (R := R)
    (by refine (owns_own hoff).trans ?_; rw [unsq_sq]; exact h1)
    (by refine (sep_mono_left (owns_own hoff)).trans ?_; rw [unsq_sq]; exact h2)) $$ [HO Hs Hd HR Ht]
  · isplitr; · iexact HI
    isplitr; · iexact Hr
    isplitr; · iapply (rch_elim d _ hR); iexact Hr'
    iframe
  iexact Hk

/-- A whole buffer sent to a slot of another device's. -/
theorem send_wsq {c c' d : Dev nD} (hd : d = c') {n : ℕ} {m : Memref sig .tc .vmem (Sn n) .bf16} {j : Fin n} {sS sR : DmaSem sig}
    {src : Memref sig .tc .vmem S2x128x512 .bf16}
    {off : Fin 4 → ℕ} (hoff : off = ![j.val, 0, 0, 0]) {inb}
    {hsc : (sqM m off inb).view.ref.isScScratch = false} {hsrc : src.view.WordExact} {hdst : (sqM m off inb).view.WordExact}
    {hsem : DmaTarget.Typed .vmem (.dma sR) (.remote (Dev.tc d : Thread nD τ) (sqM m off inb) (.dma sS) hsc)}
    {k : PUnit → Prog (TpuEff nD τ sig (Elt F) Λ₀ .tc) α} {Q : α → sProp 𝕄} {w : Vec F S2x128x512 .bf16} {p : ℕ}
    (hp : p < 23) (ht : tgt c p = some (c', .dma sR)) (hS : used c (.dma sS) = true) (hR : used c' (.dma sR) = true)
    (hN : (sqM m off inb).view.dmaCredit = N)
    (h1 : owns (c : Thread nD τ) src fullShare w ⊢ pay I c false (dec (.dma sS)))
    (h2 : own c' m j fullShare (unsq w) ⊢ pay I c' false (dec (.dma sR))) :
    iprop(invs I K ∗ rch c ∗ rch c' ∗ ow c p ∗ owns (c : Thread nD τ) src fullShare w ∗ ownAny c' m j ∗ sndRes c c' sS sR)
      ⊢ iprop(((pend c sS ∗ ow c (p + 1)) -∗ WP c (k ⟨⟩) Q)
          -∗ WP c (.op (.enqueueDma src (.remote (Dev.tc d : Thread nD τ) (sqM m off inb) (.dma sS) hsc) (.dma sR) hsrc hdst hsem) k) Q) := by
  subst hd
  unfold ownAny
  iintro ⟨#HI, #Hr, #Hr', HO, Hs, ⟨%Y, Hd⟩, Ht⟩ Hk
  ihave Hd := (own_owns hoff (inb := inb)) $$ Hd
  iapply (send I K hp ht hS hR hN (q := fullShare) (w := w) (w' := sq Y) (R := iprop(emp)) h1
    (by refine (sep_mono_left (owns_own hoff)).trans ?_; exact (sep_emp (PROP := sProp 𝕄)).1.trans h2)) $$ [HO Hs Hd Ht]
  · isplitr; · iexact HI
    isplitr; · iexact Hr
    isplitr; · iapply (rch_elim d _ hR); iexact Hr'
    iframe
  iexact Hk

/-! ## Blocks -/

theorem credit_sq {n : ℕ} (m : Memref sig .tc .vmem (Sn n) .bf16) (off inb) : (sqM m off inb).view.dmaCredit = N := rfl

/-- The block of tick `g` goes right. -/
theorem send_bR {c d : Dev nD} {g : ℕ} (hg : g < 8) (hpar : (c.val + g) % 2 = 0) (hd : d = rt c)
    {off : Fin 4 → ℕ} (hoff : off = at4 (slotR c g) 0) {inb} {hsc hsrc hdst hsem}
    {k : PUnit → Prog (TpuEff nD τ sig (Elt F) Λ₀ .tc) α} {Q : α → sProp 𝕄} :
    iprop(env I K c ∗ ow c (2 + 2 * g) ∗ own c xgM (slotR c g) qR (xb I (dm c g)) ∗ ownAny (rt c) xgM (slotR c g) ∗ riderR (dm c g)
        ∗ sndRes c (rt c) (bsrS g) (brrS g))
      ⊢ iprop(((ow c (3 + 2 * g) ∗ pend c (bsrS g)) -∗ WP c (k ⟨⟩) Q)
          -∗ WP c (.op (.enqueueDma (sqM (n := 8) xgM off inb) (.remote (Dev.tc d : Thread nD τ) (sqM (n := 8) xgM off inb) (.dma (bsrS g)) hsc)
            (.dma (brrS g)) hsrc hdst hsem) k) Q) := by
  unfold env
  iintro ⟨⟨#HI, #Hlev, #Hr, #HrR, #HrL⟩, HO, Hx, Hd, HR, Ht⟩ Hk
  iapply (send_sq I K hd (j := slotR c g) hoff (X := xb I (dm c g)) (R := riderR (dm c g)) (q := qR) (p := 2 + 2 * g) (by omega) (tgt_brr hg hpar)
    (by unfold used; rw [dec_bsr hg]; simp [usedF, hpar])
    (by unfold used; rw [dec_brr hg]; have := par_rt c; simp [usedF]; omega)
    (credit_sq _ _ _)
    (by rw [dec_bsr hg]; exact BI.Entails.refl _)
    (by
      rw [dec_brr hg]
      show _ ⊢ iprop(own (rt c) xgM (slotR (rt c) (g + 1)) fullShare (xb I (dm (rt c) (g + 1))) ∗ riderR (dm (rt c) (g + 1)))
      rw [slotR_rt c (by omega), dm_rt c (by omega)])) $$ [HO Hx Hd HR Ht]
  · iframe # ∗
  iintro ⟨Hp, HO⟩
  iapply Hk
  rw [show 3 + 2 * g = 2 + 2 * g + 1 by omega]
  iframe

/-- The block of tick `g` goes left. -/
theorem send_bL {c d : Dev nD} {g : ℕ} (hg : g < 7) (hpar : (c.val + g) % 2 = 0) (hd : d = lf c)
    {off : Fin 4 → ℕ} (hoff : off = at4 (slotL c g) 0) {inb} {hsc hsrc hdst hsem}
    {k : PUnit → Prog (TpuEff nD τ sig (Elt F) Λ₀ .tc) α} {Q : α → sProp 𝕄} :
    iprop(env I K c ∗ ow c (3 + 2 * g) ∗ own c xgM (slotL c g) qL (xb I (dp c g)) ∗ ownAny (lf c) xgM (slotL c g) ∗ riderL (dp c g)
        ∗ sndRes c (lf c) (bslS g) (brlS g))
      ⊢ iprop(((ow c (4 + 2 * g) ∗ pend c (bslS g)) -∗ WP c (k ⟨⟩) Q)
          -∗ WP c (.op (.enqueueDma (sqM (n := 8) xgM off inb) (.remote (Dev.tc d : Thread nD τ) (sqM (n := 8) xgM off inb) (.dma (bslS g)) hsc)
            (.dma (brlS g)) hsrc hdst hsem) k) Q) := by
  unfold env
  iintro ⟨⟨#HI, #Hlev, #Hr, #HrR, #HrL⟩, HO, Hx, Hd, HR, Ht⟩ Hk
  iapply (send_sq I K hd (j := slotL c g) hoff (X := xb I (dp c g)) (R := riderL (dp c g)) (q := qL) (p := 3 + 2 * g) (by omega) (tgt_brl hg hpar)
    (by unfold used; rw [dec_bsl hg]; simp [usedF, hpar])
    (by unfold used; rw [dec_brl hg]; have := par_lf c; simp [usedF]; omega)
    (credit_sq _ _ _)
    (by rw [dec_bsl hg]; exact BI.Entails.refl _)
    (by
      rw [dec_brl hg]
      show _ ⊢ iprop(own (lf c) xgM (slotL (lf c) (g + 1)) fullShare (xb I (dp (lf c) (g + 1))) ∗ riderL (dp (lf c) (g + 1)))
      rw [slotL_lf c (by omega), dp_lf c (by omega)])) $$ [HO Hx Hd HR Ht]
  · iframe # ∗
  iintro ⟨Hp, HO⟩
  iapply Hk
  rw [show 4 + 2 * g = 3 + 2 * g + 1 by omega]
  iframe

/-- A wait on a transfer by its purpose. -/
theorem wait_f {c : Dev nD} {s : DmaSem sig} {f : Fam × ℕ} {p : ℕ} (hf : dec (.dma s) = f) (hu : usedF c f = true) (hp : p < 23) (hl : lvF f < lvRank p)
    {src dst : Memref sig .tc .vmem S2x128x512 .bf16} {hsrc : src.view.WordExact} {hdst : dst.view.WordExact} (hN : dst.view.dmaCredit = N)
    {k : PUnit → Prog (TpuEff nD τ sig (Elt F) Λ₀ .tc) α} {Q : α → sProp 𝕄} :
    iprop(env I K c ∗ ow c p ∗ pend c s)
      ⊢ iprop(((ow c p ∗ semVal (cellAt c (.dma s)) 0 ∗ pay I c false f) -∗ WP c (k ⟨⟩) Q)
          -∗ WP c (.op (.waitDma2 s src dst hsrc hdst) k) Q) := by
  subst hf
  unfold env
  iintro ⟨⟨#HI, #Hlev, #Hr, #HrR, #HrL⟩, HO, Hp⟩ Hk
  iapply (wait_dma I K hp hu hl hN) $$ [HO Hp]
  · iframe # ∗
  iexact Hk

/-! ## Chunks -/

/-- A partial output goes right to be added to. -/
theorem send_cR {c d : Dev nD} {k : ℕ} (hk : k < 7) (hpar : (c.val + k) % 2 = 1) (hd : d = rt c) {A : Vec F S1x2x128x512 .f32}
    (hA : A = accR I (k + 1) c)
    {off off' : Fin 4 → ℕ} {o3 o3' : Fin 3 → ℕ} (hoff : off = at4 (slotR c (k + 1)) 0) (hoff' : off' = ![(r4 k).val, 0, 0, 0])
    (ho3 : o3 = fun _ => 0) (ho3' : o3' = fun _ => 0)
    {inb inb' inb3 inb3' hl hl' hx hm hsc hsrc hdst hsem} {f : Vec F S1x2x128x512 .f32 → Vec F S2x128x512 .bf16} (hf : f A = msg A)
    {kk : PUnit → Prog (TpuEff nD τ sig (Elt F) Λ₀ .tc) α} {Q : α → sProp 𝕄} :
    iprop(env I K c ∗ ow c (6 + 2 * k) ∗ own c yaM (slotR c (k + 1)) fullShare A ∗ wAny c ysrM ∗ ownAny (rt c) rrM (r4 k)
        ∗ sndRes c (rt c) (csrS k) (crrS k))
      ⊢ iprop(((ow c (7 + 2 * k) ∗ own c yaM (slotR c (k + 1)) fullShare A ∗ pend c (csrS k)) -∗ WP c (kk ⟨⟩) Q)
          -∗ WP c (.op (.load yaM (Rect.unit (s := Sn 8) off S1x2x128x512.size inb).toLoadRect hl) fun v =>
            .op (.load ysrM (Rect.unit (s := S2x128x512) o3 S2x128x512.size inb3).toLoadRect hl') fun _ =>
            .op (.store ysrM (Rect.unit (s := S2x128x512) o3' S2x128x512.size inb3') (f v) Finset.univ hx hm) fun _ =>
            .op (.enqueueDma ysrM (.remote (Dev.tc d : Thread nD τ) (sqM (n := 4) rrM off' inb') (.dma (csrS k)) hsc)
            (.dma (crrS k)) hsrc hdst hsem) kk) Q) := by
  unfold env wAny
  iintro ⟨⟨#HI, #Hlev, #Hr, #HrR, #HrL⟩, HO, Hy, ⟨%w, Hw⟩, Hd, Ht⟩ Hk
  iapply (ld_slot (m := yaM) c hoff) $$ Hy
  iintro Hy
  iapply (ld_w (i := cc0_scratch4.idx) (hκ := rfl) (off := o3) ho3) $$ Hw
  iintro Hw
  iapply (st_w (i := cc0_scratch4.idx) (hκ := rfl) (off := o3') ho3') $$ Hw
  iintro Hw
  iapply (send_wsq I K hd (j := r4 k) hoff' (w := f A) (p := 6 + 2 * k) (by omega) (tgt_crr hk hpar)
    (by unfold used; rw [dec_csr hk]; simp [usedF, hpar])
    (by unfold used; rw [dec_crr hk]; have := par_rt c; simp [usedF]; omega)
    (credit_sq _ _ _)
    (by rw [dec_csr hk]; show _ ⊢ wAny c ysrM; unfold wAny; iintro H; iexists _; iexact H)
    (by
      rw [dec_crr hk]
      show _ ⊢ own (rt c) rrM (r4 k) fullShare (unsq (msg (accR I (k + 1) (lf (rt c)))))
      rw [lf_rt, ← hA, hf])) $$ [HO Hw Hd Ht]
  · iframe # ∗
  iintro ⟨Hp, HO⟩
  iapply Hk
  rw [show 7 + 2 * k = 6 + 2 * k + 1 by omega]
  iframe

/-- A partial output goes left to be added to. -/
theorem send_cL {c d : Dev nD} {k : ℕ} (hk : k < 6) (hpar : (c.val + k) % 2 = 1) (hd : d = lf c) {A : Vec F S1x2x128x512 .f32}
    (hA : A = accL I (k + 1) c)
    {off off' : Fin 4 → ℕ} {o3 o3' : Fin 3 → ℕ} (hoff : off = at4 (slotL c (k + 1)) 0) (hoff' : off' = ![(r3 k).val, 0, 0, 0])
    (ho3 : o3 = fun _ => 0) (ho3' : o3' = fun _ => 0)
    {inb inb' inb3 inb3' hl hl' hx hm hsc hsrc hdst hsem} {f : Vec F S1x2x128x512 .f32 → Vec F S2x128x512 .bf16} (hf : f A = msg A)
    {kk : PUnit → Prog (TpuEff nD τ sig (Elt F) Λ₀ .tc) α} {Q : α → sProp 𝕄} :
    iprop(env I K c ∗ ow c (7 + 2 * k) ∗ own c yaM (slotL c (k + 1)) fullShare A ∗ wAny c yslM ∗ ownAny (lf c) rlM (r3 k)
        ∗ sndRes c (lf c) (cslS k) (crlS k))
      ⊢ iprop(((ow c (8 + 2 * k) ∗ own c yaM (slotL c (k + 1)) fullShare A ∗ pend c (cslS k)) -∗ WP c (kk ⟨⟩) Q)
          -∗ WP c (.op (.load yaM (Rect.unit (s := Sn 8) off S1x2x128x512.size inb).toLoadRect hl) fun v =>
            .op (.load yslM (Rect.unit (s := S2x128x512) o3 S2x128x512.size inb3).toLoadRect hl') fun _ =>
            .op (.store yslM (Rect.unit (s := S2x128x512) o3' S2x128x512.size inb3') (f v) Finset.univ hx hm) fun _ =>
            .op (.enqueueDma yslM (.remote (Dev.tc d : Thread nD τ) (sqM (n := 3) rlM off' inb') (.dma (cslS k)) hsc)
            (.dma (crlS k)) hsrc hdst hsem) kk) Q) := by
  unfold env wAny
  iintro ⟨⟨#HI, #Hlev, #Hr, #HrR, #HrL⟩, HO, Hy, ⟨%w, Hw⟩, Hd, Ht⟩ Hk
  iapply (ld_slot (m := yaM) c hoff) $$ Hy
  iintro Hy
  iapply (ld_w (i := cc0_scratch5.idx) (hκ := rfl) (off := o3) ho3) $$ Hw
  iintro Hw
  iapply (st_w (i := cc0_scratch5.idx) (hκ := rfl) (off := o3') ho3') $$ Hw
  iintro Hw
  iapply (send_wsq I K hd (j := r3 k) hoff' (w := f A) (p := 7 + 2 * k) (by omega) (tgt_crl hk hpar)
    (by unfold used; rw [dec_csl hk]; simp [usedF, hpar])
    (by unfold used; rw [dec_crl hk]; have := par_lf c; simp [usedF]; omega)
    (credit_sq _ _ _)
    (by rw [dec_csl hk]; show _ ⊢ wAny c yslM; unfold wAny; iintro H; iexists _; iexact H)
    (by
      rw [dec_crl hk]
      show _ ⊢ own (lf c) rlM (r3 k) fullShare (unsq (msg (accL I (k + 1) (rt (lf c)))))
      rw [rt_lf, ← hA, hf])) $$ [HO Hw Hd Ht]
  · iframe # ∗
  iintro ⟨Hp, HO⟩
  iapply Hk
  rw [show 8 + 2 * k = 7 + 2 * k + 1 by omega]
  iframe

/-- A partial output that comes is added to the device's own, in slot `j`. -/
theorem add_in {c : Dev nD} {s : DmaSem sig} {fm : Fam × ℕ} {p : ℕ} (hfm : dec (.dma s) = fm) (hu : usedF c fm = true) (hp : p < 23) (hlv : lvF fm < lvRank p)
    {n : ℕ} {m : Memref sig .tc .vmem (Sn n) .bf16} {i : Fin n} {j : Fin 8} {P : Vec F S1x2x128x512 .f32} {M : Vec F S1x2x128x512 .bf16}
    (hpay : pay I c false fm = own c m i fullShare M)
    {src dst : Memref sig .tc .vmem S2x128x512 .bf16} {hsrc : src.view.WordExact} {hdst : dst.view.WordExact} (hN : dst.view.dmaCredit = N)
    {off off' : Fin 4 → ℕ} (hoff : off = at4 j 0) (hoff' : off' = ![i.val, 0, 0, 0])
    {inb inb' hl hl' hl'' hx hm} {f : Vec F S1x2x128x512 .f32 → Vec F S1x2x128x512 .bf16 → Vec F S1x2x128x512 .f32}
    {kk : PUnit → Prog (TpuEff nD τ sig (Elt F) Λ₀ .tc) α} {Q : α → sProp 𝕄} :
    iprop(env I K c ∗ ow c p ∗ own c yaM j fullShare P ∗ pend c s)
      ⊢ iprop(((ow c p ∗ semVal (cellAt c (.dma s)) 0 ∗ own c m i fullShare M ∗ own c yaM j fullShare (f P M)) -∗ WP c (kk ⟨⟩) Q)
          -∗ WP c (.op (.waitDma2 s src dst hsrc hdst) fun _ =>
            .op (.load yaM (Rect.unit (s := Sn 8) off S1x2x128x512.size inb).toLoadRect hl) fun v =>
            .op (.load m (Rect.unit (s := Sn n) off' S1x2x128x512.size inb').toLoadRect hl') fun v' =>
            .op (.load yaM (Rect.unit (s := Sn 8) off S1x2x128x512.size inb).toLoadRect hl'') fun _ =>
            .op (.store yaM (Rect.unit (s := Sn 8) off S1x2x128x512.size inb) (f v v') Finset.univ hx hm) kk) Q) := by
  iintro ⟨#HE, HO, Hy, Hp⟩ Hk
  iapply (wait_f I K hfm hu hp hlv hN) $$ [HO Hp]
  · iframe # ∗
  iintro ⟨HO, Hz, Hm⟩
  ihave Hm := (Entails.of_eq hpay) $$ Hm
  iapply (ld_slot (m := yaM) c hoff) $$ Hy
  iintro Hy
  iapply (ld_slot (m := m) c hoff') $$ Hm
  iintro Hm
  iapply (ld_slot (m := yaM) c hoff) $$ Hy
  iintro Hy
  iapply (st_slot (m := yaM) c hoff) $$ Hy
  iintro Hy
  iapply Hk
  iframe

/-! ## Outputs -/

/-- One slot's output computed. -/
theorem comp1 {c : Dev nD} {j : Fin 8} {q : PosShare TreeShare} {X : Vec F S1x2x128x512 .bf16}
    {o1 o2 o3 o4 : Fin 4 → ℕ} (h1 : o1 = at4 j 0) (h2 : o2 = at4 j 0) (h3 : o3 = at4 j 1) (h4 : o4 = at4 j 1)
    {i1 i2 i3 i4 l1 l2 l3 l4 x2 x4 m2 m4}
    {f0 f1 : Vec F S1x1x128x512 .bf16 → Vec F S1x1x128x512 .f32}
    {kk : PUnit → Prog (TpuEff nD τ sig (Elt F) Λ₀ .tc) α} {Q : α → sProp 𝕄} :
    iprop(own c xgM j q X ∗ ownAny c yaM j)
      ⊢ iprop(((own c xgM j q X ∗ own c yaM j fullShare (joinH (f0 (half 0 X)) (f1 (half 1 X)))) -∗ WP c (kk ⟨⟩) Q)
          -∗ WP c (.op (.load xgM (Rect.unit (s := Sn 8) o1 S1x1x128x512.size i1).toLoadRect l1) fun x0 =>
            .op (.load yaM (Rect.unit (s := Sn 8) o2 S1x1x128x512.size i2).toLoadRect l2) fun _ =>
            .op (.store yaM (Rect.unit (s := Sn 8) o2 S1x1x128x512.size i2) (f0 x0) Finset.univ x2 m2) fun _ =>
            .op (.load xgM (Rect.unit (s := Sn 8) o3 S1x1x128x512.size i3).toLoadRect l3) fun x1 =>
            .op (.load yaM (Rect.unit (s := Sn 8) o4 S1x1x128x512.size i4).toLoadRect l4) fun _ =>
            .op (.store yaM (Rect.unit (s := Sn 8) o4 S1x1x128x512.size i4) (f1 x1) Finset.univ x4 m4) kk) Q) := by
  unfold ownAny
  iintro ⟨Hx, ⟨%Y, Hy⟩⟩ Hk
  iapply (ld_half (m := xgM) c 0 h1) $$ Hx
  iintro Hx
  iapply (ld_half (m := yaM) c 0 h2) $$ Hy
  iintro Hy
  iapply (st_half (m := yaM) c 0 h2) $$ Hy
  iintro Hy
  iapply (ld_half (m := xgM) c 1 h3) $$ Hx
  iintro Hx
  iapply (ld_half (m := yaM) c 1 h4) $$ Hy
  iintro Hy
  iapply (st_half (m := yaM) c 1 h4) $$ Hy
  iintro Hy
  iapply Hk
  iframe Hx
  simp only [if_true, if_false, show ¬((1 : Fin 2) = 0) by decide, half_joinH0, half_joinH1]
  iexact Hy

/-- Two slots' outputs computed together. -/
theorem comp2 {c : Dev nD} {j j' : Fin 8} {q q' : PosShare TreeShare} {X Y : Vec F S1x2x128x512 .bf16}
    {o1 o2 o3 o4 o5 o6 o7 o8 : Fin 4 → ℕ} (h1 : o1 = at4 j 0) (h2 : o2 = at4 j' 0) (h3 : o3 = at4 j 0) (h4 : o4 = at4 j' 0)
    (h5 : o5 = at4 j 1) (h6 : o6 = at4 j' 1) (h7 : o7 = at4 j 1) (h8 : o8 = at4 j' 1)
    {i1 i2 i3 i4 i5 i6 i7 i8 l1 l2 l3 l4 l5 l6 l7 l8 x3 x4 x7 x8 m3 m4 m7 m8}
    {f0 f0' f1 f1' : Vec F S1x1x128x512 .bf16 → Vec F S1x1x128x512 .bf16 → Vec F S1x1x128x512 .f32}
    {kk : PUnit → Prog (TpuEff nD τ sig (Elt F) Λ₀ .tc) α} {Q : α → sProp 𝕄} :
    iprop(own c xgM j q X ∗ own c xgM j' q' Y ∗ ownAny c yaM j ∗ ownAny c yaM j')
      ⊢ iprop(((own c xgM j q X ∗ own c xgM j' q' Y ∗ own c yaM j fullShare (joinH (f0 (half 0 X) (half 0 Y)) (f1 (half 1 X) (half 1 Y)))
          ∗ own c yaM j' fullShare (joinH (f0' (half 0 X) (half 0 Y)) (f1' (half 1 X) (half 1 Y)))) -∗ WP c (kk ⟨⟩) Q)
          -∗ WP c (.op (.load xgM (Rect.unit (s := Sn 8) o1 S1x1x128x512.size i1).toLoadRect l1) fun x0 =>
            .op (.load xgM (Rect.unit (s := Sn 8) o2 S1x1x128x512.size i2).toLoadRect l2) fun y0 =>
            .op (.load yaM (Rect.unit (s := Sn 8) o3 S1x1x128x512.size i3).toLoadRect l3) fun _ =>
            .op (.store yaM (Rect.unit (s := Sn 8) o3 S1x1x128x512.size i3) (f0 x0 y0) Finset.univ x3 m3) fun _ =>
            .op (.load yaM (Rect.unit (s := Sn 8) o4 S1x1x128x512.size i4).toLoadRect l4) fun _ =>
            .op (.store yaM (Rect.unit (s := Sn 8) o4 S1x1x128x512.size i4) (f0' x0 y0) Finset.univ x4 m4) fun _ =>
            .op (.load xgM (Rect.unit (s := Sn 8) o5 S1x1x128x512.size i5).toLoadRect l5) fun x1 =>
            .op (.load xgM (Rect.unit (s := Sn 8) o6 S1x1x128x512.size i6).toLoadRect l6) fun y1 =>
            .op (.load yaM (Rect.unit (s := Sn 8) o7 S1x1x128x512.size i7).toLoadRect l7) fun _ =>
            .op (.store yaM (Rect.unit (s := Sn 8) o7 S1x1x128x512.size i7) (f1 x1 y1) Finset.univ x7 m7) fun _ =>
            .op (.load yaM (Rect.unit (s := Sn 8) o8 S1x1x128x512.size i8).toLoadRect l8) fun _ =>
            .op (.store yaM (Rect.unit (s := Sn 8) o8 S1x1x128x512.size i8) (f1' x1 y1) Finset.univ x8 m8) kk) Q) := by
  unfold ownAny
  iintro ⟨Hx, Hx', ⟨%Z, Hy⟩, ⟨%Z', Hy'⟩⟩ Hk
  iapply (ld_half (m := xgM) c 0 h1) $$ Hx
  iintro Hx
  iapply (ld_half (m := xgM) c 0 h2) $$ Hx'
  iintro Hx'
  iapply (ld_half (m := yaM) c 0 h3) $$ Hy
  iintro Hy
  iapply (st_half (m := yaM) c 0 h3) $$ Hy
  iintro Hy
  iapply (ld_half (m := yaM) c 0 h4) $$ Hy'
  iintro Hy'
  iapply (st_half (m := yaM) c 0 h4) $$ Hy'
  iintro Hy'
  iapply (ld_half (m := xgM) c 1 h5) $$ Hx
  iintro Hx
  iapply (ld_half (m := xgM) c 1 h6) $$ Hx'
  iintro Hx'
  iapply (ld_half (m := yaM) c 1 h7) $$ Hy
  iintro Hy
  iapply (st_half (m := yaM) c 1 h7) $$ Hy
  iintro Hy
  iapply (ld_half (m := yaM) c 1 h8) $$ Hy'
  iintro Hy'
  iapply (st_half (m := yaM) c 1 h8) $$ Hy'
  iintro Hy'
  iapply Hk
  iframe Hx Hx'
  isplitl [Hy]
  · simp only [if_true, if_false, show ¬((1 : Fin 2) = 0) by decide, half_joinH0, half_joinH1]
    iexact Hy
  · simp only [if_true, if_false, show ¬((1 : Fin 2) = 0) by decide, half_joinH0, half_joinH1]
    iexact Hy'

end

end Cert.RingAttn
-- ==== Proof.Tick.lean ====
module

public import proofs.«01_k».proof.Proof.Phase

@[expose] public section

/-! The steps of one tick, put together. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores by their tick -/

section

variable (I : Ins F) (K : GSem nD τ sig → ℕ) {α : Type}

local notation "WP" => fun (c : Dev nD) => wp frame (wpE (defs₀ (F := F)) 𝒱₀ (c : Thread nD τ) none) Set.univ

/-- A transfer's semaphore, waited for. -/
def zero (c : Dev nD) (s : DmaSem sig) : sProp 𝕄 := semVal (cellAt c (.dma s)) 0

/-- What came from the left for tick `g`, and what came from the right. -/
def inR (c : Dev nD) (g : ℕ) : sProp 𝕄 := iprop(own c xgM (slotR c g) fullShare (xb I (dm c g)) ∗ riderR (dm c g))
def inL (c : Dev nD) (g : ℕ) : sProp 𝕄 := iprop(own c xgM (slotL c g) fullShare (xb I (dp c g)) ∗ riderL (dp c g))

/-- What the blocks of tick `g` are sent with. -/
def toA (c : Dev nD) (g : ℕ) : sProp 𝕄 :=
  iprop(ownAny (rt c) xgM (slotR c g) ∗ ownAny (lf c) xgM (slotL c g) ∗ sndRes c (rt c) (bsrS g) (brrS g) ∗ sndRes c (lf c) (bslS g) (brlS g))
/-- What the chunks are sent with. -/
def toB (c : Dev nD) (k : ℕ) : sProp 𝕄 :=
  iprop(ownAny (rt c) rrM (r4 k) ∗ ownAny (lf c) rlM (r3 k) ∗ sndRes c (rt c) (csrS k) (crrS k) ∗ sndRes c (lf c) (cslS k) (crlS k))

theorem lt_bs {g : ℕ} (h : g < 8) : lvF (.bsr, g) < lvRank (4 + 2 * g) := by
  show 0 < _
  unfold lvRank; split <;> (try split) <;> (try split) <;> omega

/-- The blocks of tick `g` go both ways. -/
theorem blk_send {c d d' : Dev nD} {g : ℕ} (hg : g < 7) (hpar : (c.val + g) % 2 = 0) (hd : d = rt c) (hd' : d' = lf c)
    {off off' : Fin 4 → ℕ} (hoff : off = at4 (slotR c g) 0) (hoff' : off' = at4 (slotL c g) 0) {inb inb' hsc hsrc hdst hsem hsc' hsrc' hdst' hsem'}
    {k : PUnit → Prog (TpuEff nD τ sig (Elt F) Λ₀ .tc) α} {Q : α → sProp 𝕄} :
    iprop(env I K c ∗ ow c (2 + 2 * g) ∗ inR I c g ∗ inL I c g ∗ toA c g)
      ⊢ iprop(((ow c (4 + 2 * g) ∗ own c xgM (slotR c g) fullShare.left (xb I (dm c g)) ∗ own c xgM (slotR c g) qL (xb I (dm c g))
            ∗ own c xgM (slotL c g) fullShare.left (xb I (dp c g)) ∗ own c xgM (slotL c g) qR (xb I (dp c g))
            ∗ pend c (bsrS g) ∗ pend c (bslS g)) -∗ WP c (k ⟨⟩) Q)
          -∗ WP c (.op (.enqueueDma (sqM (n := 8) xgM off inb) (.remote (Dev.tc d : Thread nD τ) (sqM (n := 8) xgM off inb) (.dma (bsrS g)) hsc)
            (.dma (brrS g)) hsrc hdst hsem) fun _ =>
            .op (.enqueueDma (sqM (n := 8) xgM off' inb') (.remote (Dev.tc d' : Thread nD τ) (sqM (n := 8) xgM off' inb') (.dma (bslS g)) hsc')
            (.dma (brlS g)) hsrc' hdst' hsem') k) Q) := by
  unfold inR inL toA
  iintro ⟨#HE, HO, ⟨Hx, HR⟩, ⟨Hx', HL⟩, Hd, Hd', Ht, Ht'⟩ Hk
  ihave Hx := own_split $$ Hx
  icases Hx with ⟨Hx0, Hx1, Hx2⟩
  ihave Hx' := own_split $$ Hx'
  icases Hx' with ⟨Hy0, Hy1, Hy2⟩
  iapply (send_bR I K (g := g) (by omega) hpar hd hoff) $$ [HO Hx1 Hd HR Ht]
  · iframe # ∗
  iintro ⟨HO, Hp⟩
  iapply (send_bL I K (g := g) hg hpar hd' hoff') $$ [HO Hy2 Hd' HL Ht']
  · iframe # ∗
  iintro ⟨HO, Hp'⟩
  iapply Hk
  iframe

/-- The two blocks sent are back. -/
theorem blk_wait {c : Dev nD} {g : ℕ} (hg : g < 7) (hpar : (c.val + g) % 2 = 0)
    {src dst src' dst' : Memref sig .tc .vmem S2x128x512 .bf16} {hsrc : src.view.WordExact} {hdst : dst.view.WordExact} (hN : dst.view.dmaCredit = N)
    {hsrc' : src'.view.WordExact} {hdst' : dst'.view.WordExact} (hN' : dst'.view.dmaCredit = N)
    {k : PUnit → Prog (TpuEff nD τ sig (Elt F) Λ₀ .tc) α} {Q : α → sProp 𝕄} :
    iprop(env I K c ∗ ow c (4 + 2 * g) ∗ own c xgM (slotR c g) fullShare.left (xb I (dm c g)) ∗ own c xgM (slotR c g) qL (xb I (dm c g))
            ∗ own c xgM (slotL c g) fullShare.left (xb I (dp c g)) ∗ own c xgM (slotL c g) qR (xb I (dp c g))
            ∗ pend c (bsrS g) ∗ pend c (bslS g))
      ⊢ iprop(((ow c (4 + 2 * g) ∗ ownAny c xgM (slotR c g) ∗ ownAny c xgM (slotL c g) ∗ zero c (bsrS g) ∗ zero c (bslS g)) -∗ WP c (k ⟨⟩) Q)
          -∗ WP c (.op (.waitDma2 (bsrS g) src dst hsrc hdst) fun _ => .op (.waitDma2 (bslS g) src' dst' hsrc' hdst') k) Q) := by
  have hlt := lt_bs (g := g) (by omega)
  iintro ⟨#HE, HO, Hx0, Hx2, Hy0, Hy1, Hp, Hp'⟩ Hk
  iapply (wait_f I K (dec_bsr (g := g) (by omega)) (by simp [usedF, hpar]) (by omega) hlt hN) $$ [HO Hp]
  · iframe # ∗
  iintro ⟨HO, Hz, Hx1⟩
  iapply (wait_f I K (dec_bsl hg) (by simp [usedF, hpar]) (by omega) hlt hN') $$ [HO Hp']
  · iframe # ∗
  iintro ⟨HO, Hz', Hy2⟩
  iapply Hk
  unfold zero pay
  iframe HO Hz Hz'
  isplitl [Hx0 Hx1 Hx2]
  · iapply own_any; iapply own_rejoin; iframe
  · iapply own_any; iapply own_rejoin; iframe

/-- The blocks of the next tick have come. -/
theorem blk_recv {c : Dev nD} {g : ℕ} (hg : g < 7) (hpar : (c.val + g) % 2 = 1)
    {src dst src' dst' : Memref sig .tc .vmem S2x128x512 .bf16} {hsrc : src.view.WordExact} {hdst : dst.view.WordExact} (hN : dst.view.dmaCredit = N)
    {hsrc' : src'.view.WordExact} {hdst' : dst'.view.WordExact} (hN' : dst'.view.dmaCredit = N)
    {k : PUnit → Prog (TpuEff nD τ sig (Elt F) Λ₀ .tc) α} {Q : α → sProp 𝕄} :
    iprop(env I K c ∗ ow c (4 + 2 * g) ∗ pend c (brrS g) ∗ pend c (brlS g))
      ⊢ iprop(((ow c (4 + 2 * g) ∗ inR I c (g + 1) ∗ inL I c (g + 1) ∗ zero c (brrS g) ∗ zero c (brlS g)) -∗ WP c (k ⟨⟩) Q)
          -∗ WP c (.op (.waitDma2 (brrS g) src dst hsrc hdst) fun _ => .op (.waitDma2 (brlS g) src' dst' hsrc' hdst') k) Q) := by
  have hlt : lvF (.brr, g) < lvRank (4 + 2 * g) := by
    show g + 2 < _
    unfold lvRank; split <;> (try split) <;> (try split) <;> omega
  iintro ⟨#HE, HO, Hp, Hp'⟩ Hk
  iapply (wait_f I K (dec_brr (g := g) (by omega)) (by simp [usedF, hpar]) (by omega) hlt hN) $$ [HO Hp]
  · iframe # ∗
  iintro ⟨HO, Hz, Hx1⟩
  iapply (wait_f I K (dec_brl hg) (by simp [usedF, hpar]) (by omega) hlt hN') $$ [HO Hp']
  · iframe # ∗
  iintro ⟨HO, Hz', Hy2⟩
  iapply Hk
  unfold zero pay inR inL
  iframe

/-- The two chunks sent are back. -/
theorem chk_wait {c : Dev nD} {k : ℕ} (hk : k < 6) (hpar : (c.val + k) % 2 = 1)
    {src dst src' dst' : Memref sig .tc .vmem S2x128x512 .bf16} {hsrc : src.view.WordExact} {hdst : dst.view.WordExact} (hN : dst.view.dmaCredit = N)
    {hsrc' : src'.view.WordExact} {hdst' : dst'.view.WordExact} (hN' : dst'.view.dmaCredit = N)
    {kk : PUnit → Prog (TpuEff nD τ sig (Elt F) Λ₀ .tc) α} {Q : α → sProp 𝕄} :
    iprop(env I K c ∗ ow c (8 + 2 * k) ∗ pend c (csrS k) ∗ pend c (cslS k))
      ⊢ iprop(((ow c (8 + 2 * k) ∗ wAny c ysrM ∗ wAny c yslM ∗ zero c (csrS k) ∗ zero c (cslS k)) -∗ WP c (kk ⟨⟩) Q)
          -∗ WP c (.op (.waitDma2 (csrS k) src dst hsrc hdst) fun _ => .op (.waitDma2 (cslS k) src' dst' hsrc' hdst') kk) Q) := by
  have hlt : lvF (.csr, k) < lvRank (8 + 2 * k) := by
    show 0 < _
    unfold lvRank; split <;> (try split) <;> (try split) <;> omega
  iintro ⟨#HE, HO, Hp, Hp'⟩ Hk
  iapply (wait_f I K (dec_csr (g := k) (by omega)) (by simp [usedF, hpar]) (by omega) hlt hN) $$ [HO Hp]
  · iframe # ∗
  iintro ⟨HO, Hz, Hx1⟩
  iapply (wait_f I K (dec_csl hk) (by simp [usedF, hpar]) (by omega) hlt hN') $$ [HO Hp']
  · iframe # ∗
  iintro ⟨HO, Hz', Hy2⟩
  iapply Hk
  unfold zero pay
  iframe

/-- Both partial outputs go on. -/
theorem chk_send {c d d' : Dev nD} {k : ℕ} (hk : k < 6) (hpar : (c.val + k) % 2 = 1) (hd : d = rt c) (hd' : d' = lf c)
    {off off' : Fin 4 → ℕ} {o3 o3' : Fin 3 → ℕ} (hoff : off = at4 (slotR c (k + 1)) 0) (hoff' : off' = ![(r4 k).val, 0, 0, 0])
    (ho3 : o3 = fun _ => 0) (ho3' : o3' = fun _ => 0)
    {inb inb' inb3 inb3' hl hl' hx hm hsc hsrc hdst hsem} {f : Vec F S1x2x128x512 .f32 → Vec F S2x128x512 .bf16} (hf : f = msg)
    {of of' : Fin 4 → ℕ} {p3 p3' : Fin 3 → ℕ} (hof : of = at4 (slotL c (k + 1)) 0) (hof' : of' = ![(r3 k).val, 0, 0, 0])
    (hp3 : p3 = fun _ => 0) (hp3' : p3' = fun _ => 0)
    {jnb jnb' jnb3 jnb3' jl jl' jx jm jsc jsrc jdst jsem} {f' : Vec F S1x2x128x512 .f32 → Vec F S2x128x512 .bf16} (hf' : f' = msg)
    {kk : PUnit → Prog (TpuEff nD τ sig (Elt F) Λ₀ .tc) α} {Q : α → sProp 𝕄} :
    iprop(env I K c ∗ ow c (6 + 2 * k) ∗ own c yaM (slotR c (k + 1)) fullShare (accR I (k + 1) c) ∗ own c yaM (slotL c (k + 1)) fullShare (accL I (k + 1) c)
        ∗ wAny c ysrM ∗ wAny c yslM ∗ toB c k)
      ⊢ iprop(((ow c (8 + 2 * k) ∗ ownAny c yaM (slotR c (k + 1)) ∗ ownAny c yaM (slotL c (k + 1)) ∗ pend c (csrS k) ∗ pend c (cslS k)) -∗ WP c (kk ⟨⟩) Q)
          -∗ WP c (.op (.load yaM (Rect.unit (s := Sn 8) off S1x2x128x512.size inb).toLoadRect hl) fun v =>
            .op (.load ysrM (Rect.unit (s := S2x128x512) o3 S2x128x512.size inb3).toLoadRect hl') fun _ =>
            .op (.store ysrM (Rect.unit (s := S2x128x512) o3' S2x128x512.size inb3') (f v) Finset.univ hx hm) fun _ =>
            .op (.enqueueDma ysrM (.remote (Dev.tc d : Thread nD τ) (sqM (n := 4) rrM off' inb') (.dma (csrS k)) hsc)
            (.dma (crrS k)) hsrc hdst hsem) fun _ =>
            .op (.load yaM (Rect.unit (s := Sn 8) of S1x2x128x512.size jnb).toLoadRect jl) fun v =>
            .op (.load yslM (Rect.unit (s := S2x128x512) p3 S2x128x512.size jnb3).toLoadRect jl') fun _ =>
            .op (.store yslM (Rect.unit (s := S2x128x512) p3' S2x128x512.size jnb3') (f' v) Finset.univ jx jm) fun _ =>
            .op (.enqueueDma yslM (.remote (Dev.tc d' : Thread nD τ) (sqM (n := 3) rlM of' jnb') (.dma (cslS k)) jsc)
            (.dma (crlS k)) jsrc jdst jsem) kk) Q) := by
  unfold toB
  iintro ⟨#HE, HO, Hx, Hy, Hw, Hw', Hd, Hd', Ht, Ht'⟩ Hk
  iapply (send_cR I K (k := k) (by omega) hpar hd rfl hoff hoff' ho3 ho3' (congrFun hf _)) $$ [HO Hx Hw Hd Ht]
  · iframe # ∗
  iintro ⟨HO, Hx, Hp⟩
  iapply (send_cL I K (k := k) hk hpar hd' rfl hof hof' hp3 hp3' (congrFun hf' _)) $$ [HO Hy Hw' Hd' Ht']
  · iframe # ∗
  iintro ⟨HO, Hy, Hp'⟩
  iapply Hk
  iframe HO Hp Hp'
  isplitl [Hx]
  · iapply own_any; iexact Hx
  · iapply own_any; iexact Hy

theorem accR_step (c : Dev nD) (k : ℕ) : acc (pR I c (k + 2)) (msg (accR I (k + 1) (lf c))) = accR I (k + 2) c :=
  (if_neg (by omega : ¬k + 1 = 0)).symm
theorem accL_step (c : Dev nD) (k : ℕ) : acc (pL I c (k + 2)) (msg (accL I (k + 1) (rt c))) = accL I (k + 2) c :=
  (if_neg (by omega : ¬k + 1 = 0)).symm

theorem lt_cr {k : ℕ} (hk : k < 7) : lvF (.crr, k) < lvRank (8 + 2 * k) := by
  show k + 4 < _
  unfold lvRank; split <;> (try split) <;> (try split) <;> omega

/-- The partial outputs that come are added. -/
theorem chk_add {c : Dev nD} {k : ℕ} (hk : k < 6) (hpar : (c.val + k) % 2 = 0)
    {src dst src' dst' : Memref sig .tc .vmem S2x128x512 .bf16} {hsrc : src.view.WordExact} {hdst : dst.view.WordExact} (hN : dst.view.dmaCredit = N)
    {hsrc' : src'.view.WordExact} {hdst' : dst'.view.WordExact} (hN' : dst'.view.dmaCredit = N)
    {off off' : Fin 4 → ℕ} (hoff : off = at4 (slotR c (k + 2)) 0) (hoff' : off' = ![(r4 k).val, 0, 0, 0])
    {inb inb' hl hl' hl'' hx hm} {f : Vec F S1x2x128x512 .f32 → Vec F S1x2x128x512 .bf16 → Vec F S1x2x128x512 .f32} (hf : f = k0_pay182)
    {of of' : Fin 4 → ℕ} (hof : of = at4 (slotL c (k + 2)) 0) (hof' : of' = ![(r3 k).val, 0, 0, 0])
    {jnb jnb' jl jl' jl'' jx jm} {f' : Vec F S1x2x128x512 .f32 → Vec F S1x2x128x512 .bf16 → Vec F S1x2x128x512 .f32} (hf' : f' = k0_pay182)
    {kk : PUnit → Prog (TpuEff nD τ sig (Elt F) Λ₀ .tc) α} {Q : α → sProp 𝕄} :
    iprop(env I K c ∗ ow c (8 + 2 * k) ∗ own c yaM (slotR c (k + 2)) fullShare (pR I c (k + 2)) ∗ own c yaM (slotL c (k + 2)) fullShare (pL I c (k + 2))
        ∗ pend c (crrS k) ∗ pend c (crlS k))
      ⊢ iprop(((ow c (8 + 2 * k) ∗ own c yaM (slotR c (k + 2)) fullShare (accR I (k + 2) c) ∗ own c yaM (slotL c (k + 2)) fullShare (accL I (k + 2) c)
            ∗ ownAny c rrM (r4 k) ∗ ownAny c rlM (r3 k) ∗ zero c (crrS k) ∗ zero c (crlS k)) -∗ WP c (kk ⟨⟩) Q)
          -∗ WP c (.op (.waitDma2 (crrS k) src dst hsrc hdst) fun _ =>
            .op (.load yaM (Rect.unit (s := Sn 8) off S1x2x128x512.size inb).toLoadRect hl) fun v =>
            .op (.load rrM (Rect.unit (s := Sn 4) off' S1x2x128x512.size inb').toLoadRect hl') fun v' =>
            .op (.load yaM (Rect.unit (s := Sn 8) off S1x2x128x512.size inb).toLoadRect hl'') fun _ =>
            .op (.store yaM (Rect.unit (s := Sn 8) off S1x2x128x512.size inb) (f v v') Finset.univ hx hm) fun _ =>
            .op (.waitDma2 (crlS k) src' dst' hsrc' hdst') fun _ =>
            .op (.load yaM (Rect.unit (s := Sn 8) of S1x2x128x512.size jnb).toLoadRect jl) fun v =>
            .op (.load rlM (Rect.unit (s := Sn 3) of' S1x2x128x512.size jnb').toLoadRect jl') fun v' =>
            .op (.load yaM (Rect.unit (s := Sn 8) of S1x2x128x512.size jnb).toLoadRect jl'') fun _ =>
            .op (.store yaM (Rect.unit (s := Sn 8) of S1x2x128x512.size jnb) (f' v v') Finset.univ jx jm) kk) Q) := by
  subst hf hf'
  iintro ⟨#HE, HO, Hx, Hy, Hp, Hp'⟩ Hk
  iapply (add_in I K (dec_crr (g := k) (by omega)) (by simp [usedF, hpar]) (by omega) (lt_cr (by omega)) (m := rrM) (i := r4 k) (j := slotR c (k + 2)) rfl hN hoff hoff') $$ [HO Hx Hp]
  · iframe # ∗
  iintro ⟨HO, Hz, Hm, Hx⟩
  iapply (add_in I K (dec_crl hk) (by simp [usedF, hpar]) (by omega) (lt_cr (by omega)) (m := rlM) (i := r3 k) (j := slotL c (k + 2)) rfl hN' hof hof') $$ [HO Hy Hp']
  · iframe # ∗
  iintro ⟨HO, Hz', Hm', Hy⟩
  iapply Hk
  rw [← accR_step, ← accL_step]
  unfold zero acc
  iframe HO Hz Hz' Hx Hy
  isplitl [Hm]
  · iapply own_any; iexact Hm
  · iapply own_any; iexact Hm'

end

end Cert.RingAttn
-- ==== Proof.Res.lean ====
module

public import proofs.«01_k».proof.Proof.Tick

@[expose] public section

/-! What a device starts with and ends with. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores by their tick -/

abbrev st0 : Memref sig .tc .vmem S2x128x512 .f32 := Memref.whole cc0_stg0_0
abbrev st1 : Memref sig .tc .vmem S512x256 .f32 := Memref.whole cc0_stg1_0
abbrev st2 : Memref sig .tc .vmem S2x128x4x64 .f32 := Memref.whole cc0_stg2_0
abbrev st3 : Memref sig .tc .vmem S2x128x4x64 .f32 := Memref.whole cc0_stg3_0
abbrev st4 : Memref sig .tc .vmem S256x512 .f32 := Memref.whole cc0_stg4_0
abbrev st5 : Memref sig .tc .vmem S2x128x512 .f32 := Memref.whole cc0_stg5_0

/-- A resource when `p` holds, else nothing. -/
def opt (p : Prop) [Decidable p] (P : sProp 𝕄) : sProp 𝕄 := if p then P else iprop(emp)
theorem opt_pos {p : Prop} [Decidable p] {P : sProp 𝕄} (h : p) : opt p P = P := if_pos h
theorem opt_neg {p : Prop} [Decidable p] {P : sProp 𝕄} (h : ¬p) : opt p P = iprop(emp) := if_neg h

/-- What a tick in which blocks are sent is made with. -/
def kA (c : Dev nD) (g : ℕ) : sProp 𝕄 :=
  iprop(opt (g < 8) (sndRes c (rt c) (bsrS g) (brrS g)) ∗ opt (g < 7) (sndRes c (lf c) (bslS g) (brlS g))
    ∗ opt (2 ≤ g) (pend c (crrS (g - 2))) ∗ opt (2 ≤ g ∧ g < 8) (pend c (crlS (g - 2))))
/-- What one in which blocks come is made with. -/
def kB (c : Dev nD) (g : ℕ) : sProp 𝕄 :=
  iprop(opt (2 ≤ g) (sndRes c (rt c) (csrS (g - 2)) (crrS (g - 2))) ∗ opt (2 ≤ g ∧ g < 8) (sndRes c (lf c) (cslS (g - 2)) (crlS (g - 2)))
    ∗ opt (g < 8) (pend c (brrS g)) ∗ opt (g < 7) (pend c (brlS g)))
def kT (c : Dev nD) : sProp 𝕄 :=
  bigSep (Finset.univ : Finset (Fin 9)) fun g => if (c.val + g.val) % 2 = 0 then kA c g.val else kB c g.val
/-- What the last exchange across the ring is made with. -/
def kF (c : Dev nD) : sProp 𝕄 :=
  if c.val % 2 = 0 then iprop(sndRes c (opp c) fsrS frrS ∗ pend c frrS ∗ pend c frlS) else sndRes c (op7 c) fslS frlS
/-- What the two synchronisations with the neighbours are made with. -/
def kS (c : Dev nD) (s : SemLoc sig) : sProp 𝕄 :=
  iprop(dutyTok ER (cellAt (lf c) s) 0 true ∗ dutyTok ER (cellAt (rt c) s) 0 false ∗ atPos ER (cellAt c s) 0 ∅ 0 ∗ cred (tallyAt (cellAt c s) () 2))

def zA (c : Dev nD) (g : ℕ) : sProp 𝕄 :=
  iprop(opt (g < 8) (zero c (bsrS g)) ∗ opt (g < 7) (zero c (bslS g)) ∗ opt (2 ≤ g) (zero c (crrS (g - 2))) ∗ opt (2 ≤ g ∧ g < 8) (zero c (crlS (g - 2))))
def zB (c : Dev nD) (g : ℕ) : sProp 𝕄 :=
  iprop(opt (2 ≤ g) (zero c (csrS (g - 2))) ∗ opt (2 ≤ g ∧ g < 8) (zero c (cslS (g - 2))) ∗ opt (g < 8) (zero c (brrS g)) ∗ opt (g < 7) (zero c (brlS g)))
def zT (c : Dev nD) : sProp 𝕄 :=
  bigSep (Finset.univ : Finset (Fin 9)) fun g => if (c.val + g.val) % 2 = 0 then zA c g.val else zB c g.val
def zF (c : Dev nD) : sProp 𝕄 :=
  if c.val % 2 = 0 then iprop(zero c fsrS ∗ zero c frrS ∗ zero c frlS) else zero c fslS

/-- The slot a device keeps. -/
def keep (c : Dev nD) : sProp 𝕄 := if c.val % 2 = 0 then ownAny c xgM (slotR c 0) else ownAny c rrM (r4 6)

/-- The device's blocks, staged. -/
def ins (I : Ins F) (c : Dev nD) : sProp 𝕄 :=
  iprop(owns (c : Thread nD τ) st0 fullShare (I.x c) ∗ owns (c : Thread nD τ) st1 fullShare (I.wq c) ∗ owns (c : Thread nD τ) st2 fullShare (I.ks c)
    ∗ owns (c : Thread nD τ) st3 fullShare (I.vs c) ∗ owns (c : Thread nD τ) st4 fullShare (I.wo c))

/-- All slots of a buffer. -/
def allOf {n : ℕ} {e : EltTy} (c : Dev nD) (m : Memref sig .tc .vmem (Sn n) e) : sProp 𝕄 := bigSep (Finset.univ : Finset (Fin n)) fun j => ownAny c m j

def bufs (c : Dev nD) : sProp 𝕄 := iprop(allOf (n := 8) c yaM ∗ wAny c ysrM ∗ wAny c yslM ∗ wAny c yfrM ∗ wAny c yflM)

def pre (I : Ins F) (K : GSem nD τ sig → ℕ) (c : Dev nD) : sProp 𝕄 :=
  iprop((invs I K ∗ levAts L lv ∗ rch c ∗ reached ER (cellAt (lf c) barS) 0 ∗ reached ER (cellAt (rt c) barS) 0) ∗ ow c 0 ∗ (kS c barS ∗ kS c exitS ∗ kT c ∗ kF c) ∗ (giveL c ∗ giveR c ∗ keep c) ∗ bufs c ∗ ins I c ∗ wAny c st5)

def post (I : Ins F) (c : Dev nD) : sProp 𝕄 :=
  iprop(ow c 23 ∗ (semVal (cellAt c barS) 0 ∗ semVal (cellAt c exitS) 0 ∗ zT c ∗ zF c)
    ∗ (allOf (n := 8) c xgM ∗ allOf (n := 4) c rrM ∗ allOf (n := 3) c rlM ∗ bufs c) ∗ ins I c ∗ owns (c : Thread nD τ) st5 fullShare (outV I c))

section

variable (I : Ins F) (K : GSem nD τ sig → ℕ) {α : Type}

local notation "WP" => fun (c : Dev nD) => wp frame (wpE (defs₀ (F := F)) 𝒱₀ (c : Thread nD τ) none) Set.univ

theorem env_intro (c : Dev nD) : iprop(invs I K ∗ levAts L lv ∗ rch c ∗ rch (rt c) ∗ rch (lf c)) ⊢ env I K c := by
  unfold env; exact BI.Entails.refl _

abbrev barN : Sem sig := ⟨0, by decide⟩
abbrev exitN : Sem sig := ⟨1, by decide⟩

theorem pay_bar_t (c : Dev nD) : pay I c true (dec (.reg barN)) = giveL (rt c) := rfl
theorem pay_bar_f (c : Dev nD) : pay I c false (dec (.reg barN)) = giveR (lf c) := rfl
theorem pay_exit (c : Dev nD) (b : Bool) : pay I c b (dec (.reg exitN)) = iprop(emp) := rfl

/-- Both neighbours are told and heard at the start: the slots lent change hands. -/
theorem sync_start {c d d' : Dev nD} (hd : d = lf c) (hd' : d' = rt c) {k1 k2 k3 : ℕ} (h1 : 1 = k1) (h2 : 1 = k2) (h3 : 2 = k3)
    {k : PUnit → Prog (TpuEff nD τ sig (Elt F) Λ₀ .tc) α} {Q : α → sProp 𝕄} :
    iprop(invs I K ∗ levAts L lv ∗ reached ER (cellAt (lf c) barS) 0 ∗ reached ER (cellAt (rt c) barS) 0 ∗ ow c 0 ∗ kS c barS ∗ giveL c ∗ giveR c)
      ⊢ iprop(((ow c 2 ∗ semVal (cellAt c barS) 0 ∗ giveL (rt c) ∗ giveR (lf c)) -∗ WP c (k ⟨⟩) Q)
          -∗ WP c (.op (.semSignal (Dev.tc d : Thread nD τ) barN k1) fun _ => .op (.semSignal (Dev.tc d' : Thread nD τ) barN k2) fun _ => .op (.semWait barN k3) k) Q) := by
  subst hd hd'
  unfold kS
  iintro ⟨#HI, #Hlev, #Hr, #Hr', HO, ⟨T1, T2, A, C⟩, HgL, HgR⟩ Hk
  iapply (signal I K (c := c) (c' := lf c) (s := barN) true h1 (n := 0) (by omega) rfl rfl) $$ [HO T1 HgL]
  · rw [pay_bar_t, rt_lf]
    iframe # ∗
  iintro HO
  iapply (signal I K (c := c) (c' := rt c) (s := barN) false h2 (n := 1) (by omega) rfl rfl) $$ [HO T2 HgR]
  · rw [pay_bar_f, lf_rt]
    iframe # ∗
  iintro HO
  iapply (wait_reg I K (c := c) (s := barN) h3 (n := 2) (.inr ⟨by omega, by decide⟩) rfl) $$ [HO A C]
  · iframe # ∗
  rw [pay_bar_t, pay_bar_f]
  iintro ⟨HO, Hz, H1, H2⟩
  iapply Hk
  iframe

end

/-! ## The neighbours' slots -/

theorem fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl
theorem fin7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl
theorem fin6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

theorem p00 {a : ℕ} (h : a % 2 = 0) (b : ℕ) : ((a + b) % 2 = 0) = (b % 2 = 0) := propext (by omega)
theorem p01 {a : ℕ} (h : a % 2 = 0) (b : ℕ) : ((a + b) % 2 = 1) = (b % 2 = 1) := propext (by omega)
theorem p10 {a : ℕ} (h : a % 2 = 1) (b : ℕ) : ((a + b) % 2 = 0) = (b % 2 = 1) := propext (by omega)
theorem p11 {a : ℕ} (h : a % 2 = 1) (b : ℕ) : ((a + b) % 2 = 1) = (b % 2 = 0) := propext (by omega)

theorem giveL_even {c : Dev nD} (h : c.val % 2 = 0) : (giveL (rt c) : sProp 𝕄) ⊢
    iprop((ownAny (rt c) xgM (slotR c 0) ∗ ownAny (rt c) xgM (slotR c 2) ∗ ownAny (rt c) xgM (slotR c 4) ∗ ownAny (rt c) xgM (slotR c 6))
      ∗ (ownAny (rt c) rrM (r4 1) ∗ ownAny (rt c) rrM (r4 3) ∗ ownAny (rt c) rrM (r4 5)) ∗ rch (rt c)) := by
  have hp : (rt c).val % 2 = 1 := by have := par_rt c; omega
  unfold giveL
  rw [fin8, fin7]
  simp only [p10 hp, p11 hp, Fin.coe_ofNat_eq_mod, Nat.reduceMod, Nat.reduceEqDiff, reduceIte, OfNat.ofNat_ne_zero, one_ne_zero, zero_ne_one, Nat.zero_mod]
  rw [← slotR_rt c (g := 0) (by omega), ← slotR_rt c (g := 2) (by omega), ← slotR_rt c (g := 4) (by omega), ← slotR_rt c (g := 6) (by omega)]
  iintro ⟨⟨H0, _, H2, _, H4, _, H6, _⟩, ⟨_, G1, _, G3, _, G5, _⟩, #Hr⟩
  iframe Hr
  isplitl [H0 H2 H4 H6]
  · isplitl [H0]; · iexact H0
    isplitl [H2]; · iexact H2
    isplitl [H4]; · iexact H4
    iexact H6
  · isplitl [G1]; · iexact G1
    isplitl [G3]; · iexact G3
    iexact G5

theorem giveL_odd {c : Dev nD} (h : c.val % 2 = 1) : (giveL (rt c) : sProp 𝕄) ⊢
    iprop((ownAny (rt c) xgM (slotR c 1) ∗ ownAny (rt c) xgM (slotR c 3) ∗ ownAny (rt c) xgM (slotR c 5) ∗ ownAny (rt c) xgM (slotR c 7))
      ∗ (ownAny (rt c) rrM (r4 0) ∗ ownAny (rt c) rrM (r4 2) ∗ ownAny (rt c) rrM (r4 4) ∗ ownAny (rt c) rrM (r4 6)) ∗ rch (rt c)) := by
  have hp : (rt c).val % 2 = 0 := by have := par_rt c; omega
  unfold giveL
  rw [fin8, fin7]
  simp only [p00 hp, p01 hp, Fin.coe_ofNat_eq_mod, Nat.reduceMod, Nat.reduceEqDiff, reduceIte, OfNat.ofNat_ne_zero, one_ne_zero, zero_ne_one, Nat.zero_mod]
  rw [← slotR_rt c (g := 1) (by omega), ← slotR_rt c (g := 3) (by omega), ← slotR_rt c (g := 5) (by omega), ← slotR_rt c (g := 7) (by omega)]
  iintro ⟨⟨_, H0, _, H2, _, H4, _, H6⟩, ⟨G0, _, G2, _, G4, _, G6⟩, #Hr⟩
  iframe Hr
  isplitl [H0 H2 H4 H6]
  · isplitl [H0]; · iexact H0
    isplitl [H2]; · iexact H2
    isplitl [H4]; · iexact H4
    iexact H6
  · isplitl [G0]; · iexact G0
    isplitl [G2]; · iexact G2
    isplitl [G4]; · iexact G4
    iexact G6

theorem giveR_even {c : Dev nD} (h : c.val % 2 = 0) : (giveR (lf c) : sProp 𝕄) ⊢
    iprop((ownAny (lf c) xgM (slotL c 0) ∗ ownAny (lf c) xgM (slotL c 2) ∗ ownAny (lf c) xgM (slotL c 4) ∗ ownAny (lf c) xgM (slotL c 6))
      ∗ (ownAny (lf c) rlM (r3 1) ∗ ownAny (lf c) rlM (r3 3) ∗ ownAny (lf c) rlM (r3 5)) ∗ rch (lf c)) := by
  have hp : (lf c).val % 2 = 1 := by have := par_lf c; omega
  unfold giveR
  rw [fin7, fin6]
  simp only [p10 hp, p11 hp, Fin.coe_ofNat_eq_mod, Nat.reduceMod, Nat.reduceEqDiff, reduceIte, OfNat.ofNat_ne_zero, one_ne_zero, zero_ne_one, Nat.zero_mod]
  rw [← slotL_lf c (g := 0) (by omega), ← slotL_lf c (g := 2) (by omega), ← slotL_lf c (g := 4) (by omega), ← slotL_lf c (g := 6) (by omega)]
  iintro ⟨⟨H0, _, H2, _, H4, _, H6⟩, ⟨_, G1, _, G3, _, G5⟩, #Hr⟩
  iframe Hr
  isplitl [H0 H2 H4 H6]
  · isplitl [H0]; · iexact H0
    isplitl [H2]; · iexact H2
    isplitl [H4]; · iexact H4
    iexact H6
  · isplitl [G1]; · iexact G1
    isplitl [G3]; · iexact G3
    iexact G5

theorem giveR_odd {c : Dev nD} (h : c.val % 2 = 1) : (giveR (lf c) : sProp 𝕄) ⊢
    iprop((ownAny (lf c) xgM (slotL c 1) ∗ ownAny (lf c) xgM (slotL c 3) ∗ ownAny (lf c) xgM (slotL c 5))
      ∗ (ownAny (lf c) rlM (r3 0) ∗ ownAny (lf c) rlM (r3 2) ∗ ownAny (lf c) rlM (r3 4)) ∗ rch (lf c)) := by
  have hp : (lf c).val % 2 = 0 := by have := par_lf c; omega
  unfold giveR
  rw [fin7, fin6]
  simp only [p00 hp, p01 hp, Fin.coe_ofNat_eq_mod, Nat.reduceMod, Nat.reduceEqDiff, reduceIte, OfNat.ofNat_ne_zero, one_ne_zero, zero_ne_one, Nat.zero_mod]
  rw [← slotL_lf c (g := 1) (by omega), ← slotL_lf c (g := 3) (by omega), ← slotL_lf c (g := 5) (by omega)]
  iintro ⟨⟨_, H0, _, H2, _, H4, _⟩, ⟨G1, _, G3, _, G5, _⟩, #Hr⟩
  iframe Hr
  isplitl [H0 H2 H4]
  · isplitl [H0]; · iexact H0
    isplitl [H2]; · iexact H2
    iexact H4
  · isplitl [G1]; · iexact G1
    isplitl [G3]; · iexact G3
    iexact G5

/-! ## All slots of a buffer, by the tick each is worked on -/

theorem slots_even {e : EltTy} {c : Dev nD} (h : c.val % 2 = 0) (m : Memref sig .tc .vmem (Sn 8) e) : (allOf c m : sProp 𝕄) =
    iprop(ownAny c m (slotR c 0) ∗ ownAny c m (slotR c 2) ∗ ownAny c m (slotR c 4) ∗ ownAny c m (slotR c 6) ∗ ownAny c m (slotR c 8)
      ∗ ownAny c m (slotL c 2) ∗ ownAny c m (slotL c 4) ∗ ownAny c m (slotL c 6)) := by
  unfold allOf
  rw [bigSep_univ_eq_bigSepL [slotR c 0, slotR c 2, slotR c 4, slotR c 6, slotR c 8, slotL c 2, slotL c 4, slotL c 6]
    (by revert c; decide +kernel) (by revert c; decide +kernel)]
  simp only [bigSepL_cons_cons, bigSepL_singleton]
  rfl

theorem slots_odd {e : EltTy} {c : Dev nD} (h : c.val % 2 = 1) (m : Memref sig .tc .vmem (Sn 8) e) : (allOf c m : sProp 𝕄) =
    iprop(ownAny c m (slotR c 1) ∗ ownAny c m (slotR c 3) ∗ ownAny c m (slotR c 5) ∗ ownAny c m (slotR c 7)
      ∗ ownAny c m (slotL c 1) ∗ ownAny c m (slotL c 3) ∗ ownAny c m (slotL c 5) ∗ ownAny c m (slotL c 7)) := by
  unfold allOf
  rw [bigSep_univ_eq_bigSepL [slotR c 1, slotR c 3, slotR c 5, slotR c 7, slotL c 1, slotL c 3, slotL c 5, slotL c 7]
    (by revert c; decide +kernel) (by revert c; decide +kernel)]
  simp only [bigSepL_cons_cons, bigSepL_singleton]
  rfl

theorem slots_rr {c : Dev nD} : (allOf (n := 4) c rrM : sProp 𝕄) =
    iprop(ownAny c rrM (r4 0) ∗ ownAny c rrM (r4 2) ∗ ownAny c rrM (r4 4) ∗ ownAny c rrM (r4 6)) := by
  unfold allOf
  rw [bigSep_univ_eq_bigSepL [r4 0, r4 2, r4 4, r4 6] (by decide) (by decide)]
  simp only [bigSepL_cons_cons, bigSepL_singleton]
  rfl

theorem slots_rl {c : Dev nD} : (allOf (n := 3) c rlM : sProp 𝕄) =
    iprop(ownAny c rlM (r3 0) ∗ ownAny c rlM (r3 2) ∗ ownAny c rlM (r3 4)) := by
  unfold allOf
  rw [bigSep_univ_eq_bigSepL [r3 0, r3 2, r3 4] (by decide) (by decide)]
  simp only [bigSepL_cons_cons, bigSepL_singleton]
  rfl

/-! ## The ticks' resources, one by one -/

theorem tick_even {c : Dev nD} (h : c.val % 2 = 0) (A B : ℕ → sProp 𝕄) :
    (bigSep (Finset.univ : Finset (Fin 9)) fun g => if (c.val + g.val) % 2 = 0 then A g.val else B g.val)
      = iprop(A 0 ∗ B 1 ∗ A 2 ∗ B 3 ∗ A 4 ∗ B 5 ∗ A 6 ∗ B 7 ∗ A 8) := by
  rw [bigSep_univ_eq_bigSepL [0, 1, 2, 3, 4, 5, 6, 7, 8] (by decide) (by decide)]
  simp only [bigSepL_cons_cons, bigSepL_singleton, p00 h]
  rfl

theorem tick_odd {c : Dev nD} (h : c.val % 2 = 1) (A B : ℕ → sProp 𝕄) :
    (bigSep (Finset.univ : Finset (Fin 9)) fun g => if (c.val + g.val) % 2 = 0 then A g.val else B g.val)
      = iprop(B 0 ∗ A 1 ∗ B 2 ∗ A 3 ∗ B 4 ∗ A 5 ∗ B 6 ∗ A 7 ∗ B 8) := by
  rw [bigSep_univ_eq_bigSepL [0, 1, 2, 3, 4, 5, 6, 7, 8] (by decide) (by decide)]
  simp only [bigSepL_cons_cons, bigSepL_singleton, p10 h]
  rfl

theorem own_anyE {n : ℕ} {e : EltTy} {c : Dev nD} {m : Memref sig .tc .vmem (Sn n) e} {j : Fin n} :
    (ownAny c m j : sProp 𝕄) ⊢ iprop(∃ X, own c m j fullShare X) := BI.Entails.refl _
theorem wAnyE {s : Shape} {e : EltTy} {c : Dev nD} {m : Memref sig .tc .vmem s e} :
    (wAny c m : sProp 𝕄) ⊢ iprop(∃ X, owns (c : Thread nD τ) m fullShare X) := BI.Entails.refl _
theorem wAny_intro {s : Shape} {e : EltTy} {c : Dev nD} {m : Memref sig .tc .vmem s e} (X) :
    (owns (c : Thread nD τ) m fullShare X : sProp 𝕄) ⊢ wAny c m := by
  unfold wAny; iintro H; iexists X; iexact H

section

variable {c : Dev nD}

theorem kA_lo {g : ℕ} (h : g < 2) : (kA c g : sProp 𝕄) ⊢ iprop(sndRes c (rt c) (bsrS g) (brrS g) ∗ sndRes c (lf c) (bslS g) (brlS g)) := by
  unfold kA
  rw [opt_pos (by omega), opt_pos (by omega), opt_neg (by omega), opt_neg (by omega)]
  iintro ⟨H1, H2, _, _⟩
  iframe
theorem kA_mid {k : ℕ} (h : k < 5) : (kA c (k + 2) : sProp 𝕄) ⊢ iprop(sndRes c (rt c) (bsrS (k + 2)) (brrS (k + 2)) ∗ sndRes c (lf c) (bslS (k + 2)) (brlS (k + 2))
    ∗ pend c (crrS k) ∗ pend c (crlS k)) := by
  unfold kA
  rw [opt_pos (by omega), opt_pos (by omega), opt_pos (by omega), opt_pos (by omega), Nat.add_sub_cancel]
theorem kA_7 : (kA c 7 : sProp 𝕄) ⊢ iprop(sndRes c (rt c) (bsrS 7) (brrS 7) ∗ pend c (crrS 5) ∗ pend c (crlS 5)) := by
  unfold kA
  rw [opt_pos (by omega), opt_neg (by omega), opt_pos (by omega), opt_pos (by omega)]
  iintro ⟨H1, _, H2, H3⟩
  iframe
theorem kA_8 : (kA c 8 : sProp 𝕄) ⊢ pend c (crrS 6) := by
  unfold kA
  rw [opt_neg (by omega), opt_neg (by omega), opt_pos (by omega), opt_neg (by omega)]
  iintro ⟨_, _, H, _⟩
  iexact H

theorem kB_lo {g : ℕ} (h : g < 2) : (kB c g : sProp 𝕄) ⊢ iprop(pend c (brrS g) ∗ pend c (brlS g)) := by
  unfold kB
  rw [opt_neg (by omega), opt_neg (by omega), opt_pos (by omega), opt_pos (by omega)]
  iintro ⟨_, _, H1, H2⟩
  iframe
theorem kB_mid {k : ℕ} (h : k < 5) : (kB c (k + 2) : sProp 𝕄) ⊢ iprop(sndRes c (rt c) (csrS k) (crrS k) ∗ sndRes c (lf c) (cslS k) (crlS k)
    ∗ pend c (brrS (k + 2)) ∗ pend c (brlS (k + 2))) := by
  unfold kB
  rw [opt_pos (by omega), opt_pos (by omega), opt_pos (by omega), opt_pos (by omega), Nat.add_sub_cancel]
theorem kB_7 : (kB c 7 : sProp 𝕄) ⊢ iprop(sndRes c (rt c) (csrS 5) (crrS 5) ∗ sndRes c (lf c) (cslS 5) (crlS 5) ∗ pend c (brrS 7)) := by
  unfold kB
  rw [opt_pos (by omega), opt_pos (by omega), opt_pos (by omega), opt_neg (by omega)]
  iintro ⟨H1, H2, H3, _⟩
  iframe
theorem kB_8 : (kB c 8 : sProp 𝕄) ⊢ sndRes c (rt c) (csrS 6) (crrS 6) := by
  unfold kB
  rw [opt_pos (by omega), opt_neg (by omega), opt_neg (by omega), opt_neg (by omega)]
  iintro ⟨H, _, _, _⟩
  iexact H

theorem zA_lo {g : ℕ} (h : g < 2) : iprop(zero c (bsrS g) ∗ zero c (bslS g)) ⊢ (zA c g : sProp 𝕄) := by
  unfold zA
  rw [opt_pos (by omega), opt_pos (by omega), opt_neg (by omega), opt_neg (by omega)]
  iintro ⟨H1, H2⟩
  iframe H1 H2
  isplitr <;> iempintro
theorem zA_mid {k : ℕ} (h : k < 5) : iprop(zero c (bsrS (k + 2)) ∗ zero c (bslS (k + 2)) ∗ zero c (crrS k) ∗ zero c (crlS k)) ⊢ (zA c (k + 2) : sProp 𝕄) := by
  unfold zA
  rw [opt_pos (by omega), opt_pos (by omega), opt_pos (by omega), opt_pos (by omega), Nat.add_sub_cancel]
theorem zA_7 : iprop(zero c (bsrS 7) ∗ zero c (crrS 5) ∗ zero c (crlS 5)) ⊢ (zA c 7 : sProp 𝕄) := by
  unfold zA
  rw [opt_pos (by omega), opt_neg (by omega), opt_pos (by omega), opt_pos (by omega)]
  iintro ⟨H1, H2, H3⟩
  iframe
theorem zA_8 : zero c (crrS 6) ⊢ (zA c 8 : sProp 𝕄) := by
  unfold zA
  rw [opt_neg (by omega), opt_neg (by omega), opt_pos (by omega), opt_neg (by omega)]
  iintro H
  isplitr; · iempintro
  isplitr; · iempintro
  isplitl [H]; · iexact H
  iempintro

theorem zB_lo {g : ℕ} (h : g < 2) : iprop(zero c (brrS g) ∗ zero c (brlS g)) ⊢ (zB c g : sProp 𝕄) := by
  unfold zB
  rw [opt_neg (by omega), opt_neg (by omega), opt_pos (by omega), opt_pos (by omega)]
  iintro ⟨H1, H2⟩
  iframe
theorem zB_mid {k : ℕ} (h : k < 5) : iprop(zero c (csrS k) ∗ zero c (cslS k) ∗ zero c (brrS (k + 2)) ∗ zero c (brlS (k + 2))) ⊢ (zB c (k + 2) : sProp 𝕄) := by
  unfold zB
  rw [opt_pos (by omega), opt_pos (by omega), opt_pos (by omega), opt_pos (by omega), Nat.add_sub_cancel]
theorem zB_7 : iprop(zero c (csrS 5) ∗ zero c (cslS 5) ∗ zero c (brrS 7)) ⊢ (zB c 7 : sProp 𝕄) := by
  unfold zB
  rw [opt_pos (by omega), opt_pos (by omega), opt_pos (by omega), opt_neg (by omega)]
  iintro ⟨H1, H2, H3⟩
  iframe
theorem zB_8 : zero c (csrS 6) ⊢ (zB c 8 : sProp 𝕄) := by
  unfold zB
  rw [opt_pos (by omega), opt_neg (by omega), opt_neg (by omega), opt_neg (by omega)]
  iintro H
  isplitl [H]; · iexact H
  isplitr; · iempintro
  isplitr <;> iempintro

end

end Cert.RingAttn
-- ==== Proof.Part.lean ====
module

public import proofs.«01_k».proof.Proof.Res
public import proofs.«01_k».proof.Proof.Dev

@[expose] public section

/-! What the parts of the body are stated with. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body, of the buffers and semaphores the launch runs it with. -/
abbrev onBufs {β : Sort*} (p : (arg0 : Memref sig .tc .vmem S2x128x512 .f32) → (harg0 : arg0.IsWhole) → (arg1 : Memref sig .tc .vmem S512x256 .f32) → (harg1 : arg1.IsWhole) → (arg2 : Memref sig .tc .vmem S2x128x4x64 .f32) → (harg2 : arg2.IsWhole) → (arg3 : Memref sig .tc .vmem S2x128x4x64 .f32) → (harg3 : arg3.IsWhole) → (arg4 : Memref sig .tc .vmem S256x512 .f32) → (harg4 : arg4.IsWhole) → (arg5 : Memref sig .tc .vmem S2x128x512 .f32) → (harg5 : arg5.IsWhole) → (arg6 : Memref sig .tc .vmem S8x2x128x512 .bf16) → (harg6 : arg6.IsWhole) → (arg7 : Memref sig .tc .vmem S8x2x128x512 .f32) → (harg7 : arg7.IsWhole) → (arg8 : Memref sig .tc .vmem S4x2x128x512 .bf16) → (harg8 : arg8.IsWhole) → (arg9 : Memref sig .tc .vmem S3x2x128x512 .bf16) → (harg9 : arg9.IsWhole) → (arg10 : Memref sig .tc .vmem S2x128x512 .bf16) → (harg10 : arg10.IsWhole) → (arg11 : Memref sig .tc .vmem S2x128x512 .bf16) → (harg11 : arg11.IsWhole) → (arg12 : Memref sig .tc .vmem S2x128x512 .bf16) → (harg12 : arg12.IsWhole) → (arg13 : Memref sig .tc .vmem S2x128x512 .bf16) → (harg13 : arg13.IsWhole) → (arg14 : DmaSems sig S8) → (arg15 : DmaSems sig S8) → (arg16 : DmaSems sig S7) → (arg17 : DmaSems sig S7) → (arg18 : DmaSems sig S7) → (arg19 : DmaSems sig S7) → (arg20 : DmaSems sig S6) → (arg21 : DmaSems sig S6) → (arg22 : DmaSems sig S_) → (arg23 : DmaSems sig S_) → (arg24 : DmaSems sig S_) → (arg25 : DmaSems sig S_) → (v1940_r0 : Sems sig S_) → β) : β :=
  p st0 (Memref.isWhole_whole _) st1 (Memref.isWhole_whole _) st2 (Memref.isWhole_whole _) st3 (Memref.isWhole_whole _)
    st4 (Memref.isWhole_whole _) st5 (Memref.isWhole_whole _) xgM (Memref.isWhole_whole _) yaM (Memref.isWhole_whole _)
    rrM (Memref.isWhole_whole _) rlM (Memref.isWhole_whole _) ysrM (Memref.isWhole_whole _) yslM (Memref.isWhole_whole _)
    yfrM (Memref.isWhole_whole _) yflM (Memref.isWhole_whole _) cc0_scratch8 cc0_scratch9 cc0_scratch10 cc0_scratch11
    cc0_scratch12 cc0_scratch13 cc0_scratch14 cc0_scratch15 cc0_scratch16 cc0_scratch17 cc0_scratch18 cc0_scratch19 cc0_scoped0

/-- The body as the launch runs it. -/
abbrev bodyP : Prog (TpuEff nD τ sig (Elt F) Λ₀ .tc) PUnit := onBufs cc0_body

/-! ## The words the parts hand on -/

abbrev m16 : BitVec 32 := Scalar.select (Scalar.cmpi .eq 16#32 0#32) 1#32 16#32
abbrev m2 : BitVec 32 := Scalar.select (Scalar.cmpi .eq 2#32 0#32) 1#32 2#32
/-- The remainder of the sign of the divisor. -/
abbrev fmod (a m : BitVec 32) : BitVec 32 :=
  Scalar.select (Scalar.andi (Scalar.xori (Scalar.cmpi .slt (Scalar.remsi a m) 0#32) (Scalar.cmpi .slt m 0#32)) (Scalar.cmpi .ne (Scalar.remsi a m) 0#32))
    (Scalar.addi (Scalar.remsi a m) m) (Scalar.remsi a m)
abbrev back (v k : BitVec 32) : BitVec 32 := Scalar.addi (Scalar.subi v k) 32#32

/-! ## What is held between the parts of a tick -/

section

variable (I : Ins F) (K : GSem nD τ sig → ℕ) {α : Type}

local notation "WP" => fun (c : Dev nD) => wp frame (wpE (defs₀ (F := F)) 𝒱₀ (c : Thread nD τ) none) Set.univ

/-- Once the blocks of tick `g` are on their way. -/
def sent (c : Dev nD) (g : ℕ) : sProp 𝕄 :=
  iprop(own c xgM (slotR c g) fullShare.left (xb I (dm c g)) ∗ own c xgM (slotR c g) qL (xb I (dm c g))
    ∗ own c xgM (slotL c g) fullShare.left (xb I (dp c g)) ∗ own c xgM (slotL c g) qR (xb I (dp c g)) ∗ pend c (bsrS g) ∗ pend c (bslS g))
/-- The slots of a tick, free. -/
def xg2 (c : Dev nD) (g : ℕ) : sProp 𝕄 := iprop(ownAny c xgM (slotR c g) ∗ ownAny c xgM (slotL c g))
def ya2 (c : Dev nD) (g : ℕ) : sProp 𝕄 := iprop(ownAny c yaM (slotR c g) ∗ ownAny c yaM (slotL c g))
/-- The device's own partial outputs of a tick, -/
def yaP (c : Dev nD) (g : ℕ) : sProp 𝕄 := iprop(own c yaM (slotR c g) fullShare (pR I c g) ∗ own c yaM (slotL c g) fullShare (pL I c g))
/-- and with what came added. -/
def yaA (c : Dev nD) (g : ℕ) : sProp 𝕄 := iprop(own c yaM (slotR c g) fullShare (accR I g c) ∗ own c yaM (slotL c g) fullShare (accL I g c))
def ys2 (c : Dev nD) : sProp 𝕄 := iprop(wAny c ysrM ∗ wAny c yslM)

theorem pR_mid (c : Dev nD) {g : ℕ} (h : 1 ≤ g ∧ g < 8) : pR I c g = twoX (wt I c) (xb I (dm c g)) (xb I (dp c g)) := if_pos h
theorem pR_end (c : Dev nD) {g : ℕ} (h : ¬(1 ≤ g ∧ g < 8)) : pR I c g = one (wt I c) (xb I (dm c g)) := if_neg h
theorem own_conv {n : ℕ} {e : EltTy} {c : Dev nD} {m : Memref sig .tc .vmem (Sn n) e} {j : Fin n} {q : PosShare TreeShare} (X : Vec F S1x2x128x512 e) :
    (own c m j q X : sProp 𝕄) ⊢ own c m j q X := BI.Entails.refl _
theorem yaP_intro (c : Dev nD) {g : ℕ} (h : 1 ≤ g ∧ g < 8) :
    iprop(own c yaM (slotR c g) fullShare (twoX (wt I c) (xb I (dm c g)) (xb I (dp c g)))
      ∗ own c yaM (slotL c g) fullShare (twoY (wt I c) (xb I (dm c g)) (xb I (dp c g)))) ⊢ yaP I c g := by
  unfold yaP pL; rw [pR_mid I c h]

theorem pay_bsr0 (c : Dev nD) (b : Bool) : pay I c b (.bsr, 0) ⊢ own c xgM (slotR c 0) qR (xb I c) := by
  have h : pay I c b (.bsr, 0) = own c xgM (slotR c 0) qR (xb I (dm c 0)) := rfl
  rw [h, dm_zero]
theorem pay_bsl0 (c : Dev nD) (b : Bool) : pay I c b (.bsl, 0) ⊢ own c xgM (slotR c 0) qL (xb I c) := by
  have h : pay I c b (.bsl, 0) = own c xgM (slotL c 0) qL (xb I (dp c 0)) := rfl
  rw [h, dp_zero, slotL_zero]

/-- A part that only computes. -/
theorem skip {β : Type} {c : Dev nD} {p : Prog (TpuEff nD τ sig (Elt F) Λ₀ .tc) β} (h : ∃ a, p = Prog.ret a)
    {k : β → Prog (TpuEff nD τ sig (Elt F) Λ₀ .tc) α} {Q : α → sProp 𝕄} : iprop(∀ r, WP c (k r) Q) ⊢ WP c (p >>= k) Q := by
  obtain ⟨a, rfl⟩ := h
  rw [Prog.bind_ret]
  iintro H
  iapply H

theorem ow2 (c : Dev nD) {n : ℕ} (hn : n < 22) (h : tgt c n = none ∧ tgt c (n + 1) = none) : (ow c n : sProp 𝕄) = ow c (n + 2) := by
  rw [ow_skip c (by omega) h.1, ow_skip c (by omega) h.2]

/-- The left neighbour is told at the end; -/
theorem end_l {c d : Dev nD} (hd : d = lf c) {k1 : ℕ} (h1 : 1 = k1)
    {k : PUnit → Prog (TpuEff nD τ sig (Elt F) Λ₀ .tc) α} {Q : α → sProp 𝕄} :
    iprop(env I K c ∗ ow c 21 ∗ dutyTok ER (cellAt (lf c) exitS) 0 true)
      ⊢ iprop((ow c 22 -∗ WP c (k ⟨⟩) Q) -∗ WP c (.op (.semSignal (Dev.tc d : Thread nD τ) exitN k1) k) Q) := by
  subst hd
  unfold env
  iintro ⟨⟨#HI, #Hlev, #Hr, #HrR, #HrL⟩, HO, T1⟩ Hk
  iapply (signal I K (c := c) (c' := lf c) (s := exitN) true h1 (n := 21) (by omega) rfl rfl) $$ [HO T1]
  · isplitr; · iexact HI
    isplitr; · iapply (rch_elim (lf c) exitS rfl); iexact HrL
    rw [pay_exit]
    iframe
  iexact Hk

/-- then the right one, and both are heard. -/
theorem end_r {c d : Dev nD} (hd : d = rt c) {k2 k3 : ℕ} (h2 : 1 = k2) (h3 : 2 = k3)
    {k : PUnit → Prog (TpuEff nD τ sig (Elt F) Λ₀ .tc) α} {Q : α → sProp 𝕄} :
    iprop(env I K c ∗ ow c 22 ∗ dutyTok ER (cellAt (rt c) exitS) 0 false ∗ atPos ER (cellAt c exitS) 0 ∅ 0 ∗ cred (tallyAt (cellAt c exitS) () 2))
      ⊢ iprop(((ow c 23 ∗ semVal (cellAt c exitS) 0) -∗ WP c (k ⟨⟩) Q)
          -∗ WP c (.op (.semSignal (Dev.tc d : Thread nD τ) exitN k2) fun _ => .op (.semWait exitN k3) k) Q) := by
  subst hd
  unfold env
  iintro ⟨⟨#HI, #Hlev, #Hr, #HrR, #HrL⟩, HO, T2, A, C⟩ Hk
  iapply (signal I K (c := c) (c' := rt c) (s := exitN) false h2 (n := 22) (by omega) rfl rfl) $$ [HO T2]
  · isplitr; · iexact HI
    isplitr; · iapply (rch_elim (rt c) exitS rfl); iexact HrR
    rw [pay_exit]
    iframe
  iintro HO
  iapply (wait_reg I K (c := c) (s := exitN) h3 (n := 23) (.inl rfl) rfl) $$ [HO A C]
  · iframe # ∗
  iintro ⟨HO, Hz, H1, H2⟩
  iapply Hk
  iframe

/-- The riders of a device's own block. -/
theorem riders (c : Dev nD) (h : c.val % 2 = 0) : iprop(env I K c ∗ wAny c yfrM ∗ wAny c yflM) ⊢ iprop(riderR (F := F) c ∗ riderL c) := by
  unfold env riderR riderL
  iintro ⟨⟨#HI, #Hlev, #Hr, #HrR, #HrL⟩, H1, H2⟩
  isplitl [H1]
  · isplitl [H1]; · iexact H1
    iapply (rch_elim c (.dma frrS) (by revert h; revert c; decide)); iexact Hr
  · isplitl [H2]; · iexact H2
    iapply (rch_elim c (.dma frlS) (by revert h; revert c; decide)); iexact Hr

theorem pay_brr7 (c : Dev nD) (b : Bool) : pay I c b (.brr, 7) ⊢ inR I c 8 := BI.Entails.refl _
theorem pay_frr (c : Dev nD) (b : Bool) : pay I c b (.frr, 0) ⊢ owns (c : Thread nD τ) yfrM fullShare (msg (accR I 8 (opp c))) := BI.Entails.refl _
theorem pay_frl (c : Dev nD) (b : Bool) : pay I c b (.frl, 0) ⊢ owns (c : Thread nD τ) yflM fullShare (msg (accL I 7 (dp c 9))) := BI.Entails.refl _
theorem pay_fsr (c : Dev nD) (b : Bool) : pay I c b (.fsr, 0) ⊢ wAny c ysrM := BI.Entails.refl _
theorem pay_fsl (c : Dev nD) (b : Bool) : pay I c b (.fsl, 0) ⊢ wAny c yslM := BI.Entails.refl _
theorem pay_csr6 (c : Dev nD) (b : Bool) : pay I c b (.csr, 6) ⊢ wAny c ysrM := BI.Entails.refl _
theorem fr_facts (c : Dev nD) (hp : c.val % 2 = 0) : tgt c 20 = some (opp c, .dma frrS) ∧ used c (.dma fsrS) = true ∧ used (opp c) (.dma frrS) = true := by
  revert hp; revert c; decide +kernel
theorem fl_facts (c : Dev nD) (hp : c.val % 2 = 1) : tgt c 19 = some (op7 c, .dma frlS) ∧ used c (.dma fslS) = true ∧ used (op7 c) (.dma frlS) = true := by
  revert hp; revert c; decide +kernel

/-- The output that went round goes to its device. -/
theorem fin_sendR {c d : Dev nD} (hp : c.val % 2 = 0) (hd : d = opp c) {w : Vec F S2x128x512 .bf16} (hw : w = msg (accR I 8 c))
    {hsc hsrc hdst hsem} {k : PUnit → Prog (TpuEff nD τ sig (Elt F) Λ₀ .tc) α} {Q : α → sProp 𝕄} :
    iprop(env I K c ∗ ow c 20 ∗ owns (c : Thread nD τ) ysrM fullShare w ∗ riderR (opp c) ∗ sndRes c (opp c) fsrS frrS)
      ⊢ iprop(((ow c 21 ∗ pend c fsrS) -∗ WP c (k ⟨⟩) Q)
          -∗ WP c (.op (.enqueueDma ysrM (.remote (Dev.tc d : Thread nD τ) yfrM (.dma fsrS) hsc) (.dma frrS) hsrc hdst hsem) k) Q) := by
  subst hd hw
  unfold env riderR wAny
  iintro ⟨⟨#HI, #Hlev, #Hr, #HrR, #HrL⟩, HO, Hs, ⟨⟨%w', Hd⟩, #Hq⟩, Ht⟩ Hk
  iapply (send I K (c := c) (c' := opp c) (R := iprop(emp)) (q := fullShare) (w := msg (accR I 8 c)) (w' := w') (n := 20) (by omega) (fr_facts c hp).1 (fr_facts c hp).2.1
    (fr_facts c hp).2.2 (show yfrM.view.dmaCredit = N from rfl)
    (by
      show _ ⊢ wAny c ysrM
      unfold wAny; iintro H; iexists _; iexact H)
    (by
      show _ ⊢ owns ((opp c : Dev nD) : Thread nD τ) yfrM fullShare (msg (accR I 8 (opp (opp c))))
      rw [opp_opp]
      iintro ⟨H, -⟩; iexact H)) $$ [HO Hs Hd Ht]
  · isplitr; · iexact HI
    isplitr; · iexact Hr
    isplitr; · iexact Hq
    isplitl [HO]; · iexact HO
    isplitl [Hs]; · iexact Hs
    isplitl [Hd]; · iexact Hd
    isplitr; · iempintro
    iexact Ht
  iintro ⟨Hp, HO⟩
  iapply Hk
  iframe

theorem fin_sendL {c d : Dev nD} (hp : c.val % 2 = 1) (hd : d = op7 c) {w : Vec F S2x128x512 .bf16} (hw : w = msg (accL I 7 c))
    {hsc hsrc hdst hsem} {k : PUnit → Prog (TpuEff nD τ sig (Elt F) Λ₀ .tc) α} {Q : α → sProp 𝕄} :
    iprop(env I K c ∗ ow c 19 ∗ owns (c : Thread nD τ) yslM fullShare w ∗ riderL (op7 c) ∗ sndRes c (op7 c) fslS frlS)
      ⊢ iprop(((ow c 20 ∗ pend c fslS) -∗ WP c (k ⟨⟩) Q)
          -∗ WP c (.op (.enqueueDma yslM (.remote (Dev.tc d : Thread nD τ) yflM (.dma fslS) hsc) (.dma frlS) hsrc hdst hsem) k) Q) := by
  subst hd hw
  unfold env riderL wAny
  iintro ⟨⟨#HI, #Hlev, #Hr, #HrR, #HrL⟩, HO, Hs, ⟨⟨%w', Hd⟩, #Hq⟩, Ht⟩ Hk
  iapply (send I K (c := c) (c' := op7 c) (R := iprop(emp)) (q := fullShare) (w := msg (accL I 7 c)) (w' := w') (n := 19) (by omega) (fl_facts c hp).1 (fl_facts c hp).2.1
    (fl_facts c hp).2.2 (show yflM.view.dmaCredit = N from rfl)
    (by
      show _ ⊢ wAny c yslM
      unfold wAny; iintro H; iexists _; iexact H)
    (by
      show _ ⊢ owns ((op7 c : Dev nD) : Thread nD τ) yflM fullShare (msg (accL I 7 (dp (op7 c) 9)))
      rw [dp9_op7]
      iintro ⟨H, -⟩; iexact H)) $$ [HO Hs Hd Ht]
  · isplitr; · iexact HI
    isplitr; · iexact Hr
    isplitr; · iexact Hq
    isplitl [HO]; · iexact HO
    isplitl [Hs]; · iexact Hs
    isplitl [Hd]; · iexact Hd
    isplitr; · iempintro
    iexact Ht
  iintro ⟨Hp, HO⟩
  iapply Hk
  iframe

end

end Cert.RingAttn
-- ==== Proof.Even1.lean ====
module

public import proofs.«01_k».proof.Proof.Part

@[expose] public section

/-! The first ticks of a device of even number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The first tick: the device's own block goes both ways and its output is computed. -/
theorem p74_even (c : Dev nD) (hp : c.val % 2 = 0) {v2 : BitVec 32} {v14 : BitVec 32} {v25 : BitVec 32} {v141 : BitVec 32} {v177 : BitVec 32} {v188 : BitVec 1} {c2_i32_151 : BitVec 32} {v308 : BitVec 32} {v310 : BitVec 32} {c0_i32_153 : BitVec 32}
    {k} {Q : α → sProp 𝕄} :
    iprop(env I K c ∗ ow c 2 ∗ own c xgM (slotR c 0) fullShare (xb I c) ∗ wAny c yfrM ∗ wAny c yflM ∗ ownAny c yaM (slotR c 0) ∗ ownAny (rt c) xgM (slotR c 0)
      ∗ ownAny (lf c) xgM (slotL c 0) ∗ kA c 0)
      ⊢ iprop((∀ r, (ow c 4 ∗ ownAny c xgM (slotR c 0) ∗ own c yaM (slotR c 0) fullShare (pR I c 0) ∗ zA c 0) -∗ WP c (k r) Q) -∗ WP c (onBufs (k0_part74 (F := F)) c v2 v14 v25 (k0_pay166 (I.ks c)) (k0_pay167 (I.vs c)) (k0_pay168 (I.wq c)) (k0_pay169 (I.wo c)) (wt I c).m1 v141 v177 v188 c2_i32_151 v308 v310 c0_i32_153 >>= k) Q) := by
  obtain ⟨-, h2, h3, h4, h5, -⟩ := conds_even c hp
  obtain ⟨-, o2, o3, o4, o5, -⟩ := offs_even c hp
  obtain ⟨-, -, d3, d4, -⟩ := devs_even c hp
  simp only [onBufs, k0_part74_eq_skeleton, k0_part74_skel, k0_part1_eq_skeleton, k0_part1_skel, k0_part2_eq_skeleton, k0_part2_skel, k0_part3_eq_skeleton, k0_part3_skel, k0_part4_eq_skeleton, k0_part4_skel, dif_pos h2, dif_pos h3, dif_neg h4, dif_pos h5, Prog.lift, Prog.bind_op, Prog.bind_ret, Prog.pure_eq_ret, Prog.bind_assoc]
  iintro ⟨#HE, HO, Hx, Hfr, Hfl, Hy, Hd, Hd', T0⟩ Hk
  ihave Hx := own_split $$ Hx
  icases Hx with ⟨Hx0, Hx1, Hx2⟩
  ihave T0 := (kA_lo (by omega)) $$ T0
  icases T0 with ⟨S1, S2⟩
  ihave HR := (riders I K c hp) $$ [Hfr Hfl]
  · iframe # ∗
  icases HR with ⟨HR, HL⟩
  iapply (send_bR I K (g := 0) (by omega) (by omega) (Fin.ext d3) o2) $$ [HO Hx1 Hd HR S1]
  · rw [dm_zero]
    isplitr; · iexact HE
    isplitl [HO]; · iexact HO
    iframe
  iintro ⟨HO, P1⟩
  iapply (send_bL I K (g := 0) (by omega) (by omega) (Fin.ext d4) o3) $$ [HO Hx2 Hd' HL S2]
  · rw [dp_zero, slotL_zero]
    isplitr; · iexact HE
    isplitl [HO]; · iexact HO
    iframe
  iintro ⟨HO, P2⟩
  iapply (comp1 o4 o4 o5 o5) $$ [Hx0 Hy]
  · iframe
  iintro ⟨Hx0, Hy⟩
  iapply (wait_f I K (dec_bsr (g := 0) (by omega)) (by simp [usedF, hp]) (p := 4) (by omega) (by decide) (credit_sq _ _ _)) $$ [HO P1]
  · isplitr; · iexact HE
    isplitl [HO]; · iexact HO
    iexact P1
  iintro ⟨HO, Z1, Hx1⟩
  iapply (wait_f I K (dec_bsl (g := 0) (by omega)) (by simp [usedF, hp]) (p := 4) (by omega) (by decide) (credit_sq _ _ _)) $$ [HO P2]
  · isplitr; · iexact HE
    isplitl [HO]; · iexact HO
    iexact P2
  iintro ⟨HO, Z2, Hx2⟩
  ihave Hx1 := (pay_bsr0 I c false) $$ Hx1
  ihave Hx2 := (pay_bsl0 I c false) $$ Hx2
  iapply Hk
  iframe HO
  isplitl [Hx0 Hx1 Hx2]
  · iapply own_any; iapply own_rejoin; iframe
  isplitl [Hy]
  · rw [pR_end I c (g := 0) (by omega), dm_zero]; iexact Hy
  iapply (zA_lo (g := 0) (by omega)); unfold zero; iframe

set_option maxHeartbeats 2000000 in
/-- The second tick: the neighbours' blocks come. -/
theorem p79_even (c : Dev nD) (hp : c.val % 2 = 0) {v14 : BitVec 32} {v25 : BitVec 32} {v345 : BitVec 32} {v369 : BitVec 32} {v381 : BitVec 32} {v392 : BitVec 1} {c2_i32_256 : BitVec 32} {v495 : BitVec 32} {v500 : BitVec 32} {c0_i32_259 : BitVec 32}
    {k} {Q : α → sProp 𝕄} :
    iprop(env I K c ∗ ow c 4 ∗ kB c 1)
      ⊢ iprop((∀ r, (ow c 6 ∗ inR I c 2 ∗ inL I c 2 ∗ zB c 1) -∗ WP c (k r) Q) -∗ WP c (onBufs (k0_part79 (F := F)) c v14 v25 (k0_pay166 (I.ks c)) (k0_pay167 (I.vs c)) (k0_pay168 (I.wq c)) (k0_pay169 (I.wo c)) (wt I c).m2 v345 v369 v381 v392 c2_i32_256 v495 v500 c0_i32_259 >>= k) Q) := by
  obtain ⟨-, -, -, -, -, h6, h7, h8, -⟩ := conds_even c hp
  simp only [onBufs, k0_part79_eq_skeleton, k0_part79_skel, dif_neg h6, dif_neg h7, dif_pos h8, Prog.lift, Prog.bind_op, Prog.bind_ret, Prog.pure_eq_ret, Prog.bind_assoc]
  iintro ⟨#HE, HO, T1⟩ Hk
  ihave T1 := (kB_lo (by omega)) $$ T1
  icases T1 with ⟨P1, P2⟩
  ihave HO := (Entails.of_eq (ow2 c (n := 4) (by omega) (by clear * - hp; revert hp; revert c; decide +kernel))) $$ HO
  iapply (blk_recv I K (g := 1) (by omega) (by omega) (credit_sq _ _ _) (credit_sq _ _ _)) $$ [HO P1 P2]
  · isplitr; · iexact HE
    isplitl [HO]; · iexact HO
    iframe
  iintro ⟨HO, HR, HL, Z1, Z2⟩
  iapply Hk
  isplitl [HO]; · iexact HO
  isplitl [HR]; · iexact HR
  isplitl [HL]; · iexact HL
  iapply (zB_lo (by omega)); iframe

set_option maxHeartbeats 2000000 in
/-- The third tick: the blocks go on. -/
theorem p85_even (c : Dev nD) (hp : c.val % 2 = 0) {v14 : BitVec 32} {v25 : BitVec 32} {v598 : BitVec 32} {v622 : BitVec 1} {c2_i32_386 : BitVec 32} {v725 : BitVec 32} {v727 : BitVec 32} {c0_i32_388 : BitVec 32}
    {k} {Q : α → sProp 𝕄} :
    iprop(env I K c ∗ ow c 6 ∗ inR I c 2 ∗ inL I c 2 ∗ toA c 2)
      ⊢ iprop((∀ r, (ow c 8 ∗ sent I c 2) -∗ WP c (k r) Q) -∗ WP c (onBufs (k0_part85 (F := F)) c v14 v25 v598 v622 c2_i32_386 v725 v727 c0_i32_388 >>= k) Q) := by
  obtain ⟨-, -, -, -, -, -, -, -, -, h10, -⟩ := conds_even c hp
  obtain ⟨-, -, -, -, -, o20, o21, -⟩ := offs_even c hp
  obtain ⟨-, -, -, -, d7, d8, -⟩ := devs_even c hp
  simp only [onBufs, k0_part85_eq_skeleton, k0_part85_skel, dif_pos h10, Prog.lift, Prog.bind_op, Prog.bind_ret, Prog.pure_eq_ret, Prog.bind_assoc]
  iintro ⟨#HE, HO, HR, HL, HT⟩ Hk
  iapply (blk_send I K (g := 2) (by omega) (by omega) (Fin.ext d7) (Fin.ext d8) o20 o21) $$ [HO HR HL HT]
  · isplitr; · iexact HE
    isplitl [HO]; · iexact HO
    iframe
  iintro ⟨HO, H⟩
  iapply Hk
  unfold sent
  isplitl [HO]; · iexact HO
  iexact H

set_option maxHeartbeats 2000000 in
/-- The third tick: the outputs are computed, what comes is added, the blocks sent are back. -/
theorem p86_even (c : Dev nD) (hp : c.val % 2 = 0) {v2 : BitVec 32} {v14 : BitVec 32} {v25 : BitVec 32} {v549 : BitVec 32} {v575 : BitVec 32} {v586 : BitVec 32} {v611 : BitVec 32} {v622 : BitVec 1} {v762 : BitVec 32} {c0_i32_412 : BitVec 32} (hw : v622 = 1#1)
    {k} {Q : α → sProp 𝕄} :
    iprop(env I K c ∗ ow c 8 ∗ sent I c 2 ∗ ya2 c 2 ∗ pend c (crrS 0) ∗ pend c (crlS 0))
      ⊢ iprop(((ow c 8 ∗ xg2 c 2 ∗ yaA I c 2 ∗ ownAny c rrM (r4 0) ∗ ownAny c rlM (r3 0) ∗ zA c 2) -∗ WP c (k ⟨m16, Scalar.remsi (back v2 3#32) m16, Scalar.cmpi .ne (Scalar.remsi (back v2 3#32) m16) 0#32⟩) Q) -∗ WP c (onBufs (k0_part86 (F := F)) c v2 v14 v25 (k0_pay166 (I.ks c)) (k0_pay167 (I.vs c)) (k0_pay168 (I.wq c)) (k0_pay169 (I.wo c)) (wt I c).m2 v549 v575 v586 v611 v622 v762 c0_i32_412 >>= k) Q) := by
  obtain ⟨-, -, -, -, -, -, -, -, -, -, h11, h12, h13, h14, h15, -⟩ := conds_even c hp
  obtain ⟨-, -, -, -, -, -, -, o24, o25, o26, o27, o30, o31, -⟩ := offs_even c hp
  subst hw
  simp only [onBufs, k0_part86_eq_skeleton, k0_part86_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, dif_neg h11, dif_pos h12, dif_neg h13, dif_pos h14, dif_pos h15, dif_neg (show ¬Scalar.cmpi .ne (Scalar.extui (Scalar.xori 1#1 1#1) : BitVec 32) 0#32 = 1#1 by decide), Prog.lift, Prog.bind_op, Prog.bind_ret, Prog.pure_eq_ret, Prog.bind_assoc]
  unfold sent ya2
  iintro ⟨#HE, HO, ⟨Hx0, Hx1, Hx2, Hx3, P3, P4⟩, ⟨Y1, Y2⟩, P1, P2⟩ Hk
  iapply (comp2 (j := slotR c 2) (j' := slotL c 2) (X := xb I (dm c 2)) (Y := xb I (dp c 2)) (q := fullShare.left) (q' := fullShare.left) o24 o25 o24 o25 o26 o27 o26 o27) $$ [Hx0 Hx2 Y1 Y2]
  · iframe
  iintro ⟨Hx0, Hx2, Y1, Y2⟩
  ihave Y := (yaP_intro I c (g := 2) (by omega)) $$ [Y1 Y2]
  · isplitl [Y1]; · iexact Y1
    iexact Y2
  unfold yaP
  icases Y with ⟨Y1, Y2⟩
  iapply (chk_add I K (k := 0) (by omega) (by omega) (credit_sq _ _ _) (credit_sq _ _ _) o30 rfl rfl o31 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (blk_wait I K (g := 2) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2 yaA
  isplitl [HO]; · iexact HO
  isplitl [X1 X2]; · iframe
  isplitl [Y1 Y2]
  · isplitl [Y1]; · iexact Y1
    iexact Y2
  isplitl [M1]; · iexact M1
  isplitl [M2]; · iexact M2
  iapply (zA_mid (k := 0) (by omega)); iframe

theorem p86_even' (c : Dev nD) (hp : c.val % 2 = 0) {v2 : BitVec 32} {v14 : BitVec 32} {v25 : BitVec 32} {v549 : BitVec 32} {v575 : BitVec 32} {v586 : BitVec 32} {v611 : BitVec 32} {v622 : BitVec 1} {v762 : BitVec 32} {c0_i32_412 : BitVec 32}
    {k} {Q : α → sProp 𝕄} :
    iprop(⌜v622 = 1#1⌝ ∗ env I K c ∗ ow c 8 ∗ sent I c 2 ∗ ya2 c 2 ∗ pend c (crrS 0) ∗ pend c (crlS 0))
      ⊢ iprop(((ow c 8 ∗ xg2 c 2 ∗ yaA I c 2 ∗ ownAny c rrM (r4 0) ∗ ownAny c rlM (r3 0) ∗ zA c 2) -∗ WP c (k ⟨m16, Scalar.remsi (back v2 3#32) m16, Scalar.cmpi .ne (Scalar.remsi (back v2 3#32) m16) 0#32⟩) Q) -∗ WP c (onBufs (k0_part86 (F := F)) c v2 v14 v25 (k0_pay166 (I.ks c)) (k0_pay167 (I.vs c)) (k0_pay168 (I.wq c)) (k0_pay169 (I.wo c)) (wt I c).m2 v549 v575 v586 v611 v622 v762 c0_i32_412 >>= k) Q) := by
  iintro ⟨%hw, H⟩
  iapply (p86_even I K c hp hw) $$ H

set_option maxHeartbeats 2000000 in
/-- Nothing is left to be done at the second tick. -/
theorem p80_even (c : Dev nD) (hp : c.val % 2 = 0) {v2 : BitVec 32} {v392 : BitVec 1}
    {k} {Q : α → sProp 𝕄} :
    iprop(env I K c ∗ ow c 6)
      ⊢ iprop(((ow c 6) -∗ WP c (k ⟨fmod (back v2 2#32) m16, fmod (back (Scalar.subi v2 1#32) 2#32) m16, back (Scalar.addi v2 1#32) 2#32, 16#32, Scalar.cmpi .eq 16#32 0#32, 1#32⟩) Q) -∗ WP c (onBufs (k0_part80 (F := F)) c v2 v392 >>= k) Q) := by
  obtain ⟨-, -, -, -, -, -, -, -, h9, -⟩ := conds_even c hp
  simp only [onBufs, k0_part80_eq_skeleton, k0_part80_skel, dif_neg h9, Prog.lift, Prog.bind_op, Prog.bind_ret, Prog.pure_eq_ret, Prog.bind_assoc]
  iintro ⟨#HE, HO⟩ Hk
  iapply Hk
  iexact HO

end

end Cert.RingAttn
-- ==== Proof.Even2.lean ====
module

public import proofs.«01_k».proof.Proof.Part

@[expose] public section

/-! The middle ticks of a device of even number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The device's partial outputs go on and the next blocks come. -/
theorem p92_even (c : Dev nD) (hp : c.val % 2 = 0) {v14 : BitVec 32} {v25 : BitVec 32} {v787 : BitVec 32} {v813 : BitVec 32} {v824 : BitVec 32} {v836 : BitVec 32} {v849 : BitVec 32} {v860 : BitVec 1} {c2_i32_547 : BitVec 32} {v980 : BitVec 32}
    {k} {Q : α → sProp 𝕄} :
    iprop(env I K c ∗ ow c 8 ∗ yaA I c 2 ∗ wAny c ysrM ∗ wAny c yslM ∗ toB c 1 ∗ pend c (brrS 3) ∗ pend c (brlS 3))
      ⊢ iprop((∀ r, (ow c 10 ∗ ya2 c 2 ∗ pend c (csrS 1) ∗ pend c (cslS 1) ∗ inR I c 4 ∗ inL I c 4 ∗ zero c (brrS 3) ∗ zero c (brlS 3)) -∗ WP c (k r) Q) -∗ WP c (onBufs (k0_part92 (F := F)) c v14 v25 (k0_pay166 (I.ks c)) (k0_pay167 (I.vs c)) (k0_pay168 (I.wq c)) (k0_pay169 (I.wo c)) (wt I c).m2 v787 v813 v824 v836 v849 v860 c2_i32_547 v980 >>= k) Q) := by
  obtain ⟨-, -, -, -, -, -, -, -, -, -, -, -, -, -, -, h17, h18, h19, h20, -⟩ := conds_even c hp
  obtain ⟨-, -, -, -, -, -, -, -, -, -, -, -, -, o36, o37, -⟩ := offs_even c hp
  obtain ⟨-, -, -, -, -, -, d13, d14, -⟩ := devs_even c hp
  simp only [onBufs, k0_part92_eq_skeleton, k0_part92_skel, k0_part18_eq_skeleton, k0_part18_skel, dif_neg h17, dif_pos h18, dif_neg h19, dif_pos h20, Prog.lift, Prog.bind_op, Prog.bind_ret, Prog.pure_eq_ret, Prog.bind_assoc]
  iintro ⟨#HE, HO, Y, W1, W2, HT, P1, P2⟩ Hk
  unfold yaA
  icases Y with ⟨Y1, Y2⟩
  iapply (chk_send I K (k := 1) (by omega) (by omega) (Fin.ext d13) (Fin.ext d14) o36 rfl z3 z3 rfl o37 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (blk_recv I K (g := 3) (by omega) (by omega) (credit_sq _ _ _) (credit_sq _ _ _)) $$ [HO P1 P2]
  · isplitr; · iexact HE
    isplitl [HO]; · iexact HO
    iframe
  iintro ⟨HO, HR, HL, Z3, Z4⟩
  iapply Hk
  isplitl [HO]; · iexact HO
  isplitl [Y1 Y2]
  · unfold ya2; iframe
  iframe

set_option maxHeartbeats 2000000 in
/-- The partial outputs sent are there. -/
theorem p93_even (c : Dev nD) (hp : c.val % 2 = 0) {v2 : BitVec 32} {v14 : BitVec 32} {v25 : BitVec 32} {v787 : BitVec 32} {v824 : BitVec 32} {v860 : BitVec 1} {v1007 : BitVec 32} (hw : v860 = 0#1)
    {k} {Q : α → sProp 𝕄} :
    iprop(env I K c ∗ ow c 10 ∗ pend c (csrS 1) ∗ pend c (cslS 1))
      ⊢ iprop(((ow c 10 ∗ wAny c ysrM ∗ wAny c yslM ∗ zero c (csrS 1) ∗ zero c (cslS 1)) -∗ WP c (k ⟨fmod (back v2 4#32) m16, m16, Scalar.remsi (back (Scalar.subi v2 1#32) 4#32) m16⟩) Q) -∗ WP c (onBufs (k0_part93 (F := F)) c v2 v14 v25 v787 v824 v860 v1007 >>= k) Q) := by
  obtain ⟨-, -, -, -, -, -, -, -, -, -, -, -, -, -, -, -, -, -, -, h21, h22, -⟩ := conds_even c hp
  subst hw
  simp only [onBufs, k0_part93_eq_skeleton, k0_part93_skel, dif_neg h21, dif_neg h22, dif_pos (show Scalar.cmpi .ne (Scalar.extui (Scalar.xori 0#1 1#1) : BitVec 32) 0#32 = 1#1 by decide), Prog.lift, Prog.bind_op, Prog.bind_ret, Prog.pure_eq_ret, Prog.bind_assoc]
  iintro ⟨#HE, HO, C1, C2⟩ Hk
  iapply (chk_wait I K (k := 1) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  iframe

theorem p93_even' (c : Dev nD) (hp : c.val % 2 = 0) {v2 : BitVec 32} {v14 : BitVec 32} {v25 : BitVec 32} {v787 : BitVec 32} {v824 : BitVec 32} {v860 : BitVec 1} {v1007 : BitVec 32}
    {k} {Q : α → sProp 𝕄} :
    iprop(⌜v860 = 0#1⌝ ∗ env I K c ∗ ow c 10 ∗ pend c (csrS 1) ∗ pend c (cslS 1))
      ⊢ iprop(((ow c 10 ∗ wAny c ysrM ∗ wAny c yslM ∗ zero c (csrS 1) ∗ zero c (cslS 1)) -∗ WP c (k ⟨fmod (back v2 4#32) m16, m16, Scalar.remsi (back (Scalar.subi v2 1#32) 4#32) m16⟩) Q) -∗ WP c (onBufs (k0_part93 (F := F)) c v2 v14 v25 v787 v824 v860 v1007 >>= k) Q) := by
  iintro ⟨%hw, H⟩
  iapply (p93_even I K c hp hw) $$ H

set_option maxHeartbeats 2000000 in
/-- The blocks go on, their outputs are computed, and what comes is added. -/
theorem p99_even (c : Dev nD) (hp : c.val % 2 = 0) {v14 : BitVec 32} {v25 : BitVec 32} {v1025 : BitVec 32} {v1051 : BitVec 32} {v1062 : BitVec 32} {v1087 : BitVec 32} {v1098 : BitVec 1} {v1218 : BitVec 32} {v1232 : BitVec 1} {c1_i32_707 : BitVec 32}
    {k} {Q : α → sProp 𝕄} :
    iprop(env I K c ∗ ow c 10 ∗ inR I c 4 ∗ inL I c 4 ∗ toA c 4 ∗ ya2 c 4 ∗ pend c (crrS 2) ∗ pend c (crlS 2))
      ⊢ iprop(((ow c 12 ∗ xg2 c 4 ∗ yaA I c 4 ∗ ownAny c rrM (r4 2) ∗ ownAny c rlM (r3 2) ∗ zA c 4) -∗ WP c (k (Scalar.extui (Scalar.xori v1098 1#1))) Q) -∗ WP c (onBufs (k0_part99 (F := F)) c v14 v25 (k0_pay166 (I.ks c)) (k0_pay167 (I.vs c)) (k0_pay168 (I.wq c)) (k0_pay169 (I.wo c)) (wt I c).m2 v1025 v1051 v1062 v1087 v1098 v1218 v1232 c1_i32_707 >>= k) Q) := by
  obtain ⟨-, -, -, -, -, -, -, -, -, -, -, -, -, -, -, -, -, -, -, -, -, h24, h25, h26, h27, h28, h29, -⟩ := conds_even c hp
  obtain ⟨-, -, -, -, -, -, -, -, -, -, -, -, -, -, -, o48, o49, o52, o53, o54, o55, o58, o59, -⟩ := offs_even c hp
  obtain ⟨-, -, -, -, -, -, -, -, d15, d16, -⟩ := devs_even c hp
  simp only [onBufs, k0_part99_eq_skeleton, k0_part99_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, dif_pos h24, dif_neg h25, dif_pos h26, dif_neg h27, dif_pos h28, dif_pos h29, Prog.lift, Prog.bind_op, Prog.bind_ret, Prog.pure_eq_ret, Prog.bind_assoc]
  unfold ya2
  iintro ⟨#HE, HO, HR, HL, HT, ⟨Y1, Y2⟩, P1, P2⟩ Hk
  iapply (blk_send I K (g := 4) (by omega) (by omega) (Fin.ext d15) (Fin.ext d16) o48 o49) $$ [HO HR HL HT]
  · isplitr; · iexact HE
    isplitl [HO]; · iexact HO
    iframe
  iintro ⟨HO, Hx0, Hx1, Hx2, Hx3, P3, P4⟩
  iapply (comp2 (j := slotR c 4) (j' := slotL c 4) (X := xb I (dm c 4)) (Y := xb I (dp c 4)) (q := fullShare.left) (q' := fullShare.left) o52 o53 o52 o53 o54 o55 o54 o55) $$ [Hx0 Hx2 Y1 Y2]
  · iframe
  iintro ⟨Hx0, Hx2, Y1, Y2⟩
  ihave Y := (yaP_intro I c (g := 4) (by omega)) $$ [Y1 Y2]
  · isplitl [Y1]; · iexact Y1
    iexact Y2
  unfold yaP
  icases Y with ⟨Y1, Y2⟩
  iapply (chk_add I K (k := 2) (by omega) (by omega) (credit_sq _ _ _) (credit_sq _ _ _) o58 rfl rfl o59 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (blk_wait I K (g := 4) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2 yaA
  isplitl [HO]; · iexact HO
  isplitl [X1 X2]; · iframe
  isplitl [Y1 Y2]
  · isplitl [Y1]; · iexact Y1
    iexact Y2
  isplitl [M1]; · iexact M1
  isplitl [M2]; · iexact M2
  iapply (zA_mid (k := 2) (by omega)); iframe

set_option maxHeartbeats 2000000 in
/-- Nothing is left to be done at the fourth tick. -/
theorem p100_even (c : Dev nD) (hp : c.val % 2 = 0) {v2 : BitVec 32} {v1250 : BitVec 32} (hw : v1250 = 0#32)
    {k} {Q : α → sProp 𝕄} :
    iprop(env I K c ∗ ow c 12)
      ⊢ iprop(((ow c 12) -∗ WP c (k ⟨fmod (back v2 5#32) m16, fmod (back (Scalar.subi v2 1#32) 5#32) m16, back (Scalar.addi v2 1#32) 5#32, 16#32, Scalar.cmpi .eq 16#32 0#32, 1#32⟩) Q) -∗ WP c (onBufs (k0_part100 (F := F)) v2 v1250 >>= k) Q) := by
  subst hw
  simp only [onBufs, k0_part100_eq_skeleton, k0_part100_skel, dif_neg (show ¬Scalar.cmpi .ne 0#32 0#32 = 1#1 by decide), Prog.lift, Prog.bind_op, Prog.bind_ret, Prog.pure_eq_ret, Prog.bind_assoc]
  iintro ⟨#HE, HO⟩ Hk
  iapply Hk
  iexact HO

theorem p100_even' (c : Dev nD) (hp : c.val % 2 = 0) {v2 : BitVec 32} {v1250 : BitVec 32}
    {k} {Q : α → sProp 𝕄} :
    iprop(⌜v1250 = 0#32⌝ ∗ env I K c ∗ ow c 12)
      ⊢ iprop(((ow c 12) -∗ WP c (k ⟨fmod (back v2 5#32) m16, fmod (back (Scalar.subi v2 1#32) 5#32) m16, back (Scalar.addi v2 1#32) 5#32, 16#32, Scalar.cmpi .eq 16#32 0#32, 1#32⟩) Q) -∗ WP c (onBufs (k0_part100 (F := F)) v2 v1250 >>= k) Q) := by
  iintro ⟨%hw, H⟩
  iapply (p100_even I K c hp hw) $$ H

set_option maxHeartbeats 2000000 in
/-- The device sends no blocks at the fifth tick. -/
theorem p105_even (c : Dev nD) (hp : c.val % 2 = 0) {v14 : BitVec 32} {v25 : BitVec 32} {v1312 : BitVec 32} {v1336 : BitVec 1} {c2_i32_848 : BitVec 32} {v1439 : BitVec 32} {v1441 : BitVec 32} {c0_i32_850 : BitVec 32}
    {k} {Q : α → sProp 𝕄} :
    iprop(env I K c ∗ ow c 12)
      ⊢ iprop((∀ r, (ow c 12) -∗ WP c (k r) Q) -∗ WP c (onBufs (k0_part105 (F := F)) c v14 v25 v1312 v1336 c2_i32_848 v1439 v1441 c0_i32_850 >>= k) Q) := by
  obtain ⟨-, -, -, -, -, -, -, -, -, -, -, -, -, -, -, -, -, -, -, -, -, -, -, -, -, -, -, h31, -⟩ := conds_even c hp
  simp only [onBufs, k0_part105_eq_skeleton, k0_part105_skel, dif_neg h31, Prog.lift, Prog.bind_op, Prog.bind_ret, Prog.pure_eq_ret, Prog.bind_assoc]
  iintro ⟨#HE, HO⟩ Hk
  iapply Hk
  iexact HO

end

end Cert.RingAttn
-- ==== Proof.Even3.lean ====
module

public import proofs.«01_k».proof.Proof.Part

@[expose] public section

/-! The later ticks of a device of even number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The device's partial outputs go on and the next blocks come. -/
theorem p106_even (c : Dev nD) (hp : c.val % 2 = 0) {v2 : BitVec 32} {v14 : BitVec 32} {v25 : BitVec 32} {v1263 : BitVec 32} {v1289 : BitVec 32} {v1300 : BitVec 32} {v1325 : BitVec 32} {v1336 : BitVec 1} {v1476 : BitVec 32} {c0_i32_874 : BitVec 32} (hw : v1336 = 0#1)
    {k} {Q : α → sProp 𝕄} :
    iprop(env I K c ∗ ow c 12 ∗ yaA I c 4 ∗ wAny c ysrM ∗ wAny c yslM ∗ toB c 3 ∗ pend c (brrS 5) ∗ pend c (brlS 5))
      ⊢ iprop(((ow c 14 ∗ ya2 c 4 ∗ wAny c ysrM ∗ wAny c yslM ∗ inR I c 6 ∗ inL I c 6 ∗ zB c 5) -∗ WP c (k ⟨m16, Scalar.remsi (back v2 6#32) m16, Scalar.cmpi .ne (Scalar.remsi (back v2 6#32) m16) 0#32⟩) Q) -∗ WP c (onBufs (k0_part106 (F := F)) c v2 v14 v25 (k0_pay166 (I.ks c)) (k0_pay167 (I.vs c)) (k0_pay168 (I.wq c)) (k0_pay169 (I.wo c)) (wt I c).m2 v1263 v1289 v1300 v1325 v1336 v1476 c0_i32_874 >>= k) Q) := by
  obtain ⟨-, -, -, -, -, -, -, -, -, -, -, -, -, -, -, -, -, -, -, -, -, -, -, -, -, -, -, -, h32, h33, h34, h35, h36, -⟩ := conds_even c hp
  obtain ⟨-, -, -, -, -, -, -, -, -, -, -, -, -, -, -, -, -, -, -, -, -, -, -, o64, o65, -⟩ := offs_even c hp
  obtain ⟨-, -, -, -, -, -, -, -, -, -, d21, d22, -⟩ := devs_even c hp
  subst hw
  simp only [onBufs, k0_part106_eq_skeleton, k0_part106_skel, k0_part34_eq_skeleton, k0_part34_skel, dif_pos h32, dif_neg h33, dif_pos h34, dif_neg h35, dif_neg h36, dif_pos (show Scalar.cmpi .ne (Scalar.extui (Scalar.xori 0#1 1#1) : BitVec 32) 0#32 = 1#1 by decide), Prog.lift, Prog.bind_op, Prog.bind_ret, Prog.pure_eq_ret, Prog.bind_assoc]
  iintro ⟨#HE, HO, Y, W1, W2, HT, P1, P2⟩ Hk
  unfold yaA
  icases Y with ⟨Y1, Y2⟩
  iapply (chk_send I K (k := 3) (by omega) (by omega) (Fin.ext d21) (Fin.ext d22) o64 rfl z3 z3 rfl o65 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (blk_recv I K (g := 5) (by omega) (by omega) (credit_sq _ _ _) (credit_sq _ _ _)) $$ [HO P1 P2]
  · isplitr; · iexact HE
    isplitl [HO]; · iexact HO
    iframe
  iintro ⟨HO, HR, HL, Z3, Z4⟩
  iapply (chk_wait I K (k := 3) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  isplitl [Y1 Y2]
  · unfold ya2; iframe
  isplitl [W1]; · iexact W1
  isplitl [W2]; · iexact W2
  isplitl [HR]; · iexact HR
  isplitl [HL]; · iexact HL
  iapply (zB_mid (k := 3) (by omega)); iframe

theorem p106_even' (c : Dev nD) (hp : c.val % 2 = 0) {v2 : BitVec 32} {v14 : BitVec 32} {v25 : BitVec 32} {v1263 : BitVec 32} {v1289 : BitVec 32} {v1300 : BitVec 32} {v1325 : BitVec 32} {v1336 : BitVec 1} {v1476 : BitVec 32} {c0_i32_874 : BitVec 32}
    {k} {Q : α → sProp 𝕄} :
    iprop(⌜v1336 = 0#1⌝ ∗ env I K c ∗ ow c 12 ∗ yaA I c 4 ∗ wAny c ysrM ∗ wAny c yslM ∗ toB c 3 ∗ pend c (brrS 5) ∗ pend c (brlS 5))
      ⊢ iprop(((ow c 14 ∗ ya2 c 4 ∗ wAny c ysrM ∗ wAny c yslM ∗ inR I c 6 ∗ inL I c 6 ∗ zB c 5) -∗ WP c (k ⟨m16, Scalar.remsi (back v2 6#32) m16, Scalar.cmpi .ne (Scalar.remsi (back v2 6#32) m16) 0#32⟩) Q) -∗ WP c (onBufs (k0_part106 (F := F)) c v2 v14 v25 (k0_pay166 (I.ks c)) (k0_pay167 (I.vs c)) (k0_pay168 (I.wq c)) (k0_pay169 (I.wo c)) (wt I c).m2 v1263 v1289 v1300 v1325 v1336 v1476 c0_i32_874 >>= k) Q) := by
  iintro ⟨%hw, H⟩
  iapply (p106_even I K c hp hw) $$ H

set_option maxHeartbeats 2000000 in
/-- The blocks go on, their outputs are computed, and what comes is added. -/
theorem p112_even (c : Dev nD) (hp : c.val % 2 = 0) {v14 : BitVec 32} {v25 : BitVec 32} {v1501 : BitVec 32} {v1527 : BitVec 32} {v1538 : BitVec 32} {v1550 : BitVec 32} {v1563 : BitVec 32} {v1574 : BitVec 1} {c2_i32_1009 : BitVec 32} {v1694 : BitVec 32}
    {k} {Q : α → sProp 𝕄} :
    iprop(env I K c ∗ ow c 14 ∗ inR I c 6 ∗ inL I c 6 ∗ toA c 6 ∗ ya2 c 6)
      ⊢ iprop((∀ r, (ow c 16 ∗ sent I c 6 ∗ yaP I c 6) -∗ WP c (k r) Q) -∗ WP c (onBufs (k0_part112 (F := F)) c v14 v25 (k0_pay166 (I.ks c)) (k0_pay167 (I.vs c)) (k0_pay168 (I.wq c)) (k0_pay169 (I.wo c)) (wt I c).m2 v1501 v1527 v1538 v1550 v1563 v1574 c2_i32_1009 v1694 >>= k) Q) := by
  obtain ⟨-, -, -, -, -, -, -, -, -, -, -, -, -, -, -, -, -, -, -, -, -, -, -, -, -, -, -, -, -, -, -, -, -, h38, h39, h40, h41, -⟩ := conds_even c hp
  obtain ⟨-, -, -, -, -, -, -, -, -, -, -, -, -, -, -, -, -, -, -, -, -, -, -, -, -, o76, o77, o80, o81, o82, o83, -⟩ := offs_even c hp
  obtain ⟨-, -, -, -, -, -, -, -, -, -, -, -, d23, d24, -⟩ := devs_even c hp
  simp only [onBufs, k0_part112_eq_skeleton, k0_part112_skel, k0_part43_eq_skeleton, k0_part43_skel, k0_part44_eq_skeleton, k0_part44_skel, k0_part45_eq_skeleton, k0_part45_skel, k0_part46_eq_skeleton, k0_part46_skel, k0_part47_eq_skeleton, k0_part47_skel, dif_pos h38, dif_neg h39, dif_pos h40, dif_neg h41, Prog.lift, Prog.bind_op, Prog.bind_ret, Prog.pure_eq_ret, Prog.bind_assoc]
  unfold ya2
  iintro ⟨#HE, HO, HR, HL, HT, Y1, Y2⟩ Hk
  iapply (blk_send I K (g := 6) (by omega) (by omega) (Fin.ext d23) (Fin.ext d24) o76 o77) $$ [HO HR HL HT]
  · isplitr; · iexact HE
    isplitl [HO]; · iexact HO
    iframe
  iintro ⟨HO, Hx0, Hx1, Hx2, Hx3, P3, P4⟩
  iapply (comp2 (j := slotR c 6) (j' := slotL c 6) (X := xb I (dm c 6)) (Y := xb I (dp c 6)) (q := fullShare.left) (q' := fullShare.left) o80 o81 o80 o81 o82 o83 o82 o83) $$ [Hx0 Hx2 Y1 Y2]
  · iframe
  iintro ⟨Hx0, Hx2, Y1, Y2⟩
  ihave Y := (yaP_intro I c (g := 6) (by omega)) $$ [Y1 Y2]
  · isplitl [Y1]; · iexact Y1
    iexact Y2
  iapply Hk
  unfold sent
  isplitl [HO]; · iexact HO
  isplitr [Y]
  · iframe
  · iexact Y

set_option maxHeartbeats 2000000 in
/-- The blocks go on, their outputs are computed, and what comes is added. -/
theorem p113_even (c : Dev nD) (hp : c.val % 2 = 0) {v2 : BitVec 32} {v14 : BitVec 32} {v25 : BitVec 32} {v1501 : BitVec 32} {v1538 : BitVec 32} {v1574 : BitVec 1} {v1721 : BitVec 32} (hw : v1574 = 1#1)
    {k} {Q : α → sProp 𝕄} :
    iprop(env I K c ∗ ow c 16 ∗ sent I c 6 ∗ yaP I c 6 ∗ pend c (crrS 4) ∗ pend c (crlS 4))
      ⊢ iprop(((ow c 16 ∗ xg2 c 6 ∗ yaA I c 6 ∗ ownAny c rrM (r4 4) ∗ ownAny c rlM (r3 4) ∗ zA c 6) -∗ WP c (k ⟨fmod (back v2 7#32) m16, m16, Scalar.remsi (back (Scalar.subi v2 1#32) 7#32) m16⟩) Q) -∗ WP c (onBufs (k0_part113 (F := F)) c v2 v14 v25 v1501 v1538 v1574 v1721 >>= k) Q) := by
  obtain ⟨-, -, -, -, -, -, -, -, -, -, -, -, -, -, -, -, -, -, -, -, -, -, -, -, -, -, -, -, -, -, -, -, -, -, -, -, -, h42, h43, -⟩ := conds_even c hp
  obtain ⟨-, -, -, -, -, -, -, -, -, -, -, -, -, -, -, -, -, -, -, -, -, -, -, -, -, -, -, -, -, -, -, o86, o87, -⟩ := offs_even c hp
  subst hw
  simp only [onBufs, k0_part113_eq_skeleton, k0_part113_skel, k0_part48_eq_skeleton, k0_part48_skel, k0_part49_eq_skeleton, k0_part49_skel, dif_pos h42, dif_pos h43, dif_neg (show ¬Scalar.cmpi .ne (Scalar.extui (Scalar.xori 1#1 1#1) : BitVec 32) 0#32 = 1#1 by decide), Prog.lift, Prog.bind_op, Prog.bind_ret, Prog.pure_eq_ret, Prog.bind_assoc]
  unfold sent
  iintro ⟨#HE, HO, ⟨Hx0, Hx1, Hx2, Hx3, P3, P4⟩, Y, P1, P2⟩ Hk
  unfold yaP
  icases Y with ⟨Y1, Y2⟩
  iapply (chk_add I K (k := 4) (by omega) (by omega) (credit_sq _ _ _) (credit_sq _ _ _) o86 rfl rfl o87 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (blk_wait I K (g := 6) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2 yaA
  isplitl [HO]; · iexact HO
  isplitl [X1 X2]; · iframe
  isplitl [Y1 Y2]
  · isplitl [Y1]; · iexact Y1
    iexact Y2
  isplitl [M1]; · iexact M1
  isplitl [M2]; · iexact M2
  iapply (zA_mid (k := 4) (by omega)); iframe

theorem p113_even' (c : Dev nD) (hp : c.val % 2 = 0) {v2 : BitVec 32} {v14 : BitVec 32} {v25 : BitVec 32} {v1501 : BitVec 32} {v1538 : BitVec 32} {v1574 : BitVec 1} {v1721 : BitVec 32}
    {k} {Q : α → sProp 𝕄} :
    iprop(⌜v1574 = 1#1⌝ ∗ env I K c ∗ ow c 16 ∗ sent I c 6 ∗ yaP I c 6 ∗ pend c (crrS 4) ∗ pend c (crlS 4))
      ⊢ iprop(((ow c 16 ∗ xg2 c 6 ∗ yaA I c 6 ∗ ownAny c rrM (r4 4) ∗ ownAny c rlM (r3 4) ∗ zA c 6) -∗ WP c (k ⟨fmod (back v2 7#32) m16, m16, Scalar.remsi (back (Scalar.subi v2 1#32) 7#32) m16⟩) Q) -∗ WP c (onBufs (k0_part113 (F := F)) c v2 v14 v25 v1501 v1538 v1574 v1721 >>= k) Q) := by
  iintro ⟨%hw, H⟩
  iapply (p113_even I K c hp hw) $$ H

set_option maxHeartbeats 2000000 in
/-- The device's partial outputs go on and the next blocks come. -/
theorem p117_even (c : Dev nD) (hp : c.val % 2 = 0) {v14 : BitVec 32} {v25 : BitVec 32} {v1739 : BitVec 32} {v1765 : BitVec 32} {v1776 : BitVec 32} {v1789 : BitVec 32} {v1800 : BitVec 1} {v1852 : BitVec 32} {v1863 : BitVec 1} {v1864 : BitVec 32}
    {k} {Q : α → sProp 𝕄} :
    iprop(env I K c ∗ ow c 16 ∗ yaA I c 6 ∗ wAny c ysrM ∗ wAny c yslM ∗ toB c 5 ∗ pend c (brrS 7))
      ⊢ iprop(((ow c 18 ∗ ya2 c 6 ∗ pend c (csrS 5) ∗ pend c (cslS 5) ∗ inR I c 8 ∗ zero c (brrS 7)) -∗ WP c (k (Scalar.extui (Scalar.xori v1800 1#1))) Q) -∗ WP c (onBufs (k0_part117 (F := F)) c v14 v25 (k0_pay166 (I.ks c)) (k0_pay167 (I.vs c)) (k0_pay168 (I.wq c)) (k0_pay169 (I.wo c)) (wt I c).m2 v1739 v1765 v1776 v1789 v1800 v1852 v1863 v1864 >>= k) Q) := by
  obtain ⟨-, -, -, -, -, -, -, -, -, -, -, -, -, -, -, -, -, -, -, -, -, -, -, -, -, -, -, -, -, -, -, -, -, -, -, -, -, -, -, h45, h46, h47, h48, h49, h50, -⟩ := conds_even c hp
  obtain ⟨-, -, -, -, -, -, -, -, -, -, -, -, -, -, -, -, -, -, -, -, -, -, -, -, -, -, -, -, -, -, -, -, -, o91, o92, -⟩ := offs_even c hp
  obtain ⟨-, -, -, -, -, -, -, -, -, -, -, -, -, -, d28, d29, -⟩ := devs_even c hp
  simp only [onBufs, k0_part117_eq_skeleton, k0_part117_skel, k0_part50_eq_skeleton, k0_part50_skel, dif_neg h45, dif_pos h46, dif_neg h47, dif_pos h48, dif_neg h49, dif_neg h50, Prog.lift, Prog.bind_op, Prog.bind_ret, Prog.pure_eq_ret, Prog.bind_assoc]
  iintro ⟨#HE, HO, Y, W1, W2, HT, P1⟩ Hk
  unfold yaA
  icases Y with ⟨Y1, Y2⟩
  iapply (chk_send I K (k := 5) (by omega) (by omega) (Fin.ext d28) (Fin.ext d29) o91 rfl z3 z3 rfl o92 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (wait_f I K (dec_brr (g := 7) (by omega)) (by simp [usedF]; omega) (p := 18) (by omega) (by decide) (credit_sq _ _ _)) $$ [HO P1]
  · isplitr; · iexact HE
    isplitl [HO]; · iexact HO
    iexact P1
  iintro ⟨HO, Z3, HR⟩
  iapply Hk
  isplitl [HO]; · iexact HO
  isplitl [Y1 Y2]
  · unfold ya2; iframe
  ihave HR := (pay_brr7 I c false) $$ HR
  isplitl [C1]; · iexact C1
  isplitl [C2]; · iexact C2
  isplitl [HR]; · iexact HR
  unfold zero; iexact Z3

set_option maxHeartbeats 2000000 in
/-- The partial outputs sent are there. -/
theorem p118_even (c : Dev nD) (hp : c.val % 2 = 0) {v2 : BitVec 32} {v1884 : BitVec 32} (hw : v1884 = 1#32)
    {k} {Q : α → sProp 𝕄} :
    iprop(env I K c ∗ ow c 18 ∗ pend c (csrS 5) ∗ pend c (cslS 5))
      ⊢ iprop(((ow c 18 ∗ wAny c ysrM ∗ wAny c yslM ∗ zero c (csrS 5) ∗ zero c (cslS 5)) -∗ WP c (k ⟨fmod (back v2 8#32) m16, fmod (back (Scalar.addi v2 1#32) 8#32) m16, m2, Scalar.remsi (fmod (back v2 8#32) m16) m2, Scalar.cmpi .ne (Scalar.remsi (fmod (back v2 8#32) m16) m2) 0#32, Scalar.cmpi .slt (Scalar.remsi (fmod (back v2 8#32) m16) m2) 0#32, Scalar.cmpi .slt m2 0#32⟩) Q) -∗ WP c (onBufs (k0_part118 (F := F)) v2 v1884 >>= k) Q) := by
  subst hw
  simp only [onBufs, k0_part118_eq_skeleton, k0_part118_skel, dif_pos (show Scalar.cmpi .ne 1#32 0#32 = 1#1 by decide), Prog.lift, Prog.bind_op, Prog.bind_ret, Prog.pure_eq_ret, Prog.bind_assoc]
  iintro ⟨#HE, HO, C1, C2⟩ Hk
  iapply (chk_wait I K (k := 5) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  iframe

theorem p118_even' (c : Dev nD) (hp : c.val % 2 = 0) {v2 : BitVec 32} {v1884 : BitVec 32}
    {k} {Q : α → sProp 𝕄} :
    iprop(⌜v1884 = 1#32⌝ ∗ env I K c ∗ ow c 18 ∗ pend c (csrS 5) ∗ pend c (cslS 5))
      ⊢ iprop(((ow c 18 ∗ wAny c ysrM ∗ wAny c yslM ∗ zero c (csrS 5) ∗ zero c (cslS 5)) -∗ WP c (k ⟨fmod (back v2 8#32) m16, fmod (back (Scalar.addi v2 1#32) 8#32) m16, m2, Scalar.remsi (fmod (back v2 8#32) m16) m2, Scalar.cmpi .ne (Scalar.remsi (fmod (back v2 8#32) m16) m2) 0#32, Scalar.cmpi .slt (Scalar.remsi (fmod (back v2 8#32) m16) m2) 0#32, Scalar.cmpi .slt m2 0#32⟩) Q) -∗ WP c (onBufs (k0_part118 (F := F)) v2 v1884 >>= k) Q) := by
  iintro ⟨%hw, H⟩
  iapply (p118_even I K c hp hw) $$ H

end

end Cert.RingAttn
-- ==== Proof.Even4.lean ====
module

public import proofs.«01_k».proof.Proof.Part

@[expose] public section

/-! The last tick of a device of even number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The last tick: the outputs that went round come, and the device's own is put together. -/
theorem p119_even (c : Dev nD) (hp : c.val % 2 = 0) {v2 : BitVec 32} {v14 : BitVec 32} {v25 : BitVec 32} {v36 : BitVec 1} {v118 : BitVec 32} {v129 : BitVec 32} {v1897 : BitVec 32} {v1910 : BitVec 32} {v1912 : BitVec 32} {v1913 : BitVec 32} {v1914 : BitVec 1} {v1915 : BitVec 1} {v1916 : BitVec 1} (hv : v36 = 1#1) (hw : Scalar.cmpi .eq (Scalar.select (Scalar.andi (Scalar.xori v1915 v1916) v1914) (Scalar.addi v1913 v1912) v1913) 0#32 = 1#1)
    {k} {Q : α → sProp 𝕄} :
    iprop(env I K c ∗ ow c 18 ∗ inR I c 8 ∗ ownAny c yaM (slotR c 8) ∗ own c yaM (slotR c 0) fullShare (pR I c 0) ∗ pend c (crrS 6) ∗ wAny c ysrM
      ∗ (sndRes c (opp c) fsrS frrS ∗ pend c frrS ∗ pend c frlS) ∗ wAny c st5 ∗ dutyTok ER (cellAt (lf c) exitS) 0 true)
      ⊢ iprop(((ow c 22 ∗ ownAny c xgM (slotR c 8) ∗ ownAny c yaM (slotR c 8) ∗ ownAny c yaM (slotR c 0) ∗ ownAny c rrM (r4 6) ∗ zA c 8 ∗ wAny c ysrM ∗ wAny c yfrM ∗ wAny c yflM
      ∗ (zero c fsrS ∗ zero c frrS ∗ zero c frlS) ∗ owns (c : Thread nD τ) st5 fullShare (outV I c)) -∗ WP c (k 1#32) Q) -∗ WP c (onBufs (k0_part119 (F := F)) c v2 v14 v25 v36 (k0_pay166 (I.ks c)) (k0_pay167 (I.vs c)) (k0_pay168 (I.wq c)) (k0_pay169 (I.wo c)) (wt I c).m1 v118 v129 v1897 v1910 v1912 v1913 v1914 v1915 v1916 >>= k) Q) := by
  obtain ⟨-, -, -, -, -, -, -, -, -, -, -, -, -, -, -, -, -, -, -, -, -, -, -, -, -, -, -, -, -, -, -, -, -, -, -, -, -, -, -, -, -, -, -, -, -, h52, h53, h54, h55, h58⟩ := conds_even c hp
  obtain ⟨-, -, -, -, -, -, -, -, -, -, -, -, -, -, -, -, -, -, -, -, -, -, -, -, -, -, -, -, -, -, -, -, -, -, -, o103, o104, o105, o106, o107⟩ := offs_even c hp
  obtain ⟨-, -, -, -, -, -, -, -, -, -, -, -, -, -, -, -, d32, d33, -⟩ := devs_even c hp
  subst hv
  simp only [onBufs, k0_part119_eq_skeleton, k0_part119_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, hw, dif_neg h52, dif_neg h53, dif_pos h54, dif_pos h55, dif_pos h58, dif_neg (show ¬Scalar.cmpi .ne (Scalar.extui (Scalar.xori 1#1 1#1) : BitVec 32) 0#32 = 1#1 by decide), semSignalWord, Prog.lift, Prog.bind_op, Prog.bind_ret, Prog.pure_eq_ret, Prog.bind_assoc]
  unfold inR riderR
  iintro ⟨#HE, HO, ⟨HR, Hf, #Hq⟩, Y8, Y0, P1, Wr, ⟨S1, P2, P3⟩, Wo, HD⟩ Hk
  iapply (comp1 o103 o103 o104 o104) $$ [HR Y8]
  · iframe
  iintro ⟨HR, Y8⟩
  ihave HO := (Entails.of_eq (ow2 c (n := 18) (by omega) (by clear * - hp; revert hp; revert c; decide +kernel))) $$ HO
  ihave HO := (Entails.of_eq (congrArg (ow c) (show 18 + 2 = 20 from rfl))) $$ HO
  iapply (add_in I K (dec_crr (g := 6) (by omega)) (by simp [usedF]; omega) (p := 20) (by omega) (by decide) (m := rrM) (i := r4 6) (j := slotR c 8) rfl (credit_sq _ _ _) o105 rfl (f := fun v v' => k0_pay210 (k0_pay162 v v'))) $$ [HO Y8 P1]
  · isplitr; · iexact HE
    isplitl [HO]; · iexact HO
    isplitl [Y8]; · iexact Y8
    iexact P1
  iintro ⟨HO, Z1, M1, Y8⟩
  iapply (ld_slot (m := yaM) c o106) $$ Y8
  iintro Y8
  unfold wAny
  icases Wr with ⟨%w, Wr⟩
  iapply (ld_w (i := cc0_scratch4.idx) (hκ := rfl) z3) $$ Wr
  iintro Wr
  iapply (st_w (i := cc0_scratch4.idx) (hκ := rfl) z3) $$ Wr
  iintro Wr
  iapply (fin_sendR I K hp (Fin.ext d32) (congrArg msg (accR_step I c 6))) $$ [HO Wr Hf S1]
  · isplitr; · iexact HE
    isplitl [HO]; · iexact HO
    isplitl [Wr]; · iexact Wr
    isplitl [Hf]
    · rw [← dm_eight]; unfold riderR
      isplitl [Hf]
      · unfold wAny; iexact Hf
      · iexact Hq
    iexact S1
  iintro ⟨HO, P4⟩
  iapply (wait_f I K (f := (.frl, 0)) rfl (by simp [usedF, hp]) (p := 21) (by omega) (by decide) (show yflM.view.dmaCredit = N from rfl)) $$ [HO P3]
  · isplitr; · iexact HE
    isplitl [HO]; · iexact HO
    iexact P3
  iintro ⟨HO, Zl, Fl⟩
  iapply (wait_f I K (f := (.frr, 0)) rfl (by simp [usedF, hp]) (p := 21) (by omega) (by decide) (show yfrM.view.dmaCredit = N from rfl)) $$ [HO P2]
  · isplitr; · iexact HE
    isplitl [HO]; · iexact HO
    iexact P2
  iintro ⟨HO, Zr, Fr⟩
  ihave Fl := (pay_frl I c false) $$ Fl
  ihave Fr := (pay_frr I c false) $$ Fr
  iapply (ld_slot (m := yaM) c o107) $$ Y0
  iintro Y0
  iapply (ld_w (i := cc0_scratch7.idx) (hκ := rfl) z3) $$ Fl
  iintro Fl
  iapply (ld_w (i := cc0_scratch6.idx) (hκ := rfl) z3) $$ Fr
  iintro Fr
  icases Wo with ⟨%w', Wo⟩
  iapply (ld_w (i := cc0_stg5_0.idx) (hκ := rfl) z3) $$ Wo
  iintro Wo
  iapply (st_w (i := cc0_stg5_0.idx) (hκ := rfl) z3) $$ Wo
  iintro Wo
  iapply (wait_f I K (f := (.fsr, 0)) rfl (by simp [usedF, hp]) (p := 21) (by omega) (by decide) (show ysrM.view.dmaCredit = N from rfl)) $$ [HO P4]
  · isplitr; · iexact HE
    isplitl [HO]; · iexact HO
    iexact P4
  iintro ⟨HO, Zs, Wr⟩
  iapply (end_l I K (Fin.ext d33) rfl) $$ [HO HD]
  · isplitr; · iexact HE
    isplitl [HO]; · iexact HO
    iexact HD
  iintro HO
  iapply Hk
  ihave Wr := (show pay I c false (.fsr, 0) ⊢ iprop(∃ X, owns (c : Thread nD τ) ysrM fullShare X) from BI.Entails.refl _) $$ Wr
  unfold zero
  rw [show outV I c = k0_pay164 (pR I c 0) (msg (accL I 7 (dp c 9))) (msg (accR I 8 (opp c))) from if_pos hp]
  isplitl [HO]; · iexact HO
  isplitl [HR]; · iapply own_any; iexact HR
  isplitl [Y8]; · iapply own_any; iexact Y8
  isplitl [Y0]; · iapply own_any; iexact Y0
  isplitl [M1]; · iapply own_any; iexact M1
  isplitl [Z1]; · iapply zA_8; unfold zero; iexact Z1
  isplitl [Wr]; · iexact Wr
  isplitl [Fr]; · iexists _; iexact Fr
  isplitl [Fl]; · iexists _; iexact Fl
  isplitr [Wo]
  · isplitl [Zs]; · iexact Zs
    isplitl [Zr]; · iexact Zr
    iexact Zl
  · iexact Wo

theorem p119_even' (c : Dev nD) (hp : c.val % 2 = 0) {v2 : BitVec 32} {v14 : BitVec 32} {v25 : BitVec 32} {v36 : BitVec 1} {v118 : BitVec 32} {v129 : BitVec 32} {v1897 : BitVec 32} {v1910 : BitVec 32} {v1912 : BitVec 32} {v1913 : BitVec 32} {v1914 : BitVec 1} {v1915 : BitVec 1} {v1916 : BitVec 1}
    {k} {Q : α → sProp 𝕄} :
    iprop(⌜v36 = 1#1 ∧ Scalar.cmpi .eq (Scalar.select (Scalar.andi (Scalar.xori v1915 v1916) v1914) (Scalar.addi v1913 v1912) v1913) 0#32 = 1#1⌝ ∗ env I K c ∗ ow c 18 ∗ inR I c 8 ∗ ownAny c yaM (slotR c 8) ∗ own c yaM (slotR c 0) fullShare (pR I c 0) ∗ pend c (crrS 6) ∗ wAny c ysrM
      ∗ (sndRes c (opp c) fsrS frrS ∗ pend c frrS ∗ pend c frlS) ∗ wAny c st5 ∗ dutyTok ER (cellAt (lf c) exitS) 0 true)
      ⊢ iprop(((ow c 22 ∗ ownAny c xgM (slotR c 8) ∗ ownAny c yaM (slotR c 8) ∗ ownAny c yaM (slotR c 0) ∗ ownAny c rrM (r4 6) ∗ zA c 8 ∗ wAny c ysrM ∗ wAny c yfrM ∗ wAny c yflM
      ∗ (zero c fsrS ∗ zero c frrS ∗ zero c frlS) ∗ owns (c : Thread nD τ) st5 fullShare (outV I c)) -∗ WP c (k 1#32) Q) -∗ WP c (onBufs (k0_part119 (F := F)) c v2 v14 v25 v36 (k0_pay166 (I.ks c)) (k0_pay167 (I.vs c)) (k0_pay168 (I.wq c)) (k0_pay169 (I.wo c)) (wt I c).m1 v118 v129 v1897 v1910 v1912 v1913 v1914 v1915 v1916 >>= k) Q) := by
  iintro ⟨%h, H⟩
  iapply (p119_even I K c hp h.1 h.2) $$ H

end

end Cert.RingAttn
-- ==== Proof.Pure.lean ====
module

public import proofs.«01_k».proof.Proof.Part

@[expose] public section

/-! The parts of the body that only compute, and what the ticks are given. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

theorem p69 {c : Dev nD} {v2 : BitVec 32} {v110 : BitVec 32} {v111 : BitVec 32} {k} {Q : α → sProp 𝕄} :
    iprop(∀ r, WP c (k r) Q) ⊢ WP c (onBufs (k0_part69 (F := F)) v2 v110 v111 >>= k) Q := by
  refine skip ?_
  simp only [onBufs, k0_part69_eq_skeleton, k0_part69_skel, Prog.pure_eq_ret]
  exact ⟨_, rfl⟩

theorem p70 {c : Dev nD} {v2 : BitVec 32} {v141 : BitVec 32} {v146 : BitVec 32} {v147 : BitVec 32} {k} {Q : α → sProp 𝕄} :
    iprop(∀ r, WP c (k r) Q) ⊢ WP c (onBufs (k0_part70 (F := F)) v2 v141 v146 v147 >>= k) Q := by
  refine skip ?_
  simp only [onBufs, k0_part70_eq_skeleton, k0_part70_skel, Prog.pure_eq_ret]
  exact ⟨_, rfl⟩

theorem p71 {c : Dev nD} {v141 : BitVec 32} {v154 : BitVec 32} {v179 : BitVec 32} {v180 : BitVec 32} {v181 : BitVec 1} {v182 : BitVec 1} {v183 : BitVec 1} {k} {Q : α → sProp 𝕄} :
    iprop(∀ r, WP c (k r) Q) ⊢ WP c (onBufs (k0_part71 (F := F)) v141 v154 v179 v180 v181 v182 v183 >>= k) Q := by
  refine skip ?_
  simp only [onBufs, k0_part71_eq_skeleton, k0_part71_skel, Prog.pure_eq_ret]
  exact ⟨_, rfl⟩

theorem p72 {c : Dev nD} {v154 : BitVec 32} {v165 : BitVec 32} {c2_i32_116 : BitVec 32} {v223 : BitVec 32} {v225 : BitVec 32} {c0_i32_118 : BitVec 32} {k} {Q : α → sProp 𝕄} :
    iprop(∀ r, WP c (k r) Q) ⊢ WP c (onBufs (k0_part72 (F := F)) v154 v165 c2_i32_116 v223 v225 c0_i32_118 >>= k) Q := by
  refine skip ?_
  simp only [onBufs, k0_part72_eq_skeleton, k0_part72_skel, Prog.pure_eq_ret]
  exact ⟨_, rfl⟩

theorem p73 {c : Dev nD} {v165 : BitVec 32} {v177 : BitVec 32} {v257 : BitVec 32} {v268 : BitVec 1} {v269 : BitVec 32} {k} {Q : α → sProp 𝕄} :
    iprop(∀ r, WP c (k r) Q) ⊢ WP c (onBufs (k0_part73 (F := F)) v165 v177 v257 v268 v269 >>= k) Q := by
  refine skip ?_
  simp only [onBufs, k0_part73_eq_skeleton, k0_part73_skel, Prog.pure_eq_ret]
  exact ⟨_, rfl⟩

theorem p75 {c : Dev nD} {v2 : BitVec 32} {v337 : BitVec 32} {v338 : BitVec 32} {v339 : BitVec 1} {k} {Q : α → sProp 𝕄} :
    iprop(∀ r, WP c (k r) Q) ⊢ WP c (onBufs (k0_part75 (F := F)) v2 v337 v338 v339 >>= k) Q := by
  refine skip ?_
  simp only [onBufs, k0_part75_eq_skeleton, k0_part75_skel, Prog.pure_eq_ret]
  exact ⟨_, rfl⟩

theorem p76 {c : Dev nD} {v345 : BitVec 32} {v373 : BitVec 32} {v374 : BitVec 32} {v375 : BitVec 1} {k} {Q : α → sProp 𝕄} :
    iprop(∀ r, WP c (k r) Q) ⊢ WP c (onBufs (k0_part76 (F := F)) v345 v373 v374 v375 >>= k) Q := by
  refine skip ?_
  simp only [onBufs, k0_part76_eq_skeleton, k0_part76_skel, Prog.pure_eq_ret]
  exact ⟨_, rfl⟩

theorem p77 {c : Dev nD} {v345 : BitVec 32} {v358 : BitVec 32} {c2_i32_221 : BitVec 32} {v410 : BitVec 32} {v415 : BitVec 32} {c0_i32_224 : BitVec 32} {k} {Q : α → sProp 𝕄} :
    iprop(∀ r, WP c (k r) Q) ⊢ WP c (onBufs (k0_part77 (F := F)) v345 v358 c2_i32_221 v410 v415 c0_i32_224 >>= k) Q := by
  refine skip ?_
  simp only [onBufs, k0_part77_eq_skeleton, k0_part77_skel, Prog.pure_eq_ret]
  exact ⟨_, rfl⟩

theorem p78 {c : Dev nD} {v369 : BitVec 32} {v381 : BitVec 32} {v444 : BitVec 32} {v458 : BitVec 1} {c1_i32_241 : BitVec 32} {k} {Q : α → sProp 𝕄} :
    iprop(∀ r, WP c (k r) Q) ⊢ WP c (onBufs (k0_part78 (F := F)) v369 v381 v444 v458 c1_i32_241 >>= k) Q := by
  refine skip ?_
  simp only [onBufs, k0_part78_eq_skeleton, k0_part78_skel, Prog.pure_eq_ret]
  exact ⟨_, rfl⟩

theorem p83 {c : Dev nD} {v549 : BitVec 32} {v562 : BitVec 32} {c2_i32_351 : BitVec 32} {v640 : BitVec 32} {v642 : BitVec 32} {c0_i32_353 : BitVec 32} {k} {Q : α → sProp 𝕄} :
    iprop(∀ r, WP c (k r) Q) ⊢ WP c (onBufs (k0_part83 (F := F)) v549 v562 c2_i32_351 v640 v642 c0_i32_353 >>= k) Q := by
  refine skip ?_
  simp only [onBufs, k0_part83_eq_skeleton, k0_part83_skel, Prog.pure_eq_ret]
  exact ⟨_, rfl⟩

theorem p84 {c : Dev nD} {v586 : BitVec 32} {v598 : BitVec 32} {v674 : BitVec 32} {v685 : BitVec 1} {v686 : BitVec 32} {k} {Q : α → sProp 𝕄} :
    iprop(∀ r, WP c (k r) Q) ⊢ WP c (onBufs (k0_part84 (F := F)) v586 v598 v674 v685 v686 >>= k) Q := by
  refine skip ?_
  simp only [onBufs, k0_part84_eq_skeleton, k0_part84_skel, Prog.pure_eq_ret]
  exact ⟨_, rfl⟩

theorem p90 {c : Dev nD} {v800 : BitVec 32} {v824 : BitVec 32} {c2_i32_512 : BitVec 32} {v895 : BitVec 32} {k} {Q : α → sProp 𝕄} :
    iprop(∀ r, WP c (k r) Q) ⊢ WP c (onBufs (k0_part90 (F := F)) v800 v824 c2_i32_512 v895 >>= k) Q := by
  refine skip ?_
  simp only [onBufs, k0_part90_eq_skeleton, k0_part90_skel, Prog.pure_eq_ret]
  exact ⟨_, rfl⟩

theorem p91 {c : Dev nD} {v824 : BitVec 32} {v836 : BitVec 32} {c2_i32_526 : BitVec 32} {v929 : BitVec 32} {v934 : BitVec 32} {v936 : BitVec 32} {v937 : BitVec 1} {k} {Q : α → sProp 𝕄} :
    iprop(∀ r, WP c (k r) Q) ⊢ WP c (onBufs (k0_part91 (F := F)) v824 v836 c2_i32_526 v929 v934 v936 v937 >>= k) Q := by
  refine skip ?_
  simp only [onBufs, k0_part91_eq_skeleton, k0_part91_skel, Prog.pure_eq_ret]
  exact ⟨_, rfl⟩

theorem p96 {c : Dev nD} {v1025 : BitVec 32} {v1038 : BitVec 32} {c2_i32_652 : BitVec 32} {v1099 : BitVec 32} {v1104 : BitVec 32} {c0_i32_655 : BitVec 32} {k} {Q : α → sProp 𝕄} :
    iprop(∀ r, WP c (k r) Q) ⊢ WP c (onBufs (k0_part96 (F := F)) v1025 v1038 c2_i32_652 v1099 v1104 c0_i32_655 >>= k) Q := by
  refine skip ?_
  simp only [onBufs, k0_part96_eq_skeleton, k0_part96_skel, Prog.pure_eq_ret]
  exact ⟨_, rfl⟩

theorem p97 {c : Dev nD} {v1038 : BitVec 32} {v1062 : BitVec 32} {v1133 : BitVec 32} {v1147 : BitVec 1} {c1_i32_672 : BitVec 32} {k} {Q : α → sProp 𝕄} :
    iprop(∀ r, WP c (k r) Q) ⊢ WP c (onBufs (k0_part97 (F := F)) v1038 v1062 v1133 v1147 c1_i32_672 >>= k) Q := by
  refine skip ?_
  simp only [onBufs, k0_part97_eq_skeleton, k0_part97_skel, Prog.pure_eq_ret]
  exact ⟨_, rfl⟩

theorem p98 {c : Dev nD} {v1062 : BitVec 32} {v1074 : BitVec 32} {c2_i32_687 : BitVec 32} {v1184 : BitVec 32} {v1189 : BitVec 32} {c0_i32_690 : BitVec 32} {k} {Q : α → sProp 𝕄} :
    iprop(∀ r, WP c (k r) Q) ⊢ WP c (onBufs (k0_part98 (F := F)) v1062 v1074 c2_i32_687 v1184 v1189 c0_i32_690 >>= k) Q := by
  refine skip ?_
  simp only [onBufs, k0_part98_eq_skeleton, k0_part98_skel, Prog.pure_eq_ret]
  exact ⟨_, rfl⟩

theorem p103 {c : Dev nD} {v1263 : BitVec 32} {v1276 : BitVec 32} {c2_i32_813 : BitVec 32} {v1354 : BitVec 32} {v1356 : BitVec 32} {c0_i32_815 : BitVec 32} {k} {Q : α → sProp 𝕄} :
    iprop(∀ r, WP c (k r) Q) ⊢ WP c (onBufs (k0_part103 (F := F)) v1263 v1276 c2_i32_813 v1354 v1356 c0_i32_815 >>= k) Q := by
  refine skip ?_
  simp only [onBufs, k0_part103_eq_skeleton, k0_part103_skel, Prog.pure_eq_ret]
  exact ⟨_, rfl⟩

theorem p104 {c : Dev nD} {v1300 : BitVec 32} {v1312 : BitVec 32} {v1388 : BitVec 32} {v1399 : BitVec 1} {v1400 : BitVec 32} {k} {Q : α → sProp 𝕄} :
    iprop(∀ r, WP c (k r) Q) ⊢ WP c (onBufs (k0_part104 (F := F)) v1300 v1312 v1388 v1399 v1400 >>= k) Q := by
  refine skip ?_
  simp only [onBufs, k0_part104_eq_skeleton, k0_part104_skel, Prog.pure_eq_ret]
  exact ⟨_, rfl⟩

theorem p110 {c : Dev nD} {v1514 : BitVec 32} {v1538 : BitVec 32} {c2_i32_974 : BitVec 32} {v1609 : BitVec 32} {k} {Q : α → sProp 𝕄} :
    iprop(∀ r, WP c (k r) Q) ⊢ WP c (onBufs (k0_part110 (F := F)) v1514 v1538 c2_i32_974 v1609 >>= k) Q := by
  refine skip ?_
  simp only [onBufs, k0_part110_eq_skeleton, k0_part110_skel, Prog.pure_eq_ret]
  exact ⟨_, rfl⟩

theorem p111 {c : Dev nD} {v1538 : BitVec 32} {v1550 : BitVec 32} {c2_i32_988 : BitVec 32} {v1643 : BitVec 32} {v1648 : BitVec 32} {v1650 : BitVec 32} {v1651 : BitVec 1} {k} {Q : α → sProp 𝕄} :
    iprop(∀ r, WP c (k r) Q) ⊢ WP c (onBufs (k0_part111 (F := F)) v1538 v1550 c2_i32_988 v1643 v1648 v1650 v1651 >>= k) Q := by
  refine skip ?_
  simp only [onBufs, k0_part111_eq_skeleton, k0_part111_skel, Prog.pure_eq_ret]
  exact ⟨_, rfl⟩

theorem p116 {c : Dev nD} {v1739 : BitVec 32} {v1752 : BitVec 32} {c2_i32_1114 : BitVec 32} {v1818 : BitVec 32} {v1820 : BitVec 32} {c0_i32_1116 : BitVec 32} {k} {Q : α → sProp 𝕄} :
    iprop(∀ r, WP c (k r) Q) ⊢ WP c (onBufs (k0_part116 (F := F)) v1739 v1752 c2_i32_1114 v1818 v1820 c0_i32_1116 >>= k) Q := by
  refine skip ?_
  simp only [onBufs, k0_part116_eq_skeleton, k0_part116_skel, Prog.pure_eq_ret]
  exact ⟨_, rfl⟩

/-- What the blocks of a tick are sent with, and what the chunks are waited for with. -/
theorem toA_intro {c : Dev nD} {g k : ℕ} (h : g = k + 2) (hk : k < 5) :
    iprop(kA c g ∗ ownAny (rt c) xgM (slotR c g) ∗ ownAny (lf c) xgM (slotL c g)) ⊢ iprop((toA c g ∗ pend c (crrS k) ∗ pend c (crlS k) : sProp 𝕄)) := by
  subst h
  unfold toA
  iintro ⟨H, H1, H2⟩
  ihave H := (kA_mid hk) $$ H
  icases H with ⟨S1, S2, P1, P2⟩
  iframe

theorem toA_one {c : Dev nD} :
    iprop(kA c 1 ∗ ownAny (rt c) xgM (slotR c 1) ∗ ownAny (lf c) xgM (slotL c 1)) ⊢ (toA c 1 : sProp 𝕄) := by
  unfold toA
  iintro ⟨H, H1, H2⟩
  ihave H := (kA_lo (g := 1) (by omega)) $$ H
  icases H with ⟨S1, S2⟩
  iframe

theorem toB_intro {c : Dev nD} {g k : ℕ} (h : g = k + 2) (hk : k < 5) :
    iprop(kB c g ∗ ownAny (rt c) rrM (r4 k) ∗ ownAny (lf c) rlM (r3 k)) ⊢ iprop((toB c k ∗ pend c (brrS g) ∗ pend c (brlS g) : sProp 𝕄)) := by
  subst h
  unfold toB
  iintro ⟨H, H1, H2⟩
  ihave H := (kB_mid hk) $$ H
  icases H with ⟨S1, S2, P1, P2⟩
  iframe

theorem toB_five {c : Dev nD} :
    iprop(kB c 7 ∗ ownAny (rt c) rrM (r4 5) ∗ ownAny (lf c) rlM (r3 5)) ⊢ iprop((toB c 5 ∗ pend c (brrS 7) : sProp 𝕄)) := by
  unfold toB
  iintro ⟨H, H1, H2⟩
  ihave H := kB_7 $$ H
  icases H with ⟨S1, S2, P1⟩
  iframe

theorem ya2_intro (c : Dev nD) (g : ℕ) : iprop(ownAny c yaM (slotR c g) ∗ ownAny c yaM (slotL c g)) ⊢ (ya2 c g : sProp 𝕄) := BI.Entails.refl _

theorem kS_elim (c : Dev nD) (s : SemLoc sig) : (kS c s : sProp 𝕄) ⊢ iprop(dutyTok ER (cellAt (lf c) s) 0 true ∗ dutyTok ER (cellAt (rt c) s) 0 false
    ∗ atPos ER (cellAt c s) 0 ∅ 0 ∗ cred (tallyAt (cellAt c s) () 2)) := BI.Entails.refl _

theorem yaP_one {c : Dev nD} : yaP I c 1 ⊢ yaA I c 1 := by
  unfold yaP yaA
  have h1 : accR I 1 c = pR I c 1 := if_pos rfl
  have h2 : accL I 1 c = pL I c 1 := if_pos rfl
  rw [h1, h2]

end

end Cert.RingAttn
-- ==== Proof.Tails.lean ====
module

public import proofs.«01_k».proof.Proof.Pure

@[expose] public section

/-! The body cut at the ticks. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ
/-- The last signal. -/
def lastp (c : Dev nD) : Prog (TpuEff nD τ sig (Elt F) Λ₀ .tc) PUnit := do
  semSignalWord (⟨k0_dev34 c, k0_dev34_lt c⟩ : Dev nD) cc0_scoped0.sem 1#32
  pure ⟨⟩
/-- What is left of the body from the seventh tick on. -/
def tail114 (c : Dev nD) (v2 : BitVec 32) (v1744 : BitVec 32) (v1745 : BitVec 32) (v1739 : BitVec 32) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v1752, v1765, v1776, v1779, c16_i32_1094, v1780, c1_i32_1096⟩ : Σ' (v1752 : BitVec 32) (v1765 : BitVec 32) (v1776 : BitVec 32) (v1779 : BitVec 32) (c16_i32_1094 : BitVec 32) (v1780 : BitVec 1), BitVec 32 ← onBufs (k0_part114 (F := F)) v2 v1744 v1745
  let ⟨v1789, v1800, c2_i32_1114, v1818, v1820, c0_i32_1116⟩ : Σ' (v1789 : BitVec 32) (v1800 : BitVec 1) (c2_i32_1114 : BitVec 32) (v1818 : BitVec 32) (v1820 : BitVec 32), BitVec 32 ← onBufs (k0_part115 (F := F)) v1739 v1779 c16_i32_1094 v1780 c1_i32_1096
  let ⟨v1852, v1863, v1864⟩ : Σ' (v1852 : BitVec 32) (v1863 : BitVec 1), BitVec 32 ← onBufs (k0_part116 (F := F)) v1739 v1752 c2_i32_1114 v1818 v1820 c0_i32_1116
  let v1884 : BitVec 32 ← onBufs (k0_part117 (F := F)) c v14 v25 v46 v49 v52 v55 v107 v1739 v1765 v1776 v1789 v1800 v1852 v1863 v1864
  let ⟨v1897, v1910, v1912, v1913, v1914, v1915, v1916⟩ : Σ' (v1897 : BitVec 32) (v1910 : BitVec 32) (v1912 : BitVec 32) (v1913 : BitVec 32) (v1914 : BitVec 1) (v1915 : BitVec 1), BitVec 1 ← onBufs (k0_part118 (F := F)) v2 v1884
  let c1_i32_1220_r0 : BitVec 32 ← onBufs (k0_part119 (F := F)) c v2 v14 v25 v36 v46 v49 v52 v55 v106 v118 v129 v1897 v1910 v1912 v1913 v1914 v1915 v1916
  lastp c
/-- What is left of the body from the sixth tick on. -/
def tail107 (c : Dev nD) (v2 : BitVec 32) (v1493 : BitVec 32) (v1494 : BitVec 32) (v1495 : BitVec 1) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v1501, v1514, v1527, v1530, v1531⟩ : Σ' (v1501 : BitVec 32) (v1514 : BitVec 32) (v1527 : BitVec 32) (v1530 : BitVec 32), BitVec 32 ← onBufs (k0_part107 (F := F)) v2 v1493 v1494 v1495
  let ⟨v1538, v1550, v1563, v1565, v1566, v1567⟩ : Σ' (v1538 : BitVec 32) (v1550 : BitVec 32) (v1563 : BitVec 32) (v1565 : BitVec 32) (v1566 : BitVec 32), BitVec 1 ← onBufs (k0_part108 (F := F)) v2 v1501 v1530 v1531
  let ⟨v1574, c2_i32_974, v1609⟩ : Σ' (v1574 : BitVec 1) (c2_i32_974 : BitVec 32), BitVec 32 ← onBufs (k0_part109 (F := F)) v1501 v1514 v1565 v1566 v1567
  let ⟨c2_i32_988, v1643, v1648, v1650, v1651⟩ : Σ' (c2_i32_988 : BitVec 32) (v1643 : BitVec 32) (v1648 : BitVec 32) (v1650 : BitVec 32), BitVec 1 ← onBufs (k0_part110 (F := F)) v1514 v1538 c2_i32_974 v1609
  let ⟨c2_i32_1009, v1694⟩ : Σ' (c2_i32_1009 : BitVec 32), BitVec 32 ← onBufs (k0_part111 (F := F)) v1538 v1550 c2_i32_988 v1643 v1648 v1650 v1651
  let v1721 : BitVec 32 ← onBufs (k0_part112 (F := F)) c v14 v25 v46 v49 v52 v55 v107 v1501 v1527 v1538 v1550 v1563 v1574 c2_i32_1009 v1694
  let ⟨v1739, v1744, v1745⟩ : Σ' (v1739 : BitVec 32) (v1744 : BitVec 32), BitVec 32 ← onBufs (k0_part113 (F := F)) c v2 v14 v25 v1501 v1538 v1574 v1721
  tail114 c v2 v1744 v1745 v1739 v14 v25 v46 v49 v52 v55 v107 v36 v106 v118 v129
/-- What is left of the body from the fifth tick on. -/
def tail100 (c : Dev nD) (v2 : BitVec 32) (v1250 : BitVec 32) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v1263, v1276, v1279, c16_i32_769, v1280, c1_i32_771⟩ : Σ' (v1263 : BitVec 32) (v1276 : BitVec 32) (v1279 : BitVec 32) (c16_i32_769 : BitVec 32) (v1280 : BitVec 1), BitVec 32 ← onBufs (k0_part100 (F := F)) v2 v1250
  let ⟨v1289, v1300, v1312, v1315, c16_i32_793, v1316, c1_i32_795⟩ : Σ' (v1289 : BitVec 32) (v1300 : BitVec 32) (v1312 : BitVec 32) (v1315 : BitVec 32) (c16_i32_793 : BitVec 32) (v1316 : BitVec 1), BitVec 32 ← onBufs (k0_part101 (F := F)) v2 v1279 c16_i32_769 v1280 c1_i32_771
  let ⟨v1325, v1336, c2_i32_813, v1354, v1356, c0_i32_815⟩ : Σ' (v1325 : BitVec 32) (v1336 : BitVec 1) (c2_i32_813 : BitVec 32) (v1354 : BitVec 32) (v1356 : BitVec 32), BitVec 32 ← onBufs (k0_part102 (F := F)) v1263 v1315 c16_i32_793 v1316 c1_i32_795
  let ⟨v1388, v1399, v1400⟩ : Σ' (v1388 : BitVec 32) (v1399 : BitVec 1), BitVec 32 ← onBufs (k0_part103 (F := F)) v1263 v1276 c2_i32_813 v1354 v1356 c0_i32_815
  let ⟨c2_i32_848, v1439, v1441, c0_i32_850⟩ : Σ' (c2_i32_848 : BitVec 32) (v1439 : BitVec 32) (v1441 : BitVec 32), BitVec 32 ← onBufs (k0_part104 (F := F)) v1300 v1312 v1388 v1399 v1400
  let ⟨v1476, c0_i32_874⟩ : Σ' (v1476 : BitVec 32), BitVec 32 ← onBufs (k0_part105 (F := F)) c v14 v25 v1312 v1336 c2_i32_848 v1439 v1441 c0_i32_850
  let ⟨v1493, v1494, v1495⟩ : Σ' (v1493 : BitVec 32) (v1494 : BitVec 32), BitVec 1 ← onBufs (k0_part106 (F := F)) c v2 v14 v25 v46 v49 v52 v55 v107 v1263 v1289 v1300 v1325 v1336 v1476 c0_i32_874
  tail107 c v2 v1493 v1494 v1495 v14 v25 v46 v49 v52 v55 v107 v36 v106 v118 v129
/-- What is left of the body from the fourth tick on. -/
def tail94 (c : Dev nD) (v2 : BitVec 32) (v1030 : BitVec 32) (v1031 : BitVec 32) (v1025 : BitVec 32) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v1038, v1051, v1062, v1066, v1067⟩ : Σ' (v1038 : BitVec 32) (v1051 : BitVec 32) (v1062 : BitVec 32) (v1066 : BitVec 32), BitVec 32 ← onBufs (k0_part94 (F := F)) v2 v1030 v1031
  let ⟨v1074, v1087, v1098, c2_i32_652, v1099, v1104, c0_i32_655⟩ : Σ' (v1074 : BitVec 32) (v1087 : BitVec 32) (v1098 : BitVec 1) (c2_i32_652 : BitVec 32) (v1099 : BitVec 32) (v1104 : BitVec 32), BitVec 32 ← onBufs (k0_part95 (F := F)) v2 v1025 v1066 v1067
  let ⟨v1133, v1147, c1_i32_672⟩ : Σ' (v1133 : BitVec 32) (v1147 : BitVec 1), BitVec 32 ← onBufs (k0_part96 (F := F)) v1025 v1038 c2_i32_652 v1099 v1104 c0_i32_655
  let ⟨c2_i32_687, v1184, v1189, c0_i32_690⟩ : Σ' (c2_i32_687 : BitVec 32) (v1184 : BitVec 32) (v1189 : BitVec 32), BitVec 32 ← onBufs (k0_part97 (F := F)) v1038 v1062 v1133 v1147 c1_i32_672
  let ⟨v1218, v1232, c1_i32_707⟩ : Σ' (v1218 : BitVec 32) (v1232 : BitVec 1), BitVec 32 ← onBufs (k0_part98 (F := F)) v1062 v1074 c2_i32_687 v1184 v1189 c0_i32_690
  let v1250 : BitVec 32 ← onBufs (k0_part99 (F := F)) c v14 v25 v46 v49 v52 v55 v107 v1025 v1051 v1062 v1087 v1098 v1218 v1232 c1_i32_707
  tail100 c v2 v1250 v14 v25 v46 v49 v52 v55 v107 v36 v106 v118 v129
/-- What is left of the body from the third tick on. -/
def tail87 (c : Dev nD) (v2 : BitVec 32) (v779 : BitVec 32) (v780 : BitVec 32) (v781 : BitVec 1) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v787, v800, v813, v816, v817⟩ : Σ' (v787 : BitVec 32) (v800 : BitVec 32) (v813 : BitVec 32) (v816 : BitVec 32), BitVec 32 ← onBufs (k0_part87 (F := F)) v2 v779 v780 v781
  let ⟨v824, v836, v849, v851, v852, v853⟩ : Σ' (v824 : BitVec 32) (v836 : BitVec 32) (v849 : BitVec 32) (v851 : BitVec 32) (v852 : BitVec 32), BitVec 1 ← onBufs (k0_part88 (F := F)) v2 v787 v816 v817
  let ⟨v860, c2_i32_512, v895⟩ : Σ' (v860 : BitVec 1) (c2_i32_512 : BitVec 32), BitVec 32 ← onBufs (k0_part89 (F := F)) v787 v800 v851 v852 v853
  let ⟨c2_i32_526, v929, v934, v936, v937⟩ : Σ' (c2_i32_526 : BitVec 32) (v929 : BitVec 32) (v934 : BitVec 32) (v936 : BitVec 32), BitVec 1 ← onBufs (k0_part90 (F := F)) v800 v824 c2_i32_512 v895
  let ⟨c2_i32_547, v980⟩ : Σ' (c2_i32_547 : BitVec 32), BitVec 32 ← onBufs (k0_part91 (F := F)) v824 v836 c2_i32_526 v929 v934 v936 v937
  let v1007 : BitVec 32 ← onBufs (k0_part92 (F := F)) c v14 v25 v46 v49 v52 v55 v107 v787 v813 v824 v836 v849 v860 c2_i32_547 v980
  let ⟨v1025, v1030, v1031⟩ : Σ' (v1025 : BitVec 32) (v1030 : BitVec 32), BitVec 32 ← onBufs (k0_part93 (F := F)) c v2 v14 v25 v787 v824 v860 v1007
  tail94 c v2 v1030 v1031 v1025 v14 v25 v46 v49 v52 v55 v107 v36 v106 v118 v129
/-- What is left of the body from the second tick on. -/
def tail80 (c : Dev nD) (v2 : BitVec 32) (v392 : BitVec 1) (v14 : BitVec 32) (v25 : BitVec 32) (v46 : FVec F S2x128x4x64 .bf16) (v49 : FVec F S2x128x4x64 .bf16) (v52 : FVec F S512x256 .bf16) (v55 : FVec F S256x512 .bf16) (v107 : IVec S256x128 1) (v36 : BitVec 1) (v106 : IVec S128x128 1) (v118 : BitVec 32) (v129 : BitVec 32) : Prog (TpuEff nD τ sig (Elt F) Λ₀ .tc) PUnit := do
  let ⟨v549, v562, v565, c16_i32_307, v566, c1_i32_309⟩ : Σ' (v549 : BitVec 32) (v562 : BitVec 32) (v565 : BitVec 32) (c16_i32_307 : BitVec 32) (v566 : BitVec 1), BitVec 32 ← onBufs (k0_part80 (F := F)) c v2 v392
  let ⟨v575, v586, v598, v601, c16_i32_331, v602, c1_i32_333⟩ : Σ' (v575 : BitVec 32) (v586 : BitVec 32) (v598 : BitVec 32) (v601 : BitVec 32) (c16_i32_331 : BitVec 32) (v602 : BitVec 1), BitVec 32 ← onBufs (k0_part81 (F := F)) v2 v565 c16_i32_307 v566 c1_i32_309
  let ⟨v611, v622, c2_i32_351, v640, v642, c0_i32_353⟩ : Σ' (v611 : BitVec 32) (v622 : BitVec 1) (c2_i32_351 : BitVec 32) (v640 : BitVec 32) (v642 : BitVec 32), BitVec 32 ← onBufs (k0_part82 (F := F)) v549 v601 c16_i32_331 v602 c1_i32_333
  let ⟨v674, v685, v686⟩ : Σ' (v674 : BitVec 32) (v685 : BitVec 1), BitVec 32 ← onBufs (k0_part83 (F := F)) v549 v562 c2_i32_351 v640 v642 c0_i32_353
  let ⟨c2_i32_386, v725, v727, c0_i32_388⟩ : Σ' (c2_i32_386 : BitVec 32) (v725 : BitVec 32) (v727 : BitVec 32), BitVec 32 ← onBufs (k0_part84 (F := F)) v586 v598 v674 v685 v686
  let ⟨v762, c0_i32_412⟩ : Σ' (v762 : BitVec 32), BitVec 32 ← onBufs (k0_part85 (F := F)) c v14 v25 v598 v622 c2_i32_386 v725 v727 c0_i32_388
  let ⟨v779, v780, v781⟩ : Σ' (v779 : BitVec 32) (v780 : BitVec 32), BitVec 1 ← onBufs (k0_part86 (F := F)) c v2 v14 v25 v46 v49 v52 v55 v107 v549 v575 v586 v611 v622 v762 c0_i32_412
  tail87 c v2 v779 v780 v781 v14 v25 v46 v49 v52 v55 v107 v36 v106 v118 v129
/-- What is left of the body from the first tick on. -/
def tail74 (c : Dev nD) (v2 : BitVec 32) (v14 : BitVec 32) (v25 : BitVec 32) (v46 : FVec F S2x128x4x64 .bf16) (v49 : FVec F S2x128x4x64 .bf16) (v52 : FVec F S512x256 .bf16) (v55 : FVec F S256x512 .bf16) (v106 : IVec S128x128 1) (v141 : BitVec 32) (v177 : BitVec 32) (v188 : BitVec 1) (c2_i32_151 : BitVec 32) (v308 : BitVec 32) (v310 : BitVec 32) (c0_i32_153 : BitVec 32) (v107 : IVec S256x128 1) (v36 : BitVec 1) (v118 : BitVec 32) (v129 : BitVec 32) : Prog (TpuEff nD τ sig (Elt F) Λ₀ .tc) PUnit := do
  let ⟨v337, v338, v339⟩ : Σ' (v337 : BitVec 32) (v338 : BitVec 32), BitVec 1 ← onBufs (k0_part74 (F := F)) c v2 v14 v25 v46 v49 v52 v55 v106 v141 v177 v188 c2_i32_151 v308 v310 c0_i32_153
  let ⟨v345, v358, v369, v373, v374, v375⟩ : Σ' (v345 : BitVec 32) (v358 : BitVec 32) (v369 : BitVec 32) (v373 : BitVec 32) (v374 : BitVec 32), BitVec 1 ← onBufs (k0_part75 (F := F)) v2 v337 v338 v339
  let ⟨v381, v392, c2_i32_221, v410, v415, c0_i32_224⟩ : Σ' (v381 : BitVec 32) (v392 : BitVec 1) (c2_i32_221 : BitVec 32) (v410 : BitVec 32) (v415 : BitVec 32), BitVec 32 ← onBufs (k0_part76 (F := F)) v345 v373 v374 v375
  let ⟨v444, v458, c1_i32_241⟩ : Σ' (v444 : BitVec 32) (v458 : BitVec 1), BitVec 32 ← onBufs (k0_part77 (F := F)) v345 v358 c2_i32_221 v410 v415 c0_i32_224
  let ⟨c2_i32_256, v495, v500, c0_i32_259⟩ : Σ' (c2_i32_256 : BitVec 32) (v495 : BitVec 32) (v500 : BitVec 32), BitVec 32 ← onBufs (k0_part78 (F := F)) v369 v381 v444 v458 c1_i32_241
  onBufs (k0_part79 (F := F)) c v14 v25 v46 v49 v52 v55 v107 v345 v369 v381 v392 c2_i32_256 v495 v500 c0_i32_259
  tail80 c v2 v392 v14 v25 v46 v49 v52 v55 v107 v36 v106 v118 v129
/-- The body is its first parts, then the ticks. -/
theorem part120_cut : onBufs (k0_part120_skel (F := F)) = (do
  let ⟨d0, v2, v14, v25, v35⟩ : Σ' (d0 : Dev nD) (v2 : BitVec 32) (v14 : BitVec 32) (v25 : BitVec 32), BitVec 32 ← onBufs (k0_part66 (F := F))
  let ⟨v36, v46, v49, v52, v55, v56, c64_i32, v58, v65, c0_i32_41⟩ : Σ' (v36 : BitVec 1) (v46 : FVec F S2x128x4x64 .bf16) (v49 : FVec F S2x128x4x64 .bf16) (v52 : FVec F S512x256 .bf16) (v55 : FVec F S256x512 .bf16) (v56 : IVec S128x128 32) (c64_i32 : BitVec 32) (v58 : IVec S128x128 32) (v65 : IVec S128x128 32), BitVec 32 ← onBufs (k0_part67 (F := F)) d0 v2 v14 v25 v35
  let ⟨v106, v107, v110, v111⟩ : Σ' (v106 : IVec S128x128 1) (v107 : IVec S256x128 1) (v110 : BitVec 32), BitVec 32 ← onBufs (k0_part68 (F := F)) v2 v56 c64_i32 v58 v65 c0_i32_41
  let ⟨v118, v129, v141, v146, v147⟩ : Σ' (v118 : BitVec 32) (v129 : BitVec 32) (v141 : BitVec 32) (v146 : BitVec 32), BitVec 32 ← onBufs (k0_part69 (F := F)) v2 v110 v111
  let ⟨v154, v165, v177, v179, v180, v181, v182, v183⟩ : Σ' (v154 : BitVec 32) (v165 : BitVec 32) (v177 : BitVec 32) (v179 : BitVec 32) (v180 : BitVec 32) (v181 : BitVec 1) (v182 : BitVec 1), BitVec 1 ← onBufs (k0_part70 (F := F)) v2 v141 v146 v147
  let ⟨v188, c2_i32_116, v223, v225, c0_i32_118⟩ : Σ' (v188 : BitVec 1) (c2_i32_116 : BitVec 32) (v223 : BitVec 32) (v225 : BitVec 32), BitVec 32 ← onBufs (k0_part71 (F := F)) v141 v154 v179 v180 v181 v182 v183
  let ⟨v257, v268, v269⟩ : Σ' (v257 : BitVec 32) (v268 : BitVec 1), BitVec 32 ← onBufs (k0_part72 (F := F)) v154 v165 c2_i32_116 v223 v225 c0_i32_118
  let ⟨c2_i32_151, v308, v310, c0_i32_153⟩ : Σ' (c2_i32_151 : BitVec 32) (v308 : BitVec 32) (v310 : BitVec 32), BitVec 32 ← onBufs (k0_part73 (F := F)) v165 v177 v257 v268 v269
  tail74 d0 v2 v14 v25 v46 v49 v52 v55 v106 v141 v177 v188 c2_i32_151 v308 v310 c0_i32_153 v107 v36 v118 v129) := rfl

end

end Cert.RingAttn
-- ==== Proof.TickEven.lean ====
module

public import proofs.«01_k».proof.Proof.Even1
public import proofs.«01_k».proof.Proof.Even2
public import proofs.«01_k».proof.Proof.Even3
public import proofs.«01_k».proof.Proof.Even4
public import proofs.«01_k».proof.Proof.Tails

@[expose] public section

/-! The ticks at the even devices. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ
/-- What the ticks leave. -/
def left_even (I : Ins F) (c : Dev nD) : sProp 𝕄 :=
  iprop(ownAny c xgM (slotR c 0) ∗ zA c 0 ∗ zB c 1 ∗ xg2 c 2 ∗ ownAny c rrM (r4 0) ∗ ownAny c rlM (r3 0) ∗ zA c 2 ∗ ya2 c 2 ∗ zB c 3 ∗ xg2 c 4 ∗ ownAny c rrM (r4 2) ∗ ownAny c rlM (r3 2) ∗ zA c 4 ∗ ya2 c 4 ∗ zB c 5 ∗ xg2 c 6 ∗ ownAny c rrM (r4 4) ∗ ownAny c rlM (r3 4) ∗ zA c 6 ∗ ya2 c 6 ∗ wAny c yslM ∗ zB c 7 ∗ ow c 22 ∗ ownAny c xgM (slotR c 8) ∗ ownAny c yaM (slotR c 8) ∗ ownAny c yaM (slotR c 0) ∗ ownAny c rrM (r4 6) ∗ zA c 8 ∗ wAny c ysrM ∗ wAny c yfrM ∗ wAny c yflM ∗ (zero c fsrS ∗ zero c frrS ∗ zero c frlS) ∗ owns (c : Thread nD τ) st5 fullShare (outV I c))

set_option maxHeartbeats 4000000 in
theorem t114_even (c : Dev nD) (hp : c.val % 2 = 0) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ ownAny c yaM (slotR c 8) ∗ ownAny (rt c) rrM (r4 5) ∗ ownAny (lf c) rlM (r3 5) ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ zB c 1 ∗ xg2 c 2 ∗ ownAny c rrM (r4 0) ∗ ownAny c rlM (r3 0) ∗ zA c 2 ∗ ya2 c 2 ∗ zB c 3 ∗ xg2 c 4 ∗ ownAny c rrM (r4 2) ∗ ownAny c rlM (r3 2) ∗ zA c 4 ∗ ya2 c 4 ∗ wAny c ysrM ∗ wAny c yslM ∗ zB c 5 ∗ ow c 16 ∗ xg2 c 6 ∗ yaA I c 6 ∗ ownAny c rrM (r4 4) ∗ ownAny c rlM (r3 4) ∗ zA c 6)
      ⊢ iprop((left_even I c -∗ WP c (lastp c) Q) -∗ WP c (tail114 c v2 m16 (Scalar.remsi (back (Scalar.subi v2 1#32) 7#32) m16) (fmod (back v2 7#32) m16) v14 v25 (k0_pay166 (I.ks c)) (k0_pay167 (I.vs c)) (k0_pay168 (I.wq c)) (k0_pay169 (I.wo c)) (wt I c).m2 v36 (wt I c).m1 v118 v129) Q) := by
  iintro ⟨%hh, #HE, Y8, RC5, LC5, T7, T8, HF, Hout, Te1, G0, Y0, ZA0, ZB1, G2, M0, N0, ZA2, W2, ZB3, G4, M2, N2, ZA4, W4, Hsr, Hsl, ZB5, HO, G6, HA, M4, N4, ZA6⟩ Hk
  obtain ⟨hv2, h36⟩ := hh
  unfold tail114
  simp only [k0_part114_eq_skeleton, k0_part114_skel, k0_part115_eq_skeleton, k0_part115_skel, Prog.bind_ret, Prog.pure_eq_ret, Prog.bind_assoc]
  iapply (p116 (c := c))
  iintro %r
  obtain ⟨v1852, v1863, v1864⟩ := r
  dsimp only
  ihave HT := (toB_five) $$ [T7 RC5 LC5]
  · iframe
  icases HT with ⟨HT, P1⟩
  iapply (p117_even I K c hp) $$ [HO HA Hsr Hsl HT P1]
  · iframe # ∗
  iintro ⟨HO, W6, Q1, Q2, HR, Q3⟩
  iapply (p118_even' I K c hp) $$ [HO Q1 Q2]
  · isplitr
    · ipureintro; clear * - hp hv2; subst hv2; revert hp; revert c; decide +kernel
    iframe # ∗
  iintro ⟨HO, Hsr, Hsl, Q1, Q2⟩
  ihave ZB7 := (zB_7) $$ [Q1 Q2 Q3]
  · iframe
  ihave P1 := kA_8 $$ T8
  iapply (p119_even' I K c hp) $$ [HO HR Y8 Y0 P1 Hsr HF Hout Te1]
  · isplitr
    · ipureintro; exact ⟨h36, by clear * - hp hv2; subst hv2; revert hp; revert c; decide +kernel⟩
    iframe # ∗
  iintro ⟨HO, G8, Y8, Y0, M6, ZA8, Hsr, Hfr, Hfl, ZF, Hout⟩
  iapply Hk
  unfold left_even
  iframe

set_option maxHeartbeats 4000000 in
theorem t107_even (c : Dev nD) (hp : c.val % 2 = 0) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ ownAny c yaM (slotR c 6) ∗ ownAny c yaM (slotR c 8) ∗ ownAny c yaM (slotL c 6) ∗ ownAny (rt c) xgM (slotR c 6) ∗ ownAny (lf c) xgM (slotL c 6) ∗ ownAny (rt c) rrM (r4 5) ∗ ownAny (lf c) rlM (r3 5) ∗ kA c 6 ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ zB c 1 ∗ xg2 c 2 ∗ ownAny c rrM (r4 0) ∗ ownAny c rlM (r3 0) ∗ zA c 2 ∗ ya2 c 2 ∗ zB c 3 ∗ xg2 c 4 ∗ ownAny c rrM (r4 2) ∗ ownAny c rlM (r3 2) ∗ zA c 4 ∗ ow c 14 ∗ ya2 c 4 ∗ wAny c ysrM ∗ wAny c yslM ∗ inR I c 6 ∗ inL I c 6 ∗ zB c 5)
      ⊢ iprop((left_even I c -∗ WP c (lastp c) Q) -∗ WP c (tail107 c v2 m16 (Scalar.remsi (back v2 6#32) m16) (Scalar.cmpi .ne (Scalar.remsi (back v2 6#32) m16) 0#32) v14 v25 (k0_pay166 (I.ks c)) (k0_pay167 (I.vs c)) (k0_pay168 (I.wq c)) (k0_pay169 (I.wo c)) (wt I c).m2 v36 (wt I c).m1 v118 v129) Q) := by
  iintro ⟨%hh, #HE, Y6, Y8, Z6, RX6, LX6, RC5, LC5, T6, T7, T8, HF, Hout, Te1, G0, Y0, ZA0, ZB1, G2, M0, N0, ZA2, W2, ZB3, G4, M2, N2, ZA4, HO, W4, Hsr, Hsl, HR, HL, ZB5⟩ Hk
  obtain ⟨hv2, h36⟩ := hh
  unfold tail107
  simp only [k0_part107_eq_skeleton, k0_part107_skel, k0_part108_eq_skeleton, k0_part108_skel, k0_part109_eq_skeleton, k0_part109_skel, Prog.bind_ret, Prog.pure_eq_ret, Prog.bind_assoc]
  iapply (p110 (c := c))
  iintro %r
  obtain ⟨c2_i32_988, v1643, v1648, v1650, v1651⟩ := r
  dsimp only
  iapply (p111 (c := c))
  iintro %r
  obtain ⟨c2_i32_1009, v1694⟩ := r
  dsimp only
  ihave HT := (toA_intro (k := 4) rfl (by omega)) $$ [T6 RX6 LX6]
  · iframe
  icases HT with ⟨HT, P1, P2⟩
  ihave HY := (ya2_intro c 6) $$ [Y6 Z6]
  · iframe
  iapply (p112_even I K c hp) $$ [HO HR HL HT HY]
  · iframe # ∗
  iintro %r ⟨HO, HS, HY⟩
  iapply (p113_even' I K c hp) $$ [HO HS HY P1 P2]
  · isplitr
    · ipureintro; clear * - hp hv2; subst hv2; revert hp; revert c; decide +kernel
    iframe # ∗
  iintro ⟨HO, G6, HA, M4, N4, ZA6⟩
  iapply (t114_even I K c hp) $$ [Y8 RC5 LC5 T7 T8 HF Hout Te1 G0 Y0 ZA0 ZB1 G2 M0 N0 ZA2 W2 ZB3 G4 M2 N2 ZA4 W4 Hsr Hsl ZB5 HO G6 HA M4 N4 ZA6]
  · isplitr
    · ipureintro; exact ⟨hv2, h36⟩
    iframe # ∗
  iexact Hk

set_option maxHeartbeats 4000000 in
theorem t100_even (c : Dev nD) (hp : c.val % 2 = 0) {v2 : BitVec 32} {v1250 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1 ∧ v1250 = 0#32⌝ ∗ env I K c ∗ ownAny c yaM (slotR c 6) ∗ ownAny c yaM (slotR c 8) ∗ ownAny c yaM (slotL c 6) ∗ ownAny (rt c) xgM (slotR c 6) ∗ ownAny (lf c) xgM (slotL c 6) ∗ ownAny (rt c) rrM (r4 3) ∗ ownAny (rt c) rrM (r4 5) ∗ ownAny (lf c) rlM (r3 3) ∗ ownAny (lf c) rlM (r3 5) ∗ kB c 5 ∗ kA c 6 ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ zB c 1 ∗ xg2 c 2 ∗ ownAny c rrM (r4 0) ∗ ownAny c rlM (r3 0) ∗ zA c 2 ∗ ya2 c 2 ∗ wAny c ysrM ∗ wAny c yslM ∗ zB c 3 ∗ ow c 12 ∗ xg2 c 4 ∗ yaA I c 4 ∗ ownAny c rrM (r4 2) ∗ ownAny c rlM (r3 2) ∗ zA c 4)
      ⊢ iprop((left_even I c -∗ WP c (lastp c) Q) -∗ WP c (tail100 c v2 v1250 v14 v25 (k0_pay166 (I.ks c)) (k0_pay167 (I.vs c)) (k0_pay168 (I.wq c)) (k0_pay169 (I.wo c)) (wt I c).m2 v36 (wt I c).m1 v118 v129) Q) := by
  iintro ⟨%hh, #HE, Y6, Y8, Z6, RX6, LX6, RC3, RC5, LC3, LC5, T5, T6, T7, T8, HF, Hout, Te1, G0, Y0, ZA0, ZB1, G2, M0, N0, ZA2, W2, Hsr, Hsl, ZB3, HO, G4, HA, M2, N2, ZA4⟩ Hk
  obtain ⟨hv2, h36, hw⟩ := hh
  unfold tail100
  iapply (p100_even' I K c hp) $$ [HO]
  · isplitr
    · ipureintro; exact hw
    iframe # ∗
  iintro HO
  simp only [k0_part101_eq_skeleton, k0_part101_skel, k0_part102_eq_skeleton, k0_part102_skel, Prog.bind_ret, Prog.pure_eq_ret, Prog.bind_assoc]
  iapply (p103 (c := c))
  iintro %r
  obtain ⟨v1388, v1399, v1400⟩ := r
  dsimp only
  iapply (p104 (c := c))
  iintro %r
  obtain ⟨c2_i32_848, v1439, v1441, c0_i32_850⟩ := r
  dsimp only
  iapply (p105_even I K c hp) $$ [HO]
  · iframe # ∗
  iintro %r HO
  obtain ⟨v1476, c0_i32_874⟩ := r
  dsimp only
  ihave HT := (toB_intro (k := 3) rfl (by omega)) $$ [T5 RC3 LC3]
  · iframe
  icases HT with ⟨HT, P1, P2⟩
  iapply (p106_even' I K c hp) $$ [HO HA Hsr Hsl HT P1 P2]
  · isplitr
    · ipureintro; clear * - hp hv2; subst hv2; revert hp; revert c; decide +kernel
    iframe # ∗
  iintro ⟨HO, W4, Hsr, Hsl, HR, HL, ZB5⟩
  iapply (t107_even I K c hp) $$ [Y6 Y8 Z6 RX6 LX6 RC5 LC5 T6 T7 T8 HF Hout Te1 G0 Y0 ZA0 ZB1 G2 M0 N0 ZA2 W2 ZB3 G4 M2 N2 ZA4 HO W4 Hsr Hsl HR HL ZB5]
  · isplitr
    · ipureintro; exact ⟨hv2, h36⟩
    iframe # ∗
  iexact Hk

set_option maxHeartbeats 4000000 in
theorem t94_even (c : Dev nD) (hp : c.val % 2 = 0) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ ownAny c yaM (slotR c 4) ∗ ownAny c yaM (slotR c 6) ∗ ownAny c yaM (slotR c 8) ∗ ownAny c yaM (slotL c 4) ∗ ownAny c yaM (slotL c 6) ∗ ownAny (rt c) xgM (slotR c 4) ∗ ownAny (rt c) xgM (slotR c 6) ∗ ownAny (lf c) xgM (slotL c 4) ∗ ownAny (lf c) xgM (slotL c 6) ∗ ownAny (rt c) rrM (r4 3) ∗ ownAny (rt c) rrM (r4 5) ∗ ownAny (lf c) rlM (r3 3) ∗ ownAny (lf c) rlM (r3 5) ∗ kA c 4 ∗ kB c 5 ∗ kA c 6 ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ zB c 1 ∗ xg2 c 2 ∗ ownAny c rrM (r4 0) ∗ ownAny c rlM (r3 0) ∗ zA c 2 ∗ ya2 c 2 ∗ inR I c 4 ∗ inL I c 4 ∗ ow c 10 ∗ wAny c ysrM ∗ wAny c yslM ∗ zB c 3)
      ⊢ iprop((left_even I c -∗ WP c (lastp c) Q) -∗ WP c (tail94 c v2 m16 (Scalar.remsi (back (Scalar.subi v2 1#32) 4#32) m16) (fmod (back v2 4#32) m16) v14 v25 (k0_pay166 (I.ks c)) (k0_pay167 (I.vs c)) (k0_pay168 (I.wq c)) (k0_pay169 (I.wo c)) (wt I c).m2 v36 (wt I c).m1 v118 v129) Q) := by
  iintro ⟨%hh, #HE, Y4, Y6, Y8, Z4, Z6, RX4, RX6, LX4, LX6, RC3, RC5, LC3, LC5, T4, T5, T6, T7, T8, HF, Hout, Te1, G0, Y0, ZA0, ZB1, G2, M0, N0, ZA2, W2, HR, HL, HO, Hsr, Hsl, ZB3⟩ Hk
  obtain ⟨hv2, h36⟩ := hh
  unfold tail94
  simp only [k0_part94_eq_skeleton, k0_part94_skel, k0_part95_eq_skeleton, k0_part95_skel, Prog.bind_ret, Prog.pure_eq_ret, Prog.bind_assoc]
  iapply (p96 (c := c))
  iintro %r
  obtain ⟨v1133, v1147, c1_i32_672⟩ := r
  dsimp only
  iapply (p97 (c := c))
  iintro %r
  obtain ⟨c2_i32_687, v1184, v1189, c0_i32_690⟩ := r
  dsimp only
  iapply (p98 (c := c))
  iintro %r
  obtain ⟨v1218, v1232, c1_i32_707⟩ := r
  dsimp only
  ihave HT := (toA_intro (k := 2) rfl (by omega)) $$ [T4 RX4 LX4]
  · iframe
  icases HT with ⟨HT, P1, P2⟩
  ihave HY := (ya2_intro c 4) $$ [Y4 Z4]
  · iframe
  iapply (p99_even I K c hp) $$ [HO HR HL HT HY P1 P2]
  · iframe # ∗
  iintro ⟨HO, G4, HA, M2, N2, ZA4⟩
  iapply (t100_even I K c hp) $$ [Y6 Y8 Z6 RX6 LX6 RC3 RC5 LC3 LC5 T5 T6 T7 T8 HF Hout Te1 G0 Y0 ZA0 ZB1 G2 M0 N0 ZA2 W2 Hsr Hsl ZB3 HO G4 HA M2 N2 ZA4]
  · isplitr
    · ipureintro; exact ⟨hv2, h36, by clear * - hp hv2; subst hv2; revert hp; revert c; decide +kernel⟩
    iframe # ∗
  iexact Hk

set_option maxHeartbeats 4000000 in
theorem t87_even (c : Dev nD) (hp : c.val % 2 = 0) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ wAny c ysrM ∗ wAny c yslM ∗ ownAny c yaM (slotR c 4) ∗ ownAny c yaM (slotR c 6) ∗ ownAny c yaM (slotR c 8) ∗ ownAny c yaM (slotL c 4) ∗ ownAny c yaM (slotL c 6) ∗ ownAny (rt c) xgM (slotR c 4) ∗ ownAny (rt c) xgM (slotR c 6) ∗ ownAny (lf c) xgM (slotL c 4) ∗ ownAny (lf c) xgM (slotL c 6) ∗ ownAny (rt c) rrM (r4 1) ∗ ownAny (rt c) rrM (r4 3) ∗ ownAny (rt c) rrM (r4 5) ∗ ownAny (lf c) rlM (r3 1) ∗ ownAny (lf c) rlM (r3 3) ∗ ownAny (lf c) rlM (r3 5) ∗ kB c 3 ∗ kA c 4 ∗ kB c 5 ∗ kA c 6 ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ zB c 1 ∗ ow c 8 ∗ xg2 c 2 ∗ yaA I c 2 ∗ ownAny c rrM (r4 0) ∗ ownAny c rlM (r3 0) ∗ zA c 2)
      ⊢ iprop((left_even I c -∗ WP c (lastp c) Q) -∗ WP c (tail87 c v2 m16 (Scalar.remsi (back v2 3#32) m16) (Scalar.cmpi .ne (Scalar.remsi (back v2 3#32) m16) 0#32) v14 v25 (k0_pay166 (I.ks c)) (k0_pay167 (I.vs c)) (k0_pay168 (I.wq c)) (k0_pay169 (I.wo c)) (wt I c).m2 v36 (wt I c).m1 v118 v129) Q) := by
  iintro ⟨%hh, #HE, Hsr, Hsl, Y4, Y6, Y8, Z4, Z6, RX4, RX6, LX4, LX6, RC1, RC3, RC5, LC1, LC3, LC5, T3, T4, T5, T6, T7, T8, HF, Hout, Te1, G0, Y0, ZA0, ZB1, HO, G2, HA, M0, N0, ZA2⟩ Hk
  obtain ⟨hv2, h36⟩ := hh
  unfold tail87
  simp only [k0_part87_eq_skeleton, k0_part87_skel, k0_part88_eq_skeleton, k0_part88_skel, k0_part89_eq_skeleton, k0_part89_skel, Prog.bind_ret, Prog.pure_eq_ret, Prog.bind_assoc]
  iapply (p90 (c := c))
  iintro %r
  obtain ⟨c2_i32_526, v929, v934, v936, v937⟩ := r
  dsimp only
  iapply (p91 (c := c))
  iintro %r
  obtain ⟨c2_i32_547, v980⟩ := r
  dsimp only
  ihave HT := (toB_intro (k := 1) rfl (by omega)) $$ [T3 RC1 LC1]
  · iframe
  icases HT with ⟨HT, P1, P2⟩
  iapply (p92_even I K c hp) $$ [HO HA Hsr Hsl HT P1 P2]
  · iframe # ∗
  iintro %r ⟨HO, W2, Q1, Q2, HR, HL, Q3, Q4⟩
  iapply (p93_even' I K c hp) $$ [HO Q1 Q2]
  · isplitr
    · ipureintro; clear * - hp hv2; subst hv2; revert hp; revert c; decide +kernel
    iframe # ∗
  iintro ⟨HO, Hsr, Hsl, Q1, Q2⟩
  ihave ZB3 := (zB_mid (k := 1) (by omega)) $$ [Q1 Q2 Q3 Q4]
  · iframe
  iapply (t94_even I K c hp) $$ [Y4 Y6 Y8 Z4 Z6 RX4 RX6 LX4 LX6 RC3 RC5 LC3 LC5 T4 T5 T6 T7 T8 HF Hout Te1 G0 Y0 ZA0 ZB1 G2 M0 N0 ZA2 W2 HR HL HO Hsr Hsl ZB3]
  · isplitr
    · ipureintro; exact ⟨hv2, h36⟩
    iframe # ∗
  iexact Hk

set_option maxHeartbeats 4000000 in
theorem t80_even (c : Dev nD) (hp : c.val % 2 = 0) {v2 : BitVec 32} {v392 : BitVec 1} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ wAny c ysrM ∗ wAny c yslM ∗ ownAny c yaM (slotR c 2) ∗ ownAny c yaM (slotR c 4) ∗ ownAny c yaM (slotR c 6) ∗ ownAny c yaM (slotR c 8) ∗ ownAny c yaM (slotL c 2) ∗ ownAny c yaM (slotL c 4) ∗ ownAny c yaM (slotL c 6) ∗ ownAny (rt c) xgM (slotR c 2) ∗ ownAny (rt c) xgM (slotR c 4) ∗ ownAny (rt c) xgM (slotR c 6) ∗ ownAny (lf c) xgM (slotL c 2) ∗ ownAny (lf c) xgM (slotL c 4) ∗ ownAny (lf c) xgM (slotL c 6) ∗ ownAny (rt c) rrM (r4 1) ∗ ownAny (rt c) rrM (r4 3) ∗ ownAny (rt c) rrM (r4 5) ∗ ownAny (lf c) rlM (r3 1) ∗ ownAny (lf c) rlM (r3 3) ∗ ownAny (lf c) rlM (r3 5) ∗ kA c 2 ∗ kB c 3 ∗ kA c 4 ∗ kB c 5 ∗ kA c 6 ∗ kB c 7 ∗ kA c 8 ∗ (sndRes c (opp c) fsrS frrS ∗ pend c frrS ∗ pend c frlS) ∗ wAny c st5 ∗ dutyTok ER (cellAt (lf c) exitS) 0 true ∗ ownAny c xgM (slotR c 0) ∗ own c yaM (slotR c 0) fullShare (pR I c 0) ∗ zA c 0 ∗ ow c 6 ∗ inR I c 2 ∗ inL I c 2 ∗ zB c 1)
      ⊢ iprop((left_even I c -∗ WP c (lastp c) Q) -∗ WP c (tail80 c v2 v392 v14 v25 (k0_pay166 (I.ks c)) (k0_pay167 (I.vs c)) (k0_pay168 (I.wq c)) (k0_pay169 (I.wo c)) (wt I c).m2 v36 (wt I c).m1 v118 v129) Q) := by
  iintro ⟨%hh, #HE, Hsr, Hsl, Y2, Y4, Y6, Y8, Z2, Z4, Z6, RX2, RX4, RX6, LX2, LX4, LX6, RC1, RC3, RC5, LC1, LC3, LC5, T2, T3, T4, T5, T6, T7, T8, HF, Hout, Te1, G0, Y0, ZA0, HO, HR, HL, ZB1⟩ Hk
  obtain ⟨hv2, h36⟩ := hh
  unfold tail80
  iapply (p80_even I K c hp) $$ [HO]
  · iframe # ∗
  iintro HO
  simp only [k0_part81_eq_skeleton, k0_part81_skel, k0_part82_eq_skeleton, k0_part82_skel, Prog.bind_ret, Prog.pure_eq_ret, Prog.bind_assoc]
  iapply (p83 (c := c))
  iintro %r
  obtain ⟨v674, v685, v686⟩ := r
  dsimp only
  iapply (p84 (c := c))
  iintro %r
  obtain ⟨c2_i32_386, v725, v727, c0_i32_388⟩ := r
  dsimp only
  ihave HT := (toA_intro (k := 0) rfl (by omega)) $$ [T2 RX2 LX2]
  · iframe
  icases HT with ⟨HT, P1, P2⟩
  iapply (p85_even I K c hp) $$ [HO HR HL HT]
  · iframe # ∗
  iintro %r ⟨HO, HS⟩
  obtain ⟨v762, c0_i32_412⟩ := r
  dsimp only
  ihave HY := (ya2_intro c 2) $$ [Y2 Z2]
  · iframe
  iapply (p86_even' I K c hp) $$ [HO HS HY P1 P2]
  · isplitr
    · ipureintro; clear * - hp hv2; subst hv2; revert hp; revert c; decide +kernel
    iframe # ∗
  iintro ⟨HO, G2, HA, M0, N0, ZA2⟩
  iapply (t87_even I K c hp) $$ [Hsr Hsl Y4 Y6 Y8 Z4 Z6 RX4 RX6 LX4 LX6 RC1 RC3 RC5 LC1 LC3 LC5 T3 T4 T5 T6 T7 T8 HF Hout Te1 G0 Y0 ZA0 ZB1 HO G2 HA M0 N0 ZA2]
  · isplitr
    · ipureintro; exact ⟨hv2, h36⟩
    iframe # ∗
  iexact Hk

set_option maxHeartbeats 4000000 in
theorem t74_even (c : Dev nD) (hp : c.val % 2 = 0) {v2 : BitVec 32} {v14 : BitVec 32} {v25 : BitVec 32} {v141 : BitVec 32} {v177 : BitVec 32} {v188 : BitVec 1} {c2_i32_151 : BitVec 32} {v308 : BitVec 32} {v310 : BitVec 32} {c0_i32_153 : BitVec 32} {v36 : BitVec 1} {v118 : BitVec 32} {v129 : BitVec 32} {Q : PUnit → sProp 𝕄} :
    iprop(⌜Scalar.remsi (Scalar.divsi c.word 1#32) 16#32 = v2 ∧ v36 = 1#1⌝ ∗ env I K c ∗ ow c 2 ∗ own c xgM (slotR c 0) fullShare (xb I c) ∗ wAny c yfrM ∗ wAny c yflM ∗ wAny c ysrM ∗ wAny c yslM ∗ ownAny c yaM (slotR c 0) ∗ ownAny c yaM (slotR c 2) ∗ ownAny c yaM (slotR c 4) ∗ ownAny c yaM (slotR c 6) ∗ ownAny c yaM (slotR c 8) ∗ ownAny c yaM (slotL c 2) ∗ ownAny c yaM (slotL c 4) ∗ ownAny c yaM (slotL c 6) ∗ ownAny (rt c) xgM (slotR c 0) ∗ ownAny (rt c) xgM (slotR c 2) ∗ ownAny (rt c) xgM (slotR c 4) ∗ ownAny (rt c) xgM (slotR c 6) ∗ ownAny (lf c) xgM (slotL c 0) ∗ ownAny (lf c) xgM (slotL c 2) ∗ ownAny (lf c) xgM (slotL c 4) ∗ ownAny (lf c) xgM (slotL c 6) ∗ ownAny (rt c) rrM (r4 1) ∗ ownAny (rt c) rrM (r4 3) ∗ ownAny (rt c) rrM (r4 5) ∗ ownAny (lf c) rlM (r3 1) ∗ ownAny (lf c) rlM (r3 3) ∗ ownAny (lf c) rlM (r3 5) ∗ kA c 0 ∗ kB c 1 ∗ kA c 2 ∗ kB c 3 ∗ kA c 4 ∗ kB c 5 ∗ kA c 6 ∗ kB c 7 ∗ kA c 8 ∗ (sndRes c (opp c) fsrS frrS ∗ pend c frrS ∗ pend c frlS) ∗ wAny c st5 ∗ dutyTok ER (cellAt (lf c) exitS) 0 true)
      ⊢ iprop((left_even I c -∗ WP c (lastp c) Q) -∗ WP c (tail74 c v2 v14 v25 (k0_pay166 (I.ks c)) (k0_pay167 (I.vs c)) (k0_pay168 (I.wq c)) (k0_pay169 (I.wo c)) (wt I c).m1 v141 v177 v188 c2_i32_151 v308 v310 c0_i32_153 (wt I c).m2 v36 v118 v129) Q) := by
  iintro ⟨%hh, #HE, HO, Hx, Hfr, Hfl, Hsr, Hsl, Y0, Y2, Y4, Y6, Y8, Z2, Z4, Z6, RX0, RX2, RX4, RX6, LX0, LX2, LX4, LX6, RC1, RC3, RC5, LC1, LC3, LC5, T0, T1, T2, T3, T4, T5, T6, T7, T8, HF, Hout, Te1⟩ Hk
  obtain ⟨hv2, h36⟩ := hh
  unfold tail74
  iapply (p74_even I K c hp) $$ [HO Hx Hfr Hfl Y0 RX0 LX0 T0]
  · iframe # ∗
  iintro %r ⟨HO, G0, Y0, ZA0⟩
  obtain ⟨v337, v338, v339⟩ := r
  dsimp only
  iapply (p75 (c := c))
  iintro %r
  obtain ⟨v345, v358, v369, v373, v374, v375⟩ := r
  dsimp only
  iapply (p76 (c := c))
  iintro %r
  obtain ⟨v381, v392, c2_i32_221, v410, v415, c0_i32_224⟩ := r
  dsimp only
  iapply (p77 (c := c))
  iintro %r
  obtain ⟨v444, v458, c1_i32_241⟩ := r
  dsimp only
  iapply (p78 (c := c))
  iintro %r
  obtain ⟨c2_i32_256, v495, v500, c0_i32_259⟩ := r
  dsimp only
  iapply (p79_even I K c hp) $$ [HO T1]
  · iframe # ∗
  iintro %r ⟨HO, HR, HL, ZB1⟩
  iapply (t80_even I K c hp) $$ [Hsr Hsl Y2 Y4 Y6 Y8 Z2 Z4 Z6 RX2 RX4 RX6 LX2 LX4 LX6 RC1 RC3 RC5 LC1 LC3 LC5 T2 T3 T4 T5 T6 T7 T8 HF Hout Te1 G0 Y0 ZA0 HO HR HL ZB1]
  · isplitr
    · ipureintro; exact ⟨hv2, h36⟩
    iframe # ∗
  iexact Hk

end

end Cert.RingAttn
-- ==== Proof.BodyEven.lean ====
module

public import proofs.«01_k».proof.Proof.TickEven

@[expose] public section

/-! The body at the even devices. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 8000000 in
set_option pp.deepTerms false in
set_option pp.maxSteps 1500 in
/-- The body at an even device: each part in turn takes what it needs and returns what it leaves. -/
theorem body_even (c : Dev nD) (hp : c.val % 2 = 0) : pre I K c ⊢ WP c bodyP (fun _ => post I c) := by

  obtain ⟨h1, -⟩ := conds_even c hp
  obtain ⟨o1, -⟩ := offs_even c hp
  obtain ⟨d1, d2, -, -, -, -, -, -, -, -, -, -, -, -, -, -, -, -, d34⟩ := devs_even c hp
  unfold pre bufs kT kF keep
  rw [slots_even hp, tick_even hp, if_pos hp, if_pos hp]
  iintro ⟨⟨#HI, #Hlev, #Hr, #Hb, #Hb'⟩, HO, ⟨HSb, HSe, HT, HF⟩, ⟨HgL, HgR, Hkp⟩, ⟨Hya, Hsr, Hsl, Hfr, Hfl⟩, HX, Hout⟩
  icases HT with ⟨T0, T1, T2, T3, T4, T5, T6, T7, T8⟩
  icases Hya with ⟨Y0, Y2, Y4, Y6, Y8, Z2, Z4, Z6⟩
  ihave HSe := (kS_elim c exitS) $$ HSe
  icases HSe with ⟨Te1, Te2, Ae, Ce⟩
  unfold bodyP
  rw [cc0_body_eq_skeleton]
  unfold cc0_body_skel
  rw [wp_bind, k0_part120_eq_skeleton]
  have hc := part120_cut (F := F)
  dsimp only [onBufs] at hc
  rw [hc]
  simp only [k0_part66_eq_skeleton, k0_part66_skel, k0_part67_eq_skeleton, k0_part67_skel, semSignalWord, semWaitWord, Prog.lift, Prog.bind_op, Prog.bind_ret, Prog.pure_eq_ret, Prog.bind_assoc, wp_deviceId, dif_pos h1]
  generalize hv2 : Scalar.remsi (Scalar.divsi c.word 1#32) 16#32 = v2
  iapply (sync_start I K (Fin.ext d1) (Fin.ext d2) rfl rfl rfl) $$ [HO HSb HgL HgR]
  · iframe # ∗
  iintro ⟨HO, Zb, HgR, HgL⟩
  ihave HgR := (giveL_even hp) $$ HgR
  ihave HgL := (giveR_even hp) $$ HgL
  icases HgR with ⟨⟨RX0, RX2, RX4, RX6⟩, ⟨RC1, RC3, RC5⟩, #HrR⟩
  icases HgL with ⟨⟨LX0, LX2, LX4, LX6⟩, ⟨LC1, LC3, LC5⟩, #HrL⟩
  ihave #HE := (env_intro I K c) $$ []
  · iframe # ∗
  unfold ins
  icases HX with ⟨X0, X1, X2, X3, X4⟩
  iapply (ld_w (i := cc0_stg0_0.idx) (hκ := rfl) z3) $$ X0
  iintro X0
  ihave Hkp := own_anyE $$ Hkp
  icases Hkp with ⟨%W0, Hx⟩
  iapply (ld_slot (m := xgM) c o1) $$ Hx
  iintro Hx
  iapply (st_slot (m := xgM) c o1) $$ Hx
  iintro Hx
  iapply (ld_w (i := cc0_stg2_0.idx) (hκ := rfl) z4) $$ X2
  iintro X2
  iapply (ld_w (i := cc0_stg3_0.idx) (hκ := rfl) z4) $$ X3
  iintro X3
  iapply (ld_w (i := cc0_stg1_0.idx) (hκ := rfl) z2) $$ X1
  iintro X1
  iapply (ld_w (i := cc0_stg4_0.idx) (hκ := rfl) z2) $$ X4
  iintro X4
  simp only [k0_part68_eq_skeleton, k0_part68_skel, Prog.bind_ret, Prog.pure_eq_ret, Prog.bind_assoc]
  iapply (p69 (c := c))
  iintro %r
  obtain ⟨v118, v129, v141, v146, v147⟩ := r
  dsimp only
  iapply (p70 (c := c))
  iintro %r
  obtain ⟨v154, v165, v177, v179, v180, v181, v182, v183⟩ := r
  dsimp only
  iapply (p71 (c := c))
  iintro %r
  obtain ⟨v188, c2_i32_116, v223, v225, c0_i32_118⟩ := r
  dsimp only
  iapply (p72 (c := c))
  iintro %r
  obtain ⟨v257, v268, v269⟩ := r
  dsimp only
  iapply (p73 (c := c))
  iintro %r
  obtain ⟨c2_i32_151, v308, v310, c0_i32_153⟩ := r
  dsimp only
  ihave Hx := (show own c xgM (slotR c 0) fullShare (k0_pay165 (I.x c)) ⊢ (own c xgM (slotR c 0) fullShare (xb I c) : sProp 𝕄) from BI.Entails.refl _) $$ Hx
  iapply (t74_even I K c hp) $$ [HO Hx Hfr Hfl Hsr Hsl Y0 Y2 Y4 Y6 Y8 Z2 Z4 Z6 RX0 RX2 RX4 RX6 LX0 LX2 LX4 LX6 RC1 RC3 RC5 LC1 LC3 LC5 T0 T1 T2 T3 T4 T5 T6 T7 T8 HF Hout Te1]
  · isplitr
    · ipureintro; exact ⟨hv2, by clear * - hp hv2; subst hv2; revert hp; revert c; decide +kernel⟩
    iframe # ∗
  unfold left_even
  iintro ⟨G0, ZA0, ZB1, G2, M0, N0, ZA2, W2, ZB3, G4, M2, N2, ZA4, W4, ZB5, G6, M4, N4, ZA6, W6, Hsl, ZB7, HO, G8, Y8, Y0, M6, ZA8, Hsr, Hfr, Hfl, ZF, Hout⟩
  rw [← wp_bind]
  unfold lastp
  simp only [semSignalWord, semWaitWord, Prog.lift, Prog.bind_op, Prog.bind_ret, Prog.pure_eq_ret, Prog.bind_assoc]
  iapply (end_r I K (Fin.ext d34) rfl rfl) $$ [HO Te2 Ae Ce]
  · iframe # ∗
  iintro ⟨HO, Ze⟩
  rw [wp_ret]
  imodintro
  unfold post zT zF bufs xg2 ya2 ins
  rw [tick_even hp, if_pos hp, slots_even hp, slots_even hp, slots_rr, slots_rl]
  icases G2 with ⟨G2, H2⟩
  icases G4 with ⟨G4, H4⟩
  icases G6 with ⟨G6, H6⟩
  icases W2 with ⟨Y2, Z2⟩
  icases W4 with ⟨Y4, Z4⟩
  icases W6 with ⟨Y6, Z6⟩
  iframe # ∗

end

end Cert.RingAttn
-- ==== Proof.Odd1.lean ====
module

public import proofs.«01_k».proof.Proof.Part

@[expose] public section

/-! The first ticks of a device of odd number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The first tick: the neighbours' blocks come. -/
theorem p74_odd (c : Dev nD) (hp : c.val % 2 = 1) {v2 : BitVec 32} {v14 : BitVec 32} {v25 : BitVec 32} {v141 : BitVec 32} {v177 : BitVec 32} {v188 : BitVec 1} {c2_i32_151 : BitVec 32} {v308 : BitVec 32} {v310 : BitVec 32} {c0_i32_153 : BitVec 32}
    {k} {Q : α → sProp 𝕄} :
    iprop(env I K c ∗ ow c 2 ∗ kB c 0)
      ⊢ iprop((∀ r, (ow c 4 ∗ inR I c 1 ∗ inL I c 1 ∗ zB c 0) -∗ WP c (k r) Q) -∗ WP c (onBufs (k0_part74 (F := F)) c v2 v14 v25 (k0_pay166 (I.ks c)) (k0_pay167 (I.vs c)) (k0_pay168 (I.wq c)) (k0_pay169 (I.wo c)) (wt I c).m1 v141 v177 v188 c2_i32_151 v308 v310 c0_i32_153 >>= k) Q) := by
  obtain ⟨-, h2, h3, h4, h5, -⟩ := conds_odd c hp
  simp only [onBufs, k0_part74_eq_skeleton, k0_part74_skel, dif_neg h2, dif_neg h3, dif_pos h4, dif_neg h5, Prog.lift, Prog.bind_op, Prog.bind_ret, Prog.pure_eq_ret, Prog.bind_assoc]
  iintro ⟨#HE, HO, T1⟩ Hk
  ihave T1 := (kB_lo (by omega)) $$ T1
  icases T1 with ⟨P1, P2⟩
  ihave HO := (Entails.of_eq (ow2 c (n := 2) (by omega) (by clear * - hp; revert hp; revert c; decide +kernel))) $$ HO
  iapply (blk_recv I K (g := 0) (by omega) (by omega) (credit_sq _ _ _) (credit_sq _ _ _)) $$ [HO P1 P2]
  · isplitr; · iexact HE
    isplitl [HO]; · iexact HO
    iframe
  iintro ⟨HO, HR, HL, Z1, Z2⟩
  iapply Hk
  isplitl [HO]; · iexact HO
  isplitl [HR]; · iexact HR
  isplitl [HL]; · iexact HL
  iapply (zB_lo (by omega)); iframe

set_option maxHeartbeats 2000000 in
/-- The second tick: the blocks go on and their outputs are computed. -/
theorem p79_odd (c : Dev nD) (hp : c.val % 2 = 1) {v14 : BitVec 32} {v25 : BitVec 32} {v345 : BitVec 32} {v369 : BitVec 32} {v381 : BitVec 32} {v392 : BitVec 1} {c2_i32_256 : BitVec 32} {v495 : BitVec 32} {v500 : BitVec 32} {c0_i32_259 : BitVec 32}
    {k} {Q : α → sProp 𝕄} :
    iprop(env I K c ∗ ow c 4 ∗ inR I c 1 ∗ inL I c 1 ∗ toA c 1 ∗ ya2 c 1)
      ⊢ iprop((∀ r, (ow c 6 ∗ sent I c 1 ∗ yaP I c 1) -∗ WP c (k r) Q) -∗ WP c (onBufs (k0_part79 (F := F)) c v14 v25 (k0_pay166 (I.ks c)) (k0_pay167 (I.vs c)) (k0_pay168 (I.wq c)) (k0_pay169 (I.wo c)) (wt I c).m2 v345 v369 v381 v392 c2_i32_256 v495 v500 c0_i32_259 >>= k) Q) := by
  obtain ⟨-, -, -, -, -, h6, h7, h8, -⟩ := conds_odd c hp
  obtain ⟨o10, o11, o12, o13, o14, o15, -⟩ := offs_odd c hp
  obtain ⟨-, -, d5, d6, -⟩ := devs_odd c hp
  simp only [onBufs, k0_part79_eq_skeleton, k0_part79_skel, k0_part5_eq_skeleton, k0_part5_skel, k0_part6_eq_skeleton, k0_part6_skel, k0_part7_eq_skeleton, k0_part7_skel, k0_part8_eq_skeleton, k0_part8_skel, k0_part9_eq_skeleton, k0_part9_skel, dif_pos h6, dif_pos h7, dif_neg h8, Prog.lift, Prog.bind_op, Prog.bind_ret, Prog.pure_eq_ret, Prog.bind_assoc]
  unfold ya2
  iintro ⟨#HE, HO, HR, HL, HT, Y1, Y2⟩ Hk
  iapply (blk_send I K (g := 1) (by omega) (by omega) (Fin.ext d5) (Fin.ext d6) o10 o11) $$ [HO HR HL HT]
  · isplitr; · iexact HE
    isplitl [HO]; · iexact HO
    iframe
  iintro ⟨HO, Hx0, Hx1, Hx2, Hx3, P3, P4⟩
  iapply (comp2 (j := slotR c 1) (j' := slotL c 1) (X := xb I (dm c 1)) (Y := xb I (dp c 1)) (q := fullShare.left) (q' := fullShare.left) o12 o13 o12 o13 o14 o15 o14 o15) $$ [Hx0 Hx2 Y1 Y2]
  · iframe
  iintro ⟨Hx0, Hx2, Y1, Y2⟩
  ihave Y := (yaP_intro I c (g := 1) (by omega)) $$ [Y1 Y2]
  · isplitl [Y1]; · iexact Y1
    iexact Y2
  iapply Hk
  unfold sent
  isplitl [HO]; · iexact HO
  isplitr [Y]
  · iframe
  · iexact Y

set_option maxHeartbeats 2000000 in
/-- The blocks sent are back. -/
theorem p80_odd (c : Dev nD) (hp : c.val % 2 = 1) {v2 : BitVec 32} {v392 : BitVec 1}
    {k} {Q : α → sProp 𝕄} :
    iprop(env I K c ∗ ow c 6 ∗ sent I c 1)
      ⊢ iprop(((ow c 6 ∗ xg2 c 1 ∗ zA c 1) -∗ WP c (k ⟨fmod (back v2 2#32) m16, fmod (back (Scalar.subi v2 1#32) 2#32) m16, back (Scalar.addi v2 1#32) 2#32, 16#32, Scalar.cmpi .eq 16#32 0#32, 1#32⟩) Q) -∗ WP c (onBufs (k0_part80 (F := F)) c v2 v392 >>= k) Q) := by
  obtain ⟨-, -, -, -, -, -, -, -, h9, -⟩ := conds_odd c hp
  simp only [onBufs, k0_part80_eq_skeleton, k0_part80_skel, dif_pos h9, Prog.lift, Prog.bind_op, Prog.bind_ret, Prog.pure_eq_ret, Prog.bind_assoc]
  unfold sent
  iintro ⟨#HE, HO, Hx0, Hx1, Hx2, Hx3, P3, P4⟩ Hk
  iapply (blk_wait I K (g := 1) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2
  isplitl [HO]; · iexact HO
  isplitl [X1 X2]; · iframe
  iapply (zA_lo (g := 1) (by omega)); iframe

set_option maxHeartbeats 2000000 in
/-- The device's partial outputs go on and the next blocks come. -/
theorem p86_odd (c : Dev nD) (hp : c.val % 2 = 1) {v2 : BitVec 32} {v14 : BitVec 32} {v25 : BitVec 32} {v549 : BitVec 32} {v575 : BitVec 32} {v586 : BitVec 32} {v611 : BitVec 32} {v622 : BitVec 1} {v762 : BitVec 32} {c0_i32_412 : BitVec 32} (hw : v622 = 0#1)
    {k} {Q : α → sProp 𝕄} :
    iprop(env I K c ∗ ow c 6 ∗ yaA I c 1 ∗ wAny c ysrM ∗ wAny c yslM ∗ toB c 0 ∗ pend c (brrS 2) ∗ pend c (brlS 2))
      ⊢ iprop(((ow c 8 ∗ ya2 c 1 ∗ wAny c ysrM ∗ wAny c yslM ∗ inR I c 3 ∗ inL I c 3 ∗ zB c 2) -∗ WP c (k ⟨m16, Scalar.remsi (back v2 3#32) m16, Scalar.cmpi .ne (Scalar.remsi (back v2 3#32) m16) 0#32⟩) Q) -∗ WP c (onBufs (k0_part86 (F := F)) c v2 v14 v25 (k0_pay166 (I.ks c)) (k0_pay167 (I.vs c)) (k0_pay168 (I.wq c)) (k0_pay169 (I.wo c)) (wt I c).m2 v549 v575 v586 v611 v622 v762 c0_i32_412 >>= k) Q) := by
  obtain ⟨-, -, -, -, -, -, -, -, -, -, h11, h12, h13, h14, h15, -⟩ := conds_odd c hp
  obtain ⟨-, -, -, -, -, -, o22, o23, -⟩ := offs_odd c hp
  obtain ⟨-, -, -, -, d9, d10, -⟩ := devs_odd c hp
  subst hw
  simp only [onBufs, k0_part86_eq_skeleton, k0_part86_skel, k0_part10_eq_skeleton, k0_part10_skel, dif_pos h11, dif_neg h12, dif_pos h13, dif_neg h14, dif_neg h15, dif_pos (show Scalar.cmpi .ne (Scalar.extui (Scalar.xori 0#1 1#1) : BitVec 32) 0#32 = 1#1 by decide), Prog.lift, Prog.bind_op, Prog.bind_ret, Prog.pure_eq_ret, Prog.bind_assoc]
  iintro ⟨#HE, HO, Y, W1, W2, HT, P1, P2⟩ Hk
  unfold yaA
  icases Y with ⟨Y1, Y2⟩
  iapply (chk_send I K (k := 0) (by omega) (by omega) (Fin.ext d9) (Fin.ext d10) o22 rfl z3 z3 rfl o23 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (blk_recv I K (g := 2) (by omega) (by omega) (credit_sq _ _ _) (credit_sq _ _ _)) $$ [HO P1 P2]
  · isplitr; · iexact HE
    isplitl [HO]; · iexact HO
    iframe
  iintro ⟨HO, HR, HL, Z3, Z4⟩
  iapply (chk_wait I K (k := 0) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  isplitl [Y1 Y2]
  · unfold ya2; iframe
  isplitl [W1]; · iexact W1
  isplitl [W2]; · iexact W2
  isplitl [HR]; · iexact HR
  isplitl [HL]; · iexact HL
  iapply (zB_mid (k := 0) (by omega)); iframe

theorem p86_odd' (c : Dev nD) (hp : c.val % 2 = 1) {v2 : BitVec 32} {v14 : BitVec 32} {v25 : BitVec 32} {v549 : BitVec 32} {v575 : BitVec 32} {v586 : BitVec 32} {v611 : BitVec 32} {v622 : BitVec 1} {v762 : BitVec 32} {c0_i32_412 : BitVec 32}
    {k} {Q : α → sProp 𝕄} :
    iprop(⌜v622 = 0#1⌝ ∗ env I K c ∗ ow c 6 ∗ yaA I c 1 ∗ wAny c ysrM ∗ wAny c yslM ∗ toB c 0 ∗ pend c (brrS 2) ∗ pend c (brlS 2))
      ⊢ iprop(((ow c 8 ∗ ya2 c 1 ∗ wAny c ysrM ∗ wAny c yslM ∗ inR I c 3 ∗ inL I c 3 ∗ zB c 2) -∗ WP c (k ⟨m16, Scalar.remsi (back v2 3#32) m16, Scalar.cmpi .ne (Scalar.remsi (back v2 3#32) m16) 0#32⟩) Q) -∗ WP c (onBufs (k0_part86 (F := F)) c v2 v14 v25 (k0_pay166 (I.ks c)) (k0_pay167 (I.vs c)) (k0_pay168 (I.wq c)) (k0_pay169 (I.wo c)) (wt I c).m2 v549 v575 v586 v611 v622 v762 c0_i32_412 >>= k) Q) := by
  iintro ⟨%hw, H⟩
  iapply (p86_odd I K c hp hw) $$ H

set_option maxHeartbeats 2000000 in
/-- The blocks go on, their outputs are computed, and what comes is added. -/
theorem p92_odd (c : Dev nD) (hp : c.val % 2 = 1) {v14 : BitVec 32} {v25 : BitVec 32} {v787 : BitVec 32} {v813 : BitVec 32} {v824 : BitVec 32} {v836 : BitVec 32} {v849 : BitVec 32} {v860 : BitVec 1} {c2_i32_547 : BitVec 32} {v980 : BitVec 32}
    {k} {Q : α → sProp 𝕄} :
    iprop(env I K c ∗ ow c 8 ∗ inR I c 3 ∗ inL I c 3 ∗ toA c 3 ∗ ya2 c 3)
      ⊢ iprop((∀ r, (ow c 10 ∗ sent I c 3 ∗ yaP I c 3) -∗ WP c (k r) Q) -∗ WP c (onBufs (k0_part92 (F := F)) c v14 v25 (k0_pay166 (I.ks c)) (k0_pay167 (I.vs c)) (k0_pay168 (I.wq c)) (k0_pay169 (I.wo c)) (wt I c).m2 v787 v813 v824 v836 v849 v860 c2_i32_547 v980 >>= k) Q) := by
  obtain ⟨-, -, -, -, -, -, -, -, -, -, -, -, -, -, -, h17, h18, h19, h20, -⟩ := conds_odd c hp
  obtain ⟨-, -, -, -, -, -, -, -, o34, o35, o38, o39, o40, o41, -⟩ := offs_odd c hp
  obtain ⟨-, -, -, -, -, -, d11, d12, -⟩ := devs_odd c hp
  simp only [onBufs, k0_part92_eq_skeleton, k0_part92_skel, k0_part19_eq_skeleton, k0_part19_skel, k0_part20_eq_skeleton, k0_part20_skel, k0_part21_eq_skeleton, k0_part21_skel, k0_part22_eq_skeleton, k0_part22_skel, k0_part23_eq_skeleton, k0_part23_skel, dif_pos h17, dif_neg h18, dif_pos h19, dif_neg h20, Prog.lift, Prog.bind_op, Prog.bind_ret, Prog.pure_eq_ret, Prog.bind_assoc]
  unfold ya2
  iintro ⟨#HE, HO, HR, HL, HT, Y1, Y2⟩ Hk
  iapply (blk_send I K (g := 3) (by omega) (by omega) (Fin.ext d11) (Fin.ext d12) o34 o35) $$ [HO HR HL HT]
  · isplitr; · iexact HE
    isplitl [HO]; · iexact HO
    iframe
  iintro ⟨HO, Hx0, Hx1, Hx2, Hx3, P3, P4⟩
  iapply (comp2 (j := slotR c 3) (j' := slotL c 3) (X := xb I (dm c 3)) (Y := xb I (dp c 3)) (q := fullShare.left) (q' := fullShare.left) o38 o39 o38 o39 o40 o41 o40 o41) $$ [Hx0 Hx2 Y1 Y2]
  · iframe
  iintro ⟨Hx0, Hx2, Y1, Y2⟩
  ihave Y := (yaP_intro I c (g := 3) (by omega)) $$ [Y1 Y2]
  · isplitl [Y1]; · iexact Y1
    iexact Y2
  iapply Hk
  unfold sent
  isplitl [HO]; · iexact HO
  isplitr [Y]
  · iframe
  · iexact Y

set_option maxHeartbeats 2000000 in
/-- The blocks go on, their outputs are computed, and what comes is added. -/
theorem p93_odd (c : Dev nD) (hp : c.val % 2 = 1) {v2 : BitVec 32} {v14 : BitVec 32} {v25 : BitVec 32} {v787 : BitVec 32} {v824 : BitVec 32} {v860 : BitVec 1} {v1007 : BitVec 32} (hw : v860 = 1#1)
    {k} {Q : α → sProp 𝕄} :
    iprop(env I K c ∗ ow c 10 ∗ sent I c 3 ∗ yaP I c 3 ∗ pend c (crrS 1) ∗ pend c (crlS 1))
      ⊢ iprop(((ow c 10 ∗ xg2 c 3 ∗ yaA I c 3 ∗ ownAny c rrM (r4 1) ∗ ownAny c rlM (r3 1) ∗ zA c 3) -∗ WP c (k ⟨fmod (back v2 4#32) m16, m16, Scalar.remsi (back (Scalar.subi v2 1#32) 4#32) m16⟩) Q) -∗ WP c (onBufs (k0_part93 (F := F)) c v2 v14 v25 v787 v824 v860 v1007 >>= k) Q) := by
  obtain ⟨-, -, -, -, -, -, -, -, -, -, -, -, -, -, -, -, -, -, -, h21, h22, -⟩ := conds_odd c hp
  obtain ⟨-, -, -, -, -, -, -, -, -, -, -, -, -, -, o44, o45, -⟩ := offs_odd c hp
  subst hw
  simp only [onBufs, k0_part93_eq_skeleton, k0_part93_skel, k0_part24_eq_skeleton, k0_part24_skel, k0_part25_eq_skeleton, k0_part25_skel, dif_pos h21, dif_pos h22, dif_neg (show ¬Scalar.cmpi .ne (Scalar.extui (Scalar.xori 1#1 1#1) : BitVec 32) 0#32 = 1#1 by decide), Prog.lift, Prog.bind_op, Prog.bind_ret, Prog.pure_eq_ret, Prog.bind_assoc]
  unfold sent
  iintro ⟨#HE, HO, ⟨Hx0, Hx1, Hx2, Hx3, P3, P4⟩, Y, P1, P2⟩ Hk
  unfold yaP
  icases Y with ⟨Y1, Y2⟩
  iapply (chk_add I K (k := 1) (by omega) (by omega) (credit_sq _ _ _) (credit_sq _ _ _) o44 rfl rfl o45 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (blk_wait I K (g := 3) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2 yaA
  isplitl [HO]; · iexact HO
  isplitl [X1 X2]; · iframe
  isplitl [Y1 Y2]
  · isplitl [Y1]; · iexact Y1
    iexact Y2
  isplitl [M1]; · iexact M1
  isplitl [M2]; · iexact M2
  iapply (zA_mid (k := 1) (by omega)); iframe

theorem p93_odd' (c : Dev nD) (hp : c.val % 2 = 1) {v2 : BitVec 32} {v14 : BitVec 32} {v25 : BitVec 32} {v787 : BitVec 32} {v824 : BitVec 32} {v860 : BitVec 1} {v1007 : BitVec 32}
    {k} {Q : α → sProp 𝕄} :
    iprop(⌜v860 = 1#1⌝ ∗ env I K c ∗ ow c 10 ∗ sent I c 3 ∗ yaP I c 3 ∗ pend c (crrS 1) ∗ pend c (crlS 1))
      ⊢ iprop(((ow c 10 ∗ xg2 c 3 ∗ yaA I c 3 ∗ ownAny c rrM (r4 1) ∗ ownAny c rlM (r3 1) ∗ zA c 3) -∗ WP c (k ⟨fmod (back v2 4#32) m16, m16, Scalar.remsi (back (Scalar.subi v2 1#32) 4#32) m16⟩) Q) -∗ WP c (onBufs (k0_part93 (F := F)) c v2 v14 v25 v787 v824 v860 v1007 >>= k) Q) := by
  iintro ⟨%hw, H⟩
  iapply (p93_odd I K c hp hw) $$ H

end

end Cert.RingAttn
-- ==== Proof.Odd2.lean ====
module

public import proofs.«01_k».proof.Proof.Part

@[expose] public section

/-! The middle ticks of a device of odd number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The device's partial outputs go on and the next blocks come. -/
theorem p99_odd (c : Dev nD) (hp : c.val % 2 = 1) {v14 : BitVec 32} {v25 : BitVec 32} {v1025 : BitVec 32} {v1051 : BitVec 32} {v1062 : BitVec 32} {v1087 : BitVec 32} {v1098 : BitVec 1} {v1218 : BitVec 32} {v1232 : BitVec 1} {c1_i32_707 : BitVec 32}
    {k} {Q : α → sProp 𝕄} :
    iprop(env I K c ∗ ow c 10 ∗ yaA I c 3 ∗ wAny c ysrM ∗ wAny c yslM ∗ toB c 2 ∗ pend c (brrS 4) ∗ pend c (brlS 4))
      ⊢ iprop(((ow c 12 ∗ ya2 c 3 ∗ pend c (csrS 2) ∗ pend c (cslS 2) ∗ inR I c 5 ∗ inL I c 5 ∗ zero c (brrS 4) ∗ zero c (brlS 4)) -∗ WP c (k (Scalar.extui (Scalar.xori v1098 1#1))) Q) -∗ WP c (onBufs (k0_part99 (F := F)) c v14 v25 (k0_pay166 (I.ks c)) (k0_pay167 (I.vs c)) (k0_pay168 (I.wq c)) (k0_pay169 (I.wo c)) (wt I c).m2 v1025 v1051 v1062 v1087 v1098 v1218 v1232 c1_i32_707 >>= k) Q) := by
  obtain ⟨-, -, -, -, -, -, -, -, -, -, -, -, -, -, -, -, -, -, -, -, -, h24, h25, h26, h27, h28, h29, -⟩ := conds_odd c hp
  obtain ⟨-, -, -, -, -, -, -, -, -, -, -, -, -, -, -, -, o50, o51, -⟩ := offs_odd c hp
  obtain ⟨-, -, -, -, -, -, -, -, d17, d18, -⟩ := devs_odd c hp
  simp only [onBufs, k0_part99_eq_skeleton, k0_part99_skel, k0_part26_eq_skeleton, k0_part26_skel, dif_neg h24, dif_pos h25, dif_neg h26, dif_pos h27, dif_neg h28, dif_neg h29, Prog.lift, Prog.bind_op, Prog.bind_ret, Prog.pure_eq_ret, Prog.bind_assoc]
  iintro ⟨#HE, HO, Y, W1, W2, HT, P1, P2⟩ Hk
  unfold yaA
  icases Y with ⟨Y1, Y2⟩
  iapply (chk_send I K (k := 2) (by omega) (by omega) (Fin.ext d17) (Fin.ext d18) o50 rfl z3 z3 rfl o51 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (blk_recv I K (g := 4) (by omega) (by omega) (credit_sq _ _ _) (credit_sq _ _ _)) $$ [HO P1 P2]
  · isplitr; · iexact HE
    isplitl [HO]; · iexact HO
    iframe
  iintro ⟨HO, HR, HL, Z3, Z4⟩
  iapply Hk
  isplitl [HO]; · iexact HO
  isplitl [Y1 Y2]
  · unfold ya2; iframe
  iframe

set_option maxHeartbeats 2000000 in
/-- The partial outputs sent are there. -/
theorem p100_odd (c : Dev nD) (hp : c.val % 2 = 1) {v2 : BitVec 32} {v1250 : BitVec 32} (hw : v1250 = 1#32)
    {k} {Q : α → sProp 𝕄} :
    iprop(env I K c ∗ ow c 12 ∗ pend c (csrS 2) ∗ pend c (cslS 2))
      ⊢ iprop(((ow c 12 ∗ wAny c ysrM ∗ wAny c yslM ∗ zero c (csrS 2) ∗ zero c (cslS 2)) -∗ WP c (k ⟨fmod (back v2 5#32) m16, fmod (back (Scalar.subi v2 1#32) 5#32) m16, back (Scalar.addi v2 1#32) 5#32, 16#32, Scalar.cmpi .eq 16#32 0#32, 1#32⟩) Q) -∗ WP c (onBufs (k0_part100 (F := F)) v2 v1250 >>= k) Q) := by
  subst hw
  simp only [onBufs, k0_part100_eq_skeleton, k0_part100_skel, dif_pos (show Scalar.cmpi .ne 1#32 0#32 = 1#1 by decide), Prog.lift, Prog.bind_op, Prog.bind_ret, Prog.pure_eq_ret, Prog.bind_assoc]
  iintro ⟨#HE, HO, C1, C2⟩ Hk
  iapply (chk_wait I K (k := 2) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  iframe

theorem p100_odd' (c : Dev nD) (hp : c.val % 2 = 1) {v2 : BitVec 32} {v1250 : BitVec 32}
    {k} {Q : α → sProp 𝕄} :
    iprop(⌜v1250 = 1#32⌝ ∗ env I K c ∗ ow c 12 ∗ pend c (csrS 2) ∗ pend c (cslS 2))
      ⊢ iprop(((ow c 12 ∗ wAny c ysrM ∗ wAny c yslM ∗ zero c (csrS 2) ∗ zero c (cslS 2)) -∗ WP c (k ⟨fmod (back v2 5#32) m16, fmod (back (Scalar.subi v2 1#32) 5#32) m16, back (Scalar.addi v2 1#32) 5#32, 16#32, Scalar.cmpi .eq 16#32 0#32, 1#32⟩) Q) -∗ WP c (onBufs (k0_part100 (F := F)) v2 v1250 >>= k) Q) := by
  iintro ⟨%hw, H⟩
  iapply (p100_odd I K c hp hw) $$ H

set_option maxHeartbeats 2000000 in
/-- The blocks go on. -/
theorem p105_odd (c : Dev nD) (hp : c.val % 2 = 1) {v14 : BitVec 32} {v25 : BitVec 32} {v1312 : BitVec 32} {v1336 : BitVec 1} {c2_i32_848 : BitVec 32} {v1439 : BitVec 32} {v1441 : BitVec 32} {c0_i32_850 : BitVec 32}
    {k} {Q : α → sProp 𝕄} :
    iprop(env I K c ∗ ow c 12 ∗ inR I c 5 ∗ inL I c 5 ∗ toA c 5)
      ⊢ iprop((∀ r, (ow c 14 ∗ sent I c 5) -∗ WP c (k r) Q) -∗ WP c (onBufs (k0_part105 (F := F)) c v14 v25 v1312 v1336 c2_i32_848 v1439 v1441 c0_i32_850 >>= k) Q) := by
  obtain ⟨-, -, -, -, -, -, -, -, -, -, -, -, -, -, -, -, -, -, -, -, -, -, -, -, -, -, -, h31, -⟩ := conds_odd c hp
  obtain ⟨-, -, -, -, -, -, -, -, -, -, -, -, -, -, -, -, -, -, o62, o63, -⟩ := offs_odd c hp
  obtain ⟨-, -, -, -, -, -, -, -, -, -, d19, d20, -⟩ := devs_odd c hp
  simp only [onBufs, k0_part105_eq_skeleton, k0_part105_skel, dif_pos h31, Prog.lift, Prog.bind_op, Prog.bind_ret, Prog.pure_eq_ret, Prog.bind_assoc]
  iintro ⟨#HE, HO, HR, HL, HT⟩ Hk
  iapply (blk_send I K (g := 5) (by omega) (by omega) (Fin.ext d19) (Fin.ext d20) o62 o63) $$ [HO HR HL HT]
  · isplitr; · iexact HE
    isplitl [HO]; · iexact HO
    iframe
  iintro ⟨HO, Hx0, Hx1, Hx2, Hx3, P3, P4⟩
  iapply Hk
  unfold sent
  isplitl [HO]; · iexact HO
  iframe

set_option maxHeartbeats 2000000 in
/-- The blocks go on, their outputs are computed, and what comes is added. -/
theorem p106_odd (c : Dev nD) (hp : c.val % 2 = 1) {v2 : BitVec 32} {v14 : BitVec 32} {v25 : BitVec 32} {v1263 : BitVec 32} {v1289 : BitVec 32} {v1300 : BitVec 32} {v1325 : BitVec 32} {v1336 : BitVec 1} {v1476 : BitVec 32} {c0_i32_874 : BitVec 32} (hw : v1336 = 1#1)
    {k} {Q : α → sProp 𝕄} :
    iprop(env I K c ∗ ow c 14 ∗ sent I c 5 ∗ ya2 c 5 ∗ pend c (crrS 3) ∗ pend c (crlS 3))
      ⊢ iprop(((ow c 14 ∗ xg2 c 5 ∗ yaA I c 5 ∗ ownAny c rrM (r4 3) ∗ ownAny c rlM (r3 3) ∗ zA c 5) -∗ WP c (k ⟨m16, Scalar.remsi (back v2 6#32) m16, Scalar.cmpi .ne (Scalar.remsi (back v2 6#32) m16) 0#32⟩) Q) -∗ WP c (onBufs (k0_part106 (F := F)) c v2 v14 v25 (k0_pay166 (I.ks c)) (k0_pay167 (I.vs c)) (k0_pay168 (I.wq c)) (k0_pay169 (I.wo c)) (wt I c).m2 v1263 v1289 v1300 v1325 v1336 v1476 c0_i32_874 >>= k) Q) := by
  obtain ⟨-, -, -, -, -, -, -, -, -, -, -, -, -, -, -, -, -, -, -, -, -, -, -, -, -, -, -, -, h32, h33, h34, h35, h36, -⟩ := conds_odd c hp
  obtain ⟨-, -, -, -, -, -, -, -, -, -, -, -, -, -, -, -, -, -, -, -, o66, o67, o68, o69, o72, o73, -⟩ := offs_odd c hp
  subst hw
  simp only [onBufs, k0_part106_eq_skeleton, k0_part106_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, dif_neg h32, dif_pos h33, dif_neg h34, dif_pos h35, dif_pos h36, dif_neg (show ¬Scalar.cmpi .ne (Scalar.extui (Scalar.xori 1#1 1#1) : BitVec 32) 0#32 = 1#1 by decide), Prog.lift, Prog.bind_op, Prog.bind_ret, Prog.pure_eq_ret, Prog.bind_assoc]
  unfold sent ya2
  iintro ⟨#HE, HO, ⟨Hx0, Hx1, Hx2, Hx3, P3, P4⟩, ⟨Y1, Y2⟩, P1, P2⟩ Hk
  iapply (comp2 (j := slotR c 5) (j' := slotL c 5) (X := xb I (dm c 5)) (Y := xb I (dp c 5)) (q := fullShare.left) (q' := fullShare.left) o66 o67 o66 o67 o68 o69 o68 o69) $$ [Hx0 Hx2 Y1 Y2]
  · iframe
  iintro ⟨Hx0, Hx2, Y1, Y2⟩
  ihave Y := (yaP_intro I c (g := 5) (by omega)) $$ [Y1 Y2]
  · isplitl [Y1]; · iexact Y1
    iexact Y2
  unfold yaP
  icases Y with ⟨Y1, Y2⟩
  iapply (chk_add I K (k := 3) (by omega) (by omega) (credit_sq _ _ _) (credit_sq _ _ _) o72 rfl rfl o73 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (blk_wait I K (g := 5) (by omega) (by omega) (credit_sq _ _ _) (credit_sq _ _ _)) $$ [HO Hx0 Hx1 Hx2 Hx3 P3 P4]
  · isplitr; · iexact HE
    isplitl [HO]; · iexact HO
    iframe
  iintro ⟨HO, X1, X2, Z3, Z4⟩
  iapply Hk
  unfold xg2 yaA
  isplitl [HO]; · iexact HO
  isplitl [X1 X2]; · iframe
  isplitl [Y1 Y2]
  · isplitl [Y1]; · iexact Y1
    iexact Y2
  isplitl [M1]; · iexact M1
  isplitl [M2]; · iexact M2
  iapply (zA_mid (k := 3) (by omega)); iframe

theorem p106_odd' (c : Dev nD) (hp : c.val % 2 = 1) {v2 : BitVec 32} {v14 : BitVec 32} {v25 : BitVec 32} {v1263 : BitVec 32} {v1289 : BitVec 32} {v1300 : BitVec 32} {v1325 : BitVec 32} {v1336 : BitVec 1} {v1476 : BitVec 32} {c0_i32_874 : BitVec 32}
    {k} {Q : α → sProp 𝕄} :
    iprop(⌜v1336 = 1#1⌝ ∗ env I K c ∗ ow c 14 ∗ sent I c 5 ∗ ya2 c 5 ∗ pend c (crrS 3) ∗ pend c (crlS 3))
      ⊢ iprop(((ow c 14 ∗ xg2 c 5 ∗ yaA I c 5 ∗ ownAny c rrM (r4 3) ∗ ownAny c rlM (r3 3) ∗ zA c 5) -∗ WP c (k ⟨m16, Scalar.remsi (back v2 6#32) m16, Scalar.cmpi .ne (Scalar.remsi (back v2 6#32) m16) 0#32⟩) Q) -∗ WP c (onBufs (k0_part106 (F := F)) c v2 v14 v25 (k0_pay166 (I.ks c)) (k0_pay167 (I.vs c)) (k0_pay168 (I.wq c)) (k0_pay169 (I.wo c)) (wt I c).m2 v1263 v1289 v1300 v1325 v1336 v1476 c0_i32_874 >>= k) Q) := by
  iintro ⟨%hw, H⟩
  iapply (p106_odd I K c hp hw) $$ H

set_option maxHeartbeats 2000000 in
/-- The device's partial outputs go on and the next blocks come. -/
theorem p112_odd (c : Dev nD) (hp : c.val % 2 = 1) {v14 : BitVec 32} {v25 : BitVec 32} {v1501 : BitVec 32} {v1527 : BitVec 32} {v1538 : BitVec 32} {v1550 : BitVec 32} {v1563 : BitVec 32} {v1574 : BitVec 1} {c2_i32_1009 : BitVec 32} {v1694 : BitVec 32}
    {k} {Q : α → sProp 𝕄} :
    iprop(env I K c ∗ ow c 14 ∗ yaA I c 5 ∗ wAny c ysrM ∗ wAny c yslM ∗ toB c 4 ∗ pend c (brrS 6) ∗ pend c (brlS 6))
      ⊢ iprop((∀ r, (ow c 16 ∗ ya2 c 5 ∗ pend c (csrS 4) ∗ pend c (cslS 4) ∗ inR I c 7 ∗ inL I c 7 ∗ zero c (brrS 6) ∗ zero c (brlS 6)) -∗ WP c (k r) Q) -∗ WP c (onBufs (k0_part112 (F := F)) c v14 v25 (k0_pay166 (I.ks c)) (k0_pay167 (I.vs c)) (k0_pay168 (I.wq c)) (k0_pay169 (I.wo c)) (wt I c).m2 v1501 v1527 v1538 v1550 v1563 v1574 c2_i32_1009 v1694 >>= k) Q) := by
  obtain ⟨-, -, -, -, -, -, -, -, -, -, -, -, -, -, -, -, -, -, -, -, -, -, -, -, -, -, -, -, -, -, -, -, -, h38, h39, h40, h41, -⟩ := conds_odd c hp
  obtain ⟨-, -, -, -, -, -, -, -, -, -, -, -, -, -, -, -, -, -, -, -, -, -, -, -, -, -, o78, o79, -⟩ := offs_odd c hp
  obtain ⟨-, -, -, -, -, -, -, -, -, -, -, -, d25, d26, -⟩ := devs_odd c hp
  simp only [onBufs, k0_part112_eq_skeleton, k0_part112_skel, k0_part42_eq_skeleton, k0_part42_skel, dif_neg h38, dif_pos h39, dif_neg h40, dif_pos h41, Prog.lift, Prog.bind_op, Prog.bind_ret, Prog.pure_eq_ret, Prog.bind_assoc]
  iintro ⟨#HE, HO, Y, W1, W2, HT, P1, P2⟩ Hk
  unfold yaA
  icases Y with ⟨Y1, Y2⟩
  iapply (chk_send I K (k := 4) (by omega) (by omega) (Fin.ext d25) (Fin.ext d26) o78 rfl z3 z3 rfl o79 rfl z3 z3 rfl) $$ [HO Y1 Y2 W1 W2 HT]
  · isplitr; · iexact HE
    isplitl [HO]; · iexact HO
    isplitl [Y1]; · iexact Y1
    isplitl [Y2]; · iexact Y2
    isplitl [W1]; · iexact W1
    isplitl [W2]; · iexact W2
    iexact HT
  iintro ⟨HO, Y1, Y2, C1, C2⟩
  iapply (blk_recv I K (g := 6) (by omega) (by omega) (credit_sq _ _ _) (credit_sq _ _ _)) $$ [HO P1 P2]
  · isplitr; · iexact HE
    isplitl [HO]; · iexact HO
    iframe
  iintro ⟨HO, HR, HL, Z3, Z4⟩
  iapply Hk
  isplitl [HO]; · iexact HO
  isplitl [Y1 Y2]
  · unfold ya2; iframe
  iframe

set_option maxHeartbeats 2000000 in
/-- The partial outputs sent are there. -/
theorem p113_odd (c : Dev nD) (hp : c.val % 2 = 1) {v2 : BitVec 32} {v14 : BitVec 32} {v25 : BitVec 32} {v1501 : BitVec 32} {v1538 : BitVec 32} {v1574 : BitVec 1} {v1721 : BitVec 32} (hw : v1574 = 0#1)
    {k} {Q : α → sProp 𝕄} :
    iprop(env I K c ∗ ow c 16 ∗ pend c (csrS 4) ∗ pend c (cslS 4))
      ⊢ iprop(((ow c 16 ∗ wAny c ysrM ∗ wAny c yslM ∗ zero c (csrS 4) ∗ zero c (cslS 4)) -∗ WP c (k ⟨fmod (back v2 7#32) m16, m16, Scalar.remsi (back (Scalar.subi v2 1#32) 7#32) m16⟩) Q) -∗ WP c (onBufs (k0_part113 (F := F)) c v2 v14 v25 v1501 v1538 v1574 v1721 >>= k) Q) := by
  obtain ⟨-, -, -, -, -, -, -, -, -, -, -, -, -, -, -, -, -, -, -, -, -, -, -, -, -, -, -, -, -, -, -, -, -, -, -, -, -, h42, h43, -⟩ := conds_odd c hp
  subst hw
  simp only [onBufs, k0_part113_eq_skeleton, k0_part113_skel, dif_neg h42, dif_neg h43, dif_pos (show Scalar.cmpi .ne (Scalar.extui (Scalar.xori 0#1 1#1) : BitVec 32) 0#32 = 1#1 by decide), Prog.lift, Prog.bind_op, Prog.bind_ret, Prog.pure_eq_ret, Prog.bind_assoc]
  iintro ⟨#HE, HO, C1, C2⟩ Hk
  iapply (chk_wait I K (k := 4) (by omega) (by omega) (show ysrM.view.dmaCredit = N from rfl) (show yslM.view.dmaCredit = N from rfl)) $$ [HO C1 C2]
  · isplitr; · iexact HE
    isplitl [HO]; · iexact HO
    iframe
  iintro ⟨HO, W1, W2, Z1, Z2⟩
  iapply Hk
  isplitl [HO]; · iexact HO
  iframe

theorem p113_odd' (c : Dev nD) (hp : c.val % 2 = 1) {v2 : BitVec 32} {v14 : BitVec 32} {v25 : BitVec 32} {v1501 : BitVec 32} {v1538 : BitVec 32} {v1574 : BitVec 1} {v1721 : BitVec 32}
    {k} {Q : α → sProp 𝕄} :
    iprop(⌜v1574 = 0#1⌝ ∗ env I K c ∗ ow c 16 ∗ pend c (csrS 4) ∗ pend c (cslS 4))
      ⊢ iprop(((ow c 16 ∗ wAny c ysrM ∗ wAny c yslM ∗ zero c (csrS 4) ∗ zero c (cslS 4)) -∗ WP c (k ⟨fmod (back v2 7#32) m16, m16, Scalar.remsi (back (Scalar.subi v2 1#32) 7#32) m16⟩) Q) -∗ WP c (onBufs (k0_part113 (F := F)) c v2 v14 v25 v1501 v1538 v1574 v1721 >>= k) Q) := by
  iintro ⟨%hw, H⟩
  iapply (p113_odd I K c hp hw) $$ H

set_option maxHeartbeats 2000000 in
/-- The device sends no blocks at the second tick. -/
theorem p85_odd (c : Dev nD) (hp : c.val % 2 = 1) {v14 : BitVec 32} {v25 : BitVec 32} {v598 : BitVec 32} {v622 : BitVec 1} {c2_i32_386 : BitVec 32} {v725 : BitVec 32} {v727 : BitVec 32} {c0_i32_388 : BitVec 32}
    {k} {Q : α → sProp 𝕄} :
    iprop(env I K c ∗ ow c 6)
      ⊢ iprop((∀ r, (ow c 6) -∗ WP c (k r) Q) -∗ WP c (onBufs (k0_part85 (F := F)) c v14 v25 v598 v622 c2_i32_386 v725 v727 c0_i32_388 >>= k) Q) := by
  obtain ⟨-, -, -, -, -, -, -, -, -, h10, -⟩ := conds_odd c hp
  simp only [onBufs, k0_part85_eq_skeleton, k0_part85_skel, dif_neg h10, Prog.lift, Prog.bind_op, Prog.bind_ret, Prog.pure_eq_ret, Prog.bind_assoc]
  iintro ⟨#HE, HO⟩ Hk
  iapply Hk
  iexact HO

set_option maxHeartbeats 2000000 in
/-- Nothing is left to be done at the seventh tick. -/
theorem p118_odd (c : Dev nD) (hp : c.val % 2 = 1) {v2 : BitVec 32} {v1884 : BitVec 32} (hw : v1884 = 0#32)
    {k} {Q : α → sProp 𝕄} :
    iprop(env I K c ∗ ow c 18)
      ⊢ iprop(((ow c 18) -∗ WP c (k ⟨fmod (back v2 8#32) m16, fmod (back (Scalar.addi v2 1#32) 8#32) m16, m2, Scalar.remsi (fmod (back v2 8#32) m16) m2, Scalar.cmpi .ne (Scalar.remsi (fmod (back v2 8#32) m16) m2) 0#32, Scalar.cmpi .slt (Scalar.remsi (fmod (back v2 8#32) m16) m2) 0#32, Scalar.cmpi .slt m2 0#32⟩) Q) -∗ WP c (onBufs (k0_part118 (F := F)) v2 v1884 >>= k) Q) := by
  subst hw
  simp only [onBufs, k0_part118_eq_skeleton, k0_part118_skel, dif_neg (show ¬Scalar.cmpi .ne 0#32 0#32 = 1#1 by decide), Prog.lift, Prog.bind_op, Prog.bind_ret, Prog.pure_eq_ret, Prog.bind_assoc]
  iintro ⟨#HE, HO⟩ Hk
  iapply Hk
  iexact HO

theorem p118_odd' (c : Dev nD) (hp : c.val % 2 = 1) {v2 : BitVec 32} {v1884 : BitVec 32}
    {k} {Q : α → sProp 𝕄} :
    iprop(⌜v1884 = 0#32⌝ ∗ env I K c ∗ ow c 18)
      ⊢ iprop(((ow c 18) -∗ WP c (k ⟨fmod (back v2 8#32) m16, fmod (back (Scalar.addi v2 1#32) 8#32) m16, m2, Scalar.remsi (fmod (back v2 8#32) m16) m2, Scalar.cmpi .ne (Scalar.remsi (fmod (back v2 8#32) m16) m2) 0#32, Scalar.cmpi .slt (Scalar.remsi (fmod (back v2 8#32) m16) m2) 0#32, Scalar.cmpi .slt m2 0#32⟩) Q) -∗ WP c (onBufs (k0_part118 (F := F)) v2 v1884 >>= k) Q) := by
  iintro ⟨%hw, H⟩
  iapply (p118_odd I K c hp hw) $$ H

end

end Cert.RingAttn
-- ==== Proof.Odd3.lean ====
module

public import proofs.«01_k».proof.Proof.Part

@[expose] public section

/-! The last ticks of a device of odd number. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 2000000 in
/-- The last block goes right, the last outputs are computed, and what comes is added. -/
theorem p117_odd (c : Dev nD) (hp : c.val % 2 = 1) {v14 : BitVec 32} {v25 : BitVec 32} {v1739 : BitVec 32} {v1765 : BitVec 32} {v1776 : BitVec 32} {v1789 : BitVec 32} {v1800 : BitVec 1} {v1852 : BitVec 32} {v1863 : BitVec 1} {v1864 : BitVec 32}
    {k} {Q : α → sProp 𝕄} :
    iprop(env I K c ∗ ow c 16 ∗ inR I c 7 ∗ inL I c 7 ∗ ownAny (rt c) xgM (slotR c 7) ∗ kA c 7 ∗ ya2 c 7)
      ⊢ iprop(((ow c 18 ∗ xg2 c 7 ∗ riderL (op7 c) ∗ yaA I c 7 ∗ ownAny c rrM (r4 5) ∗ ownAny c rlM (r3 5) ∗ zA c 7) -∗ WP c (k (Scalar.extui (Scalar.xori v1800 1#1))) Q) -∗ WP c (onBufs (k0_part117 (F := F)) c v14 v25 (k0_pay166 (I.ks c)) (k0_pay167 (I.vs c)) (k0_pay168 (I.wq c)) (k0_pay169 (I.wo c)) (wt I c).m2 v1739 v1765 v1776 v1789 v1800 v1852 v1863 v1864 >>= k) Q) := by
  obtain ⟨-, -, -, -, -, -, -, -, -, -, -, -, -, -, -, -, -, -, -, -, -, -, -, -, -, -, -, -, -, -, -, -, -, -, -, -, -, -, -, h45, h46, h47, h48, h49, h50, -⟩ := conds_odd c hp
  obtain ⟨-, -, -, -, -, -, -, -, -, -, -, -, -, -, -, -, -, -, -, -, -, -, -, -, -, -, -, -, o90, o93, o94, o95, o96, o98, o99, -⟩ := offs_odd c hp
  obtain ⟨-, -, -, -, -, -, -, -, -, -, -, -, -, -, d27, -⟩ := devs_odd c hp
  simp only [onBufs, k0_part117_eq_skeleton, k0_part117_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, dif_pos h45, dif_neg h46, dif_pos h47, dif_neg h48, dif_pos h49, dif_pos h50, Prog.lift, Prog.bind_op, Prog.bind_ret, Prog.pure_eq_ret, Prog.bind_assoc]
  unfold ya2 inR inL
  iintro ⟨#HE, HO, ⟨HR, Hq⟩, ⟨Hx2, Hq'⟩, HD, HT, Y1, Y2⟩ Hk
  ihave HT := kA_7 $$ HT
  icases HT with ⟨S1, P1, P2⟩
  ihave HR := own_split $$ HR
  icases HR with ⟨Hx0, Hx1, Hx3⟩
  iapply (send_bR I K (g := 7) (by omega) (by omega) (Fin.ext d27) o90) $$ [HO Hx1 HD Hq S1]
  · isplitr; · iexact HE
    isplitl [HO]; · iexact HO
    iframe
  iintro ⟨HO, P3⟩
  ihave HO := (Entails.of_eq (ow_skip c (n := 17) (by omega) (by clear * - hp; revert hp; revert c; decide +kernel))) $$ HO
  iapply (comp2 (j := slotR c 7) (j' := slotL c 7) (X := xb I (dm c 7)) (Y := xb I (dp c 7)) (q := fullShare.left) (q' := fullShare) o93 o94 o93 o94 o95 o96 o95 o96) $$ [Hx0 Hx2 Y1 Y2]
  · iframe
  iintro ⟨Hx0, Hx2, Y1, Y2⟩
  ihave Y := (yaP_intro I c (g := 7) (by omega)) $$ [Y1 Y2]
  · isplitl [Y1]; · iexact Y1
    iexact Y2
  unfold yaP
  icases Y with ⟨Y1, Y2⟩
  iapply (chk_add I K (k := 5) (by omega) (by omega) (credit_sq _ _ _) (credit_sq _ _ _) o98 rfl rfl o99 rfl rfl) $$ [HO Y1 Y2 P1 P2]
  · isplitr; · iexact HE
    isplitl [HO]; · iexact HO
    isplitl [Y1]; · iexact Y1
    isplitl [Y2]; · iexact Y2
    iframe
  iintro ⟨HO, Y1, Y2, M1, M2, Z1, Z2⟩
  iapply (wait_f I K (dec_bsr (g := 7) (by omega)) (by simp [usedF]; omega) (p := 18) (by omega) (by decide) (credit_sq _ _ _)) $$ [HO P3]
  · isplitr; · iexact HE
    isplitl [HO]; · iexact HO
    iexact P3
  iintro ⟨HO, Z3, Hx1⟩
  ihave Hx1 := (show pay I c false (.bsr, 7) ⊢ own c xgM (slotR c 7) qR (xb I (dm c 7)) from BI.Entails.refl _) $$ Hx1
  iapply Hk
  unfold xg2 yaA
  isplitl [HO]; · iexact HO
  isplitl [Hx0 Hx1 Hx2 Hx3]
  · isplitl [Hx0 Hx1 Hx3]
    · iapply own_any; iapply own_rejoin; iframe
    · iapply own_any; iexact Hx2
  isplitl [Hq']; · rw [← dp_seven]; iexact Hq'
  isplitl [Y1 Y2]
  · isplitl [Y1]; · iexact Y1
    iexact Y2
  isplitl [M1]; · iexact M1
  isplitl [M2]; · iexact M2
  iapply zA_7
  isplitl [Z3]; · unfold zero; iexact Z3
  iframe

set_option maxHeartbeats 2000000 in
/-- The last tick: the outputs that went round go to their devices, and the device's own is zero. -/
theorem p119_odd (c : Dev nD) (hp : c.val % 2 = 1) {v2 : BitVec 32} {v14 : BitVec 32} {v25 : BitVec 32} {v36 : BitVec 1} {v118 : BitVec 32} {v129 : BitVec 32} {v1897 : BitVec 32} {v1910 : BitVec 32} {v1912 : BitVec 32} {v1913 : BitVec 32} {v1914 : BitVec 1} {v1915 : BitVec 1} {v1916 : BitVec 1} (hv : v36 = 0#1) (hw : Scalar.cmpi .eq (Scalar.select (Scalar.andi (Scalar.xori v1915 v1916) v1914) (Scalar.addi v1913 v1912) v1913) 0#32 = 0#1)
    {k} {Q : α → sProp 𝕄} :
    iprop(env I K c ∗ ow c 18 ∗ yaA I c 7 ∗ wAny c ysrM ∗ wAny c yslM ∗ ownAny (rt c) rrM (r4 6) ∗ sndRes c (rt c) (csrS 6) (crrS 6) ∗ sndRes c (op7 c) fslS frlS
      ∗ riderL (op7 c) ∗ wAny c st5 ∗ dutyTok ER (cellAt (lf c) exitS) 0 true)
      ⊢ iprop(((ow c 22 ∗ ya2 c 7 ∗ wAny c ysrM ∗ wAny c yslM ∗ zB c 8 ∗ zero c fslS ∗ owns (c : Thread nD τ) st5 fullShare (outV I c)) -∗ WP c (k 1#32) Q) -∗ WP c (onBufs (k0_part119 (F := F)) c v2 v14 v25 v36 (k0_pay166 (I.ks c)) (k0_pay167 (I.vs c)) (k0_pay168 (I.wq c)) (k0_pay169 (I.wo c)) (wt I c).m1 v118 v129 v1897 v1910 v1912 v1913 v1914 v1915 v1916 >>= k) Q) := by
  obtain ⟨-, -, -, -, -, -, -, -, -, -, -, -, -, -, -, -, -, -, -, -, -, -, -, -, -, -, -, -, -, -, -, -, -, -, -, -, -, -, -, -, -, -, -, -, -, h52, h53, h54, h55, h58⟩ := conds_odd c hp
  obtain ⟨-, -, -, -, -, -, -, -, -, -, -, -, -, -, -, -, -, -, -, -, -, -, -, -, -, -, -, -, -, -, -, -, -, -, -, o101, o102⟩ := offs_odd c hp
  obtain ⟨-, -, -, -, -, -, -, -, -, -, -, -, -, -, -, d30, d31, d33, -⟩ := devs_odd c hp
  subst hv
  simp only [onBufs, k0_part119_eq_skeleton, k0_part119_skel, k0_part58_eq_skeleton, k0_part58_skel, hw, dif_pos h52, dif_pos h53, dif_neg h54, dif_neg h55, dif_neg h58, dif_pos (show Scalar.cmpi .ne (Scalar.extui (Scalar.xori 0#1 1#1) : BitVec 32) 0#32 = 1#1 by decide), semSignalWord, Prog.lift, Prog.bind_op, Prog.bind_ret, Prog.pure_eq_ret, Prog.bind_assoc]
  unfold yaA
  iintro ⟨#HE, HO, ⟨Y1, Y2⟩, W1, W2, Hd, S1, S2, Hq, Wo, HD⟩ Hk
  iapply (send_cR I K (k := 6) (by omega) (by omega) (Fin.ext d30) rfl o101 rfl z3 z3 rfl) $$ [HO Y1 W1 Hd S1]
  · isplitr; · iexact HE
    isplitl [HO]; · iexact HO
    isplitl [Y1]; · iexact Y1
    isplitl [W1]; · iexact W1
    isplitl [Hd]; · iexact Hd
    iexact S1
  iintro ⟨HO, Y1, C1⟩
  iapply (ld_slot (m := yaM) c o102) $$ Y2
  iintro Y2
  unfold wAny
  icases W2 with ⟨%w, Wl⟩
  iapply (ld_w (i := cc0_scratch5.idx) (hκ := rfl) z3) $$ Wl
  iintro Wl
  iapply (st_w (i := cc0_scratch5.idx) (hκ := rfl) z3) $$ Wl
  iintro Wl
  iapply (fin_sendL I K hp (Fin.ext d31) rfl) $$ [HO Wl Hq S2]
  · isplitr; · iexact HE
    isplitl [HO]; · iexact HO
    isplitl [Wl]; · iexact Wl
    isplitl [Hq]; · iexact Hq
    iexact S2
  iintro ⟨HO, C2⟩
  ihave HO := (Entails.of_eq (ow_skip c (n := 20) (by omega) (by clear * - hp; revert hp; revert c; decide +kernel))) $$ HO
  iapply (wait_f I K (dec_csr (g := 6) (by omega)) (by simp [usedF]; omega) (p := 21) (by omega) (by decide) (show ysrM.view.dmaCredit = N from rfl)) $$ [HO C1]
  · isplitr; · iexact HE
    isplitl [HO]; · iexact HO
    iexact C1
  iintro ⟨HO, Z1, Wr⟩
  iapply (wait_f I K (f := (.fsl, 0)) rfl (by simp [usedF, hp]) (p := 21) (by omega) (by decide) (show yslM.view.dmaCredit = N from rfl)) $$ [HO C2]
  · isplitr; · iexact HE
    isplitl [HO]; · iexact HO
    iexact C2
  iintro ⟨HO, Z2, Wl⟩
  icases Wo with ⟨%w', Wo⟩
  iapply (ld_w (i := cc0_stg5_0.idx) (hκ := rfl) z3) $$ Wo
  iintro Wo
  iapply (st_w (i := cc0_stg5_0.idx) (hκ := rfl) z3) $$ Wo
  iintro Wo
  iapply (end_l I K (Fin.ext d33) rfl) $$ [HO HD]
  · isplitr; · iexact HE
    isplitl [HO]; · iexact HO
    iexact HD
  iintro HO
  iapply Hk
  ihave Wr := (show pay I c false (.csr, 6) ⊢ iprop(∃ X, owns (c : Thread nD τ) ysrM fullShare X) from BI.Entails.refl _) $$ Wr
  ihave Wl := (show pay I c false (.fsl, 0) ⊢ iprop(∃ X, owns (c : Thread nD τ) yslM fullShare X) from BI.Entails.refl _) $$ Wl
  unfold zero ya2
  rw [show outV I c = k0_pay211 from if_neg (by omega)]
  isplitl [HO]; · iexact HO
  isplitl [Y1 Y2]
  · isplitl [Y1]
    · iapply own_any; iexact Y1
    · iapply own_any; iexact Y2
  isplitl [Wr]; · iexact Wr
  isplitl [Wl]; · iexact Wl
  isplitl [Z1]; · iapply zB_8; unfold zero; iexact Z1
  isplitl [Z2]; · iexact Z2
  iexact Wo

theorem p119_odd' (c : Dev nD) (hp : c.val % 2 = 1) {v2 : BitVec 32} {v14 : BitVec 32} {v25 : BitVec 32} {v36 : BitVec 1} {v118 : BitVec 32} {v129 : BitVec 32} {v1897 : BitVec 32} {v1910 : BitVec 32} {v1912 : BitVec 32} {v1913 : BitVec 32} {v1914 : BitVec 1} {v1915 : BitVec 1} {v1916 : BitVec 1}
    {k} {Q : α → sProp 𝕄} :
    iprop(⌜v36 = 0#1 ∧ Scalar.cmpi .eq (Scalar.select (Scalar.andi (Scalar.xori v1915 v1916) v1914) (Scalar.addi v1913 v1912) v1913) 0#32 = 0#1⌝ ∗ env I K c ∗ ow c 18 ∗ yaA I c 7 ∗ wAny c ysrM ∗ wAny c yslM ∗ ownAny (rt c) rrM (r4 6) ∗ sndRes c (rt c) (csrS 6) (crrS 6) ∗ sndRes c (op7 c) fslS frlS
      ∗ riderL (op7 c) ∗ wAny c st5 ∗ dutyTok ER (cellAt (lf c) exitS) 0 true)
      ⊢ iprop(((ow c 22 ∗ ya2 c 7 ∗ wAny c ysrM ∗ wAny c yslM ∗ zB c 8 ∗ zero c fslS ∗ owns (c : Thread nD τ) st5 fullShare (outV I c)) -∗ WP c (k 1#32) Q) -∗ WP c (onBufs (k0_part119 (F := F)) c v2 v14 v25 v36 (k0_pay166 (I.ks c)) (k0_pay167 (I.vs c)) (k0_pay168 (I.wq c)) (k0_pay169 (I.wo c)) (wt I c).m1 v118 v129 v1897 v1910 v1912 v1913 v1914 v1915 v1916 >>= k) Q) := by
  iintro ⟨%h, H⟩
  iapply (p119_odd I K c hp h.1 h.2) $$ H

end

end Cert.RingAttn
-- ==== Proof.TickOdd.lean ====
module

public import proofs.«01_k».proof.Proof.Odd1
public import proofs.«01_k».proof.Proof.Odd2
public import proofs.«01_k».proof.Proof.Odd3
public import proofs.«01_k».proof.Proof.Tails

@[expose] public section

/-! The ticks at the odd devices. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ
/-- What the ticks leave. -/
def left_odd (I : Ins F) (c : Dev nD) : sProp 𝕄 :=
  iprop(zB c 0 ∗ xg2 c 1 ∗ zA c 1 ∗ ya2 c 1 ∗ zB c 2 ∗ xg2 c 3 ∗ ownAny c rrM (r4 1) ∗ ownAny c rlM (r3 1) ∗ zA c 3 ∗ ya2 c 3 ∗ zB c 4 ∗ xg2 c 5 ∗ ownAny c rrM (r4 3) ∗ ownAny c rlM (r3 3) ∗ zA c 5 ∗ ya2 c 5 ∗ zB c 6 ∗ xg2 c 7 ∗ ownAny c rrM (r4 5) ∗ ownAny c rlM (r3 5) ∗ zA c 7 ∗ ow c 22 ∗ ya2 c 7 ∗ wAny c ysrM ∗ wAny c yslM ∗ zB c 8 ∗ zero c fslS ∗ owns (c : Thread nD τ) st5 fullShare (outV I c))

set_option maxHeartbeats 4000000 in
theorem t114_odd (c : Dev nD) (hp : c.val % 2 = 1) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ ownAny c yaM (slotR c 7) ∗ ownAny c yaM (slotL c 7) ∗ ownAny (rt c) xgM (slotR c 7) ∗ ownAny (rt c) rrM (r4 6) ∗ kA c 7 ∗ kB c 8 ∗ sndRes c (op7 c) fslS frlS ∗ wAny c st5 ∗ dutyTok ER (cellAt (lf c) exitS) 0 true ∗ zB c 0 ∗ xg2 c 1 ∗ zA c 1 ∗ ya2 c 1 ∗ zB c 2 ∗ xg2 c 3 ∗ ownAny c rrM (r4 1) ∗ ownAny c rlM (r3 1) ∗ zA c 3 ∗ ya2 c 3 ∗ zB c 4 ∗ xg2 c 5 ∗ ownAny c rrM (r4 3) ∗ ownAny c rlM (r3 3) ∗ zA c 5 ∗ ya2 c 5 ∗ inR I c 7 ∗ inL I c 7 ∗ ow c 16 ∗ wAny c ysrM ∗ wAny c yslM ∗ zB c 6)
      ⊢ iprop((left_odd I c -∗ WP c (lastp c) Q) -∗ WP c (tail114 c v2 m16 (Scalar.remsi (back (Scalar.subi v2 1#32) 7#32) m16) (fmod (back v2 7#32) m16) v14 v25 (k0_pay166 (I.ks c)) (k0_pay167 (I.vs c)) (k0_pay168 (I.wq c)) (k0_pay169 (I.wo c)) (wt I c).m2 v36 (wt I c).m1 v118 v129) Q) := by
  iintro ⟨%hh, #HE, Y7, Z7, RX7, RC6, T7, T8, HF, Hout, Te1, ZB0, G1, ZA1, W1, ZB2, G3, M1, N1, ZA3, W3, ZB4, G5, M3, N3, ZA5, W5, HR, HL, HO, Hsr, Hsl, ZB6⟩ Hk
  obtain ⟨hv2, h36⟩ := hh
  unfold tail114
  simp only [k0_part114_eq_skeleton, k0_part114_skel, k0_part115_eq_skeleton, k0_part115_skel, Prog.bind_ret, Prog.pure_eq_ret, Prog.bind_assoc]
  iapply (p116 (c := c))
  iintro %r
  obtain ⟨v1852, v1863, v1864⟩ := r
  dsimp only
  ihave HY := (ya2_intro c 7) $$ [Y7 Z7]
  · iframe
  iapply (p117_odd I K c hp) $$ [HO HR HL RX7 T7 HY]
  · iframe # ∗
  iintro ⟨HO, G7, HQ, HA, M5, N5, ZA7⟩
  iapply (p118_odd' I K c hp) $$ [HO]
  · isplitr
    · ipureintro; clear * - hp hv2; subst hv2; revert hp; revert c; decide +kernel
    iframe # ∗
  iintro HO
  ihave P1 := kB_8 $$ T8
  iapply (p119_odd' I K c hp) $$ [HO HA Hsr Hsl RC6 P1 HF HQ Hout Te1]
  · isplitr
    · ipureintro; exact ⟨h36, by clear * - hp hv2; subst hv2; revert hp; revert c; decide +kernel⟩
    iframe # ∗
  iintro ⟨HO, W7, Hsr, Hsl, ZB8, ZF, Hout⟩
  iapply Hk
  unfold left_odd
  iframe

set_option maxHeartbeats 4000000 in
theorem t107_odd (c : Dev nD) (hp : c.val % 2 = 1) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ ownAny c yaM (slotR c 7) ∗ ownAny c yaM (slotL c 7) ∗ ownAny (rt c) xgM (slotR c 7) ∗ ownAny (rt c) rrM (r4 4) ∗ ownAny (rt c) rrM (r4 6) ∗ ownAny (lf c) rlM (r3 4) ∗ kB c 6 ∗ kA c 7 ∗ kB c 8 ∗ sndRes c (op7 c) fslS frlS ∗ wAny c st5 ∗ dutyTok ER (cellAt (lf c) exitS) 0 true ∗ zB c 0 ∗ xg2 c 1 ∗ zA c 1 ∗ ya2 c 1 ∗ zB c 2 ∗ xg2 c 3 ∗ ownAny c rrM (r4 1) ∗ ownAny c rlM (r3 1) ∗ zA c 3 ∗ ya2 c 3 ∗ wAny c ysrM ∗ wAny c yslM ∗ zB c 4 ∗ ow c 14 ∗ xg2 c 5 ∗ yaA I c 5 ∗ ownAny c rrM (r4 3) ∗ ownAny c rlM (r3 3) ∗ zA c 5)
      ⊢ iprop((left_odd I c -∗ WP c (lastp c) Q) -∗ WP c (tail107 c v2 m16 (Scalar.remsi (back v2 6#32) m16) (Scalar.cmpi .ne (Scalar.remsi (back v2 6#32) m16) 0#32) v14 v25 (k0_pay166 (I.ks c)) (k0_pay167 (I.vs c)) (k0_pay168 (I.wq c)) (k0_pay169 (I.wo c)) (wt I c).m2 v36 (wt I c).m1 v118 v129) Q) := by
  iintro ⟨%hh, #HE, Y7, Z7, RX7, RC4, RC6, LC4, T6, T7, T8, HF, Hout, Te1, ZB0, G1, ZA1, W1, ZB2, G3, M1, N1, ZA3, W3, Hsr, Hsl, ZB4, HO, G5, HA, M3, N3, ZA5⟩ Hk
  obtain ⟨hv2, h36⟩ := hh
  unfold tail107
  simp only [k0_part107_eq_skeleton, k0_part107_skel, k0_part108_eq_skeleton, k0_part108_skel, k0_part109_eq_skeleton, k0_part109_skel, Prog.bind_ret, Prog.pure_eq_ret, Prog.bind_assoc]
  iapply (p110 (c := c))
  iintro %r
  obtain ⟨c2_i32_988, v1643, v1648, v1650, v1651⟩ := r
  dsimp only
  iapply (p111 (c := c))
  iintro %r
  obtain ⟨c2_i32_1009, v1694⟩ := r
  dsimp only
  ihave HT := (toB_intro (k := 4) rfl (by omega)) $$ [T6 RC4 LC4]
  · iframe
  icases HT with ⟨HT, P1, P2⟩
  iapply (p112_odd I K c hp) $$ [HO HA Hsr Hsl HT P1 P2]
  · iframe # ∗
  iintro %r ⟨HO, W5, Q1, Q2, HR, HL, Q3, Q4⟩
  iapply (p113_odd' I K c hp) $$ [HO Q1 Q2]
  · isplitr
    · ipureintro; clear * - hp hv2; subst hv2; revert hp; revert c; decide +kernel
    iframe # ∗
  iintro ⟨HO, Hsr, Hsl, Q1, Q2⟩
  ihave ZB6 := (zB_mid (k := 4) (by omega)) $$ [Q1 Q2 Q3 Q4]
  · iframe
  iapply (t114_odd I K c hp) $$ [Y7 Z7 RX7 RC6 T7 T8 HF Hout Te1 ZB0 G1 ZA1 W1 ZB2 G3 M1 N1 ZA3 W3 ZB4 G5 M3 N3 ZA5 W5 HR HL HO Hsr Hsl ZB6]
  · isplitr
    · ipureintro; exact ⟨hv2, h36⟩
    iframe # ∗
  iexact Hk

set_option maxHeartbeats 4000000 in
theorem t100_odd (c : Dev nD) (hp : c.val % 2 = 1) {v2 : BitVec 32} {v1250 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1 ∧ v1250 = 1#32⌝ ∗ env I K c ∗ ownAny c yaM (slotR c 5) ∗ ownAny c yaM (slotR c 7) ∗ ownAny c yaM (slotL c 5) ∗ ownAny c yaM (slotL c 7) ∗ ownAny (rt c) xgM (slotR c 5) ∗ ownAny (rt c) xgM (slotR c 7) ∗ ownAny (lf c) xgM (slotL c 5) ∗ ownAny (rt c) rrM (r4 4) ∗ ownAny (rt c) rrM (r4 6) ∗ ownAny (lf c) rlM (r3 4) ∗ kA c 5 ∗ kB c 6 ∗ kA c 7 ∗ kB c 8 ∗ sndRes c (op7 c) fslS frlS ∗ wAny c st5 ∗ dutyTok ER (cellAt (lf c) exitS) 0 true ∗ zB c 0 ∗ xg2 c 1 ∗ zA c 1 ∗ ya2 c 1 ∗ zB c 2 ∗ xg2 c 3 ∗ ownAny c rrM (r4 1) ∗ ownAny c rlM (r3 1) ∗ zA c 3 ∗ ow c 12 ∗ ya2 c 3 ∗ pend c (csrS 2) ∗ pend c (cslS 2) ∗ inR I c 5 ∗ inL I c 5 ∗ zero c (brrS 4) ∗ zero c (brlS 4))
      ⊢ iprop((left_odd I c -∗ WP c (lastp c) Q) -∗ WP c (tail100 c v2 v1250 v14 v25 (k0_pay166 (I.ks c)) (k0_pay167 (I.vs c)) (k0_pay168 (I.wq c)) (k0_pay169 (I.wo c)) (wt I c).m2 v36 (wt I c).m1 v118 v129) Q) := by
  iintro ⟨%hh, #HE, Y5, Y7, Z5, Z7, RX5, RX7, LX5, RC4, RC6, LC4, T5, T6, T7, T8, HF, Hout, Te1, ZB0, G1, ZA1, W1, ZB2, G3, M1, N1, ZA3, HO, W3, Q1, Q2, HR, HL, Q3, Q4⟩ Hk
  obtain ⟨hv2, h36, hw⟩ := hh
  unfold tail100
  iapply (p100_odd' I K c hp) $$ [HO Q1 Q2]
  · isplitr
    · ipureintro; exact hw
    iframe # ∗
  iintro ⟨HO, Hsr, Hsl, Q1, Q2⟩
  ihave ZB4 := (zB_mid (k := 2) (by omega)) $$ [Q1 Q2 Q3 Q4]
  · iframe
  simp only [k0_part101_eq_skeleton, k0_part101_skel, k0_part102_eq_skeleton, k0_part102_skel, Prog.bind_ret, Prog.pure_eq_ret, Prog.bind_assoc]
  iapply (p103 (c := c))
  iintro %r
  obtain ⟨v1388, v1399, v1400⟩ := r
  dsimp only
  iapply (p104 (c := c))
  iintro %r
  obtain ⟨c2_i32_848, v1439, v1441, c0_i32_850⟩ := r
  dsimp only
  ihave HT := (toA_intro (k := 3) rfl (by omega)) $$ [T5 RX5 LX5]
  · iframe
  icases HT with ⟨HT, P1, P2⟩
  iapply (p105_odd I K c hp) $$ [HO HR HL HT]
  · iframe # ∗
  iintro %r ⟨HO, HS⟩
  obtain ⟨v1476, c0_i32_874⟩ := r
  dsimp only
  ihave HY := (ya2_intro c 5) $$ [Y5 Z5]
  · iframe
  iapply (p106_odd' I K c hp) $$ [HO HS HY P1 P2]
  · isplitr
    · ipureintro; clear * - hp hv2; subst hv2; revert hp; revert c; decide +kernel
    iframe # ∗
  iintro ⟨HO, G5, HA, M3, N3, ZA5⟩
  iapply (t107_odd I K c hp) $$ [Y7 Z7 RX7 RC4 RC6 LC4 T6 T7 T8 HF Hout Te1 ZB0 G1 ZA1 W1 ZB2 G3 M1 N1 ZA3 W3 Hsr Hsl ZB4 HO G5 HA M3 N3 ZA5]
  · isplitr
    · ipureintro; exact ⟨hv2, h36⟩
    iframe # ∗
  iexact Hk

set_option maxHeartbeats 4000000 in
theorem t94_odd (c : Dev nD) (hp : c.val % 2 = 1) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ ownAny c yaM (slotR c 5) ∗ ownAny c yaM (slotR c 7) ∗ ownAny c yaM (slotL c 5) ∗ ownAny c yaM (slotL c 7) ∗ ownAny (rt c) xgM (slotR c 5) ∗ ownAny (rt c) xgM (slotR c 7) ∗ ownAny (lf c) xgM (slotL c 5) ∗ ownAny (rt c) rrM (r4 2) ∗ ownAny (rt c) rrM (r4 4) ∗ ownAny (rt c) rrM (r4 6) ∗ ownAny (lf c) rlM (r3 2) ∗ ownAny (lf c) rlM (r3 4) ∗ kB c 4 ∗ kA c 5 ∗ kB c 6 ∗ kA c 7 ∗ kB c 8 ∗ sndRes c (op7 c) fslS frlS ∗ wAny c st5 ∗ dutyTok ER (cellAt (lf c) exitS) 0 true ∗ zB c 0 ∗ xg2 c 1 ∗ zA c 1 ∗ ya2 c 1 ∗ wAny c ysrM ∗ wAny c yslM ∗ zB c 2 ∗ ow c 10 ∗ xg2 c 3 ∗ yaA I c 3 ∗ ownAny c rrM (r4 1) ∗ ownAny c rlM (r3 1) ∗ zA c 3)
      ⊢ iprop((left_odd I c -∗ WP c (lastp c) Q) -∗ WP c (tail94 c v2 m16 (Scalar.remsi (back (Scalar.subi v2 1#32) 4#32) m16) (fmod (back v2 4#32) m16) v14 v25 (k0_pay166 (I.ks c)) (k0_pay167 (I.vs c)) (k0_pay168 (I.wq c)) (k0_pay169 (I.wo c)) (wt I c).m2 v36 (wt I c).m1 v118 v129) Q) := by
  iintro ⟨%hh, #HE, Y5, Y7, Z5, Z7, RX5, RX7, LX5, RC2, RC4, RC6, LC2, LC4, T4, T5, T6, T7, T8, HF, Hout, Te1, ZB0, G1, ZA1, W1, Hsr, Hsl, ZB2, HO, G3, HA, M1, N1, ZA3⟩ Hk
  obtain ⟨hv2, h36⟩ := hh
  unfold tail94
  simp only [k0_part94_eq_skeleton, k0_part94_skel, k0_part95_eq_skeleton, k0_part95_skel, Prog.bind_ret, Prog.pure_eq_ret, Prog.bind_assoc]
  iapply (p96 (c := c))
  iintro %r
  obtain ⟨v1133, v1147, c1_i32_672⟩ := r
  dsimp only
  iapply (p97 (c := c))
  iintro %r
  obtain ⟨c2_i32_687, v1184, v1189, c0_i32_690⟩ := r
  dsimp only
  iapply (p98 (c := c))
  iintro %r
  obtain ⟨v1218, v1232, c1_i32_707⟩ := r
  dsimp only
  ihave HT := (toB_intro (k := 2) rfl (by omega)) $$ [T4 RC2 LC2]
  · iframe
  icases HT with ⟨HT, P1, P2⟩
  iapply (p99_odd I K c hp) $$ [HO HA Hsr Hsl HT P1 P2]
  · iframe # ∗
  iintro ⟨HO, W3, Q1, Q2, HR, HL, Q3, Q4⟩
  iapply (t100_odd I K c hp) $$ [Y5 Y7 Z5 Z7 RX5 RX7 LX5 RC4 RC6 LC4 T5 T6 T7 T8 HF Hout Te1 ZB0 G1 ZA1 W1 ZB2 G3 M1 N1 ZA3 HO W3 Q1 Q2 HR HL Q3 Q4]
  · isplitr
    · ipureintro; exact ⟨hv2, h36, by clear * - hp hv2; subst hv2; revert hp; revert c; decide +kernel⟩
    iframe # ∗
  iexact Hk

set_option maxHeartbeats 4000000 in
theorem t87_odd (c : Dev nD) (hp : c.val % 2 = 1) {v2 : BitVec 32} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ ownAny c yaM (slotR c 3) ∗ ownAny c yaM (slotR c 5) ∗ ownAny c yaM (slotR c 7) ∗ ownAny c yaM (slotL c 3) ∗ ownAny c yaM (slotL c 5) ∗ ownAny c yaM (slotL c 7) ∗ ownAny (rt c) xgM (slotR c 3) ∗ ownAny (rt c) xgM (slotR c 5) ∗ ownAny (rt c) xgM (slotR c 7) ∗ ownAny (lf c) xgM (slotL c 3) ∗ ownAny (lf c) xgM (slotL c 5) ∗ ownAny (rt c) rrM (r4 2) ∗ ownAny (rt c) rrM (r4 4) ∗ ownAny (rt c) rrM (r4 6) ∗ ownAny (lf c) rlM (r3 2) ∗ ownAny (lf c) rlM (r3 4) ∗ kA c 3 ∗ kB c 4 ∗ kA c 5 ∗ kB c 6 ∗ kA c 7 ∗ kB c 8 ∗ sndRes c (op7 c) fslS frlS ∗ wAny c st5 ∗ dutyTok ER (cellAt (lf c) exitS) 0 true ∗ zB c 0 ∗ xg2 c 1 ∗ zA c 1 ∗ ow c 8 ∗ ya2 c 1 ∗ wAny c ysrM ∗ wAny c yslM ∗ inR I c 3 ∗ inL I c 3 ∗ zB c 2)
      ⊢ iprop((left_odd I c -∗ WP c (lastp c) Q) -∗ WP c (tail87 c v2 m16 (Scalar.remsi (back v2 3#32) m16) (Scalar.cmpi .ne (Scalar.remsi (back v2 3#32) m16) 0#32) v14 v25 (k0_pay166 (I.ks c)) (k0_pay167 (I.vs c)) (k0_pay168 (I.wq c)) (k0_pay169 (I.wo c)) (wt I c).m2 v36 (wt I c).m1 v118 v129) Q) := by
  iintro ⟨%hh, #HE, Y3, Y5, Y7, Z3, Z5, Z7, RX3, RX5, RX7, LX3, LX5, RC2, RC4, RC6, LC2, LC4, T3, T4, T5, T6, T7, T8, HF, Hout, Te1, ZB0, G1, ZA1, HO, W1, Hsr, Hsl, HR, HL, ZB2⟩ Hk
  obtain ⟨hv2, h36⟩ := hh
  unfold tail87
  simp only [k0_part87_eq_skeleton, k0_part87_skel, k0_part88_eq_skeleton, k0_part88_skel, k0_part89_eq_skeleton, k0_part89_skel, Prog.bind_ret, Prog.pure_eq_ret, Prog.bind_assoc]
  iapply (p90 (c := c))
  iintro %r
  obtain ⟨c2_i32_526, v929, v934, v936, v937⟩ := r
  dsimp only
  iapply (p91 (c := c))
  iintro %r
  obtain ⟨c2_i32_547, v980⟩ := r
  dsimp only
  ihave HT := (toA_intro (k := 1) rfl (by omega)) $$ [T3 RX3 LX3]
  · iframe
  icases HT with ⟨HT, P1, P2⟩
  ihave HY := (ya2_intro c 3) $$ [Y3 Z3]
  · iframe
  iapply (p92_odd I K c hp) $$ [HO HR HL HT HY]
  · iframe # ∗
  iintro %r ⟨HO, HS, HY⟩
  iapply (p93_odd' I K c hp) $$ [HO HS HY P1 P2]
  · isplitr
    · ipureintro; clear * - hp hv2; subst hv2; revert hp; revert c; decide +kernel
    iframe # ∗
  iintro ⟨HO, G3, HA, M1, N1, ZA3⟩
  iapply (t94_odd I K c hp) $$ [Y5 Y7 Z5 Z7 RX5 RX7 LX5 RC2 RC4 RC6 LC2 LC4 T4 T5 T6 T7 T8 HF Hout Te1 ZB0 G1 ZA1 W1 Hsr Hsl ZB2 HO G3 HA M1 N1 ZA3]
  · isplitr
    · ipureintro; exact ⟨hv2, h36⟩
    iframe # ∗
  iexact Hk

set_option maxHeartbeats 4000000 in
theorem t80_odd (c : Dev nD) (hp : c.val % 2 = 1) {v2 : BitVec 32} {v392 : BitVec 1} {v14 : BitVec 32} {v25 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ wAny c ysrM ∗ wAny c yslM ∗ ownAny c yaM (slotR c 3) ∗ ownAny c yaM (slotR c 5) ∗ ownAny c yaM (slotR c 7) ∗ ownAny c yaM (slotL c 3) ∗ ownAny c yaM (slotL c 5) ∗ ownAny c yaM (slotL c 7) ∗ ownAny (rt c) xgM (slotR c 3) ∗ ownAny (rt c) xgM (slotR c 5) ∗ ownAny (rt c) xgM (slotR c 7) ∗ ownAny (lf c) xgM (slotL c 3) ∗ ownAny (lf c) xgM (slotL c 5) ∗ ownAny (rt c) rrM (r4 0) ∗ ownAny (rt c) rrM (r4 2) ∗ ownAny (rt c) rrM (r4 4) ∗ ownAny (rt c) rrM (r4 6) ∗ ownAny (lf c) rlM (r3 0) ∗ ownAny (lf c) rlM (r3 2) ∗ ownAny (lf c) rlM (r3 4) ∗ kB c 2 ∗ kA c 3 ∗ kB c 4 ∗ kA c 5 ∗ kB c 6 ∗ kA c 7 ∗ kB c 8 ∗ sndRes c (op7 c) fslS frlS ∗ wAny c st5 ∗ dutyTok ER (cellAt (lf c) exitS) 0 true ∗ zB c 0 ∗ ow c 6 ∗ sent I c 1 ∗ yaP I c 1)
      ⊢ iprop((left_odd I c -∗ WP c (lastp c) Q) -∗ WP c (tail80 c v2 v392 v14 v25 (k0_pay166 (I.ks c)) (k0_pay167 (I.vs c)) (k0_pay168 (I.wq c)) (k0_pay169 (I.wo c)) (wt I c).m2 v36 (wt I c).m1 v118 v129) Q) := by
  iintro ⟨%hh, #HE, Hsr, Hsl, Y3, Y5, Y7, Z3, Z5, Z7, RX3, RX5, RX7, LX3, LX5, RC0, RC2, RC4, RC6, LC0, LC2, LC4, T2, T3, T4, T5, T6, T7, T8, HF, Hout, Te1, ZB0, HO, HS, HA⟩ Hk
  obtain ⟨hv2, h36⟩ := hh
  unfold tail80
  iapply (p80_odd I K c hp) $$ [HO HS]
  · iframe # ∗
  iintro ⟨HO, G1, ZA1⟩
  ihave HA := (yaP_one I) $$ HA
  simp only [k0_part81_eq_skeleton, k0_part81_skel, k0_part82_eq_skeleton, k0_part82_skel, Prog.bind_ret, Prog.pure_eq_ret, Prog.bind_assoc]
  iapply (p83 (c := c))
  iintro %r
  obtain ⟨v674, v685, v686⟩ := r
  dsimp only
  iapply (p84 (c := c))
  iintro %r
  obtain ⟨c2_i32_386, v725, v727, c0_i32_388⟩ := r
  dsimp only
  iapply (p85_odd I K c hp) $$ [HO]
  · iframe # ∗
  iintro %r HO
  obtain ⟨v762, c0_i32_412⟩ := r
  dsimp only
  ihave HT := (toB_intro (k := 0) rfl (by omega)) $$ [T2 RC0 LC0]
  · iframe
  icases HT with ⟨HT, P1, P2⟩
  iapply (p86_odd' I K c hp) $$ [HO HA Hsr Hsl HT P1 P2]
  · isplitr
    · ipureintro; clear * - hp hv2; subst hv2; revert hp; revert c; decide +kernel
    iframe # ∗
  iintro ⟨HO, W1, Hsr, Hsl, HR, HL, ZB2⟩
  iapply (t87_odd I K c hp) $$ [Y3 Y5 Y7 Z3 Z5 Z7 RX3 RX5 RX7 LX3 LX5 RC2 RC4 RC6 LC2 LC4 T3 T4 T5 T6 T7 T8 HF Hout Te1 ZB0 G1 ZA1 HO W1 Hsr Hsl HR HL ZB2]
  · isplitr
    · ipureintro; exact ⟨hv2, h36⟩
    iframe # ∗
  iexact Hk

set_option maxHeartbeats 4000000 in
theorem t74_odd (c : Dev nD) (hp : c.val % 2 = 1) {v2 : BitVec 32} {v14 : BitVec 32} {v25 : BitVec 32} {v141 : BitVec 32} {v177 : BitVec 32} {v188 : BitVec 1} {c2_i32_151 : BitVec 32} {v308 : BitVec 32} {v310 : BitVec 32} {c0_i32_153 : BitVec 32} {v36 : BitVec 1} {v118 : BitVec 32} {v129 : BitVec 32} {Q : PUnit → sProp 𝕄} :
    iprop(⌜Scalar.remsi (Scalar.divsi c.word 1#32) 16#32 = v2 ∧ v36 = 0#1⌝ ∗ env I K c ∗ ow c 2 ∗ wAny c ysrM ∗ wAny c yslM ∗ ownAny c yaM (slotR c 1) ∗ ownAny c yaM (slotR c 3) ∗ ownAny c yaM (slotR c 5) ∗ ownAny c yaM (slotR c 7) ∗ ownAny c yaM (slotL c 1) ∗ ownAny c yaM (slotL c 3) ∗ ownAny c yaM (slotL c 5) ∗ ownAny c yaM (slotL c 7) ∗ ownAny (rt c) xgM (slotR c 1) ∗ ownAny (rt c) xgM (slotR c 3) ∗ ownAny (rt c) xgM (slotR c 5) ∗ ownAny (rt c) xgM (slotR c 7) ∗ ownAny (lf c) xgM (slotL c 1) ∗ ownAny (lf c) xgM (slotL c 3) ∗ ownAny (lf c) xgM (slotL c 5) ∗ ownAny (rt c) rrM (r4 0) ∗ ownAny (rt c) rrM (r4 2) ∗ ownAny (rt c) rrM (r4 4) ∗ ownAny (rt c) rrM (r4 6) ∗ ownAny (lf c) rlM (r3 0) ∗ ownAny (lf c) rlM (r3 2) ∗ ownAny (lf c) rlM (r3 4) ∗ kB c 0 ∗ kA c 1 ∗ kB c 2 ∗ kA c 3 ∗ kB c 4 ∗ kA c 5 ∗ kB c 6 ∗ kA c 7 ∗ kB c 8 ∗ sndRes c (op7 c) fslS frlS ∗ wAny c st5 ∗ dutyTok ER (cellAt (lf c) exitS) 0 true)
      ⊢ iprop((left_odd I c -∗ WP c (lastp c) Q) -∗ WP c (tail74 c v2 v14 v25 (k0_pay166 (I.ks c)) (k0_pay167 (I.vs c)) (k0_pay168 (I.wq c)) (k0_pay169 (I.wo c)) (wt I c).m1 v141 v177 v188 c2_i32_151 v308 v310 c0_i32_153 (wt I c).m2 v36 v118 v129) Q) := by
  iintro ⟨%hh, #HE, HO, Hsr, Hsl, Y1, Y3, Y5, Y7, Z1, Z3, Z5, Z7, RX1, RX3, RX5, RX7, LX1, LX3, LX5, RC0, RC2, RC4, RC6, LC0, LC2, LC4, T0, T1, T2, T3, T4, T5, T6, T7, T8, HF, Hout, Te1⟩ Hk
  obtain ⟨hv2, h36⟩ := hh
  unfold tail74
  iapply (p74_odd I K c hp) $$ [HO T0]
  · iframe # ∗
  iintro %r ⟨HO, HR, HL, ZB0⟩
  obtain ⟨v337, v338, v339⟩ := r
  dsimp only
  iapply (p75 (c := c))
  iintro %r
  obtain ⟨v345, v358, v369, v373, v374, v375⟩ := r
  dsimp only
  iapply (p76 (c := c))
  iintro %r
  obtain ⟨v381, v392, c2_i32_221, v410, v415, c0_i32_224⟩ := r
  dsimp only
  iapply (p77 (c := c))
  iintro %r
  obtain ⟨v444, v458, c1_i32_241⟩ := r
  dsimp only
  iapply (p78 (c := c))
  iintro %r
  obtain ⟨c2_i32_256, v495, v500, c0_i32_259⟩ := r
  dsimp only
  ihave HT := (toA_one) $$ [T1 RX1 LX1]
  · iframe
  ihave HY := (ya2_intro c 1) $$ [Y1 Z1]
  · iframe
  iapply (p79_odd I K c hp) $$ [HO HR HL HT HY]
  · iframe # ∗
  iintro %r ⟨HO, HS, HA⟩
  iapply (t80_odd I K c hp) $$ [Hsr Hsl Y3 Y5 Y7 Z3 Z5 Z7 RX3 RX5 RX7 LX3 LX5 RC0 RC2 RC4 RC6 LC0 LC2 LC4 T2 T3 T4 T5 T6 T7 T8 HF Hout Te1 ZB0 HO HS HA]
  · isplitr
    · ipureintro; exact ⟨hv2, h36⟩
    iframe # ∗
  iexact Hk

end

end Cert.RingAttn
-- ==== Proof.BodyOdd.lean ====
module

public import proofs.«01_k».proof.Proof.TickOdd

@[expose] public section

/-! The body at the odd devices. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ) {α : Type}

local notation "WP" => fun (c : Dev nD) => wp frame (wpE (defs₀ (F := F)) 𝒱₀ (c : Thread nD τ) none) Set.univ

set_option maxHeartbeats 8000000 in
set_option pp.deepTerms false in
set_option pp.maxSteps 1500 in
/-- The body at an odd device: each part in turn takes what it needs and returns what it leaves. -/
theorem body_odd (c : Dev nD) (hp : c.val % 2 = 1) : pre I K c ⊢ WP c bodyP (fun _ => post I c) := by
  have hp1 : ¬(c.val % 2 = 0) := by omega
  obtain ⟨h1, -⟩ := conds_odd c hp
  obtain ⟨d1, d2, -, -, -, -, -, -, -, -, -, -, -, -, -, -, -, -, d34⟩ := devs_odd c hp
  unfold pre bufs kT kF keep
  rw [slots_odd hp, tick_odd hp, if_neg hp1, if_neg hp1]
  iintro ⟨⟨#HI, #Hlev, #Hr, #Hb, #Hb'⟩, HO, ⟨HSb, HSe, HT, HF⟩, ⟨HgL, HgR, Hkp⟩, ⟨Hya, Hsr, Hsl, Hfr, Hfl⟩, HX, Hout⟩
  icases HT with ⟨T0, T1, T2, T3, T4, T5, T6, T7, T8⟩
  icases Hya with ⟨Y1, Y3, Y5, Y7, Z1, Z3, Z5, Z7⟩
  ihave HSe := (kS_elim c exitS) $$ HSe
  icases HSe with ⟨Te1, Te2, Ae, Ce⟩
  unfold bodyP
  rw [cc0_body_eq_skeleton]
  unfold cc0_body_skel
  rw [wp_bind, k0_part120_eq_skeleton]
  have hc := part120_cut (F := F)
  dsimp only [onBufs] at hc
  rw [hc]
  simp only [k0_part66_eq_skeleton, k0_part66_skel, k0_part67_eq_skeleton, k0_part67_skel, semSignalWord, semWaitWord, Prog.lift, Prog.bind_op, Prog.bind_ret, Prog.pure_eq_ret, Prog.bind_assoc, wp_deviceId, dif_neg h1]
  generalize hv2 : Scalar.remsi (Scalar.divsi c.word 1#32) 16#32 = v2
  iapply (sync_start I K (Fin.ext d1) (Fin.ext d2) rfl rfl rfl) $$ [HO HSb HgL HgR]
  · iframe # ∗
  iintro ⟨HO, Zb, HgR, HgL⟩
  ihave HgR := (giveL_odd hp) $$ HgR
  ihave HgL := (giveR_odd hp) $$ HgL
  icases HgR with ⟨⟨RX1, RX3, RX5, RX7⟩, ⟨RC0, RC2, RC4, RC6⟩, #HrR⟩
  icases HgL with ⟨⟨LX1, LX3, LX5⟩, ⟨LC0, LC2, LC4⟩, #HrL⟩
  ihave #HE := (env_intro I K c) $$ []
  · iframe # ∗
  unfold ins
  icases HX with ⟨X0, X1, X2, X3, X4⟩
  iapply (ld_w (i := cc0_stg2_0.idx) (hκ := rfl) z4) $$ X2
  iintro X2
  iapply (ld_w (i := cc0_stg3_0.idx) (hκ := rfl) z4) $$ X3
  iintro X3
  iapply (ld_w (i := cc0_stg1_0.idx) (hκ := rfl) z2) $$ X1
  iintro X1
  iapply (ld_w (i := cc0_stg4_0.idx) (hκ := rfl) z2) $$ X4
  iintro X4
  simp only [k0_part68_eq_skeleton, k0_part68_skel, Prog.bind_ret, Prog.pure_eq_ret, Prog.bind_assoc]
  iapply (p69 (c := c))
  iintro %r
  obtain ⟨v118, v129, v141, v146, v147⟩ := r
  dsimp only
  iapply (p70 (c := c))
  iintro %r
  obtain ⟨v154, v165, v177, v179, v180, v181, v182, v183⟩ := r
  dsimp only
  iapply (p71 (c := c))
  iintro %r
  obtain ⟨v188, c2_i32_116, v223, v225, c0_i32_118⟩ := r
  dsimp only
  iapply (p72 (c := c))
  iintro %r
  obtain ⟨v257, v268, v269⟩ := r
  dsimp only
  iapply (p73 (c := c))
  iintro %r
  obtain ⟨c2_i32_151, v308, v310, c0_i32_153⟩ := r
  dsimp only
  iapply (t74_odd I K c hp) $$ [HO Hsr Hsl Y1 Y3 Y5 Y7 Z1 Z3 Z5 Z7 RX1 RX3 RX5 RX7 LX1 LX3 LX5 RC0 RC2 RC4 RC6 LC0 LC2 LC4 T0 T1 T2 T3 T4 T5 T6 T7 T8 HF Hout Te1]
  · isplitr
    · ipureintro; exact ⟨hv2, by clear * - hp hv2; subst hv2; revert hp; revert c; decide +kernel⟩
    iframe # ∗
  unfold left_odd
  iintro ⟨ZB0, G1, ZA1, W1, ZB2, G3, M1, N1, ZA3, W3, ZB4, G5, M3, N3, ZA5, W5, ZB6, G7, M5, N5, ZA7, HO, W7, Hsr, Hsl, ZB8, ZF, Hout⟩
  rw [← wp_bind]
  unfold lastp
  simp only [semSignalWord, semWaitWord, Prog.lift, Prog.bind_op, Prog.bind_ret, Prog.pure_eq_ret, Prog.bind_assoc]
  iapply (end_r I K (Fin.ext d34) rfl rfl) $$ [HO Te2 Ae Ce]
  · iframe # ∗
  iintro ⟨HO, Ze⟩
  rw [wp_ret]
  imodintro
  unfold post zT zF bufs xg2 ya2 ins
  rw [tick_odd hp, if_neg hp1, slots_odd hp, slots_odd hp, slots_rr, slots_rl]
  icases G1 with ⟨G1, H1⟩
  icases W1 with ⟨Y1, Z1⟩
  icases G3 with ⟨G3, H3⟩
  icases W3 with ⟨Y3, Z3⟩
  icases G5 with ⟨G5, H5⟩
  icases W5 with ⟨Y5, Z5⟩
  icases G7 with ⟨G7, H7⟩
  icases W7 with ⟨Y7, Z7⟩
  ihave M1 := (show ownAny c rrM (r4 1) ⊢ (ownAny c rrM (r4 0) : sProp 𝕄) from BI.Entails.refl _) $$ M1
  ihave N1 := (show ownAny c rlM (r3 1) ⊢ (ownAny c rlM (r3 0) : sProp 𝕄) from BI.Entails.refl _) $$ N1
  ihave M3 := (show ownAny c rrM (r4 3) ⊢ (ownAny c rrM (r4 2) : sProp 𝕄) from BI.Entails.refl _) $$ M3
  ihave N3 := (show ownAny c rlM (r3 3) ⊢ (ownAny c rlM (r3 2) : sProp 𝕄) from BI.Entails.refl _) $$ N3
  ihave M5 := (show ownAny c rrM (r4 5) ⊢ (ownAny c rrM (r4 4) : sProp 𝕄) from BI.Entails.refl _) $$ M5
  ihave N5 := (show ownAny c rlM (r3 5) ⊢ (ownAny c rlM (r3 4) : sProp 𝕄) from BI.Entails.refl _) $$ N5
  iframe # ∗

end

end Cert.RingAttn
-- ==== Proof.Body.lean ====
module

public import proofs.«01_k».proof.Proof.BodyEven
public import proofs.«01_k».proof.Proof.BodyOdd

@[expose] public section

/-! The body at every device. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Ins F) (K : GSem nD τ sig → ℕ)

local notation "WP" => fun (c : Dev nD) => wp frame (wpE (defs₀ (F := F)) 𝒱₀ (c : Thread nD τ) none) Set.univ

theorem body (c : Dev nD) : pre I K c ⊢ WP c bodyP (fun _ => post I c) := by
  rcases Nat.mod_two_eq_zero_or_one c.val with h | h
  · exact body_even I K c h
  · exact body_odd I K c h

end

end Cert.RingAttn
-- ==== Proof.Bufs.lean ====
module

public import proofs.«01_k».proof.Proof.Res
public import Idealize.ShloMosaic.Lib.Ring
public import Idealize.ShloMosaic.Lib.Memref

@[expose] public section

/-! A buffer of slots, whole and slot by slot; what a device gives its neighbours at the start. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bmono {ι : Type} {s : Finset ι} {Φ Ψ : ι → sProp 𝕄} (h : ∀ i ∈ s, Φ i ⊢ Ψ i) : bigSep s Φ ⊢ bigSep s Ψ := BI.bigSep_mono h

/-! ## Slots -/

theorem mem_slot {n : ℕ} {j : Fin n} {i : (Sn n).Idx} : i ∈ (slotRect j).set ↔ (i 0).val = j.val := by
  unfold slotRect
  rw [Rect.mem_set_unit]
  constructor
  · intro h
    have h0 := h 0
    change j.val ≤ (i 0).val ∧ (i 0).val < j.val + 1 at h0
    omega
  · intro h a
    have e1 := (i 1).isLt
    have e2 := (i 2).isLt
    have e3 := (i 3).isLt
    change (i 1).val < 2 at e1
    change (i 2).val < 128 at e2
    change (i 3).val < 512 at e3
    fin_cases a
    · show j.val ≤ (i 0).val ∧ (i 0).val < j.val + 1
      omega
    · show 0 ≤ (i 1).val ∧ (i 1).val < 0 + 2
      omega
    · show 0 ≤ (i 2).val ∧ (i 2).val < 0 + 128
      omega
    · show 0 ≤ (i 3).val ∧ (i 3).val < 0 + 512
      omega

section

variable {n : ℕ} {e : EltTy} (m : Memref sig .tc .vmem (Sn n) e)

/-- The elements of slot `j`. -/
def slotSet (j : Fin n) : Finset m.view.ty.Idx := (m.access (slotRect j)).set

theorem slot_disjoint (j j' : Fin n) (h : j ≠ j') :
    Disjoint (slotSet m j) (slotSet m j') := by
  unfold slotSet
  rw [View.set_slice, View.set_slice]
  refine (Finset.disjoint_map _).2 (Finset.disjoint_left.2 fun i hi hi' => h (Fin.ext ?_))
  rw [mem_slot] at hi hi'
  omega

theorem slot_cover (hm : m.view.set = Finset.univ) :
    (Finset.univ : Finset (Fin n)).biUnion (fun j => slotSet m j) = Finset.univ := by
  refine Finset.eq_univ_iff_forall.2 fun i => ?_
  have hi : i ∈ m.view.set := by rw [hm]; exact Finset.mem_univ _
  obtain ⟨x, -, rfl⟩ := Finset.mem_map.1 hi
  refine Finset.mem_biUnion.2 ⟨x 0, Finset.mem_univ _, ?_⟩
  unfold slotSet
  rw [View.set_slice]
  exact Finset.mem_map_of_mem _ (mem_slot.2 rfl)

variable (c : Dev nD)

/-- A buffer held whole, whatever it holds, is its slots; -/
theorem allOf_of_whole (hm : m.view.set = Finset.univ) :
    iprop(∃ f : Buf (Elt F) (m.view.loc (c : Thread nD τ)), m.view.loc (c : Thread nD τ) ↦{fullShare} f)
      ⊢ (allOf c m : sProp 𝕄) := by
  refine BI.BIClass.exists_elim fun f => ?_
  rw [Ring.pointsTo_blocks (ℓ := m.view.loc (c : Thread nD τ)) (fun j => slotSet m j) (slot_disjoint m) (slot_cover m hm) f]
  unfold allOf
  refine bmono fun j _ => ?_
  unfold ownAny own
  iintro H
  iexists _; iexists f
  isplitr
  · ipureintro; rfl
  iexact H

/-- and of its slots, whole again. -/
theorem whole_of_allOf (hm : m.view.set = Finset.univ) (f₀ : Buf (Elt F) (m.view.loc (c : Thread nD τ))) :
    (allOf c m : sProp 𝕄)
      ⊢ iprop(∃ f : Buf (Elt F) (m.view.loc (c : Thread nD τ)), m.view.loc (c : Thread nD τ) ↦{fullShare} f) := by
  refine BIBase.Entails.trans ?_ (Ring.pointsTo_blocks_join_exists (ℓ := m.view.loc (c : Thread nD τ))
    (fun j => slotSet m j) (slot_disjoint m) (slot_cover m hm) f₀)
  unfold allOf
  refine bmono fun j _ => ?_
  unfold ownAny own
  iintro ⟨%X, %f, -, H⟩
  iexists f; iexact H

end

theorem wAny_of_whole (c : Dev nD) (b : Ref sig .tc) :
    iprop(∃ f : Buf (Elt F) ((c : Thread nD τ).loc b), ((c : Thread nD τ).loc b) ↦{fullShare} f)
      ⊢ (iprop(∃ X, owns (c : Thread nD τ) (Memref.whole b) fullShare X) : sProp 𝕄) := by
  iintro ⟨%f, H⟩
  iexists f
  rw [owns_whole_eq]
  iexists f
  isplitr
  · ipureintro; rfl
  iexact H

theorem whole_of_wAny (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  iintro ⟨%X, H⟩
  ihave H := (Entails.of_eq (owns_whole_eq (c : Thread nD τ) b fullShare X)) $$ H
  icases H with ⟨%f, -, H⟩
  iexists f; iexact H

/-! ## The scratch buffers -/

theorem scratch_in (c : Dev nD) : (Pipeline.scopedRest spec0 c : sProp 𝕄)
    ⊢ iprop((allOf (n := 8) c xgM ∗ allOf (n := 4) c rrM ∗ allOf (n := 3) c rlM) ∗ bufs c) := by
  rw [scopedRest0_eq]
  unfold bufs
  iintro ⟨H0, H1, H2, H3, H4, H5, H6, H7⟩
  isplitl [H0 H2 H3]
  · isplitl [H0]; · iapply (allOf_of_whole (n := 8) xgM c (View.set_whole _)); iexact H0
    isplitl [H2]; · iapply (allOf_of_whole (n := 4) rrM c (View.set_whole _)); iexact H2
    iapply (allOf_of_whole (n := 3) rlM c (View.set_whole _)); iexact H3
  isplitl [H1]; · iapply (allOf_of_whole (n := 8) yaM c (View.set_whole _)); iexact H1
  isplitl [H4]; · iapply (show _ ⊢ wAny c ysrM from wAny_of_whole c cc0_scratch4); iexact H4
  isplitl [H5]; · iapply (show _ ⊢ wAny c yslM from wAny_of_whole c cc0_scratch5); iexact H5
  isplitl [H6]; · iapply (show _ ⊢ wAny c yfrM from wAny_of_whole c cc0_scratch6); iexact H6
  iapply (show _ ⊢ wAny c yflM from wAny_of_whole c cc0_scratch7); iexact H7

theorem scratch_out (c : Dev nD) :
    iprop((allOf (n := 8) c xgM ∗ allOf (n := 4) c rrM ∗ allOf (n := 3) c rlM) ∗ bufs c)
      ⊢ (Pipeline.scopedRest spec0 c : sProp 𝕄) := by
  rw [scopedRest0_eq]
  unfold bufs
  iintro ⟨⟨H0, H2, H3⟩, H1, H4, H5, H6, H7⟩
  isplitl [H0]; · iapply (whole_of_allOf (n := 8) xgM c (View.set_whole _) (fun _ => default)); iexact H0
  isplitl [H1]; · iapply (whole_of_allOf (n := 8) yaM c (View.set_whole _) (fun _ => default)); iexact H1
  isplitl [H2]; · iapply (whole_of_allOf (n := 4) rrM c (View.set_whole _) (fun _ => default)); iexact H2
  isplitl [H3]; · iapply (whole_of_allOf (n := 3) rlM c (View.set_whole _) (fun _ => default)); iexact H3
  isplitl [H4]; · iapply (show wAny c ysrM ⊢ _ from whole_of_wAny c cc0_scratch4); iexact H4
  isplitl [H5]; · iapply (show wAny c yslM ⊢ _ from whole_of_wAny c cc0_scratch5); iexact H5
  isplitl [H6]; · iapply (show wAny c yfrM ⊢ _ from whole_of_wAny c cc0_scratch6); iexact H6
  iapply (show wAny c yflM ⊢ _ from whole_of_wAny c cc0_scratch7); iexact H7

/-! ## What is given at the start -/

theorem gives_even {c : Dev nD} (h : c.val % 2 = 0) :
    iprop((allOf (n := 8) c xgM ∗ allOf (n := 4) c rrM ∗ allOf (n := 3) c rlM) ∗ rch c)
      ⊢ (iprop(giveL c ∗ giveR c ∗ keep c) : sProp 𝕄) := by
  rw [slots_even h, slots_rr, slots_rl]
  unfold giveL giveR keep
  rw [fin8, fin7, fin7, fin6, if_pos h]
  simp only [p00 h, p01 h, Fin.coe_ofNat_eq_mod, Nat.reduceMod, Nat.reduceEqDiff, reduceIte, OfNat.ofNat_ne_zero, one_ne_zero, zero_ne_one, Nat.zero_mod]
  iintro ⟨⟨⟨X0, X2, X4, X6, X8, Y2, Y4, Y6⟩, ⟨R0, R1, R2, R3⟩, S0, S1, S2⟩, #Hr⟩
  isplitl [X2 X4 X6 X8 R0 R1 R2 R3]
  · iframe Hr
    isplitl [X2 X4 X6 X8]
    · isplitr; · iempintro
      isplitl [X2]; · iexact X2
      isplitr; · iempintro
      isplitl [X4]; · iexact X4
      isplitr; · iempintro
      isplitl [X6]; · iexact X6
      isplitr; · iempintro
      iexact X8
    · isplitl [R0]; · iexact R0
      isplitr; · iempintro
      isplitl [R1]; · iexact R1
      isplitr; · iempintro
      isplitl [R2]; · iexact R2
      isplitr; · iempintro
      iexact R3
  isplitl [Y2 Y4 Y6 S0 S1 S2]
  · iframe Hr
    isplitl [Y2 Y4 Y6]
    · isplitr; · iempintro
      isplitl [Y2]; · iexact Y2
      isplitr; · iempintro
      isplitl [Y4]; · iexact Y4
      isplitr; · iempintro
      isplitl [Y6]; · iexact Y6
      iempintro
    · isplitl [S0]; · iexact S0
      isplitr; · iempintro
      isplitl [S1]; · iexact S1
      isplitr; · iempintro
      isplitl [S2]; · iexact S2
      iempintro
  iexact X0

theorem gives_odd {c : Dev nD} (h : c.val % 2 = 1) :
    iprop((allOf (n := 8) c xgM ∗ allOf (n := 4) c rrM ∗ allOf (n := 3) c rlM) ∗ rch c)
      ⊢ (iprop(giveL c ∗ giveR c ∗ keep c) : sProp 𝕄) := by
  rw [slots_odd h, slots_rr, slots_rl]
  unfold giveL giveR keep
  rw [fin8, fin7, fin7, fin6, if_neg (show ¬ c.val % 2 = 0 by omega)]
  simp only [p10 h, p11 h, Fin.coe_ofNat_eq_mod, Nat.reduceMod, Nat.reduceEqDiff, reduceIte, OfNat.ofNat_ne_zero, one_ne_zero, zero_ne_one, Nat.zero_mod]
  iintro ⟨⟨⟨X1, X3, X5, X7, Y1, Y3, Y5, Y7⟩, ⟨R0, R1, R2, R3⟩, S0, S1, S2⟩, #Hr⟩
  isplitl [X1 X3 X5 X7 R0 R1 R2]
  · iframe Hr
    isplitl [X1 X3 X5 X7]
    · isplitl [X1]; · iexact X1
      isplitr; · iempintro
      isplitl [X3]; · iexact X3
      isplitr; · iempintro
      isplitl [X5]; · iexact X5
      isplitr; · iempintro
      isplitl [X7]; · iexact X7
      iempintro
    · isplitr; · iempintro
      isplitl [R0]; · iexact R0
      isplitr; · iempintro
      isplitl [R1]; · iexact R1
      isplitr; · iempintro
      isplitl [R2]; · iexact R2
      iempintro
  isplitl [Y1 Y3 Y5 Y7 S0 S1 S2]
  · iframe Hr
    isplitl [Y1 Y3 Y5 Y7]
    · isplitl [Y1]; · iexact Y1
      isplitr; · iempintro
      isplitl [Y3]; · iexact Y3
      isplitr; · iempintro
      isplitl [Y5]; · iexact Y5
      isplitr; · iempintro
      iexact Y7
    · isplitr; · iempintro
      isplitl [S0]; · iexact S0
      isplitr; · iempintro
      isplitl [S1]; · iexact S1
      isplitr; · iempintro
      iexact S2
  iexact R3

theorem give_all (c : Dev nD) :
    iprop((allOf (n := 8) c xgM ∗ allOf (n := 4) c rrM ∗ allOf (n := 3) c rlM) ∗ rch c)
      ⊢ (iprop(giveL c ∗ giveR c ∗ keep c) : sProp 𝕄) := by
  rcases Nat.mod_two_eq_zero_or_one c.val with h | h
  · exact gives_even h
  · exact gives_odd h

end Cert.RingAttn
-- ==== Proof.Fam.lean ====
module

public import proofs.«01_k».proof.Proof.Bufs

@[expose] public section

/-! The semaphores family by family, and the resources of the ticks lane by lane. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families -/

/-- The semaphores by family: the barrier, the exit, the staging ones, and those of the transfers. -/
abbrev FamIx : Type := Unit ⊕ Unit ⊕ Fin 6 ⊕ Fin 8 ⊕ Fin 8 ⊕ Fin 7 ⊕ Fin 7 ⊕ Fin 7 ⊕ Fin 7 ⊕ Fin 6 ⊕ Fin 6 ⊕ Unit ⊕ Unit ⊕ Unit ⊕ Unit

def stgS (g : ℕ) : DmaSem sig := ⟨g % 66, Nat.mod_lt _ (by decide)⟩

def famSem : FamIx → SemLoc sig :=
  Sum.elim (fun _ => barS) <| Sum.elim (fun _ => exitS) <| Sum.elim (fun g => .dma (stgS g.val))
    <| Sum.elim (fun g => .dma (bsrS g.val)) <| Sum.elim (fun g => .dma (brrS g.val))
    <| Sum.elim (fun g => .dma (csrS g.val)) <| Sum.elim (fun g => .dma (crrS g.val))
    <| Sum.elim (fun g => .dma (bslS g.val)) <| Sum.elim (fun g => .dma (brlS g.val))
    <| Sum.elim (fun g => .dma (cslS g.val)) <| Sum.elim (fun g => .dma (crlS g.val))
    <| Sum.elim (fun _ => .dma fsrS) <| Sum.elim (fun _ => .dma frrS) <| Sum.elim (fun _ => .dma fslS) (fun _ => .dma frlS)

theorem famSem_bij : Function.Bijective famSem := by
  rw [Fintype.bijective_iff_surjective_and_card]
  constructor
  · unfold Function.Surjective; decide +kernel
  · decide +kernel

theorem bigSep_unit (Φ : Unit → sProp 𝕄) : bigSep Finset.univ Φ = Φ () := by
  rw [bigSep_univ_eq_bigSepL [()] (by decide) (by decide), bigSepL_singleton]

/-- A resource for each semaphore is one for each of every family. -/
theorem fam (Φ : SemLoc sig → sProp 𝕄) : bigSep Finset.univ Φ
    = iprop(Φ barS ∗ Φ exitS ∗ bigSep (Finset.univ : Finset (Fin 6)) (fun g => Φ (.dma (stgS g.val)))
      ∗ bigSep (Finset.univ : Finset (Fin 8)) (fun g => Φ (.dma (bsrS g.val))) ∗ bigSep (Finset.univ : Finset (Fin 8)) (fun g => Φ (.dma (brrS g.val)))
      ∗ bigSep (Finset.univ : Finset (Fin 7)) (fun g => Φ (.dma (csrS g.val))) ∗ bigSep (Finset.univ : Finset (Fin 7)) (fun g => Φ (.dma (crrS g.val)))
      ∗ bigSep (Finset.univ : Finset (Fin 7)) (fun g => Φ (.dma (bslS g.val))) ∗ bigSep (Finset.univ : Finset (Fin 7)) (fun g => Φ (.dma (brlS g.val)))
      ∗ bigSep (Finset.univ : Finset (Fin 6)) (fun g => Φ (.dma (cslS g.val))) ∗ bigSep (Finset.univ : Finset (Fin 6)) (fun g => Φ (.dma (crlS g.val)))
      ∗ Φ (.dma fsrS) ∗ Φ (.dma frrS) ∗ Φ (.dma fslS) ∗ Φ (.dma frlS)) := by
  rw [bigSep_univ_equiv (Equiv.ofBijective famSem famSem_bij) Φ]
  simp only [bigSep_univ_sum, bigSep_unit]
  rfl

/-! ## Lanes -/

/-- A family of the ticks in which the device sends with `sS` to `d`, who hears it with `sR`, and of those in which it hears. -/
theorem lane {n : ℕ} (c d : Dev nD) (sS sR : ℕ → DmaSem sig) (p : ℕ → Prop) [DecidablePred p]
    (h1 : ∀ g < n, used c (.dma (sS g)) = decide (p g)) (h2 : ∀ g < n, used d (.dma (sR g)) = decide (p g))
    (h3 : ∀ g < n, used c (.dma (sR g)) = !decide (p g)) :
    iprop(bigSep (Finset.univ : Finset (Fin n)) (fun g => if used c (.dma (sS g.val)) = true then dutyTok ER (cellAt c (.dma (sS g.val))) 0 false else iprop(emp))
      ∗ bigSep (Finset.univ : Finset (Fin n)) (fun g => if used c (.dma (sS g.val)) = true then atPos ER (cellAt c (.dma (sS g.val))) 0 ∅ 0 else iprop(emp))
      ∗ bigSep (Finset.univ : Finset (Fin n)) (fun g => if used d (.dma (sR g.val)) = true then dutyTok ER (cellAt d (.dma (sR g.val))) 0 false else iprop(emp))
      ∗ bigSep (Finset.univ : Finset (Fin n)) (fun g => if used c (.dma (sR g.val)) = true then atPos ER (cellAt c (.dma (sR g.val))) 0 ∅ 0 else iprop(emp))
      ∗ bigSep (Finset.univ : Finset (Fin n)) (fun g => if used c (.dma (sR g.val)) = true then cred (tallyAt (cellAt c (.dma (sR g.val))) () N) else iprop(emp)))
    ⊢ (bigSep (Finset.univ : Finset (Fin n)) (fun g => if p g.val then sndRes c d (sS g.val) (sR g.val) else pend c (sR g.val)) : sProp 𝕄) := by
  rw [← bigSep_sep', ← bigSep_sep', ← bigSep_sep', ← bigSep_sep']
  refine bmono fun g _ => ?_
  rw [h1 g.val g.isLt, h2 g.val g.isLt, h3 g.val g.isLt]
  unfold sndRes pend
  by_cases hp : p g.val
  · simp only [hp, decide_true, Bool.not_true, if_true, Bool.false_eq_true, if_false]
    iintro ⟨H1, H2, H3, _, _⟩
    iframe
  · simp only [hp, decide_false, Bool.not_false, if_true, Bool.false_eq_true, if_false]
    iintro ⟨_, _, _, H1, H2⟩
    iframe

/-- The counters come back by family. -/
theorem zlane {n : ℕ} (c : Dev nD) (sS sR : ℕ → DmaSem sig) (p : ℕ → Prop) [DecidablePred p]
    (h1 : ∀ g < n, used c (.dma (sS g)) = decide (p g)) (h3 : ∀ g < n, used c (.dma (sR g)) = !decide (p g)) :
    (bigSep (Finset.univ : Finset (Fin n)) (fun g => if p g.val then zero c (sS g.val) else zero c (sR g.val)) : sProp 𝕄)
    ⊢ iprop(bigSep (Finset.univ : Finset (Fin n)) (fun g => if used c (.dma (sS g.val)) = true then zero c (sS g.val) else iprop(emp))
      ∗ bigSep (Finset.univ : Finset (Fin n)) (fun g => if used c (.dma (sR g.val)) = true then zero c (sR g.val) else iprop(emp))) := by
  rw [← bigSep_sep']
  refine bmono fun g _ => ?_
  rw [h1 g.val g.isLt, h3 g.val g.isLt]
  by_cases hp : p g.val
  · simp only [hp, decide_true, Bool.not_true, if_true, Bool.false_eq_true, if_false]
    iintro H
    iframe
  · simp only [hp, decide_false, Bool.not_false, if_true, Bool.false_eq_true, if_false]
    iintro H
    iframe

/-! ## A lane over the nine ticks -/

theorem fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]
  simp only [bigSepL_cons_cons, bigSepL_singleton]
  rfl

theorem sep_emp_eq (P : sProp 𝕄) : iprop(P ∗ emp) = P := BI.equiv_iff.mp sep_emp
theorem emp_sep_eq (P : sProp 𝕄) : iprop(emp ∗ P) = P := BI.equiv_iff.mp emp_sep

theorem shift_br (Φ : ℕ → sProp 𝕄) :
    bigSep (Finset.univ : Finset (Fin 8)) (fun g => Φ g.val) = bigSep (Finset.univ : Finset (Fin 9)) fun g => opt (g.val < 8) (Φ g.val) := by
  rw [fin8, fin9]
  simp [opt, sep_emp_eq]
theorem shift_bl (Φ : ℕ → sProp 𝕄) :
    bigSep (Finset.univ : Finset (Fin 7)) (fun g => Φ g.val) = bigSep (Finset.univ : Finset (Fin 9)) fun g => opt (g.val < 7) (Φ g.val) := by
  rw [fin7, fin9]
  simp [opt, sep_emp_eq]
theorem shift_cr (Φ : ℕ → sProp 𝕄) :
    bigSep (Finset.univ : Finset (Fin 7)) (fun g => Φ g.val) = bigSep (Finset.univ : Finset (Fin 9)) fun g => opt (2 ≤ g.val) (Φ (g.val - 2)) := by
  rw [fin7, fin9]
  simp [opt, emp_sep_eq]
theorem shift_cl (Φ : ℕ → sProp 𝕄) :
    bigSep (Finset.univ : Finset (Fin 6)) (fun g => Φ g.val) = bigSep (Finset.univ : Finset (Fin 9)) fun g => opt (2 ≤ g.val ∧ g.val < 8) (Φ (g.val - 2)) := by
  rw [fin6, fin9]
  simp [opt, emp_sep_eq, sep_emp_eq]

theorem opt_ite (p q : Prop) [Decidable p] [Decidable q] (P Q : sProp 𝕄) :
    opt p (if q then P else Q) = if q then opt p P else opt p Q := by split <;> rfl

/-- The parities of the ticks. -/
def ev (c : Dev nD) (g : ℕ) : Prop := (c.val + g) % 2 = 0
instance (c : Dev nD) : DecidablePred (ev c) := fun g => inferInstanceAs (Decidable ((c.val + g) % 2 = 0))
def od (c : Dev nD) (g : ℕ) : Prop := (c.val + g) % 2 = 1
instance (c : Dev nD) : DecidablePred (od c) := fun g => inferInstanceAs (Decidable ((c.val + g) % 2 = 1))

theorem kT_of (c : Dev nD) :
    iprop(bigSep (Finset.univ : Finset (Fin 8)) (fun g => if ev c g.val then sndRes c (rt c) (bsrS g.val) (brrS g.val) else pend c (brrS g.val))
      ∗ bigSep (Finset.univ : Finset (Fin 7)) (fun g => if ev c g.val then sndRes c (lf c) (bslS g.val) (brlS g.val) else pend c (brlS g.val))
      ∗ bigSep (Finset.univ : Finset (Fin 7)) (fun g => if od c g.val then sndRes c (rt c) (csrS g.val) (crrS g.val) else pend c (crrS g.val))
      ∗ bigSep (Finset.univ : Finset (Fin 6)) (fun g => if od c g.val then sndRes c (lf c) (cslS g.val) (crlS g.val) else pend c (crlS g.val)))
    ⊢ (kT c : sProp 𝕄) := by
  rw [shift_br (fun g => if ev c g then sndRes c (rt c) (bsrS g) (brrS g) else pend c (brrS g)),
    shift_bl (fun g => if ev c g then sndRes c (lf c) (bslS g) (brlS g) else pend c (brlS g)),
    shift_cr (fun g => if od c g then sndRes c (rt c) (csrS g) (crrS g) else pend c (crrS g)),
    shift_cl (fun g => if od c g then sndRes c (lf c) (cslS g) (crlS g) else pend c (crlS g)),
    ← bigSep_sep', ← bigSep_sep', ← bigSep_sep']
  unfold kT
  refine bmono fun g _ => ?_
  simp only [opt_ite]
  by_cases h : (c.val + g.val) % 2 = 0
  · rw [if_pos h, if_pos (show ev c g.val from h), if_pos (show ev c g.val from h)]
    unfold kA opt
    by_cases h2 : 2 ≤ g.val
    · rw [if_neg (show ¬ od c (g.val - 2) from by unfold od; omega), if_neg (show ¬ od c (g.val - 2) from by unfold od; omega)]
    · simp only [if_neg h2, if_neg (show ¬ (2 ≤ g.val ∧ g.val < 8) from fun h => h2 h.1), ite_self]
      exact BI.Entails.refl _
  · rw [if_neg h, if_neg (show ¬ ev c g.val from h), if_neg (show ¬ ev c g.val from h)]
    unfold kB opt
    by_cases h2 : 2 ≤ g.val
    · rw [if_pos (show od c (g.val - 2) from by unfold od; omega), if_pos (show od c (g.val - 2) from by unfold od; omega)]
      iintro ⟨H1, H2, H3, H4⟩
      isplitl [H3]; · iexact H3
      isplitl [H4]; · iexact H4
      isplitl [H1]; · iexact H1
      iexact H2
    · simp only [if_neg h2, if_neg (show ¬ (2 ≤ g.val ∧ g.val < 8) from fun h => h2 h.1), ite_self]
      iintro ⟨H1, H2, H3, H4⟩
      isplitl [H3]; · iexact H3
      isplitl [H4]; · iexact H4
      isplitl [H1]; · iexact H1
      iexact H2

theorem zT_to (c : Dev nD) : (zT c : sProp 𝕄) ⊢
    iprop(bigSep (Finset.univ : Finset (Fin 8)) (fun g => if ev c g.val then zero c (bsrS g.val) else zero c (brrS g.val))
      ∗ bigSep (Finset.univ : Finset (Fin 7)) (fun g => if ev c g.val then zero c (bslS g.val) else zero c (brlS g.val))
      ∗ bigSep (Finset.univ : Finset (Fin 7)) (fun g => if od c g.val then zero c (csrS g.val) else zero c (crrS g.val))
      ∗ bigSep (Finset.univ : Finset (Fin 6)) (fun g => if od c g.val then zero c (cslS g.val) else zero c (crlS g.val))) := by
  rw [shift_br (fun g => if ev c g then zero c (bsrS g) else zero c (brrS g)),
    shift_bl (fun g => if ev c g then zero c (bslS g) else zero c (brlS g)),
    shift_cr (fun g => if od c g then zero c (csrS g) else zero c (crrS g)),
    shift_cl (fun g => if od c g then zero c (cslS g) else zero c (crlS g)),
    ← bigSep_sep', ← bigSep_sep', ← bigSep_sep']
  unfold zT
  refine bmono fun g _ => ?_
  simp only [opt_ite]
  by_cases h : (c.val + g.val) % 2 = 0
  · rw [if_pos h, if_pos (show ev c g.val from h), if_pos (show ev c g.val from h)]
    unfold zA opt
    by_cases h2 : 2 ≤ g.val
    · rw [if_neg (show ¬ od c (g.val - 2) from by unfold od; omega), if_neg (show ¬ od c (g.val - 2) from by unfold od; omega)]
    · simp only [if_neg h2, if_neg (show ¬ (2 ≤ g.val ∧ g.val < 8) from fun h => h2 h.1), ite_self]
      exact BI.Entails.refl _
  · rw [if_neg h, if_neg (show ¬ ev c g.val from h), if_neg (show ¬ ev c g.val from h)]
    unfold zB opt
    by_cases h2 : 2 ≤ g.val
    · rw [if_pos (show od c (g.val - 2) from by unfold od; omega), if_pos (show od c (g.val - 2) from by unfold od; omega)]
      iintro ⟨H1, H2, H3, H4⟩
      isplitl [H3]; · iexact H3
      isplitl [H4]; · iexact H4
      isplitl [H1]; · iexact H1
      iexact H2
    · simp only [if_neg h2, if_neg (show ¬ (2 ≤ g.val ∧ g.val < 8) from fun h => h2 h.1), ite_self]
      iintro ⟨H1, H2, H3, H4⟩
      isplitl [H3]; · iexact H3
      isplitl [H4]; · iexact H4
      isplitl [H1]; · iexact H1
      iexact H2

end Cert.RingAttn
-- ==== Proof.Toks.lean ====
module

public import proofs.«01_k».proof.Proof.Fam

@[expose] public section

/-! Who pays what: the tokens of the cells, dealt to the devices that pay them. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The token of a plain payment to the cell, of a cell in use. -/
def tokF (d : Dev nD) (s : SemLoc sig) : sProp 𝕄 :=
  if used d s = true then dutyTok ER (cellAt d s) 0 false else iprop(emp)
/-- The token of the other neighbour's payment, of a cell both neighbours pay. -/
def tokT (d : Dev nD) (s : SemLoc sig) : sProp 𝕄 :=
  if used d s = true ∧ (s = barS ∨ s = exitS) then dutyTok ER (cellAt d s) 0 true else iprop(emp)

/-- The tokens of a device's cells, -/
def cellToks (d : Dev nD) : sProp 𝕄 :=
  iprop(bigSep Finset.univ (tokF d) ∗ bigSep Finset.univ (tokT d))

/-- and the tokens a device pays with. -/
def myToks (c : Dev nD) : sProp 𝕄 :=
  iprop(tokT (lf c) barS ∗ tokT (lf c) exitS ∗ tokF (rt c) barS ∗ tokF (rt c) exitS
    ∗ bigSep (Finset.univ : Finset (Fin 8)) (fun g => tokF c (.dma (bsrS g.val)))
    ∗ bigSep (Finset.univ : Finset (Fin 8)) (fun g => tokF (rt c) (.dma (brrS g.val)))
    ∗ bigSep (Finset.univ : Finset (Fin 7)) (fun g => tokF c (.dma (csrS g.val)))
    ∗ bigSep (Finset.univ : Finset (Fin 7)) (fun g => tokF (rt c) (.dma (crrS g.val)))
    ∗ bigSep (Finset.univ : Finset (Fin 7)) (fun g => tokF c (.dma (bslS g.val)))
    ∗ bigSep (Finset.univ : Finset (Fin 7)) (fun g => tokF (lf c) (.dma (brlS g.val)))
    ∗ bigSep (Finset.univ : Finset (Fin 6)) (fun g => tokF c (.dma (cslS g.val)))
    ∗ bigSep (Finset.univ : Finset (Fin 6)) (fun g => tokF (lf c) (.dma (crlS g.val)))
    ∗ tokF c (.dma fsrS) ∗ tokF (opp c) (.dma frrS) ∗ tokF c (.dma fslS) ∗ tokF (op7 c) (.dma frlS))

def rtE : Dev nD ≃ Dev nD := ⟨rt, lf, lf_rt, rt_lf⟩
def lfE : Dev nD ≃ Dev nD := ⟨lf, rt, rt_lf, lf_rt⟩
def oppE : Dev nD ≃ Dev nD := ⟨opp, opp, opp_opp, opp_opp⟩
def op7E : Dev nD ≃ Dev nD := ⟨op7, fun c => dp c 9, dp9_op7, by decide⟩

theorem turn (e : Dev nD ≃ Dev nD) (Φ : Dev nD → sProp 𝕄) : bigSep Finset.univ Φ ⊢ bigSep Finset.univ fun c => Φ (e c) := by
  rw [← bigSep_univ_equiv e Φ]

theorem toks_deal : (bigSep (Finset.univ : Finset (Dev nD)) cellToks : sProp 𝕄) ⊢ bigSep (Finset.univ : Finset (Dev nD)) myToks := by
  have h1 : (cellToks : Dev nD → sProp 𝕄) = fun d => cellToks d := rfl
  have h2 : (myToks : Dev nD → sProp 𝕄) = fun d => myToks d := rfl
  rw [h1, h2]
  unfold cellToks myToks
  simp only [fam (tokF _), fam (tokT _), bigSep_sep']
  iintro ⟨⟨Hb, He, _, Hbsr, Hbrr, Hcsr, Hcrr, Hbsl, Hbrl, Hcsl, Hcrl, Hfsr, Hfrr, Hfsl, Hfrl⟩, Tb, Te, _, _, _, _, _, _, _, _, _, _, _, _, _⟩
  isplitl [Tb]; · iapply (turn lfE (fun d => tokT d barS)); iexact Tb
  isplitl [Te]; · iapply (turn lfE (fun d => tokT d exitS)); iexact Te
  isplitl [Hb]; · iapply (turn rtE (fun d => tokF d barS)); iexact Hb
  isplitl [He]; · iapply (turn rtE (fun d => tokF d exitS)); iexact He
  isplitl [Hbsr]; · iexact Hbsr
  isplitl [Hbrr]; · iapply (turn rtE (fun d => bigSep (Finset.univ : Finset (Fin 8)) (fun g => tokF d (.dma (brrS g.val))))); iexact Hbrr
  isplitl [Hcsr]; · iexact Hcsr
  isplitl [Hcrr]; · iapply (turn rtE (fun d => bigSep (Finset.univ : Finset (Fin 7)) (fun g => tokF d (.dma (crrS g.val))))); iexact Hcrr
  isplitl [Hbsl]; · iexact Hbsl
  isplitl [Hbrl]; · iapply (turn lfE (fun d => bigSep (Finset.univ : Finset (Fin 7)) (fun g => tokF d (.dma (brlS g.val))))); iexact Hbrl
  isplitl [Hcsl]; · iexact Hcsl
  isplitl [Hcrl]; · iapply (turn lfE (fun d => bigSep (Finset.univ : Finset (Fin 6)) (fun g => tokF d (.dma (crlS g.val))))); iexact Hcrl
  isplitl [Hfsr]; · iexact Hfsr
  isplitl [Hfrr]; · iapply (turn oppE (fun d => tokF d (.dma frrS))); iexact Hfrr
  isplitl [Hfsl]; · iexact Hfsl
  iapply (turn op7E (fun d => tokF d (.dma frlS))); iexact Hfrl

/-! ## The cells -/

/-- A cell, of its device and semaphore. -/
def cellEmb : Dev nD × SemLoc sig ↪ GSem nD τ sig :=
  ⟨fun ds => cellAt ds.1 ds.2, fun a b h => by
    have h1 := (Prod.mk.inj h).1
    have h2 := (Prod.mk.inj h).2
    have h3 := (Prod.mk.inj h1).1
    exact Prod.ext h3 h2⟩

/-- The barrier's cells, alive from the start, -/
def barCells : Finset (GSem nD τ sig) := ((Finset.univ : Finset (Dev nD × SemLoc sig)).filter fun ds => ds.2 = barS).map cellEmb
/-- and the others in use. -/
def scCells : Finset (GSem nD τ sig) :=
  ((Finset.univ : Finset (Dev nD × SemLoc sig)).filter fun ds => used ds.1 ds.2 = true ∧ ds.2 ≠ barS).map cellEmb

theorem disjoint_cells : Disjoint barCells scCells := by
  unfold barCells scCells
  refine (Finset.disjoint_map _).2 (Finset.disjoint_left.2 fun i hi hi' => ?_)
  exact (Finset.mem_filter.1 hi').2.2 (Finset.mem_filter.1 hi).2

theorem used_bar (d : Dev nD) : used d barS = true := rfl

theorem union_cells : barCells ∪ scCells
    = ((Finset.univ : Finset (Dev nD × SemLoc sig)).filter fun ds => used ds.1 ds.2 = true).map cellEmb := by
  unfold barCells scCells
  rw [← Finset.map_union]
  congr 1
  ext ⟨d, s⟩
  simp only [Finset.mem_union, Finset.mem_filter, Finset.mem_univ, true_and]
  constructor
  · rintro (h | h)
    · rw [h]; exact used_bar d
    · exact h.1
  · intro h
    by_cases hb : s = barS
    · exact .inl hb
    · exact .inr ⟨h, hb⟩

/-- A token, of its device, semaphore and kind. -/
def tokEmb : (Dev nD × SemLoc sig) × Bool ↪ GSem nD τ sig × ℕ × Bool :=
  ⟨fun x => (cellAt x.1.1 x.1.2, 0, x.2), fun a b h => by
    have h1 := (Prod.mk.inj h).1
    have h2 := (Prod.mk.inj (Prod.mk.inj h).2).2
    exact Prod.ext (cellEmb.injective h1) h2⟩

def talkToks : Finset (GSem nD τ sig × ℕ × Bool) :=
  ((Finset.univ : Finset ((Dev nD × SemLoc sig) × Bool)).filter fun x =>
    used x.1.1 x.1.2 = true ∧ (x.2 = true → x.1.2 = barS ∨ x.1.2 = exitS)).map tokEmb

theorem bool2 (Φ : Bool → sProp 𝕄) : bigSep Finset.univ Φ = iprop(Φ false ∗ Φ true) := by
  rw [bigSep_univ_eq_bigSepL [false, true] (by decide) (by decide)]
  simp only [bigSepL_cons_cons, bigSepL_singleton]
  rfl

theorem toks_of : (bigSep talkToks (fun x => dutyTok ER x.1 x.2.1 x.2.2) : sProp 𝕄) ⊢ bigSep (Finset.univ : Finset (Dev nD)) cellToks := by
  have h1 : (cellToks : Dev nD → sProp 𝕄) = fun d => cellToks d := rfl
  rw [h1]
  unfold talkToks cellToks
  rw [BI.bigSep_map, bigSep_filter, bigSep_univ_prod, bigSep_univ_prod]
  refine bmono fun d _ => ?_
  rw [← bigSep_sep']
  refine bmono fun s _ => ?_
  rw [bool2]
  unfold tokF tokT
  simp only [Bool.false_eq_true, false_implies, and_true, true_implies]
  exact BI.Entails.refl _

/-- What every cell comes to, device by device. -/
theorem cells_of (Φ : GSem nD τ sig → sProp 𝕄) : bigSep barCells Φ ⊢ bigSep (Finset.univ : Finset (Dev nD)) fun d => Φ (cellAt d barS) := by
  unfold barCells
  rw [BI.bigSep_map, bigSep_filter, bigSep_univ_prod]
  refine bmono fun d _ => ?_
  refine (BI.bigSep_elim (Finset.mem_univ barS)).trans ?_
  simp only [if_true]
  exact BI.Entails.refl _

theorem cells_to (Φ : GSem nD τ sig → sProp 𝕄) : (bigSep (Finset.univ : Finset (Dev nD)) fun d => Φ (cellAt d barS)) ⊢ bigSep barCells Φ := by
  unfold barCells
  rw [BI.bigSep_map, bigSep_filter, bigSep_univ_prod]
  refine bmono fun d _ => ?_
  rw [fam]
  simp [bigSep_emp_const, cellEmb]
  iintro H
  isplitl [H]; · iexact H
  repeat (isplitr; · iempintro)
  iempintro

theorem sc_of (Φ : GSem nD τ sig → sProp 𝕄) : bigSep scCells Φ ⊢ bigSep (Finset.univ : Finset (Dev nD)) fun d =>
    bigSep Finset.univ fun s => if used d s = true ∧ s ≠ barS then Φ (cellAt d s) else iprop(emp) := by
  unfold scCells
  rw [BI.bigSep_map, bigSep_filter, bigSep_univ_prod]
  exact BI.Entails.refl _

variable (I : Ins F) (K : GSem nD τ sig → ℕ)

theorem invs_of : bigSep (barCells ∪ scCells) (fun g => cellInv ER (rd I) (K g) g) ⊢ invs I K := by
  rw [union_cells, BI.bigSep_map, bigSep_filter]
  exact BI.Entails.refl _

end Cert.RingAttn
-- ==== Proof.Open.lean ====
module

public import proofs.«01_k».proof.Proof.Toks
public import Idealize.ShloMosaic.Lib.Pipeline.Launch

@[expose] public section

/-! The cells opened at the region, and closed at its end. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The region's own semaphores: those of the transfers and the exit. -/
def osem (k : Fin 61) : SemLoc sig := if k.val < 60 then .dma ⟨(6 + k.val) % 66, Nat.mod_lt _ (by decide)⟩ else exitS

theorem own_facts : Pipeline.OwnSemFacts spec0 osem := by decide +kernel

def ownS (s : SemLoc sig) : Bool := decide (s ≠ barS) && decide ((dec s).1 ≠ .none)

theorem osem_inj : Function.Injective osem := own_facts.inj

theorem osem_image : (Finset.univ : Finset (Fin 61)).map ⟨osem, osem_inj⟩ = Finset.univ.filter (fun s => ownS s = true) := by decide +kernel

theorem own_eq (Φ : SemLoc sig → sProp 𝕄) : bigSep (Finset.univ : Finset (Fin 61)) (fun k => Φ (osem k))
    = bigSep (Finset.univ : Finset (SemLoc sig)) (fun s => if ownS s = true then Φ s else iprop(emp)) := by
  refine Eq.trans ?_ (bigSep_filter Finset.univ (fun s => ownS s = true) Φ)
  rw [← osem_image, BI.bigSep_map]
  rfl

theorem used_own {c : Dev nD} {s : SemLoc sig} (h : used c s = true) (hb : s ≠ barS) : ownS s = true :=
  (by decide +kernel : ∀ (c : Dev nD) (s : SemLoc sig), used c s = true → s ≠ barS → ownS s = true) c s h hb

theorem own_not_bar {s : SemLoc sig} (h : ownS s = true) : s ≠ barS := by
  intro hb; subst hb; exact absurd h (by decide)

/-- The counters of the cells the device does not use: they stay as they are. -/
def idl (c : Dev nD) (s : SemLoc sig) : sProp 𝕄 :=
  if ownS s = true ∧ used c s = false then semVal (cellAt c s) 0 else iprop(emp)
def idle (c : Dev nD) : sProp 𝕄 := bigSep Finset.univ (idl c)

/-- The rights to open the device's cells. -/
def opn (c : Dev nD) : sProp 𝕄 :=
  bigSep Finset.univ fun s => if used c s = true ∧ s ≠ barS then openTok ER (cellAt c s) else iprop(emp)

def credF (c : Dev nD) (s : SemLoc sig) : sProp 𝕄 := if used c s = true then cred (tallyAt (cellAt c s) () N) else iprop(emp)

/-- What the device is owed. -/
def creds (c : Dev nD) : sProp 𝕄 :=
  iprop(cred (tallyAt (cellAt c barS) () 2) ∗ cred (tallyAt (cellAt c exitS) () 2)
    ∗ bigSep (Finset.univ : Finset (Fin 8)) (fun g => credF c (.dma (brrS g.val)))
    ∗ bigSep (Finset.univ : Finset (Fin 7)) (fun g => credF c (.dma (crrS g.val)))
    ∗ bigSep (Finset.univ : Finset (Fin 7)) (fun g => credF c (.dma (brlS g.val)))
    ∗ bigSep (Finset.univ : Finset (Fin 6)) (fun g => credF c (.dma (crlS g.val)))
    ∗ credF c (.dma frrS) ∗ credF c (.dma frlS))

def atF (c : Dev nD) (s : SemLoc sig) : sProp 𝕄 := if used c s = true then atPos ER (cellAt c s) 0 ∅ 0 else iprop(emp)

variable (I : Ins F)

/-- What the launch deals a device. -/
def start (c : Dev nD) : sProp 𝕄 :=
  iprop(∃ K, (invs I K ∗ reached ER (cellAt c barS) 0 ∗ reached ER (cellAt (lf c) barS) 0 ∗ reached ER (cellAt (rt c) barS) 0)
    ∗ atPos ER (cellAt c barS) 0 ∅ 0 ∗ opn c ∗ myToks c ∗ creds c)

/-- What the body is run with. -/
def ghost (c : Dev nD) : sProp 𝕄 :=
  iprop(∃ K, (invs I K ∗ levAts L lv ∗ rch c ∗ reached ER (cellAt (lf c) barS) 0 ∗ reached ER (cellAt (rt c) barS) 0)
    ∗ (kS c barS ∗ kS c exitS ∗ kT c ∗ kF c) ∗ idle c)

theorem open_one (K : GSem nD τ sig → ℕ) (c : Dev nD) (s : SemLoc sig) :
    iprop(invs I K ∗ (if ownS s = true then semVal (cellAt c s) 0 else iprop(emp))
        ∗ (if used c s = true ∧ s ≠ barS then openTok ER (cellAt c s) else iprop(emp)))
      ⊢ (iprop(|={Set.univ}=> ((if used c s = true ∧ s ≠ barS then atPos ER (cellAt c s) 0 ∅ 0 else iprop(emp))
        ∗ (if used c s = true ∧ s ≠ barS then reached ER (cellAt c s) 0 else iprop(emp)) ∗ idl c s)) : sProp 𝕄) := by
  unfold idl
  by_cases h : used c s = true ∧ s ≠ barS
  · rw [if_pos h, if_pos h, if_pos h, if_pos (used_own h.1 h.2), if_neg (fun h' => absurd (h.1.symm.trans h'.2) (by decide))]
    iintro ⟨#HI, Hz, Ho⟩
    ihave #Hi := (invs_elim I K c s h.1) $$ HI
    imod (Rounds.cell_open ER (rd I) (g := cellAt c s) (Set.mem_univ (K (cellAt c s)))) $$ [Ho Hz] with ⟨Ha, #Hr⟩
    · iframe # ∗
    imodintro
    isplitl [Ha]; · iexact Ha
    isplitr; · iexact Hr
    iempintro
  · rw [if_neg h, if_neg h, if_neg h]
    by_cases ho : ownS s = true
    · have hu : used c s = false := by
        by_contra hu
        exact h ⟨by simpa using hu, own_not_bar ho⟩
      rw [if_pos ho, if_pos ⟨ho, hu⟩]
      iintro ⟨_, Hz, _⟩
      imodintro
      isplitr; · iempintro
      isplitr; · iempintro
      iexact Hz
    · rw [if_neg ho, if_neg (fun h' => ho h'.1)]
      iintro ⟨_, _, _⟩
      imodintro
      isplitr; · iempintro
      isplitr; · iempintro
      iempintro

theorem open_all (K : GSem nD τ sig → ℕ) (c : Dev nD) :
    iprop(invs I K ∗ Pipeline.ownSems0 osem c ∗ opn c)
      ⊢ (iprop(|={Set.univ}=> ((bigSep Finset.univ fun s => if used c s = true ∧ s ≠ barS then atPos ER (cellAt c s) 0 ∅ 0 else iprop(emp))
        ∗ (bigSep Finset.univ fun s => if used c s = true ∧ s ≠ barS then reached ER (cellAt c s) 0 else iprop(emp)) ∗ idle c)) : sProp 𝕄) := by
  unfold Pipeline.ownSems0 opn idle
  rw [own_eq (fun s => semVal (cellAt c s) 0), ← bigSep_sep', ← bigSep_sep', ← bigSep_sep']
  exact (bigSep_with_persistent (R := invs I K) fun s _ => open_one I K c s).trans (bigSep_fupd _ _)

theorem rch_of (c : Dev nD) :
    iprop(reached ER (cellAt c barS) 0 ∗ bigSep Finset.univ fun s => if used c s = true ∧ s ≠ barS then reached ER (cellAt c s) 0 else iprop(emp))
      ⊢ (rch c : sProp 𝕄) := by
  unfold rch
  refine bigSep_with_persistent (R := reached ER (cellAt c barS) 0) fun s _ => ?_
  by_cases h : used c s = true
  · by_cases hb : s = barS
    · subst hb
      rw [if_pos h]
      iintro ⟨H, _⟩
      iexact H
    · rw [if_pos h, if_pos ⟨h, hb⟩]
      iintro ⟨_, H⟩
      iexact H
  · rw [if_neg h]
    iintro ⟨_, _⟩
    iempintro

theorem u_bsr (c : Dev nD) : ∀ g < 8, used c (.dma (bsrS g)) = decide (ev c g) := fun g h => by unfold used; rw [dec_bsr h]; rfl
theorem u_brr (c : Dev nD) : ∀ g < 8, used (rt c) (.dma (brrS g)) = decide (ev c g) := fun g h => by
  unfold used; rw [dec_brr h]
  exact (by decide +kernel : ∀ (c : Dev nD) (g : Fin 8), usedF (rt c) (.brr, g.val) = decide (ev c g.val)) c ⟨g, h⟩
theorem u_brr' (c : Dev nD) : ∀ g < 8, used c (.dma (brrS g)) = !decide (ev c g) := fun g h => by
  unfold used; rw [dec_brr h]
  exact (by decide +kernel : ∀ (c : Dev nD) (g : Fin 8), usedF c (.brr, g.val) = !decide (ev c g.val)) c ⟨g, h⟩
theorem u_bsl (c : Dev nD) : ∀ g < 7, used c (.dma (bslS g)) = decide (ev c g) := fun g h => by unfold used; rw [dec_bsl h]; rfl
theorem u_brl (c : Dev nD) : ∀ g < 7, used (lf c) (.dma (brlS g)) = decide (ev c g) := fun g h => by
  unfold used; rw [dec_brl h]
  exact (by decide +kernel : ∀ (c : Dev nD) (g : Fin 7), usedF (lf c) (.brl, g.val) = decide (ev c g.val)) c ⟨g, h⟩
theorem u_brl' (c : Dev nD) : ∀ g < 7, used c (.dma (brlS g)) = !decide (ev c g) := fun g h => by
  unfold used; rw [dec_brl h]
  exact (by decide +kernel : ∀ (c : Dev nD) (g : Fin 7), usedF c (.brl, g.val) = !decide (ev c g.val)) c ⟨g, h⟩
theorem u_csr (c : Dev nD) : ∀ g < 7, used c (.dma (csrS g)) = decide (od c g) := fun g h => by unfold used; rw [dec_csr h]; rfl
theorem u_crr (c : Dev nD) : ∀ g < 7, used (rt c) (.dma (crrS g)) = decide (od c g) := fun g h => by
  unfold used; rw [dec_crr h]
  exact (by decide +kernel : ∀ (c : Dev nD) (g : Fin 7), usedF (rt c) (.crr, g.val) = decide (od c g.val)) c ⟨g, h⟩
theorem u_crr' (c : Dev nD) : ∀ g < 7, used c (.dma (crrS g)) = !decide (od c g) := fun g h => by
  unfold used; rw [dec_crr h]
  exact (by decide +kernel : ∀ (c : Dev nD) (g : Fin 7), usedF c (.crr, g.val) = !decide (od c g.val)) c ⟨g, h⟩
theorem u_csl (c : Dev nD) : ∀ g < 6, used c (.dma (cslS g)) = decide (od c g) := fun g h => by unfold used; rw [dec_csl h]; rfl
theorem u_crl (c : Dev nD) : ∀ g < 6, used (lf c) (.dma (crlS g)) = decide (od c g) := fun g h => by
  unfold used; rw [dec_crl h]
  exact (by decide +kernel : ∀ (c : Dev nD) (g : Fin 6), usedF (lf c) (.crl, g.val) = decide (od c g.val)) c ⟨g, h⟩
theorem u_crl' (c : Dev nD) : ∀ g < 6, used c (.dma (crlS g)) = !decide (od c g) := fun g h => by
  unfold used; rw [dec_crl h]
  exact (by decide +kernel : ∀ (c : Dev nD) (g : Fin 6), usedF c (.crl, g.val) = !decide (od c g.val)) c ⟨g, h⟩

theorem u_f0 {c : Dev nD} (h : c.val % 2 = 0) : used c (.dma fsrS) = true ∧ used c (.dma frrS) = true ∧ used c (.dma frlS) = true
    ∧ used c (.dma fslS) = false ∧ used (opp c) (.dma frrS) = true ∧ used (op7 c) (.dma frlS) = false := by
  revert h; revert c; decide +kernel
theorem u_f1 {c : Dev nD} (h : c.val % 2 = 1) : used c (.dma fsrS) = false ∧ used c (.dma frrS) = false ∧ used c (.dma frlS) = false
    ∧ used c (.dma fslS) = true ∧ used (opp c) (.dma frrS) = false ∧ used (op7 c) (.dma frlS) = true := by
  revert h; revert c; decide +kernel

theorem kF_of (c : Dev nD) :
    iprop((tokF c (.dma fsrS) ∗ tokF (opp c) (.dma frrS) ∗ tokF c (.dma fslS) ∗ tokF (op7 c) (.dma frlS))
      ∗ (atF c (.dma fsrS) ∗ atF c (.dma frrS) ∗ atF c (.dma fslS) ∗ atF c (.dma frlS)) ∗ credF c (.dma frrS) ∗ credF c (.dma frlS))
    ⊢ (kF c : sProp 𝕄) := by
  unfold kF tokF atF credF sndRes pend
  rcases Nat.mod_two_eq_zero_or_one c.val with h | h
  · obtain ⟨h1, h2, h3, h4, h5, h6⟩ := u_f0 h
    simp only [h1, h2, h3, h4, h5, h6, h, if_true, Bool.false_eq_true, if_false]
    iintro ⟨⟨A1, A2, _, _⟩, ⟨B1, B2, _, B4⟩, C1, C2⟩
    iframe
  · obtain ⟨h1, h2, h3, h4, h5, h6⟩ := u_f1 h
    simp only [h1, h2, h3, h4, h5, h6, h, if_true, Bool.false_eq_true, if_false, one_ne_zero]
    iintro ⟨⟨_, _, A3, A4⟩, ⟨_, _, B3, _⟩, _, _⟩
    iframe

theorem used_exit (c : Dev nD) : used c exitS = true := rfl
theorem tokT_bar (d : Dev nD) : (tokT d barS : sProp 𝕄) ⊢ dutyTok ER (cellAt d barS) 0 true := Entails.of_eq (if_pos ⟨rfl, .inl rfl⟩)
theorem tokT_exit (d : Dev nD) : (tokT d exitS : sProp 𝕄) ⊢ dutyTok ER (cellAt d exitS) 0 true := Entails.of_eq (if_pos ⟨rfl, .inr rfl⟩)
theorem tokF_bar (d : Dev nD) : (tokF d barS : sProp 𝕄) ⊢ dutyTok ER (cellAt d barS) 0 false := Entails.of_eq (if_pos rfl)
theorem tokF_exit (d : Dev nD) : (tokF d exitS : sProp 𝕄) ⊢ dutyTok ER (cellAt d exitS) 0 false := Entails.of_eq (if_pos rfl)
theorem atF_exit (d : Dev nD) : (atF d exitS : sProp 𝕄) ⊢ atPos ER (cellAt d exitS) 0 ∅ 0 := Entails.of_eq (if_pos rfl)
theorem exit_ne : (exitS = barS) = False := eq_false (by decide)

theorem used_stg (c : Dev nD) (g : Fin 6) : used c (.dma (stgS g.val)) = false :=
  (by decide +kernel : ∀ (c : Dev nD) (g : Fin 6), used c (.dma (stgS g.val)) = false) c g

theorem at_split (c : Dev nD) : (bigSep Finset.univ fun s => if used c s = true ∧ s ≠ barS then atPos ER (cellAt c s) 0 ∅ 0 else iprop(emp) : sProp 𝕄)
    ⊢ iprop(atF c exitS
      ∗ bigSep (Finset.univ : Finset (Fin 8)) (fun g => atF c (.dma (bsrS g.val)))
      ∗ bigSep (Finset.univ : Finset (Fin 8)) (fun g => atF c (.dma (brrS g.val)))
      ∗ bigSep (Finset.univ : Finset (Fin 7)) (fun g => atF c (.dma (csrS g.val)))
      ∗ bigSep (Finset.univ : Finset (Fin 7)) (fun g => atF c (.dma (crrS g.val)))
      ∗ bigSep (Finset.univ : Finset (Fin 7)) (fun g => atF c (.dma (bslS g.val)))
      ∗ bigSep (Finset.univ : Finset (Fin 7)) (fun g => atF c (.dma (brlS g.val)))
      ∗ bigSep (Finset.univ : Finset (Fin 6)) (fun g => atF c (.dma (cslS g.val)))
      ∗ bigSep (Finset.univ : Finset (Fin 6)) (fun g => atF c (.dma (crlS g.val)))
      ∗ atF c (.dma fsrS) ∗ atF c (.dma frrS) ∗ atF c (.dma fslS) ∗ atF c (.dma frlS)) := by
  rw [fam]
  simp only [ne_eq, reduceCtorEq, not_false_eq_true, and_true, not_true_eq_false, and_false, if_false, exit_ne, used_stg, Bool.false_eq_true, bigSep_emp_const]
  unfold atF
  iintro ⟨_, He, _, H⟩
  isplitl [He]; · iexact He
  iexact H

/-- The region's entry. -/
theorem entry (c : Dev nD) : iprop(start I c ∗ Pipeline.ownSems0 osem c ∗ levAts L lv) ⊢ iprop(|={Set.univ}=> ghost I c) := by
  unfold start ghost
  iintro ⟨⟨%K, ⟨#HI, #Hr, #Hrl, #Hrr⟩, Hab, Ho, Ht, Hc⟩, Hs, #Hlev⟩
  imod (open_all I K c) $$ [Hs Ho] with ⟨Ha, Hre, Hidle⟩
  · iframe # ∗
  imodintro
  iexists K
  ihave #Hrch := (rch_of c) $$ [Hre]
  · iframe # ∗
  iframe Hidle
  isplitr
  · iframe #
  ihave Ha := (at_split c) $$ Ha
  unfold myToks creds
  icases Ha with ⟨Ae, Absr, Abrr, Acsr, Acrr, Absl, Abrl, Acsl, Acrl, Afsr, Afrr, Afsl, Afrl⟩
  icases Ht with ⟨Tb, Te, Tb', Te', Tbsr, Tbrr, Tcsr, Tcrr, Tbsl, Tbrl, Tcsl, Tcrl, Tfsr, Tfrr, Tfsl, Tfrl⟩
  icases Hc with ⟨Cb, Ce, Cbrr, Ccrr, Cbrl, Ccrl, Cfrr, Cfrl⟩
  isplitl [Tb Tb' Hab Cb]
  · unfold kS
    isplitl [Tb]; · iapply (tokT_bar (lf c)); iexact Tb
    isplitl [Tb']; · iapply (tokF_bar (rt c)); iexact Tb'
    isplitl [Hab]; · iexact Hab
    iexact Cb
  isplitl [Te Te' Ae Ce]
  · unfold kS
    isplitl [Te]; · iapply (tokT_exit (lf c)); iexact Te
    isplitl [Te']; · iapply (tokF_exit (rt c)); iexact Te'
    isplitl [Ae]; · iapply (atF_exit c); iexact Ae
    iexact Ce
  isplitl [Absr Abrr Acsr Acrr Absl Abrl Acsl Acrl Tbsr Tbrr Tcsr Tcrr Tbsl Tbrl Tcsl Tcrl Cbrr Ccrr Cbrl Ccrl]
  · iapply (kT_of c)
    isplitl [Tbsr Absr Tbrr Abrr Cbrr]
    · iapply (lane (n := 8) c (rt c) bsrS brrS (ev c) (u_bsr c) (u_brr c) (u_brr' c))
      isplitl [Tbsr]; · iexact Tbsr
      isplitl [Absr]; · iexact Absr
      isplitl [Tbrr]; · iexact Tbrr
      isplitl [Abrr]; · iexact Abrr
      iexact Cbrr
    isplitl [Tbsl Absl Tbrl Abrl Cbrl]
    · iapply (lane (n := 7) c (lf c) bslS brlS (ev c) (u_bsl c) (u_brl c) (u_brl' c))
      isplitl [Tbsl]; · iexact Tbsl
      isplitl [Absl]; · iexact Absl
      isplitl [Tbrl]; · iexact Tbrl
      isplitl [Abrl]; · iexact Abrl
      iexact Cbrl
    isplitl [Tcsr Acsr Tcrr Acrr Ccrr]
    · iapply (lane (n := 7) c (rt c) csrS crrS (od c) (u_csr c) (u_crr c) (u_crr' c))
      isplitl [Tcsr]; · iexact Tcsr
      isplitl [Acsr]; · iexact Acsr
      isplitl [Tcrr]; · iexact Tcrr
      isplitl [Acrr]; · iexact Acrr
      iexact Ccrr
    iapply (lane (n := 6) c (lf c) cslS crlS (od c) (u_csl c) (u_crl c) (u_crl' c))
    isplitl [Tcsl]; · iexact Tcsl
    isplitl [Acsl]; · iexact Acsl
    isplitl [Tcrl]; · iexact Tcrl
    isplitl [Acrl]; · iexact Acrl
    iexact Ccrl
  iapply (kF_of c)
  isplitl [Tfsr Tfrr Tfsl Tfrl]
  · iframe
  isplitl [Afsr Afrr Afsl Afrl]
  · unfold atF
    iframe
  iframe

/-- The counters at the end. -/
theorem zF_to (c : Dev nD) : (zF c : sProp 𝕄) ⊢
    iprop((if used c (.dma fsrS) = true then semVal (cellAt c (.dma fsrS)) 0 else iprop(emp)) ∗ (if used c (.dma frrS) = true then semVal (cellAt c (.dma frrS)) 0 else iprop(emp))
      ∗ (if used c (.dma fslS) = true then semVal (cellAt c (.dma fslS)) 0 else iprop(emp)) ∗ (if used c (.dma frlS) = true then semVal (cellAt c (.dma frlS)) 0 else iprop(emp))) := by
  unfold zF zero
  rcases Nat.mod_two_eq_zero_or_one c.val with h | h
  · obtain ⟨h1, h2, h3, h4, h5, h6⟩ := u_f0 h
    simp only [h1, h2, h3, h4, h5, h6, h, if_true, Bool.false_eq_true, if_false]
    iintro ⟨A1, A2, A3⟩
    iframe
  · obtain ⟨h1, h2, h3, h4, h5, h6⟩ := u_f1 h
    simp only [h1, h2, h3, h4, h5, h6, h, if_true, Bool.false_eq_true, if_false, one_ne_zero]
    iintro A
    isplitr; · iempintro
    isplitr; · iempintro
    isplitl [A]; · iexact A
    iempintro

theorem close_used (c : Dev nD) : iprop(semVal (cellAt c exitS) 0 ∗ zT c ∗ zF c) ⊢
    (bigSep Finset.univ (fun s => if used c s = true ∧ s ≠ barS then semVal (cellAt c s) 0 else iprop(emp)) : sProp 𝕄) := by
  rw [fam]
  simp only [ne_eq, reduceCtorEq, not_false_eq_true, and_true, not_true_eq_false, and_false, if_false, if_true, used_exit, exit_ne, used_stg, Bool.false_eq_true, bigSep_emp_const]
  iintro ⟨He, HT, HF⟩
  ihave HT := (zT_to c) $$ HT
  icases HT with ⟨H1, H2, H3, H4⟩
  ihave HF := (zF_to c) $$ HF
  icases HF with ⟨F1, F2, F3, F4⟩
  ihave H1 := (zlane (n := 8) c bsrS brrS (ev c) (u_bsr c) (u_brr' c)) $$ H1
  ihave H2 := (zlane (n := 7) c bslS brlS (ev c) (u_bsl c) (u_brl' c)) $$ H2
  ihave H3 := (zlane (n := 7) c csrS crrS (od c) (u_csr c) (u_crr' c)) $$ H3
  ihave H4 := (zlane (n := 6) c cslS crlS (od c) (u_csl c) (u_crl' c)) $$ H4
  icases H1 with ⟨Hbsr, Hbrr⟩
  icases H2 with ⟨Hbsl, Hbrl⟩
  icases H3 with ⟨Hcsr, Hcrr⟩
  icases H4 with ⟨Hcsl, Hcrl⟩
  isplitr; · iempintro
  isplitl [He]; · iexact He
  isplitr; · iapply (show iprop(emp) ⊢ bigSep (Finset.univ : Finset (Fin 6)) (fun _ => iprop(emp)) from Entails.of_eq (BI.bigSep_emp_const _).symm); iempintro
  isplitl [Hbsr]; · iexact Hbsr
  isplitl [Hbrr]; · iexact Hbrr
  isplitl [Hcsr]; · iexact Hcsr
  isplitl [Hcrr]; · iexact Hcrr
  isplitl [Hbsl]; · iexact Hbsl
  isplitl [Hbrl]; · iexact Hbrl
  isplitl [Hcsl]; · iexact Hcsl
  isplitl [Hcrl]; · iexact Hcrl
  isplitl [F1]; · iexact F1
  isplitl [F2]; · iexact F2
  isplitl [F3]; · iexact F3
  iexact F4

theorem sems_out (c : Dev nD) : iprop(semVal (cellAt c exitS) 0 ∗ zT c ∗ zF c ∗ idle c) ⊢ (Pipeline.ownSems0 osem c : sProp 𝕄) := by
  unfold Pipeline.ownSems0
  rw [own_eq (fun s => semVal (cellAt c s) 0)]
  iintro ⟨H1, H2, H3, Hi⟩
  ihave H := (close_used c) $$ [H1 H2 H3]
  · iframe
  icombine H Hi as H
  iapply (show iprop((bigSep Finset.univ (fun s => if used c s = true ∧ s ≠ barS then semVal (cellAt c s) 0 else iprop(emp))) ∗ idle c)
    ⊢ (bigSep Finset.univ (fun s => if ownS s = true then semVal (cellAt c s) 0 else iprop(emp)) : sProp 𝕄) from by
      unfold idle
      rw [← bigSep_sep']
      refine bmono fun s _ => ?_
      unfold idl
      by_cases ho : ownS s = true
      · by_cases hu : used c s = true
        · rw [if_pos ⟨hu, own_not_bar ho⟩, if_neg (fun h' => absurd (hu.symm.trans h'.2) (by decide)), if_pos ho]
          iintro ⟨H, _⟩
          iexact H
        · rw [if_neg (fun h' => hu h'.1), if_pos ⟨ho, by simpa using hu⟩, if_pos ho]
          iintro ⟨_, H⟩
          iexact H
      · rw [if_neg ho]
        iintro ⟨_, _⟩
        iempintro)
  iexact H

end Cert.RingAttn
-- ==== Proof.Region.lean ====
module

public import proofs.«01_k».proof.Proof.Body
public import proofs.«01_k».proof.Proof.Open
public import proofs.«01_k».proof.Proof.Bufs
public import proofs.«01_k».proof.Proof.Gen.KernelIdeal.Regions
public import proofs.«01_k».proof.Proof.Gen.KernelIdeal.Points
public import Idealize.ShloMosaic.Lib.Pipeline.RegionTalk

@[expose] public section

/-! The kernel as a region of the program. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The blocks the devices are launched with -/

variable (m : (ℓ : Loc nD τ sig) → Buf (Elt F) ℓ)

/-- The arrays the windows are on, as the region finds them. -/
def arrs (c : Dev nD) : (w : Fin 6) → Buf (Elt F) ((cfg0.win w).arr.view.loc (c.tc : Thread nD τ))
  | 0 => V1 m c (Proc.devRef .tc main_arg0)
  | 1 => V1 m c (Proc.devRef .tc main_arg1)
  | 2 => V1 m c (Proc.devRef .tc main_v9)
  | 3 => V1 m c (Proc.devRef .tc main_v14)
  | 4 => V1 m c (Proc.devRef .tc main_arg4)
  | 5 => V1 m c (Proc.devRef .tc main_v15)
  | ⟨_ + 6, h⟩ => absurd h (Nat.not_lt.2 (Nat.le_add_left _ _))

/-- The blocks the body is run on. -/
def given : Ins F where
  x c := ((cfg0.win 0).blk t0_0).view.read (Elt F) (arrs m c 0)
  wq c := ((cfg0.win 1).blk t0_0).view.read (Elt F) (arrs m c 1)
  ks c := ((cfg0.win 2).blk t0_0).view.read (Elt F) (arrs m c 2)
  vs c := ((cfg0.win 3).blk t0_0).view.read (Elt F) (arrs m c 3)
  wo c := ((cfg0.win 4).blk t0_0).view.read (Elt F) (arrs m c 4)

/-! ## The region -/

/-- What the body finds. -/
def found (c : Dev nD) : sProp 𝕄 :=
  iprop(ghost (given m) c ∗ (giveL c ∗ giveR c ∗ keep c) ∗ bufs c ∗ ∃ r, prngReg c r)
/-- What it leaves. -/
def left (c : Dev nD) : sProp 𝕄 :=
  iprop(semVal (cellAt c barS) 0 ∗ Pipeline.ownSems0 osem c ∗ Pipeline.scopedRest spec0 c ∗ ∃ r, prngReg c r)

def dat (c : Dev nD) : Dat τ (Elt F) Unit ℕ UU ℕ cfg0 c where
  A := arrs m c
  after := fun
    | 0 => fun _ => (given m).x c
    | 1 => fun _ => (given m).wq c
    | 2 => fun _ => (given m).ks c
    | 3 => fun _ => (given m).vs c
    | 4 => fun _ => (given m).wo c
    | 5 => fun _ => outV (given m) c
    | ⟨_ + 6, h⟩ => absurd h (Nat.not_lt.2 (Nat.le_add_left _ _))
  Φ t := if t.val = 0 then found m c else left c
  q _ := fullShare
  owed t := if t.val = 0 then O c 0 else 0

def pdats : (p : Fin 1) → (c : Dev nD) → Dat τ (Elt F) Unit ℕ UU ℕ (Pipeline.pin (pcfgs (F := F)) adm p) c
  | 0 => dat m

theorem owed_zero (c : Dev nD) : (pdats m 0 c).owed 0 = O c 0 := by
  show (if ((0 : Fin (cfg0.N + 1)).val = 0) then O c 0 else 0) = O c 0
  exact if_pos rfl

theorem owed_last (c : Dev nD) : (pdats m 0 c).owed (Fin.last _) = 0 := by
  show (if (Fin.last cfg0.N).val = 0 then O c 0 else 0) = 0
  rw [Fin.val_last, if_neg (by rw [show cfg0.N = 1 from N_0]; decide)]

theorem inv_zero (c : Dev nD) : (pdats m 0 c).Φ 0 = found m c := by
  show (if ((0 : Fin (cfg0.N + 1)).val = 0) then found m c else left c) = found m c
  exact if_pos rfl

theorem inv_last (c : Dev nD) : (pdats m 0 c).Φ (Fin.last _) = left c := by
  show (if (Fin.last cfg0.N).val = 0 then found m c else left c) = left c
  rw [Fin.val_last, if_neg (by rw [show cfg0.N = 1 from N_0]; decide)]

theorem ow_of {c : Dev nD} (t : Fin (cfg0.N + 1)) {n : ℕ} (h : (dat m c).owed t = O c n) : (dat m c).owesAt () t ⊢ ow c n := by
  unfold Dat.owesAt Pipeline.owesWithin ow
  rw [h]
  iintro ⟨%W, -, HO⟩
  iexists W
  iexact HO

theorem ow_to {c : Dev nD} (t : Fin (cfg0.N + 1)) {n : ℕ} (h : (dat m c).owed t = O c n)
    (hr : (dat m c).recorded t = Set.univ := by rfl) : ow c n ⊢ (dat m c).owesAt () t := by
  unfold Dat.owesAt Pipeline.owesWithin Dat.bound ow
  rw [h, hr]
  iintro ⟨%W, HO⟩
  iexists W
  isplitr
  · ipureintro
    exact fun _ _ => Or.inl trivial
  iexact HO

local notation "WP" => fun (c : Dev nD) => wp frame (wpE (defs₀ (F := F)) 𝒱₀ (c : Thread nD τ) none) Set.univ

/-- The body between what the region holds before it and after it. -/
theorem body_left (c : Dev nD) :
    iprop(found m c ∗ ow c 0 ∗ ins (given m) c ∗ wAny c st5)
      ⊢ WP c bodyP (fun _ => iprop(left c ∗ ow c 23 ∗ ins (given m) c ∗ owns (c : Thread nD τ) st5 fullShare (outV (given m) c))) := by
  unfold found ghost
  iintro ⟨⟨⟨%K, ⟨#HI, #Hlev, #Hr, #H1, #H2⟩, ⟨S1, S2, S3, S4⟩, Hi⟩, Hg, Hb, Hreg⟩, HO, Hins, Hst⟩
  ihave Hw := (body (given m) K c) $$ [S1 S2 S3 S4 Hg Hb HO Hins Hst]
  · unfold pre
    isplitr
    · iframe #
    iframe
  iapply (wp_wand _ _ _) $$ Hw
  iintro %r Hp
  unfold post left
  icases Hp with ⟨HO, ⟨Hbar, Hex, HT, HF⟩, ⟨X1, X2, X3, Hb⟩, Hins, Hst⟩
  ihave Hs := (sems_out c) $$ [Hex HT HF Hi]
  · iframe
  ihave Hc := (scratch_out c) $$ [X1 X2 X3 Hb]
  · iframe
  iframe

/-- The body's obligation at the region's one point. -/
theorem oblig (c : Dev nD) : BodyObligation (dat m c) defs₀ 𝒱₀ () Set.univ := fun t => by
  obtain rfl := fin_N0 t
  rw [bigSep_W0, bigSep_W0]
  rw [show (dat m c).Φ t0_0.castSucc = found m c from rfl, show (dat m c).Φ t0_0.succ = left c from rfl]
  iintro ⟨HΦ, HO, ⟨%d0, W0⟩, ⟨%d1, W1⟩, ⟨%d2, W2⟩, ⟨%d3, W3⟩, ⟨%d4, W4⟩, ⟨%d5, W5⟩⟩
  ihave HO := (ow_of m (c := c) t0_0.castSucc (n := 0) rfl) $$ HO
  ihave Hw := (body_left m c) $$ [HΦ HO W0 W1 W2 W3 W4 W5]
  · isplitl [HΦ]; · iexact HΦ
    isplitl [HO]; · iexact HO
    isplitr [W5]
    · unfold ins
      isplitl [W0]; · iapply (Entails.of_eq (show owns (c : Thread nD τ) _ fullShare ((dat m c).before 0 t0_0 d0) = owns (c : Thread nD τ) st0 fullShare ((given m).x c) from by
        unfold Dat.before; rw [if_pos (by decide)]; rfl)) $$ W0
      isplitl [W1]; · iapply (Entails.of_eq (show owns (c : Thread nD τ) _ fullShare ((dat m c).before 1 t0_0 d1) = owns (c : Thread nD τ) st1 fullShare ((given m).wq c) from by
        unfold Dat.before; rw [if_pos (by decide)]; rfl)) $$ W1
      isplitl [W2]; · iapply (Entails.of_eq (show owns (c : Thread nD τ) _ fullShare ((dat m c).before 2 t0_0 d2) = owns (c : Thread nD τ) st2 fullShare ((given m).ks c) from by
        unfold Dat.before; rw [if_pos (by decide)]; rfl)) $$ W2
      isplitl [W3]; · iapply (Entails.of_eq (show owns (c : Thread nD τ) _ fullShare ((dat m c).before 3 t0_0 d3) = owns (c : Thread nD τ) st3 fullShare ((given m).vs c) from by
        unfold Dat.before; rw [if_pos (by decide)]; rfl)) $$ W3
      iapply (Entails.of_eq (show owns (c : Thread nD τ) _ fullShare ((dat m c).before 4 t0_0 d4) = owns (c : Thread nD τ) st4 fullShare ((given m).wo c) from by
        unfold Dat.before; rw [if_pos (by decide)]; rfl)) $$ W4
    · unfold wAny
      iexists _
      iexact W5
  iapply (wp_wand _ _ _) $$ Hw
  unfold ins
  iintro %r ⟨Hl, HO, ⟨W0, W1, W2, W3, W4⟩, W5⟩
  isplitl [Hl]; · iexact Hl
  isplitl [HO]; · iapply (ow_to m (c := c) t0_0.succ (n := 23) (O_end c).symm); iexact HO
  isplitl [W0]; · iexact W0
  isplitl [W1]; · iexact W1
  isplitl [W2]; · iexact W2
  isplitl [W3]; · iexact W3
  isplitl [W4]; · iexact W4
  iexact W5

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_pos : ∀ (k : Fin 23), 0 < lvRank k.val := by decide

theorem cut (c : Dev nD) (t : Fin (cfg0.N + 1)) (g : GSem nD τ sig) (i : Unit) (h : 0 < (pdats m 0 c).owed t g i) :
    i ∈ L g ∧ (0 : ℕ) < lv g i := by
  have h' : 0 < (if t.val = 0 then O c 0 else 0) g i := h
  split at h'
  · obtain ⟨k, -, hk, d, s, ht, rfl⟩ := O_pos h'
    refine ⟨by rw [L_tc]; exact Finset.mem_singleton.mpr rfl, ?_⟩
    have e := tgtLv_eq c ⟨k, hk⟩
    unfold tgtLv at e
    rw [ht] at e
    have := lv_pos ⟨k, hk⟩
    show 0 < lvF (dec s)
    have e' : lvF (dec s) = lvRank k := e
    rw [e']; exact this
  · exact absurd h' (Nat.lt_irrefl 0)

/-! ## What the arrays hold after it -/

/-- What the region leaves in the result's array. -/
def outs : Outs (F := F) := fun _ r c => if h : r = main_v15 then h ▸ (dat m c).arrAt 5 cfg0.N else V1 m c r

theorem outs_eq (c : Dev nD) : outs m 2 main_v15 c = (dat m c).arrAt 5 cfg0.N := dif_pos rfl

/-- The buffers the region does not reach. -/
def rest : Finset (DevRef τ sig) := Pipeline.ucRefs τ sig \ Pipeline.arrRefs spec0

theorem v15_arr : (Proc.devRef .tc main_v15 : DevRef τ sig) ∈ Pipeline.arrRefs spec0 := by decide

theorem stays (c : Dev nD) : ∀ b ∈ rest \ ∅, V2 m (outs m) c b = V1 m c b := fun b hb => by
  refine Function.update_of_ne (fun e => ?_) _ _
  subst e
  rw [Finset.sdiff_empty] at hb
  exact (Finset.mem_sdiff.mp hb).2 v15_arr

theorem arr_in (c : Dev nD) : ∀ w : Fin 6, (dat m c).arrAt w 0 = V1 m c (Proc.devRef .tc (Pipeline.arrRef spec0 w))
  | 0 => rfl | 1 => rfl | 2 => rfl | 3 => rfl | 4 => rfl | 5 => rfl
  | ⟨_ + 6, h⟩ => absurd h (Nat.not_lt.2 (Nat.le_add_left _ _))

theorem arr_out (c : Dev nD) : ∀ w : Fin 6, (dat m c).arrAt w cfg0.N = V2 m (outs m) c (Proc.devRef .tc (Pipeline.arrRef spec0 w))
  | 0 => ((dat m c).arrAt_in 0 rfl _).trans (V2_of m (outs m) c main_arg0 (by decide)).symm
  | 1 => ((dat m c).arrAt_in 1 rfl _).trans (V2_of m (outs m) c main_arg1 (by decide)).symm
  | 2 => ((dat m c).arrAt_in 2 rfl _).trans (V2_of m (outs m) c main_v9 (by decide)).symm
  | 3 => ((dat m c).arrAt_in 3 rfl _).trans (V2_of m (outs m) c main_v14 (by decide)).symm
  | 4 => ((dat m c).arrAt_in 4 rfl _).trans (V2_of m (outs m) c main_arg4 (by decide)).symm
  | 5 => (outs_eq m c).symm.trans (Function.update_self (Proc.devRef .tc main_v15 : DevRef τ sig) _ (V1 m c)).symm
  | ⟨_ + 6, h⟩ => absurd h (Nat.not_lt.2 (Nat.le_add_left _ _))

/-! ## The region's record -/

theorem enter (c : Dev nD) :
    iprop(Pipeline.scopedRest spec0 c ∗ (∃ r, prngReg c r) ∗ StableHlo.held (c.tc : Thread nD τ) ∅ (V1 m c) ∗ ghost (given m) c) ⊢ (found m c : sProp 𝕄) := by
  unfold found
  iintro ⟨Hs, Hp, -, Hg⟩
  ihave Hs := (scratch_in c) $$ Hs
  icases Hs with ⟨Ha, Hb⟩
  unfold ghost
  icases Hg with ⟨%K, ⟨#HI, #Hlev, #Hr, #H1, #H2⟩, HS, Hi⟩
  ihave Hg := (give_all c) $$ [Ha]
  · isplitl [Ha]; · iexact Ha
    iexact Hr
  isplitl [HS Hi]
  · iexists K
    isplitr
    · iframe #
    iframe
  iframe

theorem leave (c : Dev nD) :
    (left c : sProp 𝕄) ⊢ iprop(Pipeline.scopedRest spec0 c ∗ (∃ r, prngReg c r) ∗ StableHlo.held (c.tc : Thread nD τ) ∅ (V2 m (outs m) c)
      ∗ Pipeline.ownSems0 osem c ∗ semVal (cellAt c barS) 0) := by
  unfold left
  iintro ⟨Hb, Ho, Hs, Hp⟩
  isplitl [Hs]; · iexact Hs
  isplitl [Hp]; · iexact Hp
  isplitr
  · unfold StableHlo.held
    rw [BI.bigSep_empty]
    iempintro
  isplitl [Ho]; · iexact Ho
  iexact Hb

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts ∅ rest (Finset.empty_subset _) kitP rfl
    (fun c => (oblig m c).loose) (fun _ => 0) (fun c => O c 0) (fun c => (owed_zero m c).trans (zero_add _).symm) (owed_last m) (fun _ => rfl)
    (fun _ w => by unfold Dat.share; split <;> rfl) (V1 m) (V2 m (outs m)) (stays m)
    (start (given m)) (fun c => semVal (cellAt c barS) 0) (ghost (given m)) (fun c => semVal (cellAt c barS) 0)
    (fun c => entry (given m) c)
    (fun c => by rw [inv_zero]; exact enter m c)
    (fun c => by rw [inv_last]; exact leave m c)
    (fun c => by iintro H; imodintro; iexact H)
    (fun _ => 0)
    ⟨fun c w s => by rw [L_tc]; exact Finset.mem_singleton.mpr rfl,
      (by decide : ∀ (c : Dev nD) (w : Fin 6) (s : Fin (spec0 w).nbuf), lv (cellAt c (.dma ((spec0 w).sem s))) () ≤ 0),
      fun c t g i h => cut m c t g i h⟩
    (fun _ => iprop(emp)) (arr_in m) (arr_out m)

end Cert.RingAttn
-- ==== Proof.Cred.lean ====
module

public import proofs.«01_k».proof.Proof.Open

@[expose] public section

/-! What every device is owed at the start. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- How many payments a cell is due. -/
def due (c : Dev nD) (s : SemLoc sig) : ℕ := ∑ d : Dev nD, ∑ k : Fin 23, if tgt d k.val = some (c, s) then 1 else 0

/-- The semaphores the others pay. -/
def rcv (s : SemLoc sig) : Bool := match (dec s).1 with
  | .brr | .brl | .crr | .crl | .frr | .frl => true
  | _ => false

theorem due_bar : ∀ c : Dev nD, due c barS = 2 := by decide +kernel
theorem due_exit : ∀ c : Dev nD, due c exitS = 2 := by decide +kernel
theorem due_rcv : ∀ (c : Dev nD) (s : SemLoc sig), rcv s = true → used c s = true → due c s = 1 := by decide +kernel

theorem O_cell (c : Dev nD) (s : SemLoc sig) : ∑ d : Dev nD, O d 0 (cellAt c s) () = due c s * samt s := by
  unfold due
  rw [Finset.sum_mul]
  refine Finset.sum_congr rfl fun d _ => ?_
  unfold O
  rw [Finset.sum_apply, Finsupp.finset_sum_apply, ← Finset.range_eq_Ico, Finset.sum_range, Finset.sum_mul]
  refine Finset.sum_congr rfl fun k _ => ?_
  unfold T
  cases ht : tgt d k.val with
  | none =>
    rw [if_neg (by intro h; exact absurd h (by simp))]
    simp
  | some ds =>
    obtain ⟨d', s'⟩ := ds
    show tallyAt (cellAt d' s') () (samt s') (cellAt c s) () = _
    rw [tallyAt_apply]
    by_cases h : (d', s') = (c, s)
    · obtain ⟨rfl, rfl⟩ := Prod.mk.inj h
      rw [if_pos ⟨rfl, rfl⟩, if_pos rfl, Nat.one_mul]
    · rw [if_neg (fun h' => h (cellEmb.injective (h'.1.symm : cellEmb (d', s') = cellEmb (c, s)))), if_neg (fun h' => h (Option.some.inj h')), Nat.zero_mul]

theorem cred_cell (c : Dev nD) (s : SemLoc sig) {n : ℕ} (h : due c s * samt s = n) :
    tallyOn (cellAt c s) (launchCredit (Pipeline.owing fun d => O d 0) 0 (cellAt c s)) = (tallyAt (cellAt c s) () n : CellTallies nD τ sig Unit) := by
  unfold tallyAt; refine congrArg _ (Finsupp.ext fun u => ?_); cases u
  rw [Pipeline.launchCredit_owing, Finsupp.single_eq_same, O_cell, h]

theorem credF_of (c : Dev nD) (s : DmaSem sig) (h : rcv (.dma s) = true) :
    (cred (tallyOn (cellAt c (.dma s)) (launchCredit (Pipeline.owing fun d => O d 0) 0 (cellAt c (.dma s)))) : sProp 𝕄) ⊢ credF c (.dma s) := by
  unfold credF
  by_cases hu : used c (.dma s) = true
  · rw [if_pos hu, cred_cell c (.dma s) (n := N) (by rw [due_rcv c _ h hu, Nat.one_mul]; rfl)]
  · rw [if_neg hu]
    iintro _
    iempintro

theorem creds_of (c : Dev nD) : (Pipeline.launchCred (fun d => O d 0) c : sProp 𝕄) ⊢ creds c := by
  unfold Pipeline.launchCred creds
  rw [fam, cred_cell c barS (n := 2) (by rw [due_bar]; rfl), cred_cell c exitS (n := 2) (by rw [due_exit]; rfl)]
  iintro ⟨Hb, He, _, _, Hbrr, _, Hcrr, _, Hbrl, _, Hcrl, _, Hfrr, _, Hfrl⟩
  isplitl [Hb]; · iexact Hb
  isplitl [He]; · iexact He
  isplitl [Hbrr]
  · iapply (bmono (s := (Finset.univ : Finset (Fin 8))) fun g _ => credF_of c (brrS g.val) (by unfold rcv; rw [dec_brr g.isLt]))
    iexact Hbrr
  isplitl [Hcrr]
  · iapply (bmono (s := (Finset.univ : Finset (Fin 7))) fun g _ => credF_of c (crrS g.val) (by unfold rcv; rw [dec_crr g.isLt]))
    iexact Hcrr
  isplitl [Hbrl]
  · iapply (bmono (s := (Finset.univ : Finset (Fin 7))) fun g _ => credF_of c (brlS g.val) (by unfold rcv; rw [dec_brl g.isLt]))
    iexact Hbrl
  isplitl [Hcrl]
  · iapply (bmono (s := (Finset.univ : Finset (Fin 6))) fun g _ => credF_of c (crlS g.val) (by unfold rcv; rw [dec_crl g.isLt]))
    iexact Hcrl
  isplitl [Hfrr]; · iapply (credF_of c frrS (by decide)); iexact Hfrr
  iapply (credF_of c frlS (by decide)); iexact Hfrl

end Cert.RingAttn
-- ==== Proof.Launch.lean ====
module

public import proofs.«01_k».proof.Proof.Region
public import proofs.«01_k».proof.Proof.Cred

@[expose] public section

/-! The launch: the cells funded, the devices dealt what they start with, and the run. -/

noncomputable section

namespace Cert.RingAttn

open Idealize.ShloMosaic
open Cert.KernelIdeal Cert.KernelIdeal.Gen
open Idealize.ShloMosaic.TcCoe
open Idealize.SL Idealize.SL.RA Idealize.SL.BI
open scoped Idealize.SL.RA Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The cells' ghost state. -/
def ghosts : URounds (GSem nD τ sig) Bool := launchOf barCells scCells talkToks

def u₀ : UU := (initOf (Pipeline.cells (Pipeline.pin (pcfgs (F := F)) adm) cellOf_inj) (Pipeline.launchToks (Pipeline.pin (pcfgs (F := F)) adm) cellOf_inj), ghosts)

/-- A resource handed to the first device. -/
def first (X : sProp 𝕄) (c : Dev nD) : sProp 𝕄 := if c = 0 then X else iprop(emp)

theorem first_eq (X : sProp 𝕄) : bigSep Finset.univ (first X) = X := by
  have h := bigSep_filter (Finset.univ : Finset (Dev nD)) (fun c => c = 0) (fun _ => X)
  rw [show (Finset.univ.filter fun c : Dev nD => c = 0) = {0} from by decide, BI.bigSep_singleton] at h
  exact h.symm

theorem parts (Φ Ψ : Dev nD → sProp 𝕄) : (bigSep Finset.univ fun c => iprop(Φ c ∗ Ψ c)) ⊢ iprop(bigSep Finset.univ Φ ∗ bigSep Finset.univ Ψ) :=
  Entails.of_eq (bigSep_sep' ..)
theorem joins (Φ Ψ : Dev nD → sProp 𝕄) : iprop(bigSep Finset.univ Φ ∗ bigSep Finset.univ Ψ) ⊢ (bigSep Finset.univ fun c => iprop(Φ c ∗ Ψ c)) :=
  Entails.of_eq (bigSep_sep' ..).symm

def G : Dev nD → sProp 𝕄 := first (BI.own (ER ghosts))

theorem unscoped_eq : ∀ sm : SemLoc sig, sm.isScoped .tc = false → sm = barS := by decide

theorem unscoped_sems (c : Dev nD) : (unscopedSems0 c : sProp 𝕄) = semVal (cellAt c barS) 0 := by
  unfold unscopedSems0
  rw [show (Finset.univ.filter fun sm : SemLoc sig => ¬ sm.isScoped .tc) = {barS} from by decide, BI.bigSep_singleton]

/-- What rides along beside the buffers, before the region and after it. -/
def E : Fin 2 → Dev nD → sProp 𝕄
  | 0 => fun c => iprop(start (given m) c ∗ (∃ r, prngReg c r) ∗ ∃ W, owes (c : Thread nD τ) (O c 0) W)
  | 1 => fun c => iprop(semVal (cellAt c barS) 0 ∗ ∃ W, owes (c : Thread nD τ) (0 : CellTallies nD τ sig Unit) W)
  | ⟨_ + 2, h⟩ => absurd h (Nat.not_lt.2 (Nat.le_add_left _ _))

/-- What every device is told of all cells. -/
def told (I : Ins F) (K : GSem nD τ sig → ℕ) : sProp 𝕄 :=
  iprop(invs I K ∗ bigSep barCells (fun g => reached ER g 0))

instance told_persistent (I : Ins F) (K : GSem nD τ sig → ℕ) : BI.Persistent (told I K) := by unfold told; infer_instance

theorem bar_mem (c : Dev nD) : cellAt c barS ∈ barCells :=
  Finset.mem_map.mpr ⟨(c, barS), Finset.mem_filter.mpr ⟨Finset.mem_univ _, rfl⟩, rfl⟩

theorem told_bar (I : Ins F) (K : GSem nD τ sig → ℕ) (c : Dev nD) : told I K ⊢ reached ER (cellAt c barS) 0 := by
  unfold told
  iintro ⟨_, H⟩
  iapply (show bigSep barCells (fun g => (reached ER g 0 : sProp 𝕄)) ⊢ reached ER (cellAt c barS) 0 from BI.bigSep_elim (bar_mem c)) $$ H

/-- The launch's own dealings with a device. -/
def mine (c : Dev nD) : sProp 𝕄 :=
  iprop(Pipeline.launchCred (fun d => O d 0) c ∗ owes (c : Thread nD τ) (O c 0) ∅ ∗ prngReg c (ρ c))

theorem start_of (K : GSem nD τ sig → ℕ) (c : Dev nD) :
    iprop(told (given m) K ∗ (atPos ER (cellAt c barS) 0 ∅ 0 ∗ opn c ∗ myToks c ∗ mine ρ c)) ⊢ E m 0 c := by
  iintro ⟨#H, Ha, Ho, Ht, Hm⟩
  unfold mine
  icases Hm with ⟨Hc, HO, Hp⟩
  ihave #H0 := (told_bar (given m) K c) $$ H
  ihave #H1 := (told_bar (given m) K (lf c)) $$ H
  ihave #H2 := (told_bar (given m) K (rt c)) $$ H
  ihave Hc := (creds_of c) $$ Hc
  iapply (show iprop(start (given m) c ∗ (∃ r, prngReg c r) ∗ ∃ W, owes (c : Thread nD τ) (O c 0) W) ⊢ E m 0 c from .rfl)
  isplitl [Ha Ho Ht Hc]
  · unfold start told
    icases H with ⟨#HI, _⟩
    iexists K
    isplitr
    · iframe #
    iframe
  isplitl [Hp]
  · iexists _
    iexact Hp
  iexists ∅
  iexact HO

theorem deal :
    iprop((bigSep Finset.univ fun c : Dev nD => iprop(unscopedSems0 c ∗ owes (c : Thread nD τ) (O c 0) ∅ ∗ Pipeline.launchCred (fun d => O d 0) c ∗ prngReg c (ρ c) ∗ G c))
        ∗ levAts L lv) ⊢ (|={Set.univ}=> bigSep Finset.univ (E m 0) : sProp 𝕄) := by
  have hc (c : Dev nD) : iprop(unscopedSems0 c ∗ owes (c : Thread nD τ) (O c 0) ∅ ∗ Pipeline.launchCred (fun d => O d 0) c ∗ prngReg c (ρ c) ∗ G c)
      ⊢ (iprop(semVal (cellAt c barS) 0 ∗ (mine ρ c ∗ G c)) : sProp 𝕄) := by
    rw [unscoped_sems]
    unfold mine
    iintro ⟨Hs, HO, Hc, Hp, HG⟩
    iframe
  iintro ⟨H, _⟩
  ihave H := (bmono (s := Finset.univ) fun c _ => hc c) $$ H
  ihave H := (parts _ _) $$ H
  icases H with ⟨Hv, H⟩
  ihave H := (parts _ _) $$ H
  icases H with ⟨Hm, HG⟩
  ihave Hv := (cells_to (fun g => (semVal g 0 : sProp 𝕄))) $$ Hv
  ihave Hu := (show bigSep Finset.univ (G (F := F)) ⊢ BI.own (ER ghosts) from Entails.of_eq (first_eq _)) $$ HG
  imod (Rounds.fund_launch ER (rd (given m)) disjoint_cells (fun g _ h => h) talkToks) $$ [Hv Hu] with ⟨%κ, -, #Hinv, #Hr, Hat, Hopen, Htok⟩
  · isplitl [Hv]; · iexact Hv
    iexact Hu
  ihave Hat := (cells_of (fun g => (atPos ER g 0 ∅ 0 : sProp 𝕄))) $$ Hat
  ihave Hopen := (sc_of (fun g => (openTok ER g : sProp 𝕄))) $$ Hopen
  ihave Htok := toks_of $$ Htok
  ihave Htok := toks_deal $$ Htok
  imodintro
  iapply (bigSep_with_persistent (R := told (given m) κ)
    (Φ := fun c => iprop(atPos ER (cellAt c barS) 0 ∅ 0 ∗ opn c ∗ myToks c ∗ mine ρ c)) fun c _ => start_of m ρ κ c)
  isplitr
  · unfold told
    isplitr
    · iapply (invs_of (given m) κ) $$ Hinv
    iexact Hr
  iapply (joins _ _); isplitl [Hat]; · iexact Hat
  iapply (joins _ _); isplitl [Hopen]; · iexact Hopen
  iapply (joins _ _); isplitl [Htok]; · iexact Htok
  iexact Hm

/-- The region is entered with what the host stretch leaves, -/
theorem pre_region (c : Dev nD) : iprop(StableHlo.held (c : Thread nD τ) (Pipeline.ucRefs τ sig) (V1 m c) ∗ E m 0 c) ⊢ (reg m).pre c := by
  iapply (show iprop(StableHlo.held (c : Thread nD τ) (Pipeline.ucRefs τ sig) (V1 m c) ∗ (start (given m) c ∗ (∃ r, prngReg c r) ∗ ∃ W, owes (c : Thread nD τ) (O c 0) W))
    ⊢ iprop(StableHlo.held (c : Thread nD τ) (Pipeline.arrRefs spec0) (V1 m c) ∗ (∃ r, prngReg c r)
      ∗ (StableHlo.held (c : Thread nD τ) rest (V1 m c) ∗ emp) ∗ start (given m) c ∗ ∃ W, owes (c : Thread nD τ) (0 + O c 0) W) from by
    rw [StableHlo.held_sub_split (c : Thread nD τ) (show Pipeline.arrRefs spec0 ⊆ Pipeline.ucRefs τ sig from by decide) (V1 m c), zero_add]
    iintro ⟨⟨Ha, Hr⟩, Hs, Hp, HO⟩
    isplitl [Ha]; · iexact Ha
    isplitl [Hp]; · iexact Hp
    isplitl [Hr]
    · isplitl [Hr]; · iexact Hr
      iempintro
    isplitl [Hs]; · iexact Hs
    iexact HO)

/-- and left with the result in its array. -/
theorem post_region (c : Dev nD) : (reg m).post c ⊢ iprop(StableHlo.held (c : Thread nD τ) (Pipeline.ucRefs τ sig) (V2 m (outs m) c) ∗ E m 1 c) := by
  iapply (show iprop(StableHlo.held (c : Thread nD τ) (Pipeline.arrRefs spec0) (V2 m (outs m) c) ∗ (∃ r, prngReg c r)
      ∗ (StableHlo.held (c : Thread nD τ) rest (V2 m (outs m) c) ∗ emp) ∗ semVal (cellAt c barS) 0 ∗ ∃ W, owes (c : Thread nD τ) (0 : CellTallies nD τ sig Unit) W)
    ⊢ iprop(StableHlo.held (c : Thread nD τ) (Pipeline.ucRefs τ sig) (V2 m (outs m) c) ∗ semVal (cellAt c barS) 0
      ∗ ∃ W, owes (c : Thread nD τ) (0 : CellTallies nD τ sig Unit) W) from by
    rw [StableHlo.held_sub_split (c : Thread nD τ) (show Pipeline.arrRefs spec0 ⊆ Pipeline.ucRefs τ sig from by decide) (V2 m (outs m) c)]
    iintro ⟨Ha, -, ⟨Hr, -⟩, Hs, HO⟩
    isplitl [Ha Hr]
    · isplitl [Ha]; · iexact Ha
      iexact Hr
    isplitl [Hs]; · iexact Hs
    iexact HO)

set_option backward.isDefEq.respectTransparency.types false in
/-- The run: every execution ends, every counter at zero, every argument as launched and the result's array as the
region leaves it. -/
theorem run_main : θ_run Cert.KernelIdeal.defs (onTc (τ := τ) (main (F := F))) ⟨m, fun _ => 0, ρ⟩
    (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v15) = (dat m c).arrAt 5 cfg0.N) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => O c 0) L_of_ne (G := G) (u₀ := u₀)
    (hu₀ := by
      unfold u₀ G
      iintro Hu
      ihave H := (ownU_pair _ _) $$ Hu
      icases H with ⟨HP, HX⟩
      imodintro
      isplitl [HP]; · iexact HP
      rw [first_eq]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (cellAt c barS) 0))
    (hch := fun c => ⟨.rfl, pre_region m c, (post_region m c).trans ?_⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v15) = (dat m c).arrAt 5 cfg0.N) ∧ s.sem (cellAt c barS) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V2 m (outs m) c) ∗ (semVal (cellAt c barS) 0
      ∗ ∃ W, owes (c : Thread nD τ) (0 : CellTallies nD τ sig Unit) W)) ⊢ _
    iintro ⟨Hh, Hs, HO⟩
    isplitr [HO]
    · isplitl [Hh]; · iexact Hh
      iexact Hs
    iexact HO
  · have hsplit : (bigSep Finset.univ fun c : Dev nD => iprop(unscopedBufs c (fun b => m ((c.tc : Thread nD τ).loc b)) ∗ unscopedSems0 c
          ∗ owes (c.tc : Thread nD τ) (O c 0) ∅ ∗ Pipeline.launchCred (fun d => O d 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O c 0) ∅ ∗ Pipeline.launchCred (fun d => O d 0) c ∗ prngReg c (ρ c) ∗ G c))
            : sProp 𝕄) := by
      rw [← bigSep_sep']
      exact bmono fun c _ => by rw [← Pipeline.unscopedBufs_held (Ix := Unit) (Name := ℕ) (U := UU) (Lvl := ℕ) c (V0 m c)]
    iintro ⟨H, Hla⟩
    ihave H := hsplit $$ H
    icases H with ⟨Hh, Hr⟩
    imod (deal m ρ) $$ [Hr Hla] with HE
    · isplitl [Hr]; · iexact Hr
      iexact Hla
    imodintro
    rw [bigSep_sep']
    isplitl [Hh]; · iexact Hh
    iexact HE
  · iintro ⟨⟨Hh, Hb⟩, HSI⟩
    icombine HSI Hb gives %hb
    unfold StableHlo.held
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      have hr (r : Ref sig .tc) (hu : (Proc.devRef .tc r : DevRef τ sig) ∈ Pipeline.ucRefs τ sig) := h (Proc.devRef .tc r) hu
      exact ⟨⟨⟨(hr main_arg0 (by decide)).trans (V2_main_arg0 m (outs m) c),
        (hr main_arg1 (by decide)).trans (V2_main_arg1 m (outs m) c),
        (hr main_arg2 (by decide)).trans (V2_main_arg2 m (outs m) c),
        (hr main_arg3 (by decide)).trans (V2_main_arg3 m (outs m) c),
        (hr main_arg4 (by decide)).trans (V2_main_arg4 m (outs m) c)⟩,
        (hr main_v15 (by decide)).trans (arr_out m c 5).symm⟩, by simpa using hb⟩
    · iexact HSI

end Cert.RingAttn
-- ==== Proof.Frames.lean ====
/- The frame of the kernel under both of its names: the two printed programs are one text, and the run is proved once. -/
module

public import proofs.«01_k».proof.Defs
public import proofs.«01_k».proof.Proof.Gen.Kernel
public import proofs.«01_k».proof.Proof.Gen.KernelIdeal
public import proofs.«01_k».proof.Proof.Launch

@[expose] public section

noncomputable section

namespace Cert.Proof

open Idealize.ShloMosaic Idealize.SL.Sem

/-- The run, read at the arguments and the counters alone. -/
theorem run_frame {F : FTy → Type} [FloatOps F] (m : (ℓ : Loc Cert.KernelIdeal.nD Cert.KernelIdeal.τ Cert.KernelIdeal.sig) → Buf (Elt F) ℓ) (ρ : Dev Cert.KernelIdeal.nD → PrngReg) :
   θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono (fun _ h => ⟨fun c => (h.1 c).1, h.2⟩) (Cert.RingAttn.run_main (F := F) m ρ)

variable {F : FTy → Type} [FloatOps F]

/-- The two programs' body tables agree at each label. -/
theorem defs₀_eq : letI := Cert.Kernel.Gen.facts; (Cert.Kernel.defs₀ (F := F)) = Cert.KernelIdeal.defs₀ (F := F) := by
  refine congrArg (Defs.onTc (nD := Cert.KernelIdeal.nD) (τ := Cert.KernelIdeal.τ) (sig := Cert.KernelIdeal.sig) (Λ := Cert.KernelIdeal.Λ₀) (Val := Elt F)) ?_
  funext l x
  match l, x with
  | 0, (t, s) => rfl

/-- The two programs' definitions agree. -/
theorem defs_eq : letI := Cert.Kernel.Gen.facts; (Cert.Kernel.defs (F := F)) = Cert.KernelIdeal.defs (F := F) :=
  congrArg (Pipeline.defs (Cert.KernelIdeal.pcfgs (F := F))) (defs₀_eq (F := F))

/-- The frame of the program as printed for the bits. -/
theorem frame_kernel : Cert.quiescent_Kernel (hKernel := Cert.Kernel.Gen.facts) := fun m ρ _ => by
  have h := run_frame (F := Bits) m ρ
  rw [← defs_eq] at h
  exact h

end Cert.Proof

end
-- ==== Proof.Attn.lean ====
/- One row of the attention, over the extended reals. -/
module

public import Idealize.ShloMosaic.Lib.Pointwise

@[expose] public section

noncomputable section

namespace Cert.RingAttn

open Idealize.ShloMosaic

/-- The scores of a query against the keys, masked. -/
def score (mk : Fin 128 → BitVec 1) (q : Fin 64 → EReal) (k : Fin 128 → Fin 64 → EReal) (j : Fin 128) : EReal :=
  Scalar.select (mk j) ((∑ d, q d * k j d) * Ideal.ofBits .f32 0x3E000000#32) (Ideal.ofBits .f32 0xCE6E6B28#32)

/-- The exponentials of the scores, the greatest taken off. -/
def expw (s : Fin 128 → EReal) (j : Fin 128) : EReal :=
  Ideal.exp (s j - Finset.fold max (Ideal.ofBits .f32 0xFF800000#32) s Finset.univ)

/-- One entry of a head's output: the values weighed. -/
def head (mk : Fin 128 → BitVec 1) (q : Fin 64 → EReal) (k : Fin 128 → Fin 64 → EReal) (v : Fin 128 → EReal) : EReal :=
  ∑ j, Ideal.div (expw (score mk q k) j) (∑ i, expw (score mk q k) i) * v j

/-- Whether a query of block `a` keeps a key. -/
def keeps (a : ℕ) (j : Fin 128) : BitVec 1 := if a % 4 = j.val / 64 then 1#1 else 0#1

end Cert.RingAttn

end
-- ==== Proof.KerVal.lean ====
/- The kernel's partial outputs, read an entry at a time. -/
module

public import proofs.«01_k».proof.Proof.Common
public import proofs.«01_k».proof.Proof.Attn

@[expose] public section

noncomputable section

namespace Cert.RingAttn

open Idealize.ShloMosaic Cert.KernelIdeal Cert.KernelIdeal.Gen

variable {F : FTy → Type} [FloatOps F]

/-- Four stretches of 64 entries, one after the other. -/
theorem four_way (f : Fin 4 → Fin 64 → EReal) (t : Fin 256) :
    (if h : t.val < 64 then f 0 ⟨t.val, h⟩ else if h : t.val - 64 < 64 then f 1 ⟨t.val - 64, h⟩
      else if h : t.val - 64 - 64 < 64 then f 2 ⟨t.val - 64 - 64, h⟩ else f 3 ⟨t.val - 64 - 64 - 64, by omega⟩)
      = f ⟨t.val / 64, by omega⟩ ⟨t.val % 64, by omega⟩ := by
  have h4 : ∀ (a : Fin 4) (d : Fin 64), t.val = a.val * 64 + d.val → f a d = f ⟨t.val / 64, by omega⟩ ⟨t.val % 64, by omega⟩ := by
    intro a d h
    congr 1 <;> apply Fin.ext <;> show _ = _ <;> simp only <;> omega
  split_ifs <;> apply h4 <;> simp <;> omega

/-- One head over 128 rows. -/
def core1 (q : FVec F S128x64 .bf16) (k v : FVec F S128x64 .bf16) (mk : IVec S128x128 1) : FVec F S128x64 .f32 :=
  let s : FVec F S128x128 .f32 := select mk
    (mulf (matmul dot_S128x64_S64x128_S128x128_1_0_0_1_n_n none q (transpose S64x128 [1, 0] k transposes_S128x64_p1_0_S64x128)
      (constant S128x128 .f32 0x00000000#32)) (broadcast S128x128 (Scalar.ofBits .f32 0x3E000000#32)))
    (broadcast S128x128 (Scalar.ofBits .f32 0xCE6E6B28#32))
  let e := exp (subf s (broadcastTo S128x128 (shapeCast S128x1 (multiReduction .maximumf [1] S128 s 0xFF800000#32
    reduces_S128x128_S128 (.inl rfl) rfl) shapeCasts_S128_S128x1) broadcasts_S128x1_S128x128))
  matmul dot_S128x128_S128x64_S128x64_1_0_0_1_n_n none
    (truncf .bf16 (divf e (broadcastTo S128x128 (shapeCast S128x1 (multiReduction .add [1] S128 e 0x00000000#32
      reduces_S128x128_S128 (.inl rfl) rfl) shapeCasts_S128_S128x1) broadcasts_S128x1_S128x128)) bitsLt_bf16_f32)
    v (constant S128x64 .f32 0x00000000#32)

theorem core1_apply (q : FVec Ideal S128x64 .bf16) (k v : FVec Ideal S128x64 .bf16) (mk : IVec S128x128 1) (r : Fin 128) (d : Fin 64) :
    core1 q k v mk (ix2 r d) = head (fun j => mk (ix2 r j)) (fun d => q (ix2 r d)) (fun j d => k (ix2 j d)) (fun j => v (ix2 j d)) := by
  pointwise [core1]
  rfl

/-- Head `h`'s columns of the queries. -/
def qs1 (h : Fin 4) (q : FVec F S128x256 .bf16) : FVec F S128x64 .bf16 :=
  fun i => q (ix2 (i 0) ⟨h.val * 64 + (i 1).val, by have := h.isLt; have : (i 1).val < 64 := (i 1).isLt; omega⟩)

/-- The heads put together and multiplied by the output weights. -/
def outer1 (c : Fin 4 → FVec F S128x64 .f32) (wo : FVec F S256x512 .bf16) : FVec F S128x512 .f32 :=
  matmul dot_S128x256_S256x512_S128x512_1_0_0_1_n_n none
    (truncf .bf16 (concatenate S128x256 1 [⟨S128x64, c 0⟩, ⟨S128x64, c 1⟩, ⟨S128x64, c 2⟩, ⟨S128x64, c 3⟩]
      concatenates_S128x64_S128x64_S128x64_S128x64_S128x256_d1) bitsLt_bf16_f32) wo (constant S128x512 .f32 0x00000000#32)

theorem outer1_apply (c : Fin 4 → FVec Ideal S128x64 .f32) (wo : FVec Ideal S256x512 .bf16) (r : Fin 128) (n : Fin 512) :
    outer1 c wo (ix2 r n) = ∑ t : Fin 256, c ⟨t.val / 64, by omega⟩ (ix2 r ⟨t.val % 64, by omega⟩) * wo (ix2 t n) := by
  pointwise [outer1]
  refine Finset.sum_congr rfl fun t _ => ?_
  congr 1
  exact four_way (fun h d => c h (ix2 r d)) t

theorem qs1_eq (h : Fin 4) (q : FVec Ideal S128x256 .bf16) (hs : S128x256.Slices ![0, h.val * 64] S128x64) :
    extractStridedSlice S128x64 ![0, h.val * 64] q hs = qs1 h q := by
  funext i
  pointwise [qs1]

/-- One head over 256 rows. -/
def core2 (q : FVec F S256x64 .bf16) (k v : FVec F S128x64 .bf16) (mk : IVec S256x128 1) : FVec F S256x64 .f32 :=
  let s : FVec F S256x128 .f32 := select mk
    (mulf (matmul dot_S256x64_S64x128_S256x128_1_0_0_1_n_n none q (transpose S64x128 [1, 0] k transposes_S128x64_p1_0_S64x128)
      (constant S256x128 .f32 0x00000000#32)) (broadcast S256x128 (Scalar.ofBits .f32 0x3E000000#32)))
    (broadcast S256x128 (Scalar.ofBits .f32 0xCE6E6B28#32))
  let e := exp (subf s (broadcastTo S256x128 (shapeCast S256x1 (multiReduction .maximumf [1] S256 s 0xFF800000#32
    reduces_S256x128_S256 (.inl rfl) rfl) shapeCasts_S256_S256x1) broadcasts_S256x1_S256x128))
  matmul dot_S256x128_S128x64_S256x64_1_0_0_1_n_n none
    (truncf .bf16 (divf e (broadcastTo S256x128 (shapeCast S256x1 (multiReduction .add [1] S256 e 0x00000000#32
      reduces_S256x128_S256 (.inl rfl) rfl) shapeCasts_S256_S256x1) broadcasts_S256x1_S256x128)) bitsLt_bf16_f32)
    v (constant S256x64 .f32 0x00000000#32)

theorem core2_apply (q : FVec Ideal S256x64 .bf16) (k v : FVec Ideal S128x64 .bf16) (mk : IVec S256x128 1) (r : Fin 256) (d : Fin 64) :
    core2 q k v mk (ix2 r d) = head (fun j => mk (ix2 r j)) (fun d => q (ix2 r d)) (fun j d => k (ix2 j d)) (fun j => v (ix2 j d)) := by
  pointwise [core2]
  rfl

/-- Head `h`'s columns of the queries. -/
def qs2 (h : Fin 4) (q : FVec F S256x256 .bf16) : FVec F S256x64 .bf16 :=
  fun i => q (ix2 (i 0) ⟨h.val * 64 + (i 1).val, by have := h.isLt; have : (i 1).val < 64 := (i 1).isLt; omega⟩)

/-- The heads put together and multiplied by the output weights. -/
def outer2 (c : Fin 4 → FVec F S256x64 .f32) (wo : FVec F S256x512 .bf16) : FVec F S256x512 .f32 :=
  matmul dot_S256x256_S256x512_S256x512_1_0_0_1_n_n none
    (truncf .bf16 (concatenate S256x256 1 [⟨S256x64, c 0⟩, ⟨S256x64, c 1⟩, ⟨S256x64, c 2⟩, ⟨S256x64, c 3⟩]
      concatenates_S256x64_S256x64_S256x64_S256x64_S256x256_d1) bitsLt_bf16_f32) wo (constant S256x512 .f32 0x00000000#32)

theorem outer2_apply (c : Fin 4 → FVec Ideal S256x64 .f32) (wo : FVec Ideal S256x512 .bf16) (r : Fin 256) (n : Fin 512) :
    outer2 c wo (ix2 r n) = ∑ t : Fin 256, c ⟨t.val / 64, by omega⟩ (ix2 r ⟨t.val % 64, by omega⟩) * wo (ix2 t n) := by
  pointwise [outer2]
  refine Finset.sum_congr rfl fun t _ => ?_
  congr 1
  exact four_way (fun h d => c h (ix2 r d)) t

theorem qs2_eq (h : Fin 4) (q : FVec Ideal S256x256 .bf16) (hs : S256x256.Slices ![0, h.val * 64] S256x64) :
    extractStridedSlice S256x64 ![0, h.val * 64] q hs = qs2 h q := by
  funext i
  pointwise [qs2]

/-- Head `h` of batch `b` of the keys or the values. -/
def ks (b : Fin 2) (h : Fin 4) (k : FVec F S2x128x4x64 .bf16) : FVec F S128x64 .bf16 := fun i => k (ix4 b (i 0) h (i 1))

theorem ks_eq (b : Fin 2) (h : Fin 4) (k : FVec Ideal S2x128x4x64 .bf16) (hs : S2x128x4x64.Slices ![b.val, 0, h.val, 0] S1x128x1x64) :
    shapeCast S128x64 (extractStridedSlice S1x128x1x64 ![b.val, 0, h.val, 0] k hs) shapeCasts_S1x128x1x64_S128x64 = ks b h k := by
  funext i
  pointwise [ks]

theorem half_apply {e : EltTy} (b : Fin 2) (X : Vec F S1x2x128x512 e) (r : Fin 128) (n : Fin 512) :
    half b X (ix4 0 0 r n) = X (ix4 0 b r n) := by
  unfold half
  congr 1
  funext a
  apply Fin.ext
  rw [halfRect_emb_val]
  fin_cases a <;> simp [ix4] <;> rfl

theorem joinH_apply {e : EltTy} (w : Fin 2 → Vec F S1x1x128x512 e) (b : Fin 2) (r : Fin 128) (n : Fin 512) :
    joinH (w 0) (w 1) (ix4 0 b r n) = w b (ix4 0 0 r n) := by
  have h : inHalf (ix4 0 b r n) = ix4 0 0 r n := by
    funext a; apply Fin.ext; fin_cases a <;> rfl
  unfold joinH
  rw [h]
  fin_cases b
  · exact if_pos rfl
  · exact if_neg Nat.one_ne_zero

/-! ## The two computations -/

/-- One entry of a device's output of the row of queries `q`. -/
def rowOut (w : Wts Ideal) (mk : Fin 128 → BitVec 1) (b : Fin 2) (q : Fin 256 → EReal) (n : Fin 512) : EReal :=
  ∑ t : Fin 256, head mk (fun d => q ⟨t.val / 64 * 64 + d.val, by omega⟩) (fun j d => w.k (ix4 b j ⟨t.val / 64, by omega⟩ d))
    (fun j => w.v (ix4 b j ⟨t.val / 64, by omega⟩ ⟨t.val % 64, by omega⟩)) * w.o (ix2 t n)

/-- One entry of a device's output of the row of activations `x`. -/
def part (w : Wts Ideal) (mk : Fin 128 → BitVec 1) (b : Fin 2) (x : Fin 512 → EReal) (n : Fin 512) : EReal :=
  rowOut w mk b (fun u => ∑ i, x i * w.q (ix2 i u)) n

/-- The output of 128 rows of queries. -/
def att1 (w : Wts F) (b : Fin 2) (q : FVec F S128x256 .bf16) : FVec F S128x512 .f32 :=
  outer1 (fun h => core1 (qs1 h q) (ks b h w.k) (ks b h w.v) w.m1) w.o

theorem att1_apply (w : Wts Ideal) (b : Fin 2) (q : FVec Ideal S128x256 .bf16) (r : Fin 128) (n : Fin 512) :
    att1 w b q (ix2 r n) = rowOut w (fun j => w.m1 (ix2 r j)) b (fun u => q (ix2 r u)) n := by
  unfold att1
  rw [outer1_apply]
  simp only [core1_apply]
  rfl

theorem piece1 (b : Fin 2) (h : Fin 4) (o b' h' : ℕ) (ho : h.val * 64 = o) (hb : b.val = b') (hh : h.val = h')
    (q : FVec Ideal S128x256 .bf16) (k v : FVec Ideal S2x128x4x64 .bf16) (mk : IVec S128x128 1)
    (hq : S128x256.Slices ![0, o] S128x64) (hk : S2x128x4x64.Slices ![b', 0, h', 0] S1x128x1x64) :
    core1 (qs1 h q) (ks b h k) (ks b h v) mk = core1 (extractStridedSlice S128x64 ![0, o] q hq)
      (shapeCast S128x64 (extractStridedSlice S1x128x1x64 ![b', 0, h', 0] k hk) shapeCasts_S1x128x1x64_S128x64)
      (shapeCast S128x64 (extractStridedSlice S1x128x1x64 ![b', 0, h', 0] v hk) shapeCasts_S1x128x1x64_S128x64) mk := by
  subst ho hb hh
  rw [qs1_eq, ks_eq, ks_eq]

/-- The output of 256 rows of queries. -/
def att2 (w : Wts F) (b : Fin 2) (q : FVec F S256x256 .bf16) : FVec F S256x512 .f32 :=
  outer2 (fun h => core2 (qs2 h q) (ks b h w.k) (ks b h w.v) w.m2) w.o

theorem att2_apply (w : Wts Ideal) (b : Fin 2) (q : FVec Ideal S256x256 .bf16) (r : Fin 256) (n : Fin 512) :
    att2 w b q (ix2 r n) = rowOut w (fun j => w.m2 (ix2 r j)) b (fun u => q (ix2 r u)) n := by
  unfold att2
  rw [outer2_apply]
  simp only [core2_apply]
  rfl

theorem piece2 (b : Fin 2) (h : Fin 4) (o b' h' : ℕ) (ho : h.val * 64 = o) (hb : b.val = b') (hh : h.val = h')
    (q : FVec Ideal S256x256 .bf16) (k v : FVec Ideal S2x128x4x64 .bf16) (mk : IVec S256x128 1)
    (hq : S256x256.Slices ![0, o] S256x64) (hk : S2x128x4x64.Slices ![b', 0, h', 0] S1x128x1x64) :
    core2 (qs2 h q) (ks b h k) (ks b h v) mk = core2 (extractStridedSlice S256x64 ![0, o] q hq)
      (shapeCast S128x64 (extractStridedSlice S1x128x1x64 ![b', 0, h', 0] k hk) shapeCasts_S1x128x1x64_S128x64)
      (shapeCast S128x64 (extractStridedSlice S1x128x1x64 ![b', 0, h', 0] v hk) shapeCasts_S1x128x1x64_S128x64) mk := by
  subst ho hb hh
  rw [qs2_eq, ks_eq, ks_eq]

theorem att1_of (w : Wts Ideal) (b : Fin 2) (q : FVec Ideal S128x256 .bf16) (c0 c1 c2 c3 : FVec Ideal S128x64 .f32)
    (h0 : core1 (qs1 0 q) (ks b 0 w.k) (ks b 0 w.v) w.m1 = c0) (h1 : core1 (qs1 1 q) (ks b 1 w.k) (ks b 1 w.v) w.m1 = c1)
    (h2 : core1 (qs1 2 q) (ks b 2 w.k) (ks b 2 w.v) w.m1 = c2) (h3 : core1 (qs1 3 q) (ks b 3 w.k) (ks b 3 w.v) w.m1 = c3) :
    att1 w b q = matmul dot_S128x256_S256x512_S128x512_1_0_0_1_n_n none
      (truncf .bf16 (concatenate S128x256 1 [⟨S128x64, c0⟩, ⟨S128x64, c1⟩, ⟨S128x64, c2⟩, ⟨S128x64, c3⟩]
        concatenates_S128x64_S128x64_S128x64_S128x64_S128x256_d1) bitsLt_bf16_f32) w.o (constant S128x512 .f32 0x00000000#32) := by
  subst h0 h1 h2 h3
  rfl

theorem att2_of (w : Wts Ideal) (b : Fin 2) (q : FVec Ideal S256x256 .bf16) (c0 c1 c2 c3 : FVec Ideal S256x64 .f32)
    (h0 : core2 (qs2 0 q) (ks b 0 w.k) (ks b 0 w.v) w.m2 = c0) (h1 : core2 (qs2 1 q) (ks b 1 w.k) (ks b 1 w.v) w.m2 = c1)
    (h2 : core2 (qs2 2 q) (ks b 2 w.k) (ks b 2 w.v) w.m2 = c2) (h3 : core2 (qs2 3 q) (ks b 3 w.k) (ks b 3 w.v) w.m2 = c3) :
    att2 w b q = matmul dot_S256x256_S256x512_S256x512_1_0_0_1_n_n none
      (truncf .bf16 (concatenate S256x256 1 [⟨S256x64, c0⟩, ⟨S256x64, c1⟩, ⟨S256x64, c2⟩, ⟨S256x64, c3⟩]
        concatenates_S256x64_S256x64_S256x64_S256x64_S256x256_d1) bitsLt_bf16_f32) w.o (constant S256x512 .f32 0x00000000#32) := by
  subst h0 h1 h2 h3
  rfl

theorem one_eq (w : Wts Ideal) (X : Vec Ideal S1x2x128x512 .bf16) :
    one w X = joinH (shapeCast S1x1x128x512 (att1 w 0 (k0_pay1 w.q (half 0 X))) shapeCasts_S128x512_S1x1x128x512)
      (shapeCast S1x1x128x512 (att1 w 1 (k0_pay10 w.q (half 1 X))) shapeCasts_S128x512_S1x1x128x512) := by
  rw [att1_of _ 0 _ _ _ _ _ (piece1 0 0 0 0 0 rfl rfl rfl _ _ _ _ slices_S128x256_o0_0_S128x64 slices_S2x128x4x64_o0_0_0_0_S1x128x1x64)
    (piece1 0 1 64 0 1 rfl rfl rfl _ _ _ _ slices_S128x256_o0_64_S128x64 slices_S2x128x4x64_o0_0_1_0_S1x128x1x64)
    (piece1 0 2 128 0 2 rfl rfl rfl _ _ _ _ slices_S128x256_o0_128_S128x64 slices_S2x128x4x64_o0_0_2_0_S1x128x1x64)
    (piece1 0 3 192 0 3 rfl rfl rfl _ _ _ _ slices_S128x256_o0_192_S128x64 slices_S2x128x4x64_o0_0_3_0_S1x128x1x64),
    att1_of _ 1 _ _ _ _ _ (piece1 1 0 0 1 0 rfl rfl rfl _ _ _ _ slices_S128x256_o0_0_S128x64 slices_S2x128x4x64_o1_0_0_0_S1x128x1x64)
    (piece1 1 1 64 1 1 rfl rfl rfl _ _ _ _ slices_S128x256_o0_64_S128x64 slices_S2x128x4x64_o1_0_1_0_S1x128x1x64)
    (piece1 1 2 128 1 2 rfl rfl rfl _ _ _ _ slices_S128x256_o0_128_S128x64 slices_S2x128x4x64_o1_0_2_0_S1x128x1x64)
    (piece1 1 3 192 1 3 rfl rfl rfl _ _ _ _ slices_S128x256_o0_192_S128x64 slices_S2x128x4x64_o1_0_3_0_S1x128x1x64)]
  dsimp only [one, core1, k0_pay2, k0_pay3, k0_pay4, k0_pay5, k0_pay6, k0_pay7, k0_pay8, k0_pay9, k0_pay11, k0_pay12, k0_pay13, k0_pay14, k0_pay15, k0_pay174]

theorem twoA_eq (w : Wts Ideal) (X Y : Vec Ideal S1x2x128x512 .bf16) :
    twoA w X Y = att2 w 0 (k0_pay18 w.q (k0_pay16 (half 0 X)) (k0_pay17 (half 0 Y))) := by
  rw [att2_of _ 0 _ _ _ _ _ (piece2 0 0 0 0 0 rfl rfl rfl _ _ _ _ slices_S256x256_o0_0_S256x64 slices_S2x128x4x64_o0_0_0_0_S1x128x1x64)
    (piece2 0 1 64 0 1 rfl rfl rfl _ _ _ _ slices_S256x256_o0_64_S256x64 slices_S2x128x4x64_o0_0_1_0_S1x128x1x64)
    (piece2 0 2 128 0 2 rfl rfl rfl _ _ _ _ slices_S256x256_o0_128_S256x64 slices_S2x128x4x64_o0_0_2_0_S1x128x1x64)
    (piece2 0 3 192 0 3 rfl rfl rfl _ _ _ _ slices_S256x256_o0_192_S256x64 slices_S2x128x4x64_o0_0_3_0_S1x128x1x64)]
  dsimp only [twoA, core2, k0_pay19, k0_pay20, k0_pay21]

theorem twoB_eq (w : Wts Ideal) (X Y : Vec Ideal S1x2x128x512 .bf16) :
    k0_pay175 w.v w.o w.m2 (k0_pay27 (k0_pay25 w.k w.q w.m2 (half 1 X) (half 1 Y)) (k0_pay26 w.v)) (k0_pay28 w.k w.v w.m2 (k0_pay24 w.q (half 1 X) (half 1 Y)))
      (k0_pay29 w.k w.v w.m2 (k0_pay24 w.q (half 1 X) (half 1 Y))) (k0_pay30 (k0_pay24 w.q (half 1 X) (half 1 Y))) (k0_pay31 w.k)
      = att2 w 1 (k0_pay24 w.q (half 1 X) (half 1 Y)) := by
  rw [att2_of _ 1 _ _ _ _ _ (piece2 1 0 0 1 0 rfl rfl rfl _ _ _ _ slices_S256x256_o0_0_S256x64 slices_S2x128x4x64_o1_0_0_0_S1x128x1x64)
    (piece2 1 1 64 1 1 rfl rfl rfl _ _ _ _ slices_S256x256_o0_64_S256x64 slices_S2x128x4x64_o1_0_1_0_S1x128x1x64)
    (piece2 1 2 128 1 2 rfl rfl rfl _ _ _ _ slices_S256x256_o0_128_S256x64 slices_S2x128x4x64_o1_0_2_0_S1x128x1x64)
    (piece2 1 3 192 1 3 rfl rfl rfl _ _ _ _ slices_S256x256_o0_192_S256x64 slices_S2x128x4x64_o1_0_3_0_S1x128x1x64)]
  dsimp only [core2, k0_pay25, k0_pay26, k0_pay27, k0_pay28, k0_pay29, k0_pay30, k0_pay31, k0_pay175]

end Cert.RingAttn

end
-- ==== Proof.KerOut.lean ====
/- What each device ends with, read an entry at a time. -/
module

public import proofs.«01_k».proof.Proof.KerVal

@[expose] public section

noncomputable section

namespace Cert.RingAttn

open Idealize.ShloMosaic Cert.KernelIdeal Cert.KernelIdeal.Gen

/-- The kernel's quotient by 64, rounded down. -/
theorem div64 (r : Fin 128) :
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32) = BitVec.ofNat 32 (r.val / 64) := by
  revert r
  decide +kernel

theorem m1_apply (I : Ins Ideal) (c : Dev nD) (r j : Fin 128) : (wt I c).m1 (ix2 r j) = keeps (r.val / 64) j := by
  show k0_pay172 _ _ _ _ _ (ix2 r j) = _
  pointwise [k0_pay172, k0_pay170, k0_pay171]
  rw [div64, div64]
  have h : r.val / 64 < 2 := by omega
  have h' : j.val / 64 < 2 := by omega
  unfold keeps
  generalize r.val / 64 = a at h
  generalize j.val / 64 = b at h'
  revert b
  revert h
  revert a
  decide +kernel

theorem m2_apply (I : Ins Ideal) (c : Dev nD) (r : Fin 256) (j : Fin 128) :
    (wt I c).m2 (ix2 r j) = keeps (r.val % 128 / 64) j := by
  have h : (wt I c).m2 = concatenate S256x128 0 [⟨S128x128, (wt I c).m1⟩, ⟨S128x128, (wt I c).m1⟩] concatenates_S128x128_S128x128_S256x128_d0 := rfl
  rw [h]
  have h' := m1_apply I c
  generalize (wt I c).m1 = m at h'
  pointwise
  split
  · rw [h', Nat.mod_eq_of_lt (by assumption)]
  · rw [h', show r.val % 128 = r.val - 128 by omega]

/-! ## The products with the weights -/

theorem q1_apply (q : FVec Ideal S512x256 .bf16) (X : Vec Ideal S1x1x128x512 .bf16) (r : Fin 128) (u : Fin 256) :
    k0_pay1 q X (ix2 r u) = ∑ i, X (ix4 0 0 r i) * q (ix2 i u) := by
  pointwise [k0_pay1]

theorem q2_top (q : FVec Ideal S512x256 .bf16) (X Y : Vec Ideal S1x1x128x512 .bf16) (r : Fin 128) (u : Fin 256) :
    k0_pay24 q X Y (ix2 ⟨r.val, by omega⟩ u) = ∑ i, X (ix4 0 0 r i) * q (ix2 i u) := by
  pointwise [k0_pay24]

theorem q2_bot (q : FVec Ideal S512x256 .bf16) (X Y : Vec Ideal S1x1x128x512 .bf16) (r : Fin 128) (u : Fin 256) :
    k0_pay24 q X Y (ix2 ⟨r.val + 128, by omega⟩ u) = ∑ i, Y (ix4 0 0 r i) * q (ix2 i u) := by
  pointwise [k0_pay24]
  refine Finset.sum_congr rfl fun i _ => ?_
  rw [dif_neg (by omega)]
  congr 3

theorem sc_apply (a : FVec Ideal S128x512 .f32) (r : Fin 128) (n : Fin 512) :
    shapeCast S1x1x128x512 a shapeCasts_S128x512_S1x1x128x512 (ix4 0 0 r n) = a (ix2 r n) := by
  pointwise

theorem top_apply (a : FVec Ideal S256x512 .f32) (r : Fin 128) (n : Fin 512) : k0_pay22 a (ix4 0 0 r n) = a (ix2 ⟨r.val, by omega⟩ n) := by
  pointwise [k0_pay22]

theorem bot_apply (a : FVec Ideal S256x512 .f32) (r : Fin 128) (n : Fin 512) : k0_pay23 a (ix4 0 0 r n) = a (ix2 ⟨r.val + 128, by omega⟩ n) := by
  pointwise [k0_pay23]
  congr 2
  exact Fin.ext (Nat.add_comm _ _)

theorem batches (b : Fin 2) : b = 0 ∨ b = 1 := by revert b; decide

theorem joinH0 (a b : Vec Ideal S1x1x128x512 .f32) (r : Fin 128) (n : Fin 512) : joinH a b (ix4 0 0 r n) = a (ix4 0 0 r n) :=
  joinH_apply ![a, b] 0 r n
theorem joinH1 (a b : Vec Ideal S1x1x128x512 .f32) (r : Fin 128) (n : Fin 512) : joinH a b (ix4 0 1 r n) = b (ix4 0 0 r n) :=
  joinH_apply ![a, b] 1 r n

theorem att1_part (w : Wts Ideal) (b : Fin 2) (X : Vec Ideal S1x2x128x512 .bf16) (r : Fin 128) (n : Fin 512) :
    att1 w b (k0_pay1 w.q (half b X)) (ix2 r n) = part w (fun j => w.m1 (ix2 r j)) b (fun x => X (ix4 0 b r x)) n := by
  rw [att1_apply]
  simp only [q1_apply, half_apply]
  rfl

theorem att2_top (w : Wts Ideal) (b : Fin 2) (X Y : Vec Ideal S1x2x128x512 .bf16) (r : Fin 128) (n : Fin 512) :
    att2 w b (k0_pay24 w.q (half b X) (half b Y)) (ix2 ⟨r.val, by omega⟩ n)
      = part w (fun j => w.m2 (ix2 ⟨r.val, by omega⟩ j)) b (fun x => X (ix4 0 b r x)) n := by
  rw [att2_apply]
  simp only [q2_top, half_apply]
  rfl

theorem att2_bot (w : Wts Ideal) (b : Fin 2) (X Y : Vec Ideal S1x2x128x512 .bf16) (r : Fin 128) (n : Fin 512) :
    att2 w b (k0_pay24 w.q (half b X) (half b Y)) (ix2 ⟨r.val + 128, by omega⟩ n)
      = part w (fun j => w.m2 (ix2 ⟨r.val + 128, by omega⟩ j)) b (fun x => Y (ix4 0 b r x)) n := by
  rw [att2_apply]
  simp only [q2_bot, half_apply]
  rfl

theorem one_apply (w : Wts Ideal) (X : Vec Ideal S1x2x128x512 .bf16) (b : Fin 2) (r : Fin 128) (n : Fin 512) :
    one w X (ix4 0 b r n) = part w (fun j => w.m1 (ix2 r j)) b (fun x => X (ix4 0 b r x)) n := by
  rw [one_eq]
  rcases batches b with rfl | rfl
  · rw [joinH0, sc_apply]; exact att1_part w 0 X r n
  · rw [joinH1, sc_apply]; exact att1_part w 1 X r n

theorem twoX_apply (w : Wts Ideal) (X Y : Vec Ideal S1x2x128x512 .bf16) (b : Fin 2) (r : Fin 128) (n : Fin 512) :
    twoX w X Y (ix4 0 b r n) = part w (fun j => w.m2 (ix2 ⟨r.val, by omega⟩ j)) b (fun x => X (ix4 0 b r x)) n := by
  unfold twoX
  rcases batches b with rfl | rfl
  · rw [joinH0, top_apply, twoA_eq]; exact att2_top w 0 X Y r n
  · rw [joinH1, ← att2_top w 1 X Y r n, ← twoB_eq]; exact top_apply _ r n

theorem twoY_apply (w : Wts Ideal) (X Y : Vec Ideal S1x2x128x512 .bf16) (b : Fin 2) (r : Fin 128) (n : Fin 512) :
    twoY w X Y (ix4 0 b r n) = part w (fun j => w.m2 (ix2 ⟨r.val + 128, by omega⟩ j)) b (fun x => Y (ix4 0 b r x)) n := by
  unfold twoY
  rcases batches b with rfl | rfl
  · rw [joinH0, bot_apply, twoA_eq]; exact att2_bot w 0 X Y r n
  · rw [joinH1, ← att2_bot w 1 X Y r n, ← twoB_eq]; exact bot_apply _ r n

/-! ## What is sent on and added -/

theorem msg_apply (X : Vec Ideal S1x2x128x512 .f32) (b : Fin 2) (r : Fin 128) (n : Fin 512) : msg X (ix3 b r n) = X (ix4 0 b r n) := by
  pointwise [msg, k0_pay178]

theorem acc_apply (X : Vec Ideal S1x2x128x512 .f32) (M : Vec Ideal S2x128x512 .bf16) (b : Fin 2) (r : Fin 128) (n : Fin 512) :
    acc X M (ix4 0 b r n) = X (ix4 0 b r n) + M (ix3 b r n) := by
  pointwise [acc, k0_pay182, unsq]

theorem xb_apply (I : Ins Ideal) (d : Dev nD) (b : Fin 2) (r : Fin 128) (n : Fin 512) : xb I d (ix4 0 b r n) = I.x d (ix3 b r n) := by
  pointwise [xb, k0_pay165]

theorem pay164_apply (X : Vec Ideal S1x2x128x512 .f32) (M N : Vec Ideal S2x128x512 .bf16) (b : Fin 2) (r : Fin 128) (n : Fin 512) :
    k0_pay164 X M N (ix3 b r n) = X (ix4 0 b r n) + M (ix3 b r n) + N (ix3 b r n) := by
  pointwise [k0_pay164]

theorem pay211_apply (b : Fin 2) (r : Fin 128) (n : Fin 512) : k0_pay211 (F := Ideal) (ix3 b r n) = 0 := by
  pointwise [k0_pay211]

/-! ## The sums around the ring -/

section Ring

variable (I : Ins Ideal) (b : Fin 2) (r : Fin 128) (n : Fin 512)

/-- Device `d`'s own part of an entry of device `e`'s block. -/
def own1 (d e : Dev nD) : EReal :=
  part (wt I d) (keeps (r.val / 64)) b (fun x => I.x e (ix3 b r x)) n

theorem pR_apply (d : Dev nD) (g : ℕ) : pR I d g (ix4 0 b r n) = own1 I b r n d (dm d g) := by
  unfold pR own1
  split
  · rw [twoX_apply]
    simp only [m2_apply, xb_apply, Nat.mod_eq_of_lt r.isLt]
  · rw [one_apply]
    simp only [m1_apply, xb_apply]

theorem pL_apply (d : Dev nD) (g : ℕ) : pL I d g (ix4 0 b r n) = own1 I b r n d (dp d g) := by
  unfold pL own1
  rw [twoY_apply]
  simp only [m2_apply, xb_apply, Nat.add_mod_right, Nat.mod_eq_of_lt r.isLt]

theorem dm_lf (d : Dev nD) (k : ℕ) (h : k < 16) : dm (lf d) k = dm d (k + 1) := by
  apply Fin.ext; show ((d.val + 15) % 16 + 16 - k) % 16 = (d.val + 16 - (k + 1)) % 16; omega
theorem dp_rt (d : Dev nD) (k : ℕ) : dp (rt d) k = dp d (k + 1) := by
  apply Fin.ext; show ((d.val + 1) % 16 + k) % 16 = (d.val + (k + 1)) % 16; omega
theorem accR_apply (g : ℕ) (hg : g < 8) : ∀ d : Dev nD,
    accR I (g + 1) d (ix4 0 b r n) = ∑ k ∈ Finset.range (g + 1), own1 I b r n (dm d k) (dm d (g + 1)) := by
  induction g with
  | zero => intro d; rw [Finset.sum_range_one, dm_zero]; exact pR_apply I b r n d 1
  | succ g ih =>
    intro d
    rw [Finset.sum_range_succ', dm_zero, ← pR_apply, add_comm (∑ k ∈ _, _)]
    refine (acc_apply _ _ _ _ _).trans (congrArg _ ?_)
    rw [msg_apply, ih (by omega), dm_lf _ _ (by omega)]
    exact Finset.sum_congr rfl fun k hk => by rw [dm_lf _ _ (by have := Finset.mem_range.mp hk; omega)]

theorem accL_apply (g : ℕ) : ∀ d : Dev nD,
    accL I (g + 1) d (ix4 0 b r n) = ∑ k ∈ Finset.range (g + 1), own1 I b r n (dp d k) (dp d (g + 1)) := by
  induction g with
  | zero => intro d; rw [Finset.sum_range_one, dp_zero]; exact pL_apply I b r n d 1
  | succ g ih =>
    intro d
    rw [Finset.sum_range_succ', dp_zero, ← pL_apply, add_comm (∑ k ∈ _, _)]
    refine (acc_apply _ _ _ _ _).trans (congrArg _ ?_)
    rw [msg_apply, ih, dp_rt]
    exact Finset.sum_congr rfl fun k _ => by rw [dp_rt]

theorem dp9_dp7 (c : Dev nD) : dp (dp c 9) 7 = c := by
  have := c_lt c
  apply Fin.ext; show ((c.val + 9) % 16 + 7) % 16 = c.val; omega
theorem opp_dm8 (c : Dev nD) : dm (opp c) 8 = c := by
  have := c_lt c
  apply Fin.ext; show ((c.val + 8) % 16 + 16 - 8) % 16 = c.val; omega
theorem dp_dp (c : Dev nD) (a k : ℕ) : dp (dp c a) k = dp c (a + k) := by
  apply Fin.ext; show ((c.val + a) % 16 + k) % 16 = (c.val + (a + k)) % 16; omega
theorem dm_opp (c : Dev nD) (k : ℕ) (h : k ≤ 8) : dm (opp c) k = dp c (8 - k) := by
  apply Fin.ext; show ((c.val + 8) % 16 + 16 - k) % 16 = (c.val + (8 - k)) % 16; omega

/-- Going once round the ring meets every device. -/
theorem sum_ring (f : Dev nD → EReal) (c : Dev nD) :
    f c + (∑ k ∈ Finset.range 7, f (dp (dp c 9) k)) + (∑ k ∈ Finset.range 8, f (dm (opp c) k)) = ∑ d : Dev nD, f d := by
  have hb : Function.Bijective fun k : Fin 16 => dp c k.val := by
    revert c; decide +kernel
  rw [← hb.sum_comp f, Fin.sum_univ_eq_sum_range (fun k => f (dp c k)) 16]
  simp only [Finset.sum_range_succ, Finset.sum_range_zero, dp_dp, dp_zero]
  rw [dm_opp c 0 (by omega), dm_opp c 1 (by omega), dm_opp c 2 (by omega), dm_opp c 3 (by omega), dm_opp c 4 (by omega),
    dm_opp c 5 (by omega), dm_opp c 6 (by omega), dm_opp c 7 (by omega)]
  norm_num only
  abel

theorem outV_even (c : Dev nD) (hc : c.val % 2 = 0) : outV I c (ix3 b r n) = ∑ d : Dev nD, own1 I b r n d c := by
  unfold outV
  rw [if_pos hc, pay164_apply, msg_apply, msg_apply, pR_apply, accL_apply I b r n 6, accR_apply I b r n 7 (by omega), dm_zero, dp9_dp7, opp_dm8]
  exact sum_ring (fun d => own1 I b r n d c) c

theorem outV_odd (c : Dev nD) (hc : ¬ c.val % 2 = 0) : outV I c (ix3 b r n) = 0 := by
  unfold outV
  rw [if_neg hc, pay211_apply]

end Ring

end Cert.RingAttn

end
-- ==== Proof.KerRun.lean ====
/- What the kernel's devices are given and what they end with. -/
module

public import proofs.«01_k».proof.Proof.Launch
public import proofs.«01_k».proof.Proof.KerOut
public import Idealize.ShloMosaic.Lib.Claim
public import Idealize.ShloMosaic.Lib.StableHlo.RunClose
public import Idealize.ShloMosaic.Lib.DynamicIndex
public import Idealize.ShloMosaic.Lib.Pipeline.ValueKit.Geometry

@[expose] public section

noncomputable section

namespace Cert.RingAttn

open Idealize.ShloMosaic Cert.KernelIdeal Cert.KernelIdeal.Gen
open Idealize.ShloMosaic.TcCoe

variable {F : FTy → Type} [FloatOps F]
variable (m : (ℓ : Loc nD τ sig) → Buf (Elt F) ℓ)

/-- Where a device's heads start. -/
theorem heads_start (c : Dev nD) : BitVec.toInt (select (cmpi .slt (muli (id (Host.remui (Host.divui (constantI S_ 32 (Dev.word c)) (constantI S_ 32 1#32))
    (constantI S_ 32 16#32))) (constantI S_ 32 4#32)) (constantI S_ 32 0#32)) (addi (muli (id (Host.remui (Host.divui (constantI S_ 32 (Dev.word c))
    (constantI S_ 32 1#32)) (constantI S_ 32 16#32))) (constantI S_ 32 4#32)) (constantI S_ 32 64#32)) (muli (id (Host.remui (Host.divui
    (constantI S_ 32 (Dev.word c)) (constantI S_ 32 1#32)) (constantI S_ 32 16#32))) (constantI S_ 32 4#32)) (Shape.Idx.first h_S_)) = ((4 * c.val : ℕ) : Int) := by
  revert c
  decide +kernel

theorem heads_slice (c : Dev nD) : S2x128x64x64.Slices ![0, 0, 4 * c.val, 0] S2x128x4x64 := by
  revert c
  decide +kernel

theorem V1_v9 (c : Dev nD) : V1 m c main_v9 = extractStridedSlice S2x128x4x64 ![0, 0, 4 * c.val, 0] (m ((c : Thread nD τ).loc main_arg2)) (heads_slice c) := by
  unfold V1 hostOps0
  after_results_simp_entrywise
  refine Host.dynamicSlice_eq_extractStridedSlice _ _ _ _ _ _ fun k => ?_
  fin_cases k
  · rfl
  · rfl
  · exact heads_start c
  · rfl

theorem V1_v14 (c : Dev nD) : V1 m c main_v14 = extractStridedSlice S2x128x4x64 ![0, 0, 4 * c.val, 0] (m ((c : Thread nD τ).loc main_arg3)) (heads_slice c) := by
  unfold V1 hostOps0
  after_results_simp_entrywise
  refine Host.dynamicSlice_eq_extractStridedSlice _ _ _ _ _ _ fun k => ?_
  fin_cases k
  · rfl
  · rfl
  · exact heads_start c
  · rfl

theorem out_arr (c : Dev nD) : (dat m c).arrAt 5 cfg0.N = outV (given m) c := by
  refine (dat m c).arrAt_eq_of_covers 5 _ (by decide +kernel) fun t hf y => ?_
  blk_simp
  show outV (given m) c y = _
  congr 1
  blk_ext [(by decide +kernel : ∀ t : Fin grid0.N, win0_5.index t = ![0, 0, 0])]

theorem given_x (c : Dev nD) : (given m).x c = m ((c : Thread nD τ).loc main_arg0) := by
  funext y
  show ((cfg0.win 0).blk t0_0).view.read (Elt F) (V1 m c (Proc.devRef .tc main_arg0)) y = _
  rw [V1_of m c main_arg0 (by decide)]
  blk_simp
  show V0 m c (Proc.tc.devRef main_arg0) _ = V0 m c (Proc.tc.devRef main_arg0) y
  congr 1
  blk_ext [(by decide +kernel : ∀ t : Fin grid0.N, win0_0.index t = ![0, 0, 0])]

theorem given_wq (c : Dev nD) : (given m).wq c = m ((c : Thread nD τ).loc main_arg1) := by
  funext y
  show ((cfg0.win 1).blk t0_0).view.read (Elt F) (V1 m c (Proc.devRef .tc main_arg1)) y = _
  rw [V1_of m c main_arg1 (by decide)]
  blk_simp
  show V0 m c (Proc.tc.devRef main_arg1) _ = V0 m c (Proc.tc.devRef main_arg1) y
  congr 1
  blk_ext [(by decide +kernel : ∀ t : Fin grid0.N, win0_1.index t = ![0, 0])]

theorem given_wo (c : Dev nD) : (given m).wo c = m ((c : Thread nD τ).loc main_arg4) := by
  funext y
  show ((cfg0.win 4).blk t0_0).view.read (Elt F) (V1 m c (Proc.devRef .tc main_arg4)) y = _
  rw [V1_of m c main_arg4 (by decide)]
  blk_simp
  show V0 m c (Proc.tc.devRef main_arg4) _ = V0 m c (Proc.tc.devRef main_arg4) y
  congr 1
  blk_ext [(by decide +kernel : ∀ t : Fin grid0.N, win0_4.index t = ![0, 0])]

theorem given_ks (c : Dev nD) : (given m).ks c = V1 m c main_v9 := by
  funext y
  show ((cfg0.win 2).blk t0_0).view.read (Elt F) (V1 m c (Proc.devRef .tc main_v9)) y = _
  generalize V1 m c (Proc.devRef .tc main_v9) = f
  blk_simp
  congr 1
  blk_ext [(by decide +kernel : ∀ t : Fin grid0.N, win0_2.index t = ![0, 0, 0, 0])]

theorem given_vs (c : Dev nD) : (given m).vs c = V1 m c main_v14 := by
  funext y
  show ((cfg0.win 3).blk t0_0).view.read (Elt F) (V1 m c (Proc.devRef .tc main_v14)) y = _
  generalize V1 m c (Proc.devRef .tc main_v14) = f
  blk_simp
  congr 1
  blk_ext [(by decide +kernel : ∀ t : Fin grid0.N, win0_3.index t = ![0, 0, 0, 0])]

end Cert.RingAttn

end
-- ==== Proof.RefVal.lean ====
/- The reference, read an entry at a time. -/
module

public import proofs.«01_k».proof.Proof.Gen.ReferenceIdeal.Run
public import proofs.«01_k».proof.Proof.Attn

@[expose] public section

noncomputable section

namespace Cert.RingAttn.Ref

open Idealize.ShloMosaic Cert.ReferenceIdeal Cert.ReferenceIdeal.Gen Cert.ReferenceIdeal.Value

variable {F : FTy → Type} [FloatOps F]

/-- The block of each query row. -/
def qb : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

/-- The block of each key row. -/
def kb : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- The number of blocks in a period. -/
def four : IVec S_ 32 := select (cmpi .eq (id (constantI S_ 32 4#32)) (constantI S_ 32 0#32)) (constantI S_ 32 1#32) (id (constantI S_ 32 4#32))

/-- The blocks modulo the period, of keys -/
def km : IVec S1x128 32 :=
  let r := Host.remsi (broadcastInDim S1x128 ![1] bcast_S128_S1x128_1 kb) (broadcastInDim S1x128 ![] bcast_S_S1x128 four)
  let z := broadcastInDim S1x128 ![] bcast_S_S1x128 (constantI S_ 32 0#32)
  select (andi (cmpi .ne (cmpi .slt r z) (broadcastInDim S1x128 ![] bcast_S_S1x128 (cmpi .slt four (constantI S_ 32 0#32)))) (cmpi .ne r z))
    (addi r (broadcastInDim S1x128 ![] bcast_S_S1x128 four)) r

/-- and of queries. -/
def qm : IVec S2048x1 32 :=
  let r := Host.remsi (broadcastInDim S2048x1 ![0] bcast_S2048_S2048x1_0 qb) (broadcastInDim S2048x1 ![] bcast_S_S2048x1 four)
  let z := broadcastInDim S2048x1 ![] bcast_S_S2048x1 (constantI S_ 32 0#32)
  select (andi (cmpi .ne (cmpi .slt r z) (broadcastInDim S2048x1 ![] bcast_S_S2048x1 (cmpi .slt four (constantI S_ 32 0#32)))) (cmpi .ne r z))
    (addi r (broadcastInDim S2048x1 ![] bcast_S_S2048x1 four)) r

/-- The mask. -/
def mask : IVec S2048x128 1 :=
  ori (cmpi .eq (broadcastInDim S2048x128 ![0, 1] bcast_S2048x1_S2048x128_0_1 (broadcastInDim S2048x1 ![0] bcast_S2048_S2048x1_0 qb))
      (broadcastInDim S2048x128 ![0, 1] bcast_S1x128_S2048x128_0_1 (broadcastInDim S1x128 ![1] bcast_S128_S1x128_1 kb)))
    (cmpi .eq (broadcastInDim S2048x128 ![0, 1] bcast_S1x128_S2048x128_0_1 km) (broadcastInDim S2048x128 ![0, 1] bcast_S2048x1_S2048x128_0_1 qm))

/-- Whether any key is kept for a query. -/
def keep : IVec S2048 1 := Host.reduce IntOp.ori mask (constantI S_ 1 0#1) reducesTo_S2048x128_S2048_d1 h_S_
def keep4 : IVec S1x1x2048x1 1 := broadcastInDim S1x1x2048x1 ![2] bcast_S2048_S1x1x2048x1_2 keep

/-- The masked scores. -/
def scores (x : FVec F S2x2048x512 .f32) (wq : FVec F S512x4096 .f32) (k : FVec F S2x128x64x64 .f32) : FVec F S2x64x2048x128 .f32 :=
  select (broadcastInDim S2x64x2048x128 ![0, 1, 2, 3] bcast_S1x1x2048x128_S2x64x2048x128_0_1_2_3 (broadcastInDim S1x1x2048x128 ![2, 3] bcast_S2048x128_S1x1x2048x128_2_3 mask))
    (mulf (Host.dotGeneral dot_S2x2048x64x64_S2x128x64x64_S2x64x2048x128_3_3_1_1_02_02 none
        (shapeCast _ (Host.dotGeneral dot_S2x2048x512_S512x4096_S2x2048x4096_2_0_01_1_n_n none x wq) shapeCasts_S2x2048x4096_S2x2048x64x64) k)
      (broadcastInDim S2x64x2048x128 ![] bcast_S_S2x64x2048x128 (constant S_ .f32 0x3E000000#32)))
    (broadcastInDim S2x64x2048x128 ![] bcast_S_S2x64x2048x128 (id (constant S_ .f32 0xCE6E6B28#32)))

/-- The exponentials. -/
def expo (s : FVec F S2x64x2048x128 .f32) : FVec F S2x64x2048x128 .f32 :=
  Host.exp (subf s (broadcastInDim S2x64x2048x128 ![0, 1, 2, 3] bcast_S2x64x2048x1_S2x64x2048x128_0_1_2_3
    (broadcastInDim S2x64x2048x1 ![0, 1, 2] bcast_S2x64x2048_S2x64x2048x1_0_1_2
      (Host.reduce FloatOps.maximumf s (constant S_ .f32 0xFF800000#32) reducesTo_S2x64x2048x128_S2x64x2048_d3 h_S_))))

/-- The weights of the keys. -/
def wts (e : FVec F S2x64x2048x128 .f32) : FVec F S2x64x2048x128 .f32 :=
  select (broadcastInDim S2x64x2048x128 ![0, 1, 2, 3] bcast_S1x1x2048x1_S2x64x2048x128_0_1_2_3 keep4)
    (Host.divf e (broadcastInDim S2x64x2048x128 ![0, 1, 2, 3] bcast_S2x64x2048x1_S2x64x2048x128_0_1_2_3
      (select (broadcastInDim S2x64x2048x1 ![0, 1, 2, 3] bcast_S1x1x2048x1_S2x64x2048x1_0_1_2_3 keep4)
        (broadcastInDim S2x64x2048x1 ![0, 1, 2] bcast_S2x64x2048_S2x64x2048x1_0_1_2 (Host.reduceAdd e (constant S_ .f32 0x00000000#32) reducesTo_S2x64x2048x128_S2x64x2048_d3 h_S_))
        (broadcastInDim S2x64x2048x1 ![] bcast_S_S2x64x2048x1 (id (constant S_ .f32 0x3F800000#32))))))
    (broadcastInDim S2x64x2048x128 ![] bcast_S_S2x64x2048x128 (id (constant S_ .f32 0x00000000#32)))

/-- The result, of the weights. -/
def fin (w : FVec F S2x64x2048x128 .f32) (v : FVec F S2x128x64x64 .f32) (wo : FVec F S4096x512 .f32) : FVec F S2x2048x512 .f32 :=
  Host.dotGeneral dot_S2x2048x4096_S4096x512_S2x2048x512_2_0_01_1_n_n none
    (shapeCast _ (transpose S2x2048x64x64 [0, 3, 1, 2] (Host.dotGeneral dot_S2x128x64x64_S2x64x2048x128_S2x64x64x2048_1_3_3_2_02_01 none v w)
      transposes_S2x64x64x2048_S2x2048x64x64_0_3_1_2) shapeCasts_S2x2048x64x64_S2x2048x4096) wo

/-- The whole result. -/
theorem res_eq (m : (ℓ : Loc nD τ sig) → Buf (Elt F) ℓ) (c : Dev nD) :
    res_out0 m c = fin (wts (expo (scores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := rfl

theorem qb_apply (i : Fin 2048) : qb (ix1 i) = BitVec.ofNat 32 (i.val / 64) := by
  pointwise [qb]
  revert i
  decide +kernel

theorem kb_apply (j : Fin 128) : kb (ix1 j) = BitVec.ofNat 32 (j.val / 64) := by
  pointwise [kb]
  revert j
  decide +kernel

theorem qm_apply (i : Fin 2048) : qm (ix2 i 0) = BitVec.ofNat 32 (i.val / 64 % 4) := by
  pointwise [qm, four, qb_apply]
  have h : i.val / 64 < 32 := by omega
  generalize i.val / 64 = a at h
  revert h
  revert a
  decide +kernel

theorem km_apply (j : Fin 128) : km (ix2 0 j) = BitVec.ofNat 32 (j.val / 64) := by
  pointwise [km, four, kb_apply]
  have h : j.val / 64 < 2 := by omega
  generalize j.val / 64 = a at h
  revert h
  revert a
  decide +kernel

theorem mask_apply (i : Fin 2048) (j : Fin 128) : mask (ix2 i j) = keeps (i.val / 64) j := by
  pointwise [mask, qb_apply, kb_apply, qm_apply, km_apply]
  have h : i.val / 64 < 32 := by omega
  have h' : j.val / 64 < 2 := by omega
  unfold keeps
  generalize i.val / 64 = a at h
  generalize j.val / 64 = b at h'
  revert b
  revert h
  revert a
  decide +kernel

theorem keep_apply (i : Fin 2048) : keep (ix1 i) = if i.val / 64 % 4 < 2 then 1#1 else 0#1 := by
  pointwise [keep, mask_apply]
  have h : i.val / 64 < 32 := by omega
  generalize i.val / 64 = a at h
  revert h
  revert a
  decide +kernel

theorem scores_apply (x : FVec Ideal S2x2048x512 .f32) (wq : FVec Ideal S512x4096 .f32) (k : FVec Ideal S2x128x64x64 .f32)
    (b : Fin 2) (h : Fin 64) (i : Fin 2048) (j : Fin 128) :
    scores x wq k (ix4 b h i j) = score (keeps (i.val / 64))
      (fun d => ∑ u, x (ix3 b i u) * wq (ix2 u ⟨h.val * 64 + d.val, by omega⟩)) (fun j d => k (ix4 b j h d)) j := by
  pointwise [scores, mask_apply]
  rfl

theorem expo_apply (s : FVec Ideal S2x64x2048x128 .f32) (b : Fin 2) (h : Fin 64) (i : Fin 2048) (j : Fin 128) :
    expo s (ix4 b h i j) = expw (fun j => s (ix4 b h i j)) j := by
  pointwise [expo]
  rfl

theorem wts_even (e : FVec Ideal S2x64x2048x128 .f32) (b : Fin 2) (h : Fin 64) (i : Fin 2048) (j : Fin 128) (hi : i.val / 64 % 4 < 2) :
    wts e (ix4 b h i j) = Ideal.div (e (ix4 b h i j)) (∑ x, e (ix4 b h i x)) := by
  pointwise [wts, keep4, keep_apply]
  rw [if_pos hi]
  rfl

theorem wts_odd (e : FVec Ideal S2x64x2048x128 .f32) (b : Fin 2) (h : Fin 64) (i : Fin 2048) (j : Fin 128) (hi : ¬ i.val / 64 % 4 < 2) :
    wts e (ix4 b h i j) = 0 := by
  pointwise [wts, keep4, keep_apply]
  rw [if_neg hi]
  exact Ideal.ofBits_zero_f32

theorem fin_apply (w : FVec Ideal S2x64x2048x128 .f32) (v : FVec Ideal S2x128x64x64 .f32) (wo : FVec Ideal S4096x512 .f32)
    (b : Fin 2) (i : Fin 2048) (n : Fin 512) :
    fin w v wo (ix3 b i n) = ∑ t : Fin 4096, (∑ j, v (ix4 b j ⟨t.val / 64, by omega⟩ ⟨t.val % 64, by omega⟩) * w (ix4 b ⟨t.val / 64, by omega⟩ i j)) * wo (ix2 t n) := by
  pointwise [fin]

/-- The reference of the arguments. -/
def out (x : FVec Ideal S2x2048x512 .f32) (wq : FVec Ideal S512x4096 .f32) (k v : FVec Ideal S2x128x64x64 .f32) (wo : FVec Ideal S4096x512 .f32) :
    FVec Ideal S2x2048x512 .f32 := fin (wts (expo (scores x wq k))) v wo

/-- A row of a block that is kept. -/
theorem out_even (x : FVec Ideal S2x2048x512 .f32) (wq : FVec Ideal S512x4096 .f32) (k v : FVec Ideal S2x128x64x64 .f32)
    (wo : FVec Ideal S4096x512 .f32) (b : Fin 2) (i : Fin 2048) (n : Fin 512) (hi : i.val / 64 % 4 < 2) :
    out x wq k v wo (ix3 b i n) = ∑ t : Fin 4096,
      head (keeps (i.val / 64)) (fun d => ∑ u, x (ix3 b i u) * wq (ix2 u ⟨t.val / 64 * 64 + d.val, by omega⟩))
        (fun j d => k (ix4 b j ⟨t.val / 64, by omega⟩ d)) (fun j => v (ix4 b j ⟨t.val / 64, by omega⟩ ⟨t.val % 64, by omega⟩)) * wo (ix2 t n) := by
  unfold out
  rw [fin_apply]
  refine Finset.sum_congr rfl fun t _ => ?_
  congr 1
  unfold head
  refine Finset.sum_congr rfl fun j _ => ?_
  rw [wts_even _ _ _ _ _ hi, mul_comm]
  simp only [expo_apply, scores_apply]

/-- A row of a block that is not. -/
theorem out_odd (x : FVec Ideal S2x2048x512 .f32) (wq : FVec Ideal S512x4096 .f32) (k v : FVec Ideal S2x128x64x64 .f32)
    (wo : FVec Ideal S4096x512 .f32) (b : Fin 2) (i : Fin 2048) (n : Fin 512) (hi : ¬ i.val / 64 % 4 < 2) :
    out x wq k v wo (ix3 b i n) = 0 := by
  unfold out
  rw [fin_apply]
  refine Finset.sum_eq_zero fun t _ => ?_
  rw [Finset.sum_eq_zero fun j _ => by rw [wts_odd _ _ _ _ _ hi, mul_zero], zero_mul]

end Cert.RingAttn.Ref

end
-- ==== Proof.Value.lean ====
/- The devices' outputs are the blocks of the reference's. -/
module

public import proofs.«01_k».proof.Proof.KerRun
public import proofs.«01_k».proof.Proof.RefVal
public import Idealize.ShloMosaic.Lib.Layout
public import Idealize.ShloMosaic.Lib.LayoutAt

@[expose] public section

noncomputable section

namespace Cert.RingAttn

open Idealize.ShloMosaic Cert.KernelIdeal Cert.KernelIdeal.Gen
open Idealize.ShloMosaic.TcCoe

/-! ## Blocks, an entry at a time -/

theorem rows3_apply {α : Type} (c : Dev nD) (X : (⟨3, ![2, 2048, 512]⟩ : Shape).Idx → α) (b : Fin 2) (r : Fin 128) (n : Fin 512) :
    Layout.block ⟨3, ![2, 128, 512]⟩ ⟨3, ![2, 2048, 512]⟩ 1 16 c X (by decide) (ix3 b r n)
      = X (ix3 b ⟨c.val * 128 + r.val, by have : c.val < 16 := c.isLt; omega⟩ n) := by
  rw [Layout.block_apply]
  congr 1
  funext a; apply Fin.ext
  rw [Layout.Tiles.idx_val]
  fin_cases a <;> simp [ix3]

theorem cols_apply {α : Type} (c : Dev nD) (X : (⟨2, ![512, 4096]⟩ : Shape).Idx → α) (u : Fin 512) (t : Fin 256) :
    Layout.block ⟨2, ![512, 256]⟩ ⟨2, ![512, 4096]⟩ 1 16 c X (by decide) (ix2 u t)
      = X (ix2 u ⟨c.val * 256 + t.val, by have : c.val < 16 := c.isLt; omega⟩) := by
  rw [Layout.block_apply]
  congr 1
  funext a; apply Fin.ext
  rw [Layout.Tiles.idx_val]
  fin_cases a <;> simp [ix2]

theorem rows_apply {α : Type} (c : Dev nD) (X : (⟨2, ![4096, 512]⟩ : Shape).Idx → α) (t : Fin 256) (n : Fin 512) :
    Layout.block ⟨2, ![256, 512]⟩ ⟨2, ![4096, 512]⟩ 0 16 c X (by decide) (ix2 t n)
      = X (ix2 ⟨c.val * 256 + t.val, by have : c.val < 16 := c.isLt; omega⟩ n) := by
  rw [Layout.block_apply]
  congr 1
  funext a; apply Fin.ext
  rw [Layout.Tiles.idx_val]
  fin_cases a <;> simp [ix2]

theorem heads_apply (c : Dev nD) (X : FVec Ideal S2x128x64x64 .f32) (b : Fin 2) (j : Fin 128) (h : Fin 4) (d : Fin 64) :
    extractStridedSlice S2x128x4x64 ![0, 0, 4 * c.val, 0] X (heads_slice c) (ix4 b j h d)
      = X (ix4 b j ⟨4 * c.val + h.val, by have : c.val < 16 := c.isLt; omega⟩ d) := by
  unfold extractStridedSlice
  congr 1
  funext a; apply Fin.ext
  fin_cases a <;> simp [ix4]

/-! ## The weights, an entry at a time -/

section Weights
variable (I : Ins Ideal) (c : Dev nD)

theorem wt_k : (wt I c).k = I.ks c := by
  funext i; unfold wt k0_pay166; rw [shapeCast_self]; rfl
theorem wt_v : (wt I c).v = I.vs c := by
  funext i; unfold wt k0_pay167; rw [shapeCast_self]; rfl
theorem wt_q : (wt I c).q = I.wq c := by
  funext i; unfold wt k0_pay168; rw [shapeCast_self]; rfl
theorem wt_o : (wt I c).o = I.wo c := by
  funext i; unfold wt k0_pay169; rw [shapeCast_self]; rfl

end Weights

/-! ## The whole arrays -/

variable (I : Ins Ideal) (x : (⟨3, ![2, 2048, 512]⟩ : Shape).Idx → EReal) (wq : (⟨2, ![512, 4096]⟩ : Shape).Idx → EReal)
  (k v : (⟨4, ![2, 128, 64, 64]⟩ : Shape).Idx → EReal) (wo : (⟨2, ![4096, 512]⟩ : Shape).Idx → EReal)

/-- The devices' inputs are blocks of whole arrays. -/
structure Cut : Prop where
  x c b r n : I.x c (ix3 b r n) = x (ix3 b ⟨c.val * 128 + r.val, by have : c.val < 16 := c.isLt; omega⟩ n)
  wq c u t : I.wq c (ix2 u t) = wq (ix2 u ⟨c.val * 256 + t.val, by have : c.val < 16 := c.isLt; omega⟩)
  ks c b j h d : I.ks c (ix4 b j h d) = k (ix4 b j ⟨4 * c.val + h.val, by have : c.val < 16 := c.isLt; omega⟩ d)
  vs c b j h d : I.vs c (ix4 b j h d) = v (ix4 b j ⟨4 * c.val + h.val, by have : c.val < 16 := c.isLt; omega⟩ d)
  wo c t n : I.wo c (ix2 t n) = wo (ix2 ⟨c.val * 256 + t.val, by have : c.val < 16 := c.isLt; omega⟩ n)

variable {I x wq k v wo}

theorem outV_apply (H : Cut I x wq k v wo) (c : Dev nD) (b : Fin 2) (r : Fin 128) (n : Fin 512) :
    outV I c (ix3 b r n) = Ref.out x wq k v wo (ix3 b ⟨c.val * 128 + r.val, by have : c.val < 16 := c.isLt; omega⟩ n) := by
  have hc16 : c.val < 16 := c.isLt
  by_cases hc : c.val % 2 = 0
  · rw [outV_even I b r n c hc, Ref.out_even x wq k v wo b _ n (by show (c.val * 128 + r.val) / 64 % 4 < 2; omega),
      Fin.sum_univ_tiles 16 256 rfl]
    refine Finset.sum_congr rfl fun d _ => ?_
    unfold own1 part rowOut
    refine Finset.sum_congr rfl fun t _ => ?_
    have hd : d.val < 16 := d.isLt
    have hk : keeps ((c.val * 128 + r.val) / 64) = keeps (r.val / 64) := by
      funext j; unfold keeps; rw [show (c.val * 128 + r.val) / 64 % 4 = r.val / 64 % 4 by omega]
    have h1 : (d.val * 256 + t.val) / 64 = 4 * d.val + t.val / 64 := by omega
    have h2 : (d.val * 256 + t.val) % 64 = t.val % 64 := by omega
    rw [wt_k, wt_v, wt_q, wt_o, H.wo]
    simp only [H.x, H.wq, H.ks, H.vs, hk, h1, h2]
    congr 2
    funext e
    refine Finset.sum_congr rfl fun u _ => ?_
    congr 3
    apply Fin.ext
    show d.val * 256 + (t.val / 64 * 64 + e.val) = (4 * d.val + t.val / 64) * 64 + e.val
    omega
  · rw [outV_odd I b r n c hc, Ref.out_odd x wq k v wo b _ n (by show ¬ (c.val * 128 + r.val) / 64 % 4 < 2; omega)]

/-- A device's output is its block of the reference's. -/
theorem outV_block (H : Cut I x wq k v wo) (c : Dev nD) :
    outV I c = Layout.block ⟨3, ![2, 128, 512]⟩ ⟨3, ![2, 2048, 512]⟩ 1 16 c (Ref.out x wq k v wo) (by decide) := by
  funext i
  obtain ⟨b, r, n, rfl⟩ : ∃ (b : Fin 2) (r : Fin 128) (n : Fin 512), i = ix3 b r n :=
    ⟨i 0, i 1, i 2, by funext a; fin_cases a <;> rfl⟩
  exact (outV_apply H c b r n).trans (rows3_apply c _ b r n).symm

/-! ## The claim -/

/-- What the memories have to do with one another gives what the devices' inputs are blocks of. -/
theorem cut_of (m : (ℓ : Loc nD τ sig) → Buf (Elt Ideal) ℓ)
    (h0 : ∀ c : Dev nD, m ((c.tc : Thread nD τ).loc main_arg0) = Layout.block ⟨3, ![2, 128, 512]⟩ ⟨3, ![2, 2048, 512]⟩ 1 16 c x)
    (h1 : ∀ c : Dev nD, m ((c.tc : Thread nD τ).loc main_arg1) = Layout.block ⟨2, ![512, 256]⟩ ⟨2, ![512, 4096]⟩ 1 16 c wq)
    (h2 : ∀ c : Dev nD, m ((c.tc : Thread nD τ).loc main_arg2) = k)
    (h3 : ∀ c : Dev nD, m ((c.tc : Thread nD τ).loc main_arg3) = v)
    (h4 : ∀ c : Dev nD, m ((c.tc : Thread nD τ).loc main_arg4) = Layout.block ⟨2, ![256, 512]⟩ ⟨2, ![4096, 512]⟩ 0 16 c wo) :
    Cut (given m) x wq k v wo where
  x c b r n := by rw [given_x]; exact (congrFun (h0 c) _).trans (rows3_apply c x b r n)
  wq c u t := by rw [given_wq]; exact (congrFun (h1 c) _).trans (cols_apply c wq u t)
  ks c b j h d := by rw [given_ks, V1_v9]; exact (heads_apply c _ b j h d).trans (congrFun (h2 c) _)
  vs c b j h d := by rw [given_vs, V1_v14]; exact (heads_apply c _ b j h d).trans (congrFun (h3 c) _)
  wo c t n := by rw [given_wo]; exact (congrFun (h4 c) _).trans (rows_apply c wo t n)

end Cert.RingAttn

end
-- ==== Proof.lean ====
/- The proof of the certificate's claims. The run is proved once, over any reading of the floats, in Proof/Launch.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- Every device's output is its block of the reference's result. -/
theorem value : letI := Cert.KernelIdeal.Gen.facts; letI := Cert.ReferenceIdeal.Gen.facts; Cert.algebraic_KernelIdeal_ReferenceIdeal := fun m g m' g' _ h => by
  refine ⟨Cert.ReferenceIdeal.Value.res_out0 m' 0, ?_, ?_⟩
  · refine (θ_run (Cert.KernelIdeal.defs (F := Ideal)) _ _).mono (fun r hr c => ⟨?_, (hr.1 c).1⟩) (Cert.RingAttn.run_main (F := Ideal) m g)
    refine (hr.1 c).2.trans ((Cert.RingAttn.out_arr m c).trans ?_)
    exact Cert.RingAttn.outV_block (Cert.RingAttn.cut_of m (fun c => (h c).1) (fun c => (h c).2.1) (fun c => (h c).2.2.1)
      (fun c => (h c).2.2.2.1) (fun c => (h c).2.2.2.2)) c
  · exact (θ_run (Cert.ReferenceIdeal.defs (F := Ideal)) _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, fun m ρ _ => run_frame (F := Ideal) m ρ,
  fun m ρ _ => (θ_run (Cert.ReferenceIdeal.defs (F := Ideal)) _ _).mono (fun r h => ⟨fun c => (h c).2, sem_eq_zero_of_no_sems (by decide) r.2⟩)
    (Cert.ReferenceIdeal.Value.run (F := Ideal) m ρ),
  trivial, value⟩

end Cert.Proof

end
